-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4)
      ∧ r.2.mem ((c.tc : Thread Cert.Kernel10.nD Cert.Kernel10.τ).loc Cert.Kernel10.main_arg5) = m ((c.tc : Thread Cert.Kernel10.nD Cert.Kernel10.τ).loc Cert.Kernel10.main_arg5)
      ∧ r.2.mem ((c.tc : Thread Cert.Kernel10.nD Cert.Kernel10.τ).loc Cert.Kernel10.main_arg6) = m ((c.tc : Thread Cert.Kernel10.nD Cert.Kernel10.τ).loc Cert.Kernel10.main_arg6))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
      ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
      ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5)
      ∧ r.2.mem ((c.tc : Thread Cert.Reference10Ideal.nD Cert.Reference10Ideal.τ).loc Cert.Reference10Ideal.main_arg6) = m ((c.tc : Thread Cert.Reference10Ideal.nD Cert.Reference10Ideal.τ).loc Cert.Reference10Ideal.main_arg6))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v3) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v2) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v4) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v1) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v1) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)) →
    ∃ (v0 : (c : Dev Cert.Kernel6Ideal.nD) → Buf (Elt Ideal) ((c.tc : Thread Cert.Kernel6Ideal.nD Cert.Kernel6Ideal.τ).loc Cert.Kernel6Ideal.main_v8)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v8) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v13) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)) →
    ∃ (v0 : (c : Dev Cert.Kernel7Ideal.nD) → Buf (Elt Ideal) ((c.tc : Thread Cert.Kernel7Ideal.nD Cert.Kernel7Ideal.τ).loc Cert.Kernel7Ideal.main_v1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v1) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v33) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)) →
    ∃ (v0 : (c : Dev Cert.Kernel8Ideal.nD) → Buf (Elt Ideal) ((c.tc : Thread Cert.Kernel8Ideal.nD Cert.Kernel8Ideal.τ).loc Cert.Kernel8Ideal.main_v1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v1) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v37) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)) →
    ∃ (v0 : (c : Dev Cert.Kernel9Ideal.nD) → Buf (Elt Ideal) ((c.tc : Thread Cert.Kernel9Ideal.nD Cert.Kernel9Ideal.τ).loc Cert.Kernel9Ideal.main_v6)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v6) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v9) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)
      ∧ m' ((c.tc : Thread Cert.Reference10Ideal.nD Cert.Reference10Ideal.τ).loc Cert.Reference10Ideal.main_arg5) = m ((c.tc : Thread Cert.Kernel10Ideal.nD Cert.Kernel10Ideal.τ).loc Cert.Kernel10Ideal.main_arg5)
      ∧ m' ((c.tc : Thread Cert.Reference10Ideal.nD Cert.Reference10Ideal.τ).loc Cert.Reference10Ideal.main_arg6) = m ((c.tc : Thread Cert.Kernel10Ideal.nD Cert.Kernel10Ideal.τ).loc Cert.Kernel10Ideal.main_arg6)) →
    ∃ (v0 : (c : Dev Cert.Kernel10Ideal.nD) → Buf (Elt Ideal) ((c.tc : Thread Cert.Kernel10Ideal.nD Cert.Kernel10Ideal.τ).loc Cert.Kernel10Ideal.main_v3_0)) (v1 : (c : Dev Cert.Kernel10Ideal.nD) → Buf (Elt Ideal) ((c.tc : Thread Cert.Kernel10Ideal.nD Cert.Kernel10Ideal.τ).loc Cert.Kernel10Ideal.main_v3_1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v3_0) = v0 c
          ∧ r.2.mem ((c.tc : Thread Cert.Kernel10Ideal.nD Cert.Kernel10Ideal.τ).loc Cert.Kernel10Ideal.main_v3_1) = v1 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
          ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
          ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v97) = v0 c
          ∧ r.2.mem ((c.tc : Thread Cert.Reference10Ideal.nD Cert.Reference10Ideal.τ).loc Cert.Reference10Ideal.main_v99) = v1 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4)
          ∧ r.2.mem ((c.tc : Thread Cert.Reference10Ideal.nD Cert.Reference10Ideal.τ).loc Cert.Reference10Ideal.main_arg5) = m' ((c.tc : Thread Cert.Reference10Ideal.nD Cert.Reference10Ideal.τ).loc Cert.Reference10Ideal.main_arg5)
          ∧ r.2.mem ((c.tc : Thread Cert.Reference10Ideal.nD Cert.Reference10Ideal.τ).loc Cert.Reference10Ideal.main_arg6) = m' ((c.tc : Thread Cert.Reference10Ideal.nD Cert.Reference10Ideal.τ).loc Cert.Reference10Ideal.main_arg6))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)) →
    ∃ (v0 : (c : Dev Cert.Kernel11Ideal.nD) → Buf (Elt Ideal) ((c.tc : Thread Cert.Kernel11Ideal.nD Cert.Kernel11Ideal.τ).loc Cert.Kernel11Ideal.main_v5_0)) (v1 : (c : Dev Cert.Kernel11Ideal.nD) → Buf (Elt Ideal) ((c.tc : Thread Cert.Kernel11Ideal.nD Cert.Kernel11Ideal.τ).loc Cert.Kernel11Ideal.main_v5_1)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v5_0) = v0 c
          ∧ r.2.mem ((c.tc : Thread Cert.Kernel11Ideal.nD Cert.Kernel11Ideal.τ).loc Cert.Kernel11Ideal.main_v5_1) = v1 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v28) = v0 c
          ∧ r.2.mem ((c.tc : Thread Cert.Reference11Ideal.nD Cert.Reference11Ideal.τ).loc Cert.Reference11Ideal.main_v31) = v1 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
-- ==== Kernel.lean ====
abbrev S6144x4096 : Shape := ⟨2, ![6144, 4096]⟩
abbrev S1x4096x20544 : Shape := ⟨3, ![1, 4096, 20544]⟩
abbrev S1x2x4096 : Shape := ⟨3, ![1, 2, 4096]⟩
abbrev S1x20544x4096 : Shape := ⟨3, ![1, 20544, 4096]⟩
abbrev S20544x4096 : Shape := ⟨2, ![20544, 4096]⟩
abbrev S1x8192 : Shape := ⟨2, ![1, 8192]⟩
abbrev S6144x8192 : Shape := ⟨2, ![6144, 8192]⟩
abbrev S512x4096 : Shape := ⟨2, ![512, 4096]⟩
abbrev S1x512 : Shape := ⟨2, ![1, 512]⟩
abbrev S1024x512 : Shape := ⟨2, ![1024, 512]⟩
abbrev S4096x512 : Shape := ⟨2, ![4096, 512]⟩
abbrev S3x1024x4096 : Shape := ⟨3, ![3, 1024, 4096]⟩
abbrev S3 : Shape := ⟨1, ![3]⟩
abbrev S1 : Shape := ⟨1, ![1]⟩
abbrev S_ : Shape := ⟨0, ![]⟩
abbrev S1x1024x4096 : Shape := ⟨3, ![1, 1024, 4096]⟩
abbrev S1024x4096 : Shape := ⟨2, ![1024, 4096]⟩
abbrev S512x512 : Shape := ⟨2, ![512, 512]⟩
abbrev S1x1024x512 : Shape := ⟨3, ![1, 1024, 512]⟩

abbrev nBuf : Space → Nat
  | .hbm => 8
  | .vmem => 8
  | .smem => 0
  | _ => 0

abbrev bufTy : (tb : Table) → Fin (tcTables nBuf tb) → BufTy
  | .hbm, ⟨0, _⟩ => ⟨S6144x4096, .f32⟩
  | .hbm, ⟨1, _⟩ => ⟨S1x4096x20544, .f32⟩
  | .hbm, ⟨2, _⟩ => ⟨S1x2x4096, .f32⟩
  | .hbm, ⟨3, _⟩ => ⟨S1x20544x4096, .f32⟩
  | .hbm, ⟨4, _⟩ => ⟨S20544x4096, .f32⟩
  | .hbm, ⟨5, _⟩ => ⟨S6144x4096, .bf16⟩
  | .hbm, ⟨6, _⟩ => ⟨S1x8192, .f32⟩
  | .hbm, ⟨7, _⟩ => ⟨S6144x8192, .bf16⟩
  | .local _ .vmem, ⟨0, _⟩ => ⟨S512x4096, .f32⟩
  | .local _ .vmem, ⟨1, _⟩ => ⟨S512x4096, .f32⟩
  | .local _ .vmem, ⟨2, _⟩ => ⟨S1x512, .f32⟩
  | .local _ .vmem, ⟨3, _⟩ => ⟨S1x512, .f32⟩
  | .local _ .vmem, ⟨4, _⟩ => ⟨S1024x512, .bf16⟩
  | .local _ .vmem, ⟨5, _⟩ => ⟨S1024x512, .bf16⟩
  | .local _ .vmem, ⟨6, _⟩ => ⟨S4096x512, .bf16⟩
  | .local _ .vmem, ⟨7, _⟩ => ⟨S3x1024x4096, .bf16⟩
  | _, _ => ⟨S6144x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 6], ![false, false]⟩

def k0_mult1 (i : grid0.Coords) : BitVec 32 :=
  let c12352_i32 : BitVec 32 := 12352#32
  let arg0 : BitVec 32 := BitVec.ofNat 32 (i 0).val
  let c512_i32 : BitVec 32 := 512#32
  let v0 : BitVec 32 := Scalar.muli arg0 c512_i32
  let v1 : BitVec 32 := Scalar.addi c12352_i32 v0
  v1
def k0_cond1 (i : grid0.Coords) : BitVec 1 :=
  let arg0 : BitVec 32 := BitVec.ofNat 32 (i 0).val
  let c6_i32 : BitVec 32 := 6#32
  let v0 : BitVec 32 := Scalar.muli arg0 c6_i32
  let arg1 : BitVec 32 := BitVec.ofNat 32 (i 1).val
  let v1 : BitVec 32 := Scalar.addi v0 arg1
  let c0_i32 : BitVec 32 := 0#32
  let v2 : BitVec 1 := Scalar.cmpi .eq v1 c0_i32
  let v3 : BitVec 32 := Scalar.extui v2
  let c0_i32_0 : BitVec 32 := 0#32
  let v4 : BitVec 1 := Scalar.cmpi .ne v3 c0_i32_0
  v4

def k0_mult2 : BitVec 32 :=
  let c0_i32_19 : BitVec 32 := 0#32
  c0_i32_19
def k0_mult3 : BitVec 32 :=
  let c1024_i32_25 : BitVec 32 := 1024#32
  c1024_i32_25
def k0_cond2 (i : grid0.Coords) : BitVec 1 :=
  let arg0 : BitVec 32 := BitVec.ofNat 32 (i 0).val
  let c6_i32 : BitVec 32 := 6#32
  let v0 : BitVec 32 := Scalar.muli arg0 c6_i32
  let arg1 : BitVec 32 := BitVec.ofNat 32 (i 1).val
  let v1 : BitVec 32 := Scalar.addi v0 arg1
  let c2_i32 : BitVec 32 := 2#32
  let v5 : BitVec 32 := Scalar.addi v1 c2_i32
  let c96_i32 : BitVec 32 := 96#32
  let v6 : BitVec 1 := Scalar.cmpi .slt v5 c96_i32
  let v7 : BitVec 32 := Scalar.extui v6
  let c0_i32_1 : BitVec 32 := 0#32
  let v8 : BitVec 1 := Scalar.cmpi .ne v7 c0_i32_1
  v8

def k0_mult4 (i : grid0.Coords) : BitVec 32 :=
  let arg0 : BitVec 32 := BitVec.ofNat 32 (i 0).val
  let c6_i32 : BitVec 32 := 6#32
  let v0 : BitVec 32 := Scalar.muli arg0 c6_i32
  let arg1 : BitVec 32 := BitVec.ofNat 32 (i 1).val
  let v1 : BitVec 32 := Scalar.addi v0 arg1
  let c2_i32_19 : BitVec 32 := 2#32
  let v42 : BitVec 32 := Scalar.addi v1 c2_i32_19
  let c6_i32_27 : BitVec 32 := 6#32
  let c0_i32_28 : BitVec 32 := 0#32
  let v54 : BitVec 1 := Scalar.cmpi .eq c6_i32_27 c0_i32_28
  let c1_i32_29 : BitVec 32 := 1#32
  let v55 : BitVec 32 := Scalar.select v54 c1_i32_29 c6_i32_27
  let v56 : BitVec 32 := Scalar.remsi v42 v55
  let c0_i32_31 : BitVec 32 := 0#32
  let v58 : BitVec 1 := Scalar.cmpi .slt v56 c0_i32_31
  let c0_i32_32 : BitVec 32 := 0#32
  let v59 : BitVec 1 := Scalar.cmpi .slt v55 c0_i32_32
  let v60 : BitVec 1 := Scalar.xori v58 v59
  let c0_i32_30 : BitVec 32 := 0#32
  let v57 : BitVec 1 := Scalar.cmpi .ne v56 c0_i32_30
  let v61 : BitVec 1 := Scalar.andi v60 v57
  let v62 : BitVec 32 := Scalar.addi v56 v55
  let v63 : BitVec 32 := Scalar.select v61 v62 v56
  let c1024_i32_33 : BitVec 32 := 1024#32
  let v64 : BitVec 32 := Scalar.muli v63 c1024_i32_33
  v64
def k0_off1 (i : grid0.Coords) : Fin 1 → Nat :=
  let arg0 : BitVec 32 := BitVec.ofNat 32 (i 0).val
  let c6_i32 : BitVec 32 := 6#32
  let v0 : BitVec 32 := Scalar.muli arg0 c6_i32
  let arg1 : BitVec 32 := BitVec.ofNat 32 (i 1).val
  let v1 : BitVec 32 := Scalar.addi v0 arg1
  let c2_i32_20 : BitVec 32 := 2#32
  let v43 : BitVec 32 := Scalar.addi v1 c2_i32_20
  let c3_i32_21 : BitVec 32 := 3#32
  let c0_i32_22 : BitVec 32 := 0#32
  let v44 : BitVec 1 := Scalar.cmpi .eq c3_i32_21 c0_i32_22
  let c1_i32_23 : BitVec 32 := 1#32
  let v45 : BitVec 32 := Scalar.select v44 c1_i32_23 c3_i32_21
  let v46 : BitVec 32 := Scalar.remsi v43 v45
  let c0_i32_25 : BitVec 32 := 0#32
  let v48 : BitVec 1 := Scalar.cmpi .slt v46 c0_i32_25
  let c0_i32_26 : BitVec 32 := 0#32
  let v49 : BitVec 1 := Scalar.cmpi .slt v45 c0_i32_26
  let v50 : BitVec 1 := Scalar.xori v48 v49
  let c0_i32_24 : BitVec 32 := 0#32
  let v47 : BitVec 1 := Scalar.cmpi .ne v46 c0_i32_24
  let v51 : BitVec 1 := Scalar.andi v50 v47
  let v52 : BitVec 32 := Scalar.addi v46 v45
  let v53 : BitVec 32 := Scalar.select v51 v52 v46
  ![v53.toNat]
def k0_off2 (i : grid0.Coords) : Fin 3 → Nat :=
  let arg0 : BitVec 32 := BitVec.ofNat 32 (i 0).val
  let c6_i32 : BitVec 32 := 6#32
  let v0 : BitVec 32 := Scalar.muli arg0 c6_i32
  let arg1 : BitVec 32 := BitVec.ofNat 32 (i 1).val
  let v1 : BitVec 32 := Scalar.addi v0 arg1
  let c2_i32_20 : BitVec 32 := 2#32
  let v43 : BitVec 32 := Scalar.addi v1 c2_i32_20
  let c3_i32_21 : BitVec 32 := 3#32
  let c0_i32_22 : BitVec 32 := 0#32
  let v44 : BitVec 1 := Scalar.cmpi .eq c3_i32_21 c0_i32_22
  let c1_i32_23 : BitVec 32 := 1#32
  let v45 : BitVec 32 := Scalar.select v44 c1_i32_23 c3_i32_21
  let v46 : BitVec 32 := Scalar.remsi v43 v45
  let c0_i32_25 : BitVec 32 := 0#32
  let v48 : BitVec 1 := Scalar.cmpi .slt v46 c0_i32_25
  let c0_i32_26 : BitVec 32 := 0#32
  let v49 : BitVec 1 := Scalar.cmpi .slt v45 c0_i32_26
  let v50 : BitVec 1 := Scalar.xori v48 v49
  let c0_i32_24 : BitVec 32 := 0#32
  let v47 : BitVec 1 := Scalar.cmpi .ne v46 c0_i32_24
  let v51 : BitVec 1 := Scalar.andi v50 v47
  let v52 : BitVec 32 := Scalar.addi v46 v45
  let v53 : BitVec 32 := Scalar.select v51 v52 v46
  let c0_i32_34 : BitVec 32 := 0#32
  let c0_i32_35 : BitVec 32 := 0#32
  ![v53.toNat, 0, 0]
def k0_off3 (i : grid0.Coords) : Fin 2 → Nat :=
  let arg0 : BitVec 32 := BitVec.ofNat 32 (i 0).val
  let c6_i32 : BitVec 32 := 6#32
  let v0 : BitVec 32 := Scalar.muli arg0 c6_i32
  let arg1 : BitVec 32 := BitVec.ofNat 32 (i 1).val
  let v1 : BitVec 32 := Scalar.addi v0 arg1
  let c2_i32_19 : BitVec 32 := 2#32
  let v42 : BitVec 32 := Scalar.addi v1 c2_i32_19
  let c6_i32_27 : BitVec 32 := 6#32
  let c0_i32_28 : BitVec 32 := 0#32
  let v54 : BitVec 1 := Scalar.cmpi .eq c6_i32_27 c0_i32_28
  let c1_i32_29 : BitVec 32 := 1#32
  let v55 : BitVec 32 := Scalar.select v54 c1_i32_29 c6_i32_27
  let v56 : BitVec 32 := Scalar.remsi v42 v55
  let c0_i32_31 : BitVec 32 := 0#32
  let v58 : BitVec 1 := Scalar.cmpi .slt v56 c0_i32_31
  let c0_i32_32 : BitVec 32 := 0#32
  let v59 : BitVec 1 := Scalar.cmpi .slt v55 c0_i32_32
  let v60 : BitVec 1 := Scalar.xori v58 v59
  let c0_i32_30 : BitVec 32 := 0#32
  let v57 : BitVec 1 := Scalar.cmpi .ne v56 c0_i32_30
  let v61 : BitVec 1 := Scalar.andi v60 v57
  let v62 : BitVec 32 := Scalar.addi v56 v55
  let v63 : BitVec 32 := Scalar.select v61 v62 v56
  let c1024_i32_33 : BitVec 32 := 1024#32
  let v64 : BitVec 32 := Scalar.muli v63 c1024_i32_33
  let v65 : BitVec 32 := v64
  let c0_i32_36 : BitVec 32 := 0#32
  ![v65.toNat, 0]
def k0_mult5 (i : grid0.Coords) : BitVec 32 :=
  let arg0 : BitVec 32 := BitVec.ofNat 32 (i 0).val
  let c6_i32 : BitVec 32 := 6#32
  let v0 : BitVec 32 := Scalar.muli arg0 c6_i32
  let arg1 : BitVec 32 := BitVec.ofNat 32 (i 1).val
  let v1 : BitVec 32 := Scalar.addi v0 arg1
  let c6_i32_6 : BitVec 32 := 6#32
  let c0_i32_7 : BitVec 32 := 0#32
  let v19 : BitVec 1 := Scalar.cmpi .eq c6_i32_6 c0_i32_7
  let c1_i32_8 : BitVec 32 := 1#32
  let v20 : BitVec 32 := Scalar.select v19 c1_i32_8 c6_i32_6
  let v21 : BitVec 32 := Scalar.remsi v1 v20
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let c0_i32_9 : BitVec 32 := 0#32
  let v22 : BitVec 1 := Scalar.cmpi .ne v21 c0_i32_9
  let v26 : BitVec 1 := Scalar.andi v25 v22
  let v27 : BitVec 32 := Scalar.addi v21 v20
  let v28 : BitVec 32 := Scalar.select v26 v27 v21
  let c1024_i32 : BitVec 32 := 1024#32
  let v29 : BitVec 32 := Scalar.muli v28 c1024_i32
  v29
def k0_off4 (i : grid0.Coords) : Fin 1 → Nat :=
  let arg0 : BitVec 32 := BitVec.ofNat 32 (i 0).val
  let c6_i32 : BitVec 32 := 6#32
  let v0 : BitVec 32 := Scalar.muli arg0 c6_i32
  let arg1 : BitVec 32 := BitVec.ofNat 32 (i 1).val
  let v1 : BitVec 32 := Scalar.addi v0 arg1
  let c3_i32 : BitVec 32 := 3#32
  let c0_i32_2 : BitVec 32 := 0#32
  let v9 : BitVec 1 := Scalar.cmpi .eq c3_i32 c0_i32_2
  let c1_i32 : BitVec 32 := 1#32
  let v10 : BitVec 32 := Scalar.select v9 c1_i32 c3_i32
  let v11 : BitVec 32 := Scalar.remsi v1 v10
  let c0_i32_4 : BitVec 32 := 0#32
  let v13 : BitVec 1 := Scalar.cmpi .slt v11 c0_i32_4
  let c0_i32_5 : BitVec 32 := 0#32
  let v14 : BitVec 1 := Scalar.cmpi .slt v10 c0_i32_5
  let v15 : BitVec 1 := Scalar.xori v13 v14
  let c0_i32_3 : BitVec 32 := 0#32
  let v12 : BitVec 1 := Scalar.cmpi .ne v11 c0_i32_3
  let v16 : BitVec 1 := Scalar.andi v15 v12
  let v17 : BitVec 32 := Scalar.addi v11 v10
  let v18 : BitVec 32 := Scalar.select v16 v17 v11
  ![v18.toNat]
def k0_off5 (i : grid0.Coords) : Fin 3 → Nat :=
  let arg0 : BitVec 32 := BitVec.ofNat 32 (i 0).val
  let c6_i32 : BitVec 32 := 6#32
  let v0 : BitVec 32 := Scalar.muli arg0 c6_i32
  let arg1 : BitVec 32 := BitVec.ofNat 32 (i 1).val
  let v1 : BitVec 32 := Scalar.addi v0 arg1
  let c3_i32 : BitVec 32 := 3#32
  let c0_i32_2 : BitVec 32 := 0#32
  let v9 : BitVec 1 := Scalar.cmpi .eq c3_i32 c0_i32_2
  let c1_i32 : BitVec 32 := 1#32
  let v10 : BitVec 32 := Scalar.select v9 c1_i32 c3_i32
  let v11 : BitVec 32 := Scalar.remsi v1 v10
  let c0_i32_4 : BitVec 32 := 0#32
  let v13 : BitVec 1 := Scalar.cmpi .slt v11 c0_i32_4
  let c0_i32_5 : BitVec 32 := 0#32
  let v14 : BitVec 1 := Scalar.cmpi .slt v10 c0_i32_5
  let v15 : BitVec 1 := Scalar.xori v13 v14
  let c0_i32_3 : BitVec 32 := 0#32
  let v12 : BitVec 1 := Scalar.cmpi .ne v11 c0_i32_3
  let v16 : BitVec 1 := Scalar.andi v15 v12
  let v17 : BitVec 32 := Scalar.addi v11 v10
  let v18 : BitVec 32 := Scalar.select v16 v17 v11
  let c0_i32_12 : BitVec 32 := 0#32
  let c0_i32_13 : BitVec 32 := 0#32
  ![v18.toNat, 0, 0]
def k0_off6 (i : grid0.Coords) : Fin 2 → Nat :=
  let arg0 : BitVec 32 := BitVec.ofNat 32 (i 0).val
  let c6_i32 : BitVec 32 := 6#32
  let v0 : BitVec 32 := Scalar.muli arg0 c6_i32
  let arg1 : BitVec 32 := BitVec.ofNat 32 (i 1).val
  let v1 : BitVec 32 := Scalar.addi v0 arg1
  let c6_i32_6 : BitVec 32 := 6#32
  let c0_i32_7 : BitVec 32 := 0#32
  let v19 : BitVec 1 := Scalar.cmpi .eq c6_i32_6 c0_i32_7
  let c1_i32_8 : BitVec 32 := 1#32
  let v20 : BitVec 32 := Scalar.select v19 c1_i32_8 c6_i32_6
  let v21 : BitVec 32 := Scalar.remsi v1 v20
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let c0_i32_9 : BitVec 32 := 0#32
  let v22 : BitVec 1 := Scalar.cmpi .ne v21 c0_i32_9
  let v26 : BitVec 1 := Scalar.andi v25 v22
  let v27 : BitVec 32 := Scalar.addi v21 v20
  let v28 : BitVec 32 := Scalar.select v26 v27 v21
  let c1024_i32 : BitVec 32 := 1024#32
  let v29 : BitVec 32 := Scalar.muli v28 c1024_i32
  let v30 : BitVec 32 := v29
  let c0_i32_14 : BitVec 32 := 0#32
  ![v30.toNat, 0]
def k0_cond3 (i : grid0.Coords) : BitVec 1 :=
  let arg1 : BitVec 32 := BitVec.ofNat 32 (i 1).val
  let c0_i32_15 : BitVec 32 := 0#32
  let v36 : BitVec 1 := Scalar.cmpi .eq arg1 c0_i32_15
  let v37 : BitVec 32 := Scalar.extui v36
  let c0_i32_16 : BitVec 32 := 0#32
  let v38 : BitVec 1 := Scalar.cmpi .ne v37 c0_i32_16
  v38

def k0_off7 (i : grid0.Coords) : Fin 3 → Nat :=
  let arg0 : BitVec 32 := BitVec.ofNat 32 (i 0).val
  let c6_i32 : BitVec 32 := 6#32
  let v0 : BitVec 32 := Scalar.muli arg0 c6_i32
  let arg1 : BitVec 32 := BitVec.ofNat 32 (i 1).val
  let v1 : BitVec 32 := Scalar.addi v0 arg1
  let c3_i32 : BitVec 32 := 3#32
  let c0_i32_2 : BitVec 32 := 0#32
  let v9 : BitVec 1 := Scalar.cmpi .eq c3_i32 c0_i32_2
  let c1_i32 : BitVec 32 := 1#32
  let v10 : BitVec 32 := Scalar.select v9 c1_i32 c3_i32
  let v11 : BitVec 32 := Scalar.remsi v1 v10
  let c0_i32_4 : BitVec 32 := 0#32
  let v13 : BitVec 1 := Scalar.cmpi .slt v11 c0_i32_4
  let c0_i32_5 : BitVec 32 := 0#32
  let v14 : BitVec 1 := Scalar.cmpi .slt v10 c0_i32_5
  let v15 : BitVec 1 := Scalar.xori v13 v14
  let c0_i32_3 : BitVec 32 := 0#32
  let v12 : BitVec 1 := Scalar.cmpi .ne v11 c0_i32_3
  let v16 : BitVec 1 := Scalar.andi v15 v12
  let v17 : BitVec 32 := Scalar.addi v11 v10
  let v18 : BitVec 32 := Scalar.select v16 v17 v11
  let v49 : Index := Scalar.indexCast v18
  let c0_22 : Index := 0#32
  let c0_23 : Index := 0#32
  ![v49.toNat, 0, 0]
def k0_off8 (i : grid0.Coords) : Fin 3 → Nat :=
  let arg0 : BitVec 32 := BitVec.ofNat 32 (i 0).val
  let c6_i32 : BitVec 32 := 6#32
  let v0 : BitVec 32 := Scalar.muli arg0 c6_i32
  let arg1 : BitVec 32 := BitVec.ofNat 32 (i 1).val
  let v1 : BitVec 32 := Scalar.addi v0 arg1
  let c3_i32 : BitVec 32 := 3#32
  let c0_i32_2 : BitVec 32 := 0#32
  let v9 : BitVec 1 := Scalar.cmpi .eq c3_i32 c0_i32_2
  let c1_i32 : BitVec 32 := 1#32
  let v10 : BitVec 32 := Scalar.select v9 c1_i32 c3_i32
  let v11 : BitVec 32 := Scalar.remsi v1 v10
  let c0_i32_4 : BitVec 32 := 0#32
  let v13 : BitVec 1 := Scalar.cmpi .slt v11 c0_i32_4
  let c0_i32_5 : BitVec 32 := 0#32
  let v14 : BitVec 1 := Scalar.cmpi .slt v10 c0_i32_5
  let v15 : BitVec 1 := Scalar.xori v13 v14
  let c0_i32_3 : BitVec 32 := 0#32
  let v12 : BitVec 1 := Scalar.cmpi .ne v11 c0_i32_3
  let v16 : BitVec 1 := Scalar.andi v15 v12
  let v17 : BitVec 32 := Scalar.addi v11 v10
  let v18 : BitVec 32 := Scalar.select v16 v17 v11
  let v60 : Index := Scalar.indexCast v18
  let c0_27 : Index := 0#32
  let c512_28 : Index := 512#32
  ![v60.toNat, 0, 512]
def k0_off9 (i : grid0.Coords) : Fin 3 → Nat :=
  let arg0 : BitVec 32 := BitVec.ofNat 32 (i 0).val
  let c6_i32 : BitVec 32 := 6#32
  let v0 : BitVec 32 := Scalar.muli arg0 c6_i32
  let arg1 : BitVec 32 := BitVec.ofNat 32 (i 1).val
  let v1 : BitVec 32 := Scalar.addi v0 arg1
  let c3_i32 : BitVec 32 := 3#32
  let c0_i32_2 : BitVec 32 := 0#32
  let v9 : BitVec 1 := Scalar.cmpi .eq c3_i32 c0_i32_2
  let c1_i32 : BitVec 32 := 1#32
  let v10 : BitVec 32 := Scalar.select v9 c1_i32 c3_i32
  let v11 : BitVec 32 := Scalar.remsi v1 v10
  let c0_i32_4 : BitVec 32 := 0#32
  let v13 : BitVec 1 := Scalar.cmpi .slt v11 c0_i32_4
  let c0_i32_5 : BitVec 32 := 0#32
  let v14 : BitVec 1 := Scalar.cmpi .slt v10 c0_i32_5
  let v15 : BitVec 1 := Scalar.xori v13 v14
  let c0_i32_3 : BitVec 32 := 0#32
  let v12 : BitVec 1 := Scalar.cmpi .ne v11 c0_i32_3
  let v16 : BitVec 1 := Scalar.andi v15 v12
  let v17 : BitVec 32 := Scalar.addi v11 v10
  let v18 : BitVec 32 := Scalar.select v16 v17 v11
  let v72 : Index := Scalar.indexCast v18
  let c0_33 : Index := 0#32
  let c1024_34 : Index := 1024#32
  ![v72.toNat, 0, 1024]
def k0_off10 (i : grid0.Coords) : Fin 3 → Nat :=
  let arg0 : BitVec 32 := BitVec.ofNat 32 (i 0).val
  let c6_i32 : BitVec 32 := 6#32
  let v0 : BitVec 32 := Scalar.muli arg0 c6_i32
  let arg1 : BitVec 32 := BitVec.ofNat 32 (i 1).val
  let v1 : BitVec 32 := Scalar.addi v0 arg1
  let c3_i32 : BitVec 32 := 3#32
  let c0_i32_2 : BitVec 32 := 0#32
  let v9 : BitVec 1 := Scalar.cmpi .eq c3_i32 c0_i32_2
  let c1_i32 : BitVec 32 := 1#32
  let v10 : BitVec 32 := Scalar.select v9 c1_i32 c3_i32
  let v11 : BitVec 32 := Scalar.remsi v1 v10
  let c0_i32_4 : BitVec 32 := 0#32
  let v13 : BitVec 1 := Scalar.cmpi .slt v11 c0_i32_4
  let c0_i32_5 : BitVec 32 := 0#32
  let v14 : BitVec 1 := Scalar.cmpi .slt v10 c0_i32_5
  let v15 : BitVec 1 := Scalar.xori v13 v14
  let c0_i32_3 : BitVec 32 := 0#32
  let v12 : BitVec 1 := Scalar.cmpi .ne v11 c0_i32_3
  let v16 : BitVec 1 := Scalar.andi v15 v12
  let v17 : BitVec 32 := Scalar.addi v11 v10
  let v18 : BitVec 32 := Scalar.select v16 v17 v11
  let v84 : Index := Scalar.indexCast v18
  let c0_39 : Index := 0#32
  let c1536_40 : Index := 1536#32
  ![v84.toNat, 0, 1536]
def k0_off11 (i : grid0.Coords) : Fin 3 → Nat :=
  let arg0 : BitVec 32 := BitVec.ofNat 32 (i 0).val
  let c6_i32 : BitVec 32 := 6#32
  let v0 : BitVec 32 := Scalar.muli arg0 c6_i32
  let arg1 : BitVec 32 := BitVec.ofNat 32 (i 1).val
  let v1 : BitVec 32 := Scalar.addi v0 arg1
  let c3_i32 : BitVec 32 := 3#32
  let c0_i32_2 : BitVec 32 := 0#32
  let v9 : BitVec 1 := Scalar.cmpi .eq c3_i32 c0_i32_2
  let c1_i32 : BitVec 32 := 1#32
  let v10 : BitVec 32 := Scalar.select v9 c1_i32 c3_i32
  let v11 : BitVec 32 := Scalar.remsi v1 v10
  let c0_i32_4 : BitVec 32 := 0#32
  let v13 : BitVec 1 := Scalar.cmpi .slt v11 c0_i32_4
  let c0_i32_5 : BitVec 32 := 0#32
  let v14 : BitVec 1 := Scalar.cmpi .slt v10 c0_i32_5
  let v15 : BitVec 1 := Scalar.xori v13 v14
  let c0_i32_3 : BitVec 32 := 0#32
  let v12 : BitVec 1 := Scalar.cmpi .ne v11 c0_i32_3
  let v16 : BitVec 1 := Scalar.andi v15 v12
  let v17 : BitVec 32 := Scalar.addi v11 v10
  let v18 : BitVec 32 := Scalar.select v16 v17 v11
  let v96 : Index := Scalar.indexCast v18
  let c0_45 : Index := 0#32
  let c2048_46 : Index := 2048#32
  ![v96.toNat, 0, 2048]
def k0_off12 (i : grid0.Coords) : Fin 3 → Nat :=
  let arg0 : BitVec 32 := BitVec.ofNat 32 (i 0).val
  let c6_i32 : BitVec 32 := 6#32
  let v0 : BitVec 32 := Scalar.muli arg0 c6_i32
  let arg1 : BitVec 32 := BitVec.ofNat 32 (i 1).val
  let v1 : BitVec 32 := Scalar.addi v0 arg1
  let c3_i32 : BitVec 32 := 3#32
  let c0_i32_2 : BitVec 32 := 0#32
  let v9 : BitVec 1 := Scalar.cmpi .eq c3_i32 c0_i32_2
  let c1_i32 : BitVec 32 := 1#32
  let v10 : BitVec 32 := Scalar.select v9 c1_i32 c3_i32
  let v11 : BitVec 32 := Scalar.remsi v1 v10
  let c0_i32_4 : BitVec 32 := 0#32
  let v13 : BitVec 1 := Scalar.cmpi .slt v11 c0_i32_4
  let c0_i32_5 : BitVec 32 := 0#32
  let v14 : BitVec 1 := Scalar.cmpi .slt v10 c0_i32_5
  let v15 : BitVec 1 := Scalar.xori v13 v14
  let c0_i32_3 : BitVec 32 := 0#32
  let v12 : BitVec 1 := Scalar.cmpi .ne v11 c0_i32_3
  let v16 : BitVec 1 := Scalar.andi v15 v12
  let v17 : BitVec 32 := Scalar.addi v11 v10
  let v18 : BitVec 32 := Scalar.select v16 v17 v11
  let v108 : Index := Scalar.indexCast v18
  let c0_51 : Index := 0#32
  let c2560_52 : Index := 2560#32
  ![v108.toNat, 0, 2560]
def k0_off13 (i : grid0.Coords) : Fin 3 → Nat :=
  let arg0 : BitVec 32 := BitVec.ofNat 32 (i 0).val
  let c6_i32 : BitVec 32 := 6#32
  let v0 : BitVec 32 := Scalar.muli arg0 c6_i32
  let arg1 : BitVec 32 := BitVec.ofNat 32 (i 1).val
  let v1 : BitVec 32 := Scalar.addi v0 arg1
  let c3_i32 : BitVec 32 := 3#32
  let c0_i32_2 : BitVec 32 := 0#32
  let v9 : BitVec 1 := Scalar.cmpi .eq c3_i32 c0_i32_2
  let c1_i32 : BitVec 32 := 1#32
  let v10 : BitVec 32 := Scalar.select v9 c1_i32 c3_i32
  let v11 : BitVec 32 := Scalar.remsi v1 v10
  let c0_i32_4 : BitVec 32 := 0#32
  let v13 : BitVec 1 := Scalar.cmpi .slt v11 c0_i32_4
  let c0_i32_5 : BitVec 32 := 0#32
  let v14 : BitVec 1 := Scalar.cmpi .slt v10 c0_i32_5
  let v15 : BitVec 1 := Scalar.xori v13 v14
  let c0_i32_3 : BitVec 32 := 0#32
  let v12 : BitVec 1 := Scalar.cmpi .ne v11 c0_i32_3
  let v16 : BitVec 1 := Scalar.andi v15 v12
  let v17 : BitVec 32 := Scalar.addi v11 v10
  let v18 : BitVec 32 := Scalar.select v16 v17 v11
  let v120 : Index := Scalar.indexCast v18
  let c0_57 : Index := 0#32
  let c3072_58 : Index := 3072#32
  ![v120.toNat, 0, 3072]
def k0_off14 (i : grid0.Coords) : Fin 3 → Nat :=
  let arg0 : BitVec 32 := BitVec.ofNat 32 (i 0).val
  let c6_i32 : BitVec 32 := 6#32
  let v0 : BitVec 32 := Scalar.muli arg0 c6_i32
  let arg1 : BitVec 32 := BitVec.ofNat 32 (i 1).val
  let v1 : BitVec 32 := Scalar.addi v0 arg1
  let c3_i32 : BitVec 32 := 3#32
  let c0_i32_2 : BitVec 32 := 0#32
  let v9 : BitVec 1 := Scalar.cmpi .eq c3_i32 c0_i32_2
  let c1_i32 : BitVec 32 := 1#32
  let v10 : BitVec 32 := Scalar.select v9 c1_i32 c3_i32
  let v11 : BitVec 32 := Scalar.remsi v1 v10
  let c0_i32_4 : BitVec 32 := 0#32
  let v13 : BitVec 1 := Scalar.cmpi .slt v11 c0_i32_4
  let c0_i32_5 : BitVec 32 := 0#32
  let v14 : BitVec 1 := Scalar.cmpi .slt v10 c0_i32_5
  let v15 : BitVec 1 := Scalar.xori v13 v14
  let c0_i32_3 : BitVec 32 := 0#32
  let v12 : BitVec 1 := Scalar.cmpi .ne v11 c0_i32_3
  let v16 : BitVec 1 := Scalar.andi v15 v12
  let v17 : BitVec 32 := Scalar.addi v11 v10
  let v18 : BitVec 32 := Scalar.select v16 v17 v11
  let v132 : Index := Scalar.indexCast v18
  let c0_63 : Index := 0#32
  let c3584_64 : Index := 3584#32
  ![v132.toNat, 0, 3584]
def k0_cond4 (i : grid0.Coords) : BitVec 1 :=
  let arg1 : BitVec 32 := BitVec.ofNat 32 (i 1).val
  let c0_i32_17 : BitVec 32 := 0#32
  let v39 : BitVec 1 := Scalar.cmpi .sgt arg1 c0_i32_17
  let v40 : BitVec 32 := Scalar.extui v39
  let c0_i32_18 : BitVec 32 := 0#32
  let v41 : BitVec 1 := Scalar.cmpi .ne v40 c0_i32_18
  v41

def k0_off15 (i : grid0.Coords) : Fin 3 → Nat :=
  let arg0 : BitVec 32 := BitVec.ofNat 32 (i 0).val
  let c6_i32 : BitVec 32 := 6#32
  let v0 : BitVec 32 := Scalar.muli arg0 c6_i32
  let arg1 : BitVec 32 := BitVec.ofNat 32 (i 1).val
  let v1 : BitVec 32 := Scalar.addi v0 arg1
  let c3_i32 : BitVec 32 := 3#32
  let c0_i32_2 : BitVec 32 := 0#32
  let v9 : BitVec 1 := Scalar.cmpi .eq c3_i32 c0_i32_2
  let c1_i32 : BitVec 32 := 1#32
  let v10 : BitVec 32 := Scalar.select v9 c1_i32 c3_i32
  let v11 : BitVec 32 := Scalar.remsi v1 v10
  let c0_i32_4 : BitVec 32 := 0#32
  let v13 : BitVec 1 := Scalar.cmpi .slt v11 c0_i32_4
  let c0_i32_5 : BitVec 32 := 0#32
  let v14 : BitVec 1 := Scalar.cmpi .slt v10 c0_i32_5
  let v15 : BitVec 1 := Scalar.xori v13 v14
  let c0_i32_3 : BitVec 32 := 0#32
  let v12 : BitVec 1 := Scalar.cmpi .ne v11 c0_i32_3
  let v16 : BitVec 1 := Scalar.andi v15 v12
  let v17 : BitVec 32 := Scalar.addi v11 v10
  let v18 : BitVec 32 := Scalar.select v16 v17 v11
  let v42 : Index := Scalar.indexCast v18
  let c0 : Index := 0#32
  let c0_19 : Index := 0#32
  ![v42.toNat, 0, 0]
def cc0_transform_1 (i : grid0.Coords) : Fin 2 → Nat :=
  let arg0 : BitVec 32 := BitVec.ofNat 32 (i 0).val
  let arg1 : BitVec 32 := BitVec.ofNat 32 (i 1).val
  let c512_i32 : BitVec 32 := 512#32
  let v0 : BitVec 32 := Scalar.muli arg0 c512_i32
  let c12352_i32 : BitVec 32 := 12352#32
  let v1 : BitVec 32 := Scalar.addi c12352_i32 v0
  let v2 : BitVec 32 := v1
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceIdeal.lean ====
abbrev S6144x4096 : Shape := ⟨2, ![6144, 4096]⟩
abbrev S1x4096x20544 : Shape := ⟨3, ![1, 4096, 20544]⟩
abbrev S1x2x4096 : Shape := ⟨3, ![1, 2, 4096]⟩
abbrev S4096x20544 : Shape := ⟨2, ![4096, 20544]⟩
abbrev S6144x20544 : Shape := ⟨2, ![6144, 20544]⟩
abbrev S6144x8192 : Shape := ⟨2, ![6144, 8192]⟩
abbrev S6144x2x4096 : Shape := ⟨3, ![6144, 2, 4096]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S6144x4096, .f32⟩
  | .hbm, ⟨1, _⟩ => ⟨S1x4096x20544, .f32⟩
  | .hbm, ⟨2, _⟩ => ⟨S1x2x4096, .f32⟩
  | .hbm, ⟨3, _⟩ => ⟨S4096x20544, .f32⟩
  | .hbm, ⟨4, _⟩ => ⟨S6144x20544, .f32⟩
  | .hbm, ⟨5, _⟩ => ⟨S6144x8192, .f32⟩
  | .hbm, ⟨6, _⟩ => ⟨S6144x2x4096, .f32⟩
  | .hbm, ⟨7, _⟩ => ⟨S6144x2x4096, .f32⟩
  | .hbm, ⟨8, _⟩ => ⟨S6144x2x4096, .f32⟩
  | .hbm, ⟨9, _⟩ => ⟨S6144x2x4096, .f32⟩
  | .hbm, ⟨10, _⟩ => ⟨S6144x2x4096, .f32⟩
  | .hbm, ⟨11, _⟩ => ⟨S_, .f32⟩
  | .hbm, ⟨12, _⟩ => ⟨S6144x2x4096, .f32⟩
  | .hbm, ⟨13, _⟩ => ⟨S6144x2x4096, .f32⟩
  | .hbm, ⟨14, _⟩ => ⟨S_, .f32⟩
  | .hbm, ⟨15, _⟩ => ⟨S6144x2x4096, .f32⟩
  | .hbm, ⟨16, _⟩ => ⟨S6144x2x4096, .f32⟩
  | .hbm, ⟨17, _⟩ => ⟨S6144x8192, .f32⟩
  | .hbm, ⟨18, _⟩ => ⟨S6144x8192, .bf16⟩
  | _, _ => ⟨S6144x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Kernel2.lean ====
abbrev S6144x4096 : Shape := ⟨2, ![6144, 4096]⟩
abbrev S1x4096x20544 : Shape := ⟨3, ![1, 4096, 20544]⟩
abbrev S1x20544x4096 : Shape := ⟨3, ![1, 20544, 4096]⟩
abbrev S20544x4096 : Shape := ⟨2, ![20544, 4096]⟩
abbrev S6144x12288 : Shape := ⟨2, ![6144, 12288]⟩
abbrev S512x4096 : Shape := ⟨2, ![512, 4096]⟩
abbrev S1024x512 : Shape := ⟨2, ![1024, 512]⟩
abbrev S4096x512 : Shape := ⟨2, ![4096, 512]⟩
abbrev S3x1024x4096 : Shape := ⟨3, ![3, 1024, 4096]⟩
abbrev S3 : Shape := ⟨1, ![3]⟩
abbrev S1 : Shape := ⟨1, ![1]⟩
abbrev S_ : Shape := ⟨0, ![]⟩
abbrev S1x1024x4096 : Shape := ⟨3, ![1, 1024, 4096]⟩
abbrev S1024x4096 : Shape := ⟨2, ![1024, 4096]⟩
abbrev S512x512 : Shape := ⟨2, ![512, 512]⟩
abbrev S1x1024x512 : Shape := ⟨3, ![1, 1024, 512]⟩

abbrev nBuf : Space → Nat
  | .hbm => 6
  | .vmem => 6
  | .smem => 0
  | _ => 0

abbrev bufTy : (tb : Table) → Fin (tcTables nBuf tb) → BufTy
  | .hbm, ⟨0, _⟩ => ⟨S6144x4096, .f32⟩
  | .hbm, ⟨1, _⟩ => ⟨S1x4096x20544, .f32⟩
  | .hbm, ⟨2, _⟩ => ⟨S1x20544x4096, .f32⟩
  | .hbm, ⟨3, _⟩ => ⟨S20544x4096, .f32⟩
  | .hbm, ⟨4, _⟩ => ⟨S6144x4096, .bf16⟩
  | .hbm, ⟨5, _⟩ => ⟨S6144x12288, .f32⟩
  | .local _ .vmem, ⟨0, _⟩ => ⟨S512x4096, .f32⟩
  | .local _ .vmem, ⟨1, _⟩ => ⟨S512x4096, .f32⟩
  | .local _ .vmem, ⟨2, _⟩ => ⟨S1024x512, .f32⟩
  | .local _ .vmem, ⟨3, _⟩ => ⟨S1024x512, .f32⟩
  | .local _ .vmem, ⟨4, _⟩ => ⟨S4096x512, .bf16⟩
  | .local _ .vmem, ⟨5, _⟩ => ⟨S3x1024x4096, .bf16⟩
  | _, _ => ⟨S6144x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_scratch1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![24, 6], ![false, false]⟩

def k0_mult1 (i : grid0.Coords) : BitVec 32 :=
  let c0_i32 : BitVec 32 := 0#32
  let arg0 : BitVec 32 := BitVec.ofNat 32 (i 0).val
  let c512_i32 : BitVec 32 := 512#32
  let v0 : BitVec 32 := Scalar.muli arg0 c512_i32
  let v1 : BitVec 32 := Scalar.addi c0_i32 v0
  v1
def k0_cond1 (i : grid0.Coords) : BitVec 1 :=
  let arg0 : BitVec 32 := BitVec.ofNat 32 (i 0).val
  let c6_i32 : BitVec 32 := 6#32
  let v0 : BitVec 32 := Scalar.muli arg0 c6_i32
  let arg1 : BitVec 32 := BitVec.ofNat 32 (i 1).val
  let v1 : BitVec 32 := Scalar.addi v0 arg1
  let c0_i32 : BitVec 32 := 0#32
  let v2 : BitVec 1 := Scalar.cmpi .eq v1 c0_i32
  let v3 : BitVec 32 := Scalar.extui v2
  let c0_i32_0 : BitVec 32 := 0#32
  let v4 : BitVec 1 := Scalar.cmpi .ne v3 c0_i32_0
  v4

def k0_mult2 : BitVec 32 :=
  let c0_i32_19 : BitVec 32 := 0#32
  c0_i32_19
def k0_mult3 : BitVec 32 :=
  let c1024_i32_25 : BitVec 32 := 1024#32
  c1024_i32_25
def k0_cond2 (i : grid0.Coords) : BitVec 1 :=
  let arg0 : BitVec 32 := BitVec.ofNat 32 (i 0).val
  let c6_i32 : BitVec 32 := 6#32
  let v0 : BitVec 32 := Scalar.muli arg0 c6_i32
  let arg1 : BitVec 32 := BitVec.ofNat 32 (i 1).val
  let v1 : BitVec 32 := Scalar.addi v0 arg1
  let c2_i32 : BitVec 32 := 2#32
  let v5 : BitVec 32 := Scalar.addi v1 c2_i32
  let c144_i32 : BitVec 32 := 144#32
  let v6 : BitVec 1 := Scalar.cmpi .slt v5 c144_i32
  let v7 : BitVec 32 := Scalar.extui v6
  let c0_i32_1 : BitVec 32 := 0#32
  let v8 : BitVec 1 := Scalar.cmpi .ne v7 c0_i32_1
  v8

def k0_mult4 (i : grid0.Coords) : BitVec 32 :=
  let arg0 : BitVec 32 := BitVec.ofNat 32 (i 0).val
  let c6_i32 : BitVec 32 := 6#32
  let v0 : BitVec 32 := Scalar.muli arg0 c6_i32
  let arg1 : BitVec 32 := BitVec.ofNat 32 (i 1).val
  let v1 : BitVec 32 := Scalar.addi v0 arg1
  let c2_i32_19 : BitVec 32 := 2#32
  let v42 : BitVec 32 := Scalar.addi v1 c2_i32_19
  let c6_i32_27 : BitVec 32 := 6#32
  let c0_i32_28 : BitVec 32 := 0#32
  let v54 : BitVec 1 := Scalar.cmpi .eq c6_i32_27 c0_i32_28
  let c1_i32_29 : BitVec 32 := 1#32
  let v55 : BitVec 32 := Scalar.select v54 c1_i32_29 c6_i32_27
  let v56 : BitVec 32 := Scalar.remsi v42 v55
  let c0_i32_31 : BitVec 32 := 0#32
  let v58 : BitVec 1 := Scalar.cmpi .slt v56 c0_i32_31
  let c0_i32_32 : BitVec 32 := 0#32
  let v59 : BitVec 1 := Scalar.cmpi .slt v55 c0_i32_32
  let v60 : BitVec 1 := Scalar.xori v58 v59
  let c0_i32_30 : BitVec 32 := 0#32
  let v57 : BitVec 1 := Scalar.cmpi .ne v56 c0_i32_30
  let v61 : BitVec 1 := Scalar.andi v60 v57
  let v62 : BitVec 32 := Scalar.addi v56 v55
  let v63 : BitVec 32 := Scalar.select v61 v62 v56
  let c1024_i32_33 : BitVec 32 := 1024#32
  let v64 : BitVec 32 := Scalar.muli v63 c1024_i32_33
  v64
def k0_off1 (i : grid0.Coords) : Fin 1 → Nat :=
  let arg0 : BitVec 32 := BitVec.ofNat 32 (i 0).val
  let c6_i32 : BitVec 32 := 6#32
  let v0 : BitVec 32 := Scalar.muli arg0 c6_i32
  let arg1 : BitVec 32 := BitVec.ofNat 32 (i 1).val
  let v1 : BitVec 32 := Scalar.addi v0 arg1
  let c2_i32_20 : BitVec 32 := 2#32
  let v43 : BitVec 32 := Scalar.addi v1 c2_i32_20
  let c3_i32_21 : BitVec 32 := 3#32
  let c0_i32_22 : BitVec 32 := 0#32
  let v44 : BitVec 1 := Scalar.cmpi .eq c3_i32_21 c0_i32_22
  let c1_i32_23 : BitVec 32 := 1#32
  let v45 : BitVec 32 := Scalar.select v44 c1_i32_23 c3_i32_21
  let v46 : BitVec 32 := Scalar.remsi v43 v45
  let c0_i32_25 : BitVec 32 := 0#32
  let v48 : BitVec 1 := Scalar.cmpi .slt v46 c0_i32_25
  let c0_i32_26 : BitVec 32 := 0#32
  let v49 : BitVec 1 := Scalar.cmpi .slt v45 c0_i32_26
  let v50 : BitVec 1 := Scalar.xori v48 v49
  let c0_i32_24 : BitVec 32 := 0#32
  let v47 : BitVec 1 := Scalar.cmpi .ne v46 c0_i32_24
  let v51 : BitVec 1 := Scalar.andi v50 v47
  let v52 : BitVec 32 := Scalar.addi v46 v45
  let v53 : BitVec 32 := Scalar.select v51 v52 v46
  ![v53.toNat]
def k0_off2 (i : grid0.Coords) : Fin 3 → Nat :=
  let arg0 : BitVec 32 := BitVec.ofNat 32 (i 0).val
  let c6_i32 : BitVec 32 := 6#32
  let v0 : BitVec 32 := Scalar.muli arg0 c6_i32
  let arg1 : BitVec 32 := BitVec.ofNat 32 (i 1).val
  let v1 : BitVec 32 := Scalar.addi v0 arg1
  let c2_i32_20 : BitVec 32 := 2#32
  let v43 : BitVec 32 := Scalar.addi v1 c2_i32_20
  let c3_i32_21 : BitVec 32 := 3#32
  let c0_i32_22 : BitVec 32 := 0#32
  let v44 : BitVec 1 := Scalar.cmpi .eq c3_i32_21 c0_i32_22
  let c1_i32_23 : BitVec 32 := 1#32
  let v45 : BitVec 32 := Scalar.select v44 c1_i32_23 c3_i32_21
  let v46 : BitVec 32 := Scalar.remsi v43 v45
  let c0_i32_25 : BitVec 32 := 0#32
  let v48 : BitVec 1 := Scalar.cmpi .slt v46 c0_i32_25
  let c0_i32_26 : BitVec 32 := 0#32
  let v49 : BitVec 1 := Scalar.cmpi .slt v45 c0_i32_26
  let v50 : BitVec 1 := Scalar.xori v48 v49
  let c0_i32_24 : BitVec 32 := 0#32
  let v47 : BitVec 1 := Scalar.cmpi .ne v46 c0_i32_24
  let v51 : BitVec 1 := Scalar.andi v50 v47
  let v52 : BitVec 32 := Scalar.addi v46 v45
  let v53 : BitVec 32 := Scalar.select v51 v52 v46
  let c0_i32_34 : BitVec 32 := 0#32
  let c0_i32_35 : BitVec 32 := 0#32
  ![v53.toNat, 0, 0]
def k0_off3 (i : grid0.Coords) : Fin 2 → Nat :=
  let arg0 : BitVec 32 := BitVec.ofNat 32 (i 0).val
  let c6_i32 : BitVec 32 := 6#32
  let v0 : BitVec 32 := Scalar.muli arg0 c6_i32
  let arg1 : BitVec 32 := BitVec.ofNat 32 (i 1).val
  let v1 : BitVec 32 := Scalar.addi v0 arg1
  let c2_i32_19 : BitVec 32 := 2#32
  let v42 : BitVec 32 := Scalar.addi v1 c2_i32_19
  let c6_i32_27 : BitVec 32 := 6#32
  let c0_i32_28 : BitVec 32 := 0#32
  let v54 : BitVec 1 := Scalar.cmpi .eq c6_i32_27 c0_i32_28
  let c1_i32_29 : BitVec 32 := 1#32
  let v55 : BitVec 32 := Scalar.select v54 c1_i32_29 c6_i32_27
  let v56 : BitVec 32 := Scalar.remsi v42 v55
  let c0_i32_31 : BitVec 32 := 0#32
  let v58 : BitVec 1 := Scalar.cmpi .slt v56 c0_i32_31
  let c0_i32_32 : BitVec 32 := 0#32
  let v59 : BitVec 1 := Scalar.cmpi .slt v55 c0_i32_32
  let v60 : BitVec 1 := Scalar.xori v58 v59
  let c0_i32_30 : BitVec 32 := 0#32
  let v57 : BitVec 1 := Scalar.cmpi .ne v56 c0_i32_30
  let v61 : BitVec 1 := Scalar.andi v60 v57
  let v62 : BitVec 32 := Scalar.addi v56 v55
  let v63 : BitVec 32 := Scalar.select v61 v62 v56
  let c1024_i32_33 : BitVec 32 := 1024#32
  let v64 : BitVec 32 := Scalar.muli v63 c1024_i32_33
  let v65 : BitVec 32 := v64
  let c0_i32_36 : BitVec 32 := 0#32
  ![v65.toNat, 0]
def k0_mult5 (i : grid0.Coords) : BitVec 32 :=
  let arg0 : BitVec 32 := BitVec.ofNat 32 (i 0).val
  let c6_i32 : BitVec 32 := 6#32
  let v0 : BitVec 32 := Scalar.muli arg0 c6_i32
  let arg1 : BitVec 32 := BitVec.ofNat 32 (i 1).val
  let v1 : BitVec 32 := Scalar.addi v0 arg1
  let c6_i32_6 : BitVec 32 := 6#32
  let c0_i32_7 : BitVec 32 := 0#32
  let v19 : BitVec 1 := Scalar.cmpi .eq c6_i32_6 c0_i32_7
  let c1_i32_8 : BitVec 32 := 1#32
  let v20 : BitVec 32 := Scalar.select v19 c1_i32_8 c6_i32_6
  let v21 : BitVec 32 := Scalar.remsi v1 v20
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let c0_i32_9 : BitVec 32 := 0#32
  let v22 : BitVec 1 := Scalar.cmpi .ne v21 c0_i32_9
  let v26 : BitVec 1 := Scalar.andi v25 v22
  let v27 : BitVec 32 := Scalar.addi v21 v20
  let v28 : BitVec 32 := Scalar.select v26 v27 v21
  let c1024_i32 : BitVec 32 := 1024#32
  let v29 : BitVec 32 := Scalar.muli v28 c1024_i32
  v29
def k0_off4 (i : grid0.Coords) : Fin 1 → Nat :=
  let arg0 : BitVec 32 := BitVec.ofNat 32 (i 0).val
  let c6_i32 : BitVec 32 := 6#32
  let v0 : BitVec 32 := Scalar.muli arg0 c6_i32
  let arg1 : BitVec 32 := BitVec.ofNat 32 (i 1).val
  let v1 : BitVec 32 := Scalar.addi v0 arg1
  let c3_i32 : BitVec 32 := 3#32
  let c0_i32_2 : BitVec 32 := 0#32
  let v9 : BitVec 1 := Scalar.cmpi .eq c3_i32 c0_i32_2
  let c1_i32 : BitVec 32 := 1#32
  let v10 : BitVec 32 := Scalar.select v9 c1_i32 c3_i32
  let v11 : BitVec 32 := Scalar.remsi v1 v10
  let c0_i32_4 : BitVec 32 := 0#32
  let v13 : BitVec 1 := Scalar.cmpi .slt v11 c0_i32_4
  let c0_i32_5 : BitVec 32 := 0#32
  let v14 : BitVec 1 := Scalar.cmpi .slt v10 c0_i32_5
  let v15 : BitVec 1 := Scalar.xori v13 v14
  let c0_i32_3 : BitVec 32 := 0#32
  let v12 : BitVec 1 := Scalar.cmpi .ne v11 c0_i32_3
  let v16 : BitVec 1 := Scalar.andi v15 v12
  let v17 : BitVec 32 := Scalar.addi v11 v10
  let v18 : BitVec 32 := Scalar.select v16 v17 v11
  ![v18.toNat]
def k0_off5 (i : grid0.Coords) : Fin 3 → Nat :=
  let arg0 : BitVec 32 := BitVec.ofNat 32 (i 0).val
  let c6_i32 : BitVec 32 := 6#32
  let v0 : BitVec 32 := Scalar.muli arg0 c6_i32
  let arg1 : BitVec 32 := BitVec.ofNat 32 (i 1).val
  let v1 : BitVec 32 := Scalar.addi v0 arg1
  let c3_i32 : BitVec 32 := 3#32
  let c0_i32_2 : BitVec 32 := 0#32
  let v9 : BitVec 1 := Scalar.cmpi .eq c3_i32 c0_i32_2
  let c1_i32 : BitVec 32 := 1#32
  let v10 : BitVec 32 := Scalar.select v9 c1_i32 c3_i32
  let v11 : BitVec 32 := Scalar.remsi v1 v10
  let c0_i32_4 : BitVec 32 := 0#32
  let v13 : BitVec 1 := Scalar.cmpi .slt v11 c0_i32_4
  let c0_i32_5 : BitVec 32 := 0#32
  let v14 : BitVec 1 := Scalar.cmpi .slt v10 c0_i32_5
  let v15 : BitVec 1 := Scalar.xori v13 v14
  let c0_i32_3 : BitVec 32 := 0#32
  let v12 : BitVec 1 := Scalar.cmpi .ne v11 c0_i32_3
  let v16 : BitVec 1 := Scalar.andi v15 v12
  let v17 : BitVec 32 := Scalar.addi v11 v10
  let v18 : BitVec 32 := Scalar.select v16 v17 v11
  let c0_i32_12 : BitVec 32 := 0#32
  let c0_i32_13 : BitVec 32 := 0#32
  ![v18.toNat, 0, 0]
def k0_off6 (i : grid0.Coords) : Fin 2 → Nat :=
  let arg0 : BitVec 32 := BitVec.ofNat 32 (i 0).val
  let c6_i32 : BitVec 32 := 6#32
  let v0 : BitVec 32 := Scalar.muli arg0 c6_i32
  let arg1 : BitVec 32 := BitVec.ofNat 32 (i 1).val
  let v1 : BitVec 32 := Scalar.addi v0 arg1
  let c6_i32_6 : BitVec 32 := 6#32
  let c0_i32_7 : BitVec 32 := 0#32
  let v19 : BitVec 1 := Scalar.cmpi .eq c6_i32_6 c0_i32_7
  let c1_i32_8 : BitVec 32 := 1#32
  let v20 : BitVec 32 := Scalar.select v19 c1_i32_8 c6_i32_6
  let v21 : BitVec 32 := Scalar.remsi v1 v20
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let c0_i32_9 : BitVec 32 := 0#32
  let v22 : BitVec 1 := Scalar.cmpi .ne v21 c0_i32_9
  let v26 : BitVec 1 := Scalar.andi v25 v22
  let v27 : BitVec 32 := Scalar.addi v21 v20
  let v28 : BitVec 32 := Scalar.select v26 v27 v21
  let c1024_i32 : BitVec 32 := 1024#32
  let v29 : BitVec 32 := Scalar.muli v28 c1024_i32
  let v30 : BitVec 32 := v29
  let c0_i32_14 : BitVec 32 := 0#32
  ![v30.toNat, 0]
def k0_cond3 (i : grid0.Coords) : BitVec 1 :=
  let arg1 : BitVec 32 := BitVec.ofNat 32 (i 1).val
  let c0_i32_15 : BitVec 32 := 0#32
  let v36 : BitVec 1 := Scalar.cmpi .eq arg1 c0_i32_15
  let v37 : BitVec 32 := Scalar.extui v36
  let c0_i32_16 : BitVec 32 := 0#32
  let v38 : BitVec 1 := Scalar.cmpi .ne v37 c0_i32_16
  v38

def k0_off7 (i : grid0.Coords) : Fin 3 → Nat :=
  let arg0 : BitVec 32 := BitVec.ofNat 32 (i 0).val
  let c6_i32 : BitVec 32 := 6#32
  let v0 : BitVec 32 := Scalar.muli arg0 c6_i32
  let arg1 : BitVec 32 := BitVec.ofNat 32 (i 1).val
  let v1 : BitVec 32 := Scalar.addi v0 arg1
  let c3_i32 : BitVec 32 := 3#32
  let c0_i32_2 : BitVec 32 := 0#32
  let v9 : BitVec 1 := Scalar.cmpi .eq c3_i32 c0_i32_2
  let c1_i32 : BitVec 32 := 1#32
  let v10 : BitVec 32 := Scalar.select v9 c1_i32 c3_i32
  let v11 : BitVec 32 := Scalar.remsi v1 v10
  let c0_i32_4 : BitVec 32 := 0#32
  let v13 : BitVec 1 := Scalar.cmpi .slt v11 c0_i32_4
  let c0_i32_5 : BitVec 32 := 0#32
  let v14 : BitVec 1 := Scalar.cmpi .slt v10 c0_i32_5
  let v15 : BitVec 1 := Scalar.xori v13 v14
  let c0_i32_3 : BitVec 32 := 0#32
  let v12 : BitVec 1 := Scalar.cmpi .ne v11 c0_i32_3
  let v16 : BitVec 1 := Scalar.andi v15 v12
  let v17 : BitVec 32 := Scalar.addi v11 v10
  let v18 : BitVec 32 := Scalar.select v16 v17 v11
  let v49 : Index := Scalar.indexCast v18
  let c0_22 : Index := 0#32
  let c0_23 : Index := 0#32
  ![v49.toNat, 0, 0]
def k0_off8 (i : grid0.Coords) : Fin 3 → Nat :=
  let arg0 : BitVec 32 := BitVec.ofNat 32 (i 0).val
  let c6_i32 : BitVec 32 := 6#32
  let v0 : BitVec 32 := Scalar.muli arg0 c6_i32
  let arg1 : BitVec 32 := BitVec.ofNat 32 (i 1).val
  let v1 : BitVec 32 := Scalar.addi v0 arg1
  let c3_i32 : BitVec 32 := 3#32
  let c0_i32_2 : BitVec 32 := 0#32
  let v9 : BitVec 1 := Scalar.cmpi .eq c3_i32 c0_i32_2
  let c1_i32 : BitVec 32 := 1#32
  let v10 : BitVec 32 := Scalar.select v9 c1_i32 c3_i32
  let v11 : BitVec 32 := Scalar.remsi v1 v10
  let c0_i32_4 : BitVec 32 := 0#32
  let v13 : BitVec 1 := Scalar.cmpi .slt v11 c0_i32_4
  let c0_i32_5 : BitVec 32 := 0#32
  let v14 : BitVec 1 := Scalar.cmpi .slt v10 c0_i32_5
  let v15 : BitVec 1 := Scalar.xori v13 v14
  let c0_i32_3 : BitVec 32 := 0#32
  let v12 : BitVec 1 := Scalar.cmpi .ne v11 c0_i32_3
  let v16 : BitVec 1 := Scalar.andi v15 v12
  let v17 : BitVec 32 := Scalar.addi v11 v10
  let v18 : BitVec 32 := Scalar.select v16 v17 v11
  let v60 : Index := Scalar.indexCast v18
  let c0_27 : Index := 0#32
  let c512_28 : Index := 512#32
  ![v60.toNat, 0, 512]
def k0_off9 (i : grid0.Coords) : Fin 3 → Nat :=
  let arg0 : BitVec 32 := BitVec.ofNat 32 (i 0).val
  let c6_i32 : BitVec 32 := 6#32
  let v0 : BitVec 32 := Scalar.muli arg0 c6_i32
  let arg1 : BitVec 32 := BitVec.ofNat 32 (i 1).val
  let v1 : BitVec 32 := Scalar.addi v0 arg1
  let c3_i32 : BitVec 32 := 3#32
  let c0_i32_2 : BitVec 32 := 0#32
  let v9 : BitVec 1 := Scalar.cmpi .eq c3_i32 c0_i32_2
  let c1_i32 : BitVec 32 := 1#32
  let v10 : BitVec 32 := Scalar.select v9 c1_i32 c3_i32
  let v11 : BitVec 32 := Scalar.remsi v1 v10
  let c0_i32_4 : BitVec 32 := 0#32
  let v13 : BitVec 1 := Scalar.cmpi .slt v11 c0_i32_4
  let c0_i32_5 : BitVec 32 := 0#32
  let v14 : BitVec 1 := Scalar.cmpi .slt v10 c0_i32_5
  let v15 : BitVec 1 := Scalar.xori v13 v14
  let c0_i32_3 : BitVec 32 := 0#32
  let v12 : BitVec 1 := Scalar.cmpi .ne v11 c0_i32_3
  let v16 : BitVec 1 := Scalar.andi v15 v12
  let v17 : BitVec 32 := Scalar.addi v11 v10
  let v18 : BitVec 32 := Scalar.select v16 v17 v11
  let v72 : Index := Scalar.indexCast v18
  let c0_33 : Index := 0#32
  let c1024_34 : Index := 1024#32
  ![v72.toNat, 0, 1024]
def k0_off10 (i : grid0.Coords) : Fin 3 → Nat :=
  let arg0 : BitVec 32 := BitVec.ofNat 32 (i 0).val
  let c6_i32 : BitVec 32 := 6#32
  let v0 : BitVec 32 := Scalar.muli arg0 c6_i32
  let arg1 : BitVec 32 := BitVec.ofNat 32 (i 1).val
  let v1 : BitVec 32 := Scalar.addi v0 arg1
  let c3_i32 : BitVec 32 := 3#32
  let c0_i32_2 : BitVec 32 := 0#32
  let v9 : BitVec 1 := Scalar.cmpi .eq c3_i32 c0_i32_2
  let c1_i32 : BitVec 32 := 1#32
  let v10 : BitVec 32 := Scalar.select v9 c1_i32 c3_i32
  let v11 : BitVec 32 := Scalar.remsi v1 v10
  let c0_i32_4 : BitVec 32 := 0#32
  let v13 : BitVec 1 := Scalar.cmpi .slt v11 c0_i32_4
  let c0_i32_5 : BitVec 32 := 0#32
  let v14 : BitVec 1 := Scalar.cmpi .slt v10 c0_i32_5
  let v15 : BitVec 1 := Scalar.xori v13 v14
  let c0_i32_3 : BitVec 32 := 0#32
  let v12 : BitVec 1 := Scalar.cmpi .ne v11 c0_i32_3
  let v16 : BitVec 1 := Scalar.andi v15 v12
  let v17 : BitVec 32 := Scalar.addi v11 v10
  let v18 : BitVec 32 := Scalar.select v16 v17 v11
  let v84 : Index := Scalar.indexCast v18
  let c0_39 : Index := 0#32
  let c1536_40 : Index := 1536#32
  ![v84.toNat, 0, 1536]
def k0_off11 (i : grid0.Coords) : Fin 3 → Nat :=
  let arg0 : BitVec 32 := BitVec.ofNat 32 (i 0).val
  let c6_i32 : BitVec 32 := 6#32
  let v0 : BitVec 32 := Scalar.muli arg0 c6_i32
  let arg1 : BitVec 32 := BitVec.ofNat 32 (i 1).val
  let v1 : BitVec 32 := Scalar.addi v0 arg1
  let c3_i32 : BitVec 32 := 3#32
  let c0_i32_2 : BitVec 32 := 0#32
  let v9 : BitVec 1 := Scalar.cmpi .eq c3_i32 c0_i32_2
  let c1_i32 : BitVec 32 := 1#32
  let v10 : BitVec 32 := Scalar.select v9 c1_i32 c3_i32
  let v11 : BitVec 32 := Scalar.remsi v1 v10
  let c0_i32_4 : BitVec 32 := 0#32
  let v13 : BitVec 1 := Scalar.cmpi .slt v11 c0_i32_4
  let c0_i32_5 : BitVec 32 := 0#32
  let v14 : BitVec 1 := Scalar.cmpi .slt v10 c0_i32_5
  let v15 : BitVec 1 := Scalar.xori v13 v14
  let c0_i32_3 : BitVec 32 := 0#32
  let v12 : BitVec 1 := Scalar.cmpi .ne v11 c0_i32_3
  let v16 : BitVec 1 := Scalar.andi v15 v12
  let v17 : BitVec 32 := Scalar.addi v11 v10
  let v18 : BitVec 32 := Scalar.select v16 v17 v11
  let v96 : Index := Scalar.indexCast v18
  let c0_45 : Index := 0#32
  let c2048_46 : Index := 2048#32
  ![v96.toNat, 0, 2048]
def k0_off12 (i : grid0.Coords) : Fin 3 → Nat :=
  let arg0 : BitVec 32 := BitVec.ofNat 32 (i 0).val
  let c6_i32 : BitVec 32 := 6#32
  let v0 : BitVec 32 := Scalar.muli arg0 c6_i32
  let arg1 : BitVec 32 := BitVec.ofNat 32 (i 1).val
  let v1 : BitVec 32 := Scalar.addi v0 arg1
  let c3_i32 : BitVec 32 := 3#32
  let c0_i32_2 : BitVec 32 := 0#32
  let v9 : BitVec 1 := Scalar.cmpi .eq c3_i32 c0_i32_2
  let c1_i32 : BitVec 32 := 1#32
  let v10 : BitVec 32 := Scalar.select v9 c1_i32 c3_i32
  let v11 : BitVec 32 := Scalar.remsi v1 v10
  let c0_i32_4 : BitVec 32 := 0#32
  let v13 : BitVec 1 := Scalar.cmpi .slt v11 c0_i32_4
  let c0_i32_5 : BitVec 32 := 0#32
  let v14 : BitVec 1 := Scalar.cmpi .slt v10 c0_i32_5
  let v15 : BitVec 1 := Scalar.xori v13 v14
  let c0_i32_3 : BitVec 32 := 0#32
  let v12 : BitVec 1 := Scalar.cmpi .ne v11 c0_i32_3
  let v16 : BitVec 1 := Scalar.andi v15 v12
  let v17 : BitVec 32 := Scalar.addi v11 v10
  let v18 : BitVec 32 := Scalar.select v16 v17 v11
  let v108 : Index := Scalar.indexCast v18
  let c0_51 : Index := 0#32
  let c2560_52 : Index := 2560#32
  ![v108.toNat, 0, 2560]
def k0_off13 (i : grid0.Coords) : Fin 3 → Nat :=
  let arg0 : BitVec 32 := BitVec.ofNat 32 (i 0).val
  let c6_i32 : BitVec 32 := 6#32
  let v0 : BitVec 32 := Scalar.muli arg0 c6_i32
  let arg1 : BitVec 32 := BitVec.ofNat 32 (i 1).val
  let v1 : BitVec 32 := Scalar.addi v0 arg1
  let c3_i32 : BitVec 32 := 3#32
  let c0_i32_2 : BitVec 32 := 0#32
  let v9 : BitVec 1 := Scalar.cmpi .eq c3_i32 c0_i32_2
  let c1_i32 : BitVec 32 := 1#32
  let v10 : BitVec 32 := Scalar.select v9 c1_i32 c3_i32
  let v11 : BitVec 32 := Scalar.remsi v1 v10
  let c0_i32_4 : BitVec 32 := 0#32
  let v13 : BitVec 1 := Scalar.cmpi .slt v11 c0_i32_4
  let c0_i32_5 : BitVec 32 := 0#32
  let v14 : BitVec 1 := Scalar.cmpi .slt v10 c0_i32_5
  let v15 : BitVec 1 := Scalar.xori v13 v14
  let c0_i32_3 : BitVec 32 := 0#32
  let v12 : BitVec 1 := Scalar.cmpi .ne v11 c0_i32_3
  let v16 : BitVec 1 := Scalar.andi v15 v12
  let v17 : BitVec 32 := Scalar.addi v11 v10
  let v18 : BitVec 32 := Scalar.select v16 v17 v11
  let v120 : Index := Scalar.indexCast v18
  let c0_57 : Index := 0#32
  let c3072_58 : Index := 3072#32
  ![v120.toNat, 0, 3072]
def k0_off14 (i : grid0.Coords) : Fin 3 → Nat :=
  let arg0 : BitVec 32 := BitVec.ofNat 32 (i 0).val
  let c6_i32 : BitVec 32 := 6#32
  let v0 : BitVec 32 := Scalar.muli arg0 c6_i32
  let arg1 : BitVec 32 := BitVec.ofNat 32 (i 1).val
  let v1 : BitVec 32 := Scalar.addi v0 arg1
  let c3_i32 : BitVec 32 := 3#32
  let c0_i32_2 : BitVec 32 := 0#32
  let v9 : BitVec 1 := Scalar.cmpi .eq c3_i32 c0_i32_2
  let c1_i32 : BitVec 32 := 1#32
  let v10 : BitVec 32 := Scalar.select v9 c1_i32 c3_i32
  let v11 : BitVec 32 := Scalar.remsi v1 v10
  let c0_i32_4 : BitVec 32 := 0#32
  let v13 : BitVec 1 := Scalar.cmpi .slt v11 c0_i32_4
  let c0_i32_5 : BitVec 32 := 0#32
  let v14 : BitVec 1 := Scalar.cmpi .slt v10 c0_i32_5
  let v15 : BitVec 1 := Scalar.xori v13 v14
  let c0_i32_3 : BitVec 32 := 0#32
  let v12 : BitVec 1 := Scalar.cmpi .ne v11 c0_i32_3
  let v16 : BitVec 1 := Scalar.andi v15 v12
  let v17 : BitVec 32 := Scalar.addi v11 v10
  let v18 : BitVec 32 := Scalar.select v16 v17 v11
  let v132 : Index := Scalar.indexCast v18
  let c0_63 : Index := 0#32
  let c3584_64 : Index := 3584#32
  ![v132.toNat, 0, 3584]
def k0_cond4 (i : grid0.Coords) : BitVec 1 :=
  let arg1 : BitVec 32 := BitVec.ofNat 32 (i 1).val
  let c0_i32_17 : BitVec 32 := 0#32
  let v39 : BitVec 1 := Scalar.cmpi .sgt arg1 c0_i32_17
  let v40 : BitVec 32 := Scalar.extui v39
  let c0_i32_18 : BitVec 32 := 0#32
  let v41 : BitVec 1 := Scalar.cmpi .ne v40 c0_i32_18
  v41

def k0_off15 (i : grid0.Coords) : Fin 3 → Nat :=
  let arg0 : BitVec 32 := BitVec.ofNat 32 (i 0).val
  let c6_i32 : BitVec 32 := 6#32
  let v0 : BitVec 32 := Scalar.muli arg0 c6_i32
  let arg1 : BitVec 32 := BitVec.ofNat 32 (i 1).val
  let v1 : BitVec 32 := Scalar.addi v0 arg1
  let c3_i32 : BitVec 32 := 3#32
  let c0_i32_2 : BitVec 32 := 0#32
  let v9 : BitVec 1 := Scalar.cmpi .eq c3_i32 c0_i32_2
  let c1_i32 : BitVec 32 := 1#32
  let v10 : BitVec 32 := Scalar.select v9 c1_i32 c3_i32
  let v11 : BitVec 32 := Scalar.remsi v1 v10
  let c0_i32_4 : BitVec 32 := 0#32
  let v13 : BitVec 1 := Scalar.cmpi .slt v11 c0_i32_4
  let c0_i32_5 : BitVec 32 := 0#32
  let v14 : BitVec 1 := Scalar.cmpi .slt v10 c0_i32_5
  let v15 : BitVec 1 := Scalar.xori v13 v14
  let c0_i32_3 : BitVec 32 := 0#32
  let v12 : BitVec 1 := Scalar.cmpi .ne v11 c0_i32_3
  let v16 : BitVec 1 := Scalar.andi v15 v12
  let v17 : BitVec 32 := Scalar.addi v11 v10
  let v18 : BitVec 32 := Scalar.select v16 v17 v11
  let v42 : Index := Scalar.indexCast v18
  let c0 : Index := 0#32
  let c0_19 : Index := 0#32
  ![v42.toNat, 0, 0]
def cc0_transform_1 (i : grid0.Coords) : Fin 2 → Nat :=
  let arg0 : BitVec 32 := BitVec.ofNat 32 (i 0).val
  let arg1 : BitVec 32 := BitVec.ofNat 32 (i 1).val
  let c512_i32 : BitVec 32 := 512#32
  let v0 : BitVec 32 := Scalar.muli arg0 c512_i32
  let c0_i32 : BitVec 32 := 0#32
  let v1 : BitVec 32 := Scalar.addi c0_i32 v0
  let v2 : BitVec 32 := v1
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]
-- ==== Reference2Ideal.lean ====
abbrev S6144x4096 : Shape := ⟨2, ![6144, 4096]⟩
abbrev S1x4096x20544 : Shape := ⟨3, ![1, 4096, 20544]⟩
abbrev S4096x20544 : Shape := ⟨2, ![4096, 20544]⟩
abbrev S6144x20544 : Shape := ⟨2, ![6144, 20544]⟩
abbrev S6144x12288 : Shape := ⟨2, ![6144, 12288]⟩

abbrev nBuf : Space → Nat
  | .hbm => 5
  | .vmem => 0
  | .smem => 0
  | _ => 0

abbrev bufTy : (tb : Table) → Fin (tcTables nBuf tb) → BufTy
  | .hbm, ⟨0, _⟩ => ⟨S6144x4096, .f32⟩
  | .hbm, ⟨1, _⟩ => ⟨S1x4096x20544, .f32⟩
  | .hbm, ⟨2, _⟩ => ⟨S4096x20544, .f32⟩
  | .hbm, ⟨3, _⟩ => ⟨S6144x20544, .f32⟩
  | .hbm, ⟨4, _⟩ => ⟨S6144x12288, .f32⟩
  | _, _ => ⟨S6144x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel3.lean ====
abbrev S6144x4096 : Shape := ⟨2, ![6144, 4096]⟩
abbrev S1x4096x16384 : Shape := ⟨3, ![1, 4096, 16384]⟩
abbrev S4096x16384 : Shape := ⟨2, ![4096, 16384]⟩
abbrev S6144x16384 : Shape := ⟨2, ![6144, 16384]⟩
abbrev S4096x512 : Shape := ⟨2, ![4096, 512]⟩
abbrev S1024x512 : Shape := ⟨2, ![1024, 512]⟩
abbrev S3x1024x4096 : Shape := ⟨3, ![3, 1024, 4096]⟩
abbrev S3 : Shape := ⟨1, ![3]⟩
abbrev S1 : Shape := ⟨1, ![1]⟩
abbrev S_ : Shape := ⟨0, ![]⟩
abbrev S1x1024x4096 : Shape := ⟨3, ![1, 1024, 4096]⟩
abbrev S1024x4096 : Shape := ⟨2, ![1024, 4096]⟩
abbrev S512x512 : Shape := ⟨2, ![512, 512]⟩
abbrev S1x1024x512 : Shape := ⟨3, ![1, 1024, 512]⟩

abbrev nBuf : Space → Nat
  | .hbm => 5
  | .vmem => 6
  | .smem => 0
  | _ => 0

abbrev bufTy : (tb : Table) → Fin (tcTables nBuf tb) → BufTy
  | .hbm, ⟨0, _⟩ => ⟨S6144x4096, .f32⟩
  | .hbm, ⟨1, _⟩ => ⟨S1x4096x16384, .f32⟩
  | .hbm, ⟨2, _⟩ => ⟨S6144x4096, .bf16⟩
  | .hbm, ⟨3, _⟩ => ⟨S4096x16384, .f32⟩
  | .hbm, ⟨4, _⟩ => ⟨S6144x16384, .bf16⟩
  | .local _ .vmem, ⟨0, _⟩ => ⟨S4096x512, .f32⟩
  | .local _ .vmem, ⟨1, _⟩ => ⟨S4096x512, .f32⟩
  | .local _ .vmem, ⟨2, _⟩ => ⟨S1024x512, .bf16⟩
  | .local _ .vmem, ⟨3, _⟩ => ⟨S1024x512, .bf16⟩
  | .local _ .vmem, ⟨4, _⟩ => ⟨S4096x512, .bf16⟩
  | .local _ .vmem, ⟨5, _⟩ => ⟨S3x1024x4096, .bf16⟩
  | _, _ => ⟨S6144x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_scratch1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![32, 6], ![false, false]⟩

def k0_cond1 (i : grid0.Coords) : BitVec 1 :=
  let arg0 : BitVec 32 := BitVec.ofNat 32 (i 0).val
  let c6_i32 : BitVec 32 := 6#32
  let v0 : BitVec 32 := Scalar.muli arg0 c6_i32
  let arg1 : BitVec 32 := BitVec.ofNat 32 (i 1).val
  let v1 : BitVec 32 := Scalar.addi v0 arg1
  let c0_i32 : BitVec 32 := 0#32
  let v2 : BitVec 1 := Scalar.cmpi .eq v1 c0_i32
  let v3 : BitVec 32 := Scalar.extui v2
  let c0_i32_0 : BitVec 32 := 0#32
  let v4 : BitVec 1 := Scalar.cmpi .ne v3 c0_i32_0
  v4

def k0_mult1 : BitVec 32 :=
  let c0_i32_19 : BitVec 32 := 0#32
  c0_i32_19
def k0_mult2 : BitVec 32 :=
  let c1024_i32_25 : BitVec 32 := 1024#32
  c1024_i32_25
def k0_cond2 (i : grid0.Coords) : BitVec 1 :=
  let arg0 : BitVec 32 := BitVec.ofNat 32 (i 0).val
  let c6_i32 : BitVec 32 := 6#32
  let v0 : BitVec 32 := Scalar.muli arg0 c6_i32
  let arg1 : BitVec 32 := BitVec.ofNat 32 (i 1).val
  let v1 : BitVec 32 := Scalar.addi v0 arg1
  let c2_i32 : BitVec 32 := 2#32
  let v5 : BitVec 32 := Scalar.addi v1 c2_i32
  let c192_i32 : BitVec 32 := 192#32
  let v6 : BitVec 1 := Scalar.cmpi .slt v5 c192_i32
  let v7 : BitVec 32 := Scalar.extui v6
  let c0_i32_1 : BitVec 32 := 0#32
  let v8 : BitVec 1 := Scalar.cmpi .ne v7 c0_i32_1
  v8

def k0_mult3 (i : grid0.Coords) : BitVec 32 :=
  let arg0 : BitVec 32 := BitVec.ofNat 32 (i 0).val
  let c6_i32 : BitVec 32 := 6#32
  let v0 : BitVec 32 := Scalar.muli arg0 c6_i32
  let arg1 : BitVec 32 := BitVec.ofNat 32 (i 1).val
  let v1 : BitVec 32 := Scalar.addi v0 arg1
  let c2_i32_19 : BitVec 32 := 2#32
  let v42 : BitVec 32 := Scalar.addi v1 c2_i32_19
  let c6_i32_27 : BitVec 32 := 6#32
  let c0_i32_28 : BitVec 32 := 0#32
  let v54 : BitVec 1 := Scalar.cmpi .eq c6_i32_27 c0_i32_28
  let c1_i32_29 : BitVec 32 := 1#32
  let v55 : BitVec 32 := Scalar.select v54 c1_i32_29 c6_i32_27
  let v56 : BitVec 32 := Scalar.remsi v42 v55
  let c0_i32_31 : BitVec 32 := 0#32
  let v58 : BitVec 1 := Scalar.cmpi .slt v56 c0_i32_31
  let c0_i32_32 : BitVec 32 := 0#32
  let v59 : BitVec 1 := Scalar.cmpi .slt v55 c0_i32_32
  let v60 : BitVec 1 := Scalar.xori v58 v59
  let c0_i32_30 : BitVec 32 := 0#32
  let v57 : BitVec 1 := Scalar.cmpi .ne v56 c0_i32_30
  let v61 : BitVec 1 := Scalar.andi v60 v57
  let v62 : BitVec 32 := Scalar.addi v56 v55
  let v63 : BitVec 32 := Scalar.select v61 v62 v56
  let c1024_i32_33 : BitVec 32 := 1024#32
  let v64 : BitVec 32 := Scalar.muli v63 c1024_i32_33
  v64
def k0_off1 (i : grid0.Coords) : Fin 1 → Nat :=
  let arg0 : BitVec 32 := BitVec.ofNat 32 (i 0).val
  let c6_i32 : BitVec 32 := 6#32
  let v0 : BitVec 32 := Scalar.muli arg0 c6_i32
  let arg1 : BitVec 32 := BitVec.ofNat 32 (i 1).val
  let v1 : BitVec 32 := Scalar.addi v0 arg1
  let c2_i32_20 : BitVec 32 := 2#32
  let v43 : BitVec 32 := Scalar.addi v1 c2_i32_20
  let c3_i32_21 : BitVec 32 := 3#32
  let c0_i32_22 : BitVec 32 := 0#32
  let v44 : BitVec 1 := Scalar.cmpi .eq c3_i32_21 c0_i32_22
  let c1_i32_23 : BitVec 32 := 1#32
  let v45 : BitVec 32 := Scalar.select v44 c1_i32_23 c3_i32_21
  let v46 : BitVec 32 := Scalar.remsi v43 v45
  let c0_i32_25 : BitVec 32 := 0#32
  let v48 : BitVec 1 := Scalar.cmpi .slt v46 c0_i32_25
  let c0_i32_26 : BitVec 32 := 0#32
  let v49 : BitVec 1 := Scalar.cmpi .slt v45 c0_i32_26
  let v50 : BitVec 1 := Scalar.xori v48 v49
  let c0_i32_24 : BitVec 32 := 0#32
  let v47 : BitVec 1 := Scalar.cmpi .ne v46 c0_i32_24
  let v51 : BitVec 1 := Scalar.andi v50 v47
  let v52 : BitVec 32 := Scalar.addi v46 v45
  let v53 : BitVec 32 := Scalar.select v51 v52 v46
  ![v53.toNat]
def k0_off2 (i : grid0.Coords) : Fin 3 → Nat :=
  let arg0 : BitVec 32 := BitVec.ofNat 32 (i 0).val
  let c6_i32 : BitVec 32 := 6#32
  let v0 : BitVec 32 := Scalar.muli arg0 c6_i32
  let arg1 : BitVec 32 := BitVec.ofNat 32 (i 1).val
  let v1 : BitVec 32 := Scalar.addi v0 arg1
  let c2_i32_20 : BitVec 32 := 2#32
  let v43 : BitVec 32 := Scalar.addi v1 c2_i32_20
  let c3_i32_21 : BitVec 32 := 3#32
  let c0_i32_22 : BitVec 32 := 0#32
  let v44 : BitVec 1 := Scalar.cmpi .eq c3_i32_21 c0_i32_22
  let c1_i32_23 : BitVec 32 := 1#32
  let v45 : BitVec 32 := Scalar.select v44 c1_i32_23 c3_i32_21
  let v46 : BitVec 32 := Scalar.remsi v43 v45
  let c0_i32_25 : BitVec 32 := 0#32
  let v48 : BitVec 1 := Scalar.cmpi .slt v46 c0_i32_25
  let c0_i32_26 : BitVec 32 := 0#32
  let v49 : BitVec 1 := Scalar.cmpi .slt v45 c0_i32_26
  let v50 : BitVec 1 := Scalar.xori v48 v49
  let c0_i32_24 : BitVec 32 := 0#32
  let v47 : BitVec 1 := Scalar.cmpi .ne v46 c0_i32_24
  let v51 : BitVec 1 := Scalar.andi v50 v47
  let v52 : BitVec 32 := Scalar.addi v46 v45
  let v53 : BitVec 32 := Scalar.select v51 v52 v46
  let c0_i32_34 : BitVec 32 := 0#32
  let c0_i32_35 : BitVec 32 := 0#32
  ![v53.toNat, 0, 0]
def k0_off3 (i : grid0.Coords) : Fin 2 → Nat :=
  let arg0 : BitVec 32 := BitVec.ofNat 32 (i 0).val
  let c6_i32 : BitVec 32 := 6#32
  let v0 : BitVec 32 := Scalar.muli arg0 c6_i32
  let arg1 : BitVec 32 := BitVec.ofNat 32 (i 1).val
  let v1 : BitVec 32 := Scalar.addi v0 arg1
  let c2_i32_19 : BitVec 32 := 2#32
  let v42 : BitVec 32 := Scalar.addi v1 c2_i32_19
  let c6_i32_27 : BitVec 32 := 6#32
  let c0_i32_28 : BitVec 32 := 0#32
  let v54 : BitVec 1 := Scalar.cmpi .eq c6_i32_27 c0_i32_28
  let c1_i32_29 : BitVec 32 := 1#32
  let v55 : BitVec 32 := Scalar.select v54 c1_i32_29 c6_i32_27
  let v56 : BitVec 32 := Scalar.remsi v42 v55
  let c0_i32_31 : BitVec 32 := 0#32
  let v58 : BitVec 1 := Scalar.cmpi .slt v56 c0_i32_31
  let c0_i32_32 : BitVec 32 := 0#32
  let v59 : BitVec 1 := Scalar.cmpi .slt v55 c0_i32_32
  let v60 : BitVec 1 := Scalar.xori v58 v59
  let c0_i32_30 : BitVec 32 := 0#32
  let v57 : BitVec 1 := Scalar.cmpi .ne v56 c0_i32_30
  let v61 : BitVec 1 := Scalar.andi v60 v57
  let v62 : BitVec 32 := Scalar.addi v56 v55
  let v63 : BitVec 32 := Scalar.select v61 v62 v56
  let c1024_i32_33 : BitVec 32 := 1024#32
  let v64 : BitVec 32 := Scalar.muli v63 c1024_i32_33
  let v65 : BitVec 32 := v64
  let c0_i32_36 : BitVec 32 := 0#32
  ![v65.toNat, 0]
def k0_mult4 (i : grid0.Coords) : BitVec 32 :=
  let arg0 : BitVec 32 := BitVec.ofNat 32 (i 0).val
  let c6_i32 : BitVec 32 := 6#32
  let v0 : BitVec 32 := Scalar.muli arg0 c6_i32
  let arg1 : BitVec 32 := BitVec.ofNat 32 (i 1).val
  let v1 : BitVec 32 := Scalar.addi v0 arg1
  let c6_i32_6 : BitVec 32 := 6#32
  let c0_i32_7 : BitVec 32 := 0#32
  let v19 : BitVec 1 := Scalar.cmpi .eq c6_i32_6 c0_i32_7
  let c1_i32_8 : BitVec 32 := 1#32
  let v20 : BitVec 32 := Scalar.select v19 c1_i32_8 c6_i32_6
  let v21 : BitVec 32 := Scalar.remsi v1 v20
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let c0_i32_9 : BitVec 32 := 0#32
  let v22 : BitVec 1 := Scalar.cmpi .ne v21 c0_i32_9
  let v26 : BitVec 1 := Scalar.andi v25 v22
  let v27 : BitVec 32 := Scalar.addi v21 v20
  let v28 : BitVec 32 := Scalar.select v26 v27 v21
  let c1024_i32 : BitVec 32 := 1024#32
  let v29 : BitVec 32 := Scalar.muli v28 c1024_i32
  v29
def k0_off4 (i : grid0.Coords) : Fin 1 → Nat :=
  let arg0 : BitVec 32 := BitVec.ofNat 32 (i 0).val
  let c6_i32 : BitVec 32 := 6#32
  let v0 : BitVec 32 := Scalar.muli arg0 c6_i32
  let arg1 : BitVec 32 := BitVec.ofNat 32 (i 1).val
  let v1 : BitVec 32 := Scalar.addi v0 arg1
  let c3_i32 : BitVec 32 := 3#32
  let c0_i32_2 : BitVec 32 := 0#32
  let v9 : BitVec 1 := Scalar.cmpi .eq c3_i32 c0_i32_2
  let c1_i32 : BitVec 32 := 1#32
  let v10 : BitVec 32 := Scalar.select v9 c1_i32 c3_i32
  let v11 : BitVec 32 := Scalar.remsi v1 v10
  let c0_i32_4 : BitVec 32 := 0#32
  let v13 : BitVec 1 := Scalar.cmpi .slt v11 c0_i32_4
  let c0_i32_5 : BitVec 32 := 0#32
  let v14 : BitVec 1 := Scalar.cmpi .slt v10 c0_i32_5
  let v15 : BitVec 1 := Scalar.xori v13 v14
  let c0_i32_3 : BitVec 32 := 0#32
  let v12 : BitVec 1 := Scalar.cmpi .ne v11 c0_i32_3
  let v16 : BitVec 1 := Scalar.andi v15 v12
  let v17 : BitVec 32 := Scalar.addi v11 v10
  let v18 : BitVec 32 := Scalar.select v16 v17 v11
  ![v18.toNat]
def k0_off5 (i : grid0.Coords) : Fin 3 → Nat :=
  let arg0 : BitVec 32 := BitVec.ofNat 32 (i 0).val
  let c6_i32 : BitVec 32 := 6#32
  let v0 : BitVec 32 := Scalar.muli arg0 c6_i32
  let arg1 : BitVec 32 := BitVec.ofNat 32 (i 1).val
  let v1 : BitVec 32 := Scalar.addi v0 arg1
  let c3_i32 : BitVec 32 := 3#32
  let c0_i32_2 : BitVec 32 := 0#32
  let v9 : BitVec 1 := Scalar.cmpi .eq c3_i32 c0_i32_2
  let c1_i32 : BitVec 32 := 1#32
  let v10 : BitVec 32 := Scalar.select v9 c1_i32 c3_i32
  let v11 : BitVec 32 := Scalar.remsi v1 v10
  let c0_i32_4 : BitVec 32 := 0#32
  let v13 : BitVec 1 := Scalar.cmpi .slt v11 c0_i32_4
  let c0_i32_5 : BitVec 32 := 0#32
  let v14 : BitVec 1 := Scalar.cmpi .slt v10 c0_i32_5
  let v15 : BitVec 1 := Scalar.xori v13 v14
  let c0_i32_3 : BitVec 32 := 0#32
  let v12 : BitVec 1 := Scalar.cmpi .ne v11 c0_i32_3
  let v16 : BitVec 1 := Scalar.andi v15 v12
  let v17 : BitVec 32 := Scalar.addi v11 v10
  let v18 : BitVec 32 := Scalar.select v16 v17 v11
  let c0_i32_12 : BitVec 32 := 0#32
  let c0_i32_13 : BitVec 32 := 0#32
  ![v18.toNat, 0, 0]
def k0_off6 (i : grid0.Coords) : Fin 2 → Nat :=
  let arg0 : BitVec 32 := BitVec.ofNat 32 (i 0).val
  let c6_i32 : BitVec 32 := 6#32
  let v0 : BitVec 32 := Scalar.muli arg0 c6_i32
  let arg1 : BitVec 32 := BitVec.ofNat 32 (i 1).val
  let v1 : BitVec 32 := Scalar.addi v0 arg1
  let c6_i32_6 : BitVec 32 := 6#32
  let c0_i32_7 : BitVec 32 := 0#32
  let v19 : BitVec 1 := Scalar.cmpi .eq c6_i32_6 c0_i32_7
  let c1_i32_8 : BitVec 32 := 1#32
  let v20 : BitVec 32 := Scalar.select v19 c1_i32_8 c6_i32_6
  let v21 : BitVec 32 := Scalar.remsi v1 v20
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let c0_i32_9 : BitVec 32 := 0#32
  let v22 : BitVec 1 := Scalar.cmpi .ne v21 c0_i32_9
  let v26 : BitVec 1 := Scalar.andi v25 v22
  let v27 : BitVec 32 := Scalar.addi v21 v20
  let v28 : BitVec 32 := Scalar.select v26 v27 v21
  let c1024_i32 : BitVec 32 := 1024#32
  let v29 : BitVec 32 := Scalar.muli v28 c1024_i32
  let v30 : BitVec 32 := v29
  let c0_i32_14 : BitVec 32 := 0#32
  ![v30.toNat, 0]
def k0_cond3 (i : grid0.Coords) : BitVec 1 :=
  let arg1 : BitVec 32 := BitVec.ofNat 32 (i 1).val
  let c0_i32_15 : BitVec 32 := 0#32
  let v36 : BitVec 1 := Scalar.cmpi .eq arg1 c0_i32_15
  let v37 : BitVec 32 := Scalar.extui v36
  let c0_i32_16 : BitVec 32 := 0#32
  let v38 : BitVec 1 := Scalar.cmpi .ne v37 c0_i32_16
  v38

def k0_off7 (i : grid0.Coords) : Fin 3 → Nat :=
  let arg0 : BitVec 32 := BitVec.ofNat 32 (i 0).val
  let c6_i32 : BitVec 32 := 6#32
  let v0 : BitVec 32 := Scalar.muli arg0 c6_i32
  let arg1 : BitVec 32 := BitVec.ofNat 32 (i 1).val
  let v1 : BitVec 32 := Scalar.addi v0 arg1
  let c3_i32 : BitVec 32 := 3#32
  let c0_i32_2 : BitVec 32 := 0#32
  let v9 : BitVec 1 := Scalar.cmpi .eq c3_i32 c0_i32_2
  let c1_i32 : BitVec 32 := 1#32
  let v10 : BitVec 32 := Scalar.select v9 c1_i32 c3_i32
  let v11 : BitVec 32 := Scalar.remsi v1 v10
  let c0_i32_4 : BitVec 32 := 0#32
  let v13 : BitVec 1 := Scalar.cmpi .slt v11 c0_i32_4
  let c0_i32_5 : BitVec 32 := 0#32
  let v14 : BitVec 1 := Scalar.cmpi .slt v10 c0_i32_5
  let v15 : BitVec 1 := Scalar.xori v13 v14
  let c0_i32_3 : BitVec 32 := 0#32
  let v12 : BitVec 1 := Scalar.cmpi .ne v11 c0_i32_3
  let v16 : BitVec 1 := Scalar.andi v15 v12
  let v17 : BitVec 32 := Scalar.addi v11 v10
  let v18 : BitVec 32 := Scalar.select v16 v17 v11
  let v48 : Index := Scalar.indexCast v18
  let c0_22 : Index := 0#32
  let c0_23 : Index := 0#32
  ![v48.toNat, 0, 0]
def k0_off8 (i : grid0.Coords) : Fin 3 → Nat :=
  let arg0 : BitVec 32 := BitVec.ofNat 32 (i 0).val
  let c6_i32 : BitVec 32 := 6#32
  let v0 : BitVec 32 := Scalar.muli arg0 c6_i32
  let arg1 : BitVec 32 := BitVec.ofNat 32 (i 1).val
  let v1 : BitVec 32 := Scalar.addi v0 arg1
  let c3_i32 : BitVec 32 := 3#32
  let c0_i32_2 : BitVec 32 := 0#32
  let v9 : BitVec 1 := Scalar.cmpi .eq c3_i32 c0_i32_2
  let c1_i32 : BitVec 32 := 1#32
  let v10 : BitVec 32 := Scalar.select v9 c1_i32 c3_i32
  let v11 : BitVec 32 := Scalar.remsi v1 v10
  let c0_i32_4 : BitVec 32 := 0#32
  let v13 : BitVec 1 := Scalar.cmpi .slt v11 c0_i32_4
  let c0_i32_5 : BitVec 32 := 0#32
  let v14 : BitVec 1 := Scalar.cmpi .slt v10 c0_i32_5
  let v15 : BitVec 1 := Scalar.xori v13 v14
  let c0_i32_3 : BitVec 32 := 0#32
  let v12 : BitVec 1 := Scalar.cmpi .ne v11 c0_i32_3
  let v16 : BitVec 1 := Scalar.andi v15 v12
  let v17 : BitVec 32 := Scalar.addi v11 v10
  let v18 : BitVec 32 := Scalar.select v16 v17 v11
  let v58 : Index := Scalar.indexCast v18
  let c0_27 : Index := 0#32
  let c512_28 : Index := 512#32
  ![v58.toNat, 0, 512]
def k0_off9 (i : grid0.Coords) : Fin 3 → Nat :=
  let arg0 : BitVec 32 := BitVec.ofNat 32 (i 0).val
  let c6_i32 : BitVec 32 := 6#32
  let v0 : BitVec 32 := Scalar.muli arg0 c6_i32
  let arg1 : BitVec 32 := BitVec.ofNat 32 (i 1).val
  let v1 : BitVec 32 := Scalar.addi v0 arg1
  let c3_i32 : BitVec 32 := 3#32
  let c0_i32_2 : BitVec 32 := 0#32
  let v9 : BitVec 1 := Scalar.cmpi .eq c3_i32 c0_i32_2
  let c1_i32 : BitVec 32 := 1#32
  let v10 : BitVec 32 := Scalar.select v9 c1_i32 c3_i32
  let v11 : BitVec 32 := Scalar.remsi v1 v10
  let c0_i32_4 : BitVec 32 := 0#32
  let v13 : BitVec 1 := Scalar.cmpi .slt v11 c0_i32_4
  let c0_i32_5 : BitVec 32 := 0#32
  let v14 : BitVec 1 := Scalar.cmpi .slt v10 c0_i32_5
  let v15 : BitVec 1 := Scalar.xori v13 v14
  let c0_i32_3 : BitVec 32 := 0#32
  let v12 : BitVec 1 := Scalar.cmpi .ne v11 c0_i32_3
  let v16 : BitVec 1 := Scalar.andi v15 v12
  let v17 : BitVec 32 := Scalar.addi v11 v10
  let v18 : BitVec 32 := Scalar.select v16 v17 v11
  let v69 : Index := Scalar.indexCast v18
  let c0_33 : Index := 0#32
  let c1024_34 : Index := 1024#32
  ![v69.toNat, 0, 1024]
def k0_off10 (i : grid0.Coords) : Fin 3 → Nat :=
  let arg0 : BitVec 32 := BitVec.ofNat 32 (i 0).val
  let c6_i32 : BitVec 32 := 6#32
  let v0 : BitVec 32 := Scalar.muli arg0 c6_i32
  let arg1 : BitVec 32 := BitVec.ofNat 32 (i 1).val
  let v1 : BitVec 32 := Scalar.addi v0 arg1
  let c3_i32 : BitVec 32 := 3#32
  let c0_i32_2 : BitVec 32 := 0#32
  let v9 : BitVec 1 := Scalar.cmpi .eq c3_i32 c0_i32_2
  let c1_i32 : BitVec 32 := 1#32
  let v10 : BitVec 32 := Scalar.select v9 c1_i32 c3_i32
  let v11 : BitVec 32 := Scalar.remsi v1 v10
  let c0_i32_4 : BitVec 32 := 0#32
  let v13 : BitVec 1 := Scalar.cmpi .slt v11 c0_i32_4
  let c0_i32_5 : BitVec 32 := 0#32
  let v14 : BitVec 1 := Scalar.cmpi .slt v10 c0_i32_5
  let v15 : BitVec 1 := Scalar.xori v13 v14
  let c0_i32_3 : BitVec 32 := 0#32
  let v12 : BitVec 1 := Scalar.cmpi .ne v11 c0_i32_3
  let v16 : BitVec 1 := Scalar.andi v15 v12
  let v17 : BitVec 32 := Scalar.addi v11 v10
  let v18 : BitVec 32 := Scalar.select v16 v17 v11
  let v80 : Index := Scalar.indexCast v18
  let c0_39 : Index := 0#32
  let c1536_40 : Index := 1536#32
  ![v80.toNat, 0, 1536]
def k0_off11 (i : grid0.Coords) : Fin 3 → Nat :=
  let arg0 : BitVec 32 := BitVec.ofNat 32 (i 0).val
  let c6_i32 : BitVec 32 := 6#32
  let v0 : BitVec 32 := Scalar.muli arg0 c6_i32
  let arg1 : BitVec 32 := BitVec.ofNat 32 (i 1).val
  let v1 : BitVec 32 := Scalar.addi v0 arg1
  let c3_i32 : BitVec 32 := 3#32
  let c0_i32_2 : BitVec 32 := 0#32
  let v9 : BitVec 1 := Scalar.cmpi .eq c3_i32 c0_i32_2
  let c1_i32 : BitVec 32 := 1#32
  let v10 : BitVec 32 := Scalar.select v9 c1_i32 c3_i32
  let v11 : BitVec 32 := Scalar.remsi v1 v10
  let c0_i32_4 : BitVec 32 := 0#32
  let v13 : BitVec 1 := Scalar.cmpi .slt v11 c0_i32_4
  let c0_i32_5 : BitVec 32 := 0#32
  let v14 : BitVec 1 := Scalar.cmpi .slt v10 c0_i32_5
  let v15 : BitVec 1 := Scalar.xori v13 v14
  let c0_i32_3 : BitVec 32 := 0#32
  let v12 : BitVec 1 := Scalar.cmpi .ne v11 c0_i32_3
  let v16 : BitVec 1 := Scalar.andi v15 v12
  let v17 : BitVec 32 := Scalar.addi v11 v10
  let v18 : BitVec 32 := Scalar.select v16 v17 v11
  let v91 : Index := Scalar.indexCast v18
  let c0_45 : Index := 0#32
  let c2048_46 : Index := 2048#32
  ![v91.toNat, 0, 2048]
def k0_off12 (i : grid0.Coords) : Fin 3 → Nat :=
  let arg0 : BitVec 32 := BitVec.ofNat 32 (i 0).val
  let c6_i32 : BitVec 32 := 6#32
  let v0 : BitVec 32 := Scalar.muli arg0 c6_i32
  let arg1 : BitVec 32 := BitVec.ofNat 32 (i 1).val
  let v1 : BitVec 32 := Scalar.addi v0 arg1
  let c3_i32 : BitVec 32 := 3#32
  let c0_i32_2 : BitVec 32 := 0#32
  let v9 : BitVec 1 := Scalar.cmpi .eq c3_i32 c0_i32_2
  let c1_i32 : BitVec 32 := 1#32
  let v10 : BitVec 32 := Scalar.select v9 c1_i32 c3_i32
  let v11 : BitVec 32 := Scalar.remsi v1 v10
  let c0_i32_4 : BitVec 32 := 0#32
  let v13 : BitVec 1 := Scalar.cmpi .slt v11 c0_i32_4
  let c0_i32_5 : BitVec 32 := 0#32
  let v14 : BitVec 1 := Scalar.cmpi .slt v10 c0_i32_5
  let v15 : BitVec 1 := Scalar.xori v13 v14
  let c0_i32_3 : BitVec 32 := 0#32
  let v12 : BitVec 1 := Scalar.cmpi .ne v11 c0_i32_3
  let v16 : BitVec 1 := Scalar.andi v15 v12
  let v17 : BitVec 32 := Scalar.addi v11 v10
  let v18 : BitVec 32 := Scalar.select v16 v17 v11
  let v102 : Index := Scalar.indexCast v18
  let c0_51 : Index := 0#32
  let c2560_52 : Index := 2560#32
  ![v102.toNat, 0, 2560]
def k0_off13 (i : grid0.Coords) : Fin 3 → Nat :=
  let arg0 : BitVec 32 := BitVec.ofNat 32 (i 0).val
  let c6_i32 : BitVec 32 := 6#32
  let v0 : BitVec 32 := Scalar.muli arg0 c6_i32
  let arg1 : BitVec 32 := BitVec.ofNat 32 (i 1).val
  let v1 : BitVec 32 := Scalar.addi v0 arg1
  let c3_i32 : BitVec 32 := 3#32
  let c0_i32_2 : BitVec 32 := 0#32
  let v9 : BitVec 1 := Scalar.cmpi .eq c3_i32 c0_i32_2
  let c1_i32 : BitVec 32 := 1#32
  let v10 : BitVec 32 := Scalar.select v9 c1_i32 c3_i32
  let v11 : BitVec 32 := Scalar.remsi v1 v10
  let c0_i32_4 : BitVec 32 := 0#32
  let v13 : BitVec 1 := Scalar.cmpi .slt v11 c0_i32_4
  let c0_i32_5 : BitVec 32 := 0#32
  let v14 : BitVec 1 := Scalar.cmpi .slt v10 c0_i32_5
  let v15 : BitVec 1 := Scalar.xori v13 v14
  let c0_i32_3 : BitVec 32 := 0#32
  let v12 : BitVec 1 := Scalar.cmpi .ne v11 c0_i32_3
  let v16 : BitVec 1 := Scalar.andi v15 v12
  let v17 : BitVec 32 := Scalar.addi v11 v10
  let v18 : BitVec 32 := Scalar.select v16 v17 v11
  let v113 : Index := Scalar.indexCast v18
  let c0_57 : Index := 0#32
  let c3072_58 : Index := 3072#32
  ![v113.toNat, 0, 3072]
def k0_off14 (i : grid0.Coords) : Fin 3 → Nat :=
  let arg0 : BitVec 32 := BitVec.ofNat 32 (i 0).val
  let c6_i32 : BitVec 32 := 6#32
  let v0 : BitVec 32 := Scalar.muli arg0 c6_i32
  let arg1 : BitVec 32 := BitVec.ofNat 32 (i 1).val
  let v1 : BitVec 32 := Scalar.addi v0 arg1
  let c3_i32 : BitVec 32 := 3#32
  let c0_i32_2 : BitVec 32 := 0#32
  let v9 : BitVec 1 := Scalar.cmpi .eq c3_i32 c0_i32_2
  let c1_i32 : BitVec 32 := 1#32
  let v10 : BitVec 32 := Scalar.select v9 c1_i32 c3_i32
  let v11 : BitVec 32 := Scalar.remsi v1 v10
  let c0_i32_4 : BitVec 32 := 0#32
  let v13 : BitVec 1 := Scalar.cmpi .slt v11 c0_i32_4
  let c0_i32_5 : BitVec 32 := 0#32
  let v14 : BitVec 1 := Scalar.cmpi .slt v10 c0_i32_5
  let v15 : BitVec 1 := Scalar.xori v13 v14
  let c0_i32_3 : BitVec 32 := 0#32
  let v12 : BitVec 1 := Scalar.cmpi .ne v11 c0_i32_3
  let v16 : BitVec 1 := Scalar.andi v15 v12
  let v17 : BitVec 32 := Scalar.addi v11 v10
  let v18 : BitVec 32 := Scalar.select v16 v17 v11
  let v124 : Index := Scalar.indexCast v18
  let c0_63 : Index := 0#32
  let c3584_64 : Index := 3584#32
  ![v124.toNat, 0, 3584]
def k0_cond4 (i : grid0.Coords) : BitVec 1 :=
  let arg1 : BitVec 32 := BitVec.ofNat 32 (i 1).val
  let c0_i32_17 : BitVec 32 := 0#32
  let v39 : BitVec 1 := Scalar.cmpi .sgt arg1 c0_i32_17
  let v40 : BitVec 32 := Scalar.extui v39
  let c0_i32_18 : BitVec 32 := 0#32
  let v41 : BitVec 1 := Scalar.cmpi .ne v40 c0_i32_18
  v41

def k0_off15 (i : grid0.Coords) : Fin 3 → Nat :=
  let arg0 : BitVec 32 := BitVec.ofNat 32 (i 0).val
  let c6_i32 : BitVec 32 := 6#32
  let v0 : BitVec 32 := Scalar.muli arg0 c6_i32
  let arg1 : BitVec 32 := BitVec.ofNat 32 (i 1).val
  let v1 : BitVec 32 := Scalar.addi v0 arg1
  let c3_i32 : BitVec 32 := 3#32
  let c0_i32_2 : BitVec 32 := 0#32
  let v9 : BitVec 1 := Scalar.cmpi .eq c3_i32 c0_i32_2
  let c1_i32 : BitVec 32 := 1#32
  let v10 : BitVec 32 := Scalar.select v9 c1_i32 c3_i32
  let v11 : BitVec 32 := Scalar.remsi v1 v10
  let c0_i32_4 : BitVec 32 := 0#32
  let v13 : BitVec 1 := Scalar.cmpi .slt v11 c0_i32_4
  let c0_i32_5 : BitVec 32 := 0#32
  let v14 : BitVec 1 := Scalar.cmpi .slt v10 c0_i32_5
  let v15 : BitVec 1 := Scalar.xori v13 v14
  let c0_i32_3 : BitVec 32 := 0#32
  let v12 : BitVec 1 := Scalar.cmpi .ne v11 c0_i32_3
  let v16 : BitVec 1 := Scalar.andi v15 v12
  let v17 : BitVec 32 := Scalar.addi v11 v10
  let v18 : BitVec 32 := Scalar.select v16 v17 v11
  let v42 : Index := Scalar.indexCast v18
  let c0 : Index := 0#32
  let c0_19 : Index := 0#32
  ![v42.toNat, 0, 0]
def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S4096x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]
-- ==== Reference3Ideal.lean ====
abbrev S6144x4096 : Shape := ⟨2, ![6144, 4096]⟩
abbrev S1x4096x16384 : Shape := ⟨3, ![1, 4096, 16384]⟩
abbrev S4096x16384 : Shape := ⟨2, ![4096, 16384]⟩
abbrev S6144x16384 : Shape := ⟨2, ![6144, 16384]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S6144x4096, .f32⟩
  | .hbm, ⟨1, _⟩ => ⟨S1x4096x16384, .f32⟩
  | .hbm, ⟨2, _⟩ => ⟨S4096x16384, .f32⟩
  | .hbm, ⟨3, _⟩ => ⟨S6144x16384, .f32⟩
  | .hbm, ⟨4, _⟩ => ⟨S_, .f32⟩
  | .hbm, ⟨5, _⟩ => ⟨S6144x16384, .f32⟩
  | .hbm, ⟨6, _⟩ => ⟨S6144x16384, .f32⟩
  | .hbm, ⟨7, _⟩ => ⟨S6144x16384, .f32⟩
  | .hbm, ⟨8, _⟩ => ⟨S6144x16384, .bf16⟩
  | _, _ => ⟨S6144x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_call0_cst : Ref sig .tc := ⟨.hbm, 4, rfl⟩
abbrev main_call0_v0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Kernel4.lean ====
abbrev S6144x16384 : Shape := ⟨2, ![6144, 16384]⟩
abbrev S1x16384x4096 : Shape := ⟨3, ![1, 16384, 4096]⟩
abbrev S16384x4096 : Shape := ⟨2, ![16384, 4096]⟩
abbrev S6144x4096 : Shape := ⟨2, ![6144, 4096]⟩
abbrev S1024x4096 : Shape := ⟨2, ![1024, 4096]⟩
abbrev S4096x512 : Shape := ⟨2, ![4096, 512]⟩
abbrev S6144x512 : Shape := ⟨2, ![6144, 512]⟩
abbrev S512x512 : Shape := ⟨2, ![512, 512]⟩
abbrev S1024x512 : Shape := ⟨2, ![1024, 512]⟩

abbrev nBuf : Space → Nat
  | .hbm => 5
  | .vmem => 6
  | .smem => 0
  | _ => 0

abbrev bufTy : (tb : Table) → Fin (tcTables nBuf tb) → BufTy
  | .hbm, ⟨0, _⟩ => ⟨S6144x16384, .f32⟩
  | .hbm, ⟨1, _⟩ => ⟨S1x16384x4096, .f32⟩
  | .hbm, ⟨2, _⟩ => ⟨S6144x16384, .bf16⟩
  | .hbm, ⟨3, _⟩ => ⟨S16384x4096, .f32⟩
  | .hbm, ⟨4, _⟩ => ⟨S6144x4096, .f32⟩
  | .local _ .vmem, ⟨0, _⟩ => ⟨S1024x4096, .bf16⟩
  | .local _ .vmem, ⟨1, _⟩ => ⟨S1024x4096, .bf16⟩
  | .local _ .vmem, ⟨2, _⟩ => ⟨S4096x512, .f32⟩
  | .local _ .vmem, ⟨3, _⟩ => ⟨S4096x512, .f32⟩
  | .local _ .vmem, ⟨4, _⟩ => ⟨S6144x512, .f32⟩
  | .local _ .vmem, ⟨5, _⟩ => ⟨S4096x512, .bf16⟩
  | _, _ => ⟨S6144x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![8, 4, 6], ![false, false, false]⟩

def k0_mult1 (i : grid0.Coords) : BitVec 32 :=
  let arg2 : BitVec 32 := BitVec.ofNat 32 (i 2).val
  let c1024_i32 : BitVec 32 := 1024#32
  let v0 : BitVec 32 := Scalar.muli arg2 c1024_i32
  v0
def k0_cond1 (i : grid0.Coords) : BitVec 1 :=
  let arg2 : BitVec 32 := BitVec.ofNat 32 (i 2).val
  let c0_i32 : BitVec 32 := 0#32
  let v2 : BitVec 1 := Scalar.cmpi .eq arg2 c0_i32
  let v3 : BitVec 32 := Scalar.extui v2
  let c0_i32_0 : BitVec 32 := 0#32
  let v4 : BitVec 1 := Scalar.cmpi .ne v3 c0_i32_0
  v4

def k0_cond2 (i : grid0.Coords) : BitVec 1 :=
  let arg1 : BitVec 32 := BitVec.ofNat 32 (i 1).val
  let c0_i32_50 : BitVec 32 := 0#32
  let v87 : BitVec 1 := Scalar.cmpi .eq arg1 c0_i32_50
  let v88 : BitVec 32 := Scalar.extui v87
  let c0_i32_51 : BitVec 32 := 0#32
  let v89 : BitVec 1 := Scalar.cmpi .ne v88 c0_i32_51
  v89

def k0_off1 (i : grid0.Coords) : Fin 2 → Nat :=
  let arg2 : BitVec 32 := BitVec.ofNat 32 (i 2).val
  let c1024_i32 : BitVec 32 := 1024#32
  let v0 : BitVec 32 := Scalar.muli arg2 c1024_i32
  let v1 : BitVec 32 := v0
  let v93 : Index := Scalar.indexCast v1
  let c0_54 : Index := 0#32
  ![v93.toNat, 0]
def k0_cond3 (i : grid0.Coords) : BitVec 1 :=
  let arg1 : BitVec 32 := BitVec.ofNat 32 (i 1).val
  let c0_i32_52 : BitVec 32 := 0#32
  let v90 : BitVec 1 := Scalar.cmpi .sgt arg1 c0_i32_52
  let v91 : BitVec 32 := Scalar.extui v90
  let c0_i32_53 : BitVec 32 := 0#32
  let v92 : BitVec 1 := Scalar.cmpi .ne v91 c0_i32_53
  v92

def k0_off2 (i : grid0.Coords) : Fin 2 → Nat :=
  let arg2 : BitVec 32 := BitVec.ofNat 32 (i 2).val
  let c1024_i32 : BitVec 32 := 1024#32
  let v0 : BitVec 32 := Scalar.muli arg2 c1024_i32
  let v1 : BitVec 32 := v0
  let v93 : Index := Scalar.indexCast v1
  let c0_54 : Index := 0#32
  ![v93.toNat, 0]
def k0_cond4 (i : grid0.Coords) : BitVec 1 :=
  let arg2 : BitVec 32 := BitVec.ofNat 32 (i 2).val
  let c0_i32_1 : BitVec 32 := 0#32
  let v5 : BitVec 1 := Scalar.cmpi .sgt arg2 c0_i32_1
  let v6 : BitVec 32 := Scalar.extui v5
  let c0_i32_2 : BitVec 32 := 0#32
  let v7 : BitVec 1 := Scalar.cmpi .ne v6 c0_i32_2
  v7

def k0_cond5 (i : grid0.Coords) : BitVec 1 :=
  let arg1 : BitVec 32 := BitVec.ofNat 32 (i 1).val
  let c0_i32_6 : BitVec 32 := 0#32
  let v12 : BitVec 1 := Scalar.cmpi .eq arg1 c0_i32_6
  let v13 : BitVec 32 := Scalar.extui v12
  let c0_i32_7 : BitVec 32 := 0#32
  let v14 : BitVec 1 := Scalar.cmpi .ne v13 c0_i32_7
  v14

def k0_off3 (i : grid0.Coords) : Fin 2 → Nat :=
  let arg2 : BitVec 32 := BitVec.ofNat 32 (i 2).val
  let c1024_i32 : BitVec 32 := 1024#32
  let v0 : BitVec 32 := Scalar.muli arg2 c1024_i32
  let v1 : BitVec 32 := v0
  let v18 : Index := Scalar.indexCast v1
  let c0_10 : Index := 0#32
  ![v18.toNat, 0]
def k0_cond6 (i : grid0.Coords) : BitVec 1 :=
  let arg1 : BitVec 32 := BitVec.ofNat 32 (i 1).val
  let c0_i32_8 : BitVec 32 := 0#32
  let v15 : BitVec 1 := Scalar.cmpi .sgt arg1 c0_i32_8
  let v16 : BitVec 32 := Scalar.extui v15
  let c0_i32_9 : BitVec 32 := 0#32
  let v17 : BitVec 1 := Scalar.cmpi .ne v16 c0_i32_9
  v17

def k0_off4 (i : grid0.Coords) : Fin 2 → Nat :=
  let arg2 : BitVec 32 := BitVec.ofNat 32 (i 2).val
  let c1024_i32 : BitVec 32 := 1024#32
  let v0 : BitVec 32 := Scalar.muli arg2 c1024_i32
  let v1 : BitVec 32 := v0
  let v18 : Index := Scalar.indexCast v1
  let c0_10 : Index := 0#32
  ![v18.toNat, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 1 → Memref sig .tc .vmem S6144x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false, false]
-- ==== Reference4Ideal.lean ====
abbrev S6144x16384 : Shape := ⟨2, ![6144, 16384]⟩
abbrev S1x16384x4096 : Shape := ⟨3, ![1, 16384, 4096]⟩
abbrev S16384x4096 : Shape := ⟨2, ![16384, 4096]⟩
abbrev S6144x4096 : Shape := ⟨2, ![6144, 4096]⟩

abbrev nBuf : Space → Nat
  | .hbm => 4
  | .vmem => 0
  | .smem => 0
  | _ => 0

abbrev bufTy : (tb : Table) → Fin (tcTables nBuf tb) → BufTy
  | .hbm, ⟨0, _⟩ => ⟨S6144x16384, .f32⟩
  | .hbm, ⟨1, _⟩ => ⟨S1x16384x4096, .f32⟩
  | .hbm, ⟨2, _⟩ => ⟨S16384x4096, .f32⟩
  | .hbm, ⟨3, _⟩ => ⟨S6144x4096, .f32⟩
  | _, _ => ⟨S6144x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel5.lean ====
abbrev S6144x4096 : Shape := ⟨2, ![6144, 4096]⟩
abbrev S1x4096x4096 : Shape := ⟨3, ![1, 4096, 4096]⟩
abbrev S4096x4096 : Shape := ⟨2, ![4096, 4096]⟩
abbrev S4096x512 : Shape := ⟨2, ![4096, 512]⟩
abbrev S1024x512 : Shape := ⟨2, ![1024, 512]⟩
abbrev S3x1024x4096 : Shape := ⟨3, ![3, 1024, 4096]⟩
abbrev S3 : Shape := ⟨1, ![3]⟩
abbrev S1 : Shape := ⟨1, ![1]⟩
abbrev S_ : Shape := ⟨0, ![]⟩
abbrev S1x1024x4096 : Shape := ⟨3, ![1, 1024, 4096]⟩
abbrev S1024x4096 : Shape := ⟨2, ![1024, 4096]⟩
abbrev S512x512 : Shape := ⟨2, ![512, 512]⟩
abbrev S1x1024x512 : Shape := ⟨3, ![1, 1024, 512]⟩

abbrev nBuf : Space → Nat
  | .hbm => 5
  | .vmem => 6
  | .smem => 0
  | _ => 0

abbrev bufTy : (tb : Table) → Fin (tcTables nBuf tb) → BufTy
  | .hbm, ⟨0, _⟩ => ⟨S6144x4096, .f32⟩
  | .hbm, ⟨1, _⟩ => ⟨S1x4096x4096, .f32⟩
  | .hbm, ⟨2, _⟩ => ⟨S6144x4096, .bf16⟩
  | .hbm, ⟨3, _⟩ => ⟨S4096x4096, .f32⟩
  | .hbm, ⟨4, _⟩ => ⟨S6144x4096, .f32⟩
  | .local _ .vmem, ⟨0, _⟩ => ⟨S4096x512, .f32⟩
  | .local _ .vmem, ⟨1, _⟩ => ⟨S4096x512, .f32⟩
  | .local _ .vmem, ⟨2, _⟩ => ⟨S1024x512, .f32⟩
  | .local _ .vmem, ⟨3, _⟩ => ⟨S1024x512, .f32⟩
  | .local _ .vmem, ⟨4, _⟩ => ⟨S4096x512, .bf16⟩
  | .local _ .vmem, ⟨5, _⟩ => ⟨S3x1024x4096, .bf16⟩
  | _, _ => ⟨S6144x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_scratch1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![8, 6], ![false, false]⟩

def k0_cond1 (i : grid0.Coords) : BitVec 1 :=
  let arg0 : BitVec 32 := BitVec.ofNat 32 (i 0).val
  let c6_i32 : BitVec 32 := 6#32
  let v0 : BitVec 32 := Scalar.muli arg0 c6_i32
  let arg1 : BitVec 32 := BitVec.ofNat 32 (i 1).val
  let v1 : BitVec 32 := Scalar.addi v0 arg1
  let c0_i32 : BitVec 32 := 0#32
  let v2 : BitVec 1 := Scalar.cmpi .eq v1 c0_i32
  let v3 : BitVec 32 := Scalar.extui v2
  let c0_i32_0 : BitVec 32 := 0#32
  let v4 : BitVec 1 := Scalar.cmpi .ne v3 c0_i32_0
  v4

def k0_mult1 : BitVec 32 :=
  let c0_i32_19 : BitVec 32 := 0#32
  c0_i32_19
def k0_mult2 : BitVec 32 :=
  let c1024_i32_25 : BitVec 32 := 1024#32
  c1024_i32_25
def k0_cond2 (i : grid0.Coords) : BitVec 1 :=
  let arg0 : BitVec 32 := BitVec.ofNat 32 (i 0).val
  let c6_i32 : BitVec 32 := 6#32
  let v0 : BitVec 32 := Scalar.muli arg0 c6_i32
  let arg1 : BitVec 32 := BitVec.ofNat 32 (i 1).val
  let v1 : BitVec 32 := Scalar.addi v0 arg1
  let c2_i32 : BitVec 32 := 2#32
  let v5 : BitVec 32 := Scalar.addi v1 c2_i32
  let c48_i32 : BitVec 32 := 48#32
  let v6 : BitVec 1 := Scalar.cmpi .slt v5 c48_i32
  let v7 : BitVec 32 := Scalar.extui v6
  let c0_i32_1 : BitVec 32 := 0#32
  let v8 : BitVec 1 := Scalar.cmpi .ne v7 c0_i32_1
  v8

def k0_mult3 (i : grid0.Coords) : BitVec 32 :=
  let arg0 : BitVec 32 := BitVec.ofNat 32 (i 0).val
  let c6_i32 : BitVec 32 := 6#32
  let v0 : BitVec 32 := Scalar.muli arg0 c6_i32
  let arg1 : BitVec 32 := BitVec.ofNat 32 (i 1).val
  let v1 : BitVec 32 := Scalar.addi v0 arg1
  let c2_i32_19 : BitVec 32 := 2#32
  let v42 : BitVec 32 := Scalar.addi v1 c2_i32_19
  let c6_i32_27 : BitVec 32 := 6#32
  let c0_i32_28 : BitVec 32 := 0#32
  let v54 : BitVec 1 := Scalar.cmpi .eq c6_i32_27 c0_i32_28
  let c1_i32_29 : BitVec 32 := 1#32
  let v55 : BitVec 32 := Scalar.select v54 c1_i32_29 c6_i32_27
  let v56 : BitVec 32 := Scalar.remsi v42 v55
  let c0_i32_31 : BitVec 32 := 0#32
  let v58 : BitVec 1 := Scalar.cmpi .slt v56 c0_i32_31
  let c0_i32_32 : BitVec 32 := 0#32
  let v59 : BitVec 1 := Scalar.cmpi .slt v55 c0_i32_32
  let v60 : BitVec 1 := Scalar.xori v58 v59
  let c0_i32_30 : BitVec 32 := 0#32
  let v57 : BitVec 1 := Scalar.cmpi .ne v56 c0_i32_30
  let v61 : BitVec 1 := Scalar.andi v60 v57
  let v62 : BitVec 32 := Scalar.addi v56 v55
  let v63 : BitVec 32 := Scalar.select v61 v62 v56
  let c1024_i32_33 : BitVec 32 := 1024#32
  let v64 : BitVec 32 := Scalar.muli v63 c1024_i32_33
  v64
def k0_off1 (i : grid0.Coords) : Fin 1 → Nat :=
  let arg0 : BitVec 32 := BitVec.ofNat 32 (i 0).val
  let c6_i32 : BitVec 32 := 6#32
  let v0 : BitVec 32 := Scalar.muli arg0 c6_i32
  let arg1 : BitVec 32 := BitVec.ofNat 32 (i 1).val
  let v1 : BitVec 32 := Scalar.addi v0 arg1
  let c2_i32_20 : BitVec 32 := 2#32
  let v43 : BitVec 32 := Scalar.addi v1 c2_i32_20
  let c3_i32_21 : BitVec 32 := 3#32
  let c0_i32_22 : BitVec 32 := 0#32
  let v44 : BitVec 1 := Scalar.cmpi .eq c3_i32_21 c0_i32_22
  let c1_i32_23 : BitVec 32 := 1#32
  let v45 : BitVec 32 := Scalar.select v44 c1_i32_23 c3_i32_21
  let v46 : BitVec 32 := Scalar.remsi v43 v45
  let c0_i32_25 : BitVec 32 := 0#32
  let v48 : BitVec 1 := Scalar.cmpi .slt v46 c0_i32_25
  let c0_i32_26 : BitVec 32 := 0#32
  let v49 : BitVec 1 := Scalar.cmpi .slt v45 c0_i32_26
  let v50 : BitVec 1 := Scalar.xori v48 v49
  let c0_i32_24 : BitVec 32 := 0#32
  let v47 : BitVec 1 := Scalar.cmpi .ne v46 c0_i32_24
  let v51 : BitVec 1 := Scalar.andi v50 v47
  let v52 : BitVec 32 := Scalar.addi v46 v45
  let v53 : BitVec 32 := Scalar.select v51 v52 v46
  ![v53.toNat]
def k0_off2 (i : grid0.Coords) : Fin 3 → Nat :=
  let arg0 : BitVec 32 := BitVec.ofNat 32 (i 0).val
  let c6_i32 : BitVec 32 := 6#32
  let v0 : BitVec 32 := Scalar.muli arg0 c6_i32
  let arg1 : BitVec 32 := BitVec.ofNat 32 (i 1).val
  let v1 : BitVec 32 := Scalar.addi v0 arg1
  let c2_i32_20 : BitVec 32 := 2#32
  let v43 : BitVec 32 := Scalar.addi v1 c2_i32_20
  let c3_i32_21 : BitVec 32 := 3#32
  let c0_i32_22 : BitVec 32 := 0#32
  let v44 : BitVec 1 := Scalar.cmpi .eq c3_i32_21 c0_i32_22
  let c1_i32_23 : BitVec 32 := 1#32
  let v45 : BitVec 32 := Scalar.select v44 c1_i32_23 c3_i32_21
  let v46 : BitVec 32 := Scalar.remsi v43 v45
  let c0_i32_25 : BitVec 32 := 0#32
  let v48 : BitVec 1 := Scalar.cmpi .slt v46 c0_i32_25
  let c0_i32_26 : BitVec 32 := 0#32
  let v49 : BitVec 1 := Scalar.cmpi .slt v45 c0_i32_26
  let v50 : BitVec 1 := Scalar.xori v48 v49
  let c0_i32_24 : BitVec 32 := 0#32
  let v47 : BitVec 1 := Scalar.cmpi .ne v46 c0_i32_24
  let v51 : BitVec 1 := Scalar.andi v50 v47
  let v52 : BitVec 32 := Scalar.addi v46 v45
  let v53 : BitVec 32 := Scalar.select v51 v52 v46
  let c0_i32_34 : BitVec 32 := 0#32
  let c0_i32_35 : BitVec 32 := 0#32
  ![v53.toNat, 0, 0]
def k0_off3 (i : grid0.Coords) : Fin 2 → Nat :=
  let arg0 : BitVec 32 := BitVec.ofNat 32 (i 0).val
  let c6_i32 : BitVec 32 := 6#32
  let v0 : BitVec 32 := Scalar.muli arg0 c6_i32
  let arg1 : BitVec 32 := BitVec.ofNat 32 (i 1).val
  let v1 : BitVec 32 := Scalar.addi v0 arg1
  let c2_i32_19 : BitVec 32 := 2#32
  let v42 : BitVec 32 := Scalar.addi v1 c2_i32_19
  let c6_i32_27 : BitVec 32 := 6#32
  let c0_i32_28 : BitVec 32 := 0#32
  let v54 : BitVec 1 := Scalar.cmpi .eq c6_i32_27 c0_i32_28
  let c1_i32_29 : BitVec 32 := 1#32
  let v55 : BitVec 32 := Scalar.select v54 c1_i32_29 c6_i32_27
  let v56 : BitVec 32 := Scalar.remsi v42 v55
  let c0_i32_31 : BitVec 32 := 0#32
  let v58 : BitVec 1 := Scalar.cmpi .slt v56 c0_i32_31
  let c0_i32_32 : BitVec 32 := 0#32
  let v59 : BitVec 1 := Scalar.cmpi .slt v55 c0_i32_32
  let v60 : BitVec 1 := Scalar.xori v58 v59
  let c0_i32_30 : BitVec 32 := 0#32
  let v57 : BitVec 1 := Scalar.cmpi .ne v56 c0_i32_30
  let v61 : BitVec 1 := Scalar.andi v60 v57
  let v62 : BitVec 32 := Scalar.addi v56 v55
  let v63 : BitVec 32 := Scalar.select v61 v62 v56
  let c1024_i32_33 : BitVec 32 := 1024#32
  let v64 : BitVec 32 := Scalar.muli v63 c1024_i32_33
  let v65 : BitVec 32 := v64
  let c0_i32_36 : BitVec 32 := 0#32
  ![v65.toNat, 0]
def k0_mult4 (i : grid0.Coords) : BitVec 32 :=
  let arg0 : BitVec 32 := BitVec.ofNat 32 (i 0).val
  let c6_i32 : BitVec 32 := 6#32
  let v0 : BitVec 32 := Scalar.muli arg0 c6_i32
  let arg1 : BitVec 32 := BitVec.ofNat 32 (i 1).val
  let v1 : BitVec 32 := Scalar.addi v0 arg1
  let c6_i32_6 : BitVec 32 := 6#32
  let c0_i32_7 : BitVec 32 := 0#32
  let v19 : BitVec 1 := Scalar.cmpi .eq c6_i32_6 c0_i32_7
  let c1_i32_8 : BitVec 32 := 1#32
  let v20 : BitVec 32 := Scalar.select v19 c1_i32_8 c6_i32_6
  let v21 : BitVec 32 := Scalar.remsi v1 v20
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let c0_i32_9 : BitVec 32 := 0#32
  let v22 : BitVec 1 := Scalar.cmpi .ne v21 c0_i32_9
  let v26 : BitVec 1 := Scalar.andi v25 v22
  let v27 : BitVec 32 := Scalar.addi v21 v20
  let v28 : BitVec 32 := Scalar.select v26 v27 v21
  let c1024_i32 : BitVec 32 := 1024#32
  let v29 : BitVec 32 := Scalar.muli v28 c1024_i32
  v29
def k0_off4 (i : grid0.Coords) : Fin 1 → Nat :=
  let arg0 : BitVec 32 := BitVec.ofNat 32 (i 0).val
  let c6_i32 : BitVec 32 := 6#32
  let v0 : BitVec 32 := Scalar.muli arg0 c6_i32
  let arg1 : BitVec 32 := BitVec.ofNat 32 (i 1).val
  let v1 : BitVec 32 := Scalar.addi v0 arg1
  let c3_i32 : BitVec 32 := 3#32
  let c0_i32_2 : BitVec 32 := 0#32
  let v9 : BitVec 1 := Scalar.cmpi .eq c3_i32 c0_i32_2
  let c1_i32 : BitVec 32 := 1#32
  let v10 : BitVec 32 := Scalar.select v9 c1_i32 c3_i32
  let v11 : BitVec 32 := Scalar.remsi v1 v10
  let c0_i32_4 : BitVec 32 := 0#32
  let v13 : BitVec 1 := Scalar.cmpi .slt v11 c0_i32_4
  let c0_i32_5 : BitVec 32 := 0#32
  let v14 : BitVec 1 := Scalar.cmpi .slt v10 c0_i32_5
  let v15 : BitVec 1 := Scalar.xori v13 v14
  let c0_i32_3 : BitVec 32 := 0#32
  let v12 : BitVec 1 := Scalar.cmpi .ne v11 c0_i32_3
  let v16 : BitVec 1 := Scalar.andi v15 v12
  let v17 : BitVec 32 := Scalar.addi v11 v10
  let v18 : BitVec 32 := Scalar.select v16 v17 v11
  ![v18.toNat]
def k0_off5 (i : grid0.Coords) : Fin 3 → Nat :=
  let arg0 : BitVec 32 := BitVec.ofNat 32 (i 0).val
  let c6_i32 : BitVec 32 := 6#32
  let v0 : BitVec 32 := Scalar.muli arg0 c6_i32
  let arg1 : BitVec 32 := BitVec.ofNat 32 (i 1).val
  let v1 : BitVec 32 := Scalar.addi v0 arg1
  let c3_i32 : BitVec 32 := 3#32
  let c0_i32_2 : BitVec 32 := 0#32
  let v9 : BitVec 1 := Scalar.cmpi .eq c3_i32 c0_i32_2
  let c1_i32 : BitVec 32 := 1#32
  let v10 : BitVec 32 := Scalar.select v9 c1_i32 c3_i32
  let v11 : BitVec 32 := Scalar.remsi v1 v10
  let c0_i32_4 : BitVec 32 := 0#32
  let v13 : BitVec 1 := Scalar.cmpi .slt v11 c0_i32_4
  let c0_i32_5 : BitVec 32 := 0#32
  let v14 : BitVec 1 := Scalar.cmpi .slt v10 c0_i32_5
  let v15 : BitVec 1 := Scalar.xori v13 v14
  let c0_i32_3 : BitVec 32 := 0#32
  let v12 : BitVec 1 := Scalar.cmpi .ne v11 c0_i32_3
  let v16 : BitVec 1 := Scalar.andi v15 v12
  let v17 : BitVec 32 := Scalar.addi v11 v10
  let v18 : BitVec 32 := Scalar.select v16 v17 v11
  let c0_i32_12 : BitVec 32 := 0#32
  let c0_i32_13 : BitVec 32 := 0#32
  ![v18.toNat, 0, 0]
def k0_off6 (i : grid0.Coords) : Fin 2 → Nat :=
  let arg0 : BitVec 32 := BitVec.ofNat 32 (i 0).val
  let c6_i32 : BitVec 32 := 6#32
  let v0 : BitVec 32 := Scalar.muli arg0 c6_i32
  let arg1 : BitVec 32 := BitVec.ofNat 32 (i 1).val
  let v1 : BitVec 32 := Scalar.addi v0 arg1
  let c6_i32_6 : BitVec 32 := 6#32
  let c0_i32_7 : BitVec 32 := 0#32
  let v19 : BitVec 1 := Scalar.cmpi .eq c6_i32_6 c0_i32_7
  let c1_i32_8 : BitVec 32 := 1#32
  let v20 : BitVec 32 := Scalar.select v19 c1_i32_8 c6_i32_6
  let v21 : BitVec 32 := Scalar.remsi v1 v20
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let c0_i32_9 : BitVec 32 := 0#32
  let v22 : BitVec 1 := Scalar.cmpi .ne v21 c0_i32_9
  let v26 : BitVec 1 := Scalar.andi v25 v22
  let v27 : BitVec 32 := Scalar.addi v21 v20
  let v28 : BitVec 32 := Scalar.select v26 v27 v21
  let c1024_i32 : BitVec 32 := 1024#32
  let v29 : BitVec 32 := Scalar.muli v28 c1024_i32
  let v30 : BitVec 32 := v29
  let c0_i32_14 : BitVec 32 := 0#32
  ![v30.toNat, 0]
def k0_cond3 (i : grid0.Coords) : BitVec 1 :=
  let arg1 : BitVec 32 := BitVec.ofNat 32 (i 1).val
  let c0_i32_15 : BitVec 32 := 0#32
  let v36 : BitVec 1 := Scalar.cmpi .eq arg1 c0_i32_15
  let v37 : BitVec 32 := Scalar.extui v36
  let c0_i32_16 : BitVec 32 := 0#32
  let v38 : BitVec 1 := Scalar.cmpi .ne v37 c0_i32_16
  v38

def k0_off7 (i : grid0.Coords) : Fin 3 → Nat :=
  let arg0 : BitVec 32 := BitVec.ofNat 32 (i 0).val
  let c6_i32 : BitVec 32 := 6#32
  let v0 : BitVec 32 := Scalar.muli arg0 c6_i32
  let arg1 : BitVec 32 := BitVec.ofNat 32 (i 1).val
  let v1 : BitVec 32 := Scalar.addi v0 arg1
  let c3_i32 : BitVec 32 := 3#32
  let c0_i32_2 : BitVec 32 := 0#32
  let v9 : BitVec 1 := Scalar.cmpi .eq c3_i32 c0_i32_2
  let c1_i32 : BitVec 32 := 1#32
  let v10 : BitVec 32 := Scalar.select v9 c1_i32 c3_i32
  let v11 : BitVec 32 := Scalar.remsi v1 v10
  let c0_i32_4 : BitVec 32 := 0#32
  let v13 : BitVec 1 := Scalar.cmpi .slt v11 c0_i32_4
  let c0_i32_5 : BitVec 32 := 0#32
  let v14 : BitVec 1 := Scalar.cmpi .slt v10 c0_i32_5
  let v15 : BitVec 1 := Scalar.xori v13 v14
  let c0_i32_3 : BitVec 32 := 0#32
  let v12 : BitVec 1 := Scalar.cmpi .ne v11 c0_i32_3
  let v16 : BitVec 1 := Scalar.andi v15 v12
  let v17 : BitVec 32 := Scalar.addi v11 v10
  let v18 : BitVec 32 := Scalar.select v16 v17 v11
  let v48 : Index := Scalar.indexCast v18
  let c0_22 : Index := 0#32
  let c0_23 : Index := 0#32
  ![v48.toNat, 0, 0]
def k0_off8 (i : grid0.Coords) : Fin 3 → Nat :=
  let arg0 : BitVec 32 := BitVec.ofNat 32 (i 0).val
  let c6_i32 : BitVec 32 := 6#32
  let v0 : BitVec 32 := Scalar.muli arg0 c6_i32
  let arg1 : BitVec 32 := BitVec.ofNat 32 (i 1).val
  let v1 : BitVec 32 := Scalar.addi v0 arg1
  let c3_i32 : BitVec 32 := 3#32
  let c0_i32_2 : BitVec 32 := 0#32
  let v9 : BitVec 1 := Scalar.cmpi .eq c3_i32 c0_i32_2
  let c1_i32 : BitVec 32 := 1#32
  let v10 : BitVec 32 := Scalar.select v9 c1_i32 c3_i32
  let v11 : BitVec 32 := Scalar.remsi v1 v10
  let c0_i32_4 : BitVec 32 := 0#32
  let v13 : BitVec 1 := Scalar.cmpi .slt v11 c0_i32_4
  let c0_i32_5 : BitVec 32 := 0#32
  let v14 : BitVec 1 := Scalar.cmpi .slt v10 c0_i32_5
  let v15 : BitVec 1 := Scalar.xori v13 v14
  let c0_i32_3 : BitVec 32 := 0#32
  let v12 : BitVec 1 := Scalar.cmpi .ne v11 c0_i32_3
  let v16 : BitVec 1 := Scalar.andi v15 v12
  let v17 : BitVec 32 := Scalar.addi v11 v10
  let v18 : BitVec 32 := Scalar.select v16 v17 v11
  let v58 : Index := Scalar.indexCast v18
  let c0_27 : Index := 0#32
  let c512_28 : Index := 512#32
  ![v58.toNat, 0, 512]
def k0_off9 (i : grid0.Coords) : Fin 3 → Nat :=
  let arg0 : BitVec 32 := BitVec.ofNat 32 (i 0).val
  let c6_i32 : BitVec 32 := 6#32
  let v0 : BitVec 32 := Scalar.muli arg0 c6_i32
  let arg1 : BitVec 32 := BitVec.ofNat 32 (i 1).val
  let v1 : BitVec 32 := Scalar.addi v0 arg1
  let c3_i32 : BitVec 32 := 3#32
  let c0_i32_2 : BitVec 32 := 0#32
  let v9 : BitVec 1 := Scalar.cmpi .eq c3_i32 c0_i32_2
  let c1_i32 : BitVec 32 := 1#32
  let v10 : BitVec 32 := Scalar.select v9 c1_i32 c3_i32
  let v11 : BitVec 32 := Scalar.remsi v1 v10
  let c0_i32_4 : BitVec 32 := 0#32
  let v13 : BitVec 1 := Scalar.cmpi .slt v11 c0_i32_4
  let c0_i32_5 : BitVec 32 := 0#32
  let v14 : BitVec 1 := Scalar.cmpi .slt v10 c0_i32_5
  let v15 : BitVec 1 := Scalar.xori v13 v14
  let c0_i32_3 : BitVec 32 := 0#32
  let v12 : BitVec 1 := Scalar.cmpi .ne v11 c0_i32_3
  let v16 : BitVec 1 := Scalar.andi v15 v12
  let v17 : BitVec 32 := Scalar.addi v11 v10
  let v18 : BitVec 32 := Scalar.select v16 v17 v11
  let v69 : Index := Scalar.indexCast v18
  let c0_33 : Index := 0#32
  let c1024_34 : Index := 1024#32
  ![v69.toNat, 0, 1024]
def k0_off10 (i : grid0.Coords) : Fin 3 → Nat :=
  let arg0 : BitVec 32 := BitVec.ofNat 32 (i 0).val
  let c6_i32 : BitVec 32 := 6#32
  let v0 : BitVec 32 := Scalar.muli arg0 c6_i32
  let arg1 : BitVec 32 := BitVec.ofNat 32 (i 1).val
  let v1 : BitVec 32 := Scalar.addi v0 arg1
  let c3_i32 : BitVec 32 := 3#32
  let c0_i32_2 : BitVec 32 := 0#32
  let v9 : BitVec 1 := Scalar.cmpi .eq c3_i32 c0_i32_2
  let c1_i32 : BitVec 32 := 1#32
  let v10 : BitVec 32 := Scalar.select v9 c1_i32 c3_i32
  let v11 : BitVec 32 := Scalar.remsi v1 v10
  let c0_i32_4 : BitVec 32 := 0#32
  let v13 : BitVec 1 := Scalar.cmpi .slt v11 c0_i32_4
  let c0_i32_5 : BitVec 32 := 0#32
  let v14 : BitVec 1 := Scalar.cmpi .slt v10 c0_i32_5
  let v15 : BitVec 1 := Scalar.xori v13 v14
  let c0_i32_3 : BitVec 32 := 0#32
  let v12 : BitVec 1 := Scalar.cmpi .ne v11 c0_i32_3
  let v16 : BitVec 1 := Scalar.andi v15 v12
  let v17 : BitVec 32 := Scalar.addi v11 v10
  let v18 : BitVec 32 := Scalar.select v16 v17 v11
  let v80 : Index := Scalar.indexCast v18
  let c0_39 : Index := 0#32
  let c1536_40 : Index := 1536#32
  ![v80.toNat, 0, 1536]
def k0_off11 (i : grid0.Coords) : Fin 3 → Nat :=
  let arg0 : BitVec 32 := BitVec.ofNat 32 (i 0).val
  let c6_i32 : BitVec 32 := 6#32
  let v0 : BitVec 32 := Scalar.muli arg0 c6_i32
  let arg1 : BitVec 32 := BitVec.ofNat 32 (i 1).val
  let v1 : BitVec 32 := Scalar.addi v0 arg1
  let c3_i32 : BitVec 32 := 3#32
  let c0_i32_2 : BitVec 32 := 0#32
  let v9 : BitVec 1 := Scalar.cmpi .eq c3_i32 c0_i32_2
  let c1_i32 : BitVec 32 := 1#32
  let v10 : BitVec 32 := Scalar.select v9 c1_i32 c3_i32
  let v11 : BitVec 32 := Scalar.remsi v1 v10
  let c0_i32_4 : BitVec 32 := 0#32
  let v13 : BitVec 1 := Scalar.cmpi .slt v11 c0_i32_4
  let c0_i32_5 : BitVec 32 := 0#32
  let v14 : BitVec 1 := Scalar.cmpi .slt v10 c0_i32_5
  let v15 : BitVec 1 := Scalar.xori v13 v14
  let c0_i32_3 : BitVec 32 := 0#32
  let v12 : BitVec 1 := Scalar.cmpi .ne v11 c0_i32_3
  let v16 : BitVec 1 := Scalar.andi v15 v12
  let v17 : BitVec 32 := Scalar.addi v11 v10
  let v18 : BitVec 32 := Scalar.select v16 v17 v11
  let v91 : Index := Scalar.indexCast v18
  let c0_45 : Index := 0#32
  let c2048_46 : Index := 2048#32
  ![v91.toNat, 0, 2048]
def k0_off12 (i : grid0.Coords) : Fin 3 → Nat :=
  let arg0 : BitVec 32 := BitVec.ofNat 32 (i 0).val
  let c6_i32 : BitVec 32 := 6#32
  let v0 : BitVec 32 := Scalar.muli arg0 c6_i32
  let arg1 : BitVec 32 := BitVec.ofNat 32 (i 1).val
  let v1 : BitVec 32 := Scalar.addi v0 arg1
  let c3_i32 : BitVec 32 := 3#32
  let c0_i32_2 : BitVec 32 := 0#32
  let v9 : BitVec 1 := Scalar.cmpi .eq c3_i32 c0_i32_2
  let c1_i32 : BitVec 32 := 1#32
  let v10 : BitVec 32 := Scalar.select v9 c1_i32 c3_i32
  let v11 : BitVec 32 := Scalar.remsi v1 v10
  let c0_i32_4 : BitVec 32 := 0#32
  let v13 : BitVec 1 := Scalar.cmpi .slt v11 c0_i32_4
  let c0_i32_5 : BitVec 32 := 0#32
  let v14 : BitVec 1 := Scalar.cmpi .slt v10 c0_i32_5
  let v15 : BitVec 1 := Scalar.xori v13 v14
  let c0_i32_3 : BitVec 32 := 0#32
  let v12 : BitVec 1 := Scalar.cmpi .ne v11 c0_i32_3
  let v16 : BitVec 1 := Scalar.andi v15 v12
  let v17 : BitVec 32 := Scalar.addi v11 v10
  let v18 : BitVec 32 := Scalar.select v16 v17 v11
  let v102 : Index := Scalar.indexCast v18
  let c0_51 : Index := 0#32
  let c2560_52 : Index := 2560#32
  ![v102.toNat, 0, 2560]
def k0_off13 (i : grid0.Coords) : Fin 3 → Nat :=
  let arg0 : BitVec 32 := BitVec.ofNat 32 (i 0).val
  let c6_i32 : BitVec 32 := 6#32
  let v0 : BitVec 32 := Scalar.muli arg0 c6_i32
  let arg1 : BitVec 32 := BitVec.ofNat 32 (i 1).val
  let v1 : BitVec 32 := Scalar.addi v0 arg1
  let c3_i32 : BitVec 32 := 3#32
  let c0_i32_2 : BitVec 32 := 0#32
  let v9 : BitVec 1 := Scalar.cmpi .eq c3_i32 c0_i32_2
  let c1_i32 : BitVec 32 := 1#32
  let v10 : BitVec 32 := Scalar.select v9 c1_i32 c3_i32
  let v11 : BitVec 32 := Scalar.remsi v1 v10
  let c0_i32_4 : BitVec 32 := 0#32
  let v13 : BitVec 1 := Scalar.cmpi .slt v11 c0_i32_4
  let c0_i32_5 : BitVec 32 := 0#32
  let v14 : BitVec 1 := Scalar.cmpi .slt v10 c0_i32_5
  let v15 : BitVec 1 := Scalar.xori v13 v14
  let c0_i32_3 : BitVec 32 := 0#32
  let v12 : BitVec 1 := Scalar.cmpi .ne v11 c0_i32_3
  let v16 : BitVec 1 := Scalar.andi v15 v12
  let v17 : BitVec 32 := Scalar.addi v11 v10
  let v18 : BitVec 32 := Scalar.select v16 v17 v11
  let v113 : Index := Scalar.indexCast v18
  let c0_57 : Index := 0#32
  let c3072_58 : Index := 3072#32
  ![v113.toNat, 0, 3072]
def k0_off14 (i : grid0.Coords) : Fin 3 → Nat :=
  let arg0 : BitVec 32 := BitVec.ofNat 32 (i 0).val
  let c6_i32 : BitVec 32 := 6#32
  let v0 : BitVec 32 := Scalar.muli arg0 c6_i32
  let arg1 : BitVec 32 := BitVec.ofNat 32 (i 1).val
  let v1 : BitVec 32 := Scalar.addi v0 arg1
  let c3_i32 : BitVec 32 := 3#32
  let c0_i32_2 : BitVec 32 := 0#32
  let v9 : BitVec 1 := Scalar.cmpi .eq c3_i32 c0_i32_2
  let c1_i32 : BitVec 32 := 1#32
  let v10 : BitVec 32 := Scalar.select v9 c1_i32 c3_i32
  let v11 : BitVec 32 := Scalar.remsi v1 v10
  let c0_i32_4 : BitVec 32 := 0#32
  let v13 : BitVec 1 := Scalar.cmpi .slt v11 c0_i32_4
  let c0_i32_5 : BitVec 32 := 0#32
  let v14 : BitVec 1 := Scalar.cmpi .slt v10 c0_i32_5
  let v15 : BitVec 1 := Scalar.xori v13 v14
  let c0_i32_3 : BitVec 32 := 0#32
  let v12 : BitVec 1 := Scalar.cmpi .ne v11 c0_i32_3
  let v16 : BitVec 1 := Scalar.andi v15 v12
  let v17 : BitVec 32 := Scalar.addi v11 v10
  let v18 : BitVec 32 := Scalar.select v16 v17 v11
  let v124 : Index := Scalar.indexCast v18
  let c0_63 : Index := 0#32
  let c3584_64 : Index := 3584#32
  ![v124.toNat, 0, 3584]
def k0_cond4 (i : grid0.Coords) : BitVec 1 :=
  let arg1 : BitVec 32 := BitVec.ofNat 32 (i 1).val
  let c0_i32_17 : BitVec 32 := 0#32
  let v39 : BitVec 1 := Scalar.cmpi .sgt arg1 c0_i32_17
  let v40 : BitVec 32 := Scalar.extui v39
  let c0_i32_18 : BitVec 32 := 0#32
  let v41 : BitVec 1 := Scalar.cmpi .ne v40 c0_i32_18
  v41

def k0_off15 (i : grid0.Coords) : Fin 3 → Nat :=
  let arg0 : BitVec 32 := BitVec.ofNat 32 (i 0).val
  let c6_i32 : BitVec 32 := 6#32
  let v0 : BitVec 32 := Scalar.muli arg0 c6_i32
  let arg1 : BitVec 32 := BitVec.ofNat 32 (i 1).val
  let v1 : BitVec 32 := Scalar.addi v0 arg1
  let c3_i32 : BitVec 32 := 3#32
  let c0_i32_2 : BitVec 32 := 0#32
  let v9 : BitVec 1 := Scalar.cmpi .eq c3_i32 c0_i32_2
  let c1_i32 : BitVec 32 := 1#32
  let v10 : BitVec 32 := Scalar.select v9 c1_i32 c3_i32
  let v11 : BitVec 32 := Scalar.remsi v1 v10
  let c0_i32_4 : BitVec 32 := 0#32
  let v13 : BitVec 1 := Scalar.cmpi .slt v11 c0_i32_4
  let c0_i32_5 : BitVec 32 := 0#32
  let v14 : BitVec 1 := Scalar.cmpi .slt v10 c0_i32_5
  let v15 : BitVec 1 := Scalar.xori v13 v14
  let c0_i32_3 : BitVec 32 := 0#32
  let v12 : BitVec 1 := Scalar.cmpi .ne v11 c0_i32_3
  let v16 : BitVec 1 := Scalar.andi v15 v12
  let v17 : BitVec 32 := Scalar.addi v11 v10
  let v18 : BitVec 32 := Scalar.select v16 v17 v11
  let v42 : Index := Scalar.indexCast v18
  let c0 : Index := 0#32
  let c0_19 : Index := 0#32
  ![v42.toNat, 0, 0]
def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S4096x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]
-- ==== Reference5Ideal.lean ====
abbrev S6144x4096 : Shape := ⟨2, ![6144, 4096]⟩
abbrev S1x4096x4096 : Shape := ⟨3, ![1, 4096, 4096]⟩
abbrev S4096x4096 : Shape := ⟨2, ![4096, 4096]⟩

abbrev nBuf : Space → Nat
  | .hbm => 4
  | .vmem => 0
  | .smem => 0
  | _ => 0

abbrev bufTy : (tb : Table) → Fin (tcTables nBuf tb) → BufTy
  | .hbm, ⟨0, _⟩ => ⟨S6144x4096, .f32⟩
  | .hbm, ⟨1, _⟩ => ⟨S1x4096x4096, .f32⟩
  | .hbm, ⟨2, _⟩ => ⟨S4096x4096, .f32⟩
  | .hbm, ⟨3, _⟩ => ⟨S6144x4096, .f32⟩
  | _, _ => ⟨S6144x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel6.lean ====
abbrev S4096x2048 : Shape := ⟨2, ![4096, 2048]⟩
abbrev S2048x2048 : Shape := ⟨2, ![2048, 2048]⟩
abbrev S1x2048x4096 : Shape := ⟨3, ![1, 2048, 4096]⟩
abbrev S6144x2x4096 : Shape := ⟨3, ![6144, 2, 4096]⟩
abbrev S2048x4096 : Shape := ⟨2, ![2048, 4096]⟩
abbrev S6144x8192 : Shape := ⟨2, ![6144, 8192]⟩
abbrev S6144x4096 : Shape := ⟨2, ![6144, 4096]⟩
abbrev S512x2048 : Shape := ⟨2, ![512, 2048]⟩
abbrev S2048x1024 : Shape := ⟨2, ![2048, 1024]⟩
abbrev S512x1024 : Shape := ⟨2, ![512, 1024]⟩
abbrev S512x512 : Shape := ⟨2, ![512, 512]⟩

abbrev nBuf : Space → Nat
  | .hbm => 16
  | .vmem => 18
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S4096x2048, .f32⟩
  | .hbm, ⟨3, _⟩ => ⟨S2048x2048, .f32⟩
  | .hbm, ⟨4, _⟩ => ⟨S1x2048x4096, .f32⟩
  | .hbm, ⟨5, _⟩ => ⟨S1x2048x4096, .f32⟩
  | .hbm, ⟨6, _⟩ => ⟨S6144x2x4096, .f32⟩
  | .hbm, ⟨7, _⟩ => ⟨S4096x2048, .bf16⟩
  | .hbm, ⟨8, _⟩ => ⟨S2048x2048, .bf16⟩
  | .hbm, ⟨9, _⟩ => ⟨S4096x2048, .bf16⟩
  | .hbm, ⟨10, _⟩ => ⟨S2048x2048, .bf16⟩
  | .hbm, ⟨11, _⟩ => ⟨S2048x4096, .f32⟩
  | .hbm, ⟨12, _⟩ => ⟨S2048x4096, .f32⟩
  | .hbm, ⟨13, _⟩ => ⟨S6144x8192, .f32⟩
  | .hbm, ⟨14, _⟩ => ⟨S6144x8192, .bf16⟩
  | .hbm, ⟨15, _⟩ => ⟨S6144x4096, .bf16⟩
  | .local _ .vmem, ⟨0, _⟩ => ⟨S512x2048, .bf16⟩
  | .local _ .vmem, ⟨1, _⟩ => ⟨S512x2048, .bf16⟩
  | .local _ .vmem, ⟨2, _⟩ => ⟨S2048x1024, .f32⟩
  | .local _ .vmem, ⟨3, _⟩ => ⟨S2048x1024, .f32⟩
  | .local _ .vmem, ⟨4, _⟩ => ⟨S512x2048, .bf16⟩
  | .local _ .vmem, ⟨5, _⟩ => ⟨S512x2048, .bf16⟩
  | .local _ .vmem, ⟨6, _⟩ => ⟨S512x2048, .bf16⟩
  | .local _ .vmem, ⟨7, _⟩ => ⟨S512x2048, .bf16⟩
  | .local _ .vmem, ⟨8, _⟩ => ⟨S512x2048, .bf16⟩
  | .local _ .vmem, ⟨9, _⟩ => ⟨S512x2048, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S2048x1024, .bf16⟩
  | .local _ .vmem, ⟨17, _⟩ => ⟨S2048x1024, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![4, 12], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_1 : BitVec 32 := 0#32
  let v3 : BitVec 1 := Scalar.cmpi .sgt arg1 c0_i32_1
  let c8_i32 : BitVec 32 := 8#32
  let v4 : BitVec 1 := Scalar.cmpi .slt arg1 c8_i32
  let v5 : BitVec 1 := Scalar.andi v3 v4
  let v6 : BitVec 32 := Scalar.extui v5
  let c0_i32_2 : BitVec 32 := 0#32
  let v7 : BitVec 1 := Scalar.cmpi .ne v6 c0_i32_2
  v7

def k0_cond3 (i : grid0.Coords) : BitVec 1 :=
  let arg1 : BitVec 32 := BitVec.ofNat 32 (i 1).val
  let c8_i32_3 : BitVec 32 := 8#32
  let v8 : BitVec 1 := Scalar.cmpi .sge arg1 c8_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.minsi arg1 c7_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.subi arg1 c8_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_4 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.minsi arg1 c7_i32
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.subi arg1 c8_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi arg0 c4_i32
  let c0_i32 : BitVec 32 := 0#32
  ![arg1.toNat, v0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S2048x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S2048x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference6Ideal.lean ====
abbrev S4096x2048 : Shape := ⟨2, ![4096, 2048]⟩
abbrev S2048x2048 : Shape := ⟨2, ![2048, 2048]⟩
abbrev S1x2048x4096 : Shape := ⟨3, ![1, 2048, 4096]⟩
abbrev S6144x2x4096 : Shape := ⟨3, ![6144, 2, 4096]⟩
abbrev S6144x2048 : Shape := ⟨2, ![6144, 2048]⟩
abbrev S6144x1x4096 : Shape := ⟨3, ![6144, 1, 4096]⟩
abbrev S6144x4096 : Shape := ⟨2, ![6144, 4096]⟩
abbrev S2048x4096 : Shape := ⟨2, ![2048, 4096]⟩

abbrev nBuf : Space → Nat
  | .hbm => 21
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S4096x2048, .f32⟩
  | .hbm, ⟨3, _⟩ => ⟨S2048x2048, .f32⟩
  | .hbm, ⟨4, _⟩ => ⟨S1x2048x4096, .f32⟩
  | .hbm, ⟨5, _⟩ => ⟨S1x2048x4096, .f32⟩
  | .hbm, ⟨6, _⟩ => ⟨S6144x2x4096, .f32⟩
  | .hbm, ⟨7, _⟩ => ⟨S6144x2048, .f32⟩
  | .hbm, ⟨8, _⟩ => ⟨S6144x2048, .f32⟩
  | .hbm, ⟨9, _⟩ => ⟨S6144x1x4096, .f32⟩
  | .hbm, ⟨10, _⟩ => ⟨S6144x4096, .f32⟩
  | .hbm, ⟨11, _⟩ => ⟨S2048x4096, .f32⟩
  | .hbm, ⟨12, _⟩ => ⟨S6144x4096, .f32⟩
  | .hbm, ⟨13, _⟩ => ⟨S6144x4096, .f32⟩
  | .hbm, ⟨14, _⟩ => ⟨S6144x1x4096, .f32⟩
  | .hbm, ⟨15, _⟩ => ⟨S6144x4096, .f32⟩
  | .hbm, ⟨16, _⟩ => ⟨S2048x4096, .f32⟩
  | .hbm, ⟨17, _⟩ => ⟨S6144x4096, .f32⟩
  | .hbm, ⟨18, _⟩ => ⟨S6144x4096, .f32⟩
  | .hbm, ⟨19, _⟩ => ⟨S6144x4096, .f32⟩
  | .hbm, ⟨20, _⟩ => ⟨S6144x4096, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩

abbrev nD : Nat := 1
abbrev τ : Topo := Topo.v7x

variable {F : FTy → Type} [FloatOps F]
-- ==== Kernel7.lean ====
abbrev S6144x4096 : Shape := ⟨2, ![6144, 4096]⟩
abbrev S8x24576 : Shape := ⟨2, ![8, 24576]⟩
abbrev S1x4096 : Shape := ⟨2, ![1, 4096]⟩
abbrev S8x1x24576 : Shape := ⟨3, ![8, 1, 24576]⟩
abbrev S4096x4096 : Shape := ⟨2, ![4096, 4096]⟩
abbrev S256x4096 : Shape := ⟨2, ![256, 4096]⟩
abbrev S1x1x4096 : Shape := ⟨3, ![1, 1, 4096]⟩
abbrev S256 : Shape := ⟨1, ![256]⟩
abbrev S256x1 : Shape := ⟨2, ![256, 1]⟩

abbrev nBuf : Space → Nat
  | .hbm => 7
  | .vmem => 10
  | .smem => 0
  | _ => 0

abbrev bufTy : (tb : Table) → Fin (tcTables nBuf tb) → BufTy
  | .hbm, ⟨0, _⟩ => ⟨S6144x4096, .f32⟩
  | .hbm, ⟨1, _⟩ => ⟨S6144x4096, .f32⟩
  | .hbm, ⟨2, _⟩ => ⟨S8x24576, .f32⟩
  | .hbm, ⟨3, _⟩ => ⟨S1x4096, .f32⟩
  | .hbm, ⟨4, _⟩ => ⟨S1x4096, .f32⟩
  | .hbm, ⟨5, _⟩ => ⟨S8x1x24576, .f32⟩
  | .hbm, ⟨6, _⟩ => ⟨S4096x4096, .f32⟩
  | .local _ .vmem, ⟨0, _⟩ => ⟨S256x4096, .f32⟩
  | .local _ .vmem, ⟨1, _⟩ => ⟨S256x4096, .f32⟩
  | .local _ .vmem, ⟨2, _⟩ => ⟨S256x4096, .f32⟩
  | .local _ .vmem, ⟨3, _⟩ => ⟨S256x4096, .f32⟩
  | .local _ .vmem, ⟨4, _⟩ => ⟨S1x1x4096, .f32⟩
  | .local _ .vmem, ⟨5, _⟩ => ⟨S1x1x4096, .f32⟩
  | .local _ .vmem, ⟨6, _⟩ => ⟨S1x4096, .f32⟩
  | .local _ .vmem, ⟨7, _⟩ => ⟨S1x4096, .f32⟩
  | .local _ .vmem, ⟨8, _⟩ => ⟨S256x4096, .f32⟩
  | .local _ .vmem, ⟨9, _⟩ => ⟨S256x4096, .f32⟩
  | _, _ => ⟨S6144x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_2 (i : grid0.Coords) : Fin 3 → Nat :=
  let arg0 : BitVec 32 := BitVec.ofNat 32 (i 0).val
  let c0_i32 : BitVec 32 := 0#32
  let v0 : BitVec 32 := Scalar.addi arg0 c0_i32
  let c16_i32 : BitVec 32 := 16#32
  let v1 : BitVec 1 := Scalar.cmpi .slt v0 c16_i32
  let c16_i32_0 : BitVec 32 := 16#32
  let v2 : BitVec 32 := Scalar.subi v0 c16_i32_0
  let c4_i32 : BitVec 32 := 4#32
  let v3 : BitVec 32 := Scalar.divsi v2 c4_i32
  let c0_i32_1 : BitVec 32 := 0#32
  let v4 : BitVec 1 := Scalar.cmpi .sgt v2 c0_i32_1
  let v5 : BitVec 32 := Scalar.extui v4
  let c0_i32_2 : BitVec 32 := 0#32
  let v6 : BitVec 1 := Scalar.cmpi .slt v2 c0_i32_2
  let v7 : BitVec 32 := Scalar.extui v6
  let v8 : BitVec 32 := Scalar.subi v5 v7
  let c0_i32_3 : BitVec 32 := 0#32
  let v9 : BitVec 1 := Scalar.cmpi .sgt c4_i32 c0_i32_3
  let v10 : BitVec 32 := Scalar.extui v9
  let c0_i32_4 : BitVec 32 := 0#32
  let v11 : BitVec 1 := Scalar.cmpi .slt c4_i32 c0_i32_4
  let v12 : BitVec 32 := Scalar.extui v11
  let v13 : BitVec 32 := Scalar.subi v10 v12
  let v14 : BitVec 1 := Scalar.cmpi .ne v8 v13
  let v15 : BitVec 32 := Scalar.remsi v2 c4_i32
  let c0_i32_5 : BitVec 32 := 0#32
  let v16 : BitVec 1 := Scalar.cmpi .ne v15 c0_i32_5
  let v17 : BitVec 1 := Scalar.andi v14 v16
  let c1_i32 : BitVec 32 := 1#32
  let v18 : BitVec 32 := Scalar.subi v3 c1_i32
  let v19 : BitVec 32 := Scalar.select v17 v18 v3
  let c1_i32_6 : BitVec 32 := 1#32
  let v20 : BitVec 32 := Scalar.addi c1_i32_6 v19
  let c0_i32_7 : BitVec 32 := 0#32
  let v21 : BitVec 32 := Scalar.select v1 c0_i32_7 v20
  let c0_i32_8 : BitVec 32 := 0#32
  let c5_i32 : BitVec 32 := 5#32
  let c0_i32_9 : BitVec 32 := 0#32
  ![v21.toNat, c0_i32_8.toNat, c5_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference7Ideal.lean ====
abbrev S6144x4096 : Shape := ⟨2, ![6144, 4096]⟩
abbrev S8x24576 : Shape := ⟨2, ![8, 24576]⟩
abbrev S1x4096 : Shape := ⟨2, ![1, 4096]⟩
abbrev S4096x4096 : Shape := ⟨2, ![4096, 4096]⟩
abbrev S_ : Shape := ⟨0, ![]⟩
abbrev S4096 : Shape := ⟨1, ![4096]⟩
abbrev S4096x1 : Shape := ⟨2, ![4096, 1]⟩

abbrev nBuf : Space → Nat
  | .hbm => 45
  | .vmem => 0
  | .smem => 0
  | _ => 0

abbrev bufTy : (tb : Table) → Fin (tcTables nBuf tb) → BufTy
  | .hbm, ⟨0, _⟩ => ⟨S6144x4096, .f32⟩
  | .hbm, ⟨1, _⟩ => ⟨S6144x4096, .f32⟩
  | .hbm, ⟨2, _⟩ => ⟨S8x24576, .f32⟩
  | .hbm, ⟨3, _⟩ => ⟨S1x4096, .f32⟩
  | .hbm, ⟨4, _⟩ => ⟨S1x4096, .f32⟩
  | .hbm, ⟨5, _⟩ => ⟨S1x4096, .f32⟩
  | .hbm, ⟨6, _⟩ => ⟨S4096x4096, .f32⟩
  | .hbm, ⟨7, _⟩ => ⟨S_, .f32⟩
  | .hbm, ⟨8, _⟩ => ⟨S4096x4096, .f32⟩
  | .hbm, ⟨9, _⟩ => ⟨S4096x4096, .f32⟩
  | .hbm, ⟨10, _⟩ => ⟨S4096x4096, .f32⟩
  | .hbm, ⟨11, _⟩ => ⟨S4096x4096, .f32⟩
  | .hbm, ⟨12, _⟩ => ⟨S4096x4096, .f32⟩
  | .hbm, ⟨13, _⟩ => ⟨S4096x4096, .f32⟩
  | .hbm, ⟨14, _⟩ => ⟨S4096, .f32⟩
  | .hbm, ⟨15, _⟩ => ⟨S4096, .f32⟩
  | .hbm, ⟨16, _⟩ => ⟨S_, .f32⟩
  | .hbm, ⟨17, _⟩ => ⟨S4096, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x4096, .f32⟩
  | .hbm, ⟨23, _⟩ => ⟨S4096x4096, .f32⟩
  | .hbm, ⟨24, _⟩ => ⟨S4096x4096, .f32⟩
  | .hbm, ⟨25, _⟩ => ⟨S_, .f32⟩
  | .hbm, ⟨26, _⟩ => ⟨S4096, .f32⟩
  | .hbm, ⟨27, _⟩ => ⟨S4096x1, .f32⟩
  | .hbm, ⟨28, _⟩ => ⟨S_, .f32⟩
  | .hbm, ⟨29, _⟩ => ⟨S4096x1, .f32⟩
  | .hbm, ⟨30, _⟩ => ⟨S4096x1, .f32⟩
  | .hbm, ⟨31, _⟩ => ⟨S4096x4096, .f32⟩
  | .hbm, ⟨32, _⟩ => ⟨S4096x4096, .f32⟩
  | .hbm, ⟨33, _⟩ => ⟨S_, .f32⟩
  | .hbm, ⟨34, _⟩ => ⟨S4096x1, .f32⟩
  | .hbm, ⟨35, _⟩ => ⟨S4096x1, .f32⟩
  | .hbm, ⟨36, _⟩ => ⟨S4096x1, .f32⟩
  | .hbm, ⟨37, _⟩ => ⟨S4096x4096, .f32⟩
  | .hbm, ⟨38, _⟩ => ⟨S4096x4096, .f32⟩
  | .hbm, ⟨39, _⟩ => ⟨S1x4096, .f32⟩
  | .hbm, ⟨40, _⟩ => ⟨S4096x4096, .f32⟩
  | .hbm, ⟨41, _⟩ => ⟨S4096x4096, .f32⟩
  | .hbm, ⟨42, _⟩ => ⟨S1x4096, .f32⟩
  | .hbm, ⟨43, _⟩ => ⟨S4096x4096, .f32⟩
  | .hbm, ⟨44, _⟩ => ⟨S4096x4096, .f32⟩
  | _, _ => ⟨S6144x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩

abbrev nD : Nat := 1
abbrev τ : Topo := Topo.v7x

variable {F : FTy → Type} [FloatOps F]
-- ==== Kernel8.lean ====
abbrev S6144x4096 : Shape := ⟨2, ![6144, 4096]⟩
abbrev S8x24576 : Shape := ⟨2, ![8, 24576]⟩
abbrev S1x4096 : Shape := ⟨2, ![1, 4096]⟩
abbrev S8x1x24576 : Shape := ⟨3, ![8, 1, 24576]⟩
abbrev S2048x4096 : Shape := ⟨2, ![2048, 4096]⟩
abbrev S256x4096 : Shape := ⟨2, ![256, 4096]⟩
abbrev S1x1x4096 : Shape := ⟨3, ![1, 1, 4096]⟩
abbrev S256 : Shape := ⟨1, ![256]⟩
abbrev S256x1 : Shape := ⟨2, ![256, 1]⟩

abbrev nBuf : Space → Nat
  | .hbm => 7
  | .vmem => 10
  | .smem => 0
  | _ => 0

abbrev bufTy : (tb : Table) → Fin (tcTables nBuf tb) → BufTy
  | .hbm, ⟨0, _⟩ => ⟨S6144x4096, .f32⟩
  | .hbm, ⟨1, _⟩ => ⟨S6144x4096, .f32⟩
  | .hbm, ⟨2, _⟩ => ⟨S8x24576, .f32⟩
  | .hbm, ⟨3, _⟩ => ⟨S1x4096, .f32⟩
  | .hbm, ⟨4, _⟩ => ⟨S1x4096, .f32⟩
  | .hbm, ⟨5, _⟩ => ⟨S8x1x24576, .f32⟩
  | .hbm, ⟨6, _⟩ => ⟨S2048x4096, .f32⟩
  | .local _ .vmem, ⟨0, _⟩ => ⟨S256x4096, .f32⟩
  | .local _ .vmem, ⟨1, _⟩ => ⟨S256x4096, .f32⟩
  | .local _ .vmem, ⟨2, _⟩ => ⟨S256x4096, .f32⟩
  | .local _ .vmem, ⟨3, _⟩ => ⟨S256x4096, .f32⟩
  | .local _ .vmem, ⟨4, _⟩ => ⟨S1x1x4096, .f32⟩
  | .local _ .vmem, ⟨5, _⟩ => ⟨S1x1x4096, .f32⟩
  | .local _ .vmem, ⟨6, _⟩ => ⟨S1x4096, .f32⟩
  | .local _ .vmem, ⟨7, _⟩ => ⟨S1x4096, .f32⟩
  | .local _ .vmem, ⟨8, _⟩ => ⟨S256x4096, .f32⟩
  | .local _ .vmem, ⟨9, _⟩ => ⟨S256x4096, .f32⟩
  | _, _ => ⟨S6144x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c16_i32 : BitVec 32 := 16#32
  let v0 : BitVec 32 := Scalar.addi arg0 c16_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c16_i32 : BitVec 32 := 16#32
  let v0 : BitVec 32 := Scalar.addi arg0 c16_i32
  let c0_i32 : BitVec 32 := 0#32
  let c0_i32_0 : BitVec 32 := 0#32
  ![v0.toNat, c0_i32.toNat]

def cc0_transform_2 (i : grid0.Coords) : Fin 3 → Nat :=
  let arg0 : BitVec 32 := BitVec.ofNat 32 (i 0).val
  let c16_i32 : BitVec 32 := 16#32
  let v0 : BitVec 32 := Scalar.addi arg0 c16_i32
  let c16_i32_0 : BitVec 32 := 16#32
  let v1 : BitVec 1 := Scalar.cmpi .slt v0 c16_i32_0
  let c16_i32_1 : BitVec 32 := 16#32
  let v2 : BitVec 32 := Scalar.subi v0 c16_i32_1
  let c4_i32 : BitVec 32 := 4#32
  let v3 : BitVec 32 := Scalar.divsi v2 c4_i32
  let c0_i32 : BitVec 32 := 0#32
  let v4 : BitVec 1 := Scalar.cmpi .sgt v2 c0_i32
  let v5 : BitVec 32 := Scalar.extui v4
  let c0_i32_2 : BitVec 32 := 0#32
  let v6 : BitVec 1 := Scalar.cmpi .slt v2 c0_i32_2
  let v7 : BitVec 32 := Scalar.extui v6
  let v8 : BitVec 32 := Scalar.subi v5 v7
  let c0_i32_3 : BitVec 32 := 0#32
  let v9 : BitVec 1 := Scalar.cmpi .sgt c4_i32 c0_i32_3
  let v10 : BitVec 32 := Scalar.extui v9
  let c0_i32_4 : BitVec 32 := 0#32
  let v11 : BitVec 1 := Scalar.cmpi .slt c4_i32 c0_i32_4
  let v12 : BitVec 32 := Scalar.extui v11
  let v13 : BitVec 32 := Scalar.subi v10 v12
  let v14 : BitVec 1 := Scalar.cmpi .ne v8 v13
  let v15 : BitVec 32 := Scalar.remsi v2 c4_i32
  let c0_i32_5 : BitVec 32 := 0#32
  let v16 : BitVec 1 := Scalar.cmpi .ne v15 c0_i32_5
  let v17 : BitVec 1 := Scalar.andi v14 v16
  let c1_i32 : BitVec 32 := 1#32
  let v18 : BitVec 32 := Scalar.subi v3 c1_i32
  let v19 : BitVec 32 := Scalar.select v17 v18 v3
  let c1_i32_6 : BitVec 32 := 1#32
  let v20 : BitVec 32 := Scalar.addi c1_i32_6 v19
  let c0_i32_7 : BitVec 32 := 0#32
  let v21 : BitVec 32 := Scalar.select v1 c0_i32_7 v20
  let c0_i32_8 : BitVec 32 := 0#32
  let c5_i32 : BitVec 32 := 5#32
  let c0_i32_9 : BitVec 32 := 0#32
  ![v21.toNat, c0_i32_8.toNat, c5_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference8Ideal.lean ====
abbrev S6144x4096 : Shape := ⟨2, ![6144, 4096]⟩
abbrev S8x24576 : Shape := ⟨2, ![8, 24576]⟩
abbrev S1x4096 : Shape := ⟨2, ![1, 4096]⟩
abbrev S2x4096 : Shape := ⟨2, ![2, 4096]⟩
abbrev S2x1x4096 : Shape := ⟨3, ![2, 1, 4096]⟩
abbrev S2048x4096 : Shape := ⟨2, ![2048, 4096]⟩
abbrev S2x1024x4096 : Shape := ⟨3, ![2, 1024, 4096]⟩
abbrev S_ : Shape := ⟨0, ![]⟩
abbrev S4096 : Shape := ⟨1, ![4096]⟩
abbrev S2x1024 : Shape := ⟨2, ![2, 1024]⟩
abbrev S2x1024x1 : Shape := ⟨3, ![2, 1024, 1]⟩
abbrev S1x1x4096 : Shape := ⟨3, ![1, 1, 4096]⟩

abbrev nBuf : Space → Nat
  | .hbm => 49
  | .vmem => 0
  | .smem => 0
  | _ => 0

abbrev bufTy : (tb : Table) → Fin (tcTables nBuf tb) → BufTy
  | .hbm, ⟨0, _⟩ => ⟨S6144x4096, .f32⟩
  | .hbm, ⟨1, _⟩ => ⟨S6144x4096, .f32⟩
  | .hbm, ⟨2, _⟩ => ⟨S8x24576, .f32⟩
  | .hbm, ⟨3, _⟩ => ⟨S1x4096, .f32⟩
  | .hbm, ⟨4, _⟩ => ⟨S1x4096, .f32⟩
  | .hbm, ⟨5, _⟩ => ⟨S2x4096, .f32⟩
  | .hbm, ⟨6, _⟩ => ⟨S2x1x4096, .f32⟩
  | .hbm, ⟨7, _⟩ => ⟨S2048x4096, .f32⟩
  | .hbm, ⟨8, _⟩ => ⟨S2x1024x4096, .f32⟩
  | .hbm, ⟨9, _⟩ => ⟨S2048x4096, .f32⟩
  | .hbm, ⟨10, _⟩ => ⟨S2x1024x4096, .f32⟩
  | .hbm, ⟨11, _⟩ => ⟨S_, .f32⟩
  | .hbm, ⟨12, _⟩ => ⟨S2x1024x4096, .f32⟩
  | .hbm, ⟨13, _⟩ => ⟨S2x1024x4096, .f32⟩
  | .hbm, ⟨14, _⟩ => ⟨S2x1024x4096, .f32⟩
  | .hbm, ⟨15, _⟩ => ⟨S2x1024x4096, .f32⟩
  | .hbm, ⟨16, _⟩ => ⟨S2x1024x4096, .f32⟩
  | .hbm, ⟨17, _⟩ => ⟨S4096, .f32⟩
  | .hbm, ⟨18, _⟩ => ⟨S4096, .f32⟩
  | .hbm, ⟨19, _⟩ => ⟨S_, .f32⟩
  | .hbm, ⟨20, _⟩ => ⟨S2x1024, .f32⟩
  | .hbm, ⟨21, _⟩ => ⟨S2x1024x1, .f32⟩
  | .hbm, ⟨22, _⟩ => ⟨S_, .f32⟩
  | .hbm, ⟨23, _⟩ => ⟨S2x1024x1, .f32⟩
  | .hbm, ⟨24, _⟩ => ⟨S2x1024x1, .f32⟩
  | .hbm, ⟨25, _⟩ => ⟨S2x1024x4096, .f32⟩
  | .hbm, ⟨26, _⟩ => ⟨S2x1024x4096, .f32⟩
  | .hbm, ⟨27, _⟩ => ⟨S2x1024x4096, .f32⟩
  | .hbm, ⟨28, _⟩ => ⟨S_, .f32⟩
  | .hbm, ⟨29, _⟩ => ⟨S2x1024, .f32⟩
  | .hbm, ⟨30, _⟩ => ⟨S2x1024x1, .f32⟩
  | .hbm, ⟨31, _⟩ => ⟨S_, .f32⟩
  | .hbm, ⟨32, _⟩ => ⟨S2x1024x1, .f32⟩
  | .hbm, ⟨33, _⟩ => ⟨S2x1024x1, .f32⟩
  | .hbm, ⟨34, _⟩ => ⟨S2x1024x4096, .f32⟩
  | .hbm, ⟨35, _⟩ => ⟨S2x1024x4096, .f32⟩
  | .hbm, ⟨36, _⟩ => ⟨S_, .f32⟩
  | .hbm, ⟨37, _⟩ => ⟨S2x1024x1, .f32⟩
  | .hbm, ⟨38, _⟩ => ⟨S2x1024x1, .f32⟩
  | .hbm, ⟨39, _⟩ => ⟨S2x1024x1, .f32⟩
  | .hbm, ⟨40, _⟩ => ⟨S2x1024x4096, .f32⟩
  | .hbm, ⟨41, _⟩ => ⟨S2x1024x4096, .f32⟩
  | .hbm, ⟨42, _⟩ => ⟨S1x1x4096, .f32⟩
  | .hbm, ⟨43, _⟩ => ⟨S2x1024x4096, .f32⟩
  | .hbm, ⟨44, _⟩ => ⟨S2x1024x4096, .f32⟩
  | .hbm, ⟨45, _⟩ => ⟨S1x1x4096, .f32⟩
  | .hbm, ⟨46, _⟩ => ⟨S2x1024x4096, .f32⟩
  | .hbm, ⟨47, _⟩ => ⟨S2x1024x4096, .f32⟩
  | .hbm, ⟨48, _⟩ => ⟨S2048x4096, .f32⟩
  | _, _ => ⟨S6144x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_0 : Ref sig .tc := ⟨.hbm, 19, rfl⟩
abbrev main_v13 : Ref sig .tc := ⟨.hbm, 20, rfl⟩
abbrev main_v14 : Ref sig .tc := ⟨.hbm, 21, rfl⟩
abbrev main_cst_1 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_2 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩

abbrev nD : Nat := 1
abbrev τ : Topo := Topo.v7x

variable {F : FTy → Type} [FloatOps F]
-- ==== Kernel9.lean ====
abbrev S2x4096 : Shape := ⟨2, ![2, 4096]⟩
abbrev S4096 : Shape := ⟨1, ![4096]⟩
abbrev S1x4096x24576 : Shape := ⟨3, ![1, 4096, 24576]⟩
abbrev S1x24576 : Shape := ⟨2, ![1, 24576]⟩
abbrev S_ : Shape := ⟨0, ![]⟩
abbrev S8x4096 : Shape := ⟨2, ![8, 4096]⟩
abbrev S1 : Shape := ⟨1, ![1]⟩
abbrev S4096x24576 : Shape := ⟨2, ![4096, 24576]⟩
abbrev S8x24576 : Shape := ⟨2, ![8, 24576]⟩
abbrev S4096x512 : Shape := ⟨2, ![4096, 512]⟩
abbrev S1x512 : Shape := ⟨2, ![1, 512]⟩
abbrev S8x512 : Shape := ⟨2, ![8, 512]⟩

abbrev nBuf : Space → Nat
  | .hbm => 14
  | .vmem => 7
  | .smem => 0
  | _ => 0

abbrev bufTy : (tb : Table) → Fin (tcTables nBuf tb) → BufTy
  | .hbm, ⟨0, _⟩ => ⟨S2x4096, .f32⟩
  | .hbm, ⟨1, _⟩ => ⟨S4096, .f32⟩
  | .hbm, ⟨2, _⟩ => ⟨S1x4096x24576, .f32⟩
  | .hbm, ⟨3, _⟩ => ⟨S1x24576, .f32⟩
  | .hbm, ⟨4, _⟩ => ⟨S_, .f32⟩
  | .hbm, ⟨5, _⟩ => ⟨S8x4096, .f32⟩
  | .hbm, ⟨6, _⟩ => ⟨S_, .i32⟩
  | .hbm, ⟨7, _⟩ => ⟨S1, .i32⟩
  | .hbm, ⟨8, _⟩ => ⟨S8x4096, .f32⟩
  | .hbm, ⟨9, _⟩ => ⟨S_, .i32⟩
  | .hbm, ⟨10, _⟩ => ⟨S1, .i32⟩
  | .hbm, ⟨11, _⟩ => ⟨S8x4096, .f32⟩
  | .hbm, ⟨12, _⟩ => ⟨S4096x24576, .f32⟩
  | .hbm, ⟨13, _⟩ => ⟨S8x24576, .f32⟩
  | .local _ .vmem, ⟨0, _⟩ => ⟨S8x4096, .f32⟩
  | .local _ .vmem, ⟨1, _⟩ => ⟨S4096x512, .f32⟩
  | .local _ .vmem, ⟨2, _⟩ => ⟨S4096x512, .f32⟩
  | .local _ .vmem, ⟨3, _⟩ => ⟨S1x512, .f32⟩
  | .local _ .vmem, ⟨4, _⟩ => ⟨S1x512, .f32⟩
  | .local _ .vmem, ⟨5, _⟩ => ⟨S8x512, .f32⟩
  | .local _ .vmem, ⟨6, _⟩ => ⟨S8x512, .f32⟩
  | _, _ => ⟨S2x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![48], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S8x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference9Ideal.lean ====
abbrev S2x4096 : Shape := ⟨2, ![2, 4096]⟩
abbrev S4096 : Shape := ⟨1, ![4096]⟩
abbrev S1x4096x24576 : Shape := ⟨3, ![1, 4096, 24576]⟩
abbrev S1x24576 : Shape := ⟨2, ![1, 24576]⟩
abbrev S1x4096 : Shape := ⟨2, ![1, 4096]⟩
abbrev S_ : Shape := ⟨0, ![]⟩
abbrev S5x4096 : Shape := ⟨2, ![5, 4096]⟩
abbrev S8x4096 : Shape := ⟨2, ![8, 4096]⟩
abbrev S4096x24576 : Shape := ⟨2, ![4096, 24576]⟩
abbrev S8x24576 : Shape := ⟨2, ![8, 24576]⟩
abbrev S24576 : Shape := ⟨1, ![24576]⟩

abbrev nBuf : Space → Nat
  | .hbm => 23
  | .vmem => 0
  | .smem => 0
  | _ => 0

abbrev bufTy : (tb : Table) → Fin (tcTables nBuf tb) → BufTy
  | .hbm, ⟨0, _⟩ => ⟨S2x4096, .f32⟩
  | .hbm, ⟨1, _⟩ => ⟨S4096, .f32⟩
  | .hbm, ⟨2, _⟩ => ⟨S1x4096x24576, .f32⟩
  | .hbm, ⟨3, _⟩ => ⟨S1x24576, .f32⟩
  | .hbm, ⟨4, _⟩ => ⟨S1x4096, .f32⟩
  | .hbm, ⟨5, _⟩ => ⟨S_, .f32⟩
  | .hbm, ⟨6, _⟩ => ⟨S5x4096, .f32⟩
  | .hbm, ⟨7, _⟩ => ⟨S8x4096, .f32⟩
  | .hbm, ⟨8, _⟩ => ⟨S8x4096, .f32⟩
  | .hbm, ⟨9, _⟩ => ⟨S8x4096, .f32⟩
  | .hbm, ⟨10, _⟩ => ⟨S_, .f32⟩
  | .hbm, ⟨11, _⟩ => ⟨S8x4096, .f32⟩
  | .hbm, ⟨12, _⟩ => ⟨S8x4096, .f32⟩
  | .hbm, ⟨13, _⟩ => ⟨S_, .f32⟩
  | .hbm, ⟨14, _⟩ => ⟨S8x4096, .f32⟩
  | .hbm, ⟨15, _⟩ => ⟨S8x4096, .f32⟩
  | .hbm, ⟨16, _⟩ => ⟨S8x4096, .f32⟩
  | .hbm, ⟨17, _⟩ => ⟨S4096x24576, .f32⟩
  | .hbm, ⟨18, _⟩ => ⟨S8x24576, .f32⟩
  | .hbm, ⟨19, _⟩ => ⟨S24576, .f32⟩
  | .hbm, ⟨20, _⟩ => ⟨S1x24576, .f32⟩
  | .hbm, ⟨21, _⟩ => ⟨S8x24576, .f32⟩
  | .hbm, ⟨22, _⟩ => ⟨S8x24576, .f32⟩
  | _, _ => ⟨S2x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩

abbrev nD : Nat := 1
abbrev τ : Topo := Topo.v7x

variable {F : FTy → Type} [FloatOps F]
-- ==== Kernel10.lean ====
abbrev S16x256x4096 : Shape := ⟨3, ![16, 256, 4096]⟩
abbrev S2x1024x4096 : Shape := ⟨3, ![2, 1024, 4096]⟩
abbrev S1024x4096 : Shape := ⟨2, ![1024, 4096]⟩
abbrev S6144x4096 : Shape := ⟨2, ![6144, 4096]⟩
abbrev S8x24576 : Shape := ⟨2, ![8, 24576]⟩
abbrev S1x4096 : Shape := ⟨2, ![1, 4096]⟩
abbrev S4096x4096 : Shape := ⟨2, ![4096, 4096]⟩
abbrev S2048x4096 : Shape := ⟨2, ![2048, 4096]⟩
abbrev S8x1x24576 : Shape := ⟨3, ![8, 1, 24576]⟩
abbrev S256x4096 : Shape := ⟨2, ![256, 4096]⟩
abbrev S1x1x4096 : Shape := ⟨3, ![1, 1, 4096]⟩
abbrev S256 : Shape := ⟨1, ![256]⟩
abbrev S256x1 : Shape := ⟨2, ![256, 1]⟩

abbrev nBuf : Space → Nat
  | .hbm => 12
  | .vmem => 20
  | .smem => 0
  | _ => 0

abbrev bufTy : (tb : Table) → Fin (tcTables nBuf tb) → BufTy
  | .hbm, ⟨0, _⟩ => ⟨S16x256x4096, .f32⟩
  | .hbm, ⟨1, _⟩ => ⟨S2x1024x4096, .f32⟩
  | .hbm, ⟨2, _⟩ => ⟨S1024x4096, .f32⟩
  | .hbm, ⟨3, _⟩ => ⟨S6144x4096, .f32⟩
  | .hbm, ⟨4, _⟩ => ⟨S8x24576, .f32⟩
  | .hbm, ⟨5, _⟩ => ⟨S1x4096, .f32⟩
  | .hbm, ⟨6, _⟩ => ⟨S1x4096, .f32⟩
  | .hbm, ⟨7, _⟩ => ⟨S4096x4096, .f32⟩
  | .hbm, ⟨8, _⟩ => ⟨S2048x4096, .f32⟩
  | .hbm, ⟨9, _⟩ => ⟨S8x1x24576, .f32⟩
  | .hbm, ⟨10, _⟩ => ⟨S6144x4096, .f32⟩
  | .hbm, ⟨11, _⟩ => ⟨S6144x4096, .bf16⟩
  | .local _ .vmem, ⟨0, _⟩ => ⟨S256x4096, .f32⟩
  | .local _ .vmem, ⟨1, _⟩ => ⟨S256x4096, .f32⟩
  | .local _ .vmem, ⟨2, _⟩ => ⟨S256x4096, .f32⟩
  | .local _ .vmem, ⟨3, _⟩ => ⟨S256x4096, .f32⟩
  | .local _ .vmem, ⟨4, _⟩ => ⟨S256x4096, .f32⟩
  | .local _ .vmem, ⟨5, _⟩ => ⟨S256x4096, .f32⟩
  | .local _ .vmem, ⟨6, _⟩ => ⟨S256x4096, .f32⟩
  | .local _ .vmem, ⟨7, _⟩ => ⟨S256x4096, .f32⟩
  | .local _ .vmem, ⟨8, _⟩ => ⟨S1x1x4096, .f32⟩
  | .local _ .vmem, ⟨9, _⟩ => ⟨S1x1x4096, .f32⟩
  | .local _ .vmem, ⟨10, _⟩ => ⟨S1x1x4096, .f32⟩
  | .local _ .vmem, ⟨11, _⟩ => ⟨S1x1x4096, .f32⟩
  | .local _ .vmem, ⟨12, _⟩ => ⟨S1x1x4096, .f32⟩
  | .local _ .vmem, ⟨13, _⟩ => ⟨S1x1x4096, .f32⟩
  | .local _ .vmem, ⟨14, _⟩ => ⟨S1x4096, .f32⟩
  | .local _ .vmem, ⟨15, _⟩ => ⟨S1x4096, .f32⟩
  | .local _ .vmem, ⟨16, _⟩ => ⟨S256x4096, .f32⟩
  | .local _ .vmem, ⟨17, _⟩ => ⟨S256x4096, .f32⟩
  | .local _ .vmem, ⟨18, _⟩ => ⟨S256x4096, .bf16⟩
  | .local _ .vmem, ⟨19, _⟩ => ⟨S256x4096, .bf16⟩
  | _, _ => ⟨S16x256x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem9_1 : DmaSem sig := 17
abbrev cc0_sem10_0 : DmaSem sig := 18
abbrev cc0_sem10_1 : DmaSem sig := 19

abbrev nD : Nat := 1
abbrev τ : Topo := Topo.v7x

variable {F : FTy → Type} [FloatOps F]

abbrev grid0 : Pipeline.Grid := ⟨1, ![24], ![false]⟩

def k0_cond1 (i : grid0.Coords) : BitVec 1 :=
  let arg0 : BitVec 32 := BitVec.ofNat 32 (i 0).val
  let c16_i32 : BitVec 32 := 16#32
  let v0 : BitVec 1 := Scalar.cmpi .slt arg0 c16_i32
  let v1 : BitVec 32 := Scalar.extui v0
  let c0_i32 : BitVec 32 := 0#32
  let v2 : BitVec 1 := Scalar.cmpi .ne v1 c0_i32
  v2

def k0_cond2 (i : grid0.Coords) : BitVec 1 :=
  let arg0 : BitVec 32 := BitVec.ofNat 32 (i 0).val
  let c16_i32_0 : BitVec 32 := 16#32
  let v3 : BitVec 1 := Scalar.cmpi .sge arg0 c16_i32_0
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c16_i32 : BitVec 32 := 16#32
  let v0 : BitVec 32 := Scalar.subi arg0 c16_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let c16_i32 : BitVec 32 := 16#32
  let v0 : BitVec 32 := Scalar.subi arg0 c16_i32
  let c0_i32 : BitVec 32 := 0#32
  let v1 : BitVec 32 := Scalar.maxsi v0 c0_i32
  let c4_i32 : BitVec 32 := 4#32
  let c0_i32_0 : BitVec 32 := 0#32
  let v2 : BitVec 1 := Scalar.cmpi .eq c4_i32 c0_i32_0
  let c1_i32 : BitVec 32 := 1#32
  let v3 : BitVec 32 := Scalar.select v2 c1_i32 c4_i32
  let v4 : BitVec 32 := Scalar.remsi v1 v3
  let c0_i32_1 : BitVec 32 := 0#32
  let v5 : BitVec 1 := Scalar.cmpi .ne v4 c0_i32_1
  let c0_i32_2 : BitVec 32 := 0#32
  let v6 : BitVec 1 := Scalar.cmpi .slt v4 c0_i32_2
  let c0_i32_3 : BitVec 32 := 0#32
  let v7 : BitVec 1 := Scalar.cmpi .slt v3 c0_i32_3
  let v8 : BitVec 1 := Scalar.xori v6 v7
  let v9 : BitVec 1 := Scalar.andi v8 v5
  let v10 : BitVec 32 := Scalar.addi v4 v3
  let v11 : BitVec 32 := Scalar.select v9 v10 v4
  let c0_i32_4 : BitVec 32 := 0#32
  let c0_i32_5 : BitVec 32 := 0#32
  ![v11.toNat, c0_i32_4.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c16_i32 : BitVec 32 := 16#32
  let v0 : BitVec 1 := Scalar.cmpi .slt arg0 c16_i32
  let c16_i32_0 : BitVec 32 := 16#32
  let v1 : BitVec 32 := Scalar.subi arg0 c16_i32_0
  let c4_i32 : BitVec 32 := 4#32
  let v2 : BitVec 32 := Scalar.divsi v1 c4_i32
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c4_i32 c0_i32_2
  let v9 : BitVec 32 := Scalar.extui v8
  let c0_i32_3 : BitVec 32 := 0#32
  let v10 : BitVec 1 := Scalar.cmpi .slt c4_i32 c0_i32_3
  let v11 : BitVec 32 := Scalar.extui v10
  let v12 : BitVec 32 := Scalar.subi v9 v11
  let v13 : BitVec 1 := Scalar.cmpi .ne v7 v12
  let v14 : BitVec 32 := Scalar.remsi v1 c4_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c1_i32_5 : BitVec 32 := 1#32
  let v19 : BitVec 32 := Scalar.addi c1_i32_5 v18
  let c0_i32_6 : BitVec 32 := 0#32
  let v20 : BitVec 32 := Scalar.select v0 c0_i32_6 v19
  let c0_i32_7 : BitVec 32 := 0#32
  let c2_i32 : BitVec 32 := 2#32
  let c0_i32_8 : BitVec 32 := 0#32
  ![v20.toNat, c0_i32_7.toNat, c2_i32.toNat]

def cc0_transform_5 (i : grid0.Coords) : Fin 3 → Nat :=
  let arg0 : BitVec 32 := BitVec.ofNat 32 (i 0).val
  let c16_i32 : BitVec 32 := 16#32
  let v0 : BitVec 1 := Scalar.cmpi .slt arg0 c16_i32
  let c16_i32_0 : BitVec 32 := 16#32
  let v1 : BitVec 32 := Scalar.subi arg0 c16_i32_0
  let c4_i32 : BitVec 32 := 4#32
  let v2 : BitVec 32 := Scalar.divsi v1 c4_i32
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c4_i32 c0_i32_2
  let v9 : BitVec 32 := Scalar.extui v8
  let c0_i32_3 : BitVec 32 := 0#32
  let v10 : BitVec 1 := Scalar.cmpi .slt c4_i32 c0_i32_3
  let v11 : BitVec 32 := Scalar.extui v10
  let v12 : BitVec 32 := Scalar.subi v9 v11
  let v13 : BitVec 1 := Scalar.cmpi .ne v7 v12
  let v14 : BitVec 32 := Scalar.remsi v1 c4_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c1_i32_5 : BitVec 32 := 1#32
  let v19 : BitVec 32 := Scalar.addi c1_i32_5 v18
  let c0_i32_6 : BitVec 32 := 0#32
  let v20 : BitVec 32 := Scalar.select v0 c0_i32_6 v19
  let c0_i32_7 : BitVec 32 := 0#32
  let c3_i32 : BitVec 32 := 3#32
  let c0_i32_8 : BitVec 32 := 0#32
  ![v20.toNat, c0_i32_7.toNat, c3_i32.toNat]

def cc0_transform_6 (i : grid0.Coords) : Fin 3 → Nat :=
  let arg0 : BitVec 32 := BitVec.ofNat 32 (i 0).val
  let c16_i32 : BitVec 32 := 16#32
  let v0 : BitVec 1 := Scalar.cmpi .slt arg0 c16_i32
  let c16_i32_0 : BitVec 32 := 16#32
  let v1 : BitVec 32 := Scalar.subi arg0 c16_i32_0
  let c4_i32 : BitVec 32 := 4#32
  let v2 : BitVec 32 := Scalar.divsi v1 c4_i32
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c4_i32 c0_i32_2
  let v9 : BitVec 32 := Scalar.extui v8
  let c0_i32_3 : BitVec 32 := 0#32
  let v10 : BitVec 1 := Scalar.cmpi .slt c4_i32 c0_i32_3
  let v11 : BitVec 32 := Scalar.extui v10
  let v12 : BitVec 32 := Scalar.subi v9 v11
  let v13 : BitVec 1 := Scalar.cmpi .ne v7 v12
  let v14 : BitVec 32 := Scalar.remsi v1 c4_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c1_i32_5 : BitVec 32 := 1#32
  let v19 : BitVec 32 := Scalar.addi c1_i32_5 v18
  let c0_i32_6 : BitVec 32 := 0#32
  let v20 : BitVec 32 := Scalar.select v0 c0_i32_6 v19
  let c0_i32_7 : BitVec 32 := 0#32
  let c4_i32_8 : BitVec 32 := 4#32
  let c0_i32_9 : BitVec 32 := 0#32
  ![v20.toNat, c0_i32_7.toNat, c4_i32_8.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x4096 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x4096 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x4096 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x4096 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference10Ideal.lean ====
abbrev S16x256x4096 : Shape := ⟨3, ![16, 256, 4096]⟩
abbrev S2x1024x4096 : Shape := ⟨3, ![2, 1024, 4096]⟩
abbrev S1024x4096 : Shape := ⟨2, ![1024, 4096]⟩
abbrev S6144x4096 : Shape := ⟨2, ![6144, 4096]⟩
abbrev S8x24576 : Shape := ⟨2, ![8, 24576]⟩
abbrev S1x4096 : Shape := ⟨2, ![1, 4096]⟩
abbrev S4096x4096 : Shape := ⟨2, ![4096, 4096]⟩
abbrev S1x24576 : Shape := ⟨2, ![1, 24576]⟩
abbrev S1x12288 : Shape := ⟨2, ![1, 12288]⟩
abbrev S1x1x12288 : Shape := ⟨3, ![1, 1, 12288]⟩
abbrev S1x1x4096 : Shape := ⟨3, ![1, 1, 4096]⟩
abbrev S_ : Shape := ⟨0, ![]⟩
abbrev S4096 : Shape := ⟨1, ![4096]⟩
abbrev S16x256 : Shape := ⟨2, ![16, 256]⟩
abbrev S16x256x1 : Shape := ⟨3, ![16, 256, 1]⟩
abbrev S1x1024x4096 : Shape := ⟨3, ![1, 1024, 4096]⟩
abbrev S2048x4096 : Shape := ⟨2, ![2048, 4096]⟩
abbrev S2x24576 : Shape := ⟨2, ![2, 24576]⟩
abbrev S2x12288 : Shape := ⟨2, ![2, 12288]⟩
abbrev S2x1x12288 : Shape := ⟨3, ![2, 1, 12288]⟩
abbrev S2x1x4096 : Shape := ⟨3, ![2, 1, 4096]⟩
abbrev S2x1024 : Shape := ⟨2, ![2, 1024]⟩
abbrev S2x1024x1 : Shape := ⟨3, ![2, 1024, 1]⟩

abbrev nBuf : Space → Nat
  | .hbm => 121
  | .vmem => 0
  | .smem => 0
  | _ => 0

abbrev bufTy : (tb : Table) → Fin (tcTables nBuf tb) → BufTy
  | .hbm, ⟨0, _⟩ => ⟨S16x256x4096, .f32⟩
  | .hbm, ⟨1, _⟩ => ⟨S2x1024x4096, .f32⟩
  | .hbm, ⟨2, _⟩ => ⟨S1024x4096, .f32⟩
  | .hbm, ⟨3, _⟩ => ⟨S6144x4096, .f32⟩
  | .hbm, ⟨4, _⟩ => ⟨S8x24576, .f32⟩
  | .hbm, ⟨5, _⟩ => ⟨S1x4096, .f32⟩
  | .hbm, ⟨6, _⟩ => ⟨S1x4096, .f32⟩
  | .hbm, ⟨7, _⟩ => ⟨S4096x4096, .f32⟩
  | .hbm, ⟨8, _⟩ => ⟨S16x256x4096, .f32⟩
  | .hbm, ⟨9, _⟩ => ⟨S1x24576, .f32⟩
  | .hbm, ⟨10, _⟩ => ⟨S1x12288, .f32⟩
  | .hbm, ⟨11, _⟩ => ⟨S1x1x12288, .f32⟩
  | .hbm, ⟨12, _⟩ => ⟨S1x1x4096, .f32⟩
  | .hbm, ⟨13, _⟩ => ⟨S1x1x4096, .f32⟩
  | .hbm, ⟨14, _⟩ => ⟨S1x1x4096, .f32⟩
  | .hbm, ⟨15, _⟩ => ⟨S_, .f32⟩
  | .hbm, ⟨16, _⟩ => ⟨S16x256x4096, .f32⟩
  | .hbm, ⟨17, _⟩ => ⟨S16x256x4096, .f32⟩
  | .hbm, ⟨18, _⟩ => ⟨S16x256x4096, .f32⟩
  | .hbm, ⟨19, _⟩ => ⟨S16x256x4096, .f32⟩
  | .hbm, ⟨20, _⟩ => ⟨S16x256x4096, .f32⟩
  | .hbm, ⟨21, _⟩ => ⟨S4096, .f32⟩
  | .hbm, ⟨22, _⟩ => ⟨S4096, .f32⟩
  | .hbm, ⟨23, _⟩ => ⟨S_, .f32⟩
  | .hbm, ⟨24, _⟩ => ⟨S16x256, .f32⟩
  | .hbm, ⟨25, _⟩ => ⟨S16x256x1, .f32⟩
  | .hbm, ⟨26, _⟩ => ⟨S_, .f32⟩
  | .hbm, ⟨27, _⟩ => ⟨S16x256x1, .f32⟩
  | .hbm, ⟨28, _⟩ => ⟨S16x256x1, .f32⟩
  | .hbm, ⟨29, _⟩ => ⟨S16x256x4096, .f32⟩
  | .hbm, ⟨30, _⟩ => ⟨S16x256x4096, .f32⟩
  | .hbm, ⟨31, _⟩ => ⟨S16x256x4096, .f32⟩
  | .hbm, ⟨32, _⟩ => ⟨S_, .f32⟩
  | .hbm, ⟨33, _⟩ => ⟨S16x256, .f32⟩
  | .hbm, ⟨34, _⟩ => ⟨S16x256x1, .f32⟩
  | .hbm, ⟨35, _⟩ => ⟨S_, .f32⟩
  | .hbm, ⟨36, _⟩ => ⟨S16x256x1, .f32⟩
  | .hbm, ⟨37, _⟩ => ⟨S16x256x1, .f32⟩
  | .hbm, ⟨38, _⟩ => ⟨S16x256x4096, .f32⟩
  | .hbm, ⟨39, _⟩ => ⟨S16x256x4096, .f32⟩
  | .hbm, ⟨40, _⟩ => ⟨S_, .f32⟩
  | .hbm, ⟨41, _⟩ => ⟨S16x256x1, .f32⟩
  | .hbm, ⟨42, _⟩ => ⟨S16x256x1, .f32⟩
  | .hbm, ⟨43, _⟩ => ⟨S16x256x1, .f32⟩
  | .hbm, ⟨44, _⟩ => ⟨S16x256x4096, .f32⟩
  | .hbm, ⟨45, _⟩ => ⟨S16x256x4096, .f32⟩
  | .hbm, ⟨46, _⟩ => ⟨S1x1x4096, .f32⟩
  | .hbm, ⟨47, _⟩ => ⟨S16x256x4096, .f32⟩
  | .hbm, ⟨48, _⟩ => ⟨S16x256x4096, .f32⟩
  | .hbm, ⟨49, _⟩ => ⟨S1x1x4096, .f32⟩
  | .hbm, ⟨50, _⟩ => ⟨S16x256x4096, .f32⟩
  | .hbm, ⟨51, _⟩ => ⟨S16x256x4096, .f32⟩
  | .hbm, ⟨52, _⟩ => ⟨S4096x4096, .f32⟩
  | .hbm, ⟨53, _⟩ => ⟨S_, .f32⟩
  | .hbm, ⟨54, _⟩ => ⟨S1x1x4096, .f32⟩
  | .hbm, ⟨55, _⟩ => ⟨S1x1x4096, .f32⟩
  | .hbm, ⟨56, _⟩ => ⟨S16x256x4096, .f32⟩
  | .hbm, ⟨57, _⟩ => ⟨S16x256x4096, .f32⟩
  | .hbm, ⟨58, _⟩ => ⟨S16x256x4096, .f32⟩
  | .hbm, ⟨59, _⟩ => ⟨S16x256x4096, .f32⟩
  | .hbm, ⟨60, _⟩ => ⟨S4096x4096, .f32⟩
  | .hbm, ⟨61, _⟩ => ⟨S1x1024x4096, .f32⟩
  | .hbm, ⟨62, _⟩ => ⟨S2x1024x4096, .f32⟩
  | .hbm, ⟨63, _⟩ => ⟨S2x1024x4096, .f32⟩
  | .hbm, ⟨64, _⟩ => ⟨S2048x4096, .f32⟩
  | .hbm, ⟨65, _⟩ => ⟨S2x1024x4096, .f32⟩
  | .hbm, ⟨66, _⟩ => ⟨S2x24576, .f32⟩
  | .hbm, ⟨67, _⟩ => ⟨S2x12288, .f32⟩
  | .hbm, ⟨68, _⟩ => ⟨S2x1x12288, .f32⟩
  | .hbm, ⟨69, _⟩ => ⟨S2x1x4096, .f32⟩
  | .hbm, ⟨70, _⟩ => ⟨S2x1x4096, .f32⟩
  | .hbm, ⟨71, _⟩ => ⟨S2x1x4096, .f32⟩
  | .hbm, ⟨72, _⟩ => ⟨S_, .f32⟩
  | .hbm, ⟨73, _⟩ => ⟨S2x1024x4096, .f32⟩
  | .hbm, ⟨74, _⟩ => ⟨S2x1024x4096, .f32⟩
  | .hbm, ⟨75, _⟩ => ⟨S2x1024x4096, .f32⟩
  | .hbm, ⟨76, _⟩ => ⟨S2x1024x4096, .f32⟩
  | .hbm, ⟨77, _⟩ => ⟨S2x1024x4096, .f32⟩
  | .hbm, ⟨78, _⟩ => ⟨S4096, .f32⟩
  | .hbm, ⟨79, _⟩ => ⟨S4096, .f32⟩
  | .hbm, ⟨80, _⟩ => ⟨S_, .f32⟩
  | .hbm, ⟨81, _⟩ => ⟨S2x1024, .f32⟩
  | .hbm, ⟨82, _⟩ => ⟨S2x1024x1, .f32⟩
  | .hbm, ⟨83, _⟩ => ⟨S_, .f32⟩
  | .hbm, ⟨84, _⟩ => ⟨S2x1024x1, .f32⟩
  | .hbm, ⟨85, _⟩ => ⟨S2x1024x1, .f32⟩
  | .hbm, ⟨86, _⟩ => ⟨S2x1024x4096, .f32⟩
  | .hbm, ⟨87, _⟩ => ⟨S2x1024x4096, .f32⟩
  | .hbm, ⟨88, _⟩ => ⟨S2x1024x4096, .f32⟩
  | .hbm, ⟨89, _⟩ => ⟨S_, .f32⟩
  | .hbm, ⟨90, _⟩ => ⟨S2x1024, .f32⟩
  | .hbm, ⟨91, _⟩ => ⟨S2x1024x1, .f32⟩
  | .hbm, ⟨92, _⟩ => ⟨S_, .f32⟩
  | .hbm, ⟨93, _⟩ => ⟨S2x1024x1, .f32⟩
  | .hbm, ⟨94, _⟩ => ⟨S2x1024x1, .f32⟩
  | .hbm, ⟨95, _⟩ => ⟨S2x1024x4096, .f32⟩
  | .hbm, ⟨96, _⟩ => ⟨S2x1024x4096, .f32⟩
  | .hbm, ⟨97, _⟩ => ⟨S_, .f32⟩
  | .hbm, ⟨98, _⟩ => ⟨S2x1024x1, .f32⟩
  | .hbm, ⟨99, _⟩ => ⟨S2x1024x1, .f32⟩
  | .hbm, ⟨100, _⟩ => ⟨S2x1024x1, .f32⟩
  | .hbm, ⟨101, _⟩ => ⟨S2x1024x4096, .f32⟩
  | .hbm, ⟨102, _⟩ => ⟨S2x1024x4096, .f32⟩
  | .hbm, ⟨103, _⟩ => ⟨S1x1x4096, .f32⟩
  | .hbm, ⟨104, _⟩ => ⟨S2x1024x4096, .f32⟩
  | .hbm, ⟨105, _⟩ => ⟨S2x1024x4096, .f32⟩
  | .hbm, ⟨106, _⟩ => ⟨S1x1x4096, .f32⟩
  | .hbm, ⟨107, _⟩ => ⟨S2x1024x4096, .f32⟩
  | .hbm, ⟨108, _⟩ => ⟨S2x1024x4096, .f32⟩
  | .hbm, ⟨109, _⟩ => ⟨S2048x4096, .f32⟩
  | .hbm, ⟨110, _⟩ => ⟨S_, .f32⟩
  | .hbm, ⟨111, _⟩ => ⟨S2x1x4096, .f32⟩
  | .hbm, ⟨112, _⟩ => ⟨S2x1x4096, .f32⟩
  | .hbm, ⟨113, _⟩ => ⟨S2x1024x4096, .f32⟩
  | .hbm, ⟨114, _⟩ => ⟨S2x1024x4096, .f32⟩
  | .hbm, ⟨115, _⟩ => ⟨S2x1024x4096, .f32⟩
  | .hbm, ⟨116, _⟩ => ⟨S2x1024x4096, .f32⟩
  | .hbm, ⟨117, _⟩ => ⟨S2048x4096, .f32⟩
  | .hbm, ⟨118, _⟩ => ⟨S6144x4096, .f32⟩
  | .hbm, ⟨119, _⟩ => ⟨S6144x4096, .f32⟩
  | .hbm, ⟨120, _⟩ => ⟨S6144x4096, .bf16⟩
  | _, _ => ⟨S16x256x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_0 : Ref sig .tc := ⟨.hbm, 23, rfl⟩
abbrev main_v15 : Ref sig .tc := ⟨.hbm, 24, rfl⟩
abbrev main_v16 : Ref sig .tc := ⟨.hbm, 25, rfl⟩
abbrev main_cst_1 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_2 : Ref sig .tc := ⟨.hbm, 32, rfl⟩
abbrev main_v22 : Ref sig .tc := ⟨.hbm, 33, rfl⟩
abbrev main_v23 : Ref sig .tc := ⟨.hbm, 34, rfl⟩
abbrev main_cst_3 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_4 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_cst_5 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_cst_6 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_cst_7 : Ref sig .tc := ⟨.hbm, 80, rfl⟩
abbrev main_v65 : Ref sig .tc := ⟨.hbm, 81, rfl⟩
abbrev main_v66 : Ref sig .tc := ⟨.hbm, 82, rfl⟩
abbrev main_cst_8 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_cst_9 : Ref sig .tc := ⟨.hbm, 89, rfl⟩
abbrev main_v72 : Ref sig .tc := ⟨.hbm, 90, rfl⟩
abbrev main_v73 : Ref sig .tc := ⟨.hbm, 91, rfl⟩
abbrev main_cst_10 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_cst_11 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_cst_12 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩
abbrev main_v98 : Ref sig .tc := ⟨.hbm, 119, rfl⟩
abbrev main_v99 : Ref sig .tc := ⟨.hbm, 120, rfl⟩

abbrev nD : Nat := 1
abbrev τ : Topo := Topo.v7x

variable {F : FTy → Type} [FloatOps F]
-- ==== Kernel11.lean ====
abbrev S16x256x4096 : Shape := ⟨3, ![16, 256, 4096]⟩
abbrev S2x1024x4096 : Shape := ⟨3, ![2, 1024, 4096]⟩
abbrev S1024x4096 : Shape := ⟨2, ![1024, 4096]⟩
abbrev S8x24576 : Shape := ⟨2, ![8, 24576]⟩
abbrev S1x4096x20544 : Shape := ⟨3, ![1, 4096, 20544]⟩
abbrev S4096x4096 : Shape := ⟨2, ![4096, 4096]⟩
abbrev S2048x4096 : Shape := ⟨2, ![2048, 4096]⟩
abbrev S8x1x24576 : Shape := ⟨3, ![8, 1, 24576]⟩
abbrev S1x20544x4096 : Shape := ⟨3, ![1, 20544, 4096]⟩
abbrev S20544x4096 : Shape := ⟨2, ![20544, 4096]⟩
abbrev S6144x4096 : Shape := ⟨2, ![6144, 4096]⟩
abbrev S6144x128 : Shape := ⟨2, ![6144, 128]⟩
abbrev S256x4096 : Shape := ⟨2, ![256, 4096]⟩
abbrev S1x1x4096 : Shape := ⟨3, ![1, 1, 4096]⟩
abbrev S128x4096 : Shape := ⟨2, ![128, 4096]⟩
abbrev S256x128 : Shape := ⟨2, ![256, 128]⟩
abbrev S4096x128 : Shape := ⟨2, ![4096, 128]⟩
abbrev S1x4096 : Shape := ⟨2, ![1, 4096]⟩

abbrev nBuf : Space → Nat
  | .hbm => 12
  | .vmem => 16
  | .smem => 0
  | _ => 0

abbrev bufTy : (tb : Table) → Fin (tcTables nBuf tb) → BufTy
  | .hbm, ⟨0, _⟩ => ⟨S16x256x4096, .f32⟩
  | .hbm, ⟨1, _⟩ => ⟨S2x1024x4096, .f32⟩
  | .hbm, ⟨2, _⟩ => ⟨S1024x4096, .f32⟩
  | .hbm, ⟨3, _⟩ => ⟨S8x24576, .f32⟩
  | .hbm, ⟨4, _⟩ => ⟨S1x4096x20544, .f32⟩
  | .hbm, ⟨5, _⟩ => ⟨S4096x4096, .f32⟩
  | .hbm, ⟨6, _⟩ => ⟨S2048x4096, .f32⟩
  | .hbm, ⟨7, _⟩ => ⟨S8x1x24576, .f32⟩
  | .hbm, ⟨8, _⟩ => ⟨S1x20544x4096, .f32⟩
  | .hbm, ⟨9, _⟩ => ⟨S20544x4096, .f32⟩
  | .hbm, ⟨10, _⟩ => ⟨S6144x4096, .bf16⟩
  | .hbm, ⟨11, _⟩ => ⟨S6144x128, .f32⟩
  | .local _ .vmem, ⟨0, _⟩ => ⟨S256x4096, .f32⟩
  | .local _ .vmem, ⟨1, _⟩ => ⟨S256x4096, .f32⟩
  | .local _ .vmem, ⟨2, _⟩ => ⟨S256x4096, .f32⟩
  | .local _ .vmem, ⟨3, _⟩ => ⟨S256x4096, .f32⟩
  | .local _ .vmem, ⟨4, _⟩ => ⟨S256x4096, .f32⟩
  | .local _ .vmem, ⟨5, _⟩ => ⟨S256x4096, .f32⟩
  | .local _ .vmem, ⟨6, _⟩ => ⟨S1x1x4096, .f32⟩
  | .local _ .vmem, ⟨7, _⟩ => ⟨S1x1x4096, .f32⟩
  | .local _ .vmem, ⟨8, _⟩ => ⟨S1x1x4096, .f32⟩
  | .local _ .vmem, ⟨9, _⟩ => ⟨S1x1x4096, .f32⟩
  | .local _ .vmem, ⟨10, _⟩ => ⟨S128x4096, .f32⟩
  | .local _ .vmem, ⟨11, _⟩ => ⟨S256x4096, .bf16⟩
  | .local _ .vmem, ⟨12, _⟩ => ⟨S256x4096, .bf16⟩
  | .local _ .vmem, ⟨13, _⟩ => ⟨S256x128, .f32⟩
  | .local _ .vmem, ⟨14, _⟩ => ⟨S256x128, .f32⟩
  | .local _ .vmem, ⟨15, _⟩ => ⟨S4096x128, .bf16⟩
  | _, _ => ⟨S16x256x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨1, ![24], ![false]⟩

def k0_cond2 (i : grid0.Coords) : BitVec 1 :=
  let arg0 : BitVec 32 := BitVec.ofNat 32 (i 0).val
  let c16_i32 : BitVec 32 := 16#32
  let v9 : BitVec 1 := Scalar.cmpi .slt arg0 c16_i32
  let v10 : BitVec 32 := Scalar.extui v9
  let c0_i32_6 : BitVec 32 := 0#32
  let v11 : BitVec 1 := Scalar.cmpi .ne v10 c0_i32_6
  v11

def k0_cond3 (i : grid0.Coords) : BitVec 1 :=
  let arg0 : BitVec 32 := BitVec.ofNat 32 (i 0).val
  let c16_i32_7 : BitVec 32 := 16#32
  let v12 : BitVec 1 := Scalar.cmpi .sge arg0 c16_i32_7
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c16_i32 : BitVec 32 := 16#32
  let v0 : BitVec 32 := Scalar.subi arg0 c16_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let c16_i32 : BitVec 32 := 16#32
  let v0 : BitVec 32 := Scalar.subi arg0 c16_i32
  let c0_i32 : BitVec 32 := 0#32
  let v1 : BitVec 32 := Scalar.maxsi v0 c0_i32
  let c4_i32 : BitVec 32 := 4#32
  let c0_i32_0 : BitVec 32 := 0#32
  let v2 : BitVec 1 := Scalar.cmpi .eq c4_i32 c0_i32_0
  let c1_i32 : BitVec 32 := 1#32
  let v3 : BitVec 32 := Scalar.select v2 c1_i32 c4_i32
  let v4 : BitVec 32 := Scalar.remsi v1 v3
  let c0_i32_1 : BitVec 32 := 0#32
  let v5 : BitVec 1 := Scalar.cmpi .ne v4 c0_i32_1
  let c0_i32_2 : BitVec 32 := 0#32
  let v6 : BitVec 1 := Scalar.cmpi .slt v4 c0_i32_2
  let c0_i32_3 : BitVec 32 := 0#32
  let v7 : BitVec 1 := Scalar.cmpi .slt v3 c0_i32_3
  let v8 : BitVec 1 := Scalar.xori v6 v7
  let v9 : BitVec 1 := Scalar.andi v8 v5
  let v10 : BitVec 32 := Scalar.addi v4 v3
  let v11 : BitVec 32 := Scalar.select v9 v10 v4
  let c0_i32_4 : BitVec 32 := 0#32
  let c0_i32_5 : BitVec 32 := 0#32
  ![v11.toNat, c0_i32_4.toNat]

def cc0_transform_3 (i : grid0.Coords) : Fin 3 → Nat :=
  let arg0 : BitVec 32 := BitVec.ofNat 32 (i 0).val
  let c16_i32 : BitVec 32 := 16#32
  let v0 : BitVec 1 := Scalar.cmpi .slt arg0 c16_i32
  let c16_i32_0 : BitVec 32 := 16#32
  let v1 : BitVec 32 := Scalar.subi arg0 c16_i32_0
  let c4_i32 : BitVec 32 := 4#32
  let v2 : BitVec 32 := Scalar.divsi v1 c4_i32
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c4_i32 c0_i32_2
  let v9 : BitVec 32 := Scalar.extui v8
  let c0_i32_3 : BitVec 32 := 0#32
  let v10 : BitVec 1 := Scalar.cmpi .slt c4_i32 c0_i32_3
  let v11 : BitVec 32 := Scalar.extui v10
  let v12 : BitVec 32 := Scalar.subi v9 v11
  let v13 : BitVec 1 := Scalar.cmpi .ne v7 v12
  let v14 : BitVec 32 := Scalar.remsi v1 c4_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c1_i32_5 : BitVec 32 := 1#32
  let v19 : BitVec 32 := Scalar.addi c1_i32_5 v18
  let c0_i32_6 : BitVec 32 := 0#32
  let v20 : BitVec 32 := Scalar.select v0 c0_i32_6 v19
  let c0_i32_7 : BitVec 32 := 0#32
  let c0_i32_8 : BitVec 32 := 0#32
  let c0_i32_9 : BitVec 32 := 0#32
  ![v20.toNat, c0_i32_7.toNat, c0_i32_8.toNat]

def cc0_transform_4 (i : grid0.Coords) : Fin 3 → Nat :=
  let arg0 : BitVec 32 := BitVec.ofNat 32 (i 0).val
  let c16_i32 : BitVec 32 := 16#32
  let v0 : BitVec 1 := Scalar.cmpi .slt arg0 c16_i32
  let c16_i32_0 : BitVec 32 := 16#32
  let v1 : BitVec 32 := Scalar.subi arg0 c16_i32_0
  let c4_i32 : BitVec 32 := 4#32
  let v2 : BitVec 32 := Scalar.divsi v1 c4_i32
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c4_i32 c0_i32_2
  let v9 : BitVec 32 := Scalar.extui v8
  let c0_i32_3 : BitVec 32 := 0#32
  let v10 : BitVec 1 := Scalar.cmpi .slt c4_i32 c0_i32_3
  let v11 : BitVec 32 := Scalar.extui v10
  let v12 : BitVec 32 := Scalar.subi v9 v11
  let v13 : BitVec 1 := Scalar.cmpi .ne v7 v12
  let v14 : BitVec 32 := Scalar.remsi v1 c4_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c1_i32_5 : BitVec 32 := 1#32
  let v19 : BitVec 32 := Scalar.addi c1_i32_5 v18
  let c0_i32_6 : BitVec 32 := 0#32
  let v20 : BitVec 32 := Scalar.select v0 c0_i32_6 v19
  let c0_i32_7 : BitVec 32 := 0#32
  let c1_i32_8 : BitVec 32 := 1#32
  let c0_i32_9 : BitVec 32 := 0#32
  ![v20.toNat, c0_i32_7.toNat, c1_i32_8.toNat]

def cc0_transform_5 (i : grid0.Coords) : Fin 2 → Nat :=
  let arg0 : BitVec 32 := BitVec.ofNat 32 (i 0).val
  let c12288_i32 : BitVec 32 := 12288#32
  let c0_i32 : BitVec 32 := 0#32
  let c0_i32_0 : BitVec 32 := 0#32
  ![c12288_i32.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S128x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x4096 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference11Ideal.lean ====
abbrev S16x256x4096 : Shape := ⟨3, ![16, 256, 4096]⟩
abbrev S2x1024x4096 : Shape := ⟨3, ![2, 1024, 4096]⟩
abbrev S1024x4096 : Shape := ⟨2, ![1024, 4096]⟩
abbrev S8x24576 : Shape := ⟨2, ![8, 24576]⟩
abbrev S1x4096x20544 : Shape := ⟨3, ![1, 4096, 20544]⟩
abbrev S1x24576 : Shape := ⟨2, ![1, 24576]⟩
abbrev S1x8192 : Shape := ⟨2, ![1, 8192]⟩
abbrev S1x1x8192 : Shape := ⟨3, ![1, 1, 8192]⟩
abbrev S1x1x4096 : Shape := ⟨3, ![1, 1, 4096]⟩
abbrev S_ : Shape := ⟨0, ![]⟩
abbrev S4096x4096 : Shape := ⟨2, ![4096, 4096]⟩
abbrev S1x1024x4096 : Shape := ⟨3, ![1, 1024, 4096]⟩
abbrev S2x24576 : Shape := ⟨2, ![2, 24576]⟩
abbrev S2x8192 : Shape := ⟨2, ![2, 8192]⟩
abbrev S2x1x8192 : Shape := ⟨3, ![2, 1, 8192]⟩
abbrev S2x1x4096 : Shape := ⟨3, ![2, 1, 4096]⟩
abbrev S2048x4096 : Shape := ⟨2, ![2048, 4096]⟩
abbrev S6144x4096 : Shape := ⟨2, ![6144, 4096]⟩
abbrev S4096x20544 : Shape := ⟨2, ![4096, 20544]⟩
abbrev S6144x20544 : Shape := ⟨2, ![6144, 20544]⟩
abbrev S6144x128 : Shape := ⟨2, ![6144, 128]⟩

abbrev nBuf : Space → Nat
  | .hbm => 39
  | .vmem => 0
  | .smem => 0
  | _ => 0

abbrev bufTy : (tb : Table) → Fin (tcTables nBuf tb) → BufTy
  | .hbm, ⟨0, _⟩ => ⟨S16x256x4096, .f32⟩
  | .hbm, ⟨1, _⟩ => ⟨S2x1024x4096, .f32⟩
  | .hbm, ⟨2, _⟩ => ⟨S1024x4096, .f32⟩
  | .hbm, ⟨3, _⟩ => ⟨S8x24576, .f32⟩
  | .hbm, ⟨4, _⟩ => ⟨S1x4096x20544, .f32⟩
  | .hbm, ⟨5, _⟩ => ⟨S1x24576, .f32⟩
  | .hbm, ⟨6, _⟩ => ⟨S1x8192, .f32⟩
  | .hbm, ⟨7, _⟩ => ⟨S1x1x8192, .f32⟩
  | .hbm, ⟨8, _⟩ => ⟨S1x1x4096, .f32⟩
  | .hbm, ⟨9, _⟩ => ⟨S1x1x4096, .f32⟩
  | .hbm, ⟨10, _⟩ => ⟨S_, .f32⟩
  | .hbm, ⟨11, _⟩ => ⟨S1x1x4096, .f32⟩
  | .hbm, ⟨12, _⟩ => ⟨S1x1x4096, .f32⟩
  | .hbm, ⟨13, _⟩ => ⟨S16x256x4096, .f32⟩
  | .hbm, ⟨14, _⟩ => ⟨S16x256x4096, .f32⟩
  | .hbm, ⟨15, _⟩ => ⟨S16x256x4096, .f32⟩
  | .hbm, ⟨16, _⟩ => ⟨S16x256x4096, .f32⟩
  | .hbm, ⟨17, _⟩ => ⟨S4096x4096, .f32⟩
  | .hbm, ⟨18, _⟩ => ⟨S1x1024x4096, .f32⟩
  | .hbm, ⟨19, _⟩ => ⟨S2x1024x4096, .f32⟩
  | .hbm, ⟨20, _⟩ => ⟨S2x1024x4096, .f32⟩
  | .hbm, ⟨21, _⟩ => ⟨S2x24576, .f32⟩
  | .hbm, ⟨22, _⟩ => ⟨S2x8192, .f32⟩
  | .hbm, ⟨23, _⟩ => ⟨S2x1x8192, .f32⟩
  | .hbm, ⟨24, _⟩ => ⟨S2x1x4096, .f32⟩
  | .hbm, ⟨25, _⟩ => ⟨S2x1x4096, .f32⟩
  | .hbm, ⟨26, _⟩ => ⟨S_, .f32⟩
  | .hbm, ⟨27, _⟩ => ⟨S2x1x4096, .f32⟩
  | .hbm, ⟨28, _⟩ => ⟨S2x1x4096, .f32⟩
  | .hbm, ⟨29, _⟩ => ⟨S2x1024x4096, .f32⟩
  | .hbm, ⟨30, _⟩ => ⟨S2x1024x4096, .f32⟩
  | .hbm, ⟨31, _⟩ => ⟨S2x1024x4096, .f32⟩
  | .hbm, ⟨32, _⟩ => ⟨S2x1024x4096, .f32⟩
  | .hbm, ⟨33, _⟩ => ⟨S2048x4096, .f32⟩
  | .hbm, ⟨34, _⟩ => ⟨S6144x4096, .f32⟩
  | .hbm, ⟨35, _⟩ => ⟨S6144x4096, .bf16⟩
  | .hbm, ⟨36, _⟩ => ⟨S4096x20544, .f32⟩
  | .hbm, ⟨37, _⟩ => ⟨S6144x20544, .f32⟩
  | .hbm, ⟨38, _⟩ => ⟨S6144x128, .f32⟩
  | _, _ => ⟨S16x256x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_0 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩

abbrev nD : Nat := 1
abbrev τ : Topo := Topo.v7x

variable {F : FTy → Type} [FloatOps F]
-- ==== Proof.GatesRing.lean ====
module

public import proofs.«01_k».proof.Proof.Gen.KernelIdeal.Frame
public import proofs.«01_k».proof.Proof.Gen.KernelIdeal.Skeleton
public import Idealize.ShloMosaic.Lib.Ring
public import Idealize.ShloMosaic.Lib.Tactic
public import Idealize.ShloMosaic.Lib.WordCmp

/-! The gates' kernel: its branch conditions over the grid's points, the buffers that its body works on, and its ring. The body
streams the rows of its left operand through three slabs, two blocks ahead, by copies of its own: slot, block and cell at a
point are named here, and what the launch hands to the ring and takes back. -/

@[expose] public section

set_option maxRecDepth 16384

noncomputable section

namespace Cert.KernelIdeal.Gates

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)
/-! ## The launch -/

set_option maxHeartbeats 800000 in
/-- The program up to its region: the host operations, then the region. -/
theorem hmain (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-- Input window 0 holds its block at every point, whether or not it is fetched there. -/
theorem before0_0_of {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1 holds its block at every point, whether or not it is fetched there. -/
theorem before0_1_of {c : Dev nD} (dat : Dat τ (Elt F) Unit ℕ (Pipeline.UD sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's branch conditions -/

/-- The body's condition 0. -/
abbrev cond0_0 (i : grid0.Coords) : Prop := k0_cond1 i = 1#1
/-- It holds at the first point only — decided over the grid. -/
theorem hcond0_0 : ∀ t : Fin cfg0.N, cond0_0 (grid0.coords t) ↔ t.val % 96 = 0 :=
  (by decide +kernel : ∀ t : Fin grid0.N, cond0_0 (grid0.coords t) ↔ t.val % 96 = 0)

/-- The body's condition 1. -/
abbrev cond0_1 (i : grid0.Coords) : Prop := k0_cond2 i = 1#1
/-- It holds at the points before point 94 — decided over the grid. -/
theorem hcond0_1 : ∀ t : Fin cfg0.N, cond0_1 (grid0.coords t) ↔ t.val < 94 :=
  (by decide +kernel : ∀ t : Fin grid0.N, cond0_1 (grid0.coords t) ↔ t.val < 94)

/-- The body's condition 2. -/
abbrev cond0_2 (i : grid0.Coords) : Prop := k0_cond3 i = 1#1
/-- It holds at the points ≡ 0 (mod 6) — by arithmetic of the point. -/
theorem hcond0_2 : ∀ t : Fin cfg0.N, cond0_2 (grid0.coords t) ↔ t.val % 6 = 0 :=
  (fun t => by
    have ht : t.val < 96 := Nat.lt_of_lt_of_eq t.isLt N_0
    have e0 : (grid0.coords t 0).val = t.val / 6 % 16 := Pipeline.Grid.coords_val t 0 (by decide) rfl
    have e1 : (grid0.coords t 1).val = t.val / 1 % 6 := Pipeline.Grid.coords_val t 1 (by decide) rfl
    simp only [cond0_2, k0_cond3, e0, e1]
    word_cmp
   : ∀ t : Fin grid0.N, cond0_2 (grid0.coords t) ↔ t.val % 6 = 0)

/-- The body's condition 3. -/
abbrev cond0_3 (i : grid0.Coords) : Prop := k0_cond4 i = 1#1
/-- It holds at the points whose coordinates have 1 ≤ i1 — decided over the grid. -/
theorem hcond0_3 : ∀ t : Fin cfg0.N, cond0_3 (grid0.coords t) ↔ 1 ≤ t.val % 6 :=
  (by decide +kernel : ∀ t : Fin grid0.N, cond0_3 (grid0.coords t) ↔ 1 ≤ t.val % 6)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-! ## The buffers of the body -/

/-- Each window's current staging memref at point `t`, spelled as the pipeline passes it (`bodyAt0`), and its wholeness. -/
abbrev ms0_0 (t : Fin cfg0.N) : Memref sig .tc .vmem S512x4096 .f32 := win0_0.stage (cfg0.slots t 0)
abbrev ms0_1 (t : Fin cfg0.N) : Memref sig .tc .vmem S1x512 .f32 := win0_1.stage (cfg0.slots t 1)
abbrev ms0_2 (t : Fin cfg0.N) : Memref sig .tc .vmem S1024x512 .bf16 := win0_2.stage (cfg0.slots t 2)
/-- The scratch operands: whole scoped buffers of the kernel's own, passed beside the windows. -/
abbrev scM0_0 : Memref sig .tc .vmem S4096x512 .bf16 := Memref.whole cc0_scratch0
abbrev scM0_1 : Memref sig .tc .vmem S3x1024x4096 .bf16 := Memref.whole cc0_scratch1
/-- The operands left in HBM that the body copies into scratch itself, whole. -/
abbrev hbM0_0 : Memref sig .tc .hbm S6144x4096 .bf16 := Memref.whole main_v2
/-- Memref `M`'s buffer on core `c`: its contents type, and it held whole at `f`. -/
abbrev HbBuf0 (c : Dev nD) {sp : Space} {S : Shape} {e : EltTy} (M : Memref sig .tc sp S e) : Type := Buf (Elt F) (M.view.loc (c : Thread nD τ))
abbrev hbPt0 (c : Dev nD) {sp : Space} {S : Shape} {e : EltTy} (M : Memref sig .tc sp S e) (f : HbBuf0 (F := F) c M) : sProp 𝕄 :=
  M.view.loc (c : Thread nD τ) ↦{fullShare} f

/-- The body's own DMA semaphores, cell by cell (their numbers in the pool): the kernel's own semaphores for the launch
    (`Pipeline.OwnSemFacts`: none is a window's). -/
abbrev osem0 : Fin 3 → SemLoc sig := fun j => (![SemLoc.dma 6, SemLoc.dma 7, SemLoc.dma 8] : Fin 3 → SemLoc sig) j
theorem ownSemFacts0 : Pipeline.OwnSemFacts spec0 osem0 := by decide
/-- The cells at zero, listed. -/
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 6) 0 ∗ semVal ((c : Thread nD τ), SemLoc.dma 7) 0 ∗ semVal ((c : Thread nD τ), SemLoc.dma 8) 0) := by
  rw [Pipeline.ownSems0_eq_of_list c osem0 [0, 1, 2] (by decide) (by decide)]; rfl
/-- The HBM operands the body moves, as references: unscoped, no window's array (`Pipeline.restRefs`). -/
def H0 : Finset (Ref sig .tc) := {main_v2}
theorem H0_sub : H0 ⊆ Pipeline.restRefs sig spec0 := by decide
/-- Their points-tos at the launch contents, listed. -/
theorem hbmPts0_eq (c : Dev nD) :
    (bigSep H0 (fun b => ((c : Thread nD τ).loc b) ↦{fullShare} V m c b) : sProp 𝕄) = iprop(hbPt0 c hbM0_0 (V m c main_v2)) := by
  rw [BI.bigSep_eq_bigSepL_of_eq [main_v2] (by decide) (by decide)]; rfl

/-- The invariant of a body with transfers of its own, `Pipeline.ΦD`, conjunct by conjunct: the scratch operands owned at
    some contents, the generator register at some state, the own cells at zero, the HBM operands at their launch
    contents — what the body obligation hands the run and takes back. -/
theorem PhiD0_eq (c : Dev nD) :
    (Pipeline.ΦD osem0 spec0 H0 (V m) c : sProp 𝕄)
      = iprop(iprop((∃ d, owns (c : Thread nD τ) scM0_0 fullShare d) ∗ (∃ d, owns (c : Thread nD τ) scM0_1 fullShare d)) ∗ (∃ r, prngReg c r) ∗ iprop(semVal ((c : Thread nD τ), SemLoc.dma 6) 0 ∗ semVal ((c : Thread nD τ), SemLoc.dma 7) 0 ∗ semVal ((c : Thread nD τ), SemLoc.dma 8) 0) ∗ iprop(hbPt0 c hbM0_0 (V m c main_v2))) := by
  rw [Pipeline.ΦD_eq, scopedRest0_eq, ownSems00_eq, hbmPts0_eq]; simp only [scM0_0, scM0_1, owns_whole]; try rfl

/-! ## Ring 0 of kernel 0: `main_v2` streamed through the 3 slots of `cc0_scratch1` on the cells of `cc0_scratch2`, 2 block ahead, in 96 steps -/

instance : NeZero grid0.N := ⟨by rw [N_0]; decide⟩
theorem inb_slot0_0 (s : Fin 3) : ∀ a, (![s.val, 0, 0] : Fin 3 → Nat) a + S1x1024x4096.size a ≤ S3x1024x4096.size a := by
  have := s.isLt; intro a; fin_cases a <;> simp <;> omega
theorem inb_src0_0 (b : Fin 96) : ∀ a, (![1024 * (b.val % 6), 0] : Fin 2 → Nat) a + S1024x4096.size a ≤ S6144x4096.size a := by
  have := b.isLt; intro a; fin_cases a <;> simp <;> omega
theorem inb_cell0_0 (s : Fin 3) : ∀ a, (![s.val] : Fin 1 → Nat) a + S1.size a ≤ S3.size a := by
  have := s.isLt; intro a; fin_cases a <;> simp <;> omega
/-- Slot `s` of the ring, spelt as the body's transfers spell their destination, at offsets in `s`. -/
def rslot0_0 (s : Fin 3) : Memref sig .tc .vmem S1024x4096 .bf16 :=
  (scM0_1.slice (Rect.unit (s := S3x1024x4096) ![s.val, 0, 0] S1x1024x4096.size (inb_slot0_0 s)) (fun _ => rfl)).squeeze S1024x4096 squeezes_S1x1024x4096_S1024x4096
/-- Block `b` of the operand (the block step `b` waits), spelt as the transfers spell their source, at offsets in `b`. -/
def srcB0_0 (b : Fin 96) : Memref sig .tc .hbm S1024x4096 .bf16 :=
  hbM0_0.slice (Rect.unit (s := S6144x4096) ![1024 * (b.val % 6), 0] S1024x4096.size (inb_src0_0 b)) (fun _ => rfl)
/-- Cell `s` of `cc0_scratch2`, spelt as the body spells a cell; its number in the pool. -/
def cellA0_0 (s : Fin 3) : DmaSems sig S_ := (cc0_scratch2.slice (Rect.unit (s := S3) ![s.val] S1.size (inb_cell0_0 s))).squeeze S_ squeezes_S1_S_
abbrev cellR0_0 (s : Fin 3) : SemLoc sig := SemLoc.dma (cellA0_0 s).sem
theorem cellR0_0_0 : cellR0_0 0 = SemLoc.dma 6 := by decide
theorem cellR0_0_1 : cellR0_0 1 = SemLoc.dma 7 := by decide
theorem cellR0_0_2 : cellR0_0 2 = SemLoc.dma 8 := by decide

section Ring0_0
variable (c : Dev nD) (W : HbBuf0 (F := F) c hbM0_0)
/-- The operand is lent BY SHARE, one read-share copy of it per slot (the full share halved, the right half halved again):
    whatever blocks the transfers in flight stream — the same one twice, ones that overlap —, each borrows from its own slot's copy. -/
abbrev qs0_0 (s : Fin 3) : PosShare TreeShare := if s.val = 0 then fullShare.left else if s.val = 1 then fullShare.right.left else fullShare.right.right
/-- The families the ring is stated over: slot `s` held at `f`; cell `s` at zero; block `b`'s elements of slot `s`'s copy of the
    operand (what a transfer into slot `s` lends), the REST of that copy, and the copy whole; slot `s`'s contents once block `b`
    landed in it whole over `f`; the FLIGHT of block `b` into slot `s`, delivering the slot landed
    and the lent elements back. -/
abbrev slotP0_0 (s : Fin 3) (f : HbBuf0 (F := F) c (rslot0_0 s)) : sProp 𝕄 := (rslot0_0 s).view.loc (c : Thread nD τ) ↦[(rslot0_0 s).view.set]{fullShare} f
abbrev cellP0_0 (s : Fin 3) : sProp 𝕄 := semVal ((c : Thread nD τ), cellR0_0 s) 0
abbrev srcP0_0 (s : Fin 3) (b : Fin 96) : sProp 𝕄 := (srcB0_0 b).view.loc (c : Thread nD τ) ↦[(srcB0_0 b).view.set]{qs0_0 s} W
/-- The rest of a slot's copy of the operand. -/
def restP0_0 (s : Fin 3) (b : Fin 96) : sProp 𝕄 := ((c : Thread nD τ).loc main_v2) ↦[Finset.univ \ (srcB0_0 b).view.set]{qs0_0 s} W
abbrev wholeP0_0 (s : Fin 3) : sProp 𝕄 := ((c : Thread nD τ).loc main_v2) ↦[Finset.univ]{qs0_0 s} W
abbrev landed0_0 (s : Fin 3) (b : Fin 96) (f : HbBuf0 (F := F) c (rslot0_0 s)) : HbBuf0 (F := F) c (rslot0_0 s) :=
  (rslot0_0 s).view.writes (Elt F) f [⟨Rect.whole S1024x4096, ReadAs.same.apply ((srcB0_0 b).view.read (Elt F) W)⟩]
abbrev flightP0_0 (s : Fin 3) (b : Fin 96) (f : HbBuf0 (F := F) c (rslot0_0 s)) : sProp 𝕄 :=
  Transfers.Flight countersEmb (c : Thread nD τ) (cellR0_0 s) default ((rslot0_0 s).view.amount (cellR0_0 s))
    iprop(slotP0_0 c s (landed0_0 c W s b f) ∗ srcP0_0 c W s b)
/-- Lib/Ring.lean's `slot` and `flight` families: a slot not in flight carries its copy of the operand whole; a flight, the
    rest of the copy it borrowed from. No block is held apart: the `home` family is `emp`. -/
abbrev slotW0_0 (s : Fin 3) (f : HbBuf0 (F := F) c (rslot0_0 s)) : sProp 𝕄 := iprop(slotP0_0 c s f ∗ wholeP0_0 c W s)
abbrev flightW0_0 (s : Fin 3) (b : Fin 96) (f : HbBuf0 (F := F) c (rslot0_0 s)) : sProp 𝕄 := iprop(flightP0_0 c W s b f ∗ restP0_0 c W s b)
abbrev noHome0_0 (b : Fin 96) : sProp 𝕄 := iprop(emp)
/-- The ring before its step `k` (Lib/Ring.lean `At 2`): every slot free before the first; from then on blocks `k` and `k + 1` in
    flight into slots `k` and `k + 1` (while they exist), slot `k + 2` free; a waited block is read within its step and not kept. -/
def ringAt0_0 (k : ℕ) : sProp 𝕄 :=
  if k = 0 then Ring.At₀ (cellP0_0 c) (slotW0_0 c W) noHome0_0
  else Ring.At 2 (cellP0_0 c) (slotW0_0 c W) noHome0_0 (flightW0_0 c W) k
omit [FloatOps F] in
theorem cellP0_0_0 : cellP0_0 (F := F) c 0 = semVal ((c : Thread nD τ), SemLoc.dma 6) 0 := congrArg (fun x => (semVal ((c : Thread nD τ), x) 0 : sProp 𝕄)) cellR0_0_0
omit [FloatOps F] in
theorem cellP0_0_1 : cellP0_0 (F := F) c 1 = semVal ((c : Thread nD τ), SemLoc.dma 7) 0 := congrArg (fun x => (semVal ((c : Thread nD τ), x) 0 : sProp 𝕄)) cellR0_0_1
omit [FloatOps F] in
theorem cellP0_0_2 : cellP0_0 (F := F) c 2 = semVal ((c : Thread nD τ), SemLoc.dma 8) 0 := congrArg (fun x => (semVal ((c : Thread nD τ), x) 0 : sProp 𝕄)) cellR0_0_2
end Ring0_0

/-! ### The slots, disjoint and covering the scratch (Lib/Ring.lean `lead_disjoint` / `lead_cover`) -/

abbrev slotSet0_0 (s : Fin 3) : Finset S3x1024x4096.Idx := (Rect.unit (s := S3x1024x4096) ![s.val, 0, 0] S1x1024x4096.size (inb_slot0_0 s)).set
theorem slotSet0_0_eq (s : Fin 3) : (rslot0_0 s).view.set = slotSet0_0 s := by
  simp only [rslot0_0, Memref.view_squeeze, View.set_reshape]; exact View.set_slice_whole _ _
theorem slots0_0_disjoint (s s' : Fin 3) (h : s ≠ s') : Disjoint (slotSet0_0 s) (slotSet0_0 s') :=
  Ring.lead_disjoint (s := S3x1024x4096) (0 : Fin 3) 1 (fun s : Fin 3 => (![s.val, 0, 0] : Fin 3 → Nat)) S1x1024x4096.size inb_slot0_0 (fun s => by simp) rfl s s' h
theorem slots0_0_cover : Finset.univ.biUnion slotSet0_0 = Finset.univ :=
  Ring.lead_cover (s := S3x1024x4096) (0 : Fin 3) 1 (fun s : Fin 3 => (![s.val, 0, 0] : Fin 3 → Nat)) S1x1024x4096.size inb_slot0_0 (fun s => by simp)
    (fun s a ha => by fin_cases a <;> first | exact absurd rfl ha | rfl) rfl (fun a ha => by fin_cases a <;> first | exact absurd rfl ha | rfl) rfl

/-! ### What the launch hands the ring, and takes back -/

section InOut0_0
variable (c : Dev nD) (W : HbBuf0 (F := F) c hbM0_0)
theorem slotP0_0_eq (s : Fin 3) (f) : slotP0_0 (F := F) c s f = (((c : Thread nD τ).loc cc0_scratch1) ↦[slotSet0_0 s]{fullShare} f : sProp 𝕄) := by
  unfold slotP0_0; rw [slotSet0_0_eq]; rfl
/-- A slot's copy of the operand, whole, is block `b`'s elements and the rest (any `b`: what a run splits off before its step
    starts block `b`, and joins back once the wait returned it); -/
theorem src0_0_split (s : Fin 3) (b : Fin 96) : wholeP0_0 (F := F) c W s ⊣⊢ iprop(srcP0_0 c W s b ∗ restP0_0 c W s b) := by
  unfold restP0_0; exact pointsTo_split_subset (Finset.subset_univ _)
/-- the operand whole at the full share is the three copies (halves, the right one halved again). -/
theorem whole0_0_split : (hbPt0 c hbM0_0 W : sProp 𝕄) ⊣⊢ iprop(wholeP0_0 c W 0 ∗ wholeP0_0 c W 1 ∗ wholeP0_0 c W 2) := by
  refine ⟨?_, ?_⟩
  · iintro H
    ihave H' := (pointsTo_share (PosShare.mem_left_op_right fullShare)).1 $$ H
    icases H' with ⟨H0, H12⟩
    ihave H'' := (pointsTo_share (PosShare.mem_left_op_right fullShare.right)).1 $$ H12
    icases H'' with ⟨H1, H2⟩
    isplitl [H0]; · iexact H0
    isplitl [H1]; · iexact H1
    iexact H2
  · iintro ⟨H0, H1, H2⟩
    iapply (pointsTo_share (PosShare.mem_left_op_right fullShare)).2
    isplitl [H0]; · iexact H0
    iapply (pointsTo_share (PosShare.mem_left_op_right fullShare.right)).2
    isplitl [H1]; · iexact H1
    iexact H2
set_option maxHeartbeats 1000000 in
/-- the scratch whole at anything is its slots at something each, and back. -/
theorem slots0_0_in : iprop(∃ d, owns (c : Thread nD τ) scM0_1 fullShare d) ⊢ (iprop((∃ f, slotP0_0 (F := F) c 0 f) ∗ (∃ f, slotP0_0 (F := F) c 1 f) ∗ ∃ f, slotP0_0 (F := F) c 2 f) : sProp 𝕄) := by
  simp only [scM0_1, owns_whole]
  exact Ring.slots3_split (U := Pipeline.UD sig nD τ) (ℓ := (c : Thread nD τ).loc cc0_scratch1) (q := fullShare) slotSet0_0 slots0_0_disjoint slots0_0_cover
    (slotP0_0 c 0) (slotP0_0 c 1) (slotP0_0 c 2) (slotP0_0_eq c 0) (slotP0_0_eq c 1) (slotP0_0_eq c 2)
set_option maxHeartbeats 1000000 in
theorem slots0_0_out : (iprop((∃ f, slotP0_0 (F := F) c 0 f) ∗ (∃ f, slotP0_0 (F := F) c 1 f) ∗ ∃ f, slotP0_0 (F := F) c 2 f) : sProp 𝕄) ⊢ iprop(∃ d, owns (c : Thread nD τ) scM0_1 fullShare d) := by
  simp only [scM0_1, owns_whole]
  exact Ring.slots3_join (U := Pipeline.UD sig nD τ) (ℓ := (c : Thread nD τ).loc cc0_scratch1) (q := fullShare) slotSet0_0 slots0_0_disjoint slots0_0_cover
    (slotP0_0 c 0) (slotP0_0 c 1) (slotP0_0 c 2) (slotP0_0_eq c 0) (slotP0_0_eq c 1) (slotP0_0_eq c 2)
end InOut0_0

/-- INTO THE RING: the launch's pieces — the scratch whole, the cells at zero, the operand whole — are the ring before its first step; -/
theorem ring0_0_in (c : Dev nD) :
    iprop((∃ d, owns (c : Thread nD τ) scM0_1 fullShare d) ∗ (semVal ((c : Thread nD τ), SemLoc.dma 6) 0 ∗ semVal ((c : Thread nD τ), SemLoc.dma 7) 0 ∗ semVal ((c : Thread nD τ), SemLoc.dma 8) 0) ∗ hbPt0 c hbM0_0 (V m c main_v2))
      ⊢ ringAt0_0 c (V m c main_v2) 0 := by
  unfold ringAt0_0; rw [if_pos rfl]; unfold Ring.At₀
  rw [Ring.bigSep_fin3]
  simp only [Ring.free, cellP0_0_0, cellP0_0_1, cellP0_0_2]
  iintro ⟨HS, Hc, HW⟩
  iapply Ring.with_homes₀
  icases Hc with ⟨H0, H1, H2⟩
  ihave HS' := (slots0_0_in (F := F) c) $$ HS
  icases HS' with ⟨⟨%d0, HS0⟩, ⟨%d1, HS1⟩, ⟨%d2, HS2⟩⟩
  ihave HW' := (whole0_0_split (F := F) c (V m c main_v2)).1 $$ HW
  icases HW' with ⟨HW0, HW1, HW2⟩
  isplitl [H0 HS0 HW0]
  · isplitl [H0]; · iexact H0
    iexists d0; isplitl [HS0]; · iexact HS0
    iexact HW0
  isplitl [H1 HS1 HW1]
  · isplitl [H1]; · iexact H1
    iexists d1; isplitl [HS1]; · iexact HS1
    iexact HW1
  · isplitl [H2]; · iexact H2
    iexists d2; isplitl [HS2]; · iexact HS2
    iexact HW2
/-- OUT OF THE RING: after the last step (every slot kept or free: the kept blocks forgotten) those pieces again. -/
theorem ring0_0_out (c : Dev nD) :
    ringAt0_0 c (V m c main_v2) 96
      ⊢ iprop((∃ d, owns (c : Thread nD τ) scM0_1 fullShare d) ∗ (semVal ((c : Thread nD τ), SemLoc.dma 6) 0 ∗ semVal ((c : Thread nD τ), SemLoc.dma 7) 0 ∗ semVal ((c : Thread nD τ), SemLoc.dma 8) 0) ∗ hbPt0 c hbM0_0 (V m c main_v2)) := by
  unfold ringAt0_0; rw [if_neg (by decide)]
  iintro H
  ihave H' := (Ring.free3_of_At_last _ _ _ _) $$ H
  simp only [Ring.free, cellP0_0_0, cellP0_0_1, cellP0_0_2]
  icases H' with ⟨-, ⟨H0, ⟨%f0, HS0, HW0⟩⟩, ⟨H1, ⟨%f1, HS1, HW1⟩⟩, ⟨H2, ⟨%f2, HS2, HW2⟩⟩⟩
  isplitl [HS0 HS1 HS2]
  · iapply (slots0_0_out (F := F) c); isplitl [HS0]; · iexists f0; iexact HS0
    isplitl [HS1]; · iexists f1; iexact HS1
    iexists f2; iexact HS2
  isplitl [H0 H1 H2]
  · isplitl [H0]; · iexact H0
    isplitl [H1]; · iexact H1
    iexact H2
  · iapply (whole0_0_split (F := F) c (V m c main_v2)).2; isplitl [HW0]; · iexact HW0
    isplitl [HW1]; · iexact HW1
    iexact HW2

/-! ### Ring 0's steps at each case's points, and its canonical names: the body's operands at point `t` are the ring's slots, blocks and cells -/

section Canon0_0
omit [FloatOps F]
/-- At the points of case A the ring takes its FIRST step. -/
theorem rstep0_0_A : ∀ t : Fin grid0.N, cond0_0 (grid0.coords t) → cond0_1 (grid0.coords t) → cond0_2 (grid0.coords t) → ¬cond0_3 (grid0.coords t) → t.val = 0 ∧ (t.val + 1) = 1 := by decide +kernel
/-- At the points of case B the ring takes a step, a block still to start. -/
theorem rstep0_0_B : ∀ t : Fin grid0.N, ¬cond0_0 (grid0.coords t) → cond0_1 (grid0.coords t) → ¬cond0_2 (grid0.coords t) → cond0_3 (grid0.coords t) → 1 ≤ t.val ∧ t.val + 2 < 96 ∧ (t.val + 1) = t.val + 1 := by decide +kernel
/-- At the points of case C the ring takes a step, a block still to start. -/
theorem rstep0_0_C : ∀ t : Fin grid0.N, ¬cond0_0 (grid0.coords t) → cond0_1 (grid0.coords t) → cond0_2 (grid0.coords t) → ¬cond0_3 (grid0.coords t) → 1 ≤ t.val ∧ t.val + 2 < 96 ∧ (t.val + 1) = t.val + 1 := by decide +kernel
/-- At the points of case D the ring takes its LAST step. -/
theorem rstep0_0_D : ∀ t : Fin grid0.N, ¬cond0_0 (grid0.coords t) → ¬cond0_1 (grid0.coords t) → ¬cond0_2 (grid0.coords t) → cond0_3 (grid0.coords t) → 1 ≤ t.val ∧ 96 ≤ t.val + 2 ∧ t.val < 96 ∧ (t.val + 1) = t.val + 1 := by decide +kernel
set_option synthInstance.maxSize 4096 in
theorem coff0_0_1 : ∀ t : Fin grid0.N, cond0_0 (grid0.coords t) → cond0_1 (grid0.coords t) → cond0_2 (grid0.coords t) → ¬cond0_3 (grid0.coords t) → (![0, 0, 0] : Fin 3 → Nat) = ![(Ring.sl 3 t.val).val, 0, 0] := by decide +kernel
@[sl_canon] theorem canon0_0_1 (t : Fin grid0.N) (h0 : cond0_0 (grid0.coords t)) (h1 : cond0_1 (grid0.coords t)) (h2 : cond0_2 (grid0.coords t)) (h3 : ¬cond0_3 (grid0.coords t)) :
    (scM0_1.slice (Rect.unit (s := S3x1024x4096) ![0, 0, 0] S1x1024x4096.size inb_S3x1024x4096_S1x1024x4096_0_0_0) (fun _ => rfl)).squeeze S1024x4096 squeezes_S1x1024x4096_S1024x4096 = rslot0_0 (Ring.sl 3 t.val) :=
  congrArg (fun M : Memref sig .tc .vmem S1x1024x4096 .bf16 => M.squeeze S1024x4096 squeezes_S1x1024x4096_S1024x4096) (Memref.slice_unit_congr _ (coff0_0_1 t h0 h1 h2 h3) _ _ (fun _ => rfl) (fun _ => rfl))
set_option synthInstance.maxSize 4096 in
theorem coff0_0_2 : ∀ t : Fin grid0.N, cond0_0 (grid0.coords t) → cond0_1 (grid0.coords t) → cond0_2 (grid0.coords t) → ¬cond0_3 (grid0.coords t) → (![0] : Fin 1 → Nat) = ![(Ring.sl 3 t.val).val] := by decide +kernel
@[sl_canon] theorem canon0_0_2 (t : Fin grid0.N) (h0 : cond0_0 (grid0.coords t)) (h1 : cond0_1 (grid0.coords t)) (h2 : cond0_2 (grid0.coords t)) (h3 : ¬cond0_3 (grid0.coords t)) :
    (cc0_scratch2.slice (Rect.unit (s := S3) ![0] S1.size inb_S3_S1_0)).squeeze S_ squeezes_S1_S_ = cellA0_0 (Ring.sl 3 t.val) :=
  congrArg (fun A : DmaSems sig S1 => A.squeeze S_ squeezes_S1_S_) (SemArray.slice_unit_congr _ (coff0_0_2 t h0 h1 h2 h3) _ _)
set_option synthInstance.maxSize 4096 in
theorem coff0_0_3 : ∀ t : Fin grid0.N, cond0_0 (grid0.coords t) → cond0_1 (grid0.coords t) → cond0_2 (grid0.coords t) → ¬cond0_3 (grid0.coords t) → (![0, 0] : Fin 2 → Nat) = ![1024 * ((Ring.bk 96 t.val).val % 6), 0] := by decide +kernel
@[sl_canon] theorem canon0_0_3 (t : Fin grid0.N) (h0 : cond0_0 (grid0.coords t)) (h1 : cond0_1 (grid0.coords t)) (h2 : cond0_2 (grid0.coords t)) (h3 : ¬cond0_3 (grid0.coords t)) :
    hbM0_0.slice (Rect.unit (s := S6144x4096) ![0, 0] S1024x4096.size inb_S6144x4096_S1024x4096_0_0) (fun _ => rfl) = srcB0_0 (Ring.bk 96 t.val) :=
  congrArg (fun M : Memref sig .tc .hbm S1024x4096 .bf16 => M) (Memref.slice_unit_congr _ (coff0_0_3 t h0 h1 h2 h3) _ _ (fun _ => rfl) (fun _ => rfl))
set_option synthInstance.maxSize 4096 in
theorem coff0_0_4 : ∀ t : Fin grid0.N, cond0_0 (grid0.coords t) → cond0_1 (grid0.coords t) → cond0_2 (grid0.coords t) → ¬cond0_3 (grid0.coords t) → (![1, 0, 0] : Fin 3 → Nat) = ![(Ring.sl 3 (t.val + 1)).val, 0, 0] := by decide +kernel
@[sl_canon] theorem canon0_0_4 (t : Fin grid0.N) (h0 : cond0_0 (grid0.coords t)) (h1 : cond0_1 (grid0.coords t)) (h2 : cond0_2 (grid0.coords t)) (h3 : ¬cond0_3 (grid0.coords t)) :
    (scM0_1.slice (Rect.unit (s := S3x1024x4096) ![1, 0, 0] S1x1024x4096.size inb_S3x1024x4096_S1x1024x4096_1_0_0) (fun _ => rfl)).squeeze S1024x4096 squeezes_S1x1024x4096_S1024x4096 = rslot0_0 (Ring.sl 3 (t.val + 1)) :=
  congrArg (fun M : Memref sig .tc .vmem S1x1024x4096 .bf16 => M.squeeze S1024x4096 squeezes_S1x1024x4096_S1024x4096) (Memref.slice_unit_congr _ (coff0_0_4 t h0 h1 h2 h3) _ _ (fun _ => rfl) (fun _ => rfl))
set_option synthInstance.maxSize 4096 in
theorem coff0_0_5 : ∀ t : Fin grid0.N, cond0_0 (grid0.coords t) → cond0_1 (grid0.coords t) → cond0_2 (grid0.coords t) → ¬cond0_3 (grid0.coords t) → (![1] : Fin 1 → Nat) = ![(Ring.sl 3 (t.val + 1)).val] := by decide +kernel
@[sl_canon] theorem canon0_0_5 (t : Fin grid0.N) (h0 : cond0_0 (grid0.coords t)) (h1 : cond0_1 (grid0.coords t)) (h2 : cond0_2 (grid0.coords t)) (h3 : ¬cond0_3 (grid0.coords t)) :
    (cc0_scratch2.slice (Rect.unit (s := S3) ![1] S1.size inb_S3_S1_1)).squeeze S_ squeezes_S1_S_ = cellA0_0 (Ring.sl 3 (t.val + 1)) :=
  congrArg (fun A : DmaSems sig S1 => A.squeeze S_ squeezes_S1_S_) (SemArray.slice_unit_congr _ (coff0_0_5 t h0 h1 h2 h3) _ _)
set_option synthInstance.maxSize 4096 in
theorem coff0_0_6 : ∀ t : Fin grid0.N, cond0_0 (grid0.coords t) → cond0_1 (grid0.coords t) → cond0_2 (grid0.coords t) → ¬cond0_3 (grid0.coords t) → (![1024, 0] : Fin 2 → Nat) = ![1024 * ((Ring.bk 96 (t.val + 1)).val % 6), 0] := by decide +kernel
@[sl_canon] theorem canon0_0_6 (t : Fin grid0.N) (h0 : cond0_0 (grid0.coords t)) (h1 : cond0_1 (grid0.coords t)) (h2 : cond0_2 (grid0.coords t)) (h3 : ¬cond0_3 (grid0.coords t)) :
    hbM0_0.slice (Rect.unit (s := S6144x4096) ![1024, 0] S1024x4096.size inb_S6144x4096_S1024x4096_1024_0) (fun _ => rfl) = srcB0_0 (Ring.bk 96 (t.val + 1)) :=
  congrArg (fun M : Memref sig .tc .hbm S1024x4096 .bf16 => M) (Memref.slice_unit_congr _ (coff0_0_6 t h0 h1 h2 h3) _ _ (fun _ => rfl) (fun _ => rfl))
set_option synthInstance.maxSize 4096 in
theorem coff0_0_7 : ∀ t : Fin grid0.N, k0_off2 (grid0.coords t) = ![(Ring.sl 3 (t.val + 2)).val, 0, 0] := by decide +kernel
@[sl_canon] theorem canon0_0_7 (t : Fin grid0.N) (h1 : cond0_1 (grid0.coords t)) :
    (scM0_1.slice (Rect.unit (s := S3x1024x4096) (k0_off2 (grid0.coords t)) S1x1024x4096.size (k0_off2_inb (grid0.coords t) h1)) (fun _ => rfl)).squeeze S1024x4096 squeezes_S1x1024x4096_S1024x4096 = rslot0_0 (Ring.sl 3 (t.val + 2)) :=
  congrArg (fun M : Memref sig .tc .vmem S1x1024x4096 .bf16 => M.squeeze S1024x4096 squeezes_S1x1024x4096_S1024x4096) (Memref.slice_unit_congr _ (coff0_0_7 t ) _ _ (fun _ => rfl) (fun _ => rfl))
set_option synthInstance.maxSize 4096 in
theorem coff0_0_8 : ∀ t : Fin grid0.N, k0_off1 (grid0.coords t) = ![(Ring.sl 3 (t.val + 2)).val] := by decide +kernel
@[sl_canon] theorem canon0_0_8 (t : Fin grid0.N) (h1 : cond0_1 (grid0.coords t)) :
    (cc0_scratch2.slice (Rect.unit (s := S3) (k0_off1 (grid0.coords t)) S1.size (k0_off1_inb (grid0.coords t) h1))).squeeze S_ squeezes_S1_S_ = cellA0_0 (Ring.sl 3 (t.val + 2)) :=
  congrArg (fun A : DmaSems sig S1 => A.squeeze S_ squeezes_S1_S_) (SemArray.slice_unit_congr _ (coff0_0_8 t ) _ _)
set_option synthInstance.maxSize 4096 in
theorem coff0_0_9 : ∀ t : Fin grid0.N, cond0_0 (grid0.coords t) → cond0_1 (grid0.coords t) → cond0_2 (grid0.coords t) → ¬cond0_3 (grid0.coords t) → k0_off3 (grid0.coords t) = ![1024 * ((Ring.bk 96 (t.val + 2)).val % 6), 0] := by decide +kernel
@[sl_canon] theorem canon0_0_9 (t : Fin grid0.N) (h0 : cond0_0 (grid0.coords t)) (h1 : cond0_1 (grid0.coords t)) (h2 : cond0_2 (grid0.coords t)) (h3 : ¬cond0_3 (grid0.coords t)) :
    hbM0_0.slice (Rect.unit (s := S6144x4096) (k0_off3 (grid0.coords t)) S1024x4096.size (k0_off3_inb (grid0.coords t) h1)) (fun _ => rfl) = srcB0_0 (Ring.bk 96 (t.val + 2)) :=
  congrArg (fun M : Memref sig .tc .hbm S1024x4096 .bf16 => M) (Memref.slice_unit_congr _ (coff0_0_9 t h0 h1 h2 h3) _ _ (fun _ => rfl) (fun _ => rfl))
set_option synthInstance.maxSize 4096 in
theorem coff0_0_10 : ∀ t : Fin grid0.N, k0_off5 (grid0.coords t) = ![(Ring.sl 3 t.val).val, 0, 0] := by decide +kernel
@[sl_canon] theorem canon0_0_10 (t : Fin grid0.N) :
    (scM0_1.slice (Rect.unit (s := S3x1024x4096) (k0_off5 (grid0.coords t)) S1x1024x4096.size (k0_off5_inb (grid0.coords t))) (fun _ => rfl)).squeeze S1024x4096 squeezes_S1x1024x4096_S1024x4096 = rslot0_0 (Ring.sl 3 t.val) :=
  congrArg (fun M : Memref sig .tc .vmem S1x1024x4096 .bf16 => M.squeeze S1024x4096 squeezes_S1x1024x4096_S1024x4096) (Memref.slice_unit_congr _ (coff0_0_10 t ) _ _ (fun _ => rfl) (fun _ => rfl))
set_option synthInstance.maxSize 4096 in
theorem coff0_0_11 : ∀ t : Fin grid0.N, k0_off4 (grid0.coords t) = ![(Ring.sl 3 t.val).val] := by decide +kernel
@[sl_canon] theorem canon0_0_11 (t : Fin grid0.N) :
    (cc0_scratch2.slice (Rect.unit (s := S3) (k0_off4 (grid0.coords t)) S1.size (k0_off4_inb (grid0.coords t)))).squeeze S_ squeezes_S1_S_ = cellA0_0 (Ring.sl 3 t.val) :=
  congrArg (fun A : DmaSems sig S1 => A.squeeze S_ squeezes_S1_S_) (SemArray.slice_unit_congr _ (coff0_0_11 t ) _ _)
set_option synthInstance.maxSize 4096 in
theorem coff0_0_12 : ∀ t : Fin grid0.N, ¬cond0_0 (grid0.coords t) → cond0_1 (grid0.coords t) → ¬cond0_2 (grid0.coords t) → cond0_3 (grid0.coords t) → k0_off3 (grid0.coords t) = ![1024 * ((Ring.bk 96 (t.val + 2)).val % 6), 0] := by decide +kernel
@[sl_canon] theorem canon0_0_12 (t : Fin grid0.N) (h0 : ¬cond0_0 (grid0.coords t)) (h1 : cond0_1 (grid0.coords t)) (h2 : ¬cond0_2 (grid0.coords t)) (h3 : cond0_3 (grid0.coords t)) :
    hbM0_0.slice (Rect.unit (s := S6144x4096) (k0_off3 (grid0.coords t)) S1024x4096.size (k0_off3_inb (grid0.coords t) h1)) (fun _ => rfl) = srcB0_0 (Ring.bk 96 (t.val + 2)) :=
  congrArg (fun M : Memref sig .tc .hbm S1024x4096 .bf16 => M) (Memref.slice_unit_congr _ (coff0_0_12 t h0 h1 h2 h3) _ _ (fun _ => rfl) (fun _ => rfl))
set_option synthInstance.maxSize 4096 in
theorem coff0_0_13 : ∀ t : Fin grid0.N, ¬cond0_0 (grid0.coords t) → cond0_1 (grid0.coords t) → cond0_2 (grid0.coords t) → ¬cond0_3 (grid0.coords t) → k0_off3 (grid0.coords t) = ![1024 * ((Ring.bk 96 (t.val + 2)).val % 6), 0] := by decide +kernel
@[sl_canon] theorem canon0_0_13 (t : Fin grid0.N) (h0 : ¬cond0_0 (grid0.coords t)) (h1 : cond0_1 (grid0.coords t)) (h2 : cond0_2 (grid0.coords t)) (h3 : ¬cond0_3 (grid0.coords t)) :
    hbM0_0.slice (Rect.unit (s := S6144x4096) (k0_off3 (grid0.coords t)) S1024x4096.size (k0_off3_inb (grid0.coords t) h1)) (fun _ => rfl) = srcB0_0 (Ring.bk 96 (t.val + 2)) :=
  congrArg (fun M : Memref sig .tc .hbm S1024x4096 .bf16 => M) (Memref.slice_unit_congr _ (coff0_0_13 t h0 h1 h2 h3) _ _ (fun _ => rfl) (fun _ => rfl))
set_option synthInstance.maxSize 4096 in
theorem coff0_0_14 : ∀ t : Fin grid0.N, k0_off7 (grid0.coords t) = ![(Ring.sl 3 t.val).val, 0, 0] := by decide +kernel
/-- A load of the slab, at offsets in its slot. -/
instance (priority := high) closedOff0_0_14 (t : Fin grid0.N) : ClosedOff (k0_off7 (grid0.coords t)) := ⟨![(Ring.sl 3 t.val).val, 0, 0], coff0_0_14 t⟩
set_option synthInstance.maxSize 4096 in
theorem coff0_0_15 : ∀ t : Fin grid0.N, k0_off8 (grid0.coords t) = ![(Ring.sl 3 t.val).val, 0, 512] := by decide +kernel
/-- A load of the slab, at offsets in its slot. -/
instance (priority := high) closedOff0_0_15 (t : Fin grid0.N) : ClosedOff (k0_off8 (grid0.coords t)) := ⟨![(Ring.sl 3 t.val).val, 0, 512], coff0_0_15 t⟩
set_option synthInstance.maxSize 4096 in
theorem coff0_0_16 : ∀ t : Fin grid0.N, k0_off9 (grid0.coords t) = ![(Ring.sl 3 t.val).val, 0, 1024] := by decide +kernel
/-- A load of the slab, at offsets in its slot. -/
instance (priority := high) closedOff0_0_16 (t : Fin grid0.N) : ClosedOff (k0_off9 (grid0.coords t)) := ⟨![(Ring.sl 3 t.val).val, 0, 1024], coff0_0_16 t⟩
set_option synthInstance.maxSize 4096 in
theorem coff0_0_17 : ∀ t : Fin grid0.N, k0_off10 (grid0.coords t) = ![(Ring.sl 3 t.val).val, 0, 1536] := by decide +kernel
/-- A load of the slab, at offsets in its slot. -/
instance (priority := high) closedOff0_0_17 (t : Fin grid0.N) : ClosedOff (k0_off10 (grid0.coords t)) := ⟨![(Ring.sl 3 t.val).val, 0, 1536], coff0_0_17 t⟩
set_option synthInstance.maxSize 4096 in
theorem coff0_0_18 : ∀ t : Fin grid0.N, k0_off11 (grid0.coords t) = ![(Ring.sl 3 t.val).val, 0, 2048] := by decide +kernel
/-- A load of the slab, at offsets in its slot. -/
instance (priority := high) closedOff0_0_18 (t : Fin grid0.N) : ClosedOff (k0_off11 (grid0.coords t)) := ⟨![(Ring.sl 3 t.val).val, 0, 2048], coff0_0_18 t⟩
set_option synthInstance.maxSize 4096 in
theorem coff0_0_19 : ∀ t : Fin grid0.N, k0_off12 (grid0.coords t) = ![(Ring.sl 3 t.val).val, 0, 2560] := by decide +kernel
/-- A load of the slab, at offsets in its slot. -/
instance (priority := high) closedOff0_0_19 (t : Fin grid0.N) : ClosedOff (k0_off12 (grid0.coords t)) := ⟨![(Ring.sl 3 t.val).val, 0, 2560], coff0_0_19 t⟩
set_option synthInstance.maxSize 4096 in
theorem coff0_0_20 : ∀ t : Fin grid0.N, k0_off13 (grid0.coords t) = ![(Ring.sl 3 t.val).val, 0, 3072] := by decide +kernel
/-- A load of the slab, at offsets in its slot. -/
instance (priority := high) closedOff0_0_20 (t : Fin grid0.N) : ClosedOff (k0_off13 (grid0.coords t)) := ⟨![(Ring.sl 3 t.val).val, 0, 3072], coff0_0_20 t⟩
set_option synthInstance.maxSize 4096 in
theorem coff0_0_21 : ∀ t : Fin grid0.N, k0_off14 (grid0.coords t) = ![(Ring.sl 3 t.val).val, 0, 3584] := by decide +kernel
/-- A load of the slab, at offsets in its slot. -/
instance (priority := high) closedOff0_0_21 (t : Fin grid0.N) : ClosedOff (k0_off14 (grid0.coords t)) := ⟨![(Ring.sl 3 t.val).val, 0, 3584], coff0_0_21 t⟩
set_option synthInstance.maxSize 4096 in
theorem coff0_0_22 : ∀ t : Fin grid0.N, k0_off15 (grid0.coords t) = ![(Ring.sl 3 t.val).val, 0, 0] := by decide +kernel
/-- A load of the slab, at offsets in its slot. -/
instance (priority := high) closedOff0_0_22 (t : Fin grid0.N) : ClosedOff (k0_off15 (grid0.coords t)) := ⟨![(Ring.sl 3 t.val).val, 0, 0], coff0_0_22 t⟩
end Canon0_0

end Cert.KernelIdeal.Gates

end
-- ==== Proof.Slab.lean ====
module

public import Idealize.ShloMosaic.Lib.Pipeline.FrameBody
public import Idealize.ShloMosaic.Lib.Pipeline.Value
public import Idealize.ShloMosaic.Lib.ValueIdxCore
public import Idealize.ShloMosaic.Lib.VecWindow
public import Idealize.ShloMosaic.Lib.Pipeline.ValueKit

/-! What a load from one slot of a ring of staging slabs reads, once a block has landed in that slot.

A ring is an array `[slots, rows, columns]`; slot `s` is its `s`-th matrix. After a transfer has filled the slot with the
matrix `X`, a load of `n` columns from column `k` of slot `s` reads columns `k … k + n - 1` of `X`. -/

@[expose] public section

namespace Cert.Slab

open Idealize.ShloMosaic Idealize.ShloMosaic.ValueIdx

/-- Columns `k … k + n - 1` of the matrix `X`, as a one-slot slab. -/
def cols {α : Type} {r d : ℕ} (n k : ℕ) (hk : k + n ≤ d) (X : (⟨2, ![r, d]⟩ : Shape).Idx → α) :
    (⟨3, ![1, r, n]⟩ : Shape).Idx → α :=
  fun j => X (ValueIdx.ix2 (j 1) ⟨k + (j 2).val, by have : (j 2).val < n := (j 2).isLt; omega⟩)

variable {sig : RefSig} {κ : Kind} {sp : Space} {e : EltTy} {Val : EltTy → Type}

/-- A load of `n` columns from column `k` of slot `s`, after the slot was filled with `X`. -/
theorem readAt_slot {a r d n : ℕ} (M : Memref sig κ sp ⟨3, ![a, r, d]⟩ e) (s k : ℕ)
    (inb : ∀ x, (![s, 0, 0] : Fin 3 → ℕ) x + (⟨3, ![1, r, d]⟩ : Shape).size x ≤ (⟨3, ![a, r, d]⟩ : Shape).size x)
    (hst : ∀ x, (Rect.unit (s := ⟨3, ![a, r, d]⟩) ![s, 0, 0] (⟨3, ![1, r, d]⟩ : Shape).size inb).stride x = 1)
    (hq : (⟨3, ![1, r, d]⟩ : Shape).Squeezes ⟨2, ![r, d]⟩)
    (f : ((M.slice (Rect.unit (s := ⟨3, ![a, r, d]⟩) ![s, 0, 0] (⟨3, ![1, r, d]⟩ : Shape).size inb) hst).squeeze
      ⟨2, ![r, d]⟩ hq).view.ty.Contents Val)
    (X : (⟨2, ![r, d]⟩ : Shape).Idx → Val e) (hk : k + n ≤ d) {off : Fin 3 → ℕ}
    (inb' : ∀ x, off x + (⟨3, ![1, r, n]⟩ : Shape).size x ≤ (⟨3, ![a, r, d]⟩ : Shape).size x) (ho : off = ![s, 0, k]) :
    M.view.readAt Val (Rect.unit (s := ⟨3, ![a, r, d]⟩) off (⟨3, ![1, r, n]⟩ : Shape).size inb').toLoadRect
      (((M.slice (Rect.unit (s := ⟨3, ![a, r, d]⟩) ![s, 0, 0] (⟨3, ![1, r, d]⟩ : Shape).size inb) hst).squeeze
        ⟨2, ![r, d]⟩ hq).view.writes Val f [⟨Rect.whole ⟨2, ![r, d]⟩, X⟩]) = cols n k hk X := by
  subst ho
  funext j
  have h := View.read_writes_whole ((M.slice (Rect.unit (s := ⟨3, ![a, r, d]⟩) ![s, 0, 0]
    (⟨3, ![1, r, d]⟩ : Shape).size inb) hst).squeeze ⟨2, ![r, d]⟩ hq).view f X
  have h' := congrFun h (ValueIdx.ix2 (j 1) ⟨k + (j 2).val, by have : (j 2).val < n := (j 2).isLt; omega⟩)
  unfold cols
  rw [← h']
  refine Eq.trans ?_ (shapeCast_dropUnit_apply ![r, d] (M.view.readAt Val (Rect.unit (s := ⟨3, ![a, r, d]⟩) ![s, 0, 0]
    (⟨3, ![1, r, d]⟩ : Shape).size inb).toLoadRect _) hq.numel_eq (ValueIdx.ix2 (j 1) ⟨k + (j 2).val, _⟩)).symm
  refine congrArg (M.view.read Val _) (funext fun x => Fin.ext ?_)
  have h0 : (j 0).val = 0 := by have : (j 0).val < 1 := (j 0).isLt; omega
  match x with
  | ⟨0, _⟩ => show s + 1 * (j 0).val = s + 1 * 0; omega
  | ⟨1, _⟩ => show 0 + 1 * (j 1).val = 0 + 1 * (j 1).val; rfl
  | ⟨2, _⟩ => show k + 1 * (j 2).val = 0 + 1 * (k + (j 2).val); omega

/-- A load of a whole window. -/
theorem readAt_all {s : Shape} (M : Memref sig κ sp s e) (f : M.view.ty.Contents Val) (x : s.Idx → Val e)
    (hf : M.view.read Val f = x) {off : Fin s.rank → ℕ} (inb : ∀ a, off a + s.size a ≤ s.size a) :
    View.readAt Val M.view (Rect.unit off s.size inb).toLoadRect f = x := by
  rw [View.readAt_eq_ld, hf]
  funext j
  exact View.ld_unit_apply_of x _ _ inb j j fun a => by have := inb a; omega

/-- Rows `k … k + 511` of a window of weights. -/
def rows {α : Type} (k : ℕ) (hk : k + 512 ≤ 4096) (x : (⟨2, ![4096, 512]⟩ : Shape).Idx → α) : (⟨2, ![512, 512]⟩ : Shape).Idx → α :=
  fun j => x (ValueIdx.ix2 ⟨k + (j 0).val, by have : (j 0).val < 512 := (j 0).isLt; omega⟩ (j 1))

/-- A load of 512 rows of a window of weights. -/
theorem readAt_rows (M : Memref sig κ sp ⟨2, ![4096, 512]⟩ e) (f : M.view.ty.Contents Val)
    (x : (⟨2, ![4096, 512]⟩ : Shape).Idx → Val e) (hf : M.view.read Val f = x) (k : ℕ) (hk : k + 512 ≤ 4096) (inb) :
    View.readAt Val M.view (Rect.unit (s := ⟨2, ![4096, 512]⟩) ![k, 0] (⟨2, ![512, 512]⟩ : Shape).size inb).toLoadRect f
      = rows k hk x := by
  rw [View.readAt_eq_ld, hf]
  funext j
  refine View.ld_unit_apply_of x _ _ inb j _ fun a => ?_
  match a with
  | ⟨0, _⟩ => rfl
  | ⟨1, _⟩ => exact (Nat.zero_add _).symm

/-- Columns `k … k + 511` of a window of transposed weights. -/
def wcol {α : Type} (k : ℕ) (hk : k + 512 ≤ 4096) (x : (⟨2, ![512, 4096]⟩ : Shape).Idx → α) : (⟨2, ![512, 512]⟩ : Shape).Idx → α :=
  fun j => x (ValueIdx.ix2 (j 0) ⟨k + (j 1).val, by have : (j 1).val < 512 := (j 1).isLt; omega⟩)

/-- A load of 512 columns of a window of transposed weights. -/
theorem readAt_wcol (M : Memref sig κ sp ⟨2, ![512, 4096]⟩ e) (f : M.view.ty.Contents Val)
    (x : (⟨2, ![512, 4096]⟩ : Shape).Idx → Val e) (hf : M.view.read Val f = x) (k : ℕ) (hk : k + 512 ≤ 4096) (inb) :
    View.readAt Val M.view (Rect.unit (s := ⟨2, ![512, 4096]⟩) ![0, k] (⟨2, ![512, 512]⟩ : Shape).size inb).toLoadRect f
      = wcol k hk x := by
  rw [View.readAt_eq_ld, hf]
  funext j
  refine View.ld_unit_apply_of x _ _ inb j _ fun a => ?_
  match a with
  | ⟨0, _⟩ => exact (Nat.zero_add _).symm
  | ⟨1, _⟩ => rfl

/-- Eight pieces of 512 rows, each agreeing with `K`, fill an array of 4096 rows with `K`. -/
theorem read_eight (M : Memref sig κ sp ⟨2, ![4096, 512]⟩ e) (f : M.view.ty.Contents Val) (K : (⟨2, ![4096, 512]⟩ : Shape).Idx → Val e)
    {p0 p1 p2 p3 p4 p5 p6 p7 : (⟨2, ![512, 512]⟩ : Shape).Idx → Val e} (i7 i6 i5 i4 i3 i2 i1 i0)
    (h0 : ∀ x, p0 x = K ((Rect.unit (s := ⟨2, ![4096, 512]⟩) ![0, 0] (⟨2, ![512, 512]⟩ : Shape).size i0).emb x))
    (h1 : ∀ x, p1 x = K ((Rect.unit (s := ⟨2, ![4096, 512]⟩) ![512, 0] (⟨2, ![512, 512]⟩ : Shape).size i1).emb x))
    (h2 : ∀ x, p2 x = K ((Rect.unit (s := ⟨2, ![4096, 512]⟩) ![1024, 0] (⟨2, ![512, 512]⟩ : Shape).size i2).emb x))
    (h3 : ∀ x, p3 x = K ((Rect.unit (s := ⟨2, ![4096, 512]⟩) ![1536, 0] (⟨2, ![512, 512]⟩ : Shape).size i3).emb x))
    (h4 : ∀ x, p4 x = K ((Rect.unit (s := ⟨2, ![4096, 512]⟩) ![2048, 0] (⟨2, ![512, 512]⟩ : Shape).size i4).emb x))
    (h5 : ∀ x, p5 x = K ((Rect.unit (s := ⟨2, ![4096, 512]⟩) ![2560, 0] (⟨2, ![512, 512]⟩ : Shape).size i5).emb x))
    (h6 : ∀ x, p6 x = K ((Rect.unit (s := ⟨2, ![4096, 512]⟩) ![3072, 0] (⟨2, ![512, 512]⟩ : Shape).size i6).emb x))
    (h7 : ∀ x, p7 x = K ((Rect.unit (s := ⟨2, ![4096, 512]⟩) ![3584, 0] (⟨2, ![512, 512]⟩ : Shape).size i7).emb x)) :
    View.read Val M.view (M.view.writes Val f
      [⟨Rect.unit (s := ⟨2, ![4096, 512]⟩) ![3584, 0] (⟨2, ![512, 512]⟩ : Shape).size i7, p7⟩,
       ⟨Rect.unit (s := ⟨2, ![4096, 512]⟩) ![3072, 0] (⟨2, ![512, 512]⟩ : Shape).size i6, p6⟩,
       ⟨Rect.unit (s := ⟨2, ![4096, 512]⟩) ![2560, 0] (⟨2, ![512, 512]⟩ : Shape).size i5, p5⟩,
       ⟨Rect.unit (s := ⟨2, ![4096, 512]⟩) ![2048, 0] (⟨2, ![512, 512]⟩ : Shape).size i4, p4⟩,
       ⟨Rect.unit (s := ⟨2, ![4096, 512]⟩) ![1536, 0] (⟨2, ![512, 512]⟩ : Shape).size i3, p3⟩,
       ⟨Rect.unit (s := ⟨2, ![4096, 512]⟩) ![1024, 0] (⟨2, ![512, 512]⟩ : Shape).size i2, p2⟩,
       ⟨Rect.unit (s := ⟨2, ![4096, 512]⟩) ![512, 0] (⟨2, ![512, 512]⟩ : Shape).size i1, p1⟩,
       ⟨Rect.unit (s := ⟨2, ![4096, 512]⟩) ![0, 0] (⟨2, ![512, 512]⟩ : Shape).size i0, p0⟩]) = K := by
  funext y
  refine View.read_writes_apply_of_pieces _ _ (K) _ ?_ y ?_
  · intro p hp
    simp only [List.mem_cons, List.not_mem_nil, _root_.or_false] at hp
    rcases hp with rfl | rfl | rfl | rfl | rfl | rfl | rfl | rfl
    · exact fun x => h7 x
    · exact fun x => h6 x
    · exact fun x => h5 x
    · exact fun x => h4 x
    · exact fun x => h3 x
    · exact fun x => h2 x
    · exact fun x => h1 x
    · exact fun x => h0 x
  · have h0 : (y 0).val < 4096 := (y 0).isLt
    have h1 : (y 1).val < 512 := (y 1).isLt
    have hq : (y 0).val / 512 < 8 := by omega
    have key : ∀ (k : ℕ) (inb), k = 512 * ((y 0).val / 512) →
        y ∈ (Rect.unit (s := ⟨2, ![4096, 512]⟩) ![k, 0] (⟨2, ![512, 512]⟩ : Shape).size inb).set := fun k inb hk => by
      refine Rect.mem_set_unit.mpr fun a => ?_
      match a with
      | ⟨0, _⟩ => exact ⟨by show k ≤ (y 0).val; omega, by show (y 0).val < k + 512; omega⟩
      | ⟨1, _⟩ => exact ⟨Nat.zero_le _, by show (y 1).val < 0 + 512; omega⟩
    generalize (y 0).val / 512 = q at hq key
    simp only [List.mem_cons, List.not_mem_nil, _root_.or_false, exists_eq_or_imp, exists_eq_left, false_and, exists_false, _root_.or_false]
    have : q = 0 ∨ q = 1 ∨ q = 2 ∨ q = 3 ∨ q = 4 ∨ q = 5 ∨ q = 6 ∨ q = 7 := by omega
    rcases this with rfl | rfl | rfl | rfl | rfl | rfl | rfl | rfl
    · exact .inr (.inr (.inr (.inr (.inr (.inr (.inr (key 0 _ (by omega))))))))
    · exact .inr (.inr (.inr (.inr (.inr (.inr (.inl (key 512 _ (by omega))))))))
    · exact .inr (.inr (.inr (.inr (.inr (.inl (key 1024 _ (by omega)))))))
    · exact .inr (.inr (.inr (.inr (.inl (key 1536 _ (by omega))))))
    · exact .inr (.inr (.inr (.inl (key 2048 _ (by omega)))))
    · exact .inr (.inr (.inl (key 2560 _ (by omega))))
    · exact .inr (.inl (key 3072 _ (by omega)))
    · exact .inl (key 3584 _ (by omega))

end Cert.Slab
-- ==== Proof.GatesRun.lean ====
module

public import proofs.«01_k».proof.Proof.GatesRing
public import proofs.«01_k».proof.Proof.Slab
public import Idealize.ShloMosaic.Lib.VecWindow
public import Idealize.ShloMosaic.Lib.Pipeline.ValueKit

/-! One grid step of the gates' kernel, with what it leaves named.

At the first row block of a column block the step casts and transposes the window of the weights, keeps it in the
scratch, and sums eight partial products; at the later row blocks it multiplies the whole slab by the kept scratch. -/

@[expose] public section

set_option maxRecDepth 16384

noncomputable section

namespace Cert.KernelIdeal.Gates

open Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- A weight window, transposed and cast: what the scratch keeps for a column block. -/
def kept (x0 : Vec F S512x4096 .f32) : Vec F S4096x512 .bf16 :=
  fun i => FloatOps.truncf .bf16 bitsLt_bf16_f32 (x0 (ValueIdx.ix2 (i 1) (i 0)))

/-- What the first row block of a column block leaves: eight partial products of the slab's and the window's columns. -/
def outFirst (X : Vec F S1024x4096 .bf16) (x0 : Vec F S512x4096 .f32) (x1 : Vec F S1x512 .f32) : Vec F S1024x512 .bf16 :=
  k0_pay20 (k0_pay15 (k0_pay8 (Slab.wcol 0 (by decide) x0) (Slab.cols 512 0 (by decide) X)
      (Slab.wcol 512 (by decide) x0) (Slab.cols 512 512 (by decide) X) (Slab.wcol 1024 (by decide) x0) (Slab.cols 512 1024 (by decide) X))
    (Slab.wcol 1536 (by decide) x0) (Slab.cols 512 1536 (by decide) X) (Slab.wcol 2048 (by decide) x0) (Slab.cols 512 2048 (by decide) X)
    (Slab.wcol 2560 (by decide) x0) (Slab.cols 512 2560 (by decide) X))
    (Slab.wcol 3072 (by decide) x0) (Slab.cols 512 3072 (by decide) X) (Slab.wcol 3584 (by decide) x0) (Slab.cols 512 3584 (by decide) X) x1

/-- What a later row block leaves: the whole slab times the kept weights. -/
def outLater (X : Vec F S1024x4096 .bf16) (wb : Vec F S4096x512 .bf16) (x1 : Vec F S1x512 .f32) : Vec F S1024x512 .bf16 :=
  k0_pay1 (Slab.cols 4096 0 (by decide) X) wb x1

/-- A load of `n` columns of a slot of the ring, once the slot holds `X`. -/
theorem readAt_ring {n : ℕ} (s : Fin 3) (f) (X : Vec F S1024x4096 .bf16) (k : ℕ) (hk : k + n ≤ 4096) {off : Fin 3 → ℕ}
    (inb : ∀ x, off x + (⟨3, ![1, 1024, n]⟩ : Shape).size x ≤ S3x1024x4096.size x) (ho : off = ![s.val, 0, k]) :
    View.readAt (Elt F) scM0_1.view (Rect.unit (s := S3x1024x4096) off (⟨3, ![1, 1024, n]⟩ : Shape).size inb).toLoadRect
      ((rslot0_0 s).view.writes (Elt F) f [⟨Rect.whole S1024x4096, X⟩]) = Slab.cols n k hk X :=
  Slab.readAt_slot scM0_1 s.val k (inb_slot0_0 s) (fun _ => rfl) squeezes_S1x1024x4096_S1024x4096 f X hk inb ho

/-- A piece of the kept weights: the window's columns `k … k + 511`, transposed, are its rows from `k`. -/
theorem kept_piece (x0 : Vec F S512x4096 .f32) (k : ℕ) (hk : k + 512 ≤ 4096) (inb)
    (x : (Rect.unit (s := S4096x512) ![k, 0] S512x512.size inb).shape.Idx) :
    shapeCast S512x512 (truncf .bf16 (transpose S512x512 [1, 0] (shapeCast S512x512 (Slab.wcol k hk x0) shapeCasts_S512x512_S512x512)
      transposes_S512x512_p1_0_S512x512 : FVec F S512x512 .f32) bitsLt_bf16_f32 : FVec F S512x512 .bf16) shapeCasts_S512x512_S512x512 x
      = kept x0 ((Rect.unit (s := S4096x512) ![k, 0] S512x512.size inb).emb x) := by
  rw [shapeCast_self, shapeCast_self]
  refine congrArg (FloatOps.truncf .bf16 bitsLt_bf16_f32) ?_
  refine (transpose_apply _ _ _ x (ValueIdx.ix2 (x 1) (x 0) : S512x512.Idx) fun b => by match b with | ⟨0, _⟩ => rfl | ⟨1, _⟩ => rfl).trans ?_
  refine congrArg x0 (funext fun a => Fin.ext ?_)
  match a with
  | ⟨0, _⟩ => show (x 1).val = 0 + 1 * (x 1).val; omega
  | ⟨1, _⟩ => show k + (x 0).val = k + 1 * (x 0).val; omega

/-- The scratch after the eight pieces are stored holds the kept weights. -/
theorem read_kept (M : Memref sig .tc .vmem S4096x512 .bf16) (f) (x0 : Vec F S512x4096 .f32) (i7 i6 i5 i4 i3 i2 i1 i0) :
    View.read (Elt F) M.view (M.view.writes (Elt F) f
      [⟨Rect.unit (s := S4096x512) ![3584, 0] S512x512.size i7, k0_pay19 (Slab.wcol 3584 (by decide) x0)⟩,
       ⟨Rect.unit (s := S4096x512) ![3072, 0] S512x512.size i6, k0_pay17 (Slab.wcol 3072 (by decide) x0)⟩,
       ⟨Rect.unit (s := S4096x512) ![2560, 0] S512x512.size i5, k0_pay14 (Slab.wcol 2560 (by decide) x0)⟩,
       ⟨Rect.unit (s := S4096x512) ![2048, 0] S512x512.size i4, k0_pay12 (Slab.wcol 2048 (by decide) x0)⟩,
       ⟨Rect.unit (s := S4096x512) ![1536, 0] S512x512.size i3, k0_pay10 (Slab.wcol 1536 (by decide) x0)⟩,
       ⟨Rect.unit (s := S4096x512) ![1024, 0] S512x512.size i2, k0_pay7 (Slab.wcol 1024 (by decide) x0)⟩,
       ⟨Rect.unit (s := S4096x512) ![512, 0] S512x512.size i1, k0_pay5 (Slab.wcol 512 (by decide) x0)⟩,
       ⟨Rect.unit (s := S4096x512) ![0, 0] S512x512.size i0, k0_pay3 (Slab.wcol 0 (by decide) x0)⟩]) = kept x0 := by
  exact Slab.read_eight M f (kept x0) _ _ _ _ _ _ _ _ (kept_piece x0 0 _ i0) (kept_piece x0 512 _ i1) (kept_piece x0 1024 _ i2)
    (kept_piece x0 1536 _ i3) (kept_piece x0 2048 _ i4) (kept_piece x0 2560 _ i5) (kept_piece x0 3072 _ i6) (kept_piece x0 3584 _ i7)

/-- The first row block's output, its loads given. -/
theorem outFirst_of (X : Vec F S1024x4096 .bf16) (x0 : Vec F S512x4096 .f32) (x1 : Vec F S1x512 .f32)
    {a0 a1 a2 a3 a4 a5 a6 a7 : Vec F S1x1024x512 .bf16} {b : Vec F S1x512 .f32}
    (h0 : a0 = Slab.cols 512 0 (by decide) X) (h1 : a1 = Slab.cols 512 512 (by decide) X)
    (h2 : a2 = Slab.cols 512 1024 (by decide) X) (h3 : a3 = Slab.cols 512 1536 (by decide) X)
    (h4 : a4 = Slab.cols 512 2048 (by decide) X) (h5 : a5 = Slab.cols 512 2560 (by decide) X)
    (h6 : a6 = Slab.cols 512 3072 (by decide) X) (h7 : a7 = Slab.cols 512 3584 (by decide) X) (hb : b = x1) :
    k0_pay20 (k0_pay15 (k0_pay8 (Slab.wcol 0 (by decide) x0) a0 (Slab.wcol 512 (by decide) x0) a1 (Slab.wcol 1024 (by decide) x0) a2)
      (Slab.wcol 1536 (by decide) x0) a3 (Slab.wcol 2048 (by decide) x0) a4 (Slab.wcol 2560 (by decide) x0) a5)
      (Slab.wcol 3072 (by decide) x0) a6 (Slab.wcol 3584 (by decide) x0) a7 b = outFirst X x0 x1 := by
  subst h0 h1 h2 h3 h4 h5 h6 h7 hb; rfl

/-- A later row block's output, its loads given. -/
theorem outLater_of (X : Vec F S1024x4096 .bf16) (wb : Vec F S4096x512 .bf16) (x1 : Vec F S1x512 .f32)
    {a : Vec F S1x1024x4096 .bf16} {w : Vec F S4096x512 .bf16} {b : Vec F S1x512 .f32}
    (ha : a = Slab.cols 4096 0 (by decide) X) (hw : w = wb) (hb : b = x1) : k0_pay1 a w b = outLater X wb x1 := by
  subst ha hw hb; rfl

/-- The rows of the operand that block `b` streams. -/
abbrev rowsOf (c : Dev nD) (fh0 : HbBuf0 (F := F) c hbM0_0) (b : Fin 96) : Vec F S1024x4096 .bf16 :=
  View.read (Elt F) (srcB0_0 b).view fh0

set_option maxHeartbeats 1000000 in
/-- The very first step: it starts three transfers. -/
theorem runA (c : Dev nD) (t : Fin cfg0.N) (arg3 : Memref sig .tc .vmem S512x4096 .f32) (harg3 : arg3.IsWhole) (arg4 : Memref sig .tc .vmem S1x512 .f32) (harg4 : arg4.IsWhole)
    (arg5 : Memref sig .tc .vmem S1024x512 .bf16) (harg5 : arg5.IsWhole) (arg6 : Memref sig .tc .vmem S4096x512 .bf16) (harg6 : arg6.IsWhole)
    (hc0 : cond0_0 (grid0.coords t)) (hc1 : cond0_1 (grid0.coords t)) (hc2 : cond0_2 (grid0.coords t)) (hc3 : ¬cond0_3 (grid0.coords t))
    (x0 : Vec F S512x4096 .f32) (x1 : Vec F S1x512 .f32) (fh0 : HbBuf0 (F := F) c hbM0_0) (W : Waits sig Unit) (K : PUnit → sProp 𝕄) :
    iprop(owns (c : Thread nD τ) arg3 fullShare x0 ∗ owns (c : Thread nD τ) arg4 fullShare x1 ∗ (∃ d, owns (c : Thread nD τ) arg5 fullShare d) ∗ (∃ d, owns (c : Thread nD τ) arg6 fullShare d)
        ∗ Ring.free (cellP0_0 c) (slotW0_0 c fh0) (Ring.sl 3 t.val)
        ∗ Ring.free (cellP0_0 c) (slotW0_0 c fh0) (Ring.sl 3 (t.val + 1))
        ∗ Ring.free (cellP0_0 c) (slotW0_0 c fh0) (Ring.sl 3 (t.val + 2)) ∗ owes (c : Thread nD τ) 0 W
        ∗ (iprop(owns (c : Thread nD τ) arg3 fullShare x0 ∗ owns (c : Thread nD τ) arg4 fullShare x1
            ∗ owns (c : Thread nD τ) arg5 fullShare (outFirst (rowsOf c fh0 (Ring.bk 96 t.val)) x0 x1)
            ∗ owns (c : Thread nD τ) arg6 fullShare (kept x0)
            ∗ Ring.inflight (flightW0_0 c fh0) (Ring.sl 3 (t.val + 1)) (Ring.bk 96 (t.val + 1))
            ∗ Ring.inflight (flightW0_0 c fh0) (Ring.sl 3 (t.val + 2)) (Ring.bk 96 (t.val + 2))
            ∗ Ring.free (cellP0_0 c) (slotW0_0 c fh0) (Ring.sl 3 t.val) ∗ (∃ W', owes (c : Thread nD τ) 0 W')) -∗ K ⟨⟩))
      ⊢ wp frame (wpE (defs₀ (F := F)) Variants.none c none) Set.univ
          (cc0_in_proj_gates (grid0.coords t) (Memref.whole main_v2) (Memref.isWhole_whole _) arg3 harg3 arg4 harg4 arg5 harg5 arg6 harg6
            scM0_1 (Memref.isWhole_whole _) cc0_scratch2) K := by
  haveI : Fact (cond0_0 (grid0.coords t)) := ⟨hc0⟩
  haveI : Fact (cond0_1 (grid0.coords t)) := ⟨hc1⟩
  haveI : Fact (cond0_2 (grid0.coords t)) := ⟨hc2⟩
  haveI : Fact (¬cond0_3 (grid0.coords t)) := ⟨hc3⟩
  simp only [cc0_in_proj_gates_eq_skeleton]; unfold cc0_in_proj_gates_skel
  simp only [k0_part4_eq_skeleton, k0_part1_eq_skeleton, k0_part2_eq_skeleton, k0_part3_eq_skeleton]
  simp only [canon0_0_10 t, canon0_0_11 t]
  have hcanon0 := canon0_0_1 t hc0 hc1 hc2 hc3
  have hcanon1 := canon0_0_2 t hc0 hc1 hc2 hc3
  have hcanon2 := canon0_0_3 t hc0 hc1 hc2 hc3
  have hcanon3 := canon0_0_4 t hc0 hc1 hc2 hc3
  have hcanon4 := canon0_0_5 t hc0 hc1 hc2 hc3
  have hcanon5 := canon0_0_6 t hc0 hc1 hc2 hc3
  unfold owns Ring.free Ring.inflight
  iintro ⟨⟨%f0, %hf0, H0⟩, ⟨%f1, %hf1, H1⟩, ⟨%d2, %f2, -, H2⟩, ⟨%ds0, %fs0, -, HS0⟩, ⟨Hc0_0_0, ⟨%fs0_0_0, Hs0_0_0, Hw0_0_0⟩⟩, ⟨Hc0_0_1, ⟨%fs0_0_1, Hs0_0_1, Hw0_0_1⟩⟩, ⟨Hc0_0_2, ⟨%fs0_0_2, Hs0_0_2, Hw0_0_2⟩⟩, HW, Hk⟩
  ihave Hsp0_0_0 := (src0_0_split c fh0 (Ring.sl 3 t.val) (Ring.bk 96 t.val)).1 $$ Hw0_0_0
  icases Hsp0_0_0 with ⟨Hh0_0_0, Hr0_0_0⟩
  ihave Hsp0_0_1 := (src0_0_split c fh0 (Ring.sl 3 (t.val + 1)) (Ring.bk 96 (t.val + 1))).1 $$ Hw0_0_1
  icases Hsp0_0_1 with ⟨Hh0_0_1, Hr0_0_1⟩
  ihave Hsp0_0_2 := (src0_0_split c fh0 (Ring.sl 3 (t.val + 2)) (Ring.bk 96 (t.val + 2))).1 $$ Hw0_0_2
  icases Hsp0_0_2 with ⟨Hh0_0_2, Hr0_0_2⟩
  obtain rfl := harg3.eq_unread hf0; obtain rfl := harg4.eq_unread hf1
  sl_exec (disch := first | sl_exact hc0 | sl_exact hc1 | sl_exact hc2 | sl_exact hc3)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; swap; · iexact H2
    ipureintro; sl_unfold_run_names
    rw [View.read_writes_full]
    simp only [Slab.readAt_wcol arg3 _ x0 (harg3.read_unread _) 0 (by decide), Slab.readAt_wcol arg3 _ x0 (harg3.read_unread _) 512 (by decide),
      Slab.readAt_wcol arg3 _ x0 (harg3.read_unread _) 1024 (by decide), Slab.readAt_wcol arg3 _ x0 (harg3.read_unread _) 1536 (by decide),
      Slab.readAt_wcol arg3 _ x0 (harg3.read_unread _) 2048 (by decide), Slab.readAt_wcol arg3 _ x0 (harg3.read_unread _) 2560 (by decide),
      Slab.readAt_wcol arg3 _ x0 (harg3.read_unread _) 3072 (by decide), Slab.readAt_wcol arg3 _ x0 (harg3.read_unread _) 3584 (by decide)]
    exact outFirst_of _ x0 x1 (readAt_ring _ _ _ 0 _ _ (coff0_0_14 t)) (readAt_ring _ _ _ 512 _ _ (coff0_0_15 t))
      (readAt_ring _ _ _ 1024 _ _ (coff0_0_16 t)) (readAt_ring _ _ _ 1536 _ _ (coff0_0_17 t))
      (readAt_ring _ _ _ 2048 _ _ (coff0_0_18 t)) (readAt_ring _ _ _ 2560 _ _ (coff0_0_19 t))
      (readAt_ring _ _ _ 3072 _ _ (coff0_0_20 t)) (readAt_ring _ _ _ 3584 _ _ (coff0_0_21 t))
      (Slab.readAt_all arg4 _ x1 (harg4.read_unread _) _)
  isplitl [HS0]
  · iexists _; isplitr; swap; · iexact HS0
    ipureintro; sl_unfold_run_names
    simp only [Slab.readAt_wcol arg3 _ x0 (harg3.read_unread _) 0 (by decide), Slab.readAt_wcol arg3 _ x0 (harg3.read_unread _) 512 (by decide),
      Slab.readAt_wcol arg3 _ x0 (harg3.read_unread _) 1024 (by decide), Slab.readAt_wcol arg3 _ x0 (harg3.read_unread _) 1536 (by decide),
      Slab.readAt_wcol arg3 _ x0 (harg3.read_unread _) 2048 (by decide), Slab.readAt_wcol arg3 _ x0 (harg3.read_unread _) 2560 (by decide),
      Slab.readAt_wcol arg3 _ x0 (harg3.read_unread _) 3072 (by decide), Slab.readAt_wcol arg3 _ x0 (harg3.read_unread _) 3584 (by decide)]
    exact read_kept arg6 _ x0 _ _ _ _ _ _ _ _
  isplitl [Hc0_0_1 Hr0_0_1]
  · iexists _; isplitl [Hc0_0_1]; · iexact Hc0_0_1
    iexact Hr0_0_1
  isplitl [Hc0_0_2 Hr0_0_2]
  · iexists _; isplitl [Hc0_0_2]; · iexact Hc0_0_2
    iexact Hr0_0_2
  isplitl [Hc0_0_0 Hs0_0_0 Hh0_0_0 Hr0_0_0]
  · isplitl [Hc0_0_0]; · iexact Hc0_0_0
    iexists _; isplitl [Hs0_0_0]; · iexact Hs0_0_0
    iapply (src0_0_split c fh0 (Ring.sl 3 t.val) (Ring.bk 96 t.val)).2; isplitl [Hh0_0_0]; · iexact Hh0_0_0
    iexact Hr0_0_0
  iexists _; iexact HW

set_option maxHeartbeats 1000000 in
/-- A later row block, a transfer still to start. -/
theorem runB (c : Dev nD) (t : Fin cfg0.N) (arg3 : Memref sig .tc .vmem S512x4096 .f32) (harg3 : arg3.IsWhole) (arg4 : Memref sig .tc .vmem S1x512 .f32) (harg4 : arg4.IsWhole)
    (arg5 : Memref sig .tc .vmem S1024x512 .bf16) (harg5 : arg5.IsWhole) (arg6 : Memref sig .tc .vmem S4096x512 .bf16) (harg6 : arg6.IsWhole)
    (hc0 : ¬cond0_0 (grid0.coords t)) (hc1 : cond0_1 (grid0.coords t)) (hc2 : ¬cond0_2 (grid0.coords t)) (hc3 : cond0_3 (grid0.coords t))
    (x0 : Vec F S512x4096 .f32) (x1 : Vec F S1x512 .f32) (wb : Vec F S4096x512 .bf16) (fh0 : HbBuf0 (F := F) c hbM0_0) (W : Waits sig Unit) (K : PUnit → sProp 𝕄) :
    iprop(owns (c : Thread nD τ) arg3 fullShare x0 ∗ owns (c : Thread nD τ) arg4 fullShare x1 ∗ (∃ d, owns (c : Thread nD τ) arg5 fullShare d) ∗ owns (c : Thread nD τ) arg6 fullShare wb
        ∗ Ring.inflight (flightW0_0 c fh0) (Ring.sl 3 t.val) (Ring.bk 96 t.val)
        ∗ Ring.inflight (flightW0_0 c fh0) (Ring.sl 3 (t.val + 1)) (Ring.bk 96 (t.val + 1))
        ∗ Ring.free (cellP0_0 c) (slotW0_0 c fh0) (Ring.sl 3 (t.val + 2)) ∗ owes (c : Thread nD τ) 0 W
        ∗ (iprop(owns (c : Thread nD τ) arg3 fullShare x0 ∗ owns (c : Thread nD τ) arg4 fullShare x1
            ∗ owns (c : Thread nD τ) arg5 fullShare (outLater (rowsOf c fh0 (Ring.bk 96 t.val)) wb x1)
            ∗ owns (c : Thread nD τ) arg6 fullShare wb
            ∗ Ring.inflight (flightW0_0 c fh0) (Ring.sl 3 (t.val + 1)) (Ring.bk 96 (t.val + 1))
            ∗ Ring.inflight (flightW0_0 c fh0) (Ring.sl 3 (t.val + 2)) (Ring.bk 96 (t.val + 2))
            ∗ Ring.free (cellP0_0 c) (slotW0_0 c fh0) (Ring.sl 3 t.val) ∗ (∃ W', owes (c : Thread nD τ) 0 W')) -∗ K ⟨⟩))
      ⊢ wp frame (wpE (defs₀ (F := F)) Variants.none c none) Set.univ
          (cc0_in_proj_gates (grid0.coords t) (Memref.whole main_v2) (Memref.isWhole_whole _) arg3 harg3 arg4 harg4 arg5 harg5 arg6 harg6
            scM0_1 (Memref.isWhole_whole _) cc0_scratch2) K := by
  haveI : Fact (¬cond0_0 (grid0.coords t)) := ⟨hc0⟩
  haveI : Fact (cond0_1 (grid0.coords t)) := ⟨hc1⟩
  haveI : Fact (¬cond0_2 (grid0.coords t)) := ⟨hc2⟩
  haveI : Fact (cond0_3 (grid0.coords t)) := ⟨hc3⟩
  simp only [cc0_in_proj_gates_eq_skeleton]; unfold cc0_in_proj_gates_skel
  simp only [k0_part4_eq_skeleton]
  simp only [canon0_0_10 t, canon0_0_11 t]
  unfold owns Ring.free Ring.inflight
  iintro ⟨⟨%f0, %hf0, H0⟩, ⟨%f1, %hf1, H1⟩, ⟨%d2, %f2, -, H2⟩, ⟨%fs0, %hfs0, HS0⟩, ⟨%ff0_0_0, Hf0_0_0, Hrf0_0_0⟩, ⟨%ff0_0_1, Hf0_0_1, Hrf0_0_1⟩, ⟨Hc0_0_2, ⟨%fs0_0_2, Hs0_0_2, Hw0_0_2⟩⟩, HW, Hk⟩
  ihave Hsp0_0_2 := (src0_0_split c fh0 (Ring.sl 3 (t.val + 2)) (Ring.bk 96 (t.val + 2))).1 $$ Hw0_0_2
  icases Hsp0_0_2 with ⟨Hh0_0_2, Hr0_0_2⟩
  obtain rfl := harg3.eq_unread hf0; obtain rfl := harg4.eq_unread hf1
  sl_exec (disch := first | sl_exact hc0 | sl_exact hc1 | sl_exact hc2 | sl_exact hc3)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; swap; · iexact H2
    ipureintro; sl_unfold_run_names
    rw [View.read_writes_full]
    exact outLater_of _ wb x1 (readAt_ring _ _ _ 0 _ _ (coff0_0_22 t)) (Slab.readAt_all arg6 _ wb hfs0 _)
      (Slab.readAt_all arg4 _ x1 (harg4.read_unread _) _)
  isplitl [HS0]
  · iexists _; isplitr; swap; · iexact HS0
    ipureintro; exact hfs0
  isplitl [Hf0_0_1 Hrf0_0_1]
  · iexists ff0_0_1; isplitl [Hf0_0_1]; · iexact Hf0_0_1
    iexact Hrf0_0_1
  isplitl [Hc0_0_2 Hr0_0_2]
  · iexists _; isplitl [Hc0_0_2]; · iexact Hc0_0_2
    iexact Hr0_0_2
  isplitl [Hf0_0_0 Hf0_0_0_dst Hf0_0_0_src Hrf0_0_0]
  · isplitl [Hf0_0_0]; · iexact Hf0_0_0
    iexists _; isplitl [Hf0_0_0_dst]; · iexact Hf0_0_0_dst
    iapply (src0_0_split c fh0 (Ring.sl 3 t.val) (Ring.bk 96 t.val)).2; isplitl [Hf0_0_0_src]; · iexact Hf0_0_0_src
    iexact Hrf0_0_0
  iexists _; iexact HW

set_option maxHeartbeats 1000000 in
/-- The first row block of a later column block. -/
theorem runC (c : Dev nD) (t : Fin cfg0.N) (arg3 : Memref sig .tc .vmem S512x4096 .f32) (harg3 : arg3.IsWhole) (arg4 : Memref sig .tc .vmem S1x512 .f32) (harg4 : arg4.IsWhole)
    (arg5 : Memref sig .tc .vmem S1024x512 .bf16) (harg5 : arg5.IsWhole) (arg6 : Memref sig .tc .vmem S4096x512 .bf16) (harg6 : arg6.IsWhole)
    (hc0 : ¬cond0_0 (grid0.coords t)) (hc1 : cond0_1 (grid0.coords t)) (hc2 : cond0_2 (grid0.coords t)) (hc3 : ¬cond0_3 (grid0.coords t))
    (x0 : Vec F S512x4096 .f32) (x1 : Vec F S1x512 .f32) (fh0 : HbBuf0 (F := F) c hbM0_0) (W : Waits sig Unit) (K : PUnit → sProp 𝕄) :
    iprop(owns (c : Thread nD τ) arg3 fullShare x0 ∗ owns (c : Thread nD τ) arg4 fullShare x1 ∗ (∃ d, owns (c : Thread nD τ) arg5 fullShare d) ∗ (∃ d, owns (c : Thread nD τ) arg6 fullShare d)
        ∗ Ring.inflight (flightW0_0 c fh0) (Ring.sl 3 t.val) (Ring.bk 96 t.val)
        ∗ Ring.inflight (flightW0_0 c fh0) (Ring.sl 3 (t.val + 1)) (Ring.bk 96 (t.val + 1))
        ∗ Ring.free (cellP0_0 c) (slotW0_0 c fh0) (Ring.sl 3 (t.val + 2)) ∗ owes (c : Thread nD τ) 0 W
        ∗ (iprop(owns (c : Thread nD τ) arg3 fullShare x0 ∗ owns (c : Thread nD τ) arg4 fullShare x1
            ∗ owns (c : Thread nD τ) arg5 fullShare (outFirst (rowsOf c fh0 (Ring.bk 96 t.val)) x0 x1)
            ∗ owns (c : Thread nD τ) arg6 fullShare (kept x0)
            ∗ Ring.inflight (flightW0_0 c fh0) (Ring.sl 3 (t.val + 1)) (Ring.bk 96 (t.val + 1))
            ∗ Ring.inflight (flightW0_0 c fh0) (Ring.sl 3 (t.val + 2)) (Ring.bk 96 (t.val + 2))
            ∗ Ring.free (cellP0_0 c) (slotW0_0 c fh0) (Ring.sl 3 t.val) ∗ (∃ W', owes (c : Thread nD τ) 0 W')) -∗ K ⟨⟩))
      ⊢ wp frame (wpE (defs₀ (F := F)) Variants.none c none) Set.univ
          (cc0_in_proj_gates (grid0.coords t) (Memref.whole main_v2) (Memref.isWhole_whole _) arg3 harg3 arg4 harg4 arg5 harg5 arg6 harg6
            scM0_1 (Memref.isWhole_whole _) cc0_scratch2) K := by
  haveI : Fact (¬cond0_0 (grid0.coords t)) := ⟨hc0⟩
  haveI : Fact (cond0_1 (grid0.coords t)) := ⟨hc1⟩
  haveI : Fact (cond0_2 (grid0.coords t)) := ⟨hc2⟩
  haveI : Fact (¬cond0_3 (grid0.coords t)) := ⟨hc3⟩
  simp only [cc0_in_proj_gates_eq_skeleton]; unfold cc0_in_proj_gates_skel
  simp only [k0_part4_eq_skeleton, k0_part1_eq_skeleton, k0_part2_eq_skeleton, k0_part3_eq_skeleton]
  simp only [canon0_0_10 t, canon0_0_11 t]
  unfold owns Ring.free Ring.inflight
  iintro ⟨⟨%f0, %hf0, H0⟩, ⟨%f1, %hf1, H1⟩, ⟨%d2, %f2, -, H2⟩, ⟨%ds0, %fs0, -, HS0⟩, ⟨%ff0_0_0, Hf0_0_0, Hrf0_0_0⟩, ⟨%ff0_0_1, Hf0_0_1, Hrf0_0_1⟩, ⟨Hc0_0_2, ⟨%fs0_0_2, Hs0_0_2, Hw0_0_2⟩⟩, HW, Hk⟩
  ihave Hsp0_0_2 := (src0_0_split c fh0 (Ring.sl 3 (t.val + 2)) (Ring.bk 96 (t.val + 2))).1 $$ Hw0_0_2
  icases Hsp0_0_2 with ⟨Hh0_0_2, Hr0_0_2⟩
  obtain rfl := harg3.eq_unread hf0; obtain rfl := harg4.eq_unread hf1
  sl_exec (disch := first | sl_exact hc0 | sl_exact hc1 | sl_exact hc2 | sl_exact hc3)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; swap; · iexact H2
    ipureintro; sl_unfold_run_names
    rw [View.read_writes_full]
    simp only [Slab.readAt_wcol arg3 _ x0 (harg3.read_unread _) 0 (by decide), Slab.readAt_wcol arg3 _ x0 (harg3.read_unread _) 512 (by decide),
      Slab.readAt_wcol arg3 _ x0 (harg3.read_unread _) 1024 (by decide), Slab.readAt_wcol arg3 _ x0 (harg3.read_unread _) 1536 (by decide),
      Slab.readAt_wcol arg3 _ x0 (harg3.read_unread _) 2048 (by decide), Slab.readAt_wcol arg3 _ x0 (harg3.read_unread _) 2560 (by decide),
      Slab.readAt_wcol arg3 _ x0 (harg3.read_unread _) 3072 (by decide), Slab.readAt_wcol arg3 _ x0 (harg3.read_unread _) 3584 (by decide)]
    exact outFirst_of _ x0 x1 (readAt_ring _ _ _ 0 _ _ (coff0_0_14 t)) (readAt_ring _ _ _ 512 _ _ (coff0_0_15 t))
      (readAt_ring _ _ _ 1024 _ _ (coff0_0_16 t)) (readAt_ring _ _ _ 1536 _ _ (coff0_0_17 t))
      (readAt_ring _ _ _ 2048 _ _ (coff0_0_18 t)) (readAt_ring _ _ _ 2560 _ _ (coff0_0_19 t))
      (readAt_ring _ _ _ 3072 _ _ (coff0_0_20 t)) (readAt_ring _ _ _ 3584 _ _ (coff0_0_21 t))
      (Slab.readAt_all arg4 _ x1 (harg4.read_unread _) _)
  isplitl [HS0]
  · iexists _; isplitr; swap; · iexact HS0
    ipureintro; sl_unfold_run_names
    simp only [Slab.readAt_wcol arg3 _ x0 (harg3.read_unread _) 0 (by decide), Slab.readAt_wcol arg3 _ x0 (harg3.read_unread _) 512 (by decide),
      Slab.readAt_wcol arg3 _ x0 (harg3.read_unread _) 1024 (by decide), Slab.readAt_wcol arg3 _ x0 (harg3.read_unread _) 1536 (by decide),
      Slab.readAt_wcol arg3 _ x0 (harg3.read_unread _) 2048 (by decide), Slab.readAt_wcol arg3 _ x0 (harg3.read_unread _) 2560 (by decide),
      Slab.readAt_wcol arg3 _ x0 (harg3.read_unread _) 3072 (by decide), Slab.readAt_wcol arg3 _ x0 (harg3.read_unread _) 3584 (by decide)]
    exact read_kept arg6 _ x0 _ _ _ _ _ _ _ _
  isplitl [Hf0_0_1 Hrf0_0_1]
  · iexists ff0_0_1; isplitl [Hf0_0_1]; · iexact Hf0_0_1
    iexact Hrf0_0_1
  isplitl [Hc0_0_2 Hr0_0_2]
  · iexists _; isplitl [Hc0_0_2]; · iexact Hc0_0_2
    iexact Hr0_0_2
  isplitl [Hf0_0_0 Hf0_0_0_dst Hf0_0_0_src Hrf0_0_0]
  · isplitl [Hf0_0_0]; · iexact Hf0_0_0
    iexists _; isplitl [Hf0_0_0_dst]; · iexact Hf0_0_0_dst
    iapply (src0_0_split c fh0 (Ring.sl 3 t.val) (Ring.bk 96 t.val)).2; isplitl [Hf0_0_0_src]; · iexact Hf0_0_0_src
    iexact Hrf0_0_0
  iexists _; iexact HW

set_option maxHeartbeats 1000000 in
/-- The last two steps: no transfer is left to start. -/
theorem runD (c : Dev nD) (t : Fin cfg0.N) (arg3 : Memref sig .tc .vmem S512x4096 .f32) (harg3 : arg3.IsWhole) (arg4 : Memref sig .tc .vmem S1x512 .f32) (harg4 : arg4.IsWhole)
    (arg5 : Memref sig .tc .vmem S1024x512 .bf16) (harg5 : arg5.IsWhole) (arg6 : Memref sig .tc .vmem S4096x512 .bf16) (harg6 : arg6.IsWhole)
    (hc0 : ¬cond0_0 (grid0.coords t)) (hc1 : ¬cond0_1 (grid0.coords t)) (hc2 : ¬cond0_2 (grid0.coords t)) (hc3 : cond0_3 (grid0.coords t))
    (x0 : Vec F S512x4096 .f32) (x1 : Vec F S1x512 .f32) (wb : Vec F S4096x512 .bf16) (fh0 : HbBuf0 (F := F) c hbM0_0) (W : Waits sig Unit) (K : PUnit → sProp 𝕄) :
    iprop(owns (c : Thread nD τ) arg3 fullShare x0 ∗ owns (c : Thread nD τ) arg4 fullShare x1 ∗ (∃ d, owns (c : Thread nD τ) arg5 fullShare d) ∗ owns (c : Thread nD τ) arg6 fullShare wb
        ∗ Ring.inflight (flightW0_0 c fh0) (Ring.sl 3 t.val) (Ring.bk 96 t.val)
        ∗ Ring.slotAt 2 (cellP0_0 c) (slotW0_0 c fh0) (flightW0_0 c fh0) t.val 1
        ∗ Ring.free (cellP0_0 c) (slotW0_0 c fh0) (Ring.sl 3 (t.val + 2)) ∗ owes (c : Thread nD τ) 0 W
        ∗ (iprop(owns (c : Thread nD τ) arg3 fullShare x0 ∗ owns (c : Thread nD τ) arg4 fullShare x1
            ∗ owns (c : Thread nD τ) arg5 fullShare (outLater (rowsOf c fh0 (Ring.bk 96 t.val)) wb x1)
            ∗ owns (c : Thread nD τ) arg6 fullShare wb
            ∗ Ring.slotAt 2 (cellP0_0 c) (slotW0_0 c fh0) (flightW0_0 c fh0) t.val 1
            ∗ Ring.free (cellP0_0 c) (slotW0_0 c fh0) (Ring.sl 3 (t.val + 2))
            ∗ Ring.free (cellP0_0 c) (slotW0_0 c fh0) (Ring.sl 3 t.val) ∗ (∃ W', owes (c : Thread nD τ) 0 W')) -∗ K ⟨⟩))
      ⊢ wp frame (wpE (defs₀ (F := F)) Variants.none c none) Set.univ
          (cc0_in_proj_gates (grid0.coords t) (Memref.whole main_v2) (Memref.isWhole_whole _) arg3 harg3 arg4 harg4 arg5 harg5 arg6 harg6
            scM0_1 (Memref.isWhole_whole _) cc0_scratch2) K := by
  haveI : Fact (¬cond0_0 (grid0.coords t)) := ⟨hc0⟩
  haveI : Fact (¬cond0_1 (grid0.coords t)) := ⟨hc1⟩
  haveI : Fact (¬cond0_2 (grid0.coords t)) := ⟨hc2⟩
  haveI : Fact (cond0_3 (grid0.coords t)) := ⟨hc3⟩
  simp only [cc0_in_proj_gates_eq_skeleton]; unfold cc0_in_proj_gates_skel
  simp only [k0_part4_eq_skeleton]
  simp only [canon0_0_10 t, canon0_0_11 t]
  unfold owns Ring.free Ring.inflight
  iintro ⟨⟨%f0, %hf0, H0⟩, ⟨%f1, %hf1, H1⟩, ⟨%d2, %f2, -, H2⟩, ⟨%fs0, %hfs0, HS0⟩, ⟨%ff0_0_0, Hf0_0_0, Hrf0_0_0⟩, Hro0_0_1, ⟨Hc0_0_2, ⟨%fs0_0_2, Hs0_0_2, Hw0_0_2⟩⟩, HW, Hk⟩
  obtain rfl := harg3.eq_unread hf0; obtain rfl := harg4.eq_unread hf1
  sl_exec (disch := first | sl_exact hc0 | sl_exact hc1 | sl_exact hc2 | sl_exact hc3)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; swap; · iexact H2
    ipureintro; sl_unfold_run_names
    rw [View.read_writes_full]
    exact outLater_of _ wb x1 (readAt_ring _ _ _ 0 _ _ (coff0_0_22 t)) (Slab.readAt_all arg6 _ wb hfs0 _)
      (Slab.readAt_all arg4 _ x1 (harg4.read_unread _) _)
  isplitl [HS0]
  · iexists _; isplitr; swap; · iexact HS0
    ipureintro; exact hfs0
  isplitl [Hro0_0_1]; · iexact Hro0_0_1
  isplitl [Hc0_0_2 Hs0_0_2 Hw0_0_2]
  · isplitl [Hc0_0_2]; · iexact Hc0_0_2
    iexists _; isplitl [Hs0_0_2]; · iexact Hs0_0_2
    iexact Hw0_0_2
  isplitl [Hf0_0_0 Hf0_0_0_dst Hf0_0_0_src Hrf0_0_0]
  · isplitl [Hf0_0_0]; · iexact Hf0_0_0
    iexists _; isplitl [Hf0_0_0_dst]; · iexact Hf0_0_0_dst
    iapply (src0_0_split c fh0 (Ring.sl 3 t.val) (Ring.bk 96 t.val)).2; isplitl [Hf0_0_0_src]; · iexact Hf0_0_0_src
    iexact Hrf0_0_0
  iexists _; iexact HW

end Cert.KernelIdeal.Gates

end
-- ==== Proof.GatesFrame.lean ====
module

public import proofs.«01_k».proof.Proof.GatesRun

/-! The gates' kernel over its whole grid: the scratch is tracked from point to point, so that the run ends with the result
array named. -/

@[expose] public section

set_option maxRecDepth 16384

noncomputable section

namespace Cert.KernelIdeal.Gates

open Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- Rows `12352 + 512 j …` of the transposed weights: the window of column block `j`. -/
def wwin (c : Dev nD) (j : Fin 16) : Vec F S512x4096 .f32 :=
  fun y => (V m c main_v1 : Vec F S20544x4096 .f32) (ValueIdx.ix2 ⟨12352 + 512 * j.val + (y 0).val, by
    have : (y 0).val < 512 := (y 0).isLt
    omega⟩ (y 1))

/-- The column block of a grid point. -/
def colOf (t : ℕ) : Fin 16 := ⟨t / 6 % 16, Nat.mod_lt _ (by decide)⟩

theorem transform1_eq : ∀ t : Fin grid0.N, cc0_transform_1 (grid0.coords t) = ![12352 + 512 * (t.val / 6 % 16), 0] := by
  decide +kernel

/-- The weight window's block at a point. -/
theorem iblk0_eq (c : Dev nD) (t : Fin cfg0.N) : iblk m c 0 t = wwin m c (colOf t.val) := by
  funext y
  refine congrArg (V m c main_v1 : Vec F S20544x4096 .f32) (funext fun a => Fin.ext ?_)
  refine (ValueKit.view_emb_slice_whole_unit_val main_v1 _ _ _ y a).trans ?_
  have e := transform1_eq t
  match a with
  | ⟨0, _⟩ => exact congrArg (· + (y 0).val) (congrFun e 0)
  | ⟨1, _⟩ => exact (congrArg (· + (y 1).val) (congrFun e 1)).trans (Nat.zero_add _)

/-- The scratch before point `k`: anything at a column block's start, else that block's kept weights. -/
def keptAt (c : Dev nD) (k : ℕ) : sProp 𝕄 :=
  if k % 6 = 0 then iprop(∃ d, owns (c : Thread nD τ) scM0_0 fullShare d)
  else owns (c : Thread nD τ) scM0_0 fullShare (kept (wwin m c (colOf k)))

theorem keptAt_next (c : Dev nD) (k : ℕ) :
    owns (c : Thread nD τ) scM0_0 fullShare (kept (wwin m c (colOf k))) ⊢ (keptAt m c (k + 1) : sProp 𝕄) := by
  unfold keptAt
  by_cases h : (k + 1) % 6 = 0
  · rw [if_pos h]; iintro H; iexists _; iexact H
  · rw [if_neg h, show colOf (k + 1) = colOf k from Fin.ext (by show (k + 1) / 6 % 16 = k / 6 % 16; omega)]

/-- The same at a column block's first point, where the kept weights come from the window. -/
theorem keptAt_first (c : Dev nD) (t : Fin cfg0.N) :
    owns (c : Thread nD τ) scM0_0 fullShare (kept (iblk m c 0 t)) ⊢ (keptAt m c (t.val + 1) : sProp 𝕄) := by
  rw [iblk0_eq]; exact keptAt_next m c t.val

/-- What the body leaves in the result's window at a point. -/
def outAt (c : Dev nD) (t : Fin cfg0.N) : Vec F S1024x512 .bf16 :=
  if t.val % 6 = 0 then outFirst (rowsOf c (V m c main_v2) (Ring.bk 96 t.val)) (iblk m c 0 t) (iblk m c 1 t)
  else outLater (rowsOf c (V m c main_v2) (Ring.bk 96 t.val)) (kept (wwin m c (colOf t.val))) (iblk m c 1 t)

/-- The region's invariant before point `k`. -/
def Phi (c : Dev nD) (k : ℕ) : sProp 𝕄 := iprop(keptAt m c k ∗ (∃ r, prngReg c r) ∗ ringAt0_0 c (V m c main_v2) k)

/-- The proof data: the inputs' buffers at their blocks, the result's at `outAt`. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => outAt m c t
  Φ t := Phi m c t.val
  q _ := fullShare
  owed _ := 0

theorem A_eq (c : Dev nD) (w : Fin cfg0.W) : (dats m 0 c).A w = V m c (Pipeline.arrRef spec0 w) := by
  dsimp only [dats]
theorem Phi_castSucc (c : Dev nD) (t : Fin cfg0.N) : (dats m 0 c).Φ t.castSucc = Phi m c t.val := by
  dsimp only [dats]; simp only [Fin.coe_castSucc]
theorem Phi_succ (c : Dev nD) (t : Fin cfg0.N) : (dats m 0 c).Φ t.succ = Phi m c (t.val + 1) := by
  dsimp only [dats]; simp only [Fin.val_succ]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = outAt m c t := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
/-- The body writes the result's window at every point. -/
theorem live_2 : ∀ t : Fin cfg0.N, cfg0.idle 2 (grid0.coords t) = false :=
  (by decide +kernel : ∀ t : Fin grid0.N, cfg0.idle 2 (grid0.coords t) = false)

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d)))
/-- and what it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t)

set_option maxHeartbeats 1600000 in
/-- The body at any point, from its four cases. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1]
  rw [Phi_castSucc m c t, Phi_succ m c t]
  unfold Dat.owesAt Pipeline.owesWithin
  rw [show (dats m 0 c).owed t.castSucc = 0 from rfl, show (dats m 0 c).owed t.succ = 0 from rfl]
  rw [show (dats m 0 c).leavesExact 0 t = owns (c : Thread nD τ) (ms0_0 t) fullShare ((dats m 0 c).after 0 t) from by
    unfold Dat.leavesExact; rw [liveAt0_0 t], after_0]
  rw [show (dats m 0 c).leavesExact 1 t = owns (c : Thread nD τ) (ms0_1 t) fullShare ((dats m 0 c).after 1 t) from by
    unfold Dat.leavesExact; rw [liveAt0_1 t], after_1]
  rw [show (dats m 0 c).leavesExact 2 t = owns (c : Thread nD τ) (ms0_2 t) fullShare ((dats m 0 c).after 2 t) from by
    unfold Dat.leavesExact; rw [live_2 t], after_2]
  unfold Phi ringAt0_0
  have hN : t.val < 96 := lt_of_lt_of_eq t.isLt (show cfg0.N = 96 from N_0)
  by_cases h6 : t.val % 6 = 0
  · have c2 := (hcond0_2 t).mpr h6
    have c3 : ¬cond0_3 (grid0.coords t) := fun h => by have := (hcond0_3 t).mp h; omega
    have c1 := (hcond0_1 t).mpr (by omega)
    rw [show outAt m c t = outFirst (rowsOf c (V m c main_v2) (Ring.bk 96 t.val)) (iblk m c 0 t) (iblk m c 1 t) from if_pos h6]
    by_cases h0 : t.val % 96 = 0
    · have c0 := (hcond0_0 t).mpr h0
      have hr := rstep0_0_A t c0 c1 c2 c3
      obtain ⟨hK0, hK1⟩ := hr
      rw [if_pos hK0, if_neg (show ¬t.val + 1 = 0 by omega)]
      rw [Ring.At₀_eq3' _ _ _ t.val hK0 (by decide : 3 ≤ 96), Ring.At3_one' _ _ _ _ t.val hK0 (by decide : 3 ≤ 96)]
      rw [keptAt, if_pos h6]
      iintro ⟨⟨HK, Hg, ⟨-, Hra, Hrb, Hrc⟩⟩, ⟨%W, -, HW⟩, ⟨%d0, H0⟩, ⟨%d1, H1⟩, ⟨%d2, H2⟩⟩
      iapply (runA c t _ _ _ _ _ _ _ _ c0 c1 c2 c3 (iblk m c 0 t) (iblk m c 1 t) (V m c main_v2) W _)
      isplitl [H0]; · iexact H0
      isplitl [H1]; · iexact H1
      isplitl [H2]; · iexists _; iexact H2
      isplitl [HK]; · iexact HK
      isplitl [Hra]; · iexact Hra
      isplitl [Hrb]; · iexact Hrb
      isplitl [Hrc]; · iexact Hrc
      isplitl [HW]; · iexact HW
      iintro ⟨H0, H1, H2, HK, Hra, Hrb, Hrc, ⟨%W', HW'⟩⟩
      isplitl [HK Hg Hra Hrb Hrc]
      · isplitl [HK]; · iapply keptAt_first m c t; iexact HK
        isplitl [Hg]; · iexact Hg
        iapply (Ring.with_homes (Idealize.SL.BI.Entails.refl _))
        isplitl [Hra]; · iexact Hra
        isplitl [Hrb]; · iexact Hrb
        iexact Hrc
      isplitl [HW']
      · iexists W'; isplitr; · ipureintro; exact fun _ _ => Or.inl trivial
        iexact HW'
      isplitl [H0]; · iexact H0
      isplitl [H1]; · iexact H1
      iexact H2
    · have c0 : ¬cond0_0 (grid0.coords t) := fun h => h0 ((hcond0_0 t).mp h)
      have hr := rstep0_0_C t c0 c1 c2 c3
      obtain ⟨hK1, hKB, -⟩ := hr
      rw [if_neg (show ¬t.val = 0 by omega), if_neg (show ¬t.val + 1 = 0 by omega)]
      rw [Ring.At3_here _ _ _ _ t.val hKB, Ring.At3_next _ _ _ _ t.val hKB, Ring.slotAt3_next0 _ _ _ t.val (by omega),
        Ring.slotAt3_next1 _ _ _ t.val hKB]
      rw [keptAt, if_pos h6]
      iintro ⟨⟨HK, Hg, ⟨-, Hra, Hrb, Hrc⟩⟩, ⟨%W, -, HW⟩, ⟨%d0, H0⟩, ⟨%d1, H1⟩, ⟨%d2, H2⟩⟩
      iapply (runC c t _ _ _ _ _ _ _ _ c0 c1 c2 c3 (iblk m c 0 t) (iblk m c 1 t) (V m c main_v2) W _)
      isplitl [H0]; · iexact H0
      isplitl [H1]; · iexact H1
      isplitl [H2]; · iexists _; iexact H2
      isplitl [HK]; · iexact HK
      isplitl [Hra]; · iexact Hra
      isplitl [Hrb]; · iexact Hrb
      isplitl [Hrc]; · iexact Hrc
      isplitl [HW]; · iexact HW
      iintro ⟨H0, H1, H2, HK, Hra, Hrb, Hrc, ⟨%W', HW'⟩⟩
      isplitl [HK Hg Hra Hrb Hrc]
      · isplitl [HK]; · iapply keptAt_first m c t; iexact HK
        isplitl [Hg]; · iexact Hg
        iapply (Ring.with_homes (Idealize.SL.BI.Entails.refl _))
        isplitl [Hra]; · iexact Hra
        isplitl [Hrb]; · iexact Hrb
        iexact Hrc
      isplitl [HW']
      · iexists W'; isplitr; · ipureintro; exact fun _ _ => Or.inl trivial
        iexact HW'
      isplitl [H0]; · iexact H0
      isplitl [H1]; · iexact H1
      iexact H2
  · have c2 : ¬cond0_2 (grid0.coords t) := fun h => h6 ((hcond0_2 t).mp h)
    have c3 := (hcond0_3 t).mpr (by omega)
    have c0 : ¬cond0_0 (grid0.coords t) := fun h => by have := (hcond0_0 t).mp h; omega
    rw [show outAt m c t = outLater (rowsOf c (V m c main_v2) (Ring.bk 96 t.val)) (kept (wwin m c (colOf t.val))) (iblk m c 1 t)
      from if_neg h6]
    by_cases h1 : t.val < 94
    · have c1 := (hcond0_1 t).mpr h1
      have hr := rstep0_0_B t c0 c1 c2 c3
      obtain ⟨hK1, hKB, -⟩ := hr
      rw [if_neg (show ¬t.val = 0 by omega), if_neg (show ¬t.val + 1 = 0 by omega)]
      rw [Ring.At3_here _ _ _ _ t.val hKB, Ring.At3_next _ _ _ _ t.val hKB, Ring.slotAt3_next0 _ _ _ t.val (by omega),
        Ring.slotAt3_next1 _ _ _ t.val hKB]
      rw [keptAt, if_neg h6]
      iintro ⟨⟨HK, Hg, ⟨-, Hra, Hrb, Hrc⟩⟩, ⟨%W, -, HW⟩, ⟨%d0, H0⟩, ⟨%d1, H1⟩, ⟨%d2, H2⟩⟩
      iapply (runB c t _ _ _ _ _ _ _ _ c0 c1 c2 c3 (iblk m c 0 t) (iblk m c 1 t) (kept (wwin m c (colOf t.val))) (V m c main_v2) W _)
      isplitl [H0]; · iexact H0
      isplitl [H1]; · iexact H1
      isplitl [H2]; · iexists _; iexact H2
      isplitl [HK]; · iexact HK
      isplitl [Hra]; · iexact Hra
      isplitl [Hrb]; · iexact Hrb
      isplitl [Hrc]; · iexact Hrc
      isplitl [HW]; · iexact HW
      iintro ⟨H0, H1, H2, HK, Hra, Hrb, Hrc, ⟨%W', HW'⟩⟩
      isplitl [HK Hg Hra Hrb Hrc]
      · isplitl [HK]; · iapply keptAt_next m c t.val; iexact HK
        isplitl [Hg]; · iexact Hg
        iapply (Ring.with_homes (Idealize.SL.BI.Entails.refl _))
        isplitl [Hra]; · iexact Hra
        isplitl [Hrb]; · iexact Hrb
        iexact Hrc
      isplitl [HW']
      · iexists W'; isplitr; · ipureintro; exact fun _ _ => Or.inl trivial
        iexact HW'
      isplitl [H0]; · iexact H0
      isplitl [H1]; · iexact H1
      iexact H2
    · have c1 : ¬cond0_1 (grid0.coords t) := fun h => h1 ((hcond0_1 t).mp h)
      have hr := rstep0_0_D t c0 c1 c2 c3
      obtain ⟨hK1, hKB, hKlt, -⟩ := hr
      rw [if_neg (show ¬t.val = 0 by omega), if_neg (show ¬t.val + 1 = 0 by omega)]
      rw [Ring.At3_here_tail _ _ _ _ t.val hKlt, Ring.At3_next_tail _ _ _ _ t.val hKB hKlt, Ring.slotAt3_tail_role _ _ _ t.val]
      rw [keptAt, if_neg h6]
      iintro ⟨⟨HK, Hg, ⟨-, Hra, Hrb, Hrc⟩⟩, ⟨%W, -, HW⟩, ⟨%d0, H0⟩, ⟨%d1, H1⟩, ⟨%d2, H2⟩⟩
      iapply (runD c t _ _ _ _ _ _ _ _ c0 c1 c2 c3 (iblk m c 0 t) (iblk m c 1 t) (kept (wwin m c (colOf t.val))) (V m c main_v2) W _)
      isplitl [H0]; · iexact H0
      isplitl [H1]; · iexact H1
      isplitl [H2]; · iexists _; iexact H2
      isplitl [HK]; · iexact HK
      isplitl [Hra]; · iexact Hra
      isplitl [Hrb]; · iexact Hrb
      isplitl [Hrc]; · iexact Hrc
      isplitl [HW]; · iexact HW
      iintro ⟨H0, H1, H2, HK, Hra, Hrb, Hrc, ⟨%W', HW'⟩⟩
      isplitl [HK Hg Hra Hrb Hrc]
      · isplitl [HK]; · iapply keptAt_next m c t.val; iexact HK
        isplitl [Hg]; · iexact Hg
        iapply (Ring.with_homes (Idealize.SL.BI.Entails.refl _))
        isplitl [Hra]; · iexact Hra
        isplitl [Hrb]; · iexact Hrb
        iexact Hrc
      isplitl [HW']
      · iexists W'; isplitr; · ipureintro; exact fun _ _ => Or.inl trivial
        iexact HW'
      isplitl [H0]; · iexact H0
      isplitl [H1]; · iexact H1
      iexact H2

theorem defs₀_row (t : Fin cfg0.N) :
    defs₀ (F := F) .tc cfg0.body (cfg0.bodyArgs t (cfg0.slots t)) = bodyAt0 t := by
  unfold defs₀; rw [Defs.onTc_tc]

/-- The pipeline's obligation on the body. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region is the invariant before the first point. -/
theorem hin (c : Dev nD) : Pipeline.ΦD osem0 spec0 H0 (V m) c ⊢ (dats m 0 c).Φ 0 := by
  rw [PhiD0_eq, show (dats m 0 c).Φ 0 = Phi m c 0 from rfl]
  unfold Phi
  rw [show (keptAt m c 0 : sProp 𝕄) = iprop(∃ d, owns (c : Thread nD τ) scM0_0 fullShare d) from if_pos rfl]
  iintro ⟨⟨HS0, HR0_0⟩, Hg, ⟨Hq0, Hq1, Hq2⟩, Hh0⟩
  isplitl [HS0]; · iexact HS0
  isplitl [Hg]; · iexact Hg
  iapply (ring0_0_in (F := F) m c)
  isplitl [HR0_0]; · iexact HR0_0
  isplitl [Hq0 Hq1 Hq2]
  · isplitl [Hq0]; · iexact Hq0
    isplitl [Hq1]; · iexact Hq1
    iexact Hq2
  iexact Hh0

/-- And the invariant after the last point hands it back. -/
theorem hout (c : Dev nD) : (dats m 0 c).Φ (Fin.last cfg0.N) ⊢ Pipeline.ΦD osem0 spec0 H0 (V m) c := by
  rw [PhiD0_eq, show (dats m 0 c).Φ (Fin.last cfg0.N) = Phi m c grid0.N from rfl]
  unfold Phi
  rw [show grid0.N = 96 by rw [N_0]]
  rw [show (keptAt m c 96 : sProp 𝕄) = iprop(∃ d, owns (c : Thread nD τ) scM0_0 fullShare d) from if_pos rfl]
  iintro ⟨HS0, Hg, HR0_0⟩
  ihave HX0_0 := (ring0_0_out (F := F) m c) $$ HR0_0
  icases HX0_0 with ⟨HR0_0, ⟨Hq0, Hq1, Hq2⟩, Hh0⟩
  isplitl [HS0 HR0_0]
  · isplitl [HS0]; · iexact HS0
    iexact HR0_0
  isplitl [Hg]
  · iexact Hg
  isplitl [Hq0 Hq1 Hq2]
  · isplitl [Hq0]; · iexact Hq0
    isplitl [Hq1]; · iexact Hq1
    iexact Hq2
  iexact Hh0

set_option backward.isDefEq.respectTransparency.types false in
/-- The run: the arrays end at what the proof data says, and every semaphore at zero. -/
theorem run_main : θ_run defs (onTc (τ := τ) (main (F := F))) (s₀ m ρ)
    (fun r => Pipeline.FramePost cfgs (dats m) 0 (V m) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmain m Variants.none) (hA := A_eq m) (hin := hin m) (hout := hout m)

end Cert.KernelIdeal.Gates

end
-- ==== Proof.Dense.lean ====
module

public import proofs.«01_k».proof.Proof.Slab
public import Idealize.ShloMosaic.Lib.MatmulPlain
public import Idealize.ShloMosaic.Lib.IdealHost
public import Idealize.ShloMosaic.Lib.Pointwise
public import Idealize.ShloMosaic.Lib.StackMember
public import Idealize.ShloMosaic.Lib.ValueLayout
public import Idealize.ShloMosaic.PureOps.Ideal.Laws

/-! Facts about extended reals that a dense layer cut into column chunks needs: a long sum is the sum of its eight
stretches, a product of two slabs of columns is such a stretch, and the logistic function in terms of the hyperbolic
tangent. -/

@[expose] public section

namespace Cert.Dense

open Idealize.ShloMosaic Idealize.ShloMosaic.ValueIdx

/-- `x` times `½`, its tangent, plus one, halved: the logistic function of `x`. -/
theorem half_tanh (x : EReal) : ((1 / 2 : ℝ) : EReal) * (1 + Ideal.tanh (((1 / 2 : ℝ) : EReal) * x)) = Ideal.logistic x := by
  induction x using EReal.rec with
  | bot =>
    rw [EReal.coe_mul_bot_of_pos (by norm_num), Ideal.tanh_bot, Ideal.logistic_bot]
    rw [← EReal.coe_one, ← EReal.coe_neg, ← EReal.coe_add, ← EReal.coe_mul]
    norm_num
  | top =>
    rw [EReal.coe_mul_top_of_pos (by norm_num), Ideal.tanh_top, Ideal.logistic_top]
    rw [show (1 : EReal) = ((1 : ℝ) : EReal) by norm_cast]
    norm_cast; norm_num
  | coe r =>
    rw [Ideal.logistic_coe, ← EReal.coe_mul, Ideal.tanh_coe, show (1 : EReal) = ((1 : ℝ) : EReal) by norm_cast, ← EReal.coe_add,
      ← EReal.coe_mul]
    refine congrArg _ ?_
    rw [Real.tanh_eq_sinh_div_cosh, Real.sinh_eq, Real.cosh_eq]
    have h1 : Real.exp (1 / 2 * r) = Real.exp (r / 2) := by ring_nf
    have h2 : Real.exp (-r) = Real.exp (-(r / 2)) * Real.exp (-(r / 2)) := by rw [← Real.exp_add]; ring_nf
    have h3 : Real.exp (-(1 / 2 * r)) = Real.exp (-(r / 2)) := by ring_nf
    have h4 : Real.exp (r / 2) * Real.exp (-(r / 2)) = 1 := by rw [← Real.exp_add]; simp
    rw [h1, h2, h3]
    have p := Real.exp_pos (r / 2)
    have q := Real.exp_pos (-(r / 2))
    generalize Real.exp (r / 2) = a at *
    generalize Real.exp (-(r / 2)) = b at *
    have : 1 + b * b = b * (a + b) := by linear_combination -h4
    rw [this]
    field_simp
    linear_combination 2 * h4

theorem ofBits_half : Ideal.ofBits .f32 0x3F000000#32 = ((1 / 2 : ℝ) : EReal) := by
  simp [Ideal.ofBits, Ideal.ieee, -EReal.coe_mul]; norm_num

/-- A sum over 4096 positions is the sum of its eight stretches of 512, added from the left. -/
theorem sum_eight {M : Type*} [AddCommMonoid M] (f : Fin 4096 → M) :
    ∑ k, f k = (((((((∑ k : Fin 512, f ⟨0 + k.val, by omega⟩) + ∑ k : Fin 512, f ⟨512 + k.val, by omega⟩)
      + ∑ k : Fin 512, f ⟨1024 + k.val, by omega⟩) + ∑ k : Fin 512, f ⟨1536 + k.val, by omega⟩)
      + ∑ k : Fin 512, f ⟨2048 + k.val, by omega⟩) + ∑ k : Fin 512, f ⟨2560 + k.val, by omega⟩)
      + ∑ k : Fin 512, f ⟨3072 + k.val, by omega⟩) + ∑ k : Fin 512, f ⟨3584 + k.val, by omega⟩ := by
  rw [Fin.sum_univ_tiles 8 512 rfl f, Fin.sum_univ_eight]
  rfl

/-- The product of `n` columns of a slab with a matrix of `n` rows, at a position. -/
theorem slab_product {M K N n : ℕ} {φ₁ φ₂ : FTy} (k : ℕ) (hk : k + n ≤ K) (X : (⟨2, ![M, K]⟩ : Shape).Idx → EReal)
    (hs : (⟨3, ![1, M, n]⟩ : Shape).ShapeCasts ⟨2, ![M, n]⟩) (w : (⟨2, ![n, N]⟩ : Shape).Idx → EReal) (r : Fin M) (c : Fin N) :
    matmul (F := Ideal) (φ₁ := φ₁) (φ₂ := φ₂) (DotDims.plain M n N) none (shapeCast ⟨2, ![M, n]⟩ (Slab.cols n k hk X) hs) w
      (constant ⟨2, ![M, N]⟩ .f32 0x00000000#32) (ValueIdx.ix2 r c)
      = ∑ j : Fin n, X (ValueIdx.ix2 r ⟨k + j.val, by omega⟩) * w (ValueIdx.ix2 j c) := by
  refine (Ideal.matmul_plain_apply none _ _ _ r c).trans ?_
  rw [show (constant ⟨2, ![M, N]⟩ .f32 0x00000000#32 : FVec Ideal ⟨2, ![M, N]⟩ .f32) (ValueIdx.ix2 r c) = 0 from Ideal.ofBits_zero_f32, zero_add]
  refine Finset.sum_congr rfl fun j _ => ?_
  refine congrArg (· * _) ?_
  exact shapeCast_dropUnit_apply ![M, n] (Slab.cols n k hk X) hs (ValueIdx.ix2 r j)

/-- The same against 512 rows of a cast window of weights: a stretch of the long sum. -/
theorem rows_product {M : ℕ} (k : ℕ) (hk : k + 512 ≤ 4096) (X : (⟨2, ![M, 4096]⟩ : Shape).Idx → EReal)
    (hs : (⟨3, ![1, M, 512]⟩ : Shape).ShapeCasts ⟨2, ![M, 512]⟩) (x0 : (⟨2, ![4096, 512]⟩ : Shape).Idx → EReal)
    (hw : (⟨2, ![512, 512]⟩ : Shape).ShapeCasts ⟨2, ![512, 512]⟩) (hb : FTy.bf16.bits < FTy.f32.bits) (r : Fin M) (c : Fin 512) :
    matmul (F := Ideal) (φ₁ := .bf16) (φ₂ := .bf16) (DotDims.plain M 512 512) none (shapeCast ⟨2, ![M, 512]⟩ (Slab.cols 512 k hk X) hs)
      (truncf .bf16 (shapeCast ⟨2, ![512, 512]⟩ (Slab.rows k hk x0) hw : FVec Ideal ⟨2, ![512, 512]⟩ .f32) hb)
      (constant ⟨2, ![M, 512]⟩ .f32 0x00000000#32) (ValueIdx.ix2 r c)
      = ∑ j : Fin 512, X (ValueIdx.ix2 r ⟨k + j.val, by omega⟩) * x0 (ValueIdx.ix2 ⟨k + j.val, by omega⟩ c) := by
  rw [shapeCast_self]
  exact slab_product k hk X hs (Slab.rows k hk x0) r c

/-- A host product with a stack of one matrix, read as that matrix, at a position. -/
theorem host_product {M K N : ℕ} (x : FVec Ideal ⟨2, ![M, K]⟩ .f32) (w : FVec Ideal ⟨3, ![1, K, N]⟩ .f32)
    (hs : (⟨3, ![1, K, N]⟩ : Shape).ShapeCasts ⟨2, ![K, N]⟩) (i : (⟨2, ![M, N]⟩ : Shape).Idx) :
    (Host.dotGeneral (F := Ideal) (DotDims.plain M K N) none x (shapeCast ⟨2, ![K, N]⟩ w hs) : FVec Ideal ⟨2, ![M, N]⟩ .f32) i
      = ∑ k : Fin K, (x (ValueIdx.ix2 (i 0) k) : EReal) * w (ValueIdx.ix3 0 k (i 1)) := by
  refine (congrArg _ (ValueIdx.eq_ix2 i)).trans ((StackMember.dotGeneral_plain_apply none _ _ (i 0) (i 1)).trans ?_)
  exact Finset.sum_congr rfl fun k _ => congrArg (_ * ·) (shapeCast_1ab_ab_apply w hs k (i 1))

/-- A position of a transposed matrix. -/
theorem transpose_ix2 {α : Type} {m n : ℕ} (x : (⟨2, ![m, n]⟩ : Shape).Idx → α)
    (h : (⟨2, ![m, n]⟩ : Shape).Transposes [1, 0] ⟨2, ![n, m]⟩) (r : Fin n) (c : Fin m) :
    transpose ⟨2, ![n, m]⟩ [1, 0] x h (ValueIdx.ix2 r c) = x (ValueIdx.ix2 c r) :=
  transpose_apply _ _ _ (ValueIdx.ix2 r c) (ValueIdx.ix2 c r) fun b => by match b with | ⟨0, _⟩ => rfl | ⟨1, _⟩ => rfl

/-- The same against 512 columns of a window of transposed weights, transposed back and cast. -/
theorem cols_product {M : ℕ} (k : ℕ) (hk : k + 512 ≤ 4096) (X : (⟨2, ![M, 4096]⟩ : Shape).Idx → EReal)
    (hs : (⟨3, ![1, M, 512]⟩ : Shape).ShapeCasts ⟨2, ![M, 512]⟩) (x0 : (⟨2, ![512, 4096]⟩ : Shape).Idx → EReal)
    (hw : (⟨2, ![512, 512]⟩ : Shape).ShapeCasts ⟨2, ![512, 512]⟩) (ht : (⟨2, ![512, 512]⟩ : Shape).Transposes [1, 0] ⟨2, ![512, 512]⟩)
    (hb : FTy.bf16.bits < FTy.f32.bits) (r : Fin M) (c : Fin 512) :
    matmul (F := Ideal) (φ₁ := .bf16) (φ₂ := .bf16) (DotDims.plain M 512 512) none (shapeCast ⟨2, ![M, 512]⟩ (Slab.cols 512 k hk X) hs)
      (truncf .bf16 (transpose ⟨2, ![512, 512]⟩ [1, 0] (shapeCast ⟨2, ![512, 512]⟩ (Slab.wcol k hk x0) hw) ht :
        FVec Ideal ⟨2, ![512, 512]⟩ .f32) hb)
      (constant ⟨2, ![M, 512]⟩ .f32 0x00000000#32) (ValueIdx.ix2 r c)
      = ∑ j : Fin 512, X (ValueIdx.ix2 r ⟨k + j.val, by omega⟩) * x0 (ValueIdx.ix2 c ⟨k + j.val, by omega⟩) := by
  rw [shapeCast_self]
  refine (slab_product k hk X hs _ r c).trans (Finset.sum_congr rfl fun j _ => congrArg (_ * ·) ?_)
  exact transpose_ix2 (α := EReal) (Slab.wcol k hk x0) ht j c

end Cert.Dense

end
-- ==== Proof.GatesMath.lean ====
module

public import proofs.«01_k».proof.Proof.GatesFrame
public import proofs.«01_k».proof.Proof.Dense

/-! What the gates' kernel stores at a position, on the extended reals: the logistic function of a row times a column of the
weights, plus the bias. Both branches of the body store it: the first row block of a column block as eight partial products,
a later one as one product with the kept weights. -/

@[expose] public section

set_option maxRecDepth 16384

noncomputable section

namespace Cert.KernelIdeal.Gates

open Cert.KernelIdeal.Gen
open Idealize.ShloMosaic Idealize.ShloMosaic.TcCoe Idealize.ShloMosaic.ValueIdx

/-- The logistic gate of a row and a column of the weights with its bias. -/
def gate (x w : Fin 4096 → EReal) (b : EReal) : EReal := Ideal.logistic (∑ k, x k * w k + b)

/-- The epilogue at a position: half of one plus the tangent of half the biased logit. -/
theorem epilogue (z b : EReal) :
    (Ideal.ofBits .f32 0x3F000000#32 * (Ideal.ofBits .f32 0x3F800000#32 + Ideal.tanh (Ideal.ofBits .f32 0x3F000000#32 * (z + b))) : EReal)
      = Ideal.logistic (z + b) := by
  rw [Ideal.ofBits_one_f32, Dense.ofBits_half, Dense.half_tanh]

/-- The bias row spread over the block, at a position. -/
theorem bias_apply (x1 : Vec Ideal S1x512 .f32) (r : Fin 1024) (c : Fin 512) :
    broadcastTo S1024x512 (shapeCast S1x512 x1 shapeCasts_S1x512_S1x512) broadcasts_S1x512_S1024x512 (ValueIdx.ix2 r c)
      = x1 (ValueIdx.ix2 0 c) := by
  rw [shapeCast_self]
  refine congrArg x1 (funext fun a => Fin.ext ?_)
  match a with
  | ⟨0, _⟩ => rfl
  | ⟨1, _⟩ => rfl

/-- A later row block stores the gates. -/
theorem outLater_apply (X : Vec Ideal S1024x4096 .bf16) (wb : Vec Ideal S4096x512 .bf16) (x1 : Vec Ideal S1x512 .f32)
    (r : Fin 1024) (c : Fin 512) :
    outLater X wb x1 (ValueIdx.ix2 r c)
      = gate (fun k => X (ValueIdx.ix2 r k)) (fun k => wb (ValueIdx.ix2 k c)) (x1 (ValueIdx.ix2 0 c)) := by
  refine Eq.trans ?_ (epilogue _ _)
  refine congrArg (fun z : EReal => Ideal.ofBits .f32 0x3F000000#32 * (Ideal.ofBits .f32 0x3F800000#32
    + Ideal.tanh (Ideal.ofBits .f32 0x3F000000#32 * z))) (congrArg₂ (fun a b : EReal => a + b) ?_ (bias_apply x1 r c))
  refine (Dense.slab_product 0 (by decide) X _ _ r c).trans (Finset.sum_congr rfl fun j _ => ?_)
  exact congrArg (fun i => (X (ValueIdx.ix2 r i) : EReal) * _) (Fin.ext (Nat.zero_add _))

/-- The first row block stores the gates. -/
theorem outFirst_apply (X : Vec Ideal S1024x4096 .bf16) (x0 : Vec Ideal S512x4096 .f32) (x1 : Vec Ideal S1x512 .f32)
    (r : Fin 1024) (c : Fin 512) :
    outFirst X x0 x1 (ValueIdx.ix2 r c)
      = gate (fun k => X (ValueIdx.ix2 r k)) (fun k => x0 (ValueIdx.ix2 c k)) (x1 (ValueIdx.ix2 0 c)) := by
  unfold gate
  rw [Dense.sum_eight]
  have h := fun k hk => Dense.cols_product k hk X shapeCasts_S1x1024x512_S1024x512 x0 shapeCasts_S512x512_S512x512
    transposes_S512x512_p1_0_S512x512 bitsLt_bf16_f32 r c
  refine Eq.trans ?_ (epilogue _ _)
  refine congrArg (fun z : EReal => Ideal.ofBits .f32 0x3F000000#32 * (Ideal.ofBits .f32 0x3F800000#32
    + Ideal.tanh (Ideal.ofBits .f32 0x3F000000#32 * z))) (congrArg₂ (fun a b : EReal => a + b) ?_ (bias_apply x1 r c))
  refine congrArg₂ (fun a b : EReal => a + b) ?_ (h 3584 (by decide))
  refine congrArg₂ (fun a b : EReal => a + b) ?_ (h 3072 (by decide))
  refine congrArg₂ (fun a b : EReal => a + b) ?_ (h 2560 (by decide))
  refine congrArg₂ (fun a b : EReal => a + b) ?_ (h 2048 (by decide))
  refine congrArg₂ (fun a b : EReal => a + b) ?_ (h 1536 (by decide))
  refine congrArg₂ (fun a b : EReal => a + b) ?_ (h 1024 (by decide))
  exact congrArg₂ (fun a b : EReal => a + b) (h 0 (by decide)) (h 512 (by decide))

end Cert.KernelIdeal.Gates

end
-- ==== Proof.GatesValue.lean ====
module

public import proofs.«01_k».proof.Proof.GatesFrame
public import proofs.«01_k».proof.Proof.GatesMath
public import Idealize.ShloMosaic.Lib.ValueLayout

/-! The gates as one function of the three arguments, and that the kernel's result array is that function. -/

@[expose] public section

set_option maxRecDepth 16384

noncomputable section

namespace Cert.KernelIdeal.Gates

open Cert.KernelIdeal.Gen
open Idealize.ShloMosaic Idealize.ShloMosaic.TcCoe Idealize.ShloMosaic.Tactic Idealize.ShloMosaic.ValueIdx
open Idealize.SL.Sem
open Idealize.ShloMosaic.Pipeline (Dat)

/-- The gates: the logistic function of the rows times the weights' columns from 12352 on, plus the two branches' biases. -/
def gates (x : Vec Ideal S6144x4096 .f32) (w : Vec Ideal S1x4096x20544 .f32) (b : Vec Ideal S1x2x4096 .f32)
    (r : Fin 6144) (j : Fin 8192) : EReal :=
  gate (fun k => x (ValueIdx.ix2 r k)) (fun k => w (ValueIdx.ix3 0 k ⟨12352 + j.val, by omega⟩))
    (b (ValueIdx.ix3 0 ⟨j.val / 4096, by omega⟩ ⟨j.val % 4096, by omega⟩))

variable (m : (ℓ : Loc nD τ sig) → Buf (Elt Ideal) ℓ) (ρ : Dev nD → PrngReg)

/-- The three arguments on a device. -/
abbrev argX (c : Dev nD) : Vec Ideal S6144x4096 .f32 := m ((c : Thread nD τ).loc main_arg0)
abbrev argW (c : Dev nD) : Vec Ideal S1x4096x20544 .f32 := m ((c : Thread nD τ).loc main_arg1)
abbrev argB (c : Dev nD) : Vec Ideal S1x2x4096 .f32 := m ((c : Thread nD τ).loc main_arg2)

/-- The transposed weights, as the region finds them. -/
theorem V_main_v1 (c : Dev nD) (j : Fin 20544) (k : Fin 4096) :
    (V m c main_v1 : Vec Ideal S20544x4096 .f32) (ValueIdx.ix2 j k) = argW m c (ValueIdx.ix3 0 k j) := by
  have e : (V m c main_v1 : Vec Ideal S20544x4096 .f32)
      = shapeCast _ (transpose S1x20544x4096 [0, 2, 1] (argW m c) transposes_S1x4096x20544_S1x20544x4096_0_2_1)
          shapeCasts_S1x20544x4096_S20544x4096 := by
    unfold V hostOps0; after_results <;> rfl
  rw [e]
  refine (shapeCast_1ab_ab_apply _ _ j k).trans ?_
  exact transpose_apply _ _ _ _ _ fun a => match a with | ⟨0, _⟩ => rfl | ⟨1, _⟩ => rfl | ⟨2, _⟩ => rfl

/-- The rows, as the region finds them: a change of format is no change here. -/
theorem V_main_v2 (c : Dev nD) : (V m c main_v2 : Vec Ideal S6144x4096 .bf16) = argX m c := by
  have e : (V m c main_v2 : Vec Ideal S6144x4096 .bf16)
      = (truncf .bf16 (argX m c : FVec Ideal S6144x4096 .f32) bitsLt_bf16_f32 : FVec Ideal S6144x4096 .bf16) := by
    unfold V hostOps0; after_results <;> rfl
  rw [e]; rfl

/-- The bias row, as the region finds it. -/
theorem V_main_v3 (c : Dev nD) (j : Fin 8192) :
    (V m c main_v3 : Vec Ideal S1x8192 .f32) (ValueIdx.ix2 0 j)
      = argB m c (ValueIdx.ix3 0 ⟨j.val / 4096, by omega⟩ ⟨j.val % 4096, by omega⟩) := by
  have e : (V m c main_v3 : Vec Ideal S1x8192 .f32) = shapeCast _ (argB m c) shapeCasts_S1x2x4096_S1x8192 := by
    unfold V hostOps0; after_results <;> rfl
  rw [e]
  refine shapeCast_apply _ _ _ _ ?_
  rw [Shape.rowMajor_val_three, Shape.rowMajor_val_two]
  show (0 * 2 + j.val / 4096) * 4096 + j.val % 4096 = 0 * 8192 + j.val
  omega

/-- The slab of a point, at a position. -/
theorem rowsOf_apply (c : Dev nD) (t : Fin 96) (r : Fin 1024) (k : Fin 4096) :
    rowsOf c (V m c main_v2) t (ValueIdx.ix2 r k) = argX m c (ValueIdx.ix2 ⟨1024 * (t.val % 6) + r.val, by omega⟩ k) := by
  rw [← V_main_v2]
  refine congrArg (V m c main_v2 : Vec Ideal S6144x4096 .bf16) (funext fun a => Fin.ext ?_)
  refine (ValueKit.view_emb_slice_whole_unit_val main_v2 _ _ _ _ a).trans ?_
  match a with
  | ⟨0, _⟩ => rfl
  | ⟨1, _⟩ => exact Nat.zero_add _

theorem index_1 : ∀ t : Fin grid0.N, win0_1.index t = ![0, t.val / 6 % 16] := by decide +kernel
theorem index_2 : ∀ t : Fin grid0.N, win0_2.index t = ![t.val % 6, t.val / 6 % 16] := by decide +kernel

/-- The bias window's block at a point. -/
theorem iblk1_apply (c : Dev nD) (t : Fin cfg0.N) (j : Fin 512) :
    (iblk m c 1 t : Vec Ideal S1x512 .f32) (ValueIdx.ix2 0 j)
      = (V m c main_v3 : Vec Ideal S1x8192 .f32) (ValueIdx.ix2 0 ⟨512 * (t.val / 6 % 16) + j.val, by omega⟩) := by
  blk_simp [iblk]
  refine congrArg (V m c main_v3 : Vec Ideal S1x8192 .f32) ?_
  blk_ext [index_1 t]
  show t.val / 6 % 16 * 512 + j.val = _
  omega

/-- What a point leaves in the result's window, at a position. -/
theorem outAt_apply (c : Dev nD) (t : Fin cfg0.N) (r : Fin 1024) (j : Fin 512) :
    outAt m c t (ValueIdx.ix2 r j)
      = gates (argX m c) (argW m c) (argB m c) ⟨1024 * (t.val % 6) + r.val, by omega⟩ ⟨512 * (t.val / 6 % 16) + j.val, by omega⟩ := by
  have hb : (Ring.bk 96 t.val).val = t.val := Ring.bk_val (t.isLt.trans_eq N_0)
  have hX : ∀ k, rowsOf c (V m c main_v2) (Ring.bk 96 t.val) (ValueIdx.ix2 r k)
      = argX m c (ValueIdx.ix2 ⟨1024 * (t.val % 6) + r.val, by omega⟩ k) := fun k => by
    rw [rowsOf_apply]
    refine congrArg (argX m c) (congrArg (fun a => ValueIdx.ix2 a k) (Fin.ext ?_))
    show 1024 * ((Ring.bk 96 t.val).val % 6) + r.val = _
    rw [hb]
  have hW : ∀ k, wwin m c (colOf t.val) (ValueIdx.ix2 j k)
      = argW m c (ValueIdx.ix3 0 k ⟨12352 + (512 * (t.val / 6 % 16) + j.val), by omega⟩) := fun k => by
    refine Eq.trans (V_main_v1 m c _ _) ?_
    refine congrArg (argW m c) (congrArg (fun a => ValueIdx.ix3 0 k a) (Fin.ext ?_))
    exact Nat.add_assoc _ _ _
  have hB := (iblk1_apply m c t j).trans (V_main_v3 m c _)
  unfold outAt gates
  split
  · rw [outFirst_apply, hB, iblk0_eq]
    simp only [hX, hW]
  · rw [outLater_apply, hB]
    have hK : ∀ k, kept (wwin m c (colOf t.val)) (ValueIdx.ix2 k j) = wwin m c (colOf t.val) (ValueIdx.ix2 j k) := fun k => rfl
    simp only [hX, hK, hW]

/-- The result array after the run. -/
theorem result (c : Dev nD) :
    (dats m 0 c).arrAt 2 cfg0.N
      = (fun i => gates (argX m c) (argW m c) (argB m c) (i 0) (i 1) : Vec Ideal S6144x8192 .bf16) := by
  refine (dats m 0 c).arrAt_eq_of_covers 2 _ (by decide +kernel) fun t hf y => ?_
  blk_simp
  rw [after_2]
  refine (congrArg (outAt m c t) (ValueIdx.eq_ix2 y)).trans ((outAt_apply m c t (y 0) (y 1)).trans ?_)
  refine congrArg₂ (gates (argX m c) (argW m c) (argB m c)) (Fin.ext ?_) (Fin.ext ?_)
  · blk_simp [index_2 t]; exact congrArg (· + _) (Nat.mul_comm _ _)
  · blk_simp [index_2 t]; exact congrArg (· + _) (Nat.mul_comm _ _)

end Cert.KernelIdeal.Gates

end
-- ==== Proof.GatesReference.lean ====
module

public import proofs.«01_k».proof.Proof.GatesValue
public import proofs.«01_k».proof.Proof.Gen.ReferenceIdeal.Run
public import Idealize.ShloMosaic.Lib.StackMember

/-! The reference of the gates, read at a position: the same function of the three arguments. -/

@[expose] public section

set_option maxRecDepth 16384

noncomputable section

namespace Cert.ReferenceIdeal.Gates

open Cert.ReferenceIdeal Cert.ReferenceIdeal.Gen
open Idealize.ShloMosaic Idealize.ShloMosaic.TcCoe Idealize.ShloMosaic.ValueIdx Idealize.SL.Sem

/-- The reference's logits: the rows times all the weights, the columns from 12352 on, as two branches. -/
def logits (x : FVec Ideal S6144x4096 .f32) (w : FVec Ideal S1x4096x20544 .f32) : FVec Ideal S6144x2x4096 .f32 :=
  shapeCast _ (extractStridedSlice S6144x8192 ![0, 12352]
    (Host.dotGeneral dot_S6144x4096_S4096x20544_S6144x20544_1_0_0_1_n_n none x
      (shapeCast _ w shapeCasts_S1x4096x20544_S4096x20544)) slices_S6144x20544_S6144x8192_0_12352) shapeCasts_S6144x8192_S6144x2x4096

theorem logits_apply (x : FVec Ideal S6144x4096 .f32) (w : FVec Ideal S1x4096x20544 .f32) (r : Fin 6144) (j : Fin 8192) :
    logits x w (ValueIdx.ix3 r ⟨j.val / 4096, by omega⟩ ⟨j.val % 4096, by omega⟩)
      = ∑ k : Fin 4096, x (ValueIdx.ix2 r k) * w (ValueIdx.ix3 0 k ⟨12352 + j.val, by omega⟩) := by
  refine (shapeCast_apply _ _ (ValueIdx.ix3 r ⟨j.val / 4096, by omega⟩ ⟨j.val % 4096, by omega⟩) (ValueIdx.ix2 r j) ?_).trans ?_
  · rw [Shape.rowMajor_val_three, Shape.rowMajor_val_two]
    show r.val * 8192 + j.val = (r.val * 2 + j.val / 4096) * 4096 + j.val % 4096
    omega
  refine Eq.trans (congrArg (Host.dotGeneral (F := Ideal) (DotDims.plain 6144 4096 20544) none x
    (shapeCast S4096x20544 w shapeCasts_S1x4096x20544_S4096x20544)) (?_ : _ = ValueIdx.ix2 r ⟨12352 + j.val, by omega⟩)) ?_
  · funext a
    apply Fin.ext
    match a with
    | ⟨0, _⟩ => exact Nat.zero_add _
    | ⟨1, _⟩ => rfl
  rw [StackMember.dotGeneral_plain_apply]
  exact Finset.sum_congr rfl fun k _ => congrArg (_ * ·) (shapeCast_1ab_ab_apply w _ k _)

/-- The two branches side by side, rounded, at a position. -/
theorem joined_apply (y : FVec Ideal S6144x2x4096 .f32) (r : Fin 6144) (j : Fin 8192) :
    (truncf .bf16 (shapeCast S6144x8192 y shapeCasts_S6144x2x4096_S6144x8192 : FVec Ideal S6144x8192 .f32) bitsLt_bf16_f32 :
        FVec Ideal S6144x8192 .bf16) (ValueIdx.ix2 r j)
      = y (ValueIdx.ix3 r ⟨j.val / 4096, by omega⟩ ⟨j.val % 4096, by omega⟩) := by
  refine shapeCast_apply y shapeCasts_S6144x2x4096_S6144x8192 (ValueIdx.ix2 r j) _ ?_
  rw [Shape.rowMajor_val_three, Shape.rowMajor_val_two]
  show (r.val * 2 + j.val / 4096) * 4096 + j.val % 4096 = r.val * 8192 + j.val
  omega

/-- The reference's result at a position, from its logits. -/
theorem result_apply (z : FVec Ideal S6144x2x4096 .f32) (b : FVec Ideal S1x2x4096 .f32) (r : Fin 6144) (j : Fin 8192) :
    (truncf .bf16 (shapeCast S6144x8192 (Host.divf (broadcastInDim S6144x2x4096 ![] bcast_S_S6144x2x4096 (constant S_ .f32 0x3F800000#32))
      (addf (broadcastInDim S6144x2x4096 ![] bcast_S_S6144x2x4096 (constant S_ .f32 0x3F800000#32)) (Host.exp (Host.negf (addf z
        (broadcastInDim S6144x2x4096 ![0, 1, 2] bcast_S1x2x4096_S6144x2x4096_0_1_2 b)))))) shapeCasts_S6144x2x4096_S6144x8192 : FVec Ideal S6144x8192 .f32)
        bitsLt_bf16_f32 : FVec Ideal S6144x8192 .bf16) (ValueIdx.ix2 r j)
      = Ideal.logistic (z (ValueIdx.ix3 r ⟨j.val / 4096, by omega⟩ ⟨j.val % 4096, by omega⟩)
          + b (ValueIdx.ix3 0 ⟨j.val / 4096, by omega⟩ ⟨j.val % 4096, by omega⟩)) := by
  refine (joined_apply _ r j).trans ?_
  have hb : (broadcastInDim S6144x2x4096 ![0, 1, 2] bcast_S1x2x4096_S6144x2x4096_0_1_2 b)
      (ValueIdx.ix3 r (⟨j.val / 4096, by omega⟩ : Fin 2) (⟨j.val % 4096, by omega⟩ : Fin 4096))
      = b (ValueIdx.ix3 0 ⟨j.val / 4096, by omega⟩ ⟨j.val % 4096, by omega⟩) :=
    congrArg b (funext fun a => match a with | ⟨0, _⟩ => rfl | ⟨1, _⟩ => rfl | ⟨2, _⟩ => rfl)
  refine Eq.trans ?_ (congrArg (fun v : EReal => Ideal.logistic
    (z (ValueIdx.ix3 r ⟨j.val / 4096, by omega⟩ ⟨j.val % 4096, by omega⟩) + v)) hb)
  unfold Ideal.logistic
  rw [← Ideal.ofBits_one_f32]
  rfl

variable (m : (ℓ : Loc nD τ sig) → Buf (Elt Ideal) ℓ) (ρ : Dev nD → PrngReg)

/-- The reference's run: its result is the gates of its arguments, which it leaves unchanged. -/
theorem run : θ_run defs (onTc (τ := τ) (main (F := Ideal))) ⟨m, fun _ => 0, ρ⟩ fun r => ∀ c : Dev nD,
    r.2.mem ((c.tc : Thread nD τ).loc main_v13)
      = (fun i => Cert.KernelIdeal.Gates.gates (m ((c.tc : Thread nD τ).loc main_arg0)) (m ((c.tc : Thread nD τ).loc main_arg1))
          (m ((c.tc : Thread nD τ).loc main_arg2)) (i 0) (i 1) : FVec Ideal S6144x8192 .bf16)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2) := by
  refine (θ_run defs _ _).mono (fun _ h c => ⟨(h c).1.trans (funext fun i => ?_), (h c).2⟩) (Value.run m ρ)
  refine (congrArg _ (ValueIdx.eq_ix2 i)).trans ((result_apply (logits _ _) _ (i 0) (i 1)).trans ?_)
  exact congrArg (fun v : EReal => Ideal.logistic (v + _)) (logits_apply _ _ (i 0) (i 1))

end Cert.ReferenceIdeal.Gates

end
-- ==== Proof.GatesClaims.lean ====
module

public import proofs.«01_k».proof.Defs
public import proofs.«01_k».proof.Proof.Gen.Kernel
public import proofs.«01_k».proof.Proof.GatesReference
public import Idealize.ShloMosaic.Lib.Quiescent

/-! The five claims of the gates. -/

@[expose] public section

set_option maxRecDepth 16384

noncomputable section

namespace Cert.KernelIdeal.Gates

open Cert.KernelIdeal.Gen
open Idealize.ShloMosaic Idealize.ShloMosaic.TcCoe Idealize.SL.Sem

variable {F : FTy → Type} [FloatOps F]

/-- The run leaves the three arguments as launched, and every counter at zero. -/
theorem run_args (m : (ℓ : Loc nD τ sig) → Buf (Elt F) ℓ) (ρ : Dev nD → PrngReg) :
    θ_run defs (onTc (τ := τ) (main (F := F))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0 :=
  (θ_run defs _ _).mono (fun _ h => ⟨fun c =>
      ⟨((h.1 c).2 main_arg0 (Pipeline.mem_restRefs_of main_arg0 (by decide) (by decide))).trans (V_main_arg0 m c),
       ((h.1 c).2 main_arg1 (Pipeline.mem_restRefs_of main_arg1 (by decide) (by decide))).trans (V_main_arg1 m c),
       ((h.1 c).2 main_arg2 (Pipeline.mem_restRefs_of main_arg2 (by decide) (by decide))).trans (V_main_arg2 m c)⟩, h.2⟩)
    (run_main m ρ)

/-- The kernel as printed has the same table of bodies and the same program text. -/
theorem defs₀_eq : Cert.KernelIdeal.defs₀ (F := F) = Cert.Kernel.defs₀ (F := F) :=
  congrArg Defs.onTc (funext fun l => funext fun a => by
    match l, a with
    | 0, (t, s) => rfl)

theorem frame_ideal : Cert.quiescent_KernelIdeal := fun m ρ _ => run_args m ρ

theorem frame_kernel : Cert.quiescent_Kernel := fun m ρ _ => by
  have h := run_args (F := Bits) m ρ
  unfold Cert.KernelIdeal.defs at h
  rw [defs₀_eq] at h
  exact h

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- At the ideal values the kernel's result is the reference's. -/
theorem algebraic : Cert.algebraic_KernelIdeal_ReferenceIdeal := fun m ρ m' ρ' _ hag =>
  ⟨fun c => (fun i => gates (argX m c) (argW m c) (argB m c) (i 0) (i 1) : Vec Ideal S6144x8192 .bf16),
   (θ_run defs _ _).mono (fun _ h c => ⟨((h.1.1 c).1 2).trans (result m c), h.2.1 c⟩)
     (θ_run_and (run_main m ρ) (run_args m ρ)),
   (θ_run Cert.ReferenceIdeal.defs _ _).mono (fun _ h c => ⟨(h c).1.trans (by rw [(hag c).1, (hag c).2.1, (hag c).2.2]), (h c).2⟩)
     (Cert.ReferenceIdeal.Gates.run m' ρ')⟩

end Cert.KernelIdeal.Gates

end
-- ==== Proof.MainRing.lean ====
module

public import proofs.«01_k».proof.Proof.Gen.Kernel2Ideal.Frame
public import proofs.«01_k».proof.Proof.Gen.Kernel2Ideal.Skeleton
public import Idealize.ShloMosaic.Lib.Ring
public import Idealize.ShloMosaic.Lib.Tactic
public import Idealize.ShloMosaic.Lib.WordCmp

/-! The input projection's kernel: its branch conditions over the grid's points, the buffers that its body works on, and its ring. The body
streams the rows of its left operand through three slabs, two blocks ahead, by copies of its own: slot, block and cell at a
point are named here, and what the launch hands to the ring and takes back. -/

@[expose] public section

set_option maxRecDepth 16384

noncomputable section

namespace Cert.Kernel2Ideal.Main

open Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)
/-! ## The launch -/

set_option maxHeartbeats 800000 in
/-- The program up to its region: the host operations, then the region. -/
theorem hmain (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-- Input window 0 holds its block at every point, whether or not it is fetched there. -/
theorem before0_0_of {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-! ## The body's branch conditions -/

/-- The body's condition 0. -/
abbrev cond0_0 (i : grid0.Coords) : Prop := k0_cond1 i = 1#1
/-- It holds at the first point only — decided over the grid. -/
theorem hcond0_0 : ∀ t : Fin cfg0.N, cond0_0 (grid0.coords t) ↔ t.val % 144 = 0 :=
  (by decide +kernel : ∀ t : Fin grid0.N, cond0_0 (grid0.coords t) ↔ t.val % 144 = 0)

/-- The body's condition 1. -/
abbrev cond0_1 (i : grid0.Coords) : Prop := k0_cond2 i = 1#1
/-- It holds at the points before point 142 — decided over the grid. -/
theorem hcond0_1 : ∀ t : Fin cfg0.N, cond0_1 (grid0.coords t) ↔ t.val < 142 :=
  (by decide +kernel : ∀ t : Fin grid0.N, cond0_1 (grid0.coords t) ↔ t.val < 142)

/-- The body's condition 2. -/
abbrev cond0_2 (i : grid0.Coords) : Prop := k0_cond3 i = 1#1
/-- It holds at the points ≡ 0 (mod 6) — by arithmetic of the point. -/
theorem hcond0_2 : ∀ t : Fin cfg0.N, cond0_2 (grid0.coords t) ↔ t.val % 6 = 0 :=
  (fun t => by
    have ht : t.val < 144 := Nat.lt_of_lt_of_eq t.isLt N_0
    have e0 : (grid0.coords t 0).val = t.val / 6 % 24 := Pipeline.Grid.coords_val t 0 (by decide) rfl
    have e1 : (grid0.coords t 1).val = t.val / 1 % 6 := Pipeline.Grid.coords_val t 1 (by decide) rfl
    simp only [cond0_2, k0_cond3, e0, e1]
    word_cmp
   : ∀ t : Fin grid0.N, cond0_2 (grid0.coords t) ↔ t.val % 6 = 0)

/-- The body's condition 3. -/
abbrev cond0_3 (i : grid0.Coords) : Prop := k0_cond4 i = 1#1
/-- It holds at the points whose coordinates have 1 ≤ i1 — decided over the grid. -/
theorem hcond0_3 : ∀ t : Fin cfg0.N, cond0_3 (grid0.coords t) ↔ 1 ≤ t.val % 6 :=
  (by decide +kernel : ∀ t : Fin grid0.N, cond0_3 (grid0.coords t) ↔ 1 ≤ t.val % 6)

/-! ## Where the windows are idle (the printed configuration's table `Cfg.idle`) -/

/-- Window 0 is never idle (an input). -/
theorem liveAt0_0 : ∀ t : Fin cfg0.N, cfg0.idle 0 (grid0.coords t) = false := fun _ => rfl
/-! ## The buffers of the body -/

/-- Each window's current staging memref at point `t`, spelled as the pipeline passes it (`bodyAt0`), and its wholeness. -/
abbrev ms0_0 (t : Fin cfg0.N) : Memref sig .tc .vmem S512x4096 .f32 := win0_0.stage (cfg0.slots t 0)
abbrev ms0_1 (t : Fin cfg0.N) : Memref sig .tc .vmem S1024x512 .f32 := win0_1.stage (cfg0.slots t 1)
/-- The scratch operands: whole scoped buffers of the kernel's own, passed beside the windows. -/
abbrev scM0_0 : Memref sig .tc .vmem S4096x512 .bf16 := Memref.whole cc0_scratch0
abbrev scM0_1 : Memref sig .tc .vmem S3x1024x4096 .bf16 := Memref.whole cc0_scratch1
/-- The operands left in HBM that the body copies into scratch itself, whole. -/
abbrev hbM0_0 : Memref sig .tc .hbm S6144x4096 .bf16 := Memref.whole main_v2
/-- Memref `M`'s buffer on core `c`: its contents type, and it held whole at `f`. -/
abbrev HbBuf0 (c : Dev nD) {sp : Space} {S : Shape} {e : EltTy} (M : Memref sig .tc sp S e) : Type := Buf (Elt F) (M.view.loc (c : Thread nD τ))
abbrev hbPt0 (c : Dev nD) {sp : Space} {S : Shape} {e : EltTy} (M : Memref sig .tc sp S e) (f : HbBuf0 (F := F) c M) : sProp 𝕄 :=
  M.view.loc (c : Thread nD τ) ↦{fullShare} f

/-- The body's own DMA semaphores, cell by cell (their numbers in the pool): the kernel's own semaphores for the launch
    (`Pipeline.OwnSemFacts`: none is a window's). -/
abbrev osem0 : Fin 3 → SemLoc sig := fun j => (![SemLoc.dma 4, SemLoc.dma 5, SemLoc.dma 6] : Fin 3 → SemLoc sig) j
theorem ownSemFacts0 : Pipeline.OwnSemFacts spec0 osem0 := by decide
/-- The cells at zero, listed. -/
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 4) 0 ∗ semVal ((c : Thread nD τ), SemLoc.dma 5) 0 ∗ semVal ((c : Thread nD τ), SemLoc.dma 6) 0) := by
  rw [Pipeline.ownSems0_eq_of_list c osem0 [0, 1, 2] (by decide) (by decide)]; rfl
/-- The HBM operands the body moves, as references: unscoped, no window's array (`Pipeline.restRefs`). -/
def H0 : Finset (Ref sig .tc) := {main_v2}
theorem H0_sub : H0 ⊆ Pipeline.restRefs sig spec0 := by decide
/-- Their points-tos at the launch contents, listed. -/
theorem hbmPts0_eq (c : Dev nD) :
    (bigSep H0 (fun b => ((c : Thread nD τ).loc b) ↦{fullShare} V m c b) : sProp 𝕄) = iprop(hbPt0 c hbM0_0 (V m c main_v2)) := by
  rw [BI.bigSep_eq_bigSepL_of_eq [main_v2] (by decide) (by decide)]; rfl

/-- The invariant of a body with transfers of its own, `Pipeline.ΦD`, conjunct by conjunct: the scratch operands owned at
    some contents, the generator register at some state, the own cells at zero, the HBM operands at their launch
    contents — what the body obligation hands the run and takes back. -/
theorem PhiD0_eq (c : Dev nD) :
    (Pipeline.ΦD osem0 spec0 H0 (V m) c : sProp 𝕄)
      = iprop(iprop((∃ d, owns (c : Thread nD τ) scM0_0 fullShare d) ∗ (∃ d, owns (c : Thread nD τ) scM0_1 fullShare d)) ∗ (∃ r, prngReg c r) ∗ iprop(semVal ((c : Thread nD τ), SemLoc.dma 4) 0 ∗ semVal ((c : Thread nD τ), SemLoc.dma 5) 0 ∗ semVal ((c : Thread nD τ), SemLoc.dma 6) 0) ∗ iprop(hbPt0 c hbM0_0 (V m c main_v2))) := by
  rw [Pipeline.ΦD_eq, scopedRest0_eq, ownSems00_eq, hbmPts0_eq]; simp only [scM0_0, scM0_1, owns_whole]; try rfl

/-! ## Ring 0 of kernel 0: `main_v2` streamed through the 3 slots of `cc0_scratch1` on the cells of `cc0_scratch2`, 2 block ahead, in 144 steps -/

instance : NeZero grid0.N := ⟨by rw [N_0]; decide⟩
theorem inb_slot0_0 (s : Fin 3) : ∀ a, (![s.val, 0, 0] : Fin 3 → Nat) a + S1x1024x4096.size a ≤ S3x1024x4096.size a := by
  have := s.isLt; intro a; fin_cases a <;> simp <;> omega
theorem inb_src0_0 (b : Fin 144) : ∀ a, (![1024 * (b.val % 6), 0] : Fin 2 → Nat) a + S1024x4096.size a ≤ S6144x4096.size a := by
  have := b.isLt; intro a; fin_cases a <;> simp <;> omega
theorem inb_cell0_0 (s : Fin 3) : ∀ a, (![s.val] : Fin 1 → Nat) a + S1.size a ≤ S3.size a := by
  have := s.isLt; intro a; fin_cases a <;> simp <;> omega
/-- Slot `s` of the ring, spelt as the body's transfers spell their destination, at offsets in `s`. -/
def rslot0_0 (s : Fin 3) : Memref sig .tc .vmem S1024x4096 .bf16 :=
  (scM0_1.slice (Rect.unit (s := S3x1024x4096) ![s.val, 0, 0] S1x1024x4096.size (inb_slot0_0 s)) (fun _ => rfl)).squeeze S1024x4096 squeezes_S1x1024x4096_S1024x4096
/-- Block `b` of the operand (the block step `b` waits), spelt as the transfers spell their source, at offsets in `b`. -/
def srcB0_0 (b : Fin 144) : Memref sig .tc .hbm S1024x4096 .bf16 :=
  hbM0_0.slice (Rect.unit (s := S6144x4096) ![1024 * (b.val % 6), 0] S1024x4096.size (inb_src0_0 b)) (fun _ => rfl)
/-- Cell `s` of `cc0_scratch2`, spelt as the body spells a cell; its number in the pool. -/
def cellA0_0 (s : Fin 3) : DmaSems sig S_ := (cc0_scratch2.slice (Rect.unit (s := S3) ![s.val] S1.size (inb_cell0_0 s))).squeeze S_ squeezes_S1_S_
abbrev cellR0_0 (s : Fin 3) : SemLoc sig := SemLoc.dma (cellA0_0 s).sem
theorem cellR0_0_0 : cellR0_0 0 = SemLoc.dma 4 := by decide
theorem cellR0_0_1 : cellR0_0 1 = SemLoc.dma 5 := by decide
theorem cellR0_0_2 : cellR0_0 2 = SemLoc.dma 6 := by decide

section Ring0_0
variable (c : Dev nD) (W : HbBuf0 (F := F) c hbM0_0)
/-- The operand is lent BY SHARE, one read-share copy of it per slot (the full share halved, the right half halved again):
    whatever blocks the transfers in flight stream — the same one twice, ones that overlap —, each borrows from its own slot's copy. -/
abbrev qs0_0 (s : Fin 3) : PosShare TreeShare := if s.val = 0 then fullShare.left else if s.val = 1 then fullShare.right.left else fullShare.right.right
/-- The families the ring is stated over: slot `s` held at `f`; cell `s` at zero; block `b`'s elements of slot `s`'s copy of the
    operand (what a transfer into slot `s` lends), the REST of that copy, and the copy whole; slot `s`'s contents once block `b`
    landed in it whole over `f`; the FLIGHT of block `b` into slot `s`, delivering the slot landed
    and the lent elements back. -/
abbrev slotP0_0 (s : Fin 3) (f : HbBuf0 (F := F) c (rslot0_0 s)) : sProp 𝕄 := (rslot0_0 s).view.loc (c : Thread nD τ) ↦[(rslot0_0 s).view.set]{fullShare} f
abbrev cellP0_0 (s : Fin 3) : sProp 𝕄 := semVal ((c : Thread nD τ), cellR0_0 s) 0
abbrev srcP0_0 (s : Fin 3) (b : Fin 144) : sProp 𝕄 := (srcB0_0 b).view.loc (c : Thread nD τ) ↦[(srcB0_0 b).view.set]{qs0_0 s} W
/-- The rest of a slot's copy of the operand. -/
def restP0_0 (s : Fin 3) (b : Fin 144) : sProp 𝕄 := ((c : Thread nD τ).loc main_v2) ↦[Finset.univ \ (srcB0_0 b).view.set]{qs0_0 s} W
abbrev wholeP0_0 (s : Fin 3) : sProp 𝕄 := ((c : Thread nD τ).loc main_v2) ↦[Finset.univ]{qs0_0 s} W
abbrev landed0_0 (s : Fin 3) (b : Fin 144) (f : HbBuf0 (F := F) c (rslot0_0 s)) : HbBuf0 (F := F) c (rslot0_0 s) :=
  (rslot0_0 s).view.writes (Elt F) f [⟨Rect.whole S1024x4096, ReadAs.same.apply ((srcB0_0 b).view.read (Elt F) W)⟩]
abbrev flightP0_0 (s : Fin 3) (b : Fin 144) (f : HbBuf0 (F := F) c (rslot0_0 s)) : sProp 𝕄 :=
  Transfers.Flight countersEmb (c : Thread nD τ) (cellR0_0 s) default ((rslot0_0 s).view.amount (cellR0_0 s))
    iprop(slotP0_0 c s (landed0_0 c W s b f) ∗ srcP0_0 c W s b)
/-- Lib/Ring.lean's `slot` and `flight` families: a slot not in flight carries its copy of the operand whole; a flight, the
    rest of the copy it borrowed from. No block is held apart: the `home` family is `emp`. -/
abbrev slotW0_0 (s : Fin 3) (f : HbBuf0 (F := F) c (rslot0_0 s)) : sProp 𝕄 := iprop(slotP0_0 c s f ∗ wholeP0_0 c W s)
abbrev flightW0_0 (s : Fin 3) (b : Fin 144) (f : HbBuf0 (F := F) c (rslot0_0 s)) : sProp 𝕄 := iprop(flightP0_0 c W s b f ∗ restP0_0 c W s b)
abbrev noHome0_0 (b : Fin 144) : sProp 𝕄 := iprop(emp)
/-- The ring before its step `k` (Lib/Ring.lean `At 2`): every slot free before the first; from then on blocks `k` and `k + 1` in
    flight into slots `k` and `k + 1` (while they exist), slot `k + 2` free; a waited block is read within its step and not kept. -/
def ringAt0_0 (k : ℕ) : sProp 𝕄 :=
  if k = 0 then Ring.At₀ (cellP0_0 c) (slotW0_0 c W) noHome0_0
  else Ring.At 2 (cellP0_0 c) (slotW0_0 c W) noHome0_0 (flightW0_0 c W) k
omit [FloatOps F] in
theorem cellP0_0_0 : cellP0_0 (F := F) c 0 = semVal ((c : Thread nD τ), SemLoc.dma 4) 0 := congrArg (fun x => (semVal ((c : Thread nD τ), x) 0 : sProp 𝕄)) cellR0_0_0
omit [FloatOps F] in
theorem cellP0_0_1 : cellP0_0 (F := F) c 1 = semVal ((c : Thread nD τ), SemLoc.dma 5) 0 := congrArg (fun x => (semVal ((c : Thread nD τ), x) 0 : sProp 𝕄)) cellR0_0_1
omit [FloatOps F] in
theorem cellP0_0_2 : cellP0_0 (F := F) c 2 = semVal ((c : Thread nD τ), SemLoc.dma 6) 0 := congrArg (fun x => (semVal ((c : Thread nD τ), x) 0 : sProp 𝕄)) cellR0_0_2
end Ring0_0

/-! ### The slots, disjoint and covering the scratch (Lib/Ring.lean `lead_disjoint` / `lead_cover`) -/

abbrev slotSet0_0 (s : Fin 3) : Finset S3x1024x4096.Idx := (Rect.unit (s := S3x1024x4096) ![s.val, 0, 0] S1x1024x4096.size (inb_slot0_0 s)).set
theorem slotSet0_0_eq (s : Fin 3) : (rslot0_0 s).view.set = slotSet0_0 s := by
  simp only [rslot0_0, Memref.view_squeeze, View.set_reshape]; exact View.set_slice_whole _ _
theorem slots0_0_disjoint (s s' : Fin 3) (h : s ≠ s') : Disjoint (slotSet0_0 s) (slotSet0_0 s') :=
  Ring.lead_disjoint (s := S3x1024x4096) (0 : Fin 3) 1 (fun s : Fin 3 => (![s.val, 0, 0] : Fin 3 → Nat)) S1x1024x4096.size inb_slot0_0 (fun s => by simp) rfl s s' h
theorem slots0_0_cover : Finset.univ.biUnion slotSet0_0 = Finset.univ :=
  Ring.lead_cover (s := S3x1024x4096) (0 : Fin 3) 1 (fun s : Fin 3 => (![s.val, 0, 0] : Fin 3 → Nat)) S1x1024x4096.size inb_slot0_0 (fun s => by simp)
    (fun s a ha => by fin_cases a <;> first | exact absurd rfl ha | rfl) rfl (fun a ha => by fin_cases a <;> first | exact absurd rfl ha | rfl) rfl

/-! ### What the launch hands the ring, and takes back -/

section InOut0_0
variable (c : Dev nD) (W : HbBuf0 (F := F) c hbM0_0)
theorem slotP0_0_eq (s : Fin 3) (f) : slotP0_0 (F := F) c s f = (((c : Thread nD τ).loc cc0_scratch1) ↦[slotSet0_0 s]{fullShare} f : sProp 𝕄) := by
  unfold slotP0_0; rw [slotSet0_0_eq]; rfl
/-- A slot's copy of the operand, whole, is block `b`'s elements and the rest (any `b`: what a run splits off before its step
    starts block `b`, and joins back once the wait returned it); -/
theorem src0_0_split (s : Fin 3) (b : Fin 144) : wholeP0_0 (F := F) c W s ⊣⊢ iprop(srcP0_0 c W s b ∗ restP0_0 c W s b) := by
  unfold restP0_0; exact pointsTo_split_subset (Finset.subset_univ _)
/-- the operand whole at the full share is the three copies (halves, the right one halved again). -/
theorem whole0_0_split : (hbPt0 c hbM0_0 W : sProp 𝕄) ⊣⊢ iprop(wholeP0_0 c W 0 ∗ wholeP0_0 c W 1 ∗ wholeP0_0 c W 2) := by
  refine ⟨?_, ?_⟩
  · iintro H
    ihave H' := (pointsTo_share (PosShare.mem_left_op_right fullShare)).1 $$ H
    icases H' with ⟨H0, H12⟩
    ihave H'' := (pointsTo_share (PosShare.mem_left_op_right fullShare.right)).1 $$ H12
    icases H'' with ⟨H1, H2⟩
    isplitl [H0]; · iexact H0
    isplitl [H1]; · iexact H1
    iexact H2
  · iintro ⟨H0, H1, H2⟩
    iapply (pointsTo_share (PosShare.mem_left_op_right fullShare)).2
    isplitl [H0]; · iexact H0
    iapply (pointsTo_share (PosShare.mem_left_op_right fullShare.right)).2
    isplitl [H1]; · iexact H1
    iexact H2
set_option maxHeartbeats 1000000 in
/-- the scratch whole at anything is its slots at something each, and back. -/
theorem slots0_0_in : iprop(∃ d, owns (c : Thread nD τ) scM0_1 fullShare d) ⊢ (iprop((∃ f, slotP0_0 (F := F) c 0 f) ∗ (∃ f, slotP0_0 (F := F) c 1 f) ∗ ∃ f, slotP0_0 (F := F) c 2 f) : sProp 𝕄) := by
  simp only [scM0_1, owns_whole]
  exact Ring.slots3_split (U := Pipeline.UD sig nD τ) (ℓ := (c : Thread nD τ).loc cc0_scratch1) (q := fullShare) slotSet0_0 slots0_0_disjoint slots0_0_cover
    (slotP0_0 c 0) (slotP0_0 c 1) (slotP0_0 c 2) (slotP0_0_eq c 0) (slotP0_0_eq c 1) (slotP0_0_eq c 2)
set_option maxHeartbeats 1000000 in
theorem slots0_0_out : (iprop((∃ f, slotP0_0 (F := F) c 0 f) ∗ (∃ f, slotP0_0 (F := F) c 1 f) ∗ ∃ f, slotP0_0 (F := F) c 2 f) : sProp 𝕄) ⊢ iprop(∃ d, owns (c : Thread nD τ) scM0_1 fullShare d) := by
  simp only [scM0_1, owns_whole]
  exact Ring.slots3_join (U := Pipeline.UD sig nD τ) (ℓ := (c : Thread nD τ).loc cc0_scratch1) (q := fullShare) slotSet0_0 slots0_0_disjoint slots0_0_cover
    (slotP0_0 c 0) (slotP0_0 c 1) (slotP0_0 c 2) (slotP0_0_eq c 0) (slotP0_0_eq c 1) (slotP0_0_eq c 2)
end InOut0_0

/-- INTO THE RING: the launch's pieces — the scratch whole, the cells at zero, the operand whole — are the ring before its first step; -/
theorem ring0_0_in (c : Dev nD) :
    iprop((∃ d, owns (c : Thread nD τ) scM0_1 fullShare d) ∗ (semVal ((c : Thread nD τ), SemLoc.dma 4) 0 ∗ semVal ((c : Thread nD τ), SemLoc.dma 5) 0 ∗ semVal ((c : Thread nD τ), SemLoc.dma 6) 0) ∗ hbPt0 c hbM0_0 (V m c main_v2))
      ⊢ ringAt0_0 c (V m c main_v2) 0 := by
  unfold ringAt0_0; rw [if_pos rfl]; unfold Ring.At₀
  rw [Ring.bigSep_fin3]
  simp only [Ring.free, cellP0_0_0, cellP0_0_1, cellP0_0_2]
  iintro ⟨HS, Hc, HW⟩
  iapply Ring.with_homes₀
  icases Hc with ⟨H0, H1, H2⟩
  ihave HS' := (slots0_0_in (F := F) c) $$ HS
  icases HS' with ⟨⟨%d0, HS0⟩, ⟨%d1, HS1⟩, ⟨%d2, HS2⟩⟩
  ihave HW' := (whole0_0_split (F := F) c (V m c main_v2)).1 $$ HW
  icases HW' with ⟨HW0, HW1, HW2⟩
  isplitl [H0 HS0 HW0]
  · isplitl [H0]; · iexact H0
    iexists d0; isplitl [HS0]; · iexact HS0
    iexact HW0
  isplitl [H1 HS1 HW1]
  · isplitl [H1]; · iexact H1
    iexists d1; isplitl [HS1]; · iexact HS1
    iexact HW1
  · isplitl [H2]; · iexact H2
    iexists d2; isplitl [HS2]; · iexact HS2
    iexact HW2
/-- OUT OF THE RING: after the last step (every slot kept or free: the kept blocks forgotten) those pieces again. -/
theorem ring0_0_out (c : Dev nD) :
    ringAt0_0 c (V m c main_v2) 144
      ⊢ iprop((∃ d, owns (c : Thread nD τ) scM0_1 fullShare d) ∗ (semVal ((c : Thread nD τ), SemLoc.dma 4) 0 ∗ semVal ((c : Thread nD τ), SemLoc.dma 5) 0 ∗ semVal ((c : Thread nD τ), SemLoc.dma 6) 0) ∗ hbPt0 c hbM0_0 (V m c main_v2)) := by
  unfold ringAt0_0; rw [if_neg (by decide)]
  iintro H
  ihave H' := (Ring.free3_of_At_last _ _ _ _) $$ H
  simp only [Ring.free, cellP0_0_0, cellP0_0_1, cellP0_0_2]
  icases H' with ⟨-, ⟨H0, ⟨%f0, HS0, HW0⟩⟩, ⟨H1, ⟨%f1, HS1, HW1⟩⟩, ⟨H2, ⟨%f2, HS2, HW2⟩⟩⟩
  isplitl [HS0 HS1 HS2]
  · iapply (slots0_0_out (F := F) c); isplitl [HS0]; · iexists f0; iexact HS0
    isplitl [HS1]; · iexists f1; iexact HS1
    iexists f2; iexact HS2
  isplitl [H0 H1 H2]
  · isplitl [H0]; · iexact H0
    isplitl [H1]; · iexact H1
    iexact H2
  · iapply (whole0_0_split (F := F) c (V m c main_v2)).2; isplitl [HW0]; · iexact HW0
    isplitl [HW1]; · iexact HW1
    iexact HW2

/-! ### Ring 0's steps at each case's points, and its canonical names: the body's operands at point `t` are the ring's slots, blocks and cells -/

section Canon0_0
omit [FloatOps F]
/-- At the points of case A the ring takes its FIRST step. -/
theorem rstep0_0_A : ∀ t : Fin grid0.N, cond0_0 (grid0.coords t) → cond0_1 (grid0.coords t) → cond0_2 (grid0.coords t) → ¬cond0_3 (grid0.coords t) → t.val = 0 ∧ (t.val + 1) = 1 := by decide +kernel
/-- At the points of case B the ring takes a step, a block still to start. -/
theorem rstep0_0_B : ∀ t : Fin grid0.N, ¬cond0_0 (grid0.coords t) → cond0_1 (grid0.coords t) → ¬cond0_2 (grid0.coords t) → cond0_3 (grid0.coords t) → 1 ≤ t.val ∧ t.val + 2 < 144 ∧ (t.val + 1) = t.val + 1 := by decide +kernel
/-- At the points of case C the ring takes a step, a block still to start. -/
theorem rstep0_0_C : ∀ t : Fin grid0.N, ¬cond0_0 (grid0.coords t) → cond0_1 (grid0.coords t) → cond0_2 (grid0.coords t) → ¬cond0_3 (grid0.coords t) → 1 ≤ t.val ∧ t.val + 2 < 144 ∧ (t.val + 1) = t.val + 1 := by decide +kernel
/-- At the points of case D the ring takes its LAST step. -/
theorem rstep0_0_D : ∀ t : Fin grid0.N, ¬cond0_0 (grid0.coords t) → ¬cond0_1 (grid0.coords t) → ¬cond0_2 (grid0.coords t) → cond0_3 (grid0.coords t) → 1 ≤ t.val ∧ 144 ≤ t.val + 2 ∧ t.val < 144 ∧ (t.val + 1) = t.val + 1 := by decide +kernel
set_option synthInstance.maxSize 4096 in
theorem coff0_0_1 : ∀ t : Fin grid0.N, cond0_0 (grid0.coords t) → cond0_1 (grid0.coords t) → cond0_2 (grid0.coords t) → ¬cond0_3 (grid0.coords t) → (![0, 0, 0] : Fin 3 → Nat) = ![(Ring.sl 3 t.val).val, 0, 0] := by decide +kernel
@[sl_canon] theorem canon0_0_1 (t : Fin grid0.N) (h0 : cond0_0 (grid0.coords t)) (h1 : cond0_1 (grid0.coords t)) (h2 : cond0_2 (grid0.coords t)) (h3 : ¬cond0_3 (grid0.coords t)) :
    (scM0_1.slice (Rect.unit (s := S3x1024x4096) ![0, 0, 0] S1x1024x4096.size inb_S3x1024x4096_S1x1024x4096_0_0_0) (fun _ => rfl)).squeeze S1024x4096 squeezes_S1x1024x4096_S1024x4096 = rslot0_0 (Ring.sl 3 t.val) :=
  congrArg (fun M : Memref sig .tc .vmem S1x1024x4096 .bf16 => M.squeeze S1024x4096 squeezes_S1x1024x4096_S1024x4096) (Memref.slice_unit_congr _ (coff0_0_1 t h0 h1 h2 h3) _ _ (fun _ => rfl) (fun _ => rfl))
set_option synthInstance.maxSize 4096 in
theorem coff0_0_2 : ∀ t : Fin grid0.N, cond0_0 (grid0.coords t) → cond0_1 (grid0.coords t) → cond0_2 (grid0.coords t) → ¬cond0_3 (grid0.coords t) → (![0] : Fin 1 → Nat) = ![(Ring.sl 3 t.val).val] := by decide +kernel
@[sl_canon] theorem canon0_0_2 (t : Fin grid0.N) (h0 : cond0_0 (grid0.coords t)) (h1 : cond0_1 (grid0.coords t)) (h2 : cond0_2 (grid0.coords t)) (h3 : ¬cond0_3 (grid0.coords t)) :
    (cc0_scratch2.slice (Rect.unit (s := S3) ![0] S1.size inb_S3_S1_0)).squeeze S_ squeezes_S1_S_ = cellA0_0 (Ring.sl 3 t.val) :=
  congrArg (fun A : DmaSems sig S1 => A.squeeze S_ squeezes_S1_S_) (SemArray.slice_unit_congr _ (coff0_0_2 t h0 h1 h2 h3) _ _)
set_option synthInstance.maxSize 4096 in
theorem coff0_0_3 : ∀ t : Fin grid0.N, cond0_0 (grid0.coords t) → cond0_1 (grid0.coords t) → cond0_2 (grid0.coords t) → ¬cond0_3 (grid0.coords t) → (![0, 0] : Fin 2 → Nat) = ![1024 * ((Ring.bk 144 t.val).val % 6), 0] := by decide +kernel
@[sl_canon] theorem canon0_0_3 (t : Fin grid0.N) (h0 : cond0_0 (grid0.coords t)) (h1 : cond0_1 (grid0.coords t)) (h2 : cond0_2 (grid0.coords t)) (h3 : ¬cond0_3 (grid0.coords t)) :
    hbM0_0.slice (Rect.unit (s := S6144x4096) ![0, 0] S1024x4096.size inb_S6144x4096_S1024x4096_0_0) (fun _ => rfl) = srcB0_0 (Ring.bk 144 t.val) :=
  congrArg (fun M : Memref sig .tc .hbm S1024x4096 .bf16 => M) (Memref.slice_unit_congr _ (coff0_0_3 t h0 h1 h2 h3) _ _ (fun _ => rfl) (fun _ => rfl))
set_option synthInstance.maxSize 4096 in
theorem coff0_0_4 : ∀ t : Fin grid0.N, cond0_0 (grid0.coords t) → cond0_1 (grid0.coords t) → cond0_2 (grid0.coords t) → ¬cond0_3 (grid0.coords t) → (![1, 0, 0] : Fin 3 → Nat) = ![(Ring.sl 3 (t.val + 1)).val, 0, 0] := by decide +kernel
@[sl_canon] theorem canon0_0_4 (t : Fin grid0.N) (h0 : cond0_0 (grid0.coords t)) (h1 : cond0_1 (grid0.coords t)) (h2 : cond0_2 (grid0.coords t)) (h3 : ¬cond0_3 (grid0.coords t)) :
    (scM0_1.slice (Rect.unit (s := S3x1024x4096) ![1, 0, 0] S1x1024x4096.size inb_S3x1024x4096_S1x1024x4096_1_0_0) (fun _ => rfl)).squeeze S1024x4096 squeezes_S1x1024x4096_S1024x4096 = rslot0_0 (Ring.sl 3 (t.val + 1)) :=
  congrArg (fun M : Memref sig .tc .vmem S1x1024x4096 .bf16 => M.squeeze S1024x4096 squeezes_S1x1024x4096_S1024x4096) (Memref.slice_unit_congr _ (coff0_0_4 t h0 h1 h2 h3) _ _ (fun _ => rfl) (fun _ => rfl))
set_option synthInstance.maxSize 4096 in
theorem coff0_0_5 : ∀ t : Fin grid0.N, cond0_0 (grid0.coords t) → cond0_1 (grid0.coords t) → cond0_2 (grid0.coords t) → ¬cond0_3 (grid0.coords t) → (![1] : Fin 1 → Nat) = ![(Ring.sl 3 (t.val + 1)).val] := by decide +kernel
@[sl_canon] theorem canon0_0_5 (t : Fin grid0.N) (h0 : cond0_0 (grid0.coords t)) (h1 : cond0_1 (grid0.coords t)) (h2 : cond0_2 (grid0.coords t)) (h3 : ¬cond0_3 (grid0.coords t)) :
    (cc0_scratch2.slice (Rect.unit (s := S3) ![1] S1.size inb_S3_S1_1)).squeeze S_ squeezes_S1_S_ = cellA0_0 (Ring.sl 3 (t.val + 1)) :=
  congrArg (fun A : DmaSems sig S1 => A.squeeze S_ squeezes_S1_S_) (SemArray.slice_unit_congr _ (coff0_0_5 t h0 h1 h2 h3) _ _)
set_option synthInstance.maxSize 4096 in
theorem coff0_0_6 : ∀ t : Fin grid0.N, cond0_0 (grid0.coords t) → cond0_1 (grid0.coords t) → cond0_2 (grid0.coords t) → ¬cond0_3 (grid0.coords t) → (![1024, 0] : Fin 2 → Nat) = ![1024 * ((Ring.bk 144 (t.val + 1)).val % 6), 0] := by decide +kernel
@[sl_canon] theorem canon0_0_6 (t : Fin grid0.N) (h0 : cond0_0 (grid0.coords t)) (h1 : cond0_1 (grid0.coords t)) (h2 : cond0_2 (grid0.coords t)) (h3 : ¬cond0_3 (grid0.coords t)) :
    hbM0_0.slice (Rect.unit (s := S6144x4096) ![1024, 0] S1024x4096.size inb_S6144x4096_S1024x4096_1024_0) (fun _ => rfl) = srcB0_0 (Ring.bk 144 (t.val + 1)) :=
  congrArg (fun M : Memref sig .tc .hbm S1024x4096 .bf16 => M) (Memref.slice_unit_congr _ (coff0_0_6 t h0 h1 h2 h3) _ _ (fun _ => rfl) (fun _ => rfl))
set_option synthInstance.maxSize 4096 in
theorem coff0_0_7 : ∀ t : Fin grid0.N, k0_off2 (grid0.coords t) = ![(Ring.sl 3 (t.val + 2)).val, 0, 0] := by decide +kernel
@[sl_canon] theorem canon0_0_7 (t : Fin grid0.N) (h1 : cond0_1 (grid0.coords t)) :
    (scM0_1.slice (Rect.unit (s := S3x1024x4096) (k0_off2 (grid0.coords t)) S1x1024x4096.size (k0_off2_inb (grid0.coords t) h1)) (fun _ => rfl)).squeeze S1024x4096 squeezes_S1x1024x4096_S1024x4096 = rslot0_0 (Ring.sl 3 (t.val + 2)) :=
  congrArg (fun M : Memref sig .tc .vmem S1x1024x4096 .bf16 => M.squeeze S1024x4096 squeezes_S1x1024x4096_S1024x4096) (Memref.slice_unit_congr _ (coff0_0_7 t ) _ _ (fun _ => rfl) (fun _ => rfl))
set_option synthInstance.maxSize 4096 in
theorem coff0_0_8 : ∀ t : Fin grid0.N, k0_off1 (grid0.coords t) = ![(Ring.sl 3 (t.val + 2)).val] := by decide +kernel
@[sl_canon] theorem canon0_0_8 (t : Fin grid0.N) (h1 : cond0_1 (grid0.coords t)) :
    (cc0_scratch2.slice (Rect.unit (s := S3) (k0_off1 (grid0.coords t)) S1.size (k0_off1_inb (grid0.coords t) h1))).squeeze S_ squeezes_S1_S_ = cellA0_0 (Ring.sl 3 (t.val + 2)) :=
  congrArg (fun A : DmaSems sig S1 => A.squeeze S_ squeezes_S1_S_) (SemArray.slice_unit_congr _ (coff0_0_8 t ) _ _)
set_option synthInstance.maxSize 4096 in
theorem coff0_0_9 : ∀ t : Fin grid0.N, cond0_0 (grid0.coords t) → cond0_1 (grid0.coords t) → cond0_2 (grid0.coords t) → ¬cond0_3 (grid0.coords t) → k0_off3 (grid0.coords t) = ![1024 * ((Ring.bk 144 (t.val + 2)).val % 6), 0] := by decide +kernel
@[sl_canon] theorem canon0_0_9 (t : Fin grid0.N) (h0 : cond0_0 (grid0.coords t)) (h1 : cond0_1 (grid0.coords t)) (h2 : cond0_2 (grid0.coords t)) (h3 : ¬cond0_3 (grid0.coords t)) :
    hbM0_0.slice (Rect.unit (s := S6144x4096) (k0_off3 (grid0.coords t)) S1024x4096.size (k0_off3_inb (grid0.coords t) h1)) (fun _ => rfl) = srcB0_0 (Ring.bk 144 (t.val + 2)) :=
  congrArg (fun M : Memref sig .tc .hbm S1024x4096 .bf16 => M) (Memref.slice_unit_congr _ (coff0_0_9 t h0 h1 h2 h3) _ _ (fun _ => rfl) (fun _ => rfl))
set_option synthInstance.maxSize 4096 in
theorem coff0_0_10 : ∀ t : Fin grid0.N, k0_off5 (grid0.coords t) = ![(Ring.sl 3 t.val).val, 0, 0] := by decide +kernel
@[sl_canon] theorem canon0_0_10 (t : Fin grid0.N) :
    (scM0_1.slice (Rect.unit (s := S3x1024x4096) (k0_off5 (grid0.coords t)) S1x1024x4096.size (k0_off5_inb (grid0.coords t))) (fun _ => rfl)).squeeze S1024x4096 squeezes_S1x1024x4096_S1024x4096 = rslot0_0 (Ring.sl 3 t.val) :=
  congrArg (fun M : Memref sig .tc .vmem S1x1024x4096 .bf16 => M.squeeze S1024x4096 squeezes_S1x1024x4096_S1024x4096) (Memref.slice_unit_congr _ (coff0_0_10 t ) _ _ (fun _ => rfl) (fun _ => rfl))
set_option synthInstance.maxSize 4096 in
theorem coff0_0_11 : ∀ t : Fin grid0.N, k0_off4 (grid0.coords t) = ![(Ring.sl 3 t.val).val] := by decide +kernel
@[sl_canon] theorem canon0_0_11 (t : Fin grid0.N) :
    (cc0_scratch2.slice (Rect.unit (s := S3) (k0_off4 (grid0.coords t)) S1.size (k0_off4_inb (grid0.coords t)))).squeeze S_ squeezes_S1_S_ = cellA0_0 (Ring.sl 3 t.val) :=
  congrArg (fun A : DmaSems sig S1 => A.squeeze S_ squeezes_S1_S_) (SemArray.slice_unit_congr _ (coff0_0_11 t ) _ _)
set_option synthInstance.maxSize 4096 in
theorem coff0_0_12 : ∀ t : Fin grid0.N, ¬cond0_0 (grid0.coords t) → cond0_1 (grid0.coords t) → ¬cond0_2 (grid0.coords t) → cond0_3 (grid0.coords t) → k0_off3 (grid0.coords t) = ![1024 * ((Ring.bk 144 (t.val + 2)).val % 6), 0] := by decide +kernel
@[sl_canon] theorem canon0_0_12 (t : Fin grid0.N) (h0 : ¬cond0_0 (grid0.coords t)) (h1 : cond0_1 (grid0.coords t)) (h2 : ¬cond0_2 (grid0.coords t)) (h3 : cond0_3 (grid0.coords t)) :
    hbM0_0.slice (Rect.unit (s := S6144x4096) (k0_off3 (grid0.coords t)) S1024x4096.size (k0_off3_inb (grid0.coords t) h1)) (fun _ => rfl) = srcB0_0 (Ring.bk 144 (t.val + 2)) :=
  congrArg (fun M : Memref sig .tc .hbm S1024x4096 .bf16 => M) (Memref.slice_unit_congr _ (coff0_0_12 t h0 h1 h2 h3) _ _ (fun _ => rfl) (fun _ => rfl))
set_option synthInstance.maxSize 4096 in
theorem coff0_0_13 : ∀ t : Fin grid0.N, ¬cond0_0 (grid0.coords t) → cond0_1 (grid0.coords t) → cond0_2 (grid0.coords t) → ¬cond0_3 (grid0.coords t) → k0_off3 (grid0.coords t) = ![1024 * ((Ring.bk 144 (t.val + 2)).val % 6), 0] := by decide +kernel
@[sl_canon] theorem canon0_0_13 (t : Fin grid0.N) (h0 : ¬cond0_0 (grid0.coords t)) (h1 : cond0_1 (grid0.coords t)) (h2 : cond0_2 (grid0.coords t)) (h3 : ¬cond0_3 (grid0.coords t)) :
    hbM0_0.slice (Rect.unit (s := S6144x4096) (k0_off3 (grid0.coords t)) S1024x4096.size (k0_off3_inb (grid0.coords t) h1)) (fun _ => rfl) = srcB0_0 (Ring.bk 144 (t.val + 2)) :=
  congrArg (fun M : Memref sig .tc .hbm S1024x4096 .bf16 => M) (Memref.slice_unit_congr _ (coff0_0_13 t h0 h1 h2 h3) _ _ (fun _ => rfl) (fun _ => rfl))
set_option synthInstance.maxSize 4096 in
theorem coff0_0_14 : ∀ t : Fin grid0.N, k0_off7 (grid0.coords t) = ![(Ring.sl 3 t.val).val, 0, 0] := by decide +kernel
/-- A load of the slab, at offsets in its slot. -/
instance (priority := high) closedOff0_0_14 (t : Fin grid0.N) : ClosedOff (k0_off7 (grid0.coords t)) := ⟨![(Ring.sl 3 t.val).val, 0, 0], coff0_0_14 t⟩
set_option synthInstance.maxSize 4096 in
theorem coff0_0_15 : ∀ t : Fin grid0.N, k0_off8 (grid0.coords t) = ![(Ring.sl 3 t.val).val, 0, 512] := by decide +kernel
/-- A load of the slab, at offsets in its slot. -/
instance (priority := high) closedOff0_0_15 (t : Fin grid0.N) : ClosedOff (k0_off8 (grid0.coords t)) := ⟨![(Ring.sl 3 t.val).val, 0, 512], coff0_0_15 t⟩
set_option synthInstance.maxSize 4096 in
theorem coff0_0_16 : ∀ t : Fin grid0.N, k0_off9 (grid0.coords t) = ![(Ring.sl 3 t.val).val, 0, 1024] := by decide +kernel
/-- A load of the slab, at offsets in its slot. -/
instance (priority := high) closedOff0_0_16 (t : Fin grid0.N) : ClosedOff (k0_off9 (grid0.coords t)) := ⟨![(Ring.sl 3 t.val).val, 0, 1024], coff0_0_16 t⟩
set_option synthInstance.maxSize 4096 in
theorem coff0_0_17 : ∀ t : Fin grid0.N, k0_off10 (grid0.coords t) = ![(Ring.sl 3 t.val).val, 0, 1536] := by decide +kernel
/-- A load of the slab, at offsets in its slot. -/
instance (priority := high) closedOff0_0_17 (t : Fin grid0.N) : ClosedOff (k0_off10 (grid0.coords t)) := ⟨![(Ring.sl 3 t.val).val, 0, 1536], coff0_0_17 t⟩
set_option synthInstance.maxSize 4096 in
theorem coff0_0_18 : ∀ t : Fin grid0.N, k0_off11 (grid0.coords t) = ![(Ring.sl 3 t.val).val, 0, 2048] := by decide +kernel
/-- A load of the slab, at offsets in its slot. -/
instance (priority := high) closedOff0_0_18 (t : Fin grid0.N) : ClosedOff (k0_off11 (grid0.coords t)) := ⟨![(Ring.sl 3 t.val).val, 0, 2048], coff0_0_18 t⟩
set_option synthInstance.maxSize 4096 in
theorem coff0_0_19 : ∀ t : Fin grid0.N, k0_off12 (grid0.coords t) = ![(Ring.sl 3 t.val).val, 0, 2560] := by decide +kernel
/-- A load of the slab, at offsets in its slot. -/
instance (priority := high) closedOff0_0_19 (t : Fin grid0.N) : ClosedOff (k0_off12 (grid0.coords t)) := ⟨![(Ring.sl 3 t.val).val, 0, 2560], coff0_0_19 t⟩
set_option synthInstance.maxSize 4096 in
theorem coff0_0_20 : ∀ t : Fin grid0.N, k0_off13 (grid0.coords t) = ![(Ring.sl 3 t.val).val, 0, 3072] := by decide +kernel
/-- A load of the slab, at offsets in its slot. -/
instance (priority := high) closedOff0_0_20 (t : Fin grid0.N) : ClosedOff (k0_off13 (grid0.coords t)) := ⟨![(Ring.sl 3 t.val).val, 0, 3072], coff0_0_20 t⟩
set_option synthInstance.maxSize 4096 in
theorem coff0_0_21 : ∀ t : Fin grid0.N, k0_off14 (grid0.coords t) = ![(Ring.sl 3 t.val).val, 0, 3584] := by decide +kernel
/-- A load of the slab, at offsets in its slot. -/
instance (priority := high) closedOff0_0_21 (t : Fin grid0.N) : ClosedOff (k0_off14 (grid0.coords t)) := ⟨![(Ring.sl 3 t.val).val, 0, 3584], coff0_0_21 t⟩
set_option synthInstance.maxSize 4096 in
theorem coff0_0_22 : ∀ t : Fin grid0.N, k0_off15 (grid0.coords t) = ![(Ring.sl 3 t.val).val, 0, 0] := by decide +kernel
/-- A load of the slab, at offsets in its slot. -/
instance (priority := high) closedOff0_0_22 (t : Fin grid0.N) : ClosedOff (k0_off15 (grid0.coords t)) := ⟨![(Ring.sl 3 t.val).val, 0, 0], coff0_0_22 t⟩
end Canon0_0

end Cert.Kernel2Ideal.Main

end
-- ==== Proof.MainRun.lean ====
module

public import proofs.«01_k».proof.Proof.MainRing
public import proofs.«01_k».proof.Proof.Slab
public import Idealize.ShloMosaic.Lib.VecWindow
public import Idealize.ShloMosaic.Lib.Pipeline.ValueKit

/-! One grid step of the input projection's kernel, with what it leaves named.

At the first row block of a column block the step casts and transposes the window of the weights, keeps it in the scratch, and sums eight
partial products; at the later row blocks it multiplies the whole slab by the kept scratch. Either way it stores the
product. -/

@[expose] public section

set_option maxRecDepth 16384

noncomputable section

namespace Cert.Kernel2Ideal.Main

open Cert.Kernel2Ideal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- A weight window, transposed and cast: what the scratch keeps for a column block. -/
def kept (x0 : Vec F S512x4096 .f32) : Vec F S4096x512 .bf16 :=
  fun i => FloatOps.truncf .bf16 bitsLt_bf16_f32 (x0 (ValueIdx.ix2 (i 1) (i 0)))

/-- What the first row block of a column block leaves: eight partial products of the slab's and the window's columns. -/
def outFirst (X : Vec F S1024x4096 .bf16) (x0 : Vec F S512x4096 .f32) : Vec F S1024x512 .f32 :=
  k0_pay5 (k0_pay20 (k0_pay13 (Slab.wcol 0 (by decide) x0) (Slab.cols 512 0 (by decide) X)
      (Slab.wcol 512 (by decide) x0) (Slab.cols 512 512 (by decide) X) (Slab.wcol 1024 (by decide) x0) (Slab.cols 512 1024 (by decide) X))
    (Slab.wcol 1536 (by decide) x0) (Slab.cols 512 1536 (by decide) X) (Slab.wcol 2048 (by decide) x0)
      (Slab.cols 512 2048 (by decide) X) (Slab.wcol 2560 (by decide) x0) (Slab.cols 512 2560 (by decide) X))
    (Slab.wcol 3072 (by decide) x0) (Slab.cols 512 3072 (by decide) X) (Slab.wcol 3584 (by decide) x0)
      (Slab.cols 512 3584 (by decide) X)

/-- What a later row block leaves: the whole slab times the kept weights. -/
def outLater (X : Vec F S1024x4096 .bf16) (wb : Vec F S4096x512 .bf16) : Vec F S1024x512 .f32 :=
  k0_pay6 (Slab.cols 4096 0 (by decide) X) wb

/-- A load of `n` columns of a slot of the ring, once the slot holds `X`. -/
theorem readAt_ring {n : ℕ} (s : Fin 3) (f) (X : Vec F S1024x4096 .bf16) (k : ℕ) (hk : k + n ≤ 4096) {off : Fin 3 → ℕ}
    (inb : ∀ x, off x + (⟨3, ![1, 1024, n]⟩ : Shape).size x ≤ S3x1024x4096.size x) (ho : off = ![s.val, 0, k]) :
    View.readAt (Elt F) scM0_1.view (Rect.unit (s := S3x1024x4096) off (⟨3, ![1, 1024, n]⟩ : Shape).size inb).toLoadRect
      ((rslot0_0 s).view.writes (Elt F) f [⟨Rect.whole S1024x4096, X⟩]) = Slab.cols n k hk X :=
  Slab.readAt_slot scM0_1 s.val k (inb_slot0_0 s) (fun _ => rfl) squeezes_S1x1024x4096_S1024x4096 f X hk inb ho

/-- A piece of the kept weights: the window's columns `k … k + 511`, transposed, are its rows from `k`. -/
theorem kept_piece (x0 : Vec F S512x4096 .f32) (k : ℕ) (hk : k + 512 ≤ 4096) (inb)
    (x : (Rect.unit (s := S4096x512) ![k, 0] S512x512.size inb).shape.Idx) :
    shapeCast S512x512 (truncf .bf16 (transpose S512x512 [1, 0] (shapeCast S512x512 (Slab.wcol k hk x0) shapeCasts_S512x512_S512x512)
      transposes_S512x512_p1_0_S512x512 : FVec F S512x512 .f32) bitsLt_bf16_f32 : FVec F S512x512 .bf16) shapeCasts_S512x512_S512x512 x
      = kept x0 ((Rect.unit (s := S4096x512) ![k, 0] S512x512.size inb).emb x) := by
  rw [shapeCast_self, shapeCast_self]
  refine congrArg (FloatOps.truncf .bf16 bitsLt_bf16_f32) ?_
  refine (transpose_apply _ _ _ x (ValueIdx.ix2 (x 1) (x 0) : S512x512.Idx) fun b => by match b with | ⟨0, _⟩ => rfl | ⟨1, _⟩ => rfl).trans ?_
  refine congrArg x0 (funext fun a => Fin.ext ?_)
  match a with
  | ⟨0, _⟩ => show (x 1).val = 0 + 1 * (x 1).val; omega
  | ⟨1, _⟩ => show k + (x 0).val = k + 1 * (x 0).val; omega

/-- The scratch after the eight pieces are stored holds the kept weights. -/
theorem read_kept (M : Memref sig .tc .vmem S4096x512 .bf16) (f) (x0 : Vec F S512x4096 .f32) (i7 i6 i5 i4 i3 i2 i1 i0) :
    View.read (Elt F) M.view (M.view.writes (Elt F) f
      [⟨Rect.unit (s := S4096x512) ![3584, 0] S512x512.size i7, k0_pay4 (Slab.wcol 3584 (by decide) x0)⟩,
       ⟨Rect.unit (s := S4096x512) ![3072, 0] S512x512.size i6, k0_pay2 (Slab.wcol 3072 (by decide) x0)⟩,
       ⟨Rect.unit (s := S4096x512) ![2560, 0] S512x512.size i5, k0_pay19 (Slab.wcol 2560 (by decide) x0)⟩,
       ⟨Rect.unit (s := S4096x512) ![2048, 0] S512x512.size i4, k0_pay17 (Slab.wcol 2048 (by decide) x0)⟩,
       ⟨Rect.unit (s := S4096x512) ![1536, 0] S512x512.size i3, k0_pay15 (Slab.wcol 1536 (by decide) x0)⟩,
       ⟨Rect.unit (s := S4096x512) ![1024, 0] S512x512.size i2, k0_pay12 (Slab.wcol 1024 (by decide) x0)⟩,
       ⟨Rect.unit (s := S4096x512) ![512, 0] S512x512.size i1, k0_pay10 (Slab.wcol 512 (by decide) x0)⟩,
       ⟨Rect.unit (s := S4096x512) ![0, 0] S512x512.size i0, k0_pay8 (Slab.wcol 0 (by decide) x0)⟩]) = kept x0 := by
  exact Slab.read_eight M f (kept x0) _ _ _ _ _ _ _ _ (kept_piece x0 0 _ i0) (kept_piece x0 512 _ i1) (kept_piece x0 1024 _ i2)
    (kept_piece x0 1536 _ i3) (kept_piece x0 2048 _ i4) (kept_piece x0 2560 _ i5) (kept_piece x0 3072 _ i6) (kept_piece x0 3584 _ i7)

/-- The first row block's output, its loads given. -/
theorem outFirst_of (X : Vec F S1024x4096 .bf16) (x0 : Vec F S512x4096 .f32) {a0 a1 a2 a3 a4 a5 a6 a7 : Vec F S1x1024x512 .bf16}
    (h0 : a0 = Slab.cols 512 0 (by decide) X) (h1 : a1 = Slab.cols 512 512 (by decide) X)
    (h2 : a2 = Slab.cols 512 1024 (by decide) X) (h3 : a3 = Slab.cols 512 1536 (by decide) X)
    (h4 : a4 = Slab.cols 512 2048 (by decide) X) (h5 : a5 = Slab.cols 512 2560 (by decide) X)
    (h6 : a6 = Slab.cols 512 3072 (by decide) X) (h7 : a7 = Slab.cols 512 3584 (by decide) X) :
    k0_pay5 (k0_pay20 (k0_pay13 (Slab.wcol 0 (by decide) x0) a0 (Slab.wcol 512 (by decide) x0) a1 (Slab.wcol 1024 (by decide) x0) a2)
      (Slab.wcol 1536 (by decide) x0) a3 (Slab.wcol 2048 (by decide) x0) a4 (Slab.wcol 2560 (by decide) x0) a5)
      (Slab.wcol 3072 (by decide) x0) a6 (Slab.wcol 3584 (by decide) x0) a7 = outFirst X x0 := by
  subst h0 h1 h2 h3 h4 h5 h6 h7; rfl

/-- A later row block's output, its loads given. -/
theorem outLater_of (X : Vec F S1024x4096 .bf16) (wb : Vec F S4096x512 .bf16) {a : Vec F S1x1024x4096 .bf16} {w : Vec F S4096x512 .bf16}
    (ha : a = Slab.cols 4096 0 (by decide) X) (hw : w = wb) : k0_pay6 a w = outLater X wb := by
  subst ha hw; rfl

/-- The rows of the operand that block `b` streams. -/
abbrev rowsOf (c : Dev nD) (fh0 : HbBuf0 (F := F) c hbM0_0) (b : Fin 144) : Vec F S1024x4096 .bf16 :=
  View.read (Elt F) (srcB0_0 b).view fh0

set_option maxHeartbeats 1000000 in
/-- The very first step: it starts three transfers. -/
theorem runA (c : Dev nD) (t : Fin cfg0.N) (arg3 : Memref sig .tc .vmem S512x4096 .f32) (harg3 : arg3.IsWhole)
    (arg4 : Memref sig .tc .vmem S1024x512 .f32) (harg4 : arg4.IsWhole) (arg5 : Memref sig .tc .vmem S4096x512 .bf16) (harg5 : arg5.IsWhole)
    (hc0 : cond0_0 (grid0.coords t)) (hc1 : cond0_1 (grid0.coords t)) (hc2 : cond0_2 (grid0.coords t)) (hc3 : ¬cond0_3 (grid0.coords t))
    (x0 : Vec F S512x4096 .f32) (fh0 : HbBuf0 (F := F) c hbM0_0) (W : Waits sig Unit) (K : PUnit → sProp 𝕄) :
    iprop(owns (c : Thread nD τ) arg3 fullShare x0 ∗ (∃ d, owns (c : Thread nD τ) arg4 fullShare d) ∗ (∃ d, owns (c : Thread nD τ) arg5 fullShare d)
        ∗ Ring.free (cellP0_0 c) (slotW0_0 c fh0) (Ring.sl 3 t.val)
        ∗ Ring.free (cellP0_0 c) (slotW0_0 c fh0) (Ring.sl 3 (t.val + 1))
        ∗ Ring.free (cellP0_0 c) (slotW0_0 c fh0) (Ring.sl 3 (t.val + 2)) ∗ owes (c : Thread nD τ) 0 W
        ∗ (iprop(owns (c : Thread nD τ) arg3 fullShare x0
            ∗ owns (c : Thread nD τ) arg4 fullShare (outFirst (rowsOf c fh0 (Ring.bk 144 t.val)) x0)
            ∗ owns (c : Thread nD τ) arg5 fullShare (kept x0)
            ∗ Ring.inflight (flightW0_0 c fh0) (Ring.sl 3 (t.val + 1)) (Ring.bk 144 (t.val + 1))
            ∗ Ring.inflight (flightW0_0 c fh0) (Ring.sl 3 (t.val + 2)) (Ring.bk 144 (t.val + 2))
            ∗ Ring.free (cellP0_0 c) (slotW0_0 c fh0) (Ring.sl 3 t.val) ∗ (∃ W', owes (c : Thread nD τ) 0 W')) -∗ K ⟨⟩))
      ⊢ wp frame (wpE (defs₀ (F := F)) Variants.none c none) Set.univ
          (cc0_in_proj_main (grid0.coords t) (Memref.whole main_v2) (Memref.isWhole_whole _) arg3 harg3 arg4 harg4 arg5 harg5
            scM0_1 (Memref.isWhole_whole _) cc0_scratch2) K := by
  haveI : Fact (cond0_0 (grid0.coords t)) := ⟨hc0⟩
  haveI : Fact (cond0_1 (grid0.coords t)) := ⟨hc1⟩
  haveI : Fact (cond0_2 (grid0.coords t)) := ⟨hc2⟩
  haveI : Fact (¬cond0_3 (grid0.coords t)) := ⟨hc3⟩
  simp only [cc0_in_proj_main_eq_skeleton]; unfold cc0_in_proj_main_skel
  simp only [k0_part3_eq_skeleton, k0_part1_eq_skeleton, k0_part2_eq_skeleton]
  simp only [canon0_0_10 t, canon0_0_11 t]
  have hcanon0 := canon0_0_1 t hc0 hc1 hc2 hc3
  have hcanon1 := canon0_0_2 t hc0 hc1 hc2 hc3
  have hcanon2 := canon0_0_3 t hc0 hc1 hc2 hc3
  have hcanon3 := canon0_0_4 t hc0 hc1 hc2 hc3
  have hcanon4 := canon0_0_5 t hc0 hc1 hc2 hc3
  have hcanon5 := canon0_0_6 t hc0 hc1 hc2 hc3
  unfold owns Ring.free Ring.inflight
  iintro ⟨⟨%f0, %hf0, H0⟩, ⟨%d2, %f2, -, H2⟩, ⟨%ds0, %fs0, -, HS0⟩, ⟨Hc0_0_0, ⟨%fs0_0_0, Hs0_0_0, Hw0_0_0⟩⟩, ⟨Hc0_0_1, ⟨%fs0_0_1, Hs0_0_1, Hw0_0_1⟩⟩, ⟨Hc0_0_2, ⟨%fs0_0_2, Hs0_0_2, Hw0_0_2⟩⟩, HW, Hk⟩
  ihave Hsp0_0_0 := (src0_0_split c fh0 (Ring.sl 3 t.val) (Ring.bk 144 t.val)).1 $$ Hw0_0_0
  icases Hsp0_0_0 with ⟨Hh0_0_0, Hr0_0_0⟩
  ihave Hsp0_0_1 := (src0_0_split c fh0 (Ring.sl 3 (t.val + 1)) (Ring.bk 144 (t.val + 1))).1 $$ Hw0_0_1
  icases Hsp0_0_1 with ⟨Hh0_0_1, Hr0_0_1⟩
  ihave Hsp0_0_2 := (src0_0_split c fh0 (Ring.sl 3 (t.val + 2)) (Ring.bk 144 (t.val + 2))).1 $$ Hw0_0_2
  icases Hsp0_0_2 with ⟨Hh0_0_2, Hr0_0_2⟩
  obtain rfl := harg3.eq_unread hf0
  sl_exec (disch := first | sl_exact hc0 | sl_exact hc1 | sl_exact hc2 | sl_exact hc3)
  sl_step
  iapply Hk
  isplitl [H0]
  · iexists _; isplitr; · ipureintro; exact harg3.read_unread _
    iexact H0
  isplitl [H2]
  · iexists _; isplitr; swap; · iexact H2
    ipureintro; sl_unfold_run_names
    rw [View.read_writes_full]
    simp only [Slab.readAt_wcol arg3 _ x0 (harg3.read_unread _) 0 (by decide), Slab.readAt_wcol arg3 _ x0 (harg3.read_unread _) 512 (by decide),
      Slab.readAt_wcol arg3 _ x0 (harg3.read_unread _) 1024 (by decide), Slab.readAt_wcol arg3 _ x0 (harg3.read_unread _) 1536 (by decide),
      Slab.readAt_wcol arg3 _ x0 (harg3.read_unread _) 2048 (by decide), Slab.readAt_wcol arg3 _ x0 (harg3.read_unread _) 2560 (by decide),
      Slab.readAt_wcol arg3 _ x0 (harg3.read_unread _) 3072 (by decide), Slab.readAt_wcol arg3 _ x0 (harg3.read_unread _) 3584 (by decide)]
    exact outFirst_of _ x0 (readAt_ring _ _ _ 0 _ _ (coff0_0_14 t)) (readAt_ring _ _ _ 512 _ _ (coff0_0_15 t))
      (readAt_ring _ _ _ 1024 _ _ (coff0_0_16 t)) (readAt_ring _ _ _ 1536 _ _ (coff0_0_17 t))
      (readAt_ring _ _ _ 2048 _ _ (coff0_0_18 t)) (readAt_ring _ _ _ 2560 _ _ (coff0_0_19 t))
      (readAt_ring _ _ _ 3072 _ _ (coff0_0_20 t)) (readAt_ring _ _ _ 3584 _ _ (coff0_0_21 t))
  isplitl [HS0]
  · iexists _; isplitr; swap; · iexact HS0
    ipureintro; sl_unfold_run_names
    simp only [Slab.readAt_wcol arg3 _ x0 (harg3.read_unread _) 0 (by decide), Slab.readAt_wcol arg3 _ x0 (harg3.read_unread _) 512 (by decide),
      Slab.readAt_wcol arg3 _ x0 (harg3.read_unread _) 1024 (by decide), Slab.readAt_wcol arg3 _ x0 (harg3.read_unread _) 1536 (by decide),
      Slab.readAt_wcol arg3 _ x0 (harg3.read_unread _) 2048 (by decide), Slab.readAt_wcol arg3 _ x0 (harg3.read_unread _) 2560 (by decide),
      Slab.readAt_wcol arg3 _ x0 (harg3.read_unread _) 3072 (by decide), Slab.readAt_wcol arg3 _ x0 (harg3.read_unread _) 3584 (by decide)]
    exact read_kept arg5 _ x0 _ _ _ _ _ _ _ _
  isplitl [Hc0_0_1 Hr0_0_1]
  · iexists _; isplitl [Hc0_0_1]; · iexact Hc0_0_1
    iexact Hr0_0_1
  isplitl [Hc0_0_2 Hr0_0_2]
  · iexists _; isplitl [Hc0_0_2]; · iexact Hc0_0_2
    iexact Hr0_0_2
  isplitl [Hc0_0_0 Hs0_0_0 Hh0_0_0 Hr0_0_0]
  · isplitl [Hc0_0_0]; · iexact Hc0_0_0
    iexists _; isplitl [Hs0_0_0]; · iexact Hs0_0_0
    iapply (src0_0_split c fh0 (Ring.sl 3 t.val) (Ring.bk 144 t.val)).2; isplitl [Hh0_0_0]; · iexact Hh0_0_0
    iexact Hr0_0_0
  iexists _; iexact HW

set_option maxHeartbeats 1000000 in
/-- A later row block, a transfer still to start. -/
theorem runB (c : Dev nD) (t : Fin cfg0.N) (arg3 : Memref sig .tc .vmem S512x4096 .f32) (harg3 : arg3.IsWhole)
    (arg4 : Memref sig .tc .vmem S1024x512 .f32) (harg4 : arg4.IsWhole) (arg5 : Memref sig .tc .vmem S4096x512 .bf16) (harg5 : arg5.IsWhole)
    (hc0 : ¬cond0_0 (grid0.coords t)) (hc1 : cond0_1 (grid0.coords t)) (hc2 : ¬cond0_2 (grid0.coords t)) (hc3 : cond0_3 (grid0.coords t))
    (x0 : Vec F S512x4096 .f32) (wb : Vec F S4096x512 .bf16) (fh0 : HbBuf0 (F := F) c hbM0_0) (W : Waits sig Unit) (K : PUnit → sProp 𝕄) :
    iprop(owns (c : Thread nD τ) arg3 fullShare x0 ∗ (∃ d, owns (c : Thread nD τ) arg4 fullShare d) ∗ owns (c : Thread nD τ) arg5 fullShare wb
        ∗ Ring.inflight (flightW0_0 c fh0) (Ring.sl 3 t.val) (Ring.bk 144 t.val)
        ∗ Ring.inflight (flightW0_0 c fh0) (Ring.sl 3 (t.val + 1)) (Ring.bk 144 (t.val + 1))
        ∗ Ring.free (cellP0_0 c) (slotW0_0 c fh0) (Ring.sl 3 (t.val + 2)) ∗ owes (c : Thread nD τ) 0 W
        ∗ (iprop(owns (c : Thread nD τ) arg3 fullShare x0
            ∗ owns (c : Thread nD τ) arg4 fullShare (outLater (rowsOf c fh0 (Ring.bk 144 t.val)) wb)
            ∗ owns (c : Thread nD τ) arg5 fullShare wb
            ∗ Ring.inflight (flightW0_0 c fh0) (Ring.sl 3 (t.val + 1)) (Ring.bk 144 (t.val + 1))
            ∗ Ring.inflight (flightW0_0 c fh0) (Ring.sl 3 (t.val + 2)) (Ring.bk 144 (t.val + 2))
            ∗ Ring.free (cellP0_0 c) (slotW0_0 c fh0) (Ring.sl 3 t.val) ∗ (∃ W', owes (c : Thread nD τ) 0 W')) -∗ K ⟨⟩))
      ⊢ wp frame (wpE (defs₀ (F := F)) Variants.none c none) Set.univ
          (cc0_in_proj_main (grid0.coords t) (Memref.whole main_v2) (Memref.isWhole_whole _) arg3 harg3 arg4 harg4 arg5 harg5
            scM0_1 (Memref.isWhole_whole _) cc0_scratch2) K := by
  haveI : Fact (¬cond0_0 (grid0.coords t)) := ⟨hc0⟩
  haveI : Fact (cond0_1 (grid0.coords t)) := ⟨hc1⟩
  haveI : Fact (¬cond0_2 (grid0.coords t)) := ⟨hc2⟩
  haveI : Fact (cond0_3 (grid0.coords t)) := ⟨hc3⟩
  simp only [cc0_in_proj_main_eq_skeleton]; unfold cc0_in_proj_main_skel
  simp only [k0_part3_eq_skeleton]
  simp only [canon0_0_10 t, canon0_0_11 t]
  unfold owns Ring.free Ring.inflight
  iintro ⟨⟨%f0, %hf0, H0⟩, ⟨%d2, %f2, -, H2⟩, ⟨%fs0, %hfs0, HS0⟩, ⟨%ff0_0_0, Hf0_0_0, Hrf0_0_0⟩, ⟨%ff0_0_1, Hf0_0_1, Hrf0_0_1⟩, ⟨Hc0_0_2, ⟨%fs0_0_2, Hs0_0_2, Hw0_0_2⟩⟩, HW, Hk⟩
  ihave Hsp0_0_2 := (src0_0_split c fh0 (Ring.sl 3 (t.val + 2)) (Ring.bk 144 (t.val + 2))).1 $$ Hw0_0_2
  icases Hsp0_0_2 with ⟨Hh0_0_2, Hr0_0_2⟩
  obtain rfl := harg3.eq_unread hf0
  sl_exec (disch := first | sl_exact hc0 | sl_exact hc1 | sl_exact hc2 | sl_exact hc3)
  sl_step
  iapply Hk
  isplitl [H0]
  · iexists _; isplitr; · ipureintro; exact harg3.read_unread _
    iexact H0
  isplitl [H2]
  · iexists _; isplitr; swap; · iexact H2
    ipureintro; sl_unfold_run_names
    rw [View.read_writes_full]
    exact outLater_of _ wb (readAt_ring _ _ _ 0 _ _ (coff0_0_22 t)) (Slab.readAt_all arg5 _ wb hfs0 _)
  isplitl [HS0]
  · iexists _; isplitr; swap; · iexact HS0
    ipureintro; exact hfs0
  isplitl [Hf0_0_1 Hrf0_0_1]
  · iexists ff0_0_1; isplitl [Hf0_0_1]; · iexact Hf0_0_1
    iexact Hrf0_0_1
  isplitl [Hc0_0_2 Hr0_0_2]
  · iexists _; isplitl [Hc0_0_2]; · iexact Hc0_0_2
    iexact Hr0_0_2
  isplitl [Hf0_0_0 Hf0_0_0_dst Hf0_0_0_src Hrf0_0_0]
  · isplitl [Hf0_0_0]; · iexact Hf0_0_0
    iexists _; isplitl [Hf0_0_0_dst]; · iexact Hf0_0_0_dst
    iapply (src0_0_split c fh0 (Ring.sl 3 t.val) (Ring.bk 144 t.val)).2; isplitl [Hf0_0_0_src]; · iexact Hf0_0_0_src
    iexact Hrf0_0_0
  iexists _; iexact HW

set_option maxHeartbeats 1000000 in
/-- The first row block of a later column block. -/
theorem runC (c : Dev nD) (t : Fin cfg0.N) (arg3 : Memref sig .tc .vmem S512x4096 .f32) (harg3 : arg3.IsWhole)
    (arg4 : Memref sig .tc .vmem S1024x512 .f32) (harg4 : arg4.IsWhole) (arg5 : Memref sig .tc .vmem S4096x512 .bf16) (harg5 : arg5.IsWhole)
    (hc0 : ¬cond0_0 (grid0.coords t)) (hc1 : cond0_1 (grid0.coords t)) (hc2 : cond0_2 (grid0.coords t)) (hc3 : ¬cond0_3 (grid0.coords t))
    (x0 : Vec F S512x4096 .f32) (fh0 : HbBuf0 (F := F) c hbM0_0) (W : Waits sig Unit) (K : PUnit → sProp 𝕄) :
    iprop(owns (c : Thread nD τ) arg3 fullShare x0 ∗ (∃ d, owns (c : Thread nD τ) arg4 fullShare d) ∗ (∃ d, owns (c : Thread nD τ) arg5 fullShare d)
        ∗ Ring.inflight (flightW0_0 c fh0) (Ring.sl 3 t.val) (Ring.bk 144 t.val)
        ∗ Ring.inflight (flightW0_0 c fh0) (Ring.sl 3 (t.val + 1)) (Ring.bk 144 (t.val + 1))
        ∗ Ring.free (cellP0_0 c) (slotW0_0 c fh0) (Ring.sl 3 (t.val + 2)) ∗ owes (c : Thread nD τ) 0 W
        ∗ (iprop(owns (c : Thread nD τ) arg3 fullShare x0
            ∗ owns (c : Thread nD τ) arg4 fullShare (outFirst (rowsOf c fh0 (Ring.bk 144 t.val)) x0)
            ∗ owns (c : Thread nD τ) arg5 fullShare (kept x0)
            ∗ Ring.inflight (flightW0_0 c fh0) (Ring.sl 3 (t.val + 1)) (Ring.bk 144 (t.val + 1))
            ∗ Ring.inflight (flightW0_0 c fh0) (Ring.sl 3 (t.val + 2)) (Ring.bk 144 (t.val + 2))
            ∗ Ring.free (cellP0_0 c) (slotW0_0 c fh0) (Ring.sl 3 t.val) ∗ (∃ W', owes (c : Thread nD τ) 0 W')) -∗ K ⟨⟩))
      ⊢ wp frame (wpE (defs₀ (F := F)) Variants.none c none) Set.univ
          (cc0_in_proj_main (grid0.coords t) (Memref.whole main_v2) (Memref.isWhole_whole _) arg3 harg3 arg4 harg4 arg5 harg5
            scM0_1 (Memref.isWhole_whole _) cc0_scratch2) K := by
  haveI : Fact (¬cond0_0 (grid0.coords t)) := ⟨hc0⟩
  haveI : Fact (cond0_1 (grid0.coords t)) := ⟨hc1⟩
  haveI : Fact (cond0_2 (grid0.coords t)) := ⟨hc2⟩
  haveI : Fact (¬cond0_3 (grid0.coords t)) := ⟨hc3⟩
  simp only [cc0_in_proj_main_eq_skeleton]; unfold cc0_in_proj_main_skel
  simp only [k0_part3_eq_skeleton, k0_part1_eq_skeleton, k0_part2_eq_skeleton]
  simp only [canon0_0_10 t, canon0_0_11 t]
  unfold owns Ring.free Ring.inflight
  iintro ⟨⟨%f0, %hf0, H0⟩, ⟨%d2, %f2, -, H2⟩, ⟨%ds0, %fs0, -, HS0⟩, ⟨%ff0_0_0, Hf0_0_0, Hrf0_0_0⟩, ⟨%ff0_0_1, Hf0_0_1, Hrf0_0_1⟩, ⟨Hc0_0_2, ⟨%fs0_0_2, Hs0_0_2, Hw0_0_2⟩⟩, HW, Hk⟩
  ihave Hsp0_0_2 := (src0_0_split c fh0 (Ring.sl 3 (t.val + 2)) (Ring.bk 144 (t.val + 2))).1 $$ Hw0_0_2
  icases Hsp0_0_2 with ⟨Hh0_0_2, Hr0_0_2⟩
  obtain rfl := harg3.eq_unread hf0
  sl_exec (disch := first | sl_exact hc0 | sl_exact hc1 | sl_exact hc2 | sl_exact hc3)
  sl_step
  iapply Hk
  isplitl [H0]
  · iexists _; isplitr; · ipureintro; exact harg3.read_unread _
    iexact H0
  isplitl [H2]
  · iexists _; isplitr; swap; · iexact H2
    ipureintro; sl_unfold_run_names
    rw [View.read_writes_full]
    simp only [Slab.readAt_wcol arg3 _ x0 (harg3.read_unread _) 0 (by decide), Slab.readAt_wcol arg3 _ x0 (harg3.read_unread _) 512 (by decide),
      Slab.readAt_wcol arg3 _ x0 (harg3.read_unread _) 1024 (by decide), Slab.readAt_wcol arg3 _ x0 (harg3.read_unread _) 1536 (by decide),
      Slab.readAt_wcol arg3 _ x0 (harg3.read_unread _) 2048 (by decide), Slab.readAt_wcol arg3 _ x0 (harg3.read_unread _) 2560 (by decide),
      Slab.readAt_wcol arg3 _ x0 (harg3.read_unread _) 3072 (by decide), Slab.readAt_wcol arg3 _ x0 (harg3.read_unread _) 3584 (by decide)]
    exact outFirst_of _ x0 (readAt_ring _ _ _ 0 _ _ (coff0_0_14 t)) (readAt_ring _ _ _ 512 _ _ (coff0_0_15 t))
      (readAt_ring _ _ _ 1024 _ _ (coff0_0_16 t)) (readAt_ring _ _ _ 1536 _ _ (coff0_0_17 t))
      (readAt_ring _ _ _ 2048 _ _ (coff0_0_18 t)) (readAt_ring _ _ _ 2560 _ _ (coff0_0_19 t))
      (readAt_ring _ _ _ 3072 _ _ (coff0_0_20 t)) (readAt_ring _ _ _ 3584 _ _ (coff0_0_21 t))
  isplitl [HS0]
  · iexists _; isplitr; swap; · iexact HS0
    ipureintro; sl_unfold_run_names
    simp only [Slab.readAt_wcol arg3 _ x0 (harg3.read_unread _) 0 (by decide), Slab.readAt_wcol arg3 _ x0 (harg3.read_unread _) 512 (by decide),
      Slab.readAt_wcol arg3 _ x0 (harg3.read_unread _) 1024 (by decide), Slab.readAt_wcol arg3 _ x0 (harg3.read_unread _) 1536 (by decide),
      Slab.readAt_wcol arg3 _ x0 (harg3.read_unread _) 2048 (by decide), Slab.readAt_wcol arg3 _ x0 (harg3.read_unread _) 2560 (by decide),
      Slab.readAt_wcol arg3 _ x0 (harg3.read_unread _) 3072 (by decide), Slab.readAt_wcol arg3 _ x0 (harg3.read_unread _) 3584 (by decide)]
    exact read_kept arg5 _ x0 _ _ _ _ _ _ _ _
  isplitl [Hf0_0_1 Hrf0_0_1]
  · iexists ff0_0_1; isplitl [Hf0_0_1]; · iexact Hf0_0_1
    iexact Hrf0_0_1
  isplitl [Hc0_0_2 Hr0_0_2]
  · iexists _; isplitl [Hc0_0_2]; · iexact Hc0_0_2
    iexact Hr0_0_2
  isplitl [Hf0_0_0 Hf0_0_0_dst Hf0_0_0_src Hrf0_0_0]
  · isplitl [Hf0_0_0]; · iexact Hf0_0_0
    iexists _; isplitl [Hf0_0_0_dst]; · iexact Hf0_0_0_dst
    iapply (src0_0_split c fh0 (Ring.sl 3 t.val) (Ring.bk 144 t.val)).2; isplitl [Hf0_0_0_src]; · iexact Hf0_0_0_src
    iexact Hrf0_0_0
  iexists _; iexact HW

set_option maxHeartbeats 1000000 in
/-- The last two steps: no transfer is left to start. -/
theorem runD (c : Dev nD) (t : Fin cfg0.N) (arg3 : Memref sig .tc .vmem S512x4096 .f32) (harg3 : arg3.IsWhole)
    (arg4 : Memref sig .tc .vmem S1024x512 .f32) (harg4 : arg4.IsWhole) (arg5 : Memref sig .tc .vmem S4096x512 .bf16) (harg5 : arg5.IsWhole)
    (hc0 : ¬cond0_0 (grid0.coords t)) (hc1 : ¬cond0_1 (grid0.coords t)) (hc2 : ¬cond0_2 (grid0.coords t)) (hc3 : cond0_3 (grid0.coords t))
    (x0 : Vec F S512x4096 .f32) (wb : Vec F S4096x512 .bf16) (fh0 : HbBuf0 (F := F) c hbM0_0) (W : Waits sig Unit) (K : PUnit → sProp 𝕄) :
    iprop(owns (c : Thread nD τ) arg3 fullShare x0 ∗ (∃ d, owns (c : Thread nD τ) arg4 fullShare d) ∗ owns (c : Thread nD τ) arg5 fullShare wb
        ∗ Ring.inflight (flightW0_0 c fh0) (Ring.sl 3 t.val) (Ring.bk 144 t.val)
        ∗ Ring.slotAt 2 (cellP0_0 c) (slotW0_0 c fh0) (flightW0_0 c fh0) t.val 1
        ∗ Ring.free (cellP0_0 c) (slotW0_0 c fh0) (Ring.sl 3 (t.val + 2)) ∗ owes (c : Thread nD τ) 0 W
        ∗ (iprop(owns (c : Thread nD τ) arg3 fullShare x0
            ∗ owns (c : Thread nD τ) arg4 fullShare (outLater (rowsOf c fh0 (Ring.bk 144 t.val)) wb)
            ∗ owns (c : Thread nD τ) arg5 fullShare wb
            ∗ Ring.slotAt 2 (cellP0_0 c) (slotW0_0 c fh0) (flightW0_0 c fh0) t.val 1
            ∗ Ring.free (cellP0_0 c) (slotW0_0 c fh0) (Ring.sl 3 (t.val + 2))
            ∗ Ring.free (cellP0_0 c) (slotW0_0 c fh0) (Ring.sl 3 t.val) ∗ (∃ W', owes (c : Thread nD τ) 0 W')) -∗ K ⟨⟩))
      ⊢ wp frame (wpE (defs₀ (F := F)) Variants.none c none) Set.univ
          (cc0_in_proj_main (grid0.coords t) (Memref.whole main_v2) (Memref.isWhole_whole _) arg3 harg3 arg4 harg4 arg5 harg5
            scM0_1 (Memref.isWhole_whole _) cc0_scratch2) K := by
  haveI : Fact (¬cond0_0 (grid0.coords t)) := ⟨hc0⟩
  haveI : Fact (¬cond0_1 (grid0.coords t)) := ⟨hc1⟩
  haveI : Fact (¬cond0_2 (grid0.coords t)) := ⟨hc2⟩
  haveI : Fact (cond0_3 (grid0.coords t)) := ⟨hc3⟩
  simp only [cc0_in_proj_main_eq_skeleton]; unfold cc0_in_proj_main_skel
  simp only [k0_part3_eq_skeleton]
  simp only [canon0_0_10 t, canon0_0_11 t]
  unfold owns Ring.free Ring.inflight
  iintro ⟨⟨%f0, %hf0, H0⟩, ⟨%d2, %f2, -, H2⟩, ⟨%fs0, %hfs0, HS0⟩, ⟨%ff0_0_0, Hf0_0_0, Hrf0_0_0⟩, Hro0_0_1, ⟨Hc0_0_2, ⟨%fs0_0_2, Hs0_0_2, Hw0_0_2⟩⟩, HW, Hk⟩
  obtain rfl := harg3.eq_unread hf0
  sl_exec (disch := first | sl_exact hc0 | sl_exact hc1 | sl_exact hc2 | sl_exact hc3)
  sl_step
  iapply Hk
  isplitl [H0]
  · iexists _; isplitr; · ipureintro; exact harg3.read_unread _
    iexact H0
  isplitl [H2]
  · iexists _; isplitr; swap; · iexact H2
    ipureintro; sl_unfold_run_names
    rw [View.read_writes_full]
    exact outLater_of _ wb (readAt_ring _ _ _ 0 _ _ (coff0_0_22 t)) (Slab.readAt_all arg5 _ wb hfs0 _)
  isplitl [HS0]
  · iexists _; isplitr; swap; · iexact HS0
    ipureintro; exact hfs0
  isplitl [Hro0_0_1]; · iexact Hro0_0_1
  isplitl [Hc0_0_2 Hs0_0_2 Hw0_0_2]
  · isplitl [Hc0_0_2]; · iexact Hc0_0_2
    iexists _; isplitl [Hs0_0_2]; · iexact Hs0_0_2
    iexact Hw0_0_2
  isplitl [Hf0_0_0 Hf0_0_0_dst Hf0_0_0_src Hrf0_0_0]
  · isplitl [Hf0_0_0]; · iexact Hf0_0_0
    iexists _; isplitl [Hf0_0_0_dst]; · iexact Hf0_0_0_dst
    iapply (src0_0_split c fh0 (Ring.sl 3 t.val) (Ring.bk 144 t.val)).2; isplitl [Hf0_0_0_src]; · iexact Hf0_0_0_src
    iexact Hrf0_0_0
  iexists _; iexact HW

end Cert.Kernel2Ideal.Main

end
-- ==== Proof.MainFrame.lean ====
module

public import proofs.«01_k».proof.Proof.MainRun

/-! The input projection's kernel over its whole grid: the scratch is tracked from point to point, so that the run ends with the result
array named. -/

@[expose] public section

set_option maxRecDepth 16384

noncomputable section

namespace Cert.Kernel2Ideal.Main

open Cert.Kernel2Ideal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- Rows `512 j …` of the transposed weights: the window of column block `j`. -/
def wwin (c : Dev nD) (j : Fin 24) : Vec F S512x4096 .f32 :=
  fun y => (V m c main_v1 : Vec F S20544x4096 .f32) (ValueIdx.ix2 ⟨512 * j.val + (y 0).val, by
    have : (y 0).val < 512 := (y 0).isLt
    omega⟩ (y 1))

/-- The column block of a grid point. -/
def colOf (t : ℕ) : Fin 24 := ⟨t / 6 % 24, Nat.mod_lt _ (by decide)⟩

theorem transform1_eq : ∀ t : Fin grid0.N, cc0_transform_1 (grid0.coords t) = ![512 * (t.val / 6 % 24), 0] := by
  decide +kernel

/-- The weight window's block at a point. -/
theorem iblk0_eq (c : Dev nD) (t : Fin cfg0.N) : iblk m c 0 t = wwin m c (colOf t.val) := by
  funext y
  refine congrArg (V m c main_v1 : Vec F S20544x4096 .f32) (funext fun a => Fin.ext ?_)
  refine (ValueKit.view_emb_slice_whole_unit_val main_v1 _ _ _ y a).trans ?_
  have e := transform1_eq t
  match a with
  | ⟨0, _⟩ => exact congrArg (· + (y 0).val) (congrFun e 0)
  | ⟨1, _⟩ => exact (congrArg (· + (y 1).val) (congrFun e 1)).trans (Nat.zero_add _)

/-- The scratch before point `k`: anything at a column block's start, else that block's kept weights. -/
def keptAt (c : Dev nD) (k : ℕ) : sProp 𝕄 :=
  if k % 6 = 0 then iprop(∃ d, owns (c : Thread nD τ) scM0_0 fullShare d)
  else owns (c : Thread nD τ) scM0_0 fullShare (kept (wwin m c (colOf k)))

theorem keptAt_next (c : Dev nD) (k : ℕ) :
    owns (c : Thread nD τ) scM0_0 fullShare (kept (wwin m c (colOf k))) ⊢ (keptAt m c (k + 1) : sProp 𝕄) := by
  unfold keptAt
  by_cases h : (k + 1) % 6 = 0
  · rw [if_pos h]; iintro H; iexists _; iexact H
  · rw [if_neg h, show colOf (k + 1) = colOf k from Fin.ext (by show (k + 1) / 6 % 24 = k / 6 % 24; omega)]

/-- The same at a column block's first point, where the kept weights come from the window. -/
theorem keptAt_first (c : Dev nD) (t : Fin cfg0.N) :
    owns (c : Thread nD τ) scM0_0 fullShare (kept (iblk m c 0 t)) ⊢ (keptAt m c (t.val + 1) : sProp 𝕄) := by
  rw [iblk0_eq]; exact keptAt_next m c t.val

/-- What the body leaves in the result's window at a point. -/
def outAt (c : Dev nD) (t : Fin cfg0.N) : Vec F S1024x512 .f32 :=
  if t.val % 6 = 0 then outFirst (rowsOf c (V m c main_v2) (Ring.bk 144 t.val)) (iblk m c 0 t)
  else outLater (rowsOf c (V m c main_v2) (Ring.bk 144 t.val)) (kept (wwin m c (colOf t.val)))

/-- The region's invariant before point `k`. -/
def Phi (c : Dev nD) (k : ℕ) : sProp 𝕄 := iprop(keptAt m c k ∗ (∃ r, prngReg c r) ∗ ringAt0_0 c (V m c main_v2) k)

/-- The proof data: the inputs' buffers at their blocks, the result's at `outAt`. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => outAt m c t
  Φ t := Phi m c t.val
  q _ := fullShare
  owed _ := 0

theorem A_eq (c : Dev nD) (w : Fin cfg0.W) : (dats m 0 c).A w = V m c (Pipeline.arrRef spec0 w) := by
  dsimp only [dats]
theorem Phi_castSucc (c : Dev nD) (t : Fin cfg0.N) : (dats m 0 c).Φ t.castSucc = Phi m c t.val := by
  dsimp only [dats]; simp only [Fin.coe_castSucc]
theorem Phi_succ (c : Dev nD) (t : Fin cfg0.N) : (dats m 0 c).Φ t.succ = Phi m c (t.val + 1) := by
  dsimp only [dats]; simp only [Fin.val_succ]
theorem after_0 (c : Dev nD) (t : Fin cfg0.N) : (dats m 0 c).after 0 t = iblk m c 0 t := by dsimp only [dats]
theorem after_1 (c : Dev nD) (t : Fin cfg0.N) : (dats m 0 c).after 1 t = outAt m c t := by dsimp only [dats]
theorem before_0 (c : Dev nD) (t : Fin cfg0.N) (d) : (dats m 0 c).before 0 t d = iblk m c 0 t :=
  before0_0_of m (dats m 0 c) (A_eq m c 0) (after_0 m c) t d
/-- The body writes the result's window at every point. -/
theorem live_1 : ∀ t : Fin cfg0.N, cfg0.idle 1 (grid0.coords t) = false :=
  (by decide +kernel : ∀ t : Fin grid0.N, cfg0.idle 1 (grid0.coords t) = false)

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d)))
/-- and what it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t)

set_option maxHeartbeats 1600000 in
/-- The body at any point, from its four cases. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0]
  rw [Phi_castSucc m c t, Phi_succ m c t]
  unfold Dat.owesAt Pipeline.owesWithin
  rw [show (dats m 0 c).owed t.castSucc = 0 from rfl, show (dats m 0 c).owed t.succ = 0 from rfl]
  rw [show (dats m 0 c).leavesExact 0 t = owns (c : Thread nD τ) (ms0_0 t) fullShare ((dats m 0 c).after 0 t) from by
    unfold Dat.leavesExact; rw [liveAt0_0 t], after_0]
  rw [show (dats m 0 c).leavesExact 1 t = owns (c : Thread nD τ) (ms0_1 t) fullShare ((dats m 0 c).after 1 t) from by
    unfold Dat.leavesExact; rw [live_1 t], after_1]
  unfold Phi ringAt0_0
  have hN : t.val < 144 := lt_of_lt_of_eq t.isLt (show cfg0.N = 144 from N_0)
  by_cases h6 : t.val % 6 = 0
  · have c2 := (hcond0_2 t).mpr h6
    have c3 : ¬cond0_3 (grid0.coords t) := fun h => by have := (hcond0_3 t).mp h; omega
    have c1 := (hcond0_1 t).mpr (by omega)
    rw [show outAt m c t = outFirst (rowsOf c (V m c main_v2) (Ring.bk 144 t.val)) (iblk m c 0 t) from if_pos h6]
    by_cases h0 : t.val % 144 = 0
    · have c0 := (hcond0_0 t).mpr h0
      have hr := rstep0_0_A t c0 c1 c2 c3
      obtain ⟨hK0, hK1⟩ := hr
      rw [if_pos hK0, if_neg (show ¬t.val + 1 = 0 by omega)]
      rw [Ring.At₀_eq3' _ _ _ t.val hK0 (by decide : 3 ≤ 144), Ring.At3_one' _ _ _ _ t.val hK0 (by decide : 3 ≤ 144)]
      rw [keptAt, if_pos h6]
      iintro ⟨⟨HK, Hg, ⟨-, Hra, Hrb, Hrc⟩⟩, ⟨%W, -, HW⟩, ⟨%d0, H0⟩, ⟨%d2, H2⟩⟩
      iapply (runA c t _ _ _ _ _ _ c0 c1 c2 c3 (iblk m c 0 t) (V m c main_v2) W _)
      isplitl [H0]; · iexact H0
      isplitl [H2]; · iexists _; iexact H2
      isplitl [HK]; · iexact HK
      isplitl [Hra]; · iexact Hra
      isplitl [Hrb]; · iexact Hrb
      isplitl [Hrc]; · iexact Hrc
      isplitl [HW]; · iexact HW
      iintro ⟨H0, H2, HK, Hra, Hrb, Hrc, ⟨%W', HW'⟩⟩
      isplitl [HK Hg Hra Hrb Hrc]
      · isplitl [HK]; · iapply keptAt_first m c t; iexact HK
        isplitl [Hg]; · iexact Hg
        iapply (Ring.with_homes (Idealize.SL.BI.Entails.refl _))
        isplitl [Hra]; · iexact Hra
        isplitl [Hrb]; · iexact Hrb
        iexact Hrc
      isplitl [HW']
      · iexists W'; isplitr; · ipureintro; exact fun _ _ => Or.inl trivial
        iexact HW'
      isplitl [H0]; · iexact H0
      iexact H2
    · have c0 : ¬cond0_0 (grid0.coords t) := fun h => h0 ((hcond0_0 t).mp h)
      have hr := rstep0_0_C t c0 c1 c2 c3
      obtain ⟨hK1, hKB, -⟩ := hr
      rw [if_neg (show ¬t.val = 0 by omega), if_neg (show ¬t.val + 1 = 0 by omega)]
      rw [Ring.At3_here _ _ _ _ t.val hKB, Ring.At3_next _ _ _ _ t.val hKB, Ring.slotAt3_next0 _ _ _ t.val (by omega),
        Ring.slotAt3_next1 _ _ _ t.val hKB]
      rw [keptAt, if_pos h6]
      iintro ⟨⟨HK, Hg, ⟨-, Hra, Hrb, Hrc⟩⟩, ⟨%W, -, HW⟩, ⟨%d0, H0⟩, ⟨%d2, H2⟩⟩
      iapply (runC c t _ _ _ _ _ _ c0 c1 c2 c3 (iblk m c 0 t) (V m c main_v2) W _)
      isplitl [H0]; · iexact H0
      isplitl [H2]; · iexists _; iexact H2
      isplitl [HK]; · iexact HK
      isplitl [Hra]; · iexact Hra
      isplitl [Hrb]; · iexact Hrb
      isplitl [Hrc]; · iexact Hrc
      isplitl [HW]; · iexact HW
      iintro ⟨H0, H2, HK, Hra, Hrb, Hrc, ⟨%W', HW'⟩⟩
      isplitl [HK Hg Hra Hrb Hrc]
      · isplitl [HK]; · iapply keptAt_first m c t; iexact HK
        isplitl [Hg]; · iexact Hg
        iapply (Ring.with_homes (Idealize.SL.BI.Entails.refl _))
        isplitl [Hra]; · iexact Hra
        isplitl [Hrb]; · iexact Hrb
        iexact Hrc
      isplitl [HW']
      · iexists W'; isplitr; · ipureintro; exact fun _ _ => Or.inl trivial
        iexact HW'
      isplitl [H0]; · iexact H0
      iexact H2
  · have c2 : ¬cond0_2 (grid0.coords t) := fun h => h6 ((hcond0_2 t).mp h)
    have c3 := (hcond0_3 t).mpr (by omega)
    have c0 : ¬cond0_0 (grid0.coords t) := fun h => by have := (hcond0_0 t).mp h; omega
    rw [show outAt m c t = outLater (rowsOf c (V m c main_v2) (Ring.bk 144 t.val)) (kept (wwin m c (colOf t.val)))
      from if_neg h6]
    by_cases h1 : t.val < 142
    · have c1 := (hcond0_1 t).mpr h1
      have hr := rstep0_0_B t c0 c1 c2 c3
      obtain ⟨hK1, hKB, -⟩ := hr
      rw [if_neg (show ¬t.val = 0 by omega), if_neg (show ¬t.val + 1 = 0 by omega)]
      rw [Ring.At3_here _ _ _ _ t.val hKB, Ring.At3_next _ _ _ _ t.val hKB, Ring.slotAt3_next0 _ _ _ t.val (by omega),
        Ring.slotAt3_next1 _ _ _ t.val hKB]
      rw [keptAt, if_neg h6]
      iintro ⟨⟨HK, Hg, ⟨-, Hra, Hrb, Hrc⟩⟩, ⟨%W, -, HW⟩, ⟨%d0, H0⟩, ⟨%d2, H2⟩⟩
      iapply (runB c t _ _ _ _ _ _ c0 c1 c2 c3 (iblk m c 0 t) (kept (wwin m c (colOf t.val))) (V m c main_v2) W _)
      isplitl [H0]; · iexact H0
      isplitl [H2]; · iexists _; iexact H2
      isplitl [HK]; · iexact HK
      isplitl [Hra]; · iexact Hra
      isplitl [Hrb]; · iexact Hrb
      isplitl [Hrc]; · iexact Hrc
      isplitl [HW]; · iexact HW
      iintro ⟨H0, H2, HK, Hra, Hrb, Hrc, ⟨%W', HW'⟩⟩
      isplitl [HK Hg Hra Hrb Hrc]
      · isplitl [HK]; · iapply keptAt_next m c t.val; iexact HK
        isplitl [Hg]; · iexact Hg
        iapply (Ring.with_homes (Idealize.SL.BI.Entails.refl _))
        isplitl [Hra]; · iexact Hra
        isplitl [Hrb]; · iexact Hrb
        iexact Hrc
      isplitl [HW']
      · iexists W'; isplitr; · ipureintro; exact fun _ _ => Or.inl trivial
        iexact HW'
      isplitl [H0]; · iexact H0
      iexact H2
    · have c1 : ¬cond0_1 (grid0.coords t) := fun h => h1 ((hcond0_1 t).mp h)
      have hr := rstep0_0_D t c0 c1 c2 c3
      obtain ⟨hK1, hKB, hKlt, -⟩ := hr
      rw [if_neg (show ¬t.val = 0 by omega), if_neg (show ¬t.val + 1 = 0 by omega)]
      rw [Ring.At3_here_tail _ _ _ _ t.val hKlt, Ring.At3_next_tail _ _ _ _ t.val hKB hKlt, Ring.slotAt3_tail_role _ _ _ t.val]
      rw [keptAt, if_neg h6]
      iintro ⟨⟨HK, Hg, ⟨-, Hra, Hrb, Hrc⟩⟩, ⟨%W, -, HW⟩, ⟨%d0, H0⟩, ⟨%d2, H2⟩⟩
      iapply (runD c t _ _ _ _ _ _ c0 c1 c2 c3 (iblk m c 0 t) (kept (wwin m c (colOf t.val))) (V m c main_v2) W _)
      isplitl [H0]; · iexact H0
      isplitl [H2]; · iexists _; iexact H2
      isplitl [HK]; · iexact HK
      isplitl [Hra]; · iexact Hra
      isplitl [Hrb]; · iexact Hrb
      isplitl [Hrc]; · iexact Hrc
      isplitl [HW]; · iexact HW
      iintro ⟨H0, H2, HK, Hra, Hrb, Hrc, ⟨%W', HW'⟩⟩
      isplitl [HK Hg Hra Hrb Hrc]
      · isplitl [HK]; · iapply keptAt_next m c t.val; iexact HK
        isplitl [Hg]; · iexact Hg
        iapply (Ring.with_homes (Idealize.SL.BI.Entails.refl _))
        isplitl [Hra]; · iexact Hra
        isplitl [Hrb]; · iexact Hrb
        iexact Hrc
      isplitl [HW']
      · iexists W'; isplitr; · ipureintro; exact fun _ _ => Or.inl trivial
        iexact HW'
      isplitl [H0]; · iexact H0
      iexact H2

theorem defs₀_row (t : Fin cfg0.N) :
    defs₀ (F := F) .tc cfg0.body (cfg0.bodyArgs t (cfg0.slots t)) = bodyAt0 t := by
  unfold defs₀; rw [Defs.onTc_tc]

/-- The pipeline's obligation on the body. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region is the invariant before the first point. -/
theorem hin (c : Dev nD) : Pipeline.ΦD osem0 spec0 H0 (V m) c ⊢ (dats m 0 c).Φ 0 := by
  rw [PhiD0_eq, show (dats m 0 c).Φ 0 = Phi m c 0 from rfl]
  unfold Phi
  rw [show (keptAt m c 0 : sProp 𝕄) = iprop(∃ d, owns (c : Thread nD τ) scM0_0 fullShare d) from if_pos rfl]
  iintro ⟨⟨HS0, HR0_0⟩, Hg, ⟨Hq0, Hq1, Hq2⟩, Hh0⟩
  isplitl [HS0]; · iexact HS0
  isplitl [Hg]; · iexact Hg
  iapply (ring0_0_in (F := F) m c)
  isplitl [HR0_0]; · iexact HR0_0
  isplitl [Hq0 Hq1 Hq2]
  · isplitl [Hq0]; · iexact Hq0
    isplitl [Hq1]; · iexact Hq1
    iexact Hq2
  iexact Hh0

/-- And the invariant after the last point hands it back. -/
theorem hout (c : Dev nD) : (dats m 0 c).Φ (Fin.last cfg0.N) ⊢ Pipeline.ΦD osem0 spec0 H0 (V m) c := by
  rw [PhiD0_eq, show (dats m 0 c).Φ (Fin.last cfg0.N) = Phi m c grid0.N from rfl]
  unfold Phi
  rw [show grid0.N = 144 by rw [N_0]]
  rw [show (keptAt m c 144 : sProp 𝕄) = iprop(∃ d, owns (c : Thread nD τ) scM0_0 fullShare d) from if_pos rfl]
  iintro ⟨HS0, Hg, HR0_0⟩
  ihave HX0_0 := (ring0_0_out (F := F) m c) $$ HR0_0
  icases HX0_0 with ⟨HR0_0, ⟨Hq0, Hq1, Hq2⟩, Hh0⟩
  isplitl [HS0 HR0_0]
  · isplitl [HS0]; · iexact HS0
    iexact HR0_0
  isplitl [Hg]
  · iexact Hg
  isplitl [Hq0 Hq1 Hq2]
  · isplitl [Hq0]; · iexact Hq0
    isplitl [Hq1]; · iexact Hq1
    iexact Hq2
  iexact Hh0

set_option backward.isDefEq.respectTransparency.types false in
/-- The run: the arrays end at what the proof data says, and every semaphore at zero. -/
theorem run_main : θ_run defs (onTc (τ := τ) (main (F := F))) (s₀ m ρ)
    (fun r => Pipeline.FramePost cfgs (dats m) 0 (V m) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmain m Variants.none) (hA := A_eq m) (hin := hin m) (hout := hout m)

end Cert.Kernel2Ideal.Main

end
-- ==== Proof.MainValue.lean ====
module

public import proofs.«01_k».proof.Proof.MainFrame
public import proofs.«01_k».proof.Proof.Dense
public import Idealize.ShloMosaic.Lib.ValueLayout

/-! The input projection as one function of the two arguments, and that the kernel's result array is that function. -/

@[expose] public section

set_option maxRecDepth 4096

noncomputable section

namespace Cert.Kernel2Ideal.Main

open Cert.Kernel2Ideal.Gen
open Idealize.ShloMosaic Idealize.ShloMosaic.TcCoe Idealize.ShloMosaic.Tactic Idealize.ShloMosaic.ValueIdx
open Idealize.SL.Sem
open Idealize.ShloMosaic.Pipeline (Dat)

/-- A later row block stores the product. -/
theorem outLater_apply (X : Vec Ideal S1024x4096 .bf16) (wb : Vec Ideal S4096x512 .bf16) (r : Fin 1024) (c : Fin 512) :
    outLater X wb (ValueIdx.ix2 r c) = ∑ k : Fin 4096, (X (ValueIdx.ix2 r k) : EReal) * wb (ValueIdx.ix2 k c) := by
  refine (Dense.slab_product 0 (by decide) X _ _ r c).trans (Finset.sum_congr rfl fun j _ => ?_)
  exact congrArg (fun i => (X (ValueIdx.ix2 r i) : EReal) * _) (Fin.ext (Nat.zero_add _))

/-- The first row block stores the product. -/
theorem outFirst_apply (X : Vec Ideal S1024x4096 .bf16) (x0 : Vec Ideal S512x4096 .f32) (r : Fin 1024) (c : Fin 512) :
    outFirst X x0 (ValueIdx.ix2 r c) = ∑ k : Fin 4096, (X (ValueIdx.ix2 r k) : EReal) * x0 (ValueIdx.ix2 c k) := by
  rw [Dense.sum_eight]
  have h := fun k hk => Dense.cols_product k hk X shapeCasts_S1x1024x512_S1024x512 x0 shapeCasts_S512x512_S512x512
    transposes_S512x512_p1_0_S512x512 bitsLt_bf16_f32 r c
  refine congrArg₂ (fun a b : EReal => a + b) ?_ (h 3584 (by decide))
  refine congrArg₂ (fun a b : EReal => a + b) ?_ (h 3072 (by decide))
  refine congrArg₂ (fun a b : EReal => a + b) ?_ (h 2560 (by decide))
  refine congrArg₂ (fun a b : EReal => a + b) ?_ (h 2048 (by decide))
  refine congrArg₂ (fun a b : EReal => a + b) ?_ (h 1536 (by decide))
  refine congrArg₂ (fun a b : EReal => a + b) ?_ (h 1024 (by decide))
  exact congrArg₂ (fun a b : EReal => a + b) (h 0 (by decide)) (h 512 (by decide))

/-- The input projection: at a position, the product of its row and its column of the weights, of the first 12288. -/
def proj (x : Vec Ideal S6144x4096 .f32) (w : Vec Ideal S1x4096x20544 .f32) (r : Fin 6144) (j : Fin 12288) : EReal :=
  ∑ k : Fin 4096, x (ValueIdx.ix2 r k) * w (ValueIdx.ix3 0 k ⟨j.val, by omega⟩)

variable (m : (ℓ : Loc nD τ sig) → Buf (Elt Ideal) ℓ) (ρ : Dev nD → PrngReg)

/-- The two arguments on a device. -/
abbrev argX (c : Dev nD) : Vec Ideal S6144x4096 .f32 := m ((c : Thread nD τ).loc main_arg0)
abbrev argW (c : Dev nD) : Vec Ideal S1x4096x20544 .f32 := m ((c : Thread nD τ).loc main_arg1)

/-- The transposed weights, as the region finds them. -/
theorem V_main_v1 (c : Dev nD) (j : Fin 20544) (k : Fin 4096) :
    (V m c main_v1 : Vec Ideal S20544x4096 .f32) (ValueIdx.ix2 j k) = argW m c (ValueIdx.ix3 0 k j) := by
  have e : (V m c main_v1 : Vec Ideal S20544x4096 .f32)
      = shapeCast _ (transpose S1x20544x4096 [0, 2, 1] (argW m c) transposes_S1x4096x20544_S1x20544x4096_0_2_1)
          shapeCasts_S1x20544x4096_S20544x4096 := by
    unfold V hostOps0; after_results <;> rfl
  rw [e]
  refine (shapeCast_1ab_ab_apply _ _ j k).trans ?_
  exact transpose_apply _ _ _ _ _ fun a => match a with | ⟨0, _⟩ => rfl | ⟨1, _⟩ => rfl | ⟨2, _⟩ => rfl

/-- The rows, as the region finds them: a change of format is no change here. -/
theorem V_main_v2 (c : Dev nD) : (V m c main_v2 : Vec Ideal S6144x4096 .bf16) = argX m c := by
  have e : (V m c main_v2 : Vec Ideal S6144x4096 .bf16)
      = (truncf .bf16 (argX m c : FVec Ideal S6144x4096 .f32) bitsLt_bf16_f32 : FVec Ideal S6144x4096 .bf16) := by
    unfold V hostOps0; after_results <;> rfl
  rw [e]; rfl

/-- The slab of a point, at a position. -/
theorem rowsOf_apply (c : Dev nD) (t : Fin 144) (r : Fin 1024) (k : Fin 4096) :
    rowsOf c (V m c main_v2) t (ValueIdx.ix2 r k) = argX m c (ValueIdx.ix2 ⟨1024 * (t.val % 6) + r.val, by omega⟩ k) := by
  rw [← V_main_v2]
  refine congrArg (V m c main_v2 : Vec Ideal S6144x4096 .bf16) (funext fun a => Fin.ext ?_)
  refine (ValueKit.view_emb_slice_whole_unit_val main_v2 _ _ _ _ a).trans ?_
  match a with
  | ⟨0, _⟩ => rfl
  | ⟨1, _⟩ => exact Nat.zero_add _

theorem index_1 : ∀ t : Fin grid0.N, win0_1.index t = ![t.val % 6, t.val / 6 % 24] := by decide +kernel

/-- What a point leaves in the result's window, at a position. -/
theorem outAt_apply (c : Dev nD) (t : Fin cfg0.N) (r : Fin 1024) (j : Fin 512) :
    outAt m c t (ValueIdx.ix2 r j)
      = proj (argX m c) (argW m c) ⟨1024 * (t.val % 6) + r.val, by omega⟩ ⟨512 * (t.val / 6 % 24) + j.val, by omega⟩ := by
  have hb : (Ring.bk 144 t.val).val = t.val := Ring.bk_val (t.isLt.trans_eq N_0)
  have hX : ∀ k, rowsOf c (V m c main_v2) (Ring.bk 144 t.val) (ValueIdx.ix2 r k)
      = argX m c (ValueIdx.ix2 ⟨1024 * (t.val % 6) + r.val, by omega⟩ k) := fun k => by
    rw [rowsOf_apply]
    refine congrArg (argX m c) (congrArg (fun a => ValueIdx.ix2 a k) (Fin.ext ?_))
    show 1024 * ((Ring.bk 144 t.val).val % 6) + r.val = _
    rw [hb]
  have hW : ∀ k, wwin m c (colOf t.val) (ValueIdx.ix2 j k)
      = argW m c (ValueIdx.ix3 0 k ⟨512 * (t.val / 6 % 24) + j.val, by omega⟩) := fun k => V_main_v1 m c _ _
  unfold outAt proj
  split
  · rw [outFirst_apply, iblk0_eq]
    simp only [hX, hW]
  · rw [outLater_apply]
    have hK : ∀ k, kept (wwin m c (colOf t.val)) (ValueIdx.ix2 k j) = wwin m c (colOf t.val) (ValueIdx.ix2 j k) := fun k => rfl
    simp only [hX, hK, hW]

/-- The result array after the run. -/
theorem result (c : Dev nD) :
    (dats m 0 c).arrAt 1 cfg0.N = (fun i => proj (argX m c) (argW m c) (i 0) (i 1) : Vec Ideal S6144x12288 .f32) := by
  refine (dats m 0 c).arrAt_eq_of_covers 1 _ (by decide +kernel) fun t hf y => ?_
  blk_simp
  rw [after_1]
  refine (congrArg (outAt m c t) (ValueIdx.eq_ix2 y)).trans ((outAt_apply m c t (y 0) (y 1)).trans ?_)
  refine congrArg₂ (proj (argX m c) (argW m c)) (Fin.ext ?_) (Fin.ext ?_)
  · blk_simp [index_1 t]; exact congrArg (· + _) (Nat.mul_comm _ _)
  · blk_simp [index_1 t]; exact congrArg (· + _) (Nat.mul_comm _ _)

end Cert.Kernel2Ideal.Main

end
-- ==== Proof.MainClaims.lean ====
module

public import proofs.«01_k».proof.Defs
public import proofs.«01_k».proof.Proof.Gen.Kernel2
public import proofs.«01_k».proof.Proof.MainValue
public import proofs.«01_k».proof.Proof.Gen.Reference2Ideal.Run
public import Idealize.ShloMosaic.Lib.StackMember
public import Idealize.ShloMosaic.Lib.Quiescent

/-! The reference of the input projection read at a position, and the five claims. -/

@[expose] public section

set_option maxRecDepth 4096

noncomputable section

namespace Cert.Reference2Ideal.Main

open Cert.Reference2Ideal Cert.Reference2Ideal.Gen
open Idealize.ShloMosaic Idealize.ShloMosaic.TcCoe Idealize.ShloMosaic.ValueIdx Idealize.SL.Sem

/-- The first columns of the rows times all the weights, at a position. -/
theorem columns_apply (x : FVec Ideal S6144x4096 .f32) (w : FVec Ideal S1x4096x20544 .f32) (i : S6144x12288.Idx) :
    (extractStridedSlice S6144x12288 ![0, 0] (Host.dotGeneral dot_S6144x4096_S4096x20544_S6144x20544_1_0_0_1_n_n none x
      (shapeCast S4096x20544 w shapeCasts_S1x4096x20544_S4096x20544) : FVec Ideal S6144x20544 .f32)
        slices_S6144x20544_S6144x12288_0_0 : FVec Ideal S6144x12288 .f32) i
      = Cert.Kernel2Ideal.Main.proj x w (i 0) (i 1) := by
  refine Eq.trans (congrArg (Host.dotGeneral (F := Ideal) (DotDims.plain 6144 4096 20544) none x
    (shapeCast S4096x20544 w shapeCasts_S1x4096x20544_S4096x20544)) (?_ : _ = ValueIdx.ix2 (i 0) ⟨(i 1).val, (i 1).isLt.trans (by decide)⟩)) ?_
  · funext a
    apply Fin.ext
    match a with
    | ⟨0, _⟩ => exact Nat.zero_add _
    | ⟨1, _⟩ => exact Nat.zero_add _
  exact Dense.host_product _ _ _ _

variable (m : (ℓ : Loc nD τ sig) → Buf (Elt Ideal) ℓ) (ρ : Dev nD → PrngReg)

/-- The reference's run: its result is the input projection of its arguments, which it leaves unchanged. -/
theorem run : θ_run defs (onTc (τ := τ) (main (F := Ideal))) ⟨m, fun _ => 0, ρ⟩ fun r => ∀ c : Dev nD,
    r.2.mem ((c.tc : Thread nD τ).loc main_v2)
      = (fun i => Cert.Kernel2Ideal.Main.proj (m ((c.tc : Thread nD τ).loc main_arg0)) (m ((c.tc : Thread nD τ).loc main_arg1))
          (i 0) (i 1) : FVec Ideal S6144x12288 .f32)
    ∧ r.2.mem ((c.tc : Thread nD τ).loc main_arg0) = m ((c.tc : Thread nD τ).loc main_arg0)
    ∧ r.2.mem ((c.tc : Thread nD τ).loc main_arg1) = m ((c.tc : Thread nD τ).loc main_arg1) := by
  refine (θ_run defs _ _).mono (fun _ h c => ⟨(h c).1.trans (funext fun i => ?_), (h c).2⟩) (Value.run m ρ)
  exact columns_apply _ _ i

end Cert.Reference2Ideal.Main

namespace Cert.Kernel2Ideal.Main

open Cert.Kernel2Ideal.Gen
open Idealize.ShloMosaic Idealize.ShloMosaic.TcCoe Idealize.SL.Sem

variable {F : FTy → Type} [FloatOps F]

/-- The run leaves the two arguments as launched, and every counter at zero. -/
theorem run_args (m : (ℓ : Loc nD τ sig) → Buf (Elt F) ℓ) (ρ : Dev nD → PrngReg) :
    θ_run defs (onTc (τ := τ) (main (F := F))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0 :=
  (θ_run defs _ _).mono (fun _ h => ⟨fun c =>
      ⟨((h.1 c).2 main_arg0 (Pipeline.mem_restRefs_of main_arg0 (by decide) (by decide))).trans (V_main_arg0 m c),
       ((h.1 c).2 main_arg1 (Pipeline.mem_restRefs_of main_arg1 (by decide) (by decide))).trans (V_main_arg1 m c)⟩, h.2⟩)
    (run_main m ρ)

/-- The kernel as printed has the same table of bodies and the same program text. -/
theorem defs₀_eq : Cert.Kernel2Ideal.defs₀ (F := F) = Cert.Kernel2.defs₀ (F := F) :=
  congrArg Defs.onTc (funext fun l => funext fun a => by
    match l, a with
    | 0, (t, s) => rfl)

theorem frame_ideal : Cert.quiescent_Kernel2Ideal := fun m ρ _ => run_args m ρ

theorem frame_kernel : Cert.quiescent_Kernel2 := fun m ρ _ => by
  have h := run_args (F := Bits) m ρ
  unfold Cert.Kernel2Ideal.defs at h
  rw [defs₀_eq] at h
  exact h

theorem frame_reference : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

/-- At the ideal values the kernel's result is the reference's. -/
theorem algebraic : Cert.algebraic_Kernel2Ideal_Reference2Ideal := fun m ρ m' ρ' _ hag =>
  ⟨fun c => (fun i => proj (argX m c) (argW m c) (i 0) (i 1) : Vec Ideal S6144x12288 .f32),
   (θ_run defs _ _).mono (fun _ h c => ⟨((h.1.1 c).1 1).trans (result m c), h.2.1 c⟩)
     (θ_run_and (run_main m ρ) (run_args m ρ)),
   (θ_run Cert.Reference2Ideal.defs _ _).mono (fun _ h c => ⟨(h c).1.trans (by rw [(hag c).1, (hag c).2]), (h c).2⟩)
     (Cert.Reference2Ideal.Main.run m' ρ')⟩

end Cert.Kernel2Ideal.Main

end
-- ==== Proof.UpRing.lean ====
module

public import proofs.«01_k».proof.Proof.Gen.Kernel3Ideal.Frame
public import proofs.«01_k».proof.Proof.Gen.Kernel3Ideal.Skeleton
public import Idealize.ShloMosaic.Lib.Ring
public import Idealize.ShloMosaic.Lib.Tactic
public import Idealize.ShloMosaic.Lib.WordCmp

/-! The up projection's kernel: its branch conditions over the grid's points, the buffers that its body works on, and its ring. The body
streams the rows of its left operand through three slabs, two blocks ahead, by copies of its own: slot, block and cell at a
point are named here, and what the launch hands to the ring and takes back. -/

@[expose] public section

set_option maxRecDepth 16384

noncomputable section

namespace Cert.Kernel3Ideal.Up

open Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)
/-! ## The launch -/

set_option maxHeartbeats 800000 in
/-- The program up to its region: the host operations, then the region. -/
theorem hmain (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-- Input window 0 holds its block at every point, whether or not it is fetched there. -/
theorem before0_0_of {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-! ## The body's branch conditions -/

/-- The body's condition 0. -/
abbrev cond0_0 (i : grid0.Coords) : Prop := k0_cond1 i = 1#1
/-- It holds at the first point only — decided over the grid. -/
theorem hcond0_0 : ∀ t : Fin cfg0.N, cond0_0 (grid0.coords t) ↔ t.val % 192 = 0 :=
  (by decide +kernel : ∀ t : Fin grid0.N, cond0_0 (grid0.coords t) ↔ t.val % 192 = 0)

/-- The body's condition 1. -/
abbrev cond0_1 (i : grid0.Coords) : Prop := k0_cond2 i = 1#1
/-- It holds at the points before point 190 — decided over the grid. -/
theorem hcond0_1 : ∀ t : Fin cfg0.N, cond0_1 (grid0.coords t) ↔ t.val < 190 :=
  (by decide +kernel : ∀ t : Fin grid0.N, cond0_1 (grid0.coords t) ↔ t.val < 190)

/-- The body's condition 2. -/
abbrev cond0_2 (i : grid0.Coords) : Prop := k0_cond3 i = 1#1
/-- It holds at the points ≡ 0 (mod 6) — by arithmetic of the point. -/
theorem hcond0_2 : ∀ t : Fin cfg0.N, cond0_2 (grid0.coords t) ↔ t.val % 6 = 0 :=
  (fun t => by
    have ht : t.val < 192 := Nat.lt_of_lt_of_eq t.isLt N_0
    have e0 : (grid0.coords t 0).val = t.val / 6 % 32 := Pipeline.Grid.coords_val t 0 (by decide) rfl
    have e1 : (grid0.coords t 1).val = t.val / 1 % 6 := Pipeline.Grid.coords_val t 1 (by decide) rfl
    simp only [cond0_2, k0_cond3, e0, e1]
    word_cmp
   : ∀ t : Fin grid0.N, cond0_2 (grid0.coords t) ↔ t.val % 6 = 0)

/-- The body's condition 3. -/
abbrev cond0_3 (i : grid0.Coords) : Prop := k0_cond4 i = 1#1
/-- It holds at the points whose coordinates have 1 ≤ i1 — decided over the grid. -/
theorem hcond0_3 : ∀ t : Fin cfg0.N, cond0_3 (grid0.coords t) ↔ 1 ≤ t.val % 6 :=
  (by decide +kernel : ∀ t : Fin grid0.N, cond0_3 (grid0.coords t) ↔ 1 ≤ t.val % 6)

/-! ## Where the windows are idle (the printed configuration's table `Cfg.idle`) -/

/-- Window 0 is never idle (an input). -/
theorem liveAt0_0 : ∀ t : Fin cfg0.N, cfg0.idle 0 (grid0.coords t) = false := fun _ => rfl
/-! ## The buffers of the body -/

/-- Each window's current staging memref at point `t`, spelled as the pipeline passes it (`bodyAt0`), and its wholeness. -/
abbrev ms0_0 (t : Fin cfg0.N) : Memref sig .tc .vmem S4096x512 .f32 := win0_0.stage (cfg0.slots t 0)
abbrev ms0_1 (t : Fin cfg0.N) : Memref sig .tc .vmem S1024x512 .bf16 := win0_1.stage (cfg0.slots t 1)
/-- The scratch operands: whole scoped buffers of the kernel's own, passed beside the windows. -/
abbrev scM0_0 : Memref sig .tc .vmem S4096x512 .bf16 := Memref.whole cc0_scratch0
abbrev scM0_1 : Memref sig .tc .vmem S3x1024x4096 .bf16 := Memref.whole cc0_scratch1
/-- The operands left in HBM that the body copies into scratch itself, whole. -/
abbrev hbM0_0 : Memref sig .tc .hbm S6144x4096 .bf16 := Memref.whole main_v0
/-- Memref `M`'s buffer on core `c`: its contents type, and it held whole at `f`. -/
abbrev HbBuf0 (c : Dev nD) {sp : Space} {S : Shape} {e : EltTy} (M : Memref sig .tc sp S e) : Type := Buf (Elt F) (M.view.loc (c : Thread nD τ))
abbrev hbPt0 (c : Dev nD) {sp : Space} {S : Shape} {e : EltTy} (M : Memref sig .tc sp S e) (f : HbBuf0 (F := F) c M) : sProp 𝕄 :=
  M.view.loc (c : Thread nD τ) ↦{fullShare} f

/-- The body's own DMA semaphores, cell by cell (their numbers in the pool): the kernel's own semaphores for the launch
    (`Pipeline.OwnSemFacts`: none is a window's). -/
abbrev osem0 : Fin 3 → SemLoc sig := fun j => (![SemLoc.dma 4, SemLoc.dma 5, SemLoc.dma 6] : Fin 3 → SemLoc sig) j
theorem ownSemFacts0 : Pipeline.OwnSemFacts spec0 osem0 := by decide
/-- The cells at zero, listed. -/
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 4) 0 ∗ semVal ((c : Thread nD τ), SemLoc.dma 5) 0 ∗ semVal ((c : Thread nD τ), SemLoc.dma 6) 0) := by
  rw [Pipeline.ownSems0_eq_of_list c osem0 [0, 1, 2] (by decide) (by decide)]; rfl
/-- The HBM operands the body moves, as references: unscoped, no window's array (`Pipeline.restRefs`). -/
def H0 : Finset (Ref sig .tc) := {main_v0}
theorem H0_sub : H0 ⊆ Pipeline.restRefs sig spec0 := by decide
/-- Their points-tos at the launch contents, listed. -/
theorem hbmPts0_eq (c : Dev nD) :
    (bigSep H0 (fun b => ((c : Thread nD τ).loc b) ↦{fullShare} V m c b) : sProp 𝕄) = iprop(hbPt0 c hbM0_0 (V m c main_v0)) := by
  rw [BI.bigSep_eq_bigSepL_of_eq [main_v0] (by decide) (by decide)]; rfl

/-- The invariant of a body with transfers of its own, `Pipeline.ΦD`, conjunct by conjunct: the scratch operands owned at
    some contents, the generator register at some state, the own cells at zero, the HBM operands at their launch
    contents — what the body obligation hands the run and takes back. -/
theorem PhiD0_eq (c : Dev nD) :
    (Pipeline.ΦD osem0 spec0 H0 (V m) c : sProp 𝕄)
      = iprop(iprop((∃ d, owns (c : Thread nD τ) scM0_0 fullShare d) ∗ (∃ d, owns (c : Thread nD τ) scM0_1 fullShare d)) ∗ (∃ r, prngReg c r) ∗ iprop(semVal ((c : Thread nD τ), SemLoc.dma 4) 0 ∗ semVal ((c : Thread nD τ), SemLoc.dma 5) 0 ∗ semVal ((c : Thread nD τ), SemLoc.dma 6) 0) ∗ iprop(hbPt0 c hbM0_0 (V m c main_v0))) := by
  rw [Pipeline.ΦD_eq, scopedRest0_eq, ownSems00_eq, hbmPts0_eq]; simp only [scM0_0, scM0_1, owns_whole]; try rfl

/-! ## Ring 0 of kernel 0: `main_v0` streamed through the 3 slots of `cc0_scratch1` on the cells of `cc0_scratch2`, 2 block ahead, in 192 steps -/

instance : NeZero grid0.N := ⟨by rw [N_0]; decide⟩
theorem inb_slot0_0 (s : Fin 3) : ∀ a, (![s.val, 0, 0] : Fin 3 → Nat) a + S1x1024x4096.size a ≤ S3x1024x4096.size a := by
  have := s.isLt; intro a; fin_cases a <;> simp <;> omega
theorem inb_src0_0 (b : Fin 192) : ∀ a, (![1024 * (b.val % 6), 0] : Fin 2 → Nat) a + S1024x4096.size a ≤ S6144x4096.size a := by
  have := b.isLt; intro a; fin_cases a <;> simp <;> omega
theorem inb_cell0_0 (s : Fin 3) : ∀ a, (![s.val] : Fin 1 → Nat) a + S1.size a ≤ S3.size a := by
  have := s.isLt; intro a; fin_cases a <;> simp <;> omega
/-- Slot `s` of the ring, spelt as the body's transfers spell their destination, at offsets in `s`. -/
def rslot0_0 (s : Fin 3) : Memref sig .tc .vmem S1024x4096 .bf16 :=
  (scM0_1.slice (Rect.unit (s := S3x1024x4096) ![s.val, 0, 0] S1x1024x4096.size (inb_slot0_0 s)) (fun _ => rfl)).squeeze S1024x4096 squeezes_S1x1024x4096_S1024x4096
/-- Block `b` of the operand (the block step `b` waits), spelt as the transfers spell their source, at offsets in `b`. -/
def srcB0_0 (b : Fin 192) : Memref sig .tc .hbm S1024x4096 .bf16 :=
  hbM0_0.slice (Rect.unit (s := S6144x4096) ![1024 * (b.val % 6), 0] S1024x4096.size (inb_src0_0 b)) (fun _ => rfl)
/-- Cell `s` of `cc0_scratch2`, spelt as the body spells a cell; its number in the pool. -/
def cellA0_0 (s : Fin 3) : DmaSems sig S_ := (cc0_scratch2.slice (Rect.unit (s := S3) ![s.val] S1.size (inb_cell0_0 s))).squeeze S_ squeezes_S1_S_
abbrev cellR0_0 (s : Fin 3) : SemLoc sig := SemLoc.dma (cellA0_0 s).sem
theorem cellR0_0_0 : cellR0_0 0 = SemLoc.dma 4 := by decide
theorem cellR0_0_1 : cellR0_0 1 = SemLoc.dma 5 := by decide
theorem cellR0_0_2 : cellR0_0 2 = SemLoc.dma 6 := by decide

section Ring0_0
variable (c : Dev nD) (W : HbBuf0 (F := F) c hbM0_0)
/-- The operand is lent BY SHARE, one read-share copy of it per slot (the full share halved, the right half halved again):
    whatever blocks the transfers in flight stream — the same one twice, ones that overlap —, each borrows from its own slot's copy. -/
abbrev qs0_0 (s : Fin 3) : PosShare TreeShare := if s.val = 0 then fullShare.left else if s.val = 1 then fullShare.right.left else fullShare.right.right
/-- The families the ring is stated over: slot `s` held at `f`; cell `s` at zero; block `b`'s elements of slot `s`'s copy of the
    operand (what a transfer into slot `s` lends), the REST of that copy, and the copy whole; slot `s`'s contents once block `b`
    landed in it whole over `f`; the FLIGHT of block `b` into slot `s`, delivering the slot landed
    and the lent elements back. -/
abbrev slotP0_0 (s : Fin 3) (f : HbBuf0 (F := F) c (rslot0_0 s)) : sProp 𝕄 := (rslot0_0 s).view.loc (c : Thread nD τ) ↦[(rslot0_0 s).view.set]{fullShare} f
abbrev cellP0_0 (s : Fin 3) : sProp 𝕄 := semVal ((c : Thread nD τ), cellR0_0 s) 0
abbrev srcP0_0 (s : Fin 3) (b : Fin 192) : sProp 𝕄 := (srcB0_0 b).view.loc (c : Thread nD τ) ↦[(srcB0_0 b).view.set]{qs0_0 s} W
/-- The rest of a slot's copy of the operand. -/
def restP0_0 (s : Fin 3) (b : Fin 192) : sProp 𝕄 := ((c : Thread nD τ).loc main_v0) ↦[Finset.univ \ (srcB0_0 b).view.set]{qs0_0 s} W
abbrev wholeP0_0 (s : Fin 3) : sProp 𝕄 := ((c : Thread nD τ).loc main_v0) ↦[Finset.univ]{qs0_0 s} W
abbrev landed0_0 (s : Fin 3) (b : Fin 192) (f : HbBuf0 (F := F) c (rslot0_0 s)) : HbBuf0 (F := F) c (rslot0_0 s) :=
  (rslot0_0 s).view.writes (Elt F) f [⟨Rect.whole S1024x4096, ReadAs.same.apply ((srcB0_0 b).view.read (Elt F) W)⟩]
abbrev flightP0_0 (s : Fin 3) (b : Fin 192) (f : HbBuf0 (F := F) c (rslot0_0 s)) : sProp 𝕄 :=
  Transfers.Flight countersEmb (c : Thread nD τ) (cellR0_0 s) default ((rslot0_0 s).view.amount (cellR0_0 s))
    iprop(slotP0_0 c s (landed0_0 c W s b f) ∗ srcP0_0 c W s b)
/-- Lib/Ring.lean's `slot` and `flight` families: a slot not in flight carries its copy of the operand whole; a flight, the
    rest of the copy it borrowed from. No block is held apart: the `home` family is `emp`. -/
abbrev slotW0_0 (s : Fin 3) (f : HbBuf0 (F := F) c (rslot0_0 s)) : sProp 𝕄 := iprop(slotP0_0 c s f ∗ wholeP0_0 c W s)
abbrev flightW0_0 (s : Fin 3) (b : Fin 192) (f : HbBuf0 (F := F) c (rslot0_0 s)) : sProp 𝕄 := iprop(flightP0_0 c W s b f ∗ restP0_0 c W s b)
abbrev noHome0_0 (b : Fin 192) : sProp 𝕄 := iprop(emp)
/-- The ring before its step `k` (Lib/Ring.lean `At 2`): every slot free before the first; from then on blocks `k` and `k + 1` in
    flight into slots `k` and `k + 1` (while they exist), slot `k + 2` free; a waited block is read within its step and not kept. -/
def ringAt0_0 (k : ℕ) : sProp 𝕄 :=
  if k = 0 then Ring.At₀ (cellP0_0 c) (slotW0_0 c W) noHome0_0
  else Ring.At 2 (cellP0_0 c) (slotW0_0 c W) noHome0_0 (flightW0_0 c W) k
omit [FloatOps F] in
theorem cellP0_0_0 : cellP0_0 (F := F) c 0 = semVal ((c : Thread nD τ), SemLoc.dma 4) 0 := congrArg (fun x => (semVal ((c : Thread nD τ), x) 0 : sProp 𝕄)) cellR0_0_0
omit [FloatOps F] in
theorem cellP0_0_1 : cellP0_0 (F := F) c 1 = semVal ((c : Thread nD τ), SemLoc.dma 5) 0 := congrArg (fun x => (semVal ((c : Thread nD τ), x) 0 : sProp 𝕄)) cellR0_0_1
omit [FloatOps F] in
theorem cellP0_0_2 : cellP0_0 (F := F) c 2 = semVal ((c : Thread nD τ), SemLoc.dma 6) 0 := congrArg (fun x => (semVal ((c : Thread nD τ), x) 0 : sProp 𝕄)) cellR0_0_2
end Ring0_0

/-! ### The slots, disjoint and covering the scratch (Lib/Ring.lean `lead_disjoint` / `lead_cover`) -/

abbrev slotSet0_0 (s : Fin 3) : Finset S3x1024x4096.Idx := (Rect.unit (s := S3x1024x4096) ![s.val, 0, 0] S1x1024x4096.size (inb_slot0_0 s)).set
theorem slotSet0_0_eq (s : Fin 3) : (rslot0_0 s).view.set = slotSet0_0 s := by
  simp only [rslot0_0, Memref.view_squeeze, View.set_reshape]; exact View.set_slice_whole _ _
theorem slots0_0_disjoint (s s' : Fin 3) (h : s ≠ s') : Disjoint (slotSet0_0 s) (slotSet0_0 s') :=
  Ring.lead_disjoint (s := S3x1024x4096) (0 : Fin 3) 1 (fun s : Fin 3 => (![s.val, 0, 0] : Fin 3 → Nat)) S1x1024x4096.size inb_slot0_0 (fun s => by simp) rfl s s' h
theorem slots0_0_cover : Finset.univ.biUnion slotSet0_0 = Finset.univ :=
  Ring.lead_cover (s := S3x1024x4096) (0 : Fin 3) 1 (fun s : Fin 3 => (![s.val, 0, 0] : Fin 3 → Nat)) S1x1024x4096.size inb_slot0_0 (fun s => by simp)
    (fun s a ha => by fin_cases a <;> first | exact absurd rfl ha | rfl) rfl (fun a ha => by fin_cases a <;> first | exact absurd rfl ha | rfl) rfl

/-! ### What the launch hands the ring, and takes back -/

section InOut0_0
variable (c : Dev nD) (W : HbBuf0 (F := F) c hbM0_0)
theorem slotP0_0_eq (s : Fin 3) (f) : slotP0_0 (F := F) c s f = (((c : Thread nD τ).loc cc0_scratch1) ↦[slotSet0_0 s]{fullShare} f : sProp 𝕄) := by
  unfold slotP0_0; rw [slotSet0_0_eq]; rfl
/-- A slot's copy of the operand, whole, is block `b`'s elements and the rest (any `b`: what a run splits off before its step
    starts block `b`, and joins back once the wait returned it); -/
theorem src0_0_split (s : Fin 3) (b : Fin 192) : wholeP0_0 (F := F) c W s ⊣⊢ iprop(srcP0_0 c W s b ∗ restP0_0 c W s b) := by
  unfold restP0_0; exact pointsTo_split_subset (Finset.subset_univ _)
/-- the operand whole at the full share is the three copies (halves, the right one halved again). -/
theorem whole0_0_split : (hbPt0 c hbM0_0 W : sProp 𝕄) ⊣⊢ iprop(wholeP0_0 c W 0 ∗ wholeP0_0 c W 1 ∗ wholeP0_0 c W 2) := by
  refine ⟨?_, ?_⟩
  · iintro H
    ihave H' := (pointsTo_share (PosShare.mem_left_op_right fullShare)).1 $$ H
    icases H' with ⟨H0, H12⟩
    ihave H'' := (pointsTo_share (PosShare.mem_left_op_right fullShare.right)).1 $$ H12
    icases H'' with ⟨H1, H2⟩
    isplitl [H0]; · iexact H0
    isplitl [H1]; · iexact H1
    iexact H2
  · iintro ⟨H0, H1, H2⟩
    iapply (pointsTo_share (PosShare.mem_left_op_right fullShare)).2
    isplitl [H0]; · iexact H0
    iapply (pointsTo_share (PosShare.mem_left_op_right fullShare.right)).2
    isplitl [H1]; · iexact H1
    iexact H2
set_option maxHeartbeats 1000000 in
/-- the scratch whole at anything is its slots at something each, and back. -/
theorem slots0_0_in : iprop(∃ d, owns (c : Thread nD τ) scM0_1 fullShare d) ⊢ (iprop((∃ f, slotP0_0 (F := F) c 0 f) ∗ (∃ f, slotP0_0 (F := F) c 1 f) ∗ ∃ f, slotP0_0 (F := F) c 2 f) : sProp 𝕄) := by
  simp only [scM0_1, owns_whole]
  exact Ring.slots3_split (U := Pipeline.UD sig nD τ) (ℓ := (c : Thread nD τ).loc cc0_scratch1) (q := fullShare) slotSet0_0 slots0_0_disjoint slots0_0_cover
    (slotP0_0 c 0) (slotP0_0 c 1) (slotP0_0 c 2) (slotP0_0_eq c 0) (slotP0_0_eq c 1) (slotP0_0_eq c 2)
set_option maxHeartbeats 1000000 in
theorem slots0_0_out : (iprop((∃ f, slotP0_0 (F := F) c 0 f) ∗ (∃ f, slotP0_0 (F := F) c 1 f) ∗ ∃ f, slotP0_0 (F := F) c 2 f) : sProp 𝕄) ⊢ iprop(∃ d, owns (c : Thread nD τ) scM0_1 fullShare d) := by
  simp only [scM0_1, owns_whole]
  exact Ring.slots3_join (U := Pipeline.UD sig nD τ) (ℓ := (c : Thread nD τ).loc cc0_scratch1) (q := fullShare) slotSet0_0 slots0_0_disjoint slots0_0_cover
    (slotP0_0 c 0) (slotP0_0 c 1) (slotP0_0 c 2) (slotP0_0_eq c 0) (slotP0_0_eq c 1) (slotP0_0_eq c 2)
end InOut0_0

/-- INTO THE RING: the launch's pieces — the scratch whole, the cells at zero, the operand whole — are the ring before its first step; -/
theorem ring0_0_in (c : Dev nD) :
    iprop((∃ d, owns (c : Thread nD τ) scM0_1 fullShare d) ∗ (semVal ((c : Thread nD τ), SemLoc.dma 4) 0 ∗ semVal ((c : Thread nD τ), SemLoc.dma 5) 0 ∗ semVal ((c : Thread nD τ), SemLoc.dma 6) 0) ∗ hbPt0 c hbM0_0 (V m c main_v0))
      ⊢ ringAt0_0 c (V m c main_v0) 0 := by
  unfold ringAt0_0; rw [if_pos rfl]; unfold Ring.At₀
  rw [Ring.bigSep_fin3]
  simp only [Ring.free, cellP0_0_0, cellP0_0_1, cellP0_0_2]
  iintro ⟨HS, Hc, HW⟩
  iapply Ring.with_homes₀
  icases Hc with ⟨H0, H1, H2⟩
  ihave HS' := (slots0_0_in (F := F) c) $$ HS
  icases HS' with ⟨⟨%d0, HS0⟩, ⟨%d1, HS1⟩, ⟨%d2, HS2⟩⟩
  ihave HW' := (whole0_0_split (F := F) c (V m c main_v0)).1 $$ HW
  icases HW' with ⟨HW0, HW1, HW2⟩
  isplitl [H0 HS0 HW0]
  · isplitl [H0]; · iexact H0
    iexists d0; isplitl [HS0]; · iexact HS0
    iexact HW0
  isplitl [H1 HS1 HW1]
  · isplitl [H1]; · iexact H1
    iexists d1; isplitl [HS1]; · iexact HS1
    iexact HW1
  · isplitl [H2]; · iexact H2
    iexists d2; isplitl [HS2]; · iexact HS2
    iexact HW2
/-- OUT OF THE RING: after the last step (every slot kept or free: the kept blocks forgotten) those pieces again. -/
theorem ring0_0_out (c : Dev nD) :
    ringAt0_0 c (V m c main_v0) 192
      ⊢ iprop((∃ d, owns (c : Thread nD τ) scM0_1 fullShare d) ∗ (semVal ((c : Thread nD τ), SemLoc.dma 4) 0 ∗ semVal ((c : Thread nD τ), SemLoc.dma 5) 0 ∗ semVal ((c : Thread nD τ), SemLoc.dma 6) 0) ∗ hbPt0 c hbM0_0 (V m c main_v0)) := by
  unfold ringAt0_0; rw [if_neg (by decide)]
  iintro H
  ihave H' := (Ring.free3_of_At_last _ _ _ _) $$ H
  simp only [Ring.free, cellP0_0_0, cellP0_0_1, cellP0_0_2]
  icases H' with ⟨-, ⟨H0, ⟨%f0, HS0, HW0⟩⟩, ⟨H1, ⟨%f1, HS1, HW1⟩⟩, ⟨H2, ⟨%f2, HS2, HW2⟩⟩⟩
  isplitl [HS0 HS1 HS2]
  · iapply (slots0_0_out (F := F) c); isplitl [HS0]; · iexists f0; iexact HS0
    isplitl [HS1]; · iexists f1; iexact HS1
    iexists f2; iexact HS2
  isplitl [H0 H1 H2]
  · isplitl [H0]; · iexact H0
    isplitl [H1]; · iexact H1
    iexact H2
  · iapply (whole0_0_split (F := F) c (V m c main_v0)).2; isplitl [HW0]; · iexact HW0
    isplitl [HW1]; · iexact HW1
    iexact HW2

/-! ### Ring 0's steps at each case's points, and its canonical names: the body's operands at point `t` are the ring's slots, blocks and cells -/

section Canon0_0
omit [FloatOps F]
/-- At the points of case A the ring takes its FIRST step. -/
theorem rstep0_0_A : ∀ t : Fin grid0.N, cond0_0 (grid0.coords t) → cond0_1 (grid0.coords t) → cond0_2 (grid0.coords t) → ¬cond0_3 (grid0.coords t) → t.val = 0 ∧ (t.val + 1) = 1 := by decide +kernel
/-- At the points of case B the ring takes a step, a block still to start. -/
theorem rstep0_0_B : ∀ t : Fin grid0.N, ¬cond0_0 (grid0.coords t) → cond0_1 (grid0.coords t) → ¬cond0_2 (grid0.coords t) → cond0_3 (grid0.coords t) → 1 ≤ t.val ∧ t.val + 2 < 192 ∧ (t.val + 1) = t.val + 1 := by decide +kernel
/-- At the points of case C the ring takes a step, a block still to start. -/
theorem rstep0_0_C : ∀ t : Fin grid0.N, ¬cond0_0 (grid0.coords t) → cond0_1 (grid0.coords t) → cond0_2 (grid0.coords t) → ¬cond0_3 (grid0.coords t) → 1 ≤ t.val ∧ t.val + 2 < 192 ∧ (t.val + 1) = t.val + 1 := by decide +kernel
/-- At the points of case D the ring takes its LAST step. -/
theorem rstep0_0_D : ∀ t : Fin grid0.N, ¬cond0_0 (grid0.coords t) → ¬cond0_1 (grid0.coords t) → ¬cond0_2 (grid0.coords t) → cond0_3 (grid0.coords t) → 1 ≤ t.val ∧ 192 ≤ t.val + 2 ∧ t.val < 192 ∧ (t.val + 1) = t.val + 1 := by decide +kernel
set_option synthInstance.maxSize 4096 in
theorem coff0_0_1 : ∀ t : Fin grid0.N, cond0_0 (grid0.coords t) → cond0_1 (grid0.coords t) → cond0_2 (grid0.coords t) → ¬cond0_3 (grid0.coords t) → (![0, 0, 0] : Fin 3 → Nat) = ![(Ring.sl 3 t.val).val, 0, 0] := by decide +kernel
@[sl_canon] theorem canon0_0_1 (t : Fin grid0.N) (h0 : cond0_0 (grid0.coords t)) (h1 : cond0_1 (grid0.coords t)) (h2 : cond0_2 (grid0.coords t)) (h3 : ¬cond0_3 (grid0.coords t)) :
    (scM0_1.slice (Rect.unit (s := S3x1024x4096) ![0, 0, 0] S1x1024x4096.size inb_S3x1024x4096_S1x1024x4096_0_0_0) (fun _ => rfl)).squeeze S1024x4096 squeezes_S1x1024x4096_S1024x4096 = rslot0_0 (Ring.sl 3 t.val) :=
  congrArg (fun M : Memref sig .tc .vmem S1x1024x4096 .bf16 => M.squeeze S1024x4096 squeezes_S1x1024x4096_S1024x4096) (Memref.slice_unit_congr _ (coff0_0_1 t h0 h1 h2 h3) _ _ (fun _ => rfl) (fun _ => rfl))
set_option synthInstance.maxSize 4096 in
theorem coff0_0_2 : ∀ t : Fin grid0.N, cond0_0 (grid0.coords t) → cond0_1 (grid0.coords t) → cond0_2 (grid0.coords t) → ¬cond0_3 (grid0.coords t) → (![0] : Fin 1 → Nat) = ![(Ring.sl 3 t.val).val] := by decide +kernel
@[sl_canon] theorem canon0_0_2 (t : Fin grid0.N) (h0 : cond0_0 (grid0.coords t)) (h1 : cond0_1 (grid0.coords t)) (h2 : cond0_2 (grid0.coords t)) (h3 : ¬cond0_3 (grid0.coords t)) :
    (cc0_scratch2.slice (Rect.unit (s := S3) ![0] S1.size inb_S3_S1_0)).squeeze S_ squeezes_S1_S_ = cellA0_0 (Ring.sl 3 t.val) :=
  congrArg (fun A : DmaSems sig S1 => A.squeeze S_ squeezes_S1_S_) (SemArray.slice_unit_congr _ (coff0_0_2 t h0 h1 h2 h3) _ _)
set_option synthInstance.maxSize 4096 in
theorem coff0_0_3 : ∀ t : Fin grid0.N, cond0_0 (grid0.coords t) → cond0_1 (grid0.coords t) → cond0_2 (grid0.coords t) → ¬cond0_3 (grid0.coords t) → (![0, 0] : Fin 2 → Nat) = ![1024 * ((Ring.bk 192 t.val).val % 6), 0] := by decide +kernel
@[sl_canon] theorem canon0_0_3 (t : Fin grid0.N) (h0 : cond0_0 (grid0.coords t)) (h1 : cond0_1 (grid0.coords t)) (h2 : cond0_2 (grid0.coords t)) (h3 : ¬cond0_3 (grid0.coords t)) :
    hbM0_0.slice (Rect.unit (s := S6144x4096) ![0, 0] S1024x4096.size inb_S6144x4096_S1024x4096_0_0) (fun _ => rfl) = srcB0_0 (Ring.bk 192 t.val) :=
  congrArg (fun M : Memref sig .tc .hbm S1024x4096 .bf16 => M) (Memref.slice_unit_congr _ (coff0_0_3 t h0 h1 h2 h3) _ _ (fun _ => rfl) (fun _ => rfl))
set_option synthInstance.maxSize 4096 in
theorem coff0_0_4 : ∀ t : Fin grid0.N, cond0_0 (grid0.coords t) → cond0_1 (grid0.coords t) → cond0_2 (grid0.coords t) → ¬cond0_3 (grid0.coords t) → (![1, 0, 0] : Fin 3 → Nat) = ![(Ring.sl 3 (t.val + 1)).val, 0, 0] := by decide +kernel
@[sl_canon] theorem canon0_0_4 (t : Fin grid0.N) (h0 : cond0_0 (grid0.coords t)) (h1 : cond0_1 (grid0.coords t)) (h2 : cond0_2 (grid0.coords t)) (h3 : ¬cond0_3 (grid0.coords t)) :
    (scM0_1.slice (Rect.unit (s := S3x1024x4096) ![1, 0, 0] S1x1024x4096.size inb_S3x1024x4096_S1x1024x4096_1_0_0) (fun _ => rfl)).squeeze S1024x4096 squeezes_S1x1024x4096_S1024x4096 = rslot0_0 (Ring.sl 3 (t.val + 1)) :=
  congrArg (fun M : Memref sig .tc .vmem S1x1024x4096 .bf16 => M.squeeze S1024x4096 squeezes_S1x1024x4096_S1024x4096) (Memref.slice_unit_congr _ (coff0_0_4 t h0 h1 h2 h3) _ _ (fun _ => rfl) (fun _ => rfl))
set_option synthInstance.maxSize 4096 in
theorem coff0_0_5 : ∀ t : Fin grid0.N, cond0_0 (grid0.coords t) → cond0_1 (grid0.coords t) → cond0_2 (grid0.coords t) → ¬cond0_3 (grid0.coords t) → (![1] : Fin 1 → Nat) = ![(Ring.sl 3 (t.val + 1)).val] := by decide +kernel
@[sl_canon] theorem canon0_0_5 (t : Fin grid0.N) (h0 : cond0_0 (grid0.coords t)) (h1 : cond0_1 (grid0.coords t)) (h2 : cond0_2 (grid0.coords t)) (h3 : ¬cond0_3 (grid0.coords t)) :
    (cc0_scratch2.slice (Rect.unit (s := S3) ![1] S1.size inb_S3_S1_1)).squeeze S_ squeezes_S1_S_ = cellA0_0 (Ring.sl 3 (t.val + 1)) :=
  congrArg (fun A : DmaSems sig S1 => A.squeeze S_ squeezes_S1_S_) (SemArray.slice_unit_congr _ (coff0_0_5 t h0 h1 h2 h3) _ _)
set_option synthInstance.maxSize 4096 in
theorem coff0_0_6 : ∀ t : Fin grid0.N, cond0_0 (grid0.coords t) → cond0_1 (grid0.coords t) → cond0_2 (grid0.coords t) → ¬cond0_3 (grid0.coords t) → (![1024, 0] : Fin 2 → Nat) = ![1024 * ((Ring.bk 192 (t.val + 1)).val % 6), 0] := by decide +kernel
@[sl_canon] theorem canon0_0_6 (t : Fin grid0.N) (h0 : cond0_0 (grid0.coords t)) (h1 : cond0_1 (grid0.coords t)) (h2 : cond0_2 (grid0.coords t)) (h3 : ¬cond0_3 (grid0.coords t)) :
    hbM0_0.slice (Rect.unit (s := S6144x4096) ![1024, 0] S1024x4096.size inb_S6144x4096_S1024x4096_1024_0) (fun _ => rfl) = srcB0_0 (Ring.bk 192 (t.val + 1)) :=
  congrArg (fun M : Memref sig .tc .hbm S1024x4096 .bf16 => M) (Memref.slice_unit_congr _ (coff0_0_6 t h0 h1 h2 h3) _ _ (fun _ => rfl) (fun _ => rfl))
set_option synthInstance.maxSize 4096 in
theorem coff0_0_7 : ∀ t : Fin grid0.N, k0_off2 (grid0.coords t) = ![(Ring.sl 3 (t.val + 2)).val, 0, 0] := by decide +kernel
@[sl_canon] theorem canon0_0_7 (t : Fin grid0.N) (h1 : cond0_1 (grid0.coords t)) :
    (scM0_1.slice (Rect.unit (s := S3x1024x4096) (k0_off2 (grid0.coords t)) S1x1024x4096.size (k0_off2_inb (grid0.coords t) h1)) (fun _ => rfl)).squeeze S1024x4096 squeezes_S1x1024x4096_S1024x4096 = rslot0_0 (Ring.sl 3 (t.val + 2)) :=
  congrArg (fun M : Memref sig .tc .vmem S1x1024x4096 .bf16 => M.squeeze S1024x4096 squeezes_S1x1024x4096_S1024x4096) (Memref.slice_unit_congr _ (coff0_0_7 t ) _ _ (fun _ => rfl) (fun _ => rfl))
set_option synthInstance.maxSize 4096 in
theorem coff0_0_8 : ∀ t : Fin grid0.N, k0_off1 (grid0.coords t) = ![(Ring.sl 3 (t.val + 2)).val] := by decide +kernel
@[sl_canon] theorem canon0_0_8 (t : Fin grid0.N) (h1 : cond0_1 (grid0.coords t)) :
    (cc0_scratch2.slice (Rect.unit (s := S3) (k0_off1 (grid0.coords t)) S1.size (k0_off1_inb (grid0.coords t) h1))).squeeze S_ squeezes_S1_S_ = cellA0_0 (Ring.sl 3 (t.val + 2)) :=
  congrArg (fun A : DmaSems sig S1 => A.squeeze S_ squeezes_S1_S_) (SemArray.slice_unit_congr _ (coff0_0_8 t ) _ _)
set_option synthInstance.maxSize 4096 in
theorem coff0_0_9 : ∀ t : Fin grid0.N, cond0_0 (grid0.coords t) → cond0_1 (grid0.coords t) → cond0_2 (grid0.coords t) → ¬cond0_3 (grid0.coords t) → k0_off3 (grid0.coords t) = ![1024 * ((Ring.bk 192 (t.val + 2)).val % 6), 0] := by decide +kernel
@[sl_canon] theorem canon0_0_9 (t : Fin grid0.N) (h0 : cond0_0 (grid0.coords t)) (h1 : cond0_1 (grid0.coords t)) (h2 : cond0_2 (grid0.coords t)) (h3 : ¬cond0_3 (grid0.coords t)) :
    hbM0_0.slice (Rect.unit (s := S6144x4096) (k0_off3 (grid0.coords t)) S1024x4096.size (k0_off3_inb (grid0.coords t) h1)) (fun _ => rfl) = srcB0_0 (Ring.bk 192 (t.val + 2)) :=
  congrArg (fun M : Memref sig .tc .hbm S1024x4096 .bf16 => M) (Memref.slice_unit_congr _ (coff0_0_9 t h0 h1 h2 h3) _ _ (fun _ => rfl) (fun _ => rfl))
set_option synthInstance.maxSize 4096 in
theorem coff0_0_10 : ∀ t : Fin grid0.N, k0_off5 (grid0.coords t) = ![(Ring.sl 3 t.val).val, 0, 0] := by decide +kernel
@[sl_canon] theorem canon0_0_10 (t : Fin grid0.N) :
    (scM0_1.slice (Rect.unit (s := S3x1024x4096) (k0_off5 (grid0.coords t)) S1x1024x4096.size (k0_off5_inb (grid0.coords t))) (fun _ => rfl)).squeeze S1024x4096 squeezes_S1x1024x4096_S1024x4096 = rslot0_0 (Ring.sl 3 t.val) :=
  congrArg (fun M : Memref sig .tc .vmem S1x1024x4096 .bf16 => M.squeeze S1024x4096 squeezes_S1x1024x4096_S1024x4096) (Memref.slice_unit_congr _ (coff0_0_10 t ) _ _ (fun _ => rfl) (fun _ => rfl))
set_option synthInstance.maxSize 4096 in
theorem coff0_0_11 : ∀ t : Fin grid0.N, k0_off4 (grid0.coords t) = ![(Ring.sl 3 t.val).val] := by decide +kernel
@[sl_canon] theorem canon0_0_11 (t : Fin grid0.N) :
    (cc0_scratch2.slice (Rect.unit (s := S3) (k0_off4 (grid0.coords t)) S1.size (k0_off4_inb (grid0.coords t)))).squeeze S_ squeezes_S1_S_ = cellA0_0 (Ring.sl 3 t.val) :=
  congrArg (fun A : DmaSems sig S1 => A.squeeze S_ squeezes_S1_S_) (SemArray.slice_unit_congr _ (coff0_0_11 t ) _ _)
set_option synthInstance.maxSize 4096 in
theorem coff0_0_12 : ∀ t : Fin grid0.N, ¬cond0_0 (grid0.coords t) → cond0_1 (grid0.coords t) → ¬cond0_2 (grid0.coords t) → cond0_3 (grid0.coords t) → k0_off3 (grid0.coords t) = ![1024 * ((Ring.bk 192 (t.val + 2)).val % 6), 0] := by decide +kernel
@[sl_canon] theorem canon0_0_12 (t : Fin grid0.N) (h0 : ¬cond0_0 (grid0.coords t)) (h1 : cond0_1 (grid0.coords t)) (h2 : ¬cond0_2 (grid0.coords t)) (h3 : cond0_3 (grid0.coords t)) :
    hbM0_0.slice (Rect.unit (s := S6144x4096) (k0_off3 (grid0.coords t)) S1024x4096.size (k0_off3_inb (grid0.coords t) h1)) (fun _ => rfl) = srcB0_0 (Ring.bk 192 (t.val + 2)) :=
  congrArg (fun M : Memref sig .tc .hbm S1024x4096 .bf16 => M) (Memref.slice_unit_congr _ (coff0_0_12 t h0 h1 h2 h3) _ _ (fun _ => rfl) (fun _ => rfl))
set_option synthInstance.maxSize 4096 in
theorem coff0_0_13 : ∀ t : Fin grid0.N, ¬cond0_0 (grid0.coords t) → cond0_1 (grid0.coords t) → cond0_2 (grid0.coords t) → ¬cond0_3 (grid0.coords t) → k0_off3 (grid0.coords t) = ![1024 * ((Ring.bk 192 (t.val + 2)).val % 6), 0] := by decide +kernel
@[sl_canon] theorem canon0_0_13 (t : Fin grid0.N) (h0 : ¬cond0_0 (grid0.coords t)) (h1 : cond0_1 (grid0.coords t)) (h2 : cond0_2 (grid0.coords t)) (h3 : ¬cond0_3 (grid0.coords t)) :
    hbM0_0.slice (Rect.unit (s := S6144x4096) (k0_off3 (grid0.coords t)) S1024x4096.size (k0_off3_inb (grid0.coords t) h1)) (fun _ => rfl) = srcB0_0 (Ring.bk 192 (t.val + 2)) :=
  congrArg (fun M : Memref sig .tc .hbm S1024x4096 .bf16 => M) (Memref.slice_unit_congr _ (coff0_0_13 t h0 h1 h2 h3) _ _ (fun _ => rfl) (fun _ => rfl))
set_option synthInstance.maxSize 4096 in
theorem coff0_0_14 : ∀ t : Fin grid0.N, k0_off7 (grid0.coords t) = ![(Ring.sl 3 t.val).val, 0, 0] := by decide +kernel
/-- A load of the slab, at offsets in its slot. -/
instance (priority := high) closedOff0_0_14 (t : Fin grid0.N) : ClosedOff (k0_off7 (grid0.coords t)) := ⟨![(Ring.sl 3 t.val).val, 0, 0], coff0_0_14 t⟩
set_option synthInstance.maxSize 4096 in
theorem coff0_0_15 : ∀ t : Fin grid0.N, k0_off8 (grid0.coords t) = ![(Ring.sl 3 t.val).val, 0, 512] := by decide +kernel
/-- A load of the slab, at offsets in its slot. -/
instance (priority := high) closedOff0_0_15 (t : Fin grid0.N) : ClosedOff (k0_off8 (grid0.coords t)) := ⟨![(Ring.sl 3 t.val).val, 0, 512], coff0_0_15 t⟩
set_option synthInstance.maxSize 4096 in
theorem coff0_0_16 : ∀ t : Fin grid0.N, k0_off9 (grid0.coords t) = ![(Ring.sl 3 t.val).val, 0, 1024] := by decide +kernel
/-- A load of the slab, at offsets in its slot. -/
instance (priority := high) closedOff0_0_16 (t : Fin grid0.N) : ClosedOff (k0_off9 (grid0.coords t)) := ⟨![(Ring.sl 3 t.val).val, 0, 1024], coff0_0_16 t⟩
set_option synthInstance.maxSize 4096 in
theorem coff0_0_17 : ∀ t : Fin grid0.N, k0_off10 (grid0.coords t) = ![(Ring.sl 3 t.val).val, 0, 1536] := by decide +kernel
/-- A load of the slab, at offsets in its slot. -/
instance (priority := high) closedOff0_0_17 (t : Fin grid0.N) : ClosedOff (k0_off10 (grid0.coords t)) := ⟨![(Ring.sl 3 t.val).val, 0, 1536], coff0_0_17 t⟩
set_option synthInstance.maxSize 4096 in
theorem coff0_0_18 : ∀ t : Fin grid0.N, k0_off11 (grid0.coords t) = ![(Ring.sl 3 t.val).val, 0, 2048] := by decide +kernel
/-- A load of the slab, at offsets in its slot. -/
instance (priority := high) closedOff0_0_18 (t : Fin grid0.N) : ClosedOff (k0_off11 (grid0.coords t)) := ⟨![(Ring.sl 3 t.val).val, 0, 2048], coff0_0_18 t⟩
set_option synthInstance.maxSize 4096 in
theorem coff0_0_19 : ∀ t : Fin grid0.N, k0_off12 (grid0.coords t) = ![(Ring.sl 3 t.val).val, 0, 2560] := by decide +kernel
/-- A load of the slab, at offsets in its slot. -/
instance (priority := high) closedOff0_0_19 (t : Fin grid0.N) : ClosedOff (k0_off12 (grid0.coords t)) := ⟨![(Ring.sl 3 t.val).val, 0, 2560], coff0_0_19 t⟩
set_option synthInstance.maxSize 4096 in
theorem coff0_0_20 : ∀ t : Fin grid0.N, k0_off13 (grid0.coords t) = ![(Ring.sl 3 t.val).val, 0, 3072] := by decide +kernel
/-- A load of the slab, at offsets in its slot. -/
instance (priority := high) closedOff0_0_20 (t : Fin grid0.N) : ClosedOff (k0_off13 (grid0.coords t)) := ⟨![(Ring.sl 3 t.val).val, 0, 3072], coff0_0_20 t⟩
set_option synthInstance.maxSize 4096 in
theorem coff0_0_21 : ∀ t : Fin grid0.N, k0_off14 (grid0.coords t) = ![(Ring.sl 3 t.val).val, 0, 3584] := by decide +kernel
/-- A load of the slab, at offsets in its slot. -/
instance (priority := high) closedOff0_0_21 (t : Fin grid0.N) : ClosedOff (k0_off14 (grid0.coords t)) := ⟨![(Ring.sl 3 t.val).val, 0, 3584], coff0_0_21 t⟩
set_option synthInstance.maxSize 4096 in
theorem coff0_0_22 : ∀ t : Fin grid0.N, k0_off15 (grid0.coords t) = ![(Ring.sl 3 t.val).val, 0, 0] := by decide +kernel
/-- A load of the slab, at offsets in its slot. -/
instance (priority := high) closedOff0_0_22 (t : Fin grid0.N) : ClosedOff (k0_off15 (grid0.coords t)) := ⟨![(Ring.sl 3 t.val).val, 0, 0], coff0_0_22 t⟩
end Canon0_0

end Cert.Kernel3Ideal.Up

end
-- ==== Proof.UpRun.lean ====
module

public import proofs.«01_k».proof.Proof.UpRing
public import proofs.«01_k».proof.Proof.Slab
public import Idealize.ShloMosaic.Lib.VecWindow
public import Idealize.ShloMosaic.Lib.Pipeline.ValueKit

/-! One grid step of the up projection's kernel, with what it leaves named.

At the first row block of a column block the step casts the window of the weights, keeps it in the scratch, and sums eight
partial products; at the later row blocks it multiplies the whole slab by the kept scratch. Either way it stores the square
of the product's positive part. -/

@[expose] public section

set_option maxRecDepth 16384

noncomputable section

namespace Cert.Kernel3Ideal.Up

open Cert.Kernel3Ideal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- A window of the weights, cast: what the scratch keeps for a column block. -/
def kept (x0 : Vec F S4096x512 .f32) : Vec F S4096x512 .bf16 := fun i => FloatOps.truncf .bf16 bitsLt_bf16_f32 (x0 i)

/-- What the first row block of a column block leaves: eight partial products of the slab's columns and the window's rows. -/
def outFirst (X : Vec F S1024x4096 .bf16) (x0 : Vec F S4096x512 .f32) : Vec F S1024x512 .bf16 :=
  k0_pay4 (k0_pay20 (k0_pay12 (Slab.rows 0 (by decide) x0) (Slab.cols 512 0 (by decide) X)
      (Slab.rows 512 (by decide) x0) (Slab.cols 512 512 (by decide) X) (Slab.rows 1024 (by decide) x0) (Slab.cols 512 1024 (by decide) X))
    (k0_pay13 (Slab.rows 1536 (by decide) x0)) (Slab.cols 512 1536 (by decide) X) (Slab.rows 2048 (by decide) x0)
      (Slab.cols 512 2048 (by decide) X) (Slab.rows 2560 (by decide) x0) (Slab.cols 512 2560 (by decide) X))
    (k0_pay21 (Slab.rows 3072 (by decide) x0)) (Slab.cols 512 3072 (by decide) X) (Slab.rows 3584 (by decide) x0)
      (Slab.cols 512 3584 (by decide) X)

/-- What a later row block leaves: the whole slab times the kept weights. -/
def outLater (X : Vec F S1024x4096 .bf16) (wb : Vec F S4096x512 .bf16) : Vec F S1024x512 .bf16 :=
  k0_pay5 (Slab.cols 4096 0 (by decide) X) wb

/-- A load of `n` columns of a slot of the ring, once the slot holds `X`. -/
theorem readAt_ring {n : ℕ} (s : Fin 3) (f) (X : Vec F S1024x4096 .bf16) (k : ℕ) (hk : k + n ≤ 4096) {off : Fin 3 → ℕ}
    (inb : ∀ x, off x + (⟨3, ![1, 1024, n]⟩ : Shape).size x ≤ S3x1024x4096.size x) (ho : off = ![s.val, 0, k]) :
    View.readAt (Elt F) scM0_1.view (Rect.unit (s := S3x1024x4096) off (⟨3, ![1, 1024, n]⟩ : Shape).size inb).toLoadRect
      ((rslot0_0 s).view.writes (Elt F) f [⟨Rect.whole S1024x4096, X⟩]) = Slab.cols n k hk X :=
  Slab.readAt_slot scM0_1 s.val k (inb_slot0_0 s) (fun _ => rfl) squeezes_S1x1024x4096_S1024x4096 f X hk inb ho

/-- A piece of the kept weights: rows `k … k + 511` of the window, cast. -/
theorem kept_piece (x0 : Vec F S4096x512 .f32) (k : ℕ) (hk : k + 512 ≤ 4096) (inb)
    (x : (Rect.unit (s := S4096x512) ![k, 0] S512x512.size inb).shape.Idx) :
    shapeCast S512x512 (truncf .bf16 (shapeCast S512x512 (Slab.rows k hk x0) shapeCasts_S512x512_S512x512 : FVec F S512x512 .f32)
      bitsLt_bf16_f32 : FVec F S512x512 .bf16) shapeCasts_S512x512_S512x512 x
      = kept x0 ((Rect.unit (s := S4096x512) ![k, 0] S512x512.size inb).emb x) := by
  rw [shapeCast_self, shapeCast_self]
  refine congrArg (fun i => FloatOps.truncf .bf16 bitsLt_bf16_f32 (x0 i)) (funext fun a => Fin.ext ?_)
  match a with
  | ⟨0, _⟩ => show k + (x 0).val = k + 1 * (x 0).val; omega
  | ⟨1, _⟩ => show (x 1).val = 0 + 1 * (x 1).val; omega

/-- The scratch after the eight pieces are stored holds the kept weights. -/
theorem read_kept (M : Memref sig .tc .vmem S4096x512 .bf16) (f) (x0 : Vec F S4096x512 .f32) (i7 i6 i5 i4 i3 i2 i1 i0) :
    View.read (Elt F) M.view (M.view.writes (Elt F) f
      [⟨Rect.unit (s := S4096x512) ![3584, 0] S512x512.size i7, k0_pay3 (Slab.rows 3584 (by decide) x0)⟩,
       ⟨Rect.unit (s := S4096x512) ![3072, 0] S512x512.size i6, k0_pay1 (k0_pay21 (Slab.rows 3072 (by decide) x0))⟩,
       ⟨Rect.unit (s := S4096x512) ![2560, 0] S512x512.size i5, k0_pay19 (Slab.rows 2560 (by decide) x0)⟩,
       ⟨Rect.unit (s := S4096x512) ![2048, 0] S512x512.size i4, k0_pay17 (Slab.rows 2048 (by decide) x0)⟩,
       ⟨Rect.unit (s := S4096x512) ![1536, 0] S512x512.size i3, k0_pay15 (k0_pay13 (Slab.rows 1536 (by decide) x0))⟩,
       ⟨Rect.unit (s := S4096x512) ![1024, 0] S512x512.size i2, k0_pay11 (Slab.rows 1024 (by decide) x0)⟩,
       ⟨Rect.unit (s := S4096x512) ![512, 0] S512x512.size i1, k0_pay9 (Slab.rows 512 (by decide) x0)⟩,
       ⟨Rect.unit (s := S4096x512) ![0, 0] S512x512.size i0, k0_pay7 (Slab.rows 0 (by decide) x0)⟩]) = kept x0 := by
  exact Slab.read_eight M f (kept x0) _ _ _ _ _ _ _ _ (kept_piece x0 0 _ i0) (kept_piece x0 512 _ i1) (kept_piece x0 1024 _ i2)
    (kept_piece x0 1536 _ i3) (kept_piece x0 2048 _ i4) (kept_piece x0 2560 _ i5) (kept_piece x0 3072 _ i6) (kept_piece x0 3584 _ i7)

/-- The first row block's output, its loads given. -/
theorem outFirst_of (X : Vec F S1024x4096 .bf16) (x0 : Vec F S4096x512 .f32) {a0 a1 a2 a3 a4 a5 a6 a7 : Vec F S1x1024x512 .bf16}
    (h0 : a0 = Slab.cols 512 0 (by decide) X) (h1 : a1 = Slab.cols 512 512 (by decide) X)
    (h2 : a2 = Slab.cols 512 1024 (by decide) X) (h3 : a3 = Slab.cols 512 1536 (by decide) X)
    (h4 : a4 = Slab.cols 512 2048 (by decide) X) (h5 : a5 = Slab.cols 512 2560 (by decide) X)
    (h6 : a6 = Slab.cols 512 3072 (by decide) X) (h7 : a7 = Slab.cols 512 3584 (by decide) X) :
    k0_pay4 (k0_pay20 (k0_pay12 (Slab.rows 0 (by decide) x0) a0 (Slab.rows 512 (by decide) x0) a1 (Slab.rows 1024 (by decide) x0) a2)
      (k0_pay13 (Slab.rows 1536 (by decide) x0)) a3 (Slab.rows 2048 (by decide) x0) a4 (Slab.rows 2560 (by decide) x0) a5)
      (k0_pay21 (Slab.rows 3072 (by decide) x0)) a6 (Slab.rows 3584 (by decide) x0) a7 = outFirst X x0 := by
  subst h0 h1 h2 h3 h4 h5 h6 h7; rfl

/-- A later row block's output, its loads given. -/
theorem outLater_of (X : Vec F S1024x4096 .bf16) (wb : Vec F S4096x512 .bf16) {a : Vec F S1x1024x4096 .bf16} {w : Vec F S4096x512 .bf16}
    (ha : a = Slab.cols 4096 0 (by decide) X) (hw : w = wb) : k0_pay5 a w = outLater X wb := by
  subst ha hw; rfl

/-- The rows of the operand that block `b` streams. -/
abbrev rowsOf (c : Dev nD) (fh0 : HbBuf0 (F := F) c hbM0_0) (b : Fin 192) : Vec F S1024x4096 .bf16 :=
  View.read (Elt F) (srcB0_0 b).view fh0

set_option maxHeartbeats 1000000 in
/-- The very first step: it starts three transfers. -/
theorem runA (c : Dev nD) (t : Fin cfg0.N) (arg3 : Memref sig .tc .vmem S4096x512 .f32) (harg3 : arg3.IsWhole)
    (arg4 : Memref sig .tc .vmem S1024x512 .bf16) (harg4 : arg4.IsWhole) (arg5 : Memref sig .tc .vmem S4096x512 .bf16) (harg5 : arg5.IsWhole)
    (hc0 : cond0_0 (grid0.coords t)) (hc1 : cond0_1 (grid0.coords t)) (hc2 : cond0_2 (grid0.coords t)) (hc3 : ¬cond0_3 (grid0.coords t))
    (x0 : Vec F S4096x512 .f32) (fh0 : HbBuf0 (F := F) c hbM0_0) (W : Waits sig Unit) (K : PUnit → sProp 𝕄) :
    iprop(owns (c : Thread nD τ) arg3 fullShare x0 ∗ (∃ d, owns (c : Thread nD τ) arg4 fullShare d) ∗ (∃ d, owns (c : Thread nD τ) arg5 fullShare d)
        ∗ Ring.free (cellP0_0 c) (slotW0_0 c fh0) (Ring.sl 3 t.val)
        ∗ Ring.free (cellP0_0 c) (slotW0_0 c fh0) (Ring.sl 3 (t.val + 1))
        ∗ Ring.free (cellP0_0 c) (slotW0_0 c fh0) (Ring.sl 3 (t.val + 2)) ∗ owes (c : Thread nD τ) 0 W
        ∗ (iprop(owns (c : Thread nD τ) arg3 fullShare x0
            ∗ owns (c : Thread nD τ) arg4 fullShare (outFirst (rowsOf c fh0 (Ring.bk 192 t.val)) x0)
            ∗ owns (c : Thread nD τ) arg5 fullShare (kept x0)
            ∗ Ring.inflight (flightW0_0 c fh0) (Ring.sl 3 (t.val + 1)) (Ring.bk 192 (t.val + 1))
            ∗ Ring.inflight (flightW0_0 c fh0) (Ring.sl 3 (t.val + 2)) (Ring.bk 192 (t.val + 2))
            ∗ Ring.free (cellP0_0 c) (slotW0_0 c fh0) (Ring.sl 3 t.val) ∗ (∃ W', owes (c : Thread nD τ) 0 W')) -∗ K ⟨⟩))
      ⊢ wp frame (wpE (defs₀ (F := F)) Variants.none c none) Set.univ
          (cc0_up_proj (grid0.coords t) (Memref.whole main_v0) (Memref.isWhole_whole _) arg3 harg3 arg4 harg4 arg5 harg5
            scM0_1 (Memref.isWhole_whole _) cc0_scratch2) K := by
  haveI : Fact (cond0_0 (grid0.coords t)) := ⟨hc0⟩
  haveI : Fact (cond0_1 (grid0.coords t)) := ⟨hc1⟩
  haveI : Fact (cond0_2 (grid0.coords t)) := ⟨hc2⟩
  haveI : Fact (¬cond0_3 (grid0.coords t)) := ⟨hc3⟩
  simp only [cc0_up_proj_eq_skeleton]; unfold cc0_up_proj_skel
  simp only [k0_part3_eq_skeleton, k0_part1_eq_skeleton, k0_part2_eq_skeleton]
  simp only [canon0_0_10 t, canon0_0_11 t]
  have hcanon0 := canon0_0_1 t hc0 hc1 hc2 hc3
  have hcanon1 := canon0_0_2 t hc0 hc1 hc2 hc3
  have hcanon2 := canon0_0_3 t hc0 hc1 hc2 hc3
  have hcanon3 := canon0_0_4 t hc0 hc1 hc2 hc3
  have hcanon4 := canon0_0_5 t hc0 hc1 hc2 hc3
  have hcanon5 := canon0_0_6 t hc0 hc1 hc2 hc3
  unfold owns Ring.free Ring.inflight
  iintro ⟨⟨%f0, %hf0, H0⟩, ⟨%d2, %f2, -, H2⟩, ⟨%ds0, %fs0, -, HS0⟩, ⟨Hc0_0_0, ⟨%fs0_0_0, Hs0_0_0, Hw0_0_0⟩⟩, ⟨Hc0_0_1, ⟨%fs0_0_1, Hs0_0_1, Hw0_0_1⟩⟩, ⟨Hc0_0_2, ⟨%fs0_0_2, Hs0_0_2, Hw0_0_2⟩⟩, HW, Hk⟩
  ihave Hsp0_0_0 := (src0_0_split c fh0 (Ring.sl 3 t.val) (Ring.bk 192 t.val)).1 $$ Hw0_0_0
  icases Hsp0_0_0 with ⟨Hh0_0_0, Hr0_0_0⟩
  ihave Hsp0_0_1 := (src0_0_split c fh0 (Ring.sl 3 (t.val + 1)) (Ring.bk 192 (t.val + 1))).1 $$ Hw0_0_1
  icases Hsp0_0_1 with ⟨Hh0_0_1, Hr0_0_1⟩
  ihave Hsp0_0_2 := (src0_0_split c fh0 (Ring.sl 3 (t.val + 2)) (Ring.bk 192 (t.val + 2))).1 $$ Hw0_0_2
  icases Hsp0_0_2 with ⟨Hh0_0_2, Hr0_0_2⟩
  obtain rfl := harg3.eq_unread hf0
  sl_exec (disch := first | sl_exact hc0 | sl_exact hc1 | sl_exact hc2 | sl_exact hc3)
  sl_step
  iapply Hk
  isplitl [H0]
  · iexists _; isplitr; · ipureintro; exact harg3.read_unread _
    iexact H0
  isplitl [H2]
  · iexists _; isplitr; swap; · iexact H2
    ipureintro; sl_unfold_run_names
    rw [View.read_writes_full]
    simp only [Slab.readAt_rows arg3 _ x0 (harg3.read_unread _) 0 (by decide), Slab.readAt_rows arg3 _ x0 (harg3.read_unread _) 512 (by decide),
      Slab.readAt_rows arg3 _ x0 (harg3.read_unread _) 1024 (by decide), Slab.readAt_rows arg3 _ x0 (harg3.read_unread _) 1536 (by decide),
      Slab.readAt_rows arg3 _ x0 (harg3.read_unread _) 2048 (by decide), Slab.readAt_rows arg3 _ x0 (harg3.read_unread _) 2560 (by decide),
      Slab.readAt_rows arg3 _ x0 (harg3.read_unread _) 3072 (by decide), Slab.readAt_rows arg3 _ x0 (harg3.read_unread _) 3584 (by decide)]
    exact outFirst_of _ x0 (readAt_ring _ _ _ 0 _ _ (coff0_0_14 t)) (readAt_ring _ _ _ 512 _ _ (coff0_0_15 t))
      (readAt_ring _ _ _ 1024 _ _ (coff0_0_16 t)) (readAt_ring _ _ _ 1536 _ _ (coff0_0_17 t))
      (readAt_ring _ _ _ 2048 _ _ (coff0_0_18 t)) (readAt_ring _ _ _ 2560 _ _ (coff0_0_19 t))
      (readAt_ring _ _ _ 3072 _ _ (coff0_0_20 t)) (readAt_ring _ _ _ 3584 _ _ (coff0_0_21 t))
  isplitl [HS0]
  · iexists _; isplitr; swap; · iexact HS0
    ipureintro; sl_unfold_run_names
    simp only [Slab.readAt_rows arg3 _ x0 (harg3.read_unread _) 0 (by decide), Slab.readAt_rows arg3 _ x0 (harg3.read_unread _) 512 (by decide),
      Slab.readAt_rows arg3 _ x0 (harg3.read_unread _) 1024 (by decide), Slab.readAt_rows arg3 _ x0 (harg3.read_unread _) 1536 (by decide),
      Slab.readAt_rows arg3 _ x0 (harg3.read_unread _) 2048 (by decide), Slab.readAt_rows arg3 _ x0 (harg3.read_unread _) 2560 (by decide),
      Slab.readAt_rows arg3 _ x0 (harg3.read_unread _) 3072 (by decide), Slab.readAt_rows arg3 _ x0 (harg3.read_unread _) 3584 (by decide)]
    exact read_kept arg5 _ x0 _ _ _ _ _ _ _ _
  isplitl [Hc0_0_1 Hr0_0_1]
  · iexists _; isplitl [Hc0_0_1]; · iexact Hc0_0_1
    iexact Hr0_0_1
  isplitl [Hc0_0_2 Hr0_0_2]
  · iexists _; isplitl [Hc0_0_2]; · iexact Hc0_0_2
    iexact Hr0_0_2
  isplitl [Hc0_0_0 Hs0_0_0 Hh0_0_0 Hr0_0_0]
  · isplitl [Hc0_0_0]; · iexact Hc0_0_0
    iexists _; isplitl [Hs0_0_0]; · iexact Hs0_0_0
    iapply (src0_0_split c fh0 (Ring.sl 3 t.val) (Ring.bk 192 t.val)).2; isplitl [Hh0_0_0]; · iexact Hh0_0_0
    iexact Hr0_0_0
  iexists _; iexact HW

set_option maxHeartbeats 1000000 in
/-- A later row block, a transfer still to start. -/
theorem runB (c : Dev nD) (t : Fin cfg0.N) (arg3 : Memref sig .tc .vmem S4096x512 .f32) (harg3 : arg3.IsWhole)
    (arg4 : Memref sig .tc .vmem S1024x512 .bf16) (harg4 : arg4.IsWhole) (arg5 : Memref sig .tc .vmem S4096x512 .bf16) (harg5 : arg5.IsWhole)
    (hc0 : ¬cond0_0 (grid0.coords t)) (hc1 : cond0_1 (grid0.coords t)) (hc2 : ¬cond0_2 (grid0.coords t)) (hc3 : cond0_3 (grid0.coords t))
    (x0 : Vec F S4096x512 .f32) (wb : Vec F S4096x512 .bf16) (fh0 : HbBuf0 (F := F) c hbM0_0) (W : Waits sig Unit) (K : PUnit → sProp 𝕄) :
    iprop(owns (c : Thread nD τ) arg3 fullShare x0 ∗ (∃ d, owns (c : Thread nD τ) arg4 fullShare d) ∗ owns (c : Thread nD τ) arg5 fullShare wb
        ∗ Ring.inflight (flightW0_0 c fh0) (Ring.sl 3 t.val) (Ring.bk 192 t.val)
        ∗ Ring.inflight (flightW0_0 c fh0) (Ring.sl 3 (t.val + 1)) (Ring.bk 192 (t.val + 1))
        ∗ Ring.free (cellP0_0 c) (slotW0_0 c fh0) (Ring.sl 3 (t.val + 2)) ∗ owes (c : Thread nD τ) 0 W
        ∗ (iprop(owns (c : Thread nD τ) arg3 fullShare x0
            ∗ owns (c : Thread nD τ) arg4 fullShare (outLater (rowsOf c fh0 (Ring.bk 192 t.val)) wb)
            ∗ owns (c : Thread nD τ) arg5 fullShare wb
            ∗ Ring.inflight (flightW0_0 c fh0) (Ring.sl 3 (t.val + 1)) (Ring.bk 192 (t.val + 1))
            ∗ Ring.inflight (flightW0_0 c fh0) (Ring.sl 3 (t.val + 2)) (Ring.bk 192 (t.val + 2))
            ∗ Ring.free (cellP0_0 c) (slotW0_0 c fh0) (Ring.sl 3 t.val) ∗ (∃ W', owes (c : Thread nD τ) 0 W')) -∗ K ⟨⟩))
      ⊢ wp frame (wpE (defs₀ (F := F)) Variants.none c none) Set.univ
          (cc0_up_proj (grid0.coords t) (Memref.whole main_v0) (Memref.isWhole_whole _) arg3 harg3 arg4 harg4 arg5 harg5
            scM0_1 (Memref.isWhole_whole _) cc0_scratch2) K := by
  haveI : Fact (¬cond0_0 (grid0.coords t)) := ⟨hc0⟩
  haveI : Fact (cond0_1 (grid0.coords t)) := ⟨hc1⟩
  haveI : Fact (¬cond0_2 (grid0.coords t)) := ⟨hc2⟩
  haveI : Fact (cond0_3 (grid0.coords t)) := ⟨hc3⟩
  simp only [cc0_up_proj_eq_skeleton]; unfold cc0_up_proj_skel
  simp only [k0_part3_eq_skeleton]
  simp only [canon0_0_10 t, canon0_0_11 t]
  unfold owns Ring.free Ring.inflight
  iintro ⟨⟨%f0, %hf0, H0⟩, ⟨%d2, %f2, -, H2⟩, ⟨%fs0, %hfs0, HS0⟩, ⟨%ff0_0_0, Hf0_0_0, Hrf0_0_0⟩, ⟨%ff0_0_1, Hf0_0_1, Hrf0_0_1⟩, ⟨Hc0_0_2, ⟨%fs0_0_2, Hs0_0_2, Hw0_0_2⟩⟩, HW, Hk⟩
  ihave Hsp0_0_2 := (src0_0_split c fh0 (Ring.sl 3 (t.val + 2)) (Ring.bk 192 (t.val + 2))).1 $$ Hw0_0_2
  icases Hsp0_0_2 with ⟨Hh0_0_2, Hr0_0_2⟩
  obtain rfl := harg3.eq_unread hf0
  sl_exec (disch := first | sl_exact hc0 | sl_exact hc1 | sl_exact hc2 | sl_exact hc3)
  sl_step
  iapply Hk
  isplitl [H0]
  · iexists _; isplitr; · ipureintro; exact harg3.read_unread _
    iexact H0
  isplitl [H2]
  · iexists _; isplitr; swap; · iexact H2
    ipureintro; sl_unfold_run_names
    rw [View.read_writes_full]
    exact outLater_of _ wb (readAt_ring _ _ _ 0 _ _ (coff0_0_22 t)) (Slab.readAt_all arg5 _ wb hfs0 _)
  isplitl [HS0]
  · iexists _; isplitr; swap; · iexact HS0
    ipureintro; exact hfs0
  isplitl [Hf0_0_1 Hrf0_0_1]
  · iexists ff0_0_1; isplitl [Hf0_0_1]; · iexact Hf0_0_1
    iexact Hrf0_0_1
  isplitl [Hc0_0_2 Hr0_0_2]
  · iexists _; isplitl [Hc0_0_2]; · iexact Hc0_0_2
    iexact Hr0_0_2
  isplitl [Hf0_0_0 Hf0_0_0_dst Hf0_0_0_src Hrf0_0_0]
  · isplitl [Hf0_0_0]; · iexact Hf0_0_0
    iexists _; isplitl [Hf0_0_0_dst]; · iexact Hf0_0_0_dst
    iapply (src0_0_split c fh0 (Ring.sl 3 t.val) (Ring.bk 192 t.val)).2; isplitl [Hf0_0_0_src]; · iexact Hf0_0_0_src
    iexact Hrf0_0_0
  iexists _; iexact HW

set_option maxHeartbeats 1000000 in
/-- The first row block of a later column block. -/
theorem runC (c : Dev nD) (t : Fin cfg0.N) (arg3 : Memref sig .tc .vmem S4096x512 .f32) (harg3 : arg3.IsWhole)
    (arg4 : Memref sig .tc .vmem S1024x512 .bf16) (harg4 : arg4.IsWhole) (arg5 : Memref sig .tc .vmem S4096x512 .bf16) (harg5 : arg5.IsWhole)
    (hc0 : ¬cond0_0 (grid0.coords t)) (hc1 : cond0_1 (grid0.coords t)) (hc2 : cond0_2 (grid0.coords t)) (hc3 : ¬cond0_3 (grid0.coords t))
    (x0 : Vec F S4096x512 .f32) (fh0 : HbBuf0 (F := F) c hbM0_0) (W : Waits sig Unit) (K : PUnit → sProp 𝕄) :
    iprop(owns (c : Thread nD τ) arg3 fullShare x0 ∗ (∃ d, owns (c : Thread nD τ) arg4 fullShare d) ∗ (∃ d, owns (c : Thread nD τ) arg5 fullShare d)
        ∗ Ring.inflight (flightW0_0 c fh0) (Ring.sl 3 t.val) (Ring.bk 192 t.val)
        ∗ Ring.inflight (flightW0_0 c fh0) (Ring.sl 3 (t.val + 1)) (Ring.bk 192 (t.val + 1))
        ∗ Ring.free (cellP0_0 c) (slotW0_0 c fh0) (Ring.sl 3 (t.val + 2)) ∗ owes (c : Thread nD τ) 0 W
        ∗ (iprop(owns (c : Thread nD τ) arg3 fullShare x0
            ∗ owns (c : Thread nD τ) arg4 fullShare (outFirst (rowsOf c fh0 (Ring.bk 192 t.val)) x0)
            ∗ owns (c : Thread nD τ) arg5 fullShare (kept x0)
            ∗ Ring.inflight (flightW0_0 c fh0) (Ring.sl 3 (t.val + 1)) (Ring.bk 192 (t.val + 1))
            ∗ Ring.inflight (flightW0_0 c fh0) (Ring.sl 3 (t.val + 2)) (Ring.bk 192 (t.val + 2))
            ∗ Ring.free (cellP0_0 c) (slotW0_0 c fh0) (Ring.sl 3 t.val) ∗ (∃ W', owes (c : Thread nD τ) 0 W')) -∗ K ⟨⟩))
      ⊢ wp frame (wpE (defs₀ (F := F)) Variants.none c none) Set.univ
          (cc0_up_proj (grid0.coords t) (Memref.whole main_v0) (Memref.isWhole_whole _) arg3 harg3 arg4 harg4 arg5 harg5
            scM0_1 (Memref.isWhole_whole _) cc0_scratch2) K := by
  haveI : Fact (¬cond0_0 (grid0.coords t)) := ⟨hc0⟩
  haveI : Fact (cond0_1 (grid0.coords t)) := ⟨hc1⟩
  haveI : Fact (cond0_2 (grid0.coords t)) := ⟨hc2⟩
  haveI : Fact (¬cond0_3 (grid0.coords t)) := ⟨hc3⟩
  simp only [cc0_up_proj_eq_skeleton]; unfold cc0_up_proj_skel
  simp only [k0_part3_eq_skeleton, k0_part1_eq_skeleton, k0_part2_eq_skeleton]
  simp only [canon0_0_10 t, canon0_0_11 t]
  unfold owns Ring.free Ring.inflight
  iintro ⟨⟨%f0, %hf0, H0⟩, ⟨%d2, %f2, -, H2⟩, ⟨%ds0, %fs0, -, HS0⟩, ⟨%ff0_0_0, Hf0_0_0, Hrf0_0_0⟩, ⟨%ff0_0_1, Hf0_0_1, Hrf0_0_1⟩, ⟨Hc0_0_2, ⟨%fs0_0_2, Hs0_0_2, Hw0_0_2⟩⟩, HW, Hk⟩
  ihave Hsp0_0_2 := (src0_0_split c fh0 (Ring.sl 3 (t.val + 2)) (Ring.bk 192 (t.val + 2))).1 $$ Hw0_0_2
  icases Hsp0_0_2 with ⟨Hh0_0_2, Hr0_0_2⟩
  obtain rfl := harg3.eq_unread hf0
  sl_exec (disch := first | sl_exact hc0 | sl_exact hc1 | sl_exact hc2 | sl_exact hc3)
  sl_step
  iapply Hk
  isplitl [H0]
  · iexists _; isplitr; · ipureintro; exact harg3.read_unread _
    iexact H0
  isplitl [H2]
  · iexists _; isplitr; swap; · iexact H2
    ipureintro; sl_unfold_run_names
    rw [View.read_writes_full]
    simp only [Slab.readAt_rows arg3 _ x0 (harg3.read_unread _) 0 (by decide), Slab.readAt_rows arg3 _ x0 (harg3.read_unread _) 512 (by decide),
      Slab.readAt_rows arg3 _ x0 (harg3.read_unread _) 1024 (by decide), Slab.readAt_rows arg3 _ x0 (harg3.read_unread _) 1536 (by decide),
      Slab.readAt_rows arg3 _ x0 (harg3.read_unread _) 2048 (by decide), Slab.readAt_rows arg3 _ x0 (harg3.read_unread _) 2560 (by decide),
      Slab.readAt_rows arg3 _ x0 (harg3.read_unread _) 3072 (by decide), Slab.readAt_rows arg3 _ x0 (harg3.read_unread _) 3584 (by decide)]
    exact outFirst_of _ x0 (readAt_ring _ _ _ 0 _ _ (coff0_0_14 t)) (readAt_ring _ _ _ 512 _ _ (coff0_0_15 t))
      (readAt_ring _ _ _ 1024 _ _ (coff0_0_16 t)) (readAt_ring _ _ _ 1536 _ _ (coff0_0_17 t))
      (readAt_ring _ _ _ 2048 _ _ (coff0_0_18 t)) (readAt_ring _ _ _ 2560 _ _ (coff0_0_19 t))
      (readAt_ring _ _ _ 3072 _ _ (coff0_0_20 t)) (readAt_ring _ _ _ 3584 _ _ (coff0_0_21 t))
  isplitl [HS0]
  · iexists _; isplitr; swap; · iexact HS0
    ipureintro; sl_unfold_run_names
    simp only [Slab.readAt_rows arg3 _ x0 (harg3.read_unread _) 0 (by decide), Slab.readAt_rows arg3 _ x0 (harg3.read_unread _) 512 (by decide),
      Slab.readAt_rows arg3 _ x0 (harg3.read_unread _) 1024 (by decide), Slab.readAt_rows arg3 _ x0 (harg3.read_unread _) 1536 (by decide),
      Slab.readAt_rows arg3 _ x0 (harg3.read_unread _) 2048 (by decide), Slab.readAt_rows arg3 _ x0 (harg3.read_unread _) 2560 (by decide),
      Slab.readAt_rows arg3 _ x0 (harg3.read_unread _) 3072 (by decide), Slab.readAt_rows arg3 _ x0 (harg3.read_unread _) 3584 (by decide)]
    exact read_kept arg5 _ x0 _ _ _ _ _ _ _ _
  isplitl [Hf0_0_1 Hrf0_0_1]
  · iexists ff0_0_1; isplitl [Hf0_0_1]; · iexact Hf0_0_1
    iexact Hrf0_0_1
  isplitl [Hc0_0_2 Hr0_0_2]
  · iexists _; isplitl [Hc0_0_2]; · iexact Hc0_0_2
    iexact Hr0_0_2
  isplitl [Hf0_0_0 Hf0_0_0_dst Hf0_0_0_src Hrf0_0_0]
  · isplitl [Hf0_0_0]; · iexact Hf0_0_0
    iexists _; isplitl [Hf0_0_0_dst]; · iexact Hf0_0_0_dst
    iapply (src0_0_split c fh0 (Ring.sl 3 t.val) (Ring.bk 192 t.val)).2; isplitl [Hf0_0_0_src]; · iexact Hf0_0_0_src
    iexact Hrf0_0_0
  iexists _; iexact HW

set_option maxHeartbeats 1000000 in
/-- The last two steps: no transfer is left to start. -/
theorem runD (c : Dev nD) (t : Fin cfg0.N) (arg3 : Memref sig .tc .vmem S4096x512 .f32) (harg3 : arg3.IsWhole)
    (arg4 : Memref sig .tc .vmem S1024x512 .bf16) (harg4 : arg4.IsWhole) (arg5 : Memref sig .tc .vmem S4096x512 .bf16) (harg5 : arg5.IsWhole)
    (hc0 : ¬cond0_0 (grid0.coords t)) (hc1 : ¬cond0_1 (grid0.coords t)) (hc2 : ¬cond0_2 (grid0.coords t)) (hc3 : cond0_3 (grid0.coords t))
    (x0 : Vec F S4096x512 .f32) (wb : Vec F S4096x512 .bf16) (fh0 : HbBuf0 (F := F) c hbM0_0) (W : Waits sig Unit) (K : PUnit → sProp 𝕄) :
    iprop(owns (c : Thread nD τ) arg3 fullShare x0 ∗ (∃ d, owns (c : Thread nD τ) arg4 fullShare d) ∗ owns (c : Thread nD τ) arg5 fullShare wb
        ∗ Ring.inflight (flightW0_0 c fh0) (Ring.sl 3 t.val) (Ring.bk 192 t.val)
        ∗ Ring.slotAt 2 (cellP0_0 c) (slotW0_0 c fh0) (flightW0_0 c fh0) t.val 1
        ∗ Ring.free (cellP0_0 c) (slotW0_0 c fh0) (Ring.sl 3 (t.val + 2)) ∗ owes (c : Thread nD τ) 0 W
        ∗ (iprop(owns (c : Thread nD τ) arg3 fullShare x0
            ∗ owns (c : Thread nD τ) arg4 fullShare (outLater (rowsOf c fh0 (Ring.bk 192 t.val)) wb)
            ∗ owns (c : Thread nD τ) arg5 fullShare wb
            ∗ Ring.slotAt 2 (cellP0_0 c) (slotW0_0 c fh0) (flightW0_0 c fh0) t.val 1
            ∗ Ring.free (cellP0_0 c) (slotW0_0 c fh0) (Ring.sl 3 (t.val + 2))
            ∗ Ring.free (cellP0_0 c) (slotW0_0 c fh0) (Ring.sl 3 t.val) ∗ (∃ W', owes (c : Thread nD τ) 0 W')) -∗ K ⟨⟩))
      ⊢ wp frame (wpE (defs₀ (F := F)) Variants.none c none) Set.univ
          (cc0_up_proj (grid0.coords t) (Memref.whole main_v0) (Memref.isWhole_whole _) arg3 harg3 arg4 harg4 arg5 harg5
            scM0_1 (Memref.isWhole_whole _) cc0_scratch2) K := by
  haveI : Fact (¬cond0_0 (grid0.coords t)) := ⟨hc0⟩
  haveI : Fact (¬cond0_1 (grid0.coords t)) := ⟨hc1⟩
  haveI : Fact (¬cond0_2 (grid0.coords t)) := ⟨hc2⟩
  haveI : Fact (cond0_3 (grid0.coords t)) := ⟨hc3⟩
  simp only [cc0_up_proj_eq_skeleton]; unfold cc0_up_proj_skel
  simp only [k0_part3_eq_skeleton]
  simp only [canon0_0_10 t, canon0_0_11 t]
  unfold owns Ring.free Ring.inflight
  iintro ⟨⟨%f0, %hf0, H0⟩, ⟨%d2, %f2, -, H2⟩, ⟨%fs0, %hfs0, HS0⟩, ⟨%ff0_0_0, Hf0_0_0, Hrf0_0_0⟩, Hro0_0_1, ⟨Hc0_0_2, ⟨%fs0_0_2, Hs0_0_2, Hw0_0_2⟩⟩, HW, Hk⟩
  obtain rfl := harg3.eq_unread hf0
  sl_exec (disch := first | sl_exact hc0 | sl_exact hc1 | sl_exact hc2 | sl_exact hc3)
  sl_step
  iapply Hk
  isplitl [H0]
  · iexists _; isplitr; · ipureintro; exact harg3.read_unread _
    iexact H0
  isplitl [H2]
  · iexists _; isplitr; swap; · iexact H2
    ipureintro; sl_unfold_run_names
    rw [View.read_writes_full]
    exact outLater_of _ wb (readAt_ring _ _ _ 0 _ _ (coff0_0_22 t)) (Slab.readAt_all arg5 _ wb hfs0 _)
  isplitl [HS0]
  · iexists _; isplitr; swap; · iexact HS0
    ipureintro; exact hfs0
  isplitl [Hro0_0_1]; · iexact Hro0_0_1
  isplitl [Hc0_0_2 Hs0_0_2 Hw0_0_2]
  · isplitl [Hc0_0_2]; · iexact Hc0_0_2
    iexists _; isplitl [Hs0_0_2]; · iexact Hs0_0_2
    iexact Hw0_0_2
  isplitl [Hf0_0_0 Hf0_0_0_dst Hf0_0_0_src Hrf0_0_0]
  · isplitl [Hf0_0_0]; · iexact Hf0_0_0
    iexists _; isplitl [Hf0_0_0_dst]; · iexact Hf0_0_0_dst
    iapply (src0_0_split c fh0 (Ring.sl 3 t.val) (Ring.bk 192 t.val)).2; isplitl [Hf0_0_0_src]; · iexact Hf0_0_0_src
    iexact Hrf0_0_0
  iexists _; iexact HW

end Cert.Kernel3Ideal.Up

end
-- ==== Proof.UpFrame.lean ====
module

public import proofs.«01_k».proof.Proof.UpRun

/-! The up projection's kernel over its whole grid: the scratch is tracked from point to point, so that the run ends with the result
array named. -/

@[expose] public section

set_option maxRecDepth 16384

noncomputable section

namespace Cert.Kernel3Ideal.Up

open Cert.Kernel3Ideal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- Columns `512 j …` of the weights: the window of column block `j`. -/
def wwin (c : Dev nD) (j : Fin 32) : Vec F S4096x512 .f32 :=
  fun y => (V m c main_v1 : Vec F S4096x16384 .f32) (ValueIdx.ix2 (y 0) ⟨512 * j.val + (y 1).val, by
    have : (y 1).val < 512 := (y 1).isLt
    omega⟩)

/-- The column block of a grid point. -/
def colOf (t : ℕ) : Fin 32 := ⟨t / 6 % 32, Nat.mod_lt _ (by decide)⟩

theorem index_0 : ∀ t : Fin grid0.N, win0_0.index t = ![0, t.val / 6 % 32] := by decide +kernel

/-- The weight window's block at a point. -/
theorem iblk0_eq (c : Dev nD) (t : Fin cfg0.N) : iblk m c 0 t = wwin m c (colOf t.val) := by
  funext y
  blk_simp [iblk]
  refine congrArg (V m c main_v1 : Vec F S4096x16384 .f32) ?_
  blk_ext [index_0 t]
  show t.val / 6 % 32 * 512 + (y 1).val = 512 * (t.val / 6 % 32) + (y 1).val
  omega

/-- The scratch before point `k`: anything at a column block's start, else that block's kept weights. -/
def keptAt (c : Dev nD) (k : ℕ) : sProp 𝕄 :=
  if k % 6 = 0 then iprop(∃ d, owns (c : Thread nD τ) scM0_0 fullShare d)
  else owns (c : Thread nD τ) scM0_0 fullShare (kept (wwin m c (colOf k)))

theorem keptAt_next (c : Dev nD) (k : ℕ) :
    owns (c : Thread nD τ) scM0_0 fullShare (kept (wwin m c (colOf k))) ⊢ (keptAt m c (k + 1) : sProp 𝕄) := by
  unfold keptAt
  by_cases h : (k + 1) % 6 = 0
  · rw [if_pos h]; iintro H; iexists _; iexact H
  · rw [if_neg h, show colOf (k + 1) = colOf k from Fin.ext (by show (k + 1) / 6 % 32 = k / 6 % 32; omega)]

/-- The same at a column block's first point, where the kept weights come from the window. -/
theorem keptAt_first (c : Dev nD) (t : Fin cfg0.N) :
    owns (c : Thread nD τ) scM0_0 fullShare (kept (iblk m c 0 t)) ⊢ (keptAt m c (t.val + 1) : sProp 𝕄) := by
  rw [iblk0_eq]; exact keptAt_next m c t.val

/-- What the body leaves in the result's window at a point. -/
def outAt (c : Dev nD) (t : Fin cfg0.N) : Vec F S1024x512 .bf16 :=
  if t.val % 6 = 0 then outFirst (rowsOf c (V m c main_v0) (Ring.bk 192 t.val)) (iblk m c 0 t)
  else outLater (rowsOf c (V m c main_v0) (Ring.bk 192 t.val)) (kept (wwin m c (colOf t.val)))

/-- The region's invariant before point `k`. -/
def Phi (c : Dev nD) (k : ℕ) : sProp 𝕄 := iprop(keptAt m c k ∗ (∃ r, prngReg c r) ∗ ringAt0_0 c (V m c main_v0) k)

/-- The proof data: the inputs' buffers at their blocks, the result's at `outAt`. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => outAt m c t
  Φ t := Phi m c t.val
  q _ := fullShare
  owed _ := 0

theorem A_eq (c : Dev nD) (w : Fin cfg0.W) : (dats m 0 c).A w = V m c (Pipeline.arrRef spec0 w) := by
  dsimp only [dats]
theorem Phi_castSucc (c : Dev nD) (t : Fin cfg0.N) : (dats m 0 c).Φ t.castSucc = Phi m c t.val := by
  dsimp only [dats]; simp only [Fin.coe_castSucc]
theorem Phi_succ (c : Dev nD) (t : Fin cfg0.N) : (dats m 0 c).Φ t.succ = Phi m c (t.val + 1) := by
  dsimp only [dats]; simp only [Fin.val_succ]
theorem after_0 (c : Dev nD) (t : Fin cfg0.N) : (dats m 0 c).after 0 t = iblk m c 0 t := by dsimp only [dats]
theorem after_1 (c : Dev nD) (t : Fin cfg0.N) : (dats m 0 c).after 1 t = outAt m c t := by dsimp only [dats]
theorem before_0 (c : Dev nD) (t : Fin cfg0.N) (d) : (dats m 0 c).before 0 t d = iblk m c 0 t :=
  before0_0_of m (dats m 0 c) (A_eq m c 0) (after_0 m c) t d
/-- The body writes the result's window at every point. -/
theorem live_1 : ∀ t : Fin cfg0.N, cfg0.idle 1 (grid0.coords t) = false :=
  (by decide +kernel : ∀ t : Fin grid0.N, cfg0.idle 1 (grid0.coords t) = false)

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d)))
/-- and what it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t)

set_option maxHeartbeats 1600000 in
/-- The body at any point, from its four cases. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0]
  rw [Phi_castSucc m c t, Phi_succ m c t]
  unfold Dat.owesAt Pipeline.owesWithin
  rw [show (dats m 0 c).owed t.castSucc = 0 from rfl, show (dats m 0 c).owed t.succ = 0 from rfl]
  rw [show (dats m 0 c).leavesExact 0 t = owns (c : Thread nD τ) (ms0_0 t) fullShare ((dats m 0 c).after 0 t) from by
    unfold Dat.leavesExact; rw [liveAt0_0 t], after_0]
  rw [show (dats m 0 c).leavesExact 1 t = owns (c : Thread nD τ) (ms0_1 t) fullShare ((dats m 0 c).after 1 t) from by
    unfold Dat.leavesExact; rw [live_1 t], after_1]
  unfold Phi ringAt0_0
  have hN : t.val < 192 := lt_of_lt_of_eq t.isLt (show cfg0.N = 192 from N_0)
  by_cases h6 : t.val % 6 = 0
  · have c2 := (hcond0_2 t).mpr h6
    have c3 : ¬cond0_3 (grid0.coords t) := fun h => by have := (hcond0_3 t).mp h; omega
    have c1 := (hcond0_1 t).mpr (by omega)
    rw [show outAt m c t = outFirst (rowsOf c (V m c main_v0) (Ring.bk 192 t.val)) (iblk m c 0 t) from if_pos h6]
    by_cases h0 : t.val % 192 = 0
    · have c0 := (hcond0_0 t).mpr h0
      have hr := rstep0_0_A t c0 c1 c2 c3
      obtain ⟨hK0, hK1⟩ := hr
      rw [if_pos hK0, if_neg (show ¬t.val + 1 = 0 by omega)]
      rw [Ring.At₀_eq3' _ _ _ t.val hK0 (by decide : 3 ≤ 192), Ring.At3_one' _ _ _ _ t.val hK0 (by decide : 3 ≤ 192)]
      rw [keptAt, if_pos h6]
      iintro ⟨⟨HK, Hg, ⟨-, Hra, Hrb, Hrc⟩⟩, ⟨%W, -, HW⟩, ⟨%d0, H0⟩, ⟨%d2, H2⟩⟩
      iapply (runA c t _ _ _ _ _ _ c0 c1 c2 c3 (iblk m c 0 t) (V m c main_v0) W _)
      isplitl [H0]; · iexact H0
      isplitl [H2]; · iexists _; iexact H2
      isplitl [HK]; · iexact HK
      isplitl [Hra]; · iexact Hra
      isplitl [Hrb]; · iexact Hrb
      isplitl [Hrc]; · iexact Hrc
      isplitl [HW]; · iexact HW
      iintro ⟨H0, H2, HK, Hra, Hrb, Hrc, ⟨%W', HW'⟩⟩
      isplitl [HK Hg Hra Hrb Hrc]
      · isplitl [HK]; · iapply keptAt_first m c t; iexact HK
        isplitl [Hg]; · iexact Hg
        iapply (Ring.with_homes (Idealize.SL.BI.Entails.refl _))
        isplitl [Hra]; · iexact Hra
        isplitl [Hrb]; · iexact Hrb
        iexact Hrc
      isplitl [HW']
      · iexists W'; isplitr; · ipureintro; exact fun _ _ => Or.inl trivial
        iexact HW'
      isplitl [H0]; · iexact H0
      iexact H2
    · have c0 : ¬cond0_0 (grid0.coords t) := fun h => h0 ((hcond0_0 t).mp h)
      have hr := rstep0_0_C t c0 c1 c2 c3
      obtain ⟨hK1, hKB, -⟩ := hr
      rw [if_neg (show ¬t.val = 0 by omega), if_neg (show ¬t.val + 1 = 0 by omega)]
      rw [Ring.At3_here _ _ _ _ t.val hKB, Ring.At3_next _ _ _ _ t.val hKB, Ring.slotAt3_next0 _ _ _ t.val (by omega),
        Ring.slotAt3_next1 _ _ _ t.val hKB]
      rw [keptAt, if_pos h6]
      iintro ⟨⟨HK, Hg, ⟨-, Hra, Hrb, Hrc⟩⟩, ⟨%W, -, HW⟩, ⟨%d0, H0⟩, ⟨%d2, H2⟩⟩
      iapply (runC c t _ _ _ _ _ _ c0 c1 c2 c3 (iblk m c 0 t) (V m c main_v0) W _)
      isplitl [H0]; · iexact H0
      isplitl [H2]; · iexists _; iexact H2
      isplitl [HK]; · iexact HK
      isplitl [Hra]; · iexact Hra
      isplitl [Hrb]; · iexact Hrb
      isplitl [Hrc]; · iexact Hrc
      isplitl [HW]; · iexact HW
      iintro ⟨H0, H2, HK, Hra, Hrb, Hrc, ⟨%W', HW'⟩⟩
      isplitl [HK Hg Hra Hrb Hrc]
      · isplitl [HK]; · iapply keptAt_first m c t; iexact HK
        isplitl [Hg]; · iexact Hg
        iapply (Ring.with_homes (Idealize.SL.BI.Entails.refl _))
        isplitl [Hra]; · iexact Hra
        isplitl [Hrb]; · iexact Hrb
        iexact Hrc
      isplitl [HW']
      · iexists W'; isplitr; · ipureintro; exact fun _ _ => Or.inl trivial
        iexact HW'
      isplitl [H0]; · iexact H0
      iexact H2
  · have c2 : ¬cond0_2 (grid0.coords t) := fun h => h6 ((hcond0_2 t).mp h)
    have c3 := (hcond0_3 t).mpr (by omega)
    have c0 : ¬cond0_0 (grid0.coords t) := fun h => by have := (hcond0_0 t).mp h; omega
    rw [show outAt m c t = outLater (rowsOf c (V m c main_v0) (Ring.bk 192 t.val)) (kept (wwin m c (colOf t.val)))
      from if_neg h6]
    by_cases h1 : t.val < 190
    · have c1 := (hcond0_1 t).mpr h1
      have hr := rstep0_0_B t c0 c1 c2 c3
      obtain ⟨hK1, hKB, -⟩ := hr
      rw [if_neg (show ¬t.val = 0 by omega), if_neg (show ¬t.val + 1 = 0 by omega)]
      rw [Ring.At3_here _ _ _ _ t.val hKB, Ring.At3_next _ _ _ _ t.val hKB, Ring.slotAt3_next0 _ _ _ t.val (by omega),
        Ring.slotAt3_next1 _ _ _ t.val hKB]
      rw [keptAt, if_neg h6]
      iintro ⟨⟨HK, Hg, ⟨-, Hra, Hrb, Hrc⟩⟩, ⟨%W, -, HW⟩, ⟨%d0, H0⟩, ⟨%d2, H2⟩⟩
      iapply (runB c t _ _ _ _ _ _ c0 c1 c2 c3 (iblk m c 0 t) (kept (wwin m c (colOf t.val))) (V m c main_v0) W _)
      isplitl [H0]; · iexact H0
      isplitl [H2]; · iexists _; iexact H2
      isplitl [HK]; · iexact HK
      isplitl [Hra]; · iexact Hra
      isplitl [Hrb]; · iexact Hrb
      isplitl [Hrc]; · iexact Hrc
      isplitl [HW]; · iexact HW
      iintro ⟨H0, H2, HK, Hra, Hrb, Hrc, ⟨%W', HW'⟩⟩
      isplitl [HK Hg Hra Hrb Hrc]
      · isplitl [HK]; · iapply keptAt_next m c t.val; iexact HK
        isplitl [Hg]; · iexact Hg
        iapply (Ring.with_homes (Idealize.SL.BI.Entails.refl _))
        isplitl [Hra]; · iexact Hra
        isplitl [Hrb]; · iexact Hrb
        iexact Hrc
      isplitl [HW']
      · iexists W'; isplitr; · ipureintro; exact fun _ _ => Or.inl trivial
        iexact HW'
      isplitl [H0]; · iexact H0
      iexact H2
    · have c1 : ¬cond0_1 (grid0.coords t) := fun h => h1 ((hcond0_1 t).mp h)
      have hr := rstep0_0_D t c0 c1 c2 c3
      obtain ⟨hK1, hKB, hKlt, -⟩ := hr
      rw [if_neg (show ¬t.val = 0 by omega), if_neg (show ¬t.val + 1 = 0 by omega)]
      rw [Ring.At3_here_tail _ _ _ _ t.val hKlt, Ring.At3_next_tail _ _ _ _ t.val hKB hKlt, Ring.slotAt3_tail_role _ _ _ t.val]
      rw [keptAt, if_neg h6]
      iintro ⟨⟨HK, Hg, ⟨-, Hra, Hrb, Hrc⟩⟩, ⟨%W, -, HW⟩, ⟨%d0, H0⟩, ⟨%d2, H2⟩⟩
      iapply (runD c t _ _ _ _ _ _ c0 c1 c2 c3 (iblk m c 0 t) (kept (wwin m c (colOf t.val))) (V m c main_v0) W _)
      isplitl [H0]; · iexact H0
      isplitl [H2]; · iexists _; iexact H2
      isplitl [HK]; · iexact HK
      isplitl [Hra]; · iexact Hra
      isplitl [Hrb]; · iexact Hrb
      isplitl [Hrc]; · iexact Hrc
      isplitl [HW]; · iexact HW
      iintro ⟨H0, H2, HK, Hra, Hrb, Hrc, ⟨%W', HW'⟩⟩
      isplitl [HK Hg Hra Hrb Hrc]
      · isplitl [HK]; · iapply keptAt_next m c t.val; iexact HK
        isplitl [Hg]; · iexact Hg
        iapply (Ring.with_homes (Idealize.SL.BI.Entails.refl _))
        isplitl [Hra]; · iexact Hra
        isplitl [Hrb]; · iexact Hrb
        iexact Hrc
      isplitl [HW']
      · iexists W'; isplitr; · ipureintro; exact fun _ _ => Or.inl trivial
        iexact HW'
      isplitl [H0]; · iexact H0
      iexact H2

theorem defs₀_row (t : Fin cfg0.N) :
    defs₀ (F := F) .tc cfg0.body (cfg0.bodyArgs t (cfg0.slots t)) = bodyAt0 t := by
  unfold defs₀; rw [Defs.onTc_tc]

/-- The pipeline's obligation on the body. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region is the invariant before the first point. -/
theorem hin (c : Dev nD) : Pipeline.ΦD osem0 spec0 H0 (V m) c ⊢ (dats m 0 c).Φ 0 := by
  rw [PhiD0_eq, show (dats m 0 c).Φ 0 = Phi m c 0 from rfl]
  unfold Phi
  rw [show (keptAt m c 0 : sProp 𝕄) = iprop(∃ d, owns (c : Thread nD τ) scM0_0 fullShare d) from if_pos rfl]
  iintro ⟨⟨HS0, HR0_0⟩, Hg, ⟨Hq0, Hq1, Hq2⟩, Hh0⟩
  isplitl [HS0]; · iexact HS0
  isplitl [Hg]; · iexact Hg
  iapply (ring0_0_in (F := F) m c)
  isplitl [HR0_0]; · iexact HR0_0
  isplitl [Hq0 Hq1 Hq2]
  · isplitl [Hq0]; · iexact Hq0
    isplitl [Hq1]; · iexact Hq1
    iexact Hq2
  iexact Hh0

/-- And the invariant after the last point hands it back. -/
theorem hout (c : Dev nD) : (dats m 0 c).Φ (Fin.last cfg0.N) ⊢ Pipeline.ΦD osem0 spec0 H0 (V m) c := by
  rw [PhiD0_eq, show (dats m 0 c).Φ (Fin.last cfg0.N) = Phi m c grid0.N from rfl]
  unfold Phi
  rw [show grid0.N = 192 by rw [N_0]]
  rw [show (keptAt m c 192 : sProp 𝕄) = iprop(∃ d, owns (c : Thread nD τ) scM0_0 fullShare d) from if_pos rfl]
  iintro ⟨HS0, Hg, HR0_0⟩
  ihave HX0_0 := (ring0_0_out (F := F) m c) $$ HR0_0
  icases HX0_0 with ⟨HR0_0, ⟨Hq0, Hq1, Hq2⟩, Hh0⟩
  isplitl [HS0 HR0_0]
  · isplitl [HS0]; · iexact HS0
    iexact HR0_0
  isplitl [Hg]
  · iexact Hg
  isplitl [Hq0 Hq1 Hq2]
  · isplitl [Hq0]; · iexact Hq0
    isplitl [Hq1]; · iexact Hq1
    iexact Hq2
  iexact Hh0

set_option backward.isDefEq.respectTransparency.types false in
/-- The run: the arrays end at what the proof data says, and every semaphore at zero. -/
theorem run_main : θ_run defs (onTc (τ := τ) (main (F := F))) (s₀ m ρ)
    (fun r => Pipeline.FramePost cfgs (dats m) 0 (V m) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmain m Variants.none) (hA := A_eq m) (hin := hin m) (hout := hout m)

end Cert.Kernel3Ideal.Up

end
-- ==== Proof.UpValue.lean ====
module

public import proofs.«01_k».proof.Proof.UpFrame
public import proofs.«01_k».proof.Proof.Dense
public import Idealize.ShloMosaic.Lib.ValueLayout

/-! The up projection as one function of the two arguments, and that the kernel's result array is that function. -/

@[expose] public section

set_option maxRecDepth 16384

noncomputable section

namespace Cert.Kernel3Ideal.Up

open Cert.Kernel3Ideal.Gen
open Idealize.ShloMosaic Idealize.ShloMosaic.TcCoe Idealize.ShloMosaic.Tactic Idealize.ShloMosaic.ValueIdx
open Idealize.SL.Sem
open Idealize.ShloMosaic.Pipeline (Dat)

/-- The square of the positive part of a row times a column of the weights. -/
def relu2 (x w : Fin 4096 → EReal) : EReal :=
  max (∑ k, x k * w k) (Ideal.ofBits .f32 0x00000000#32) * max (∑ k, x k * w k) (Ideal.ofBits .f32 0x00000000#32)

/-- A later row block stores the up projection. -/
theorem outLater_apply (X : Vec Ideal S1024x4096 .bf16) (wb : Vec Ideal S4096x512 .bf16) (r : Fin 1024) (c : Fin 512) :
    outLater X wb (ValueIdx.ix2 r c) = relu2 (fun k => X (ValueIdx.ix2 r k)) (fun k => wb (ValueIdx.ix2 k c)) := by
  refine congrArg (fun z : EReal => max z (Ideal.ofBits .f32 0x00000000#32) * max z (Ideal.ofBits .f32 0x00000000#32)) ?_
  refine (Dense.slab_product 0 (by decide) X _ _ r c).trans (Finset.sum_congr rfl fun j _ => ?_)
  exact congrArg (fun i => (X (ValueIdx.ix2 r i) : EReal) * _) (Fin.ext (Nat.zero_add _))

/-- The first row block stores the up projection. -/
theorem outFirst_apply (X : Vec Ideal S1024x4096 .bf16) (x0 : Vec Ideal S4096x512 .f32) (r : Fin 1024) (c : Fin 512) :
    outFirst X x0 (ValueIdx.ix2 r c) = relu2 (fun k => X (ValueIdx.ix2 r k)) (fun k => x0 (ValueIdx.ix2 k c)) := by
  unfold relu2
  rw [Dense.sum_eight]
  refine congrArg (fun z : EReal => max z (Ideal.ofBits .f32 0x00000000#32) * max z (Ideal.ofBits .f32 0x00000000#32)) ?_
  have h := fun k hk => Dense.rows_product k hk X shapeCasts_S1x1024x512_S1024x512 x0 shapeCasts_S512x512_S512x512 bitsLt_bf16_f32 r c
  refine congrArg₂ (fun a b : EReal => a + b) ?_ (h 3584 (by decide))
  refine congrArg₂ (fun a b : EReal => a + b) ?_ (h 3072 (by decide))
  refine congrArg₂ (fun a b : EReal => a + b) ?_ (h 2560 (by decide))
  refine congrArg₂ (fun a b : EReal => a + b) ?_ (h 2048 (by decide))
  refine congrArg₂ (fun a b : EReal => a + b) ?_ (h 1536 (by decide))
  refine congrArg₂ (fun a b : EReal => a + b) ?_ (h 1024 (by decide))
  exact congrArg₂ (fun a b : EReal => a + b) (h 0 (by decide)) (h 512 (by decide))

/-- The up projection: at a position, of its row and its column of the weights. -/
def up (x : Vec Ideal S6144x4096 .f32) (w : Vec Ideal S1x4096x16384 .f32) (r : Fin 6144) (j : Fin 16384) : EReal :=
  relu2 (fun k => x (ValueIdx.ix2 r k)) (fun k => w (ValueIdx.ix3 0 k j))

variable (m : (ℓ : Loc nD τ sig) → Buf (Elt Ideal) ℓ) (ρ : Dev nD → PrngReg)

/-- The two arguments on a device. -/
abbrev argX (c : Dev nD) : Vec Ideal S6144x4096 .f32 := m ((c : Thread nD τ).loc main_arg0)
abbrev argW (c : Dev nD) : Vec Ideal S1x4096x16384 .f32 := m ((c : Thread nD τ).loc main_arg1)

/-- The weights, as the region finds them. -/
theorem V_main_v1 (c : Dev nD) (k : Fin 4096) (j : Fin 16384) :
    (V m c main_v1 : Vec Ideal S4096x16384 .f32) (ValueIdx.ix2 k j) = argW m c (ValueIdx.ix3 0 k j) := by
  have e : (V m c main_v1 : Vec Ideal S4096x16384 .f32) = shapeCast _ (argW m c) shapeCasts_S1x4096x16384_S4096x16384 := by
    unfold V hostOps0; after_results <;> rfl
  rw [e]
  exact shapeCast_1ab_ab_apply _ _ k j

/-- The rows, as the region finds them: a change of format is no change here. -/
theorem V_main_v0 (c : Dev nD) : (V m c main_v0 : Vec Ideal S6144x4096 .bf16) = argX m c := by
  have e : (V m c main_v0 : Vec Ideal S6144x4096 .bf16)
      = (truncf .bf16 (argX m c : FVec Ideal S6144x4096 .f32) bitsLt_bf16_f32 : FVec Ideal S6144x4096 .bf16) := by
    unfold V hostOps0; after_results <;> rfl
  rw [e]; rfl

/-- The slab of a point, at a position. -/
theorem rowsOf_apply (c : Dev nD) (t : Fin 192) (r : Fin 1024) (k : Fin 4096) :
    rowsOf c (V m c main_v0) t (ValueIdx.ix2 r k) = argX m c (ValueIdx.ix2 ⟨1024 * (t.val % 6) + r.val, by omega⟩ k) := by
  rw [← V_main_v0]
  refine congrArg (V m c main_v0 : Vec Ideal S6144x4096 .bf16) (funext fun a => Fin.ext ?_)
  refine (ValueKit.view_emb_slice_whole_unit_val main_v0 _ _ _ _ a).trans ?_
  match a with
  | ⟨0, _⟩ => rfl
  | ⟨1, _⟩ => exact Nat.zero_add _

theorem index_1 : ∀ t : Fin grid0.N, win0_1.index t = ![t.val % 6, t.val / 6 % 32] := by decide +kernel

/-- What a point leaves in the result's window, at a position. -/
theorem outAt_apply (c : Dev nD) (t : Fin cfg0.N) (r : Fin 1024) (j : Fin 512) :
    outAt m c t (ValueIdx.ix2 r j)
      = up (argX m c) (argW m c) ⟨1024 * (t.val % 6) + r.val, by omega⟩ ⟨512 * (t.val / 6 % 32) + j.val, by omega⟩ := by
  have hb : (Ring.bk 192 t.val).val = t.val := Ring.bk_val (t.isLt.trans_eq N_0)
  have hX : ∀ k, rowsOf c (V m c main_v0) (Ring.bk 192 t.val) (ValueIdx.ix2 r k)
      = argX m c (ValueIdx.ix2 ⟨1024 * (t.val % 6) + r.val, by omega⟩ k) := fun k => by
    rw [rowsOf_apply]
    refine congrArg (argX m c) (congrArg (fun a => ValueIdx.ix2 a k) (Fin.ext ?_))
    show 1024 * ((Ring.bk 192 t.val).val % 6) + r.val = _
    rw [hb]
  have hW : ∀ k, wwin m c (colOf t.val) (ValueIdx.ix2 k j)
      = argW m c (ValueIdx.ix3 0 k ⟨512 * (t.val / 6 % 32) + j.val, by omega⟩) := fun k => V_main_v1 m c _ _
  unfold outAt up
  split
  · rw [outFirst_apply, iblk0_eq]
    simp only [hX, hW]
  · rw [outLater_apply]
    have hK : ∀ k, kept (wwin m c (colOf t.val)) (ValueIdx.ix2 k j) = wwin m c (colOf t.val) (ValueIdx.ix2 k j) := fun k => rfl
    simp only [hX, hK, hW]

/-- The result array after the run. -/
theorem result (c : Dev nD) :
    (dats m 0 c).arrAt 1 cfg0.N = (fun i => up (argX m c) (argW m c) (i 0) (i 1) : Vec Ideal S6144x16384 .bf16) := by
  refine (dats m 0 c).arrAt_eq_of_covers 1 _ (by decide +kernel) fun t hf y => ?_
  blk_simp
  rw [after_1]
  refine (congrArg (outAt m c t) (ValueIdx.eq_ix2 y)).trans ((outAt_apply m c t (y 0) (y 1)).trans ?_)
  refine congrArg₂ (up (argX m c) (argW m c)) (Fin.ext ?_) (Fin.ext ?_)
  · blk_simp [index_1 t]; exact congrArg (· + _) (Nat.mul_comm _ _)
  · blk_simp [index_1 t]; exact congrArg (· + _) (Nat.mul_comm _ _)

end Cert.Kernel3Ideal.Up

end
-- ==== Proof.UpClaims.lean ====
module

public import proofs.«01_k».proof.Defs
public import proofs.«01_k».proof.Proof.Gen.Kernel3
public import proofs.«01_k».proof.Proof.UpValue
public import proofs.«01_k».proof.Proof.Gen.Reference3Ideal.Run
public import Idealize.ShloMosaic.Lib.StackMember
public import Idealize.ShloMosaic.Lib.Quiescent

/-! The reference of the up projection read at a position, and the five claims. -/

@[expose] public section

set_option maxRecDepth 16384

noncomputable section

namespace Cert.Reference3Ideal.Up

open Cert.Reference3Ideal Cert.Reference3Ideal.Gen
open Idealize.ShloMosaic Idealize.ShloMosaic.TcCoe Idealize.ShloMosaic.ValueIdx Idealize.SL.Sem

variable (m : (ℓ : Loc nD τ sig) → Buf (Elt Ideal) ℓ) (ρ : Dev nD → PrngReg)

/-- The reference's run: its result is the up projection of its arguments, which it leaves unchanged. -/
theorem run : θ_run defs (onTc (τ := τ) (main (F := Ideal))) ⟨m, fun _ => 0, ρ⟩ fun r => ∀ c : Dev nD,
    r.2.mem ((c.tc : Thread nD τ).loc main_v4)
      = (fun i => Cert.Kernel3Ideal.Up.up (m ((c.tc : Thread nD τ).loc main_arg0)) (m ((c.tc : Thread nD τ).loc main_arg1))
          (i 0) (i 1) : FVec Ideal S6144x16384 .bf16)
    ∧ r.2.mem ((c.tc : Thread nD τ).loc main_arg0) = m ((c.tc : Thread nD τ).loc main_arg0)
    ∧ r.2.mem ((c.tc : Thread nD τ).loc main_arg1) = m ((c.tc : Thread nD τ).loc main_arg1) := by
  refine (θ_run defs _ _).mono (fun _ h c => ⟨(h c).1.trans (funext fun i => ?_), (h c).2⟩) (Value.run m ρ)
  refine congrArg (fun z : EReal => max z (Ideal.ofBits .f32 0x00000000#32) * max z (Ideal.ofBits .f32 0x00000000#32)) ?_
  exact Dense.host_product _ _ _ i

end Cert.Reference3Ideal.Up

namespace Cert.Kernel3Ideal.Up

open Cert.Kernel3Ideal.Gen
open Idealize.ShloMosaic Idealize.ShloMosaic.TcCoe Idealize.SL.Sem

variable {F : FTy → Type} [FloatOps F]

/-- The run leaves the two arguments as launched, and every counter at zero. -/
theorem run_args (m : (ℓ : Loc nD τ sig) → Buf (Elt F) ℓ) (ρ : Dev nD → PrngReg) :
    θ_run defs (onTc (τ := τ) (main (F := F))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0 :=
  (θ_run defs _ _).mono (fun _ h => ⟨fun c =>
      ⟨((h.1 c).2 main_arg0 (Pipeline.mem_restRefs_of main_arg0 (by decide) (by decide))).trans (V_main_arg0 m c),
       ((h.1 c).2 main_arg1 (Pipeline.mem_restRefs_of main_arg1 (by decide) (by decide))).trans (V_main_arg1 m c)⟩, h.2⟩)
    (run_main m ρ)

/-- The kernel as printed has the same table of bodies and the same program text. -/
theorem defs₀_eq : Cert.Kernel3Ideal.defs₀ (F := F) = Cert.Kernel3.defs₀ (F := F) :=
  congrArg Defs.onTc (funext fun l => funext fun a => by
    match l, a with
    | 0, (t, s) => rfl)

theorem frame_ideal : Cert.quiescent_Kernel3Ideal := fun m ρ _ => run_args m ρ

theorem frame_kernel : Cert.quiescent_Kernel3 := fun m ρ _ => by
  have h := run_args (F := Bits) m ρ
  unfold Cert.Kernel3Ideal.defs at h
  rw [defs₀_eq] at h
  exact h

theorem frame_reference : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

/-- At the ideal values the kernel's result is the reference's. -/
theorem algebraic : Cert.algebraic_Kernel3Ideal_Reference3Ideal := fun m ρ m' ρ' _ hag =>
  ⟨fun c => (fun i => up (argX m c) (argW m c) (i 0) (i 1) : Vec Ideal S6144x16384 .bf16),
   (θ_run defs _ _).mono (fun _ h c => ⟨((h.1.1 c).1 1).trans (result m c), h.2.1 c⟩)
     (θ_run_and (run_main m ρ) (run_args m ρ)),
   (θ_run Cert.Reference3Ideal.defs _ _).mono (fun _ h c => ⟨(h c).1.trans (by rw [(hag c).1, (hag c).2]), (h c).2⟩)
     (Cert.Reference3Ideal.Up.run m' ρ')⟩

end Cert.Kernel3Ideal.Up

end
-- ==== Proof.DownRun.lean ====
module

public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Slab
public import Idealize.ShloMosaic.Lib.VecWindow
public import Idealize.ShloMosaic.Lib.Pipeline.ValueKit

/-! One grid step of the down projection's kernel, with what it leaves named.

The result's window holds a whole column block of the result. A step adds one row block's product over one chunk of the
contracted axis into the rows of that block: it stores the product at the first chunk, and adds it to the rows found at the
later ones. At the first row block it casts the window of the weights, keeps it in the scratch, and sums eight partial
products; at the later row blocks it multiplies by the kept scratch. -/

@[expose] public section

set_option maxRecDepth 16384

noncomputable section

namespace Cert.Kernel4Ideal.Down

open Cert.Kernel4Ideal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The conditions the body branches on. -/
abbrev cond0_0 (i : grid0.Coords) : Prop := k0_cond1 i = 1#1
abbrev cond0_1 (i : grid0.Coords) : Prop := k0_cond2 i = 1#1
abbrev cond0_2 (i : grid0.Coords) : Prop := k0_cond3 i = 1#1
abbrev cond0_3 (i : grid0.Coords) : Prop := k0_cond4 i = 1#1
abbrev cond0_4 (i : grid0.Coords) : Prop := k0_cond5 i = 1#1
abbrev cond0_5 (i : grid0.Coords) : Prop := k0_cond6 i = 1#1

theorem hcond0_0 : ∀ t : Fin grid0.N, cond0_0 (grid0.coords t) ↔ t.val % 6 = 0 := by decide +kernel
theorem hcond0_1 : ∀ t : Fin grid0.N, cond0_1 (grid0.coords t) ↔ t.val / 6 % 4 = 0 := by decide +kernel
theorem hcond0_2 : ∀ t : Fin grid0.N, cond0_2 (grid0.coords t) ↔ 1 ≤ t.val / 6 % 4 := by decide +kernel
theorem hcond0_3 : ∀ t : Fin grid0.N, cond0_3 (grid0.coords t) ↔ 1 ≤ t.val % 6 := by decide +kernel
theorem hcond0_4 : ∀ t : Fin grid0.N, cond0_4 (grid0.coords t) ↔ t.val / 6 % 4 = 0 := by decide +kernel
theorem hcond0_5 : ∀ t : Fin grid0.N, cond0_5 (grid0.coords t) ↔ 1 ≤ t.val / 6 % 4 := by decide +kernel

/-- A window of the weights, cast: what the scratch keeps for a chunk. -/
def kept (x0 : Vec F S4096x512 .f32) : Vec F S4096x512 .bf16 := fun i => FloatOps.truncf .bf16 bitsLt_bf16_f32 (x0 i)

/-- Columns `k … k + 511` of a row block. -/
def strip (k : ℕ) (hk : k + 512 ≤ 4096) (X : Vec F S1024x4096 .bf16) : Vec F S1024x512 .bf16 :=
  fun j => X (ValueIdx.ix2 (j 0) ⟨k + (j 1).val, by have : (j 1).val < 512 := (j 1).isLt; omega⟩)

/-- The product at the first row block: eight partial products of the block's columns and the window's rows. -/
def outFirst (X : Vec F S1024x4096 .bf16) (x0 : Vec F S4096x512 .f32) : Vec F S1024x512 .f32 :=
  k0_pay3 (k0_pay20 (k0_pay13 (Slab.rows 0 (by decide) x0) (strip 0 (by decide) X)
      (Slab.rows 512 (by decide) x0) (strip 512 (by decide) X) (Slab.rows 1024 (by decide) x0) (strip 1024 (by decide) X))
    (k0_pay14 (Slab.rows 1536 (by decide) x0)) (strip 1536 (by decide) X) (Slab.rows 2048 (by decide) x0)
      (strip 2048 (by decide) X) (Slab.rows 2560 (by decide) x0) (strip 2560 (by decide) X))
    (k0_pay21 (Slab.rows 3072 (by decide) x0)) (strip 3072 (by decide) X) (Slab.rows 3584 (by decide) x0)
      (strip 3584 (by decide) X)

/-- The product at a later row block: the block times the kept weights. -/
def outLater (X : Vec F S1024x4096 .bf16) (wb : Vec F S4096x512 .bf16) : Vec F S1024x512 .f32 := k0_pay5 X wb

/-- A product added to the rows found. -/
def more (old p : Vec F S1024x512 .f32) : Vec F S1024x512 .f32 :=
  (addf (shapeCast S1024x512 old shapeCasts_S1024x512_S1024x512 : FVec F S1024x512 .f32) p : FVec F S1024x512 .f32)

theorem inb_block (i : ℕ) (hi : i < 6) : ∀ a, (![1024 * i, 0] : Fin 2 → ℕ) a + S1024x512.size a ≤ S6144x512.size a := fun a => by
  match a with
  | ⟨0, _⟩ => show 1024 * i + 1024 ≤ 6144; omega
  | ⟨1, _⟩ => show 0 + 512 ≤ 512; omega

/-- Row block `i` of the result's window, -/
def blockOf (i : ℕ) (hi : i < 6) (Y : Vec F S6144x512 .f32) : Vec F S1024x512 .f32 :=
  VecWindow.window Y ![1024 * i, 0] S1024x512.size (inb_block i hi)
/-- and the window with row block `i` replaced. -/
def put (i : ℕ) (o : Vec F S1024x512 .f32) (Y : Vec F S6144x512 .f32) : Vec F S6144x512 .f32 :=
  VecWindow.put Y ![1024 * i, 0] S1024x512.size o

theorem blockOf_put_same (i : ℕ) (hi : i < 6) (o : Vec F S1024x512 .f32) (Y : Vec F S6144x512 .f32) : blockOf i hi (put i o Y) = o :=
  VecWindow.window_put_same Y _ _ _ o

theorem blockOf_put_ne (i j : ℕ) (hi : i < 6) (hij : i ≠ j) (o : Vec F S1024x512 .f32) (Y : Vec F S6144x512 .f32) :
    blockOf i hi (put j o Y) = blockOf i hi Y :=
  VecWindow.window_put_of_disjoint Y _ _ _ _ _ o (0 : Fin 2) (by
    show 1024 * i + 1024 ≤ 1024 * j ∨ 1024 * j + 1024 ≤ 1024 * i; omega)

/-- What the window holds after a row block is stored. -/
theorem read_put (M : Memref sig .tc .vmem S6144x512 .f32) (f) (Y : Vec F S6144x512 .f32) (hf : View.read (Elt F) M.view f = Y) {i : ℕ}
    {off : Fin 2 → ℕ} (inb) (ho : off = ![1024 * i, 0]) (w o : Vec F S1024x512 .f32) (hw : w = o) :
    View.read (Elt F) M.view (M.view.writes (Elt F) f [⟨Rect.unit (s := S6144x512) off S1024x512.size inb, w⟩]) = put i o Y := by
  subst hw; rw [View.read_writes_cons_put M.view f inb w [] ho, View.writes_nil, hf]; rfl

/-- A load of a row block. -/
theorem readAt_block (M : Memref sig .tc .vmem S6144x512 .f32) (f) (Y : Vec F S6144x512 .f32) (hf : View.read (Elt F) M.view f = Y) {i : ℕ}
    (hi : i < 6) {off : Fin 2 → ℕ} (inb) (ho : off = ![1024 * i, 0]) :
    View.readAt (Elt F) M.view (Rect.unit (s := S6144x512) off S1024x512.size inb).toLoadRect f = blockOf i hi Y := by
  rw [View.readAt_unit M.view f inb ho (inb_block i hi), hf]; rfl

/-- A load of 512 columns of a row block of the operand. -/
theorem readAt_strip (M : Memref sig .tc .vmem S1024x4096 .bf16) (f) (X : Vec F S1024x4096 .bf16) (hf : View.read (Elt F) M.view f = X)
    (k : ℕ) (hk : k + 512 ≤ 4096) (inb) :
    View.readAt (Elt F) M.view (Rect.unit (s := S1024x4096) ![0, k] S1024x512.size inb).toLoadRect f = strip k hk X := by
  rw [View.readAt_eq_ld, hf]
  funext j
  refine View.ld_unit_apply_of X _ _ inb j _ fun a => ?_
  match a with
  | ⟨0, _⟩ => exact (Nat.zero_add _).symm
  | ⟨1, _⟩ => rfl

/-- A piece of the kept weights: rows `k … k + 511` of the window, cast. -/
theorem kept_piece (x0 : Vec F S4096x512 .f32) (k : ℕ) (hk : k + 512 ≤ 4096) (inb)
    (x : (Rect.unit (s := S4096x512) ![k, 0] S512x512.size inb).shape.Idx) :
    shapeCast S512x512 (truncf .bf16 (shapeCast S512x512 (Slab.rows k hk x0) shapeCasts_S512x512_S512x512 : FVec F S512x512 .f32)
      bitsLt_bf16_f32 : FVec F S512x512 .bf16) shapeCasts_S512x512_S512x512 x
      = kept x0 ((Rect.unit (s := S4096x512) ![k, 0] S512x512.size inb).emb x) := by
  rw [shapeCast_self, shapeCast_self]
  refine congrArg (fun i => FloatOps.truncf .bf16 bitsLt_bf16_f32 (x0 i)) (funext fun a => Fin.ext ?_)
  match a with
  | ⟨0, _⟩ => show k + (x 0).val = k + 1 * (x 0).val; omega
  | ⟨1, _⟩ => show (x 1).val = 0 + 1 * (x 1).val; omega

/-- The scratch after the eight pieces are stored holds the kept weights. -/
theorem read_kept (M : Memref sig .tc .vmem S4096x512 .bf16) (f) (x0 : Vec F S4096x512 .f32) (i7 i6 i5 i4 i3 i2 i1 i0) :
    View.read (Elt F) M.view (M.view.writes (Elt F) f
      [⟨Rect.unit (s := S4096x512) ![3584, 0] S512x512.size i7, k0_pay2 (Slab.rows 3584 (by decide) x0)⟩,
       ⟨Rect.unit (s := S4096x512) ![3072, 0] S512x512.size i6, k0_pay22 (Slab.rows 3072 (by decide) x0)⟩,
       ⟨Rect.unit (s := S4096x512) ![2560, 0] S512x512.size i5, k0_pay19 (Slab.rows 2560 (by decide) x0)⟩,
       ⟨Rect.unit (s := S4096x512) ![2048, 0] S512x512.size i4, k0_pay17 (Slab.rows 2048 (by decide) x0)⟩,
       ⟨Rect.unit (s := S4096x512) ![1536, 0] S512x512.size i3, k0_pay15 (k0_pay14 (Slab.rows 1536 (by decide) x0))⟩,
       ⟨Rect.unit (s := S4096x512) ![1024, 0] S512x512.size i2, k0_pay12 (Slab.rows 1024 (by decide) x0)⟩,
       ⟨Rect.unit (s := S4096x512) ![512, 0] S512x512.size i1, k0_pay10 (Slab.rows 512 (by decide) x0)⟩,
       ⟨Rect.unit (s := S4096x512) ![0, 0] S512x512.size i0, k0_pay8 (Slab.rows 0 (by decide) x0)⟩]) = kept x0 := by
  exact Slab.read_eight M f (kept x0) _ _ _ _ _ _ _ _ (kept_piece x0 0 _ i0) (kept_piece x0 512 _ i1) (kept_piece x0 1024 _ i2)
    (kept_piece x0 1536 _ i3) (kept_piece x0 2048 _ i4) (kept_piece x0 2560 _ i5) (kept_piece x0 3072 _ i6) (kept_piece x0 3584 _ i7)

/-- The product at the first row block, its loads given. -/
theorem outFirst_of (X : Vec F S1024x4096 .bf16) (x0 : Vec F S4096x512 .f32) {a0 a1 a2 a3 a4 a5 a6 a7 : Vec F S1024x512 .bf16}
    (h0 : a0 = strip 0 (by decide) X) (h1 : a1 = strip 512 (by decide) X) (h2 : a2 = strip 1024 (by decide) X)
    (h3 : a3 = strip 1536 (by decide) X) (h4 : a4 = strip 2048 (by decide) X) (h5 : a5 = strip 2560 (by decide) X)
    (h6 : a6 = strip 3072 (by decide) X) (h7 : a7 = strip 3584 (by decide) X) :
    k0_pay3 (k0_pay20 (k0_pay13 (Slab.rows 0 (by decide) x0) a0 (Slab.rows 512 (by decide) x0) a1 (Slab.rows 1024 (by decide) x0) a2)
      (k0_pay14 (Slab.rows 1536 (by decide) x0)) a3 (Slab.rows 2048 (by decide) x0) a4 (Slab.rows 2560 (by decide) x0) a5)
      (k0_pay21 (Slab.rows 3072 (by decide) x0)) a6 (Slab.rows 3584 (by decide) x0) a7 = outFirst X x0 := by
  subst h0 h1 h2 h3 h4 h5 h6 h7; rfl

/-- The same at a later chunk, the rows found given. -/
theorem outFirst_more_of (X : Vec F S1024x4096 .bf16) (x0 : Vec F S4096x512 .f32) (old : Vec F S1024x512 .f32)
    {a0 a1 a2 a3 a4 a5 a6 a7 : Vec F S1024x512 .bf16} {b : Vec F S1024x512 .f32}
    (h0 : a0 = strip 0 (by decide) X) (h1 : a1 = strip 512 (by decide) X) (h2 : a2 = strip 1024 (by decide) X)
    (h3 : a3 = strip 1536 (by decide) X) (h4 : a4 = strip 2048 (by decide) X) (h5 : a5 = strip 2560 (by decide) X)
    (h6 : a6 = strip 3072 (by decide) X) (h7 : a7 = strip 3584 (by decide) X) (hb : b = old) :
    k0_pay4 (k0_pay20 (k0_pay13 (Slab.rows 0 (by decide) x0) a0 (Slab.rows 512 (by decide) x0) a1 (Slab.rows 1024 (by decide) x0) a2)
      (k0_pay14 (Slab.rows 1536 (by decide) x0)) a3 (Slab.rows 2048 (by decide) x0) a4 (Slab.rows 2560 (by decide) x0) a5)
      (k0_pay21 (Slab.rows 3072 (by decide) x0)) a6 (Slab.rows 3584 (by decide) x0) a7 b = more old (outFirst X x0) := by
  subst h0 h1 h2 h3 h4 h5 h6 h7 hb; rfl

/-- The product at a later row block, its loads given. -/
theorem outLater_of (X : Vec F S1024x4096 .bf16) (wb : Vec F S4096x512 .bf16) {a : Vec F S1024x4096 .bf16} {w : Vec F S4096x512 .bf16}
    (ha : a = X) (hw : w = wb) : k0_pay5 a w = outLater X wb := by
  subst ha hw; rfl

/-- The same at a later chunk. -/
theorem outLater_more_of (X : Vec F S1024x4096 .bf16) (wb : Vec F S4096x512 .bf16) (old : Vec F S1024x512 .f32)
    {a : Vec F S1024x4096 .bf16} {w : Vec F S4096x512 .bf16} {b : Vec F S1024x512 .f32}
    (ha : a = X) (hw : w = wb) (hb : b = old) : k0_pay6 a w b = more old (outLater X wb) := by
  subst ha hw hb; rfl

variable (c : Dev nD) (i : grid0.Coords) (arg3 : Memref sig .tc .vmem S1024x4096 .bf16) (harg3 : arg3.IsWhole)
  (arg4 : Memref sig .tc .vmem S4096x512 .f32) (harg4 : arg4.IsWhole) (arg5 : Memref sig .tc .vmem S6144x512 .f32) (harg5 : arg5.IsWhole)
  (arg6 : Memref sig .tc .vmem S4096x512 .bf16) (harg6 : arg6.IsWhole)

/-- What a step is handed and hands back: its windows at `X`, `x0` and `Y`, and its scratch at `S`. -/
abbrev holds (X : Vec F S1024x4096 .bf16) (x0 : Vec F S4096x512 .f32) (Y : Vec F S6144x512 .f32) (S : sProp 𝕄) : sProp 𝕄 :=
  iprop(owns (c : Thread nD τ) arg3 fullShare X ∗ owns (c : Thread nD τ) arg4 fullShare x0 ∗ owns (c : Thread nD τ) arg5 fullShare Y ∗ S)

set_option maxHeartbeats 1000000 in
/-- The first row block at the first chunk. -/
theorem runA (hc0 : cond0_0 i) (hc1 : cond0_1 i) (hc2 : ¬cond0_2 i) (hc3 : ¬cond0_3 i)
    (X : Vec F S1024x4096 .bf16) (x0 : Vec F S4096x512 .f32) (Y : Vec F S6144x512 .f32) (K : PUnit → sProp 𝕄) :
    iprop(holds c arg3 arg4 arg5 X x0 Y iprop(∃ d, owns (c : Thread nD τ) arg6 fullShare d)
        ∗ (holds c arg3 arg4 arg5 X x0 (put (i 2).val (outFirst X x0) Y) (owns (c : Thread nD τ) arg6 fullShare (kept x0)) -∗ K ⟨⟩))
      ⊢ wp frame (wpE (defs₀ (F := F)) Variants.none c none) Set.univ (cc0_down_proj i arg3 harg3 arg4 harg4 arg5 harg5 arg6 harg6) K := by
  simp only [cc0_down_proj_eq_skeleton]; unfold cc0_down_proj_skel
  simp only [k0_part1_eq_skeleton, k0_part2_eq_skeleton]
  unfold holds owns
  iintro ⟨⟨⟨%f0, %hf0, H0⟩, ⟨%f1, %hf1, H1⟩, ⟨%f2, %hf2, H2⟩, ⟨%ds0, %fs0, -, HS0⟩⟩, Hk⟩
  obtain rfl := harg3.eq_unread hf0; obtain rfl := harg4.eq_unread hf1
  sl_exec (disch := first | sl_exact hc0 | sl_exact hc1 | sl_exact hc2 | sl_exact hc3)
  sl_step
  iapply Hk
  isplitl [H0]
  · iexists _; isplitr; · ipureintro; exact harg3.read_unread _
    iexact H0
  isplitl [H1]
  · iexists _; isplitr; · ipureintro; exact harg4.read_unread _
    iexact H1
  have r0 := harg3.read_unread (Val := Elt F) X
  have r1 := harg4.read_unread (Val := Elt F) x0
  isplitl [H2]
  · iexists _; isplitr; swap; · iexact H2
    ipureintro; sl_unfold_run_names
    refine read_put arg5 _ Y hf2 _ (k0_off1_eq i) _ _ ?_
    simp only [Slab.readAt_rows arg4 _ x0 r1 0 (by decide), Slab.readAt_rows arg4 _ x0 r1 512 (by decide),
      Slab.readAt_rows arg4 _ x0 r1 1024 (by decide), Slab.readAt_rows arg4 _ x0 r1 1536 (by decide),
      Slab.readAt_rows arg4 _ x0 r1 2048 (by decide), Slab.readAt_rows arg4 _ x0 r1 2560 (by decide),
      Slab.readAt_rows arg4 _ x0 r1 3072 (by decide), Slab.readAt_rows arg4 _ x0 r1 3584 (by decide)]
    exact outFirst_of X x0 (readAt_strip arg3 _ X r0 0 _ _) (readAt_strip arg3 _ X r0 512 _ _) (readAt_strip arg3 _ X r0 1024 _ _)
      (readAt_strip arg3 _ X r0 1536 _ _) (readAt_strip arg3 _ X r0 2048 _ _) (readAt_strip arg3 _ X r0 2560 _ _)
      (readAt_strip arg3 _ X r0 3072 _ _) (readAt_strip arg3 _ X r0 3584 _ _)
  iexists _; isplitr; swap; · iexact HS0
  ipureintro; sl_unfold_run_names
  simp only [Slab.readAt_rows arg4 _ x0 r1 0 (by decide), Slab.readAt_rows arg4 _ x0 r1 512 (by decide),
    Slab.readAt_rows arg4 _ x0 r1 1024 (by decide), Slab.readAt_rows arg4 _ x0 r1 1536 (by decide),
    Slab.readAt_rows arg4 _ x0 r1 2048 (by decide), Slab.readAt_rows arg4 _ x0 r1 2560 (by decide),
    Slab.readAt_rows arg4 _ x0 r1 3072 (by decide), Slab.readAt_rows arg4 _ x0 r1 3584 (by decide)]
  exact read_kept arg6 _ x0 _ _ _ _ _ _ _ _

set_option maxHeartbeats 1000000 in
/-- A later row block at the first chunk. -/
theorem runB (hc0 : ¬cond0_0 i) (hc3 : cond0_3 i) (hc4 : cond0_4 i) (hc5 : ¬cond0_5 i)
    (X : Vec F S1024x4096 .bf16) (x0 : Vec F S4096x512 .f32) (wb : Vec F S4096x512 .bf16) (Y : Vec F S6144x512 .f32) (K : PUnit → sProp 𝕄) :
    iprop(holds c arg3 arg4 arg5 X x0 Y (owns (c : Thread nD τ) arg6 fullShare wb)
        ∗ (holds c arg3 arg4 arg5 X x0 (put (i 2).val (outLater X wb) Y) (owns (c : Thread nD τ) arg6 fullShare wb) -∗ K ⟨⟩))
      ⊢ wp frame (wpE (defs₀ (F := F)) Variants.none c none) Set.univ (cc0_down_proj i arg3 harg3 arg4 harg4 arg5 harg5 arg6 harg6) K := by
  simp only [cc0_down_proj_eq_skeleton]; unfold cc0_down_proj_skel
  unfold holds owns
  iintro ⟨⟨⟨%f0, %hf0, H0⟩, H1, ⟨%f2, %hf2, H2⟩, ⟨%fs0, %hfs0, HS0⟩⟩, Hk⟩
  sl_exec (disch := first | sl_exact hc0 | sl_exact hc3 | sl_exact hc4 | sl_exact hc5)
  sl_step
  iapply Hk
  isplitl [H0]
  · iexists _; isplitr; · ipureintro; exact hf0
    iexact H0
  isplitl [H1]; · iexact H1
  isplitl [H2]
  · iexists _; isplitr; swap; · iexact H2
    ipureintro; sl_unfold_run_names
    exact read_put arg5 _ Y hf2 _ (k0_off3_eq i) _ _ (outLater_of X wb (Slab.readAt_all arg3 _ X hf0 _) (Slab.readAt_all arg6 _ wb hfs0 _))
  iexists _; isplitr; swap; · iexact HS0
  ipureintro; exact hfs0

set_option maxHeartbeats 1000000 in
/-- The first row block at a later chunk. -/
theorem runC (hc0 : cond0_0 i) (hc1 : ¬cond0_1 i) (hc2 : cond0_2 i) (hc3 : ¬cond0_3 i)
    (X : Vec F S1024x4096 .bf16) (x0 : Vec F S4096x512 .f32) (Y : Vec F S6144x512 .f32) (K : PUnit → sProp 𝕄) :
    iprop(holds c arg3 arg4 arg5 X x0 Y iprop(∃ d, owns (c : Thread nD τ) arg6 fullShare d)
        ∗ (holds c arg3 arg4 arg5 X x0 (put (i 2).val (more (blockOf (i 2).val (i 2).isLt Y) (outFirst X x0)) Y)
            (owns (c : Thread nD τ) arg6 fullShare (kept x0)) -∗ K ⟨⟩))
      ⊢ wp frame (wpE (defs₀ (F := F)) Variants.none c none) Set.univ (cc0_down_proj i arg3 harg3 arg4 harg4 arg5 harg5 arg6 harg6) K := by
  simp only [cc0_down_proj_eq_skeleton]; unfold cc0_down_proj_skel
  simp only [k0_part1_eq_skeleton, k0_part2_eq_skeleton]
  unfold holds owns
  iintro ⟨⟨⟨%f0, %hf0, H0⟩, ⟨%f1, %hf1, H1⟩, ⟨%f2, %hf2, H2⟩, ⟨%ds0, %fs0, -, HS0⟩⟩, Hk⟩
  obtain rfl := harg3.eq_unread hf0; obtain rfl := harg4.eq_unread hf1
  sl_exec (disch := first | sl_exact hc0 | sl_exact hc1 | sl_exact hc2 | sl_exact hc3)
  sl_step
  iapply Hk
  isplitl [H0]
  · iexists _; isplitr; · ipureintro; exact harg3.read_unread _
    iexact H0
  isplitl [H1]
  · iexists _; isplitr; · ipureintro; exact harg4.read_unread _
    iexact H1
  have r0 := harg3.read_unread (Val := Elt F) X
  have r1 := harg4.read_unread (Val := Elt F) x0
  isplitl [H2]
  · iexists _; isplitr; swap; · iexact H2
    ipureintro; sl_unfold_run_names
    refine read_put arg5 _ Y hf2 _ (k0_off2_eq i) _ _ ?_
    simp only [Slab.readAt_rows arg4 _ x0 r1 0 (by decide), Slab.readAt_rows arg4 _ x0 r1 512 (by decide),
      Slab.readAt_rows arg4 _ x0 r1 1024 (by decide), Slab.readAt_rows arg4 _ x0 r1 1536 (by decide),
      Slab.readAt_rows arg4 _ x0 r1 2048 (by decide), Slab.readAt_rows arg4 _ x0 r1 2560 (by decide),
      Slab.readAt_rows arg4 _ x0 r1 3072 (by decide), Slab.readAt_rows arg4 _ x0 r1 3584 (by decide)]
    exact outFirst_more_of X x0 _ (readAt_strip arg3 _ X r0 0 _ _) (readAt_strip arg3 _ X r0 512 _ _) (readAt_strip arg3 _ X r0 1024 _ _)
      (readAt_strip arg3 _ X r0 1536 _ _) (readAt_strip arg3 _ X r0 2048 _ _) (readAt_strip arg3 _ X r0 2560 _ _)
      (readAt_strip arg3 _ X r0 3072 _ _) (readAt_strip arg3 _ X r0 3584 _ _) (readAt_block arg5 _ Y hf2 _ _ (k0_off2_eq i))
  iexists _; isplitr; swap; · iexact HS0
  ipureintro; sl_unfold_run_names
  simp only [Slab.readAt_rows arg4 _ x0 r1 0 (by decide), Slab.readAt_rows arg4 _ x0 r1 512 (by decide),
    Slab.readAt_rows arg4 _ x0 r1 1024 (by decide), Slab.readAt_rows arg4 _ x0 r1 1536 (by decide),
    Slab.readAt_rows arg4 _ x0 r1 2048 (by decide), Slab.readAt_rows arg4 _ x0 r1 2560 (by decide),
    Slab.readAt_rows arg4 _ x0 r1 3072 (by decide), Slab.readAt_rows arg4 _ x0 r1 3584 (by decide)]
  exact read_kept arg6 _ x0 _ _ _ _ _ _ _ _

set_option maxHeartbeats 1000000 in
/-- A later row block at a later chunk. -/
theorem runD (hc0 : ¬cond0_0 i) (hc3 : cond0_3 i) (hc4 : ¬cond0_4 i) (hc5 : cond0_5 i)
    (X : Vec F S1024x4096 .bf16) (x0 : Vec F S4096x512 .f32) (wb : Vec F S4096x512 .bf16) (Y : Vec F S6144x512 .f32) (K : PUnit → sProp 𝕄) :
    iprop(holds c arg3 arg4 arg5 X x0 Y (owns (c : Thread nD τ) arg6 fullShare wb)
        ∗ (holds c arg3 arg4 arg5 X x0 (put (i 2).val (more (blockOf (i 2).val (i 2).isLt Y) (outLater X wb)) Y)
            (owns (c : Thread nD τ) arg6 fullShare wb) -∗ K ⟨⟩))
      ⊢ wp frame (wpE (defs₀ (F := F)) Variants.none c none) Set.univ (cc0_down_proj i arg3 harg3 arg4 harg4 arg5 harg5 arg6 harg6) K := by
  simp only [cc0_down_proj_eq_skeleton]; unfold cc0_down_proj_skel
  unfold holds owns
  iintro ⟨⟨⟨%f0, %hf0, H0⟩, H1, ⟨%f2, %hf2, H2⟩, ⟨%fs0, %hfs0, HS0⟩⟩, Hk⟩
  sl_exec (disch := first | sl_exact hc0 | sl_exact hc3 | sl_exact hc4 | sl_exact hc5)
  sl_step
  iapply Hk
  isplitl [H0]
  · iexists _; isplitr; · ipureintro; exact hf0
    iexact H0
  isplitl [H1]; · iexact H1
  isplitl [H2]
  · iexists _; isplitr; swap; · iexact H2
    ipureintro; sl_unfold_run_names
    exact read_put arg5 _ Y hf2 _ (k0_off4_eq i) _ _ (outLater_more_of X wb _ (Slab.readAt_all arg3 _ X hf0 _)
      (Slab.readAt_all arg6 _ wb hfs0 _) (readAt_block arg5 _ Y hf2 _ _ (k0_off4_eq i)))
  iexists _; isplitr; swap; · iexact HS0
  ipureintro; exact hfs0

end Cert.Kernel4Ideal.Down

end
-- ==== Proof.DownFrame.lean ====
module

public import proofs.«01_k».proof.Proof.DownRun
public import Idealize.ShloMosaic.Lib.Pipeline.DatRel
public import Idealize.ShloMosaic.Lib.Pipeline.ArrRel

/-! The down projection's kernel over its whole grid. At a column block's first chunk the rows of the blocks still to come
hold anything, so what a point leaves in the result's window is not one array: it is any array whose last six written row
blocks hold their partial sums. The scratch is tracked from point to point. -/

@[expose] public section

set_option maxRecDepth 16384

noncomputable section

namespace Cert.Kernel4Ideal.Down

open Cert.Kernel4Ideal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligationRel cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The weights of chunk `q` and column block `j`. -/
def wwin (c : Dev nD) (q : Fin 4) (j : Fin 8) : Vec F S4096x512 .f32 :=
  fun y => (V m c main_v1 : Vec F S16384x4096 .f32) (ValueIdx.ix2
    ⟨4096 * q.val + (y 0).val, by have : (y 0).val < 4096 := (y 0).isLt; omega⟩
    ⟨512 * j.val + (y 1).val, by have : (y 1).val < 512 := (y 1).isLt; omega⟩)

/-- The chunk and the column block of a grid point. -/
def chunkOf (t : ℕ) : Fin 4 := ⟨t / 6 % 4, Nat.mod_lt _ (by decide)⟩
def colOf (t : ℕ) : Fin 8 := ⟨t / 24 % 8, Nat.mod_lt _ (by decide)⟩

theorem index_1 : ∀ t : Fin grid0.N, win0_1.index t = ![t.val / 6 % 4, t.val / 24 % 8] := by decide +kernel

/-- The weight window's block at a point. -/
theorem iblk1_eq (c : Dev nD) (t : Fin cfg0.N) : iblk m c 1 t = wwin m c (chunkOf t.val) (colOf t.val) := by
  funext y
  blk_simp [iblk]
  refine congrArg (V m c main_v1 : Vec F S16384x4096 .f32) ?_
  blk_ext [index_1 t]
  · show t.val / 6 % 4 * 4096 + (y 0).val = 4096 * (t.val / 6 % 4) + (y 0).val
    omega
  · show t.val / 24 % 8 * 512 + (y 1).val = 512 * (t.val / 24 % 8) + (y 1).val
    omega

/-- The scratch before point `k`: anything at a chunk's start, else that chunk's kept weights. -/
def keptAt (c : Dev nD) (k : ℕ) : sProp 𝕄 :=
  if k % 6 = 0 then iprop(∃ d, owns (c : Thread nD τ) (Memref.whole cc0_scratch0) fullShare d)
  else owns (c : Thread nD τ) (Memref.whole cc0_scratch0) fullShare (kept (wwin m c (chunkOf k) (colOf k)))

theorem keptAt_next (c : Dev nD) (k : ℕ) :
    owns (c : Thread nD τ) (Memref.whole cc0_scratch0) fullShare (kept (wwin m c (chunkOf k) (colOf k))) ⊢ (keptAt m c (k + 1) : sProp 𝕄) := by
  unfold keptAt
  by_cases h : (k + 1) % 6 = 0
  · rw [if_pos h]; iintro H; iexists _; iexact H
  · rw [if_neg h, show colOf (k + 1) = colOf k from Fin.ext (by show (k + 1) / 24 % 8 = k / 24 % 8; omega),
      show chunkOf (k + 1) = chunkOf k from Fin.ext (by show (k + 1) / 6 % 4 = k / 6 % 4; omega)]

/-- The same at a chunk's first point, where the kept weights come from the window. -/
theorem keptAt_first (c : Dev nD) (t : Fin cfg0.N) :
    owns (c : Thread nD τ) (Memref.whole cc0_scratch0) fullShare (kept (iblk m c 1 t)) ⊢ (keptAt m c (t.val + 1) : sProp 𝕄) := by
  rw [iblk1_eq]; exact keptAt_next m c t.val

/-- The product a point computes. -/
def prod (c : Dev nD) (t : Fin cfg0.N) : Vec F S1024x512 .f32 :=
  if t.val % 6 = 0 then outFirst (iblk m c 0 t) (iblk m c 1 t)
  else outLater (iblk m c 0 t) (kept (wwin m c (chunkOf t.val) (colOf t.val)))

/-- The partial sum that a point stores in its row block: its product, added to the sum of the chunks before. -/
def part (c : Dev nD) (t : Fin cfg0.N) : Vec F S1024x512 .f32 :=
  if h : t.val / 6 % 4 = 0 then prod m c t
  else more (part c ⟨t.val - 6, by have := t.isLt; omega⟩) (prod m c t)
termination_by t.val
decreasing_by have : 6 ≤ t.val := by { by_contra h'; exact h (by omega) }
              show t.val - 6 < t.val; omega

theorem part_zero (c : Dev nD) (t : Fin cfg0.N) (h : t.val / 6 % 4 = 0) : part m c t = prod m c t := by
  rw [part, dif_pos h]

theorem part_succ (c : Dev nD) (t u : Fin cfg0.N) (h : 1 ≤ t.val / 6 % 4) (hu : u.val + 6 = t.val) :
    part m c t = more (part m c u) (prod m c t) := by
  rw [part, dif_neg (by omega)]
  exact congrArg (fun a => more (part m c a) _) (Fin.ext (by show t.val - 6 = u.val; omega))

/-- What a point leaves in the result's window: the row blocks of the last six points of its column block, done. -/
def Done (c : Dev nD) (t : Fin cfg0.N) (X : Vec F S6144x512 .f32) : Prop :=
  ∀ u : Fin cfg0.N, u.val ≤ t.val → t.val < u.val + 6 → u.val / 24 = t.val / 24 →
    blockOf (u.val % 6) (Nat.mod_lt _ (by decide)) X = part m c u

/-- What a point finds there. -/
def Found (c : Dev nD) (t : Fin cfg0.N) (Y : Vec F S6144x512 .f32) : Prop :=
  ∀ u : Fin cfg0.N, u.val < t.val → t.val ≤ u.val + 6 → u.val / 24 = t.val / 24 →
    blockOf (u.val % 6) (Nat.mod_lt _ (by decide)) Y = part m c u

theorem done_put (c : Dev nD) (t : Fin cfg0.N) (Y : Vec F S6144x512 .f32) (hY : Found m c t Y) (n : ℕ) (hn : n = t.val % 6)
    (o : Vec F S1024x512 .f32) (ho : o = part m c t) : Done m c t (put n o Y) := by
  subst hn ho
  intro u h1 h2 h3
  by_cases he : u = t
  · subst he; exact blockOf_put_same _ _ _ _
  · have hlt : u.val < t.val := Nat.lt_of_le_of_ne h1 fun e => he (Fin.ext e)
    rw [blockOf_put_ne _ _ _ (by omega)]
    exact hY u hlt (by omega) h3

theorem found_block (c : Dev nD) (t u : Fin cfg0.N) (Y : Vec F S6144x512 .f32) (hY : Found m c t Y) (h : 1 ≤ t.val / 6 % 4)
    (hu : u.val + 6 = t.val) (n : ℕ) (hn : n = t.val % 6) (hn6 : n < 6) : blockOf n hn6 Y = part m c u := by
  have e : n = u.val % 6 := by omega
  subst e
  exact hY u (by omega) (by omega) (by omega)

/-- The region's invariant before point `k`. -/
def Phi (c : Dev nD) (k : ℕ) : sProp 𝕄 := iprop(keptAt m c k ∗ (∃ r, prngReg c r))

/-- The proof data: the inputs' buffers at their blocks; the result's is held to `Done` instead. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => put 0 (part m c t) (fun _ => FloatOps.ofBits .f32 0)
  Φ t := Phi m c t.val
  q _ := fullShare
  owed _ := 0

def marks : Fin cfg0.W → Bool := fun | ⟨0, _⟩ => false | ⟨1, _⟩ => false | ⟨2, _⟩ => true

def rel (c : Dev nD) : (w : Fin cfg0.W) → Fin cfg0.N → ((cfg0.win w).block.Idx → Elt F (cfg0.win w).elt) → Prop
  | ⟨0, _⟩ => fun _ _ => True
  | ⟨1, _⟩ => fun _ _ => True
  | ⟨2, _⟩ => fun t X => Done m c t X

abbrev rdat (c : Dev nD) : RDat τ (Elt F) Unit ℕ (UR sig nD τ) ℕ cfg0 c := (dats m 0 c).toRRel marks (rel m c)

theorem A_eq (c : Dev nD) (w : Fin cfg0.W) : (dats m 0 c).A w = V m c (Pipeline.arrRef spec0 w) := by
  dsimp only [dats]
theorem Phi_castSucc (c : Dev nD) (t : Fin cfg0.N) : (dats m 0 c).Φ t.castSucc = Phi m c t.val := by
  dsimp only [dats]; simp only [Fin.coe_castSucc]
theorem Phi_succ (c : Dev nD) (t : Fin cfg0.N) : (dats m 0 c).Φ t.succ = Phi m c (t.val + 1) := by
  dsimp only [dats]; simp only [Fin.val_succ]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d

theorem fetch_2 : ∀ t : Fin cfg0.N, (cfg0.win 2).fetch t = false :=
  (by decide +kernel : ∀ t : Fin grid0.N, (cfg0.win 2).fetch t = false)

theorem leaves_2 (c : Dev nD) (t : Fin cfg0.N) (X : Vec F S6144x512 .f32) (h : (rdat m c).Leaves 2 t X) : Done m c t X :=
  (dats m 0 c).toRRel_leaves (fgt := marks) (Rl := rel m c) (w := 2) rfl h

theorem finds_2 (c : Dev nD) (t : Fin cfg0.N) (Y : Vec F S6144x512 .f32) (h : (rdat m c).Finds 2 t Y) : Found m c t Y := fun u h1 h2 h3 => by
  rw [(rdat m c).finds_of_pos (fetch_2 t) (by omega)] at h
  rcases h with h | h
  · have := (flush0_2 _).mp h
    have e : (t.val - 1) % 24 = 23 := this
    omega
  · exact leaves_2 m c _ Y h u (by show u.val ≤ t.val - 1; omega) (by show t.val - 1 < u.val + 6; omega)
      (by show u.val / 24 = (t.val - 1) / 24; omega)

/-- Each window's current staging memref at a point. -/
abbrev ms0_0 (t : Fin cfg0.N) : Memref sig .tc .vmem S1024x4096 .bf16 := win0_0.stage (cfg0.slots t 0)
abbrev ms0_1 (t : Fin cfg0.N) : Memref sig .tc .vmem S4096x512 .f32 := win0_1.stage (cfg0.slots t 1)
abbrev ms0_2 (t : Fin cfg0.N) : Memref sig .tc .vmem S6144x512 .f32 := win0_2.stage (cfg0.slots t 2)

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ Y, ⌜(rdat m c).Finds 2 t Y⌝ ∗ owns (c : Thread nD τ) (ms0_2 t) fullShare Y))
/-- and what it returns. -/
def bodyPost (c : Dev nD) (t : Fin cfg0.N) : sProp 𝕄 :=
  iprop((dats m 0 c).Φ t.succ ∗ (dats m 0 c).owesAt () t.succ
    ∗ (dats m 0 c).leaves 0 t ∗ (dats m 0 c).leaves 1 t
    ∗ (∃ X, ⌜rel m c 2 t X⌝ ∗ owns (c : Thread nD τ) (ms0_2 t) fullShare X))

theorem row_of : ∀ t : Fin grid0.N, (grid0.coords t 2).val = t.val % 6 := by decide +kernel

set_option maxHeartbeats 1600000 in
/-- The body at any point, from its four cases. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1]
  rw [Phi_castSucc m c t, Phi_succ m c t]
  unfold Dat.owesAt Pipeline.owesWithin
  rw [show (dats m 0 c).owed t.castSucc = 0 from rfl, show (dats m 0 c).owed t.succ = 0 from rfl]
  rw [show (dats m 0 c).leaves 0 t = owns (c : Thread nD τ) (ms0_0 t) fullShare (iblk m c 0 t) from by rw [← after_0]]
  rw [show (dats m 0 c).leaves 1 t = owns (c : Thread nD τ) (ms0_1 t) fullShare (iblk m c 1 t) from by rw [← after_1]]
  unfold Phi
  have hN : t.val < 192 := lt_of_lt_of_eq t.isLt (show cfg0.N = 192 from N_0)
  have hr := row_of t
  by_cases h6 : t.val % 6 = 0
  · have hp : prod m c t = outFirst (iblk m c 0 t) (iblk m c 1 t) := if_pos h6
    have c0 := (hcond0_0 t).mpr h6
    have c3 : ¬cond0_3 (grid0.coords t) := fun h => by have := (hcond0_3 t).mp h; omega
    rw [keptAt, if_pos h6]
    by_cases h0 : t.val / 6 % 4 = 0
    · have c1 := (hcond0_1 t).mpr h0
      have c2 : ¬cond0_2 (grid0.coords t) := fun h => by have := (hcond0_2 t).mp h; omega
      iintro ⟨⟨HK, Hg⟩, ⟨%W, -, HW⟩, ⟨%d0, H0⟩, ⟨%d1, H1⟩, ⟨%Y, %hY, H2⟩⟩
      iapply (runA c (grid0.coords t) _ _ _ _ _ _ _ _ c0 c1 c2 c3 (iblk m c 0 t) (iblk m c 1 t) Y _)
      isplitl [H0 H1 H2 HK]
      · isplitl [H0]; · iexact H0
        isplitl [H1]; · iexact H1
        isplitl [H2]; · iexact H2
        iexact HK
      iintro ⟨H0, H1, H2, HK⟩
      isplitl [HK Hg]
      · isplitl [HK]; · iapply keptAt_first m c t; iexact HK
        iexact Hg
      isplitl [HW]
      · iexists W; isplitr; · ipureintro; exact fun _ _ => Or.inl trivial
        iexact HW
      isplitl [H0]; · iexact H0
      isplitl [H1]; · iexact H1
      iexists _; isplitr; swap; · iexact H2
      ipureintro
      exact done_put m c t Y (finds_2 m c t Y hY) _ hr _ (by rw [part_zero m c t h0, hp])
    · have c1 : ¬cond0_1 (grid0.coords t) := fun h => h0 ((hcond0_1 t).mp h)
      have c2 := (hcond0_2 t).mpr (by omega)
      iintro ⟨⟨HK, Hg⟩, ⟨%W, -, HW⟩, ⟨%d0, H0⟩, ⟨%d1, H1⟩, ⟨%Y, %hY, H2⟩⟩
      iapply (runC c (grid0.coords t) _ _ _ _ _ _ _ _ c0 c1 c2 c3 (iblk m c 0 t) (iblk m c 1 t) Y _)
      isplitl [H0 H1 H2 HK]
      · isplitl [H0]; · iexact H0
        isplitl [H1]; · iexact H1
        isplitl [H2]; · iexact H2
        iexact HK
      iintro ⟨H0, H1, H2, HK⟩
      isplitl [HK Hg]
      · isplitl [HK]; · iapply keptAt_first m c t; iexact HK
        iexact Hg
      isplitl [HW]
      · iexists W; isplitr; · ipureintro; exact fun _ _ => Or.inl trivial
        iexact HW
      isplitl [H0]; · iexact H0
      isplitl [H1]; · iexact H1
      iexists _; isplitr; swap; · iexact H2
      ipureintro
      have hF := finds_2 m c t Y hY
      exact done_put m c t Y hF _ hr _ (by
        rw [part_succ m c t ⟨t.val - 6, by omega⟩ (by omega) (by show t.val - 6 + 6 = t.val; omega), hp]
        exact congrArg (fun a => more a _)
          (found_block m c t ⟨t.val - 6, by omega⟩ Y hF (by omega) (by show t.val - 6 + 6 = t.val; omega) _ hr _))
  · have hp : prod m c t = outLater (iblk m c 0 t) (kept (wwin m c (chunkOf t.val) (colOf t.val))) := if_neg h6
    have c0 : ¬cond0_0 (grid0.coords t) := fun h => h6 ((hcond0_0 t).mp h)
    have c3 := (hcond0_3 t).mpr (by omega)
    rw [keptAt, if_neg h6]
    by_cases h0 : t.val / 6 % 4 = 0
    · have c4 := (hcond0_4 t).mpr h0
      have c5 : ¬cond0_5 (grid0.coords t) := fun h => by have := (hcond0_5 t).mp h; omega
      iintro ⟨⟨HK, Hg⟩, ⟨%W, -, HW⟩, ⟨%d0, H0⟩, ⟨%d1, H1⟩, ⟨%Y, %hY, H2⟩⟩
      iapply (runB c (grid0.coords t) _ _ _ _ _ _ _ _ c0 c3 c4 c5 (iblk m c 0 t) (iblk m c 1 t)
        (kept (wwin m c (chunkOf t.val) (colOf t.val))) Y _)
      isplitl [H0 H1 H2 HK]
      · isplitl [H0]; · iexact H0
        isplitl [H1]; · iexact H1
        isplitl [H2]; · iexact H2
        iexact HK
      iintro ⟨H0, H1, H2, HK⟩
      isplitl [HK Hg]
      · isplitl [HK]; · iapply keptAt_next m c t.val; iexact HK
        iexact Hg
      isplitl [HW]
      · iexists W; isplitr; · ipureintro; exact fun _ _ => Or.inl trivial
        iexact HW
      isplitl [H0]; · iexact H0
      isplitl [H1]; · iexact H1
      iexists _; isplitr; swap; · iexact H2
      ipureintro
      exact done_put m c t Y (finds_2 m c t Y hY) _ hr _ (by rw [part_zero m c t h0, hp])
    · have c4 : ¬cond0_4 (grid0.coords t) := fun h => h0 ((hcond0_4 t).mp h)
      have c5 := (hcond0_5 t).mpr (by omega)
      iintro ⟨⟨HK, Hg⟩, ⟨%W, -, HW⟩, ⟨%d0, H0⟩, ⟨%d1, H1⟩, ⟨%Y, %hY, H2⟩⟩
      iapply (runD c (grid0.coords t) _ _ _ _ _ _ _ _ c0 c3 c4 c5 (iblk m c 0 t) (iblk m c 1 t)
        (kept (wwin m c (chunkOf t.val) (colOf t.val))) Y _)
      isplitl [H0 H1 H2 HK]
      · isplitl [H0]; · iexact H0
        isplitl [H1]; · iexact H1
        isplitl [H2]; · iexact H2
        iexact HK
      iintro ⟨H0, H1, H2, HK⟩
      isplitl [HK Hg]
      · isplitl [HK]; · iapply keptAt_next m c t.val; iexact HK
        iexact Hg
      isplitl [HW]
      · iexists W; isplitr; · ipureintro; exact fun _ _ => Or.inl trivial
        iexact HW
      isplitl [H0]; · iexact H0
      isplitl [H1]; · iexact H1
      iexists _; isplitr; swap; · iexact H2
      ipureintro
      have hF := finds_2 m c t Y hY
      exact done_put m c t Y hF _ hr _ (by
        rw [part_succ m c t ⟨t.val - 6, by omega⟩ (by omega) (by show t.val - 6 + 6 = t.val; omega), hp]
        exact congrArg (fun a => more a _)
          (found_block m c t ⟨t.val - 6, by omega⟩ Y hF (by omega) (by show t.val - 6 + 6 = t.val; omega) _ hr _))

theorem defs₀_row (t : Fin cfg0.N) :
    defs₀ (F := F) .tc cfg0.body (cfg0.bodyArgs t (cfg0.slots t)) = bodyAt0 t := by
  unfold defs₀; rw [Defs.onTc_tc]

/-- The pipeline's obligation on the body. -/
theorem body_obligation (c : Dev nD) :
    BodyObligationRel (dats (F := F) m 0 c) (defs₀ (F := F)) Variants.none () Set.univ marks (rel m c) := fun t => by
  rw [bigSep_W0, bigSep_W0, defs₀_row]
  exact triple_restated (sound_body m c t) rfl .rfl fun _ => .rfl

theorem PhiA_eq (c : Dev nD) :
    (Pipeline.ΦA spec0 c : sProp 𝕄)
      = iprop(iprop((∃ d, owns (c : Thread nD τ) (Memref.whole cc0_scratch0) fullShare d)) ∗ (∃ r, prngReg c r)) := by
  unfold Pipeline.ΦA; rw [scopedRest0_eq]; simp only [owns_whole]; try rfl

/-- What the launch hands the region is the invariant before the first point. -/
theorem hin (c : Dev nD) : Pipeline.ΦA spec0 c ⊢ (dats m 0 c).Φ 0 := by
  rw [PhiA_eq, show (dats m 0 c).Φ 0 = Phi m c 0 from rfl]
  unfold Phi
  rw [show (keptAt m c 0 : sProp 𝕄) = iprop(∃ d, owns (c : Thread nD τ) (Memref.whole cc0_scratch0) fullShare d) from if_pos rfl]

/-- And the invariant after the last point hands it back. -/
theorem hout (c : Dev nD) : (dats m 0 c).Φ (Fin.last cfg0.N) ⊢ Pipeline.ΦA spec0 c := by
  rw [PhiA_eq, show (dats m 0 c).Φ (Fin.last cfg0.N) = Phi m c grid0.N from rfl]
  unfold Phi
  rw [show grid0.N = 192 by rw [N_0]]
  rw [show (keptAt m c 192 : sProp 𝕄) = iprop(∃ d, owns (c : Thread nD τ) (Memref.whole cc0_scratch0) fullShare d) from if_pos rfl]

set_option backward.isDefEq.respectTransparency.types false in
/-- The run: each array ends at contents the proof data allow, and every semaphore at zero. -/
theorem run_main : θ_run defs (onTc (τ := τ) (main (F := F))) (s₀ m ρ)
    (fun r => Pipeline.RDat.FramePost (cfgs 0) (rdat m) (V m) r ∧ r.2.sem = fun _ => 0) :=
  Pipeline.RDat.θ_run_frame_track (Q' := _) cfgs (0 : Fin 1) launch0 defs₀ Variants.none (rdat m) m ρ main
    (hbody := fun c => Pipeline.BodyObligationRel.toRRel (dats m 0 c) (body_obligation m c))
    (hshare := fun c => (rdat m c).share_full fun _ => rfl)
    (howed := fun _ _ => rfl) (V := V m) (hmain := hmain m Variants.none) (hA := A_eq m) (hin := hin m) (hout := hout m)

end Cert.Kernel4Ideal.Down

end
-- ==== Proof.DownValue.lean ====
module

public import proofs.«01_k».proof.Proof.DownFrame
public import proofs.«01_k».proof.Proof.Dense
public import Idealize.ShloMosaic.Lib.ValueLayout

/-! The down projection as one function of the two arguments, and that whatever arrays the kernel's run may leave, the
result is that function. -/

@[expose] public section

set_option maxRecDepth 4096

noncomputable section

namespace Cert.Kernel4Ideal.Down

open Cert.Kernel4Ideal.Gen
open Idealize.ShloMosaic Idealize.ShloMosaic.TcCoe Idealize.ShloMosaic.Tactic Idealize.ShloMosaic.ValueIdx
open Idealize.SL.Sem
open Idealize.ShloMosaic.Pipeline (Dat RDat)

theorem zeros_apply (r : Fin 1024) (c : Fin 512) :
    (constant S1024x512 .f32 0x00000000#32 : FVec Ideal S1024x512 .f32) (ValueIdx.ix2 r c) = 0 := Ideal.ofBits_zero_f32

/-- A later row block's product. -/
theorem outLater_apply (X : Vec Ideal S1024x4096 .bf16) (wb : Vec Ideal S4096x512 .bf16) (r : Fin 1024) (c : Fin 512) :
    outLater X wb (ValueIdx.ix2 r c) = ∑ k : Fin 4096, (X (ValueIdx.ix2 r k) : EReal) * wb (ValueIdx.ix2 k c) := by
  unfold outLater k0_pay5
  rw [shapeCast_self]
  refine (Ideal.matmul_plain_apply none _ _ _ r c).trans ?_
  rw [zeros_apply, zero_add]

/-- A stretch of the first row block's product. -/
theorem strip_product (k : ℕ) (hk : k + 512 ≤ 4096) (X : Vec Ideal S1024x4096 .bf16) (x0 : Vec Ideal S4096x512 .f32)
    (r : Fin 1024) (c : Fin 512) :
    (matmul dot_S1024x512_S512x512_S1024x512_1_0_0_1_n_n none
      (shapeCast S1024x512 (strip k hk X) shapeCasts_S1024x512_S1024x512 : FVec Ideal S1024x512 .bf16)
      (truncf .bf16 (shapeCast S512x512 (Slab.rows k hk x0) shapeCasts_S512x512_S512x512 : FVec Ideal S512x512 .f32) bitsLt_bf16_f32)
      (constant S1024x512 .f32 0x00000000#32) : FVec Ideal S1024x512 .f32) (ValueIdx.ix2 r c)
      = ∑ j : Fin 512, (X (ValueIdx.ix2 r ⟨k + j.val, by omega⟩) : EReal) * x0 (ValueIdx.ix2 ⟨k + j.val, by omega⟩ c) := by
  rw [shapeCast_self, shapeCast_self]
  refine (Ideal.matmul_plain_apply none _ _ _ r c).trans ?_
  rw [zeros_apply, zero_add]
  rfl

/-- The first row block's product. -/
theorem outFirst_apply (X : Vec Ideal S1024x4096 .bf16) (x0 : Vec Ideal S4096x512 .f32) (r : Fin 1024) (c : Fin 512) :
    outFirst X x0 (ValueIdx.ix2 r c) = ∑ k : Fin 4096, (X (ValueIdx.ix2 r k) : EReal) * x0 (ValueIdx.ix2 k c) := by
  rw [Dense.sum_eight]
  have h := fun k hk => strip_product k hk X x0 r c
  refine congrArg₂ (fun a b : EReal => a + b) ?_ (h 3584 (by decide))
  refine congrArg₂ (fun a b : EReal => a + b) ?_ (h 3072 (by decide))
  refine congrArg₂ (fun a b : EReal => a + b) ?_ (h 2560 (by decide))
  refine congrArg₂ (fun a b : EReal => a + b) ?_ (h 2048 (by decide))
  refine congrArg₂ (fun a b : EReal => a + b) ?_ (h 1536 (by decide))
  refine congrArg₂ (fun a b : EReal => a + b) ?_ (h 1024 (by decide))
  exact congrArg₂ (fun a b : EReal => a + b) (h 0 (by decide)) (h 512 (by decide))

theorem more_apply (old p : Vec Ideal S1024x512 .f32) (i : S1024x512.Idx) : more old p i = (old i + p i : EReal) := by
  unfold more; rw [shapeCast_self]; rfl

/-- The down projection: at a position, the product of its row and its column of the weights. -/
def proj (x : Vec Ideal S6144x16384 .f32) (w : Vec Ideal S1x16384x4096 .f32) (r : Fin 6144) (j : Fin 4096) : EReal :=
  ∑ k : Fin 16384, x (ValueIdx.ix2 r k) * w (ValueIdx.ix3 0 k j)

/-- The part of it that chunk `q` contributes. -/
def chunk (x : Vec Ideal S6144x16384 .f32) (w : Vec Ideal S1x16384x4096 .f32) (q : Fin 4) (r : Fin 6144) (j : Fin 4096) : EReal :=
  ∑ k : Fin 4096, x (ValueIdx.ix2 r ⟨4096 * q.val + k.val, by omega⟩) * w (ValueIdx.ix3 0 ⟨4096 * q.val + k.val, by omega⟩ j)

theorem proj_chunks (x : Vec Ideal S6144x16384 .f32) (w : Vec Ideal S1x16384x4096 .f32) (r : Fin 6144) (j : Fin 4096) :
    proj x w r j = ((chunk x w 0 r j + chunk x w 1 r j) + chunk x w 2 r j) + chunk x w 3 r j := by
  unfold proj
  rw [Fin.sum_univ_tiles 4 4096 rfl (fun k : Fin 16384 => x (ValueIdx.ix2 r k) * w (ValueIdx.ix3 0 k j)), Fin.sum_univ_four]
  rfl

variable (m : (ℓ : Loc nD τ sig) → Buf (Elt Ideal) ℓ) (ρ : Dev nD → PrngReg)

/-- The two arguments on a device. -/
abbrev argX (c : Dev nD) : Vec Ideal S6144x16384 .f32 := m ((c : Thread nD τ).loc main_arg0)
abbrev argW (c : Dev nD) : Vec Ideal S1x16384x4096 .f32 := m ((c : Thread nD τ).loc main_arg1)

/-- The weights, as the region finds them. -/
theorem V_main_v1 (c : Dev nD) (k : Fin 16384) (j : Fin 4096) :
    (V m c main_v1 : Vec Ideal S16384x4096 .f32) (ValueIdx.ix2 k j) = argW m c (ValueIdx.ix3 0 k j) := by
  have e : (V m c main_v1 : Vec Ideal S16384x4096 .f32) = shapeCast _ (argW m c) shapeCasts_S1x16384x4096_S16384x4096 := by
    unfold V hostOps0; after_results <;> rfl
  rw [e]
  exact shapeCast_1ab_ab_apply _ _ k j

/-- The rows, as the region finds them: a change of format is no change here. -/
theorem V_main_v0 (c : Dev nD) : (V m c main_v0 : Vec Ideal S6144x16384 .bf16) = argX m c := by
  have e : (V m c main_v0 : Vec Ideal S6144x16384 .bf16)
      = (truncf .bf16 (argX m c : FVec Ideal S6144x16384 .f32) bitsLt_bf16_f32 : FVec Ideal S6144x16384 .bf16) := by
    unfold V hostOps0; after_results <;> rfl
  rw [e]; rfl

theorem index_0 : ∀ t : Fin grid0.N, win0_0.index t = ![t.val % 6, t.val / 6 % 4] := by decide +kernel
theorem index_2 : ∀ t : Fin grid0.N, win0_2.index t = ![0, t.val / 24 % 8] := by decide +kernel

/-- The rows' block at a point, at a position. -/
theorem iblk0_apply (c : Dev nD) (t : Fin cfg0.N) (r : Fin 1024) (k : Fin 4096) :
    (iblk m c 0 t : Vec Ideal S1024x4096 .bf16) (ValueIdx.ix2 r k)
      = argX m c (ValueIdx.ix2 ⟨1024 * (t.val % 6) + r.val, by omega⟩ ⟨4096 * (t.val / 6 % 4) + k.val, by omega⟩) := by
  rw [← V_main_v0]
  blk_simp [iblk]
  refine congrArg (V m c main_v0 : Vec Ideal S6144x16384 .bf16) ?_
  blk_ext [index_0 t]
  · show t.val % 6 * 1024 + r.val = 1024 * (t.val % 6) + r.val
    omega
  · show t.val / 6 % 4 * 4096 + k.val = 4096 * (t.val / 6 % 4) + k.val
    omega

/-- A point's product, at a position. -/
theorem prod_apply (c : Dev nD) (t : Fin cfg0.N) (r : Fin 1024) (j : Fin 512) :
    prod m c t (ValueIdx.ix2 r j) = chunk (argX m c) (argW m c) (chunkOf t.val)
      ⟨1024 * (t.val % 6) + r.val, by omega⟩ ⟨512 * (t.val / 24 % 8) + j.val, by omega⟩ := by
  have hW : ∀ k, wwin m c (chunkOf t.val) (colOf t.val) (ValueIdx.ix2 k j)
      = argW m c (ValueIdx.ix3 0 ⟨4096 * (t.val / 6 % 4) + k.val, by omega⟩ ⟨512 * (t.val / 24 % 8) + j.val, by omega⟩) :=
    fun k => V_main_v1 m c _ _
  unfold prod chunk
  split
  · rw [outFirst_apply, iblk1_eq]
    simp only [iblk0_apply, hW]
    rfl
  · rw [outLater_apply]
    have hK : ∀ k, kept (wwin m c (chunkOf t.val) (colOf t.val)) (ValueIdx.ix2 k j) = wwin m c (chunkOf t.val) (colOf t.val) (ValueIdx.ix2 k j) :=
      fun k => rfl
    simp only [iblk0_apply, hK, hW]
    rfl

/-- A partial sum of the last chunk is the whole projection. -/
theorem part_last (c : Dev nD) (t : Fin cfg0.N) (h : t.val / 6 % 4 = 3) (r : Fin 1024) (j : Fin 512) :
    part m c t (ValueIdx.ix2 r j) = proj (argX m c) (argW m c)
      ⟨1024 * (t.val % 6) + r.val, by omega⟩ ⟨512 * (t.val / 24 % 8) + j.val, by omega⟩ := by
  have hN := t.isLt
  obtain ⟨t2, h2⟩ : ∃ u : Fin cfg0.N, u.val + 6 = t.val := ⟨⟨t.val - 6, by omega⟩, by show t.val - 6 + 6 = t.val; omega⟩
  obtain ⟨t1, h1⟩ : ∃ u : Fin cfg0.N, u.val + 6 = t2.val := ⟨⟨t2.val - 6, by omega⟩, by show t2.val - 6 + 6 = t2.val; omega⟩
  obtain ⟨t0, h0⟩ : ∃ u : Fin cfg0.N, u.val + 6 = t1.val := ⟨⟨t1.val - 6, by omega⟩, by show t1.val - 6 + 6 = t1.val; omega⟩
  rw [part_succ m c t t2 (by omega) h2, part_succ m c t2 t1 (by omega) h1, part_succ m c t1 t0 (by omega) h0,
    part_zero m c t0 (by omega), more_apply, more_apply, more_apply, prod_apply, prod_apply, prod_apply, prod_apply, proj_chunks]
  have e : ∀ (u : Fin cfg0.N) (q : Fin 4), u.val / 6 % 4 = q.val → u.val % 6 = t.val % 6 → u.val / 24 = t.val / 24 →
      chunk (argX m c) (argW m c) (chunkOf u.val) ⟨1024 * (u.val % 6) + r.val, by omega⟩ ⟨512 * (u.val / 24 % 8) + j.val, by omega⟩
        = chunk (argX m c) (argW m c) q ⟨1024 * (t.val % 6) + r.val, by omega⟩ ⟨512 * (t.val / 24 % 8) + j.val, by omega⟩ :=
    fun u q hq hr hj => by
      rw [show chunkOf u.val = q from Fin.ext hq]
      congr 2
      · rw [hr]
      · rw [hj]
  rw [e t0 0 (by show t0.val / 6 % 4 = 0; omega) (by omega) (by omega), e t1 1 (by show t1.val / 6 % 4 = 1; omega) (by omega) (by omega),
    e t2 2 (by show t2.val / 6 % 4 = 2; omega) (by omega) (by omega), e t 3 h rfl rfl]

/-- At a column block's last point the window is the projection's. -/
theorem done_apply (c : Dev nD) (t : Fin cfg0.N) (ht : t.val % 24 = 23) (X : Vec Ideal S6144x512 .f32) (hX : Done m c t X)
    (r : Fin 6144) (j : Fin 512) :
    X (ValueIdx.ix2 r j) = proj (argX m c) (argW m c) r ⟨512 * (t.val / 24 % 8) + j.val, by omega⟩ := by
  have hN := t.isLt
  obtain ⟨u, hu⟩ : ∃ u : Fin cfg0.N, u.val = t.val - 5 + r.val / 1024 := ⟨⟨t.val - 5 + r.val / 1024, by omega⟩, rfl⟩
  have hb := congrFun (hX u (by omega) (by omega) (by omega)) (ValueIdx.ix2 ⟨r.val % 1024, by omega⟩ j)
  rw [part_last m c u (by omega)] at hb
  have e1 : (⟨1024 * (u.val % 6) + r.val % 1024, by omega⟩ : Fin 6144) = r := Fin.ext (by show 1024 * (u.val % 6) + r.val % 1024 = r.val; omega)
  have e2 : (⟨512 * (u.val / 24 % 8) + j.val, by omega⟩ : Fin 4096) = ⟨512 * (t.val / 24 % 8) + j.val, by omega⟩ :=
    Fin.ext (by show 512 * (u.val / 24 % 8) + j.val = 512 * (t.val / 24 % 8) + j.val; rw [show u.val / 24 = t.val / 24 by omega])
  refine Eq.trans ?_ (hb.trans (congrArg₂ (proj (argX m c) (argW m c)) e1 e2))
  refine congrArg X (funext fun a => Fin.ext ?_)
  match a with
  | ⟨0, _⟩ => show r.val = 1024 * (u.val % 6) + 1 * (r.val % 1024); omega
  | ⟨1, _⟩ => show j.val = 0 + 1 * j.val; omega

/-- The result array after any run. -/
theorem result (c : Dev nD) (r) (h : Pipeline.RDat.FramePost (cfgs 0) (rdat m) (V m) r) :
    r.2.mem ((c.tc : Thread nD τ).loc main_v2)
      = (fun i => proj (argX m c) (argW m c) (i 0) (i 1) : Vec Ideal S6144x4096 .f32) := by
  obtain ⟨after, ha, hm⟩ := h.exists_exact c
  refine (hm 2).trans ?_
  refine Dat.arrAt_eq_of_covers _ 2 _ (by decide +kernel) fun t hf y => ?_
  blk_simp
  rw [Pipeline.RDat.withAfter_after]
  have hD := leaves_2 m c t _ (ha 2 t hf)
  refine (congrArg (after 2 t) (ValueIdx.eq_ix2 y)).trans ((done_apply m c t ((flush0_2 t).mp hf) _ hD (y 0) (y 1)).trans ?_)
  refine congrArg₂ (proj (argX m c) (argW m c)) (Fin.ext ?_) (Fin.ext ?_)
  · blk_simp [index_2 t]
  · blk_simp [index_2 t]; exact congrArg (· + _) (Nat.mul_comm _ _)

end Cert.Kernel4Ideal.Down

end
-- ==== Proof.DownClaims.lean ====
module

public import proofs.«01_k».proof.Defs
public import proofs.«01_k».proof.Proof.Gen.Kernel4
public import proofs.«01_k».proof.Proof.DownValue
public import proofs.«01_k».proof.Proof.Gen.Reference4Ideal.Run
public import Idealize.ShloMosaic.Lib.StackMember
public import Idealize.ShloMosaic.Lib.Quiescent

/-! The reference of the down projection read at a position, and the five claims. -/

@[expose] public section

set_option maxRecDepth 4096

noncomputable section

namespace Cert.Reference4Ideal.Down

open Cert.Reference4Ideal Cert.Reference4Ideal.Gen
open Idealize.ShloMosaic Idealize.ShloMosaic.TcCoe Idealize.ShloMosaic.ValueIdx Idealize.SL.Sem

variable (m : (ℓ : Loc nD τ sig) → Buf (Elt Ideal) ℓ) (ρ : Dev nD → PrngReg)

/-- The reference's run: its result is the down projection of its arguments, which it leaves unchanged. -/
theorem run : θ_run defs (onTc (τ := τ) (main (F := Ideal))) ⟨m, fun _ => 0, ρ⟩ fun r => ∀ c : Dev nD,
    r.2.mem ((c.tc : Thread nD τ).loc main_v1)
      = (fun i => Cert.Kernel4Ideal.Down.proj (m ((c.tc : Thread nD τ).loc main_arg0)) (m ((c.tc : Thread nD τ).loc main_arg1))
          (i 0) (i 1) : FVec Ideal S6144x4096 .f32)
    ∧ r.2.mem ((c.tc : Thread nD τ).loc main_arg0) = m ((c.tc : Thread nD τ).loc main_arg0)
    ∧ r.2.mem ((c.tc : Thread nD τ).loc main_arg1) = m ((c.tc : Thread nD τ).loc main_arg1) := by
  refine (θ_run defs _ _).mono (fun _ h c => ⟨(h c).1.trans (funext fun i => ?_), (h c).2⟩) (Value.run m ρ)
  exact Dense.host_product _ _ _ i

end Cert.Reference4Ideal.Down

namespace Cert.Kernel4Ideal.Down

open Cert.Kernel4Ideal.Gen
open Idealize.ShloMosaic Idealize.ShloMosaic.TcCoe Idealize.SL.Sem

variable {F : FTy → Type} [FloatOps F]

/-- The run leaves the two arguments as launched, and every counter at zero. -/
theorem run_args (m : (ℓ : Loc nD τ sig) → Buf (Elt F) ℓ) (ρ : Dev nD → PrngReg) :
    θ_run defs (onTc (τ := τ) (main (F := F))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0 :=
  (θ_run defs _ _).mono (fun _ h => ⟨fun c =>
      ⟨((h.1 c).2 main_arg0 (Pipeline.mem_restRefs_of main_arg0 (by decide) (by decide))).trans (V_main_arg0 m c),
       ((h.1 c).2 main_arg1 (Pipeline.mem_restRefs_of main_arg1 (by decide) (by decide))).trans (V_main_arg1 m c)⟩, h.2⟩)
    (run_main m ρ)

/-- The kernel as printed has the same table of bodies and the same program text. -/
theorem defs₀_eq : Cert.Kernel4Ideal.defs₀ (F := F) = Cert.Kernel4.defs₀ (F := F) :=
  congrArg Defs.onTc (funext fun l => funext fun a => by
    match l, a with
    | 0, (t, s) => rfl)

theorem frame_ideal : Cert.quiescent_Kernel4Ideal := fun m ρ _ => run_args m ρ

theorem frame_kernel : Cert.quiescent_Kernel4 := fun m ρ _ => by
  have h := run_args (F := Bits) m ρ
  unfold Cert.Kernel4Ideal.defs at h
  rw [defs₀_eq] at h
  exact h

theorem frame_reference : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

/-- At the ideal values the kernel's result is the reference's. -/
theorem algebraic : Cert.algebraic_Kernel4Ideal_Reference4Ideal := fun m ρ m' ρ' _ hag =>
  ⟨fun c => (fun i => proj (argX m c) (argW m c) (i 0) (i 1) : Vec Ideal S6144x4096 .f32),
   (θ_run defs _ _).mono (fun _ h c => ⟨result m c _ h.1.1, h.2.1 c⟩)
     (θ_run_and (run_main m ρ) (run_args m ρ)),
   (θ_run Cert.Reference4Ideal.defs _ _).mono (fun _ h c => ⟨(h c).1.trans (by rw [(hag c).1, (hag c).2]), (h c).2⟩)
     (Cert.Reference4Ideal.Down.run m' ρ')⟩

end Cert.Kernel4Ideal.Down

end
-- ==== Proof.OutRing.lean ====
module

public import proofs.«01_k».proof.Proof.Gen.Kernel5Ideal.Frame
public import proofs.«01_k».proof.Proof.Gen.Kernel5Ideal.Skeleton
public import Idealize.ShloMosaic.Lib.Ring
public import Idealize.ShloMosaic.Lib.Tactic
public import Idealize.ShloMosaic.Lib.WordCmp

/-! The output projection's kernel: its branch conditions over the grid's points, the buffers that its body works on, and its ring. The body
streams the rows of its left operand through three slabs, two blocks ahead, by copies of its own: slot, block and cell at a
point are named here, and what the launch hands to the ring and takes back. -/

@[expose] public section

set_option maxRecDepth 16384

noncomputable section

namespace Cert.Kernel5Ideal.Out

open Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)
/-! ## The launch -/

set_option maxHeartbeats 800000 in
/-- The program up to its region: the host operations, then the region. -/
theorem hmain (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-- Input window 0 holds its block at every point, whether or not it is fetched there. -/
theorem before0_0_of {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-! ## The body's branch conditions -/

/-- The body's condition 0. -/
abbrev cond0_0 (i : grid0.Coords) : Prop := k0_cond1 i = 1#1
/-- It holds at the first point only — decided over the grid. -/
theorem hcond0_0 : ∀ t : Fin cfg0.N, cond0_0 (grid0.coords t) ↔ t.val % 48 = 0 :=
  (by decide +kernel : ∀ t : Fin grid0.N, cond0_0 (grid0.coords t) ↔ t.val % 48 = 0)

/-- The body's condition 1. -/
abbrev cond0_1 (i : grid0.Coords) : Prop := k0_cond2 i = 1#1
/-- It holds at the points before point 46 — decided over the grid. -/
theorem hcond0_1 : ∀ t : Fin cfg0.N, cond0_1 (grid0.coords t) ↔ t.val < 46 :=
  (by decide +kernel : ∀ t : Fin grid0.N, cond0_1 (grid0.coords t) ↔ t.val < 46)

/-- The body's condition 2. -/
abbrev cond0_2 (i : grid0.Coords) : Prop := k0_cond3 i = 1#1
/-- It holds at the points ≡ 0 (mod 6) — by arithmetic of the point. -/
theorem hcond0_2 : ∀ t : Fin cfg0.N, cond0_2 (grid0.coords t) ↔ t.val % 6 = 0 :=
  (fun t => by
    have ht : t.val < 48 := Nat.lt_of_lt_of_eq t.isLt N_0
    have e0 : (grid0.coords t 0).val = t.val / 6 % 8 := Pipeline.Grid.coords_val t 0 (by decide) rfl
    have e1 : (grid0.coords t 1).val = t.val / 1 % 6 := Pipeline.Grid.coords_val t 1 (by decide) rfl
    simp only [cond0_2, k0_cond3, e0, e1]
    word_cmp
   : ∀ t : Fin grid0.N, cond0_2 (grid0.coords t) ↔ t.val % 6 = 0)

/-- The body's condition 3. -/
abbrev cond0_3 (i : grid0.Coords) : Prop := k0_cond4 i = 1#1
/-- It holds at the points whose coordinates have 1 ≤ i1 — decided over the grid. -/
theorem hcond0_3 : ∀ t : Fin cfg0.N, cond0_3 (grid0.coords t) ↔ 1 ≤ t.val % 6 :=
  (by decide +kernel : ∀ t : Fin grid0.N, cond0_3 (grid0.coords t) ↔ 1 ≤ t.val % 6)

/-! ## Where the windows are idle (the printed configuration's table `Cfg.idle`) -/

/-- Window 0 is never idle (an input). -/
theorem liveAt0_0 : ∀ t : Fin cfg0.N, cfg0.idle 0 (grid0.coords t) = false := fun _ => rfl
/-! ## The buffers of the body -/

/-- Each window's current staging memref at point `t`, spelled as the pipeline passes it (`bodyAt0`), and its wholeness. -/
abbrev ms0_0 (t : Fin cfg0.N) : Memref sig .tc .vmem S4096x512 .f32 := win0_0.stage (cfg0.slots t 0)
abbrev ms0_1 (t : Fin cfg0.N) : Memref sig .tc .vmem S1024x512 .f32 := win0_1.stage (cfg0.slots t 1)
/-- The scratch operands: whole scoped buffers of the kernel's own, passed beside the windows. -/
abbrev scM0_0 : Memref sig .tc .vmem S4096x512 .bf16 := Memref.whole cc0_scratch0
abbrev scM0_1 : Memref sig .tc .vmem S3x1024x4096 .bf16 := Memref.whole cc0_scratch1
/-- The operands left in HBM that the body copies into scratch itself, whole. -/
abbrev hbM0_0 : Memref sig .tc .hbm S6144x4096 .bf16 := Memref.whole main_v0
/-- Memref `M`'s buffer on core `c`: its contents type, and it held whole at `f`. -/
abbrev HbBuf0 (c : Dev nD) {sp : Space} {S : Shape} {e : EltTy} (M : Memref sig .tc sp S e) : Type := Buf (Elt F) (M.view.loc (c : Thread nD τ))
abbrev hbPt0 (c : Dev nD) {sp : Space} {S : Shape} {e : EltTy} (M : Memref sig .tc sp S e) (f : HbBuf0 (F := F) c M) : sProp 𝕄 :=
  M.view.loc (c : Thread nD τ) ↦{fullShare} f

/-- The body's own DMA semaphores, cell by cell (their numbers in the pool): the kernel's own semaphores for the launch
    (`Pipeline.OwnSemFacts`: none is a window's). -/
abbrev osem0 : Fin 3 → SemLoc sig := fun j => (![SemLoc.dma 4, SemLoc.dma 5, SemLoc.dma 6] : Fin 3 → SemLoc sig) j
theorem ownSemFacts0 : Pipeline.OwnSemFacts spec0 osem0 := by decide
/-- The cells at zero, listed. -/
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 4) 0 ∗ semVal ((c : Thread nD τ), SemLoc.dma 5) 0 ∗ semVal ((c : Thread nD τ), SemLoc.dma 6) 0) := by
  rw [Pipeline.ownSems0_eq_of_list c osem0 [0, 1, 2] (by decide) (by decide)]; rfl
/-- The HBM operands the body moves, as references: unscoped, no window's array (`Pipeline.restRefs`). -/
def H0 : Finset (Ref sig .tc) := {main_v0}
theorem H0_sub : H0 ⊆ Pipeline.restRefs sig spec0 := by decide
/-- Their points-tos at the launch contents, listed. -/
theorem hbmPts0_eq (c : Dev nD) :
    (bigSep H0 (fun b => ((c : Thread nD τ).loc b) ↦{fullShare} V m c b) : sProp 𝕄) = iprop(hbPt0 c hbM0_0 (V m c main_v0)) := by
  rw [BI.bigSep_eq_bigSepL_of_eq [main_v0] (by decide) (by decide)]; rfl

/-- The invariant of a body with transfers of its own, `Pipeline.ΦD`, conjunct by conjunct: the scratch operands owned at
    some contents, the generator register at some state, the own cells at zero, the HBM operands at their launch
    contents — what the body obligation hands the run and takes back. -/
theorem PhiD0_eq (c : Dev nD) :
    (Pipeline.ΦD osem0 spec0 H0 (V m) c : sProp 𝕄)
      = iprop(iprop((∃ d, owns (c : Thread nD τ) scM0_0 fullShare d) ∗ (∃ d, owns (c : Thread nD τ) scM0_1 fullShare d)) ∗ (∃ r, prngReg c r) ∗ iprop(semVal ((c : Thread nD τ), SemLoc.dma 4) 0 ∗ semVal ((c : Thread nD τ), SemLoc.dma 5) 0 ∗ semVal ((c : Thread nD τ), SemLoc.dma 6) 0) ∗ iprop(hbPt0 c hbM0_0 (V m c main_v0))) := by
  rw [Pipeline.ΦD_eq, scopedRest0_eq, ownSems00_eq, hbmPts0_eq]; simp only [scM0_0, scM0_1, owns_whole]; try rfl

/-! ## Ring 0 of kernel 0: `main_v0` streamed through the 3 slots of `cc0_scratch1` on the cells of `cc0_scratch2`, 2 block ahead, in 48 steps -/

instance : NeZero grid0.N := ⟨by rw [N_0]; decide⟩
theorem inb_slot0_0 (s : Fin 3) : ∀ a, (![s.val, 0, 0] : Fin 3 → Nat) a + S1x1024x4096.size a ≤ S3x1024x4096.size a := by
  have := s.isLt; intro a; fin_cases a <;> simp <;> omega
theorem inb_src0_0 (b : Fin 48) : ∀ a, (![1024 * (b.val % 6), 0] : Fin 2 → Nat) a + S1024x4096.size a ≤ S6144x4096.size a := by
  have := b.isLt; intro a; fin_cases a <;> simp <;> omega
theorem inb_cell0_0 (s : Fin 3) : ∀ a, (![s.val] : Fin 1 → Nat) a + S1.size a ≤ S3.size a := by
  have := s.isLt; intro a; fin_cases a <;> simp <;> omega
/-- Slot `s` of the ring, spelt as the body's transfers spell their destination, at offsets in `s`. -/
def rslot0_0 (s : Fin 3) : Memref sig .tc .vmem S1024x4096 .bf16 :=
  (scM0_1.slice (Rect.unit (s := S3x1024x4096) ![s.val, 0, 0] S1x1024x4096.size (inb_slot0_0 s)) (fun _ => rfl)).squeeze S1024x4096 squeezes_S1x1024x4096_S1024x4096
/-- Block `b` of the operand (the block step `b` waits), spelt as the transfers spell their source, at offsets in `b`. -/
def srcB0_0 (b : Fin 48) : Memref sig .tc .hbm S1024x4096 .bf16 :=
  hbM0_0.slice (Rect.unit (s := S6144x4096) ![1024 * (b.val % 6), 0] S1024x4096.size (inb_src0_0 b)) (fun _ => rfl)
/-- Cell `s` of `cc0_scratch2`, spelt as the body spells a cell; its number in the pool. -/
def cellA0_0 (s : Fin 3) : DmaSems sig S_ := (cc0_scratch2.slice (Rect.unit (s := S3) ![s.val] S1.size (inb_cell0_0 s))).squeeze S_ squeezes_S1_S_
abbrev cellR0_0 (s : Fin 3) : SemLoc sig := SemLoc.dma (cellA0_0 s).sem
theorem cellR0_0_0 : cellR0_0 0 = SemLoc.dma 4 := by decide
theorem cellR0_0_1 : cellR0_0 1 = SemLoc.dma 5 := by decide
theorem cellR0_0_2 : cellR0_0 2 = SemLoc.dma 6 := by decide

section Ring0_0
variable (c : Dev nD) (W : HbBuf0 (F := F) c hbM0_0)
/-- The operand is lent BY SHARE, one read-share copy of it per slot (the full share halved, the right half halved again):
    whatever blocks the transfers in flight stream — the same one twice, ones that overlap —, each borrows from its own slot's copy. -/
abbrev qs0_0 (s : Fin 3) : PosShare TreeShare := if s.val = 0 then fullShare.left else if s.val = 1 then fullShare.right.left else fullShare.right.right
/-- The families the ring is stated over: slot `s` held at `f`; cell `s` at zero; block `b`'s elements of slot `s`'s copy of the
    operand (what a transfer into slot `s` lends), the REST of that copy, and the copy whole; slot `s`'s contents once block `b`
    landed in it whole over `f`; the FLIGHT of block `b` into slot `s`, delivering the slot landed
    and the lent elements back. -/
abbrev slotP0_0 (s : Fin 3) (f : HbBuf0 (F := F) c (rslot0_0 s)) : sProp 𝕄 := (rslot0_0 s).view.loc (c : Thread nD τ) ↦[(rslot0_0 s).view.set]{fullShare} f
abbrev cellP0_0 (s : Fin 3) : sProp 𝕄 := semVal ((c : Thread nD τ), cellR0_0 s) 0
abbrev srcP0_0 (s : Fin 3) (b : Fin 48) : sProp 𝕄 := (srcB0_0 b).view.loc (c : Thread nD τ) ↦[(srcB0_0 b).view.set]{qs0_0 s} W
/-- The rest of a slot's copy of the operand. -/
def restP0_0 (s : Fin 3) (b : Fin 48) : sProp 𝕄 := ((c : Thread nD τ).loc main_v0) ↦[Finset.univ \ (srcB0_0 b).view.set]{qs0_0 s} W
abbrev wholeP0_0 (s : Fin 3) : sProp 𝕄 := ((c : Thread nD τ).loc main_v0) ↦[Finset.univ]{qs0_0 s} W
abbrev landed0_0 (s : Fin 3) (b : Fin 48) (f : HbBuf0 (F := F) c (rslot0_0 s)) : HbBuf0 (F := F) c (rslot0_0 s) :=
  (rslot0_0 s).view.writes (Elt F) f [⟨Rect.whole S1024x4096, ReadAs.same.apply ((srcB0_0 b).view.read (Elt F) W)⟩]
abbrev flightP0_0 (s : Fin 3) (b : Fin 48) (f : HbBuf0 (F := F) c (rslot0_0 s)) : sProp 𝕄 :=
  Transfers.Flight countersEmb (c : Thread nD τ) (cellR0_0 s) default ((rslot0_0 s).view.amount (cellR0_0 s))
    iprop(slotP0_0 c s (landed0_0 c W s b f) ∗ srcP0_0 c W s b)
/-- Lib/Ring.lean's `slot` and `flight` families: a slot not in flight carries its copy of the operand whole; a flight, the
    rest of the copy it borrowed from. No block is held apart: the `home` family is `emp`. -/
abbrev slotW0_0 (s : Fin 3) (f : HbBuf0 (F := F) c (rslot0_0 s)) : sProp 𝕄 := iprop(slotP0_0 c s f ∗ wholeP0_0 c W s)
abbrev flightW0_0 (s : Fin 3) (b : Fin 48) (f : HbBuf0 (F := F) c (rslot0_0 s)) : sProp 𝕄 := iprop(flightP0_0 c W s b f ∗ restP0_0 c W s b)
abbrev noHome0_0 (b : Fin 48) : sProp 𝕄 := iprop(emp)
/-- The ring before its step `k` (Lib/Ring.lean `At 2`): every slot free before the first; from then on blocks `k` and `k + 1` in
    flight into slots `k` and `k + 1` (while they exist), slot `k + 2` free; a waited block is read within its step and not kept. -/
def ringAt0_0 (k : ℕ) : sProp 𝕄 :=
  if k = 0 then Ring.At₀ (cellP0_0 c) (slotW0_0 c W) noHome0_0
  else Ring.At 2 (cellP0_0 c) (slotW0_0 c W) noHome0_0 (flightW0_0 c W) k
omit [FloatOps F] in
theorem cellP0_0_0 : cellP0_0 (F := F) c 0 = semVal ((c : Thread nD τ), SemLoc.dma 4) 0 := congrArg (fun x => (semVal ((c : Thread nD τ), x) 0 : sProp 𝕄)) cellR0_0_0
omit [FloatOps F] in
theorem cellP0_0_1 : cellP0_0 (F := F) c 1 = semVal ((c : Thread nD τ), SemLoc.dma 5) 0 := congrArg (fun x => (semVal ((c : Thread nD τ), x) 0 : sProp 𝕄)) cellR0_0_1
omit [FloatOps F] in
theorem cellP0_0_2 : cellP0_0 (F := F) c 2 = semVal ((c : Thread nD τ), SemLoc.dma 6) 0 := congrArg (fun x => (semVal ((c : Thread nD τ), x) 0 : sProp 𝕄)) cellR0_0_2
end Ring0_0

/-! ### The slots, disjoint and covering the scratch (Lib/Ring.lean `lead_disjoint` / `lead_cover`) -/

abbrev slotSet0_0 (s : Fin 3) : Finset S3x1024x4096.Idx := (Rect.unit (s := S3x1024x4096) ![s.val, 0, 0] S1x1024x4096.size (inb_slot0_0 s)).set
theorem slotSet0_0_eq (s : Fin 3) : (rslot0_0 s).view.set = slotSet0_0 s := by
  simp only [rslot0_0, Memref.view_squeeze, View.set_reshape]; exact View.set_slice_whole _ _
theorem slots0_0_disjoint (s s' : Fin 3) (h : s ≠ s') : Disjoint (slotSet0_0 s) (slotSet0_0 s') :=
  Ring.lead_disjoint (s := S3x1024x4096) (0 : Fin 3) 1 (fun s : Fin 3 => (![s.val, 0, 0] : Fin 3 → Nat)) S1x1024x4096.size inb_slot0_0 (fun s => by simp) rfl s s' h
theorem slots0_0_cover : Finset.univ.biUnion slotSet0_0 = Finset.univ :=
  Ring.lead_cover (s := S3x1024x4096) (0 : Fin 3) 1 (fun s : Fin 3 => (![s.val, 0, 0] : Fin 3 → Nat)) S1x1024x4096.size inb_slot0_0 (fun s => by simp)
    (fun s a ha => by fin_cases a <;> first | exact absurd rfl ha | rfl) rfl (fun a ha => by fin_cases a <;> first | exact absurd rfl ha | rfl) rfl

/-! ### What the launch hands the ring, and takes back -/

section InOut0_0
variable (c : Dev nD) (W : HbBuf0 (F := F) c hbM0_0)
theorem slotP0_0_eq (s : Fin 3) (f) : slotP0_0 (F := F) c s f = (((c : Thread nD τ).loc cc0_scratch1) ↦[slotSet0_0 s]{fullShare} f : sProp 𝕄) := by
  unfold slotP0_0; rw [slotSet0_0_eq]; rfl
/-- A slot's copy of the operand, whole, is block `b`'s elements and the rest (any `b`: what a run splits off before its step
    starts block `b`, and joins back once the wait returned it); -/
theorem src0_0_split (s : Fin 3) (b : Fin 48) : wholeP0_0 (F := F) c W s ⊣⊢ iprop(srcP0_0 c W s b ∗ restP0_0 c W s b) := by
  unfold restP0_0; exact pointsTo_split_subset (Finset.subset_univ _)
/-- the operand whole at the full share is the three copies (halves, the right one halved again). -/
theorem whole0_0_split : (hbPt0 c hbM0_0 W : sProp 𝕄) ⊣⊢ iprop(wholeP0_0 c W 0 ∗ wholeP0_0 c W 1 ∗ wholeP0_0 c W 2) := by
  refine ⟨?_, ?_⟩
  · iintro H
    ihave H' := (pointsTo_share (PosShare.mem_left_op_right fullShare)).1 $$ H
    icases H' with ⟨H0, H12⟩
    ihave H'' := (pointsTo_share (PosShare.mem_left_op_right fullShare.right)).1 $$ H12
    icases H'' with ⟨H1, H2⟩
    isplitl [H0]; · iexact H0
    isplitl [H1]; · iexact H1
    iexact H2
  · iintro ⟨H0, H1, H2⟩
    iapply (pointsTo_share (PosShare.mem_left_op_right fullShare)).2
    isplitl [H0]; · iexact H0
    iapply (pointsTo_share (PosShare.mem_left_op_right fullShare.right)).2
    isplitl [H1]; · iexact H1
    iexact H2
set_option maxHeartbeats 1000000 in
/-- the scratch whole at anything is its slots at something each, and back. -/
theorem slots0_0_in : iprop(∃ d, owns (c : Thread nD τ) scM0_1 fullShare d) ⊢ (iprop((∃ f, slotP0_0 (F := F) c 0 f) ∗ (∃ f, slotP0_0 (F := F) c 1 f) ∗ ∃ f, slotP0_0 (F := F) c 2 f) : sProp 𝕄) := by
  simp only [scM0_1, owns_whole]
  exact Ring.slots3_split (U := Pipeline.UD sig nD τ) (ℓ := (c : Thread nD τ).loc cc0_scratch1) (q := fullShare) slotSet0_0 slots0_0_disjoint slots0_0_cover
    (slotP0_0 c 0) (slotP0_0 c 1) (slotP0_0 c 2) (slotP0_0_eq c 0) (slotP0_0_eq c 1) (slotP0_0_eq c 2)
set_option maxHeartbeats 1000000 in
theorem slots0_0_out : (iprop((∃ f, slotP0_0 (F := F) c 0 f) ∗ (∃ f, slotP0_0 (F := F) c 1 f) ∗ ∃ f, slotP0_0 (F := F) c 2 f) : sProp 𝕄) ⊢ iprop(∃ d, owns (c : Thread nD τ) scM0_1 fullShare d) := by
  simp only [scM0_1, owns_whole]
  exact Ring.slots3_join (U := Pipeline.UD sig nD τ) (ℓ := (c : Thread nD τ).loc cc0_scratch1) (q := fullShare) slotSet0_0 slots0_0_disjoint slots0_0_cover
    (slotP0_0 c 0) (slotP0_0 c 1) (slotP0_0 c 2) (slotP0_0_eq c 0) (slotP0_0_eq c 1) (slotP0_0_eq c 2)
end InOut0_0

/-- INTO THE RING: the launch's pieces — the scratch whole, the cells at zero, the operand whole — are the ring before its first step; -/
theorem ring0_0_in (c : Dev nD) :
    iprop((∃ d, owns (c : Thread nD τ) scM0_1 fullShare d) ∗ (semVal ((c : Thread nD τ), SemLoc.dma 4) 0 ∗ semVal ((c : Thread nD τ), SemLoc.dma 5) 0 ∗ semVal ((c : Thread nD τ), SemLoc.dma 6) 0) ∗ hbPt0 c hbM0_0 (V m c main_v0))
      ⊢ ringAt0_0 c (V m c main_v0) 0 := by
  unfold ringAt0_0; rw [if_pos rfl]; unfold Ring.At₀
  rw [Ring.bigSep_fin3]
  simp only [Ring.free, cellP0_0_0, cellP0_0_1, cellP0_0_2]
  iintro ⟨HS, Hc, HW⟩
  iapply Ring.with_homes₀
  icases Hc with ⟨H0, H1, H2⟩
  ihave HS' := (slots0_0_in (F := F) c) $$ HS
  icases HS' with ⟨⟨%d0, HS0⟩, ⟨%d1, HS1⟩, ⟨%d2, HS2⟩⟩
  ihave HW' := (whole0_0_split (F := F) c (V m c main_v0)).1 $$ HW
  icases HW' with ⟨HW0, HW1, HW2⟩
  isplitl [H0 HS0 HW0]
  · isplitl [H0]; · iexact H0
    iexists d0; isplitl [HS0]; · iexact HS0
    iexact HW0
  isplitl [H1 HS1 HW1]
  · isplitl [H1]; · iexact H1
    iexists d1; isplitl [HS1]; · iexact HS1
    iexact HW1
  · isplitl [H2]; · iexact H2
    iexists d2; isplitl [HS2]; · iexact HS2
    iexact HW2
/-- OUT OF THE RING: after the last step (every slot kept or free: the kept blocks forgotten) those pieces again. -/
theorem ring0_0_out (c : Dev nD) :
    ringAt0_0 c (V m c main_v0) 48
      ⊢ iprop((∃ d, owns (c : Thread nD τ) scM0_1 fullShare d) ∗ (semVal ((c : Thread nD τ), SemLoc.dma 4) 0 ∗ semVal ((c : Thread nD τ), SemLoc.dma 5) 0 ∗ semVal ((c : Thread nD τ), SemLoc.dma 6) 0) ∗ hbPt0 c hbM0_0 (V m c main_v0)) := by
  unfold ringAt0_0; rw [if_neg (by decide)]
  iintro H
  ihave H' := (Ring.free3_of_At_last _ _ _ _) $$ H
  simp only [Ring.free, cellP0_0_0, cellP0_0_1, cellP0_0_2]
  icases H' with ⟨-, ⟨H0, ⟨%f0, HS0, HW0⟩⟩, ⟨H1, ⟨%f1, HS1, HW1⟩⟩, ⟨H2, ⟨%f2, HS2, HW2⟩⟩⟩
  isplitl [HS0 HS1 HS2]
  · iapply (slots0_0_out (F := F) c); isplitl [HS0]; · iexists f0; iexact HS0
    isplitl [HS1]; · iexists f1; iexact HS1
    iexists f2; iexact HS2
  isplitl [H0 H1 H2]
  · isplitl [H0]; · iexact H0
    isplitl [H1]; · iexact H1
    iexact H2
  · iapply (whole0_0_split (F := F) c (V m c main_v0)).2; isplitl [HW0]; · iexact HW0
    isplitl [HW1]; · iexact HW1
    iexact HW2

/-! ### Ring 0's steps at each case's points, and its canonical names: the body's operands at point `t` are the ring's slots, blocks and cells -/

section Canon0_0
omit [FloatOps F]
/-- At the points of case A the ring takes its FIRST step. -/
theorem rstep0_0_A : ∀ t : Fin grid0.N, cond0_0 (grid0.coords t) → cond0_1 (grid0.coords t) → cond0_2 (grid0.coords t) → ¬cond0_3 (grid0.coords t) → t.val = 0 ∧ (t.val + 1) = 1 := by decide +kernel
/-- At the points of case B the ring takes a step, a block still to start. -/
theorem rstep0_0_B : ∀ t : Fin grid0.N, ¬cond0_0 (grid0.coords t) → cond0_1 (grid0.coords t) → ¬cond0_2 (grid0.coords t) → cond0_3 (grid0.coords t) → 1 ≤ t.val ∧ t.val + 2 < 48 ∧ (t.val + 1) = t.val + 1 := by decide +kernel
/-- At the points of case C the ring takes a step, a block still to start. -/
theorem rstep0_0_C : ∀ t : Fin grid0.N, ¬cond0_0 (grid0.coords t) → cond0_1 (grid0.coords t) → cond0_2 (grid0.coords t) → ¬cond0_3 (grid0.coords t) → 1 ≤ t.val ∧ t.val + 2 < 48 ∧ (t.val + 1) = t.val + 1 := by decide +kernel
/-- At the points of case D the ring takes its LAST step. -/
theorem rstep0_0_D : ∀ t : Fin grid0.N, ¬cond0_0 (grid0.coords t) → ¬cond0_1 (grid0.coords t) → ¬cond0_2 (grid0.coords t) → cond0_3 (grid0.coords t) → 1 ≤ t.val ∧ 48 ≤ t.val + 2 ∧ t.val < 48 ∧ (t.val + 1) = t.val + 1 := by decide +kernel
set_option synthInstance.maxSize 4096 in
theorem coff0_0_1 : ∀ t : Fin grid0.N, cond0_0 (grid0.coords t) → cond0_1 (grid0.coords t) → cond0_2 (grid0.coords t) → ¬cond0_3 (grid0.coords t) → (![0, 0, 0] : Fin 3 → Nat) = ![(Ring.sl 3 t.val).val, 0, 0] := by decide +kernel
@[sl_canon] theorem canon0_0_1 (t : Fin grid0.N) (h0 : cond0_0 (grid0.coords t)) (h1 : cond0_1 (grid0.coords t)) (h2 : cond0_2 (grid0.coords t)) (h3 : ¬cond0_3 (grid0.coords t)) :
    (scM0_1.slice (Rect.unit (s := S3x1024x4096) ![0, 0, 0] S1x1024x4096.size inb_S3x1024x4096_S1x1024x4096_0_0_0) (fun _ => rfl)).squeeze S1024x4096 squeezes_S1x1024x4096_S1024x4096 = rslot0_0 (Ring.sl 3 t.val) :=
  congrArg (fun M : Memref sig .tc .vmem S1x1024x4096 .bf16 => M.squeeze S1024x4096 squeezes_S1x1024x4096_S1024x4096) (Memref.slice_unit_congr _ (coff0_0_1 t h0 h1 h2 h3) _ _ (fun _ => rfl) (fun _ => rfl))
set_option synthInstance.maxSize 4096 in
theorem coff0_0_2 : ∀ t : Fin grid0.N, cond0_0 (grid0.coords t) → cond0_1 (grid0.coords t) → cond0_2 (grid0.coords t) → ¬cond0_3 (grid0.coords t) → (![0] : Fin 1 → Nat) = ![(Ring.sl 3 t.val).val] := by decide +kernel
@[sl_canon] theorem canon0_0_2 (t : Fin grid0.N) (h0 : cond0_0 (grid0.coords t)) (h1 : cond0_1 (grid0.coords t)) (h2 : cond0_2 (grid0.coords t)) (h3 : ¬cond0_3 (grid0.coords t)) :
    (cc0_scratch2.slice (Rect.unit (s := S3) ![0] S1.size inb_S3_S1_0)).squeeze S_ squeezes_S1_S_ = cellA0_0 (Ring.sl 3 t.val) :=
  congrArg (fun A : DmaSems sig S1 => A.squeeze S_ squeezes_S1_S_) (SemArray.slice_unit_congr _ (coff0_0_2 t h0 h1 h2 h3) _ _)
set_option synthInstance.maxSize 4096 in
theorem coff0_0_3 : ∀ t : Fin grid0.N, cond0_0 (grid0.coords t) → cond0_1 (grid0.coords t) → cond0_2 (grid0.coords t) → ¬cond0_3 (grid0.coords t) → (![0, 0] : Fin 2 → Nat) = ![1024 * ((Ring.bk 48 t.val).val % 6), 0] := by decide +kernel
@[sl_canon] theorem canon0_0_3 (t : Fin grid0.N) (h0 : cond0_0 (grid0.coords t)) (h1 : cond0_1 (grid0.coords t)) (h2 : cond0_2 (grid0.coords t)) (h3 : ¬cond0_3 (grid0.coords t)) :
    hbM0_0.slice (Rect.unit (s := S6144x4096) ![0, 0] S1024x4096.size inb_S6144x4096_S1024x4096_0_0) (fun _ => rfl) = srcB0_0 (Ring.bk 48 t.val) :=
  congrArg (fun M : Memref sig .tc .hbm S1024x4096 .bf16 => M) (Memref.slice_unit_congr _ (coff0_0_3 t h0 h1 h2 h3) _ _ (fun _ => rfl) (fun _ => rfl))
set_option synthInstance.maxSize 4096 in
theorem coff0_0_4 : ∀ t : Fin grid0.N, cond0_0 (grid0.coords t) → cond0_1 (grid0.coords t) → cond0_2 (grid0.coords t) → ¬cond0_3 (grid0.coords t) → (![1, 0, 0] : Fin 3 → Nat) = ![(Ring.sl 3 (t.val + 1)).val, 0, 0] := by decide +kernel
@[sl_canon] theorem canon0_0_4 (t : Fin grid0.N) (h0 : cond0_0 (grid0.coords t)) (h1 : cond0_1 (grid0.coords t)) (h2 : cond0_2 (grid0.coords t)) (h3 : ¬cond0_3 (grid0.coords t)) :
    (scM0_1.slice (Rect.unit (s := S3x1024x4096) ![1, 0, 0] S1x1024x4096.size inb_S3x1024x4096_S1x1024x4096_1_0_0) (fun _ => rfl)).squeeze S1024x4096 squeezes_S1x1024x4096_S1024x4096 = rslot0_0 (Ring.sl 3 (t.val + 1)) :=
  congrArg (fun M : Memref sig .tc .vmem S1x1024x4096 .bf16 => M.squeeze S1024x4096 squeezes_S1x1024x4096_S1024x4096) (Memref.slice_unit_congr _ (coff0_0_4 t h0 h1 h2 h3) _ _ (fun _ => rfl) (fun _ => rfl))
set_option synthInstance.maxSize 4096 in
theorem coff0_0_5 : ∀ t : Fin grid0.N, cond0_0 (grid0.coords t) → cond0_1 (grid0.coords t) → cond0_2 (grid0.coords t) → ¬cond0_3 (grid0.coords t) → (![1] : Fin 1 → Nat) = ![(Ring.sl 3 (t.val + 1)).val] := by decide +kernel
@[sl_canon] theorem canon0_0_5 (t : Fin grid0.N) (h0 : cond0_0 (grid0.coords t)) (h1 : cond0_1 (grid0.coords t)) (h2 : cond0_2 (grid0.coords t)) (h3 : ¬cond0_3 (grid0.coords t)) :
    (cc0_scratch2.slice (Rect.unit (s := S3) ![1] S1.size inb_S3_S1_1)).squeeze S_ squeezes_S1_S_ = cellA0_0 (Ring.sl 3 (t.val + 1)) :=
  congrArg (fun A : DmaSems sig S1 => A.squeeze S_ squeezes_S1_S_) (SemArray.slice_unit_congr _ (coff0_0_5 t h0 h1 h2 h3) _ _)
set_option synthInstance.maxSize 4096 in
theorem coff0_0_6 : ∀ t : Fin grid0.N, cond0_0 (grid0.coords t) → cond0_1 (grid0.coords t) → cond0_2 (grid0.coords t) → ¬cond0_3 (grid0.coords t) → (![1024, 0] : Fin 2 → Nat) = ![1024 * ((Ring.bk 48 (t.val + 1)).val % 6), 0] := by decide +kernel
@[sl_canon] theorem canon0_0_6 (t : Fin grid0.N) (h0 : cond0_0 (grid0.coords t)) (h1 : cond0_1 (grid0.coords t)) (h2 : cond0_2 (grid0.coords t)) (h3 : ¬cond0_3 (grid0.coords t)) :
    hbM0_0.slice (Rect.unit (s := S6144x4096) ![1024, 0] S1024x4096.size inb_S6144x4096_S1024x4096_1024_0) (fun _ => rfl) = srcB0_0 (Ring.bk 48 (t.val + 1)) :=
  congrArg (fun M : Memref sig .tc .hbm S1024x4096 .bf16 => M) (Memref.slice_unit_congr _ (coff0_0_6 t h0 h1 h2 h3) _ _ (fun _ => rfl) (fun _ => rfl))
set_option synthInstance.maxSize 4096 in
theorem coff0_0_7 : ∀ t : Fin grid0.N, k0_off2 (grid0.coords t) = ![(Ring.sl 3 (t.val + 2)).val, 0, 0] := by decide +kernel
@[sl_canon] theorem canon0_0_7 (t : Fin grid0.N) (h1 : cond0_1 (grid0.coords t)) :
    (scM0_1.slice (Rect.unit (s := S3x1024x4096) (k0_off2 (grid0.coords t)) S1x1024x4096.size (k0_off2_inb (grid0.coords t) h1)) (fun _ => rfl)).squeeze S1024x4096 squeezes_S1x1024x4096_S1024x4096 = rslot0_0 (Ring.sl 3 (t.val + 2)) :=
  congrArg (fun M : Memref sig .tc .vmem S1x1024x4096 .bf16 => M.squeeze S1024x4096 squeezes_S1x1024x4096_S1024x4096) (Memref.slice_unit_congr _ (coff0_0_7 t ) _ _ (fun _ => rfl) (fun _ => rfl))
set_option synthInstance.maxSize 4096 in
theorem coff0_0_8 : ∀ t : Fin grid0.N, k0_off1 (grid0.coords t) = ![(Ring.sl 3 (t.val + 2)).val] := by decide +kernel
@[sl_canon] theorem canon0_0_8 (t : Fin grid0.N) (h1 : cond0_1 (grid0.coords t)) :
    (cc0_scratch2.slice (Rect.unit (s := S3) (k0_off1 (grid0.coords t)) S1.size (k0_off1_inb (grid0.coords t) h1))).squeeze S_ squeezes_S1_S_ = cellA0_0 (Ring.sl 3 (t.val + 2)) :=
  congrArg (fun A : DmaSems sig S1 => A.squeeze S_ squeezes_S1_S_) (SemArray.slice_unit_congr _ (coff0_0_8 t ) _ _)
set_option synthInstance.maxSize 4096 in
theorem coff0_0_9 : ∀ t : Fin grid0.N, cond0_0 (grid0.coords t) → cond0_1 (grid0.coords t) → cond0_2 (grid0.coords t) → ¬cond0_3 (grid0.coords t) → k0_off3 (grid0.coords t) = ![1024 * ((Ring.bk 48 (t.val + 2)).val % 6), 0] := by decide +kernel
@[sl_canon] theorem canon0_0_9 (t : Fin grid0.N) (h0 : cond0_0 (grid0.coords t)) (h1 : cond0_1 (grid0.coords t)) (h2 : cond0_2 (grid0.coords t)) (h3 : ¬cond0_3 (grid0.coords t)) :
    hbM0_0.slice (Rect.unit (s := S6144x4096) (k0_off3 (grid0.coords t)) S1024x4096.size (k0_off3_inb (grid0.coords t) h1)) (fun _ => rfl) = srcB0_0 (Ring.bk 48 (t.val + 2)) :=
  congrArg (fun M : Memref sig .tc .hbm S1024x4096 .bf16 => M) (Memref.slice_unit_congr _ (coff0_0_9 t h0 h1 h2 h3) _ _ (fun _ => rfl) (fun _ => rfl))
set_option synthInstance.maxSize 4096 in
theorem coff0_0_10 : ∀ t : Fin grid0.N, k0_off5 (grid0.coords t) = ![(Ring.sl 3 t.val).val, 0, 0] := by decide +kernel
@[sl_canon] theorem canon0_0_10 (t : Fin grid0.N) :
    (scM0_1.slice (Rect.unit (s := S3x1024x4096) (k0_off5 (grid0.coords t)) S1x1024x4096.size (k0_off5_inb (grid0.coords t))) (fun _ => rfl)).squeeze S1024x4096 squeezes_S1x1024x4096_S1024x4096 = rslot0_0 (Ring.sl 3 t.val) :=
  congrArg (fun M : Memref sig .tc .vmem S1x1024x4096 .bf16 => M.squeeze S1024x4096 squeezes_S1x1024x4096_S1024x4096) (Memref.slice_unit_congr _ (coff0_0_10 t ) _ _ (fun _ => rfl) (fun _ => rfl))
set_option synthInstance.maxSize 4096 in
theorem coff0_0_11 : ∀ t : Fin grid0.N, k0_off4 (grid0.coords t) = ![(Ring.sl 3 t.val).val] := by decide +kernel
@[sl_canon] theorem canon0_0_11 (t : Fin grid0.N) :
    (cc0_scratch2.slice (Rect.unit (s := S3) (k0_off4 (grid0.coords t)) S1.size (k0_off4_inb (grid0.coords t)))).squeeze S_ squeezes_S1_S_ = cellA0_0 (Ring.sl 3 t.val) :=
  congrArg (fun A : DmaSems sig S1 => A.squeeze S_ squeezes_S1_S_) (SemArray.slice_unit_congr _ (coff0_0_11 t ) _ _)
set_option synthInstance.maxSize 4096 in
theorem coff0_0_12 : ∀ t : Fin grid0.N, ¬cond0_0 (grid0.coords t) → cond0_1 (grid0.coords t) → ¬cond0_2 (grid0.coords t) → cond0_3 (grid0.coords t) → k0_off3 (grid0.coords t) = ![1024 * ((Ring.bk 48 (t.val + 2)).val % 6), 0] := by decide +kernel
@[sl_canon] theorem canon0_0_12 (t : Fin grid0.N) (h0 : ¬cond0_0 (grid0.coords t)) (h1 : cond0_1 (grid0.coords t)) (h2 : ¬cond0_2 (grid0.coords t)) (h3 : cond0_3 (grid0.coords t)) :
    hbM0_0.slice (Rect.unit (s := S6144x4096) (k0_off3 (grid0.coords t)) S1024x4096.size (k0_off3_inb (grid0.coords t) h1)) (fun _ => rfl) = srcB0_0 (Ring.bk 48 (t.val + 2)) :=
  congrArg (fun M : Memref sig .tc .hbm S1024x4096 .bf16 => M) (Memref.slice_unit_congr _ (coff0_0_12 t h0 h1 h2 h3) _ _ (fun _ => rfl) (fun _ => rfl))
set_option synthInstance.maxSize 4096 in
theorem coff0_0_13 : ∀ t : Fin grid0.N, ¬cond0_0 (grid0.coords t) → cond0_1 (grid0.coords t) → cond0_2 (grid0.coords t) → ¬cond0_3 (grid0.coords t) → k0_off3 (grid0.coords t) = ![1024 * ((Ring.bk 48 (t.val + 2)).val % 6), 0] := by decide +kernel
@[sl_canon] theorem canon0_0_13 (t : Fin grid0.N) (h0 : ¬cond0_0 (grid0.coords t)) (h1 : cond0_1 (grid0.coords t)) (h2 : cond0_2 (grid0.coords t)) (h3 : ¬cond0_3 (grid0.coords t)) :
    hbM0_0.slice (Rect.unit (s := S6144x4096) (k0_off3 (grid0.coords t)) S1024x4096.size (k0_off3_inb (grid0.coords t) h1)) (fun _ => rfl) = srcB0_0 (Ring.bk 48 (t.val + 2)) :=
  congrArg (fun M : Memref sig .tc .hbm S1024x4096 .bf16 => M) (Memref.slice_unit_congr _ (coff0_0_13 t h0 h1 h2 h3) _ _ (fun _ => rfl) (fun _ => rfl))
set_option synthInstance.maxSize 4096 in
theorem coff0_0_14 : ∀ t : Fin grid0.N, k0_off7 (grid0.coords t) = ![(Ring.sl 3 t.val).val, 0, 0] := by decide +kernel
/-- A load of the slab, at offsets in its slot. -/
instance (priority := high) closedOff0_0_14 (t : Fin grid0.N) : ClosedOff (k0_off7 (grid0.coords t)) := ⟨![(Ring.sl 3 t.val).val, 0, 0], coff0_0_14 t⟩
set_option synthInstance.maxSize 4096 in
theorem coff0_0_15 : ∀ t : Fin grid0.N, k0_off8 (grid0.coords t) = ![(Ring.sl 3 t.val).val, 0, 512] := by decide +kernel
/-- A load of the slab, at offsets in its slot. -/
instance (priority := high) closedOff0_0_15 (t : Fin grid0.N) : ClosedOff (k0_off8 (grid0.coords t)) := ⟨![(Ring.sl 3 t.val).val, 0, 512], coff0_0_15 t⟩
set_option synthInstance.maxSize 4096 in
theorem coff0_0_16 : ∀ t : Fin grid0.N, k0_off9 (grid0.coords t) = ![(Ring.sl 3 t.val).val, 0, 1024] := by decide +kernel
/-- A load of the slab, at offsets in its slot. -/
instance (priority := high) closedOff0_0_16 (t : Fin grid0.N) : ClosedOff (k0_off9 (grid0.coords t)) := ⟨![(Ring.sl 3 t.val).val, 0, 1024], coff0_0_16 t⟩
set_option synthInstance.maxSize 4096 in
theorem coff0_0_17 : ∀ t : Fin grid0.N, k0_off10 (grid0.coords t) = ![(Ring.sl 3 t.val).val, 0, 1536] := by decide +kernel
/-- A load of the slab, at offsets in its slot. -/
instance (priority := high) closedOff0_0_17 (t : Fin grid0.N) : ClosedOff (k0_off10 (grid0.coords t)) := ⟨![(Ring.sl 3 t.val).val, 0, 1536], coff0_0_17 t⟩
set_option synthInstance.maxSize 4096 in
theorem coff0_0_18 : ∀ t : Fin grid0.N, k0_off11 (grid0.coords t) = ![(Ring.sl 3 t.val).val, 0, 2048] := by decide +kernel
/-- A load of the slab, at offsets in its slot. -/
instance (priority := high) closedOff0_0_18 (t : Fin grid0.N) : ClosedOff (k0_off11 (grid0.coords t)) := ⟨![(Ring.sl 3 t.val).val, 0, 2048], coff0_0_18 t⟩
set_option synthInstance.maxSize 4096 in
theorem coff0_0_19 : ∀ t : Fin grid0.N, k0_off12 (grid0.coords t) = ![(Ring.sl 3 t.val).val, 0, 2560] := by decide +kernel
/-- A load of the slab, at offsets in its slot. -/
instance (priority := high) closedOff0_0_19 (t : Fin grid0.N) : ClosedOff (k0_off12 (grid0.coords t)) := ⟨![(Ring.sl 3 t.val).val, 0, 2560], coff0_0_19 t⟩
set_option synthInstance.maxSize 4096 in
theorem coff0_0_20 : ∀ t : Fin grid0.N, k0_off13 (grid0.coords t) = ![(Ring.sl 3 t.val).val, 0, 3072] := by decide +kernel
/-- A load of the slab, at offsets in its slot. -/
instance (priority := high) closedOff0_0_20 (t : Fin grid0.N) : ClosedOff (k0_off13 (grid0.coords t)) := ⟨![(Ring.sl 3 t.val).val, 0, 3072], coff0_0_20 t⟩
set_option synthInstance.maxSize 4096 in
theorem coff0_0_21 : ∀ t : Fin grid0.N, k0_off14 (grid0.coords t) = ![(Ring.sl 3 t.val).val, 0, 3584] := by decide +kernel
/-- A load of the slab, at offsets in its slot. -/
instance (priority := high) closedOff0_0_21 (t : Fin grid0.N) : ClosedOff (k0_off14 (grid0.coords t)) := ⟨![(Ring.sl 3 t.val).val, 0, 3584], coff0_0_21 t⟩
set_option synthInstance.maxSize 4096 in
theorem coff0_0_22 : ∀ t : Fin grid0.N, k0_off15 (grid0.coords t) = ![(Ring.sl 3 t.val).val, 0, 0] := by decide +kernel
/-- A load of the slab, at offsets in its slot. -/
instance (priority := high) closedOff0_0_22 (t : Fin grid0.N) : ClosedOff (k0_off15 (grid0.coords t)) := ⟨![(Ring.sl 3 t.val).val, 0, 0], coff0_0_22 t⟩
end Canon0_0

end Cert.Kernel5Ideal.Out

end
-- ==== Proof.OutRun.lean ====
module

public import proofs.«01_k».proof.Proof.OutRing
public import proofs.«01_k».proof.Proof.Slab
public import Idealize.ShloMosaic.Lib.VecWindow
public import Idealize.ShloMosaic.Lib.Pipeline.ValueKit

/-! One grid step of the output projection's kernel, with what it leaves named.

At the first row block of a column block the step casts the window of the weights, keeps it in the scratch, and sums eight
partial products; at the later row blocks it multiplies the whole slab by the kept scratch. Either way it stores the
product. -/

@[expose] public section

set_option maxRecDepth 4096

noncomputable section

namespace Cert.Kernel5Ideal.Out

open Cert.Kernel5Ideal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- A window of the weights, cast: what the scratch keeps for a column block. -/
def kept (x0 : Vec F S4096x512 .f32) : Vec F S4096x512 .bf16 := fun i => FloatOps.truncf .bf16 bitsLt_bf16_f32 (x0 i)

/-- What the first row block of a column block leaves: eight partial products of the slab's columns and the window's rows. -/
def outFirst (X : Vec F S1024x4096 .bf16) (x0 : Vec F S4096x512 .f32) : Vec F S1024x512 .f32 :=
  k0_pay4 (k0_pay20 (k0_pay12 (Slab.rows 0 (by decide) x0) (Slab.cols 512 0 (by decide) X)
      (Slab.rows 512 (by decide) x0) (Slab.cols 512 512 (by decide) X) (Slab.rows 1024 (by decide) x0) (Slab.cols 512 1024 (by decide) X))
    (k0_pay13 (Slab.rows 1536 (by decide) x0)) (Slab.cols 512 1536 (by decide) X) (Slab.rows 2048 (by decide) x0)
      (Slab.cols 512 2048 (by decide) X) (Slab.rows 2560 (by decide) x0) (Slab.cols 512 2560 (by decide) X))
    (k0_pay21 (Slab.rows 3072 (by decide) x0)) (Slab.cols 512 3072 (by decide) X) (Slab.rows 3584 (by decide) x0)
      (Slab.cols 512 3584 (by decide) X)

/-- What a later row block leaves: the whole slab times the kept weights. -/
def outLater (X : Vec F S1024x4096 .bf16) (wb : Vec F S4096x512 .bf16) : Vec F S1024x512 .f32 :=
  k0_pay5 (Slab.cols 4096 0 (by decide) X) wb

/-- A load of `n` columns of a slot of the ring, once the slot holds `X`. -/
theorem readAt_ring {n : ℕ} (s : Fin 3) (f) (X : Vec F S1024x4096 .bf16) (k : ℕ) (hk : k + n ≤ 4096) {off : Fin 3 → ℕ}
    (inb : ∀ x, off x + (⟨3, ![1, 1024, n]⟩ : Shape).size x ≤ S3x1024x4096.size x) (ho : off = ![s.val, 0, k]) :
    View.readAt (Elt F) scM0_1.view (Rect.unit (s := S3x1024x4096) off (⟨3, ![1, 1024, n]⟩ : Shape).size inb).toLoadRect
      ((rslot0_0 s).view.writes (Elt F) f [⟨Rect.whole S1024x4096, X⟩]) = Slab.cols n k hk X :=
  Slab.readAt_slot scM0_1 s.val k (inb_slot0_0 s) (fun _ => rfl) squeezes_S1x1024x4096_S1024x4096 f X hk inb ho

/-- A piece of the kept weights: rows `k … k + 511` of the window, cast. -/
theorem kept_piece (x0 : Vec F S4096x512 .f32) (k : ℕ) (hk : k + 512 ≤ 4096) (inb)
    (x : (Rect.unit (s := S4096x512) ![k, 0] S512x512.size inb).shape.Idx) :
    shapeCast S512x512 (truncf .bf16 (shapeCast S512x512 (Slab.rows k hk x0) shapeCasts_S512x512_S512x512 : FVec F S512x512 .f32)
      bitsLt_bf16_f32 : FVec F S512x512 .bf16) shapeCasts_S512x512_S512x512 x
      = kept x0 ((Rect.unit (s := S4096x512) ![k, 0] S512x512.size inb).emb x) := by
  rw [shapeCast_self, shapeCast_self]
  refine congrArg (fun i => FloatOps.truncf .bf16 bitsLt_bf16_f32 (x0 i)) (funext fun a => Fin.ext ?_)
  match a with
  | ⟨0, _⟩ => show k + (x 0).val = k + 1 * (x 0).val; omega
  | ⟨1, _⟩ => show (x 1).val = 0 + 1 * (x 1).val; omega

/-- The scratch after the eight pieces are stored holds the kept weights. -/
theorem read_kept (M : Memref sig .tc .vmem S4096x512 .bf16) (f) (x0 : Vec F S4096x512 .f32) (i7 i6 i5 i4 i3 i2 i1 i0) :
    View.read (Elt F) M.view (M.view.writes (Elt F) f
      [⟨Rect.unit (s := S4096x512) ![3584, 0] S512x512.size i7, k0_pay3 (Slab.rows 3584 (by decide) x0)⟩,
       ⟨Rect.unit (s := S4096x512) ![3072, 0] S512x512.size i6, k0_pay1 (k0_pay21 (Slab.rows 3072 (by decide) x0))⟩,
       ⟨Rect.unit (s := S4096x512) ![2560, 0] S512x512.size i5, k0_pay19 (Slab.rows 2560 (by decide) x0)⟩,
       ⟨Rect.unit (s := S4096x512) ![2048, 0] S512x512.size i4, k0_pay17 (Slab.rows 2048 (by decide) x0)⟩,
       ⟨Rect.unit (s := S4096x512) ![1536, 0] S512x512.size i3, k0_pay15 (k0_pay13 (Slab.rows 1536 (by decide) x0))⟩,
       ⟨Rect.unit (s := S4096x512) ![1024, 0] S512x512.size i2, k0_pay11 (Slab.rows 1024 (by decide) x0)⟩,
       ⟨Rect.unit (s := S4096x512) ![512, 0] S512x512.size i1, k0_pay9 (Slab.rows 512 (by decide) x0)⟩,
       ⟨Rect.unit (s := S4096x512) ![0, 0] S512x512.size i0, k0_pay7 (Slab.rows 0 (by decide) x0)⟩]) = kept x0 := by
  exact Slab.read_eight M f (kept x0) _ _ _ _ _ _ _ _ (kept_piece x0 0 _ i0) (kept_piece x0 512 _ i1) (kept_piece x0 1024 _ i2)
    (kept_piece x0 1536 _ i3) (kept_piece x0 2048 _ i4) (kept_piece x0 2560 _ i5) (kept_piece x0 3072 _ i6) (kept_piece x0 3584 _ i7)

/-- The first row block's output, its loads given. -/
theorem outFirst_of (X : Vec F S1024x4096 .bf16) (x0 : Vec F S4096x512 .f32) {a0 a1 a2 a3 a4 a5 a6 a7 : Vec F S1x1024x512 .bf16}
    (h0 : a0 = Slab.cols 512 0 (by decide) X) (h1 : a1 = Slab.cols 512 512 (by decide) X)
    (h2 : a2 = Slab.cols 512 1024 (by decide) X) (h3 : a3 = Slab.cols 512 1536 (by decide) X)
    (h4 : a4 = Slab.cols 512 2048 (by decide) X) (h5 : a5 = Slab.cols 512 2560 (by decide) X)
    (h6 : a6 = Slab.cols 512 3072 (by decide) X) (h7 : a7 = Slab.cols 512 3584 (by decide) X) :
    k0_pay4 (k0_pay20 (k0_pay12 (Slab.rows 0 (by decide) x0) a0 (Slab.rows 512 (by decide) x0) a1 (Slab.rows 1024 (by decide) x0) a2)
      (k0_pay13 (Slab.rows 1536 (by decide) x0)) a3 (Slab.rows 2048 (by decide) x0) a4 (Slab.rows 2560 (by decide) x0) a5)
      (k0_pay21 (Slab.rows 3072 (by decide) x0)) a6 (Slab.rows 3584 (by decide) x0) a7 = outFirst X x0 := by
  subst h0 h1 h2 h3 h4 h5 h6 h7; rfl

/-- A later row block's output, its loads given. -/
theorem outLater_of (X : Vec F S1024x4096 .bf16) (wb : Vec F S4096x512 .bf16) {a : Vec F S1x1024x4096 .bf16} {w : Vec F S4096x512 .bf16}
    (ha : a = Slab.cols 4096 0 (by decide) X) (hw : w = wb) : k0_pay5 a w = outLater X wb := by
  subst ha hw; rfl

/-- The rows of the operand that block `b` streams. -/
abbrev rowsOf (c : Dev nD) (fh0 : HbBuf0 (F := F) c hbM0_0) (b : Fin 48) : Vec F S1024x4096 .bf16 :=
  View.read (Elt F) (srcB0_0 b).view fh0

set_option maxHeartbeats 1000000 in
/-- The very first step: it starts three transfers. -/
theorem runA (c : Dev nD) (t : Fin cfg0.N) (arg3 : Memref sig .tc .vmem S4096x512 .f32) (harg3 : arg3.IsWhole)
    (arg4 : Memref sig .tc .vmem S1024x512 .f32) (harg4 : arg4.IsWhole) (arg5 : Memref sig .tc .vmem S4096x512 .bf16) (harg5 : arg5.IsWhole)
    (hc0 : cond0_0 (grid0.coords t)) (hc1 : cond0_1 (grid0.coords t)) (hc2 : cond0_2 (grid0.coords t)) (hc3 : ¬cond0_3 (grid0.coords t))
    (x0 : Vec F S4096x512 .f32) (fh0 : HbBuf0 (F := F) c hbM0_0) (W : Waits sig Unit) (K : PUnit → sProp 𝕄) :
    iprop(owns (c : Thread nD τ) arg3 fullShare x0 ∗ (∃ d, owns (c : Thread nD τ) arg4 fullShare d) ∗ (∃ d, owns (c : Thread nD τ) arg5 fullShare d)
        ∗ Ring.free (cellP0_0 c) (slotW0_0 c fh0) (Ring.sl 3 t.val)
        ∗ Ring.free (cellP0_0 c) (slotW0_0 c fh0) (Ring.sl 3 (t.val + 1))
        ∗ Ring.free (cellP0_0 c) (slotW0_0 c fh0) (Ring.sl 3 (t.val + 2)) ∗ owes (c : Thread nD τ) 0 W
        ∗ (iprop(owns (c : Thread nD τ) arg3 fullShare x0
            ∗ owns (c : Thread nD τ) arg4 fullShare (outFirst (rowsOf c fh0 (Ring.bk 48 t.val)) x0)
            ∗ owns (c : Thread nD τ) arg5 fullShare (kept x0)
            ∗ Ring.inflight (flightW0_0 c fh0) (Ring.sl 3 (t.val + 1)) (Ring.bk 48 (t.val + 1))
            ∗ Ring.inflight (flightW0_0 c fh0) (Ring.sl 3 (t.val + 2)) (Ring.bk 48 (t.val + 2))
            ∗ Ring.free (cellP0_0 c) (slotW0_0 c fh0) (Ring.sl 3 t.val) ∗ (∃ W', owes (c : Thread nD τ) 0 W')) -∗ K ⟨⟩))
      ⊢ wp frame (wpE (defs₀ (F := F)) Variants.none c none) Set.univ
          (cc0_out_proj (grid0.coords t) (Memref.whole main_v0) (Memref.isWhole_whole _) arg3 harg3 arg4 harg4 arg5 harg5
            scM0_1 (Memref.isWhole_whole _) cc0_scratch2) K := by
  haveI : Fact (cond0_0 (grid0.coords t)) := ⟨hc0⟩
  haveI : Fact (cond0_1 (grid0.coords t)) := ⟨hc1⟩
  haveI : Fact (cond0_2 (grid0.coords t)) := ⟨hc2⟩
  haveI : Fact (¬cond0_3 (grid0.coords t)) := ⟨hc3⟩
  simp only [cc0_out_proj_eq_skeleton]; unfold cc0_out_proj_skel
  simp only [k0_part3_eq_skeleton, k0_part1_eq_skeleton, k0_part2_eq_skeleton]
  simp only [canon0_0_10 t, canon0_0_11 t]
  have hcanon0 := canon0_0_1 t hc0 hc1 hc2 hc3
  have hcanon1 := canon0_0_2 t hc0 hc1 hc2 hc3
  have hcanon2 := canon0_0_3 t hc0 hc1 hc2 hc3
  have hcanon3 := canon0_0_4 t hc0 hc1 hc2 hc3
  have hcanon4 := canon0_0_5 t hc0 hc1 hc2 hc3
  have hcanon5 := canon0_0_6 t hc0 hc1 hc2 hc3
  unfold owns Ring.free Ring.inflight
  iintro ⟨⟨%f0, %hf0, H0⟩, ⟨%d2, %f2, -, H2⟩, ⟨%ds0, %fs0, -, HS0⟩, ⟨Hc0_0_0, ⟨%fs0_0_0, Hs0_0_0, Hw0_0_0⟩⟩, ⟨Hc0_0_1, ⟨%fs0_0_1, Hs0_0_1, Hw0_0_1⟩⟩, ⟨Hc0_0_2, ⟨%fs0_0_2, Hs0_0_2, Hw0_0_2⟩⟩, HW, Hk⟩
  ihave Hsp0_0_0 := (src0_0_split c fh0 (Ring.sl 3 t.val) (Ring.bk 48 t.val)).1 $$ Hw0_0_0
  icases Hsp0_0_0 with ⟨Hh0_0_0, Hr0_0_0⟩
  ihave Hsp0_0_1 := (src0_0_split c fh0 (Ring.sl 3 (t.val + 1)) (Ring.bk 48 (t.val + 1))).1 $$ Hw0_0_1
  icases Hsp0_0_1 with ⟨Hh0_0_1, Hr0_0_1⟩
  ihave Hsp0_0_2 := (src0_0_split c fh0 (Ring.sl 3 (t.val + 2)) (Ring.bk 48 (t.val + 2))).1 $$ Hw0_0_2
  icases Hsp0_0_2 with ⟨Hh0_0_2, Hr0_0_2⟩
  obtain rfl := harg3.eq_unread hf0
  sl_exec (disch := first | sl_exact hc0 | sl_exact hc1 | sl_exact hc2 | sl_exact hc3)
  sl_step
  iapply Hk
  isplitl [H0]
  · iexists _; isplitr; · ipureintro; exact harg3.read_unread _
    iexact H0
  isplitl [H2]
  · iexists _; isplitr; swap; · iexact H2
    ipureintro; sl_unfold_run_names
    rw [View.read_writes_full]
    simp only [Slab.readAt_rows arg3 _ x0 (harg3.read_unread _) 0 (by decide), Slab.readAt_rows arg3 _ x0 (harg3.read_unread _) 512 (by decide),
      Slab.readAt_rows arg3 _ x0 (harg3.read_unread _) 1024 (by decide), Slab.readAt_rows arg3 _ x0 (harg3.read_unread _) 1536 (by decide),
      Slab.readAt_rows arg3 _ x0 (harg3.read_unread _) 2048 (by decide), Slab.readAt_rows arg3 _ x0 (harg3.read_unread _) 2560 (by decide),
      Slab.readAt_rows arg3 _ x0 (harg3.read_unread _) 3072 (by decide), Slab.readAt_rows arg3 _ x0 (harg3.read_unread _) 3584 (by decide)]
    exact outFirst_of _ x0 (readAt_ring _ _ _ 0 _ _ (coff0_0_14 t)) (readAt_ring _ _ _ 512 _ _ (coff0_0_15 t))
      (readAt_ring _ _ _ 1024 _ _ (coff0_0_16 t)) (readAt_ring _ _ _ 1536 _ _ (coff0_0_17 t))
      (readAt_ring _ _ _ 2048 _ _ (coff0_0_18 t)) (readAt_ring _ _ _ 2560 _ _ (coff0_0_19 t))
      (readAt_ring _ _ _ 3072 _ _ (coff0_0_20 t)) (readAt_ring _ _ _ 3584 _ _ (coff0_0_21 t))
  isplitl [HS0]
  · iexists _; isplitr; swap; · iexact HS0
    ipureintro; sl_unfold_run_names
    simp only [Slab.readAt_rows arg3 _ x0 (harg3.read_unread _) 0 (by decide), Slab.readAt_rows arg3 _ x0 (harg3.read_unread _) 512 (by decide),
      Slab.readAt_rows arg3 _ x0 (harg3.read_unread _) 1024 (by decide), Slab.readAt_rows arg3 _ x0 (harg3.read_unread _) 1536 (by decide),
      Slab.readAt_rows arg3 _ x0 (harg3.read_unread _) 2048 (by decide), Slab.readAt_rows arg3 _ x0 (harg3.read_unread _) 2560 (by decide),
      Slab.readAt_rows arg3 _ x0 (harg3.read_unread _) 3072 (by decide), Slab.readAt_rows arg3 _ x0 (harg3.read_unread _) 3584 (by decide)]
    exact read_kept arg5 _ x0 _ _ _ _ _ _ _ _
  isplitl [Hc0_0_1 Hr0_0_1]
  · iexists _; isplitl [Hc0_0_1]; · iexact Hc0_0_1
    iexact Hr0_0_1
  isplitl [Hc0_0_2 Hr0_0_2]
  · iexists _; isplitl [Hc0_0_2]; · iexact Hc0_0_2
    iexact Hr0_0_2
  isplitl [Hc0_0_0 Hs0_0_0 Hh0_0_0 Hr0_0_0]
  · isplitl [Hc0_0_0]; · iexact Hc0_0_0
    iexists _; isplitl [Hs0_0_0]; · iexact Hs0_0_0
    iapply (src0_0_split c fh0 (Ring.sl 3 t.val) (Ring.bk 48 t.val)).2; isplitl [Hh0_0_0]; · iexact Hh0_0_0
    iexact Hr0_0_0
  iexists _; iexact HW

set_option maxHeartbeats 1000000 in
/-- A later row block, a transfer still to start. -/
theorem runB (c : Dev nD) (t : Fin cfg0.N) (arg3 : Memref sig .tc .vmem S4096x512 .f32) (harg3 : arg3.IsWhole)
    (arg4 : Memref sig .tc .vmem S1024x512 .f32) (harg4 : arg4.IsWhole) (arg5 : Memref sig .tc .vmem S4096x512 .bf16) (harg5 : arg5.IsWhole)
    (hc0 : ¬cond0_0 (grid0.coords t)) (hc1 : cond0_1 (grid0.coords t)) (hc2 : ¬cond0_2 (grid0.coords t)) (hc3 : cond0_3 (grid0.coords t))
    (x0 : Vec F S4096x512 .f32) (wb : Vec F S4096x512 .bf16) (fh0 : HbBuf0 (F := F) c hbM0_0) (W : Waits sig Unit) (K : PUnit → sProp 𝕄) :
    iprop(owns (c : Thread nD τ) arg3 fullShare x0 ∗ (∃ d, owns (c : Thread nD τ) arg4 fullShare d) ∗ owns (c : Thread nD τ) arg5 fullShare wb
        ∗ Ring.inflight (flightW0_0 c fh0) (Ring.sl 3 t.val) (Ring.bk 48 t.val)
        ∗ Ring.inflight (flightW0_0 c fh0) (Ring.sl 3 (t.val + 1)) (Ring.bk 48 (t.val + 1))
        ∗ Ring.free (cellP0_0 c) (slotW0_0 c fh0) (Ring.sl 3 (t.val + 2)) ∗ owes (c : Thread nD τ) 0 W
        ∗ (iprop(owns (c : Thread nD τ) arg3 fullShare x0
            ∗ owns (c : Thread nD τ) arg4 fullShare (outLater (rowsOf c fh0 (Ring.bk 48 t.val)) wb)
            ∗ owns (c : Thread nD τ) arg5 fullShare wb
            ∗ Ring.inflight (flightW0_0 c fh0) (Ring.sl 3 (t.val + 1)) (Ring.bk 48 (t.val + 1))
            ∗ Ring.inflight (flightW0_0 c fh0) (Ring.sl 3 (t.val + 2)) (Ring.bk 48 (t.val + 2))
            ∗ Ring.free (cellP0_0 c) (slotW0_0 c fh0) (Ring.sl 3 t.val) ∗ (∃ W', owes (c : Thread nD τ) 0 W')) -∗ K ⟨⟩))
      ⊢ wp frame (wpE (defs₀ (F := F)) Variants.none c none) Set.univ
          (cc0_out_proj (grid0.coords t) (Memref.whole main_v0) (Memref.isWhole_whole _) arg3 harg3 arg4 harg4 arg5 harg5
            scM0_1 (Memref.isWhole_whole _) cc0_scratch2) K := by
  haveI : Fact (¬cond0_0 (grid0.coords t)) := ⟨hc0⟩
  haveI : Fact (cond0_1 (grid0.coords t)) := ⟨hc1⟩
  haveI : Fact (¬cond0_2 (grid0.coords t)) := ⟨hc2⟩
  haveI : Fact (cond0_3 (grid0.coords t)) := ⟨hc3⟩
  simp only [cc0_out_proj_eq_skeleton]; unfold cc0_out_proj_skel
  simp only [k0_part3_eq_skeleton]
  simp only [canon0_0_10 t, canon0_0_11 t]
  unfold owns Ring.free Ring.inflight
  iintro ⟨⟨%f0, %hf0, H0⟩, ⟨%d2, %f2, -, H2⟩, ⟨%fs0, %hfs0, HS0⟩, ⟨%ff0_0_0, Hf0_0_0, Hrf0_0_0⟩, ⟨%ff0_0_1, Hf0_0_1, Hrf0_0_1⟩, ⟨Hc0_0_2, ⟨%fs0_0_2, Hs0_0_2, Hw0_0_2⟩⟩, HW, Hk⟩
  ihave Hsp0_0_2 := (src0_0_split c fh0 (Ring.sl 3 (t.val + 2)) (Ring.bk 48 (t.val + 2))).1 $$ Hw0_0_2
  icases Hsp0_0_2 with ⟨Hh0_0_2, Hr0_0_2⟩
  obtain rfl := harg3.eq_unread hf0
  sl_exec (disch := first | sl_exact hc0 | sl_exact hc1 | sl_exact hc2 | sl_exact hc3)
  sl_step
  iapply Hk
  isplitl [H0]
  · iexists _; isplitr; · ipureintro; exact harg3.read_unread _
    iexact H0
  isplitl [H2]
  · iexists _; isplitr; swap; · iexact H2
    ipureintro; sl_unfold_run_names
    rw [View.read_writes_full]
    exact outLater_of _ wb (readAt_ring _ _ _ 0 _ _ (coff0_0_22 t)) (Slab.readAt_all arg5 _ wb hfs0 _)
  isplitl [HS0]
  · iexists _; isplitr; swap; · iexact HS0
    ipureintro; exact hfs0
  isplitl [Hf0_0_1 Hrf0_0_1]
  · iexists ff0_0_1; isplitl [Hf0_0_1]; · iexact Hf0_0_1
    iexact Hrf0_0_1
  isplitl [Hc0_0_2 Hr0_0_2]
  · iexists _; isplitl [Hc0_0_2]; · iexact Hc0_0_2
    iexact Hr0_0_2
  isplitl [Hf0_0_0 Hf0_0_0_dst Hf0_0_0_src Hrf0_0_0]
  · isplitl [Hf0_0_0]; · iexact Hf0_0_0
    iexists _; isplitl [Hf0_0_0_dst]; · iexact Hf0_0_0_dst
    iapply (src0_0_split c fh0 (Ring.sl 3 t.val) (Ring.bk 48 t.val)).2; isplitl [Hf0_0_0_src]; · iexact Hf0_0_0_src
    iexact Hrf0_0_0
  iexists _; iexact HW

set_option maxHeartbeats 1000000 in
/-- The first row block of a later column block. -/
theorem runC (c : Dev nD) (t : Fin cfg0.N) (arg3 : Memref sig .tc .vmem S4096x512 .f32) (harg3 : arg3.IsWhole)
    (arg4 : Memref sig .tc .vmem S1024x512 .f32) (harg4 : arg4.IsWhole) (arg5 : Memref sig .tc .vmem S4096x512 .bf16) (harg5 : arg5.IsWhole)
    (hc0 : ¬cond0_0 (grid0.coords t)) (hc1 : cond0_1 (grid0.coords t)) (hc2 : cond0_2 (grid0.coords t)) (hc3 : ¬cond0_3 (grid0.coords t))
    (x0 : Vec F S4096x512 .f32) (fh0 : HbBuf0 (F := F) c hbM0_0) (W : Waits sig Unit) (K : PUnit → sProp 𝕄) :
    iprop(owns (c : Thread nD τ) arg3 fullShare x0 ∗ (∃ d, owns (c : Thread nD τ) arg4 fullShare d) ∗ (∃ d, owns (c : Thread nD τ) arg5 fullShare d)
        ∗ Ring.inflight (flightW0_0 c fh0) (Ring.sl 3 t.val) (Ring.bk 48 t.val)
        ∗ Ring.inflight (flightW0_0 c fh0) (Ring.sl 3 (t.val + 1)) (Ring.bk 48 (t.val + 1))
        ∗ Ring.free (cellP0_0 c) (slotW0_0 c fh0) (Ring.sl 3 (t.val + 2)) ∗ owes (c : Thread nD τ) 0 W
        ∗ (iprop(owns (c : Thread nD τ) arg3 fullShare x0
            ∗ owns (c : Thread nD τ) arg4 fullShare (outFirst (rowsOf c fh0 (Ring.bk 48 t.val)) x0)
            ∗ owns (c : Thread nD τ) arg5 fullShare (kept x0)
            ∗ Ring.inflight (flightW0_0 c fh0) (Ring.sl 3 (t.val + 1)) (Ring.bk 48 (t.val + 1))
            ∗ Ring.inflight (flightW0_0 c fh0) (Ring.sl 3 (t.val + 2)) (Ring.bk 48 (t.val + 2))
            ∗ Ring.free (cellP0_0 c) (slotW0_0 c fh0) (Ring.sl 3 t.val) ∗ (∃ W', owes (c : Thread nD τ) 0 W')) -∗ K ⟨⟩))
      ⊢ wp frame (wpE (defs₀ (F := F)) Variants.none c none) Set.univ
          (cc0_out_proj (grid0.coords t) (Memref.whole main_v0) (Memref.isWhole_whole _) arg3 harg3 arg4 harg4 arg5 harg5
            scM0_1 (Memref.isWhole_whole _) cc0_scratch2) K := by
  haveI : Fact (¬cond0_0 (grid0.coords t)) := ⟨hc0⟩
  haveI : Fact (cond0_1 (grid0.coords t)) := ⟨hc1⟩
  haveI : Fact (cond0_2 (grid0.coords t)) := ⟨hc2⟩
  haveI : Fact (¬cond0_3 (grid0.coords t)) := ⟨hc3⟩
  simp only [cc0_out_proj_eq_skeleton]; unfold cc0_out_proj_skel
  simp only [k0_part3_eq_skeleton, k0_part1_eq_skeleton, k0_part2_eq_skeleton]
  simp only [canon0_0_10 t, canon0_0_11 t]
  unfold owns Ring.free Ring.inflight
  iintro ⟨⟨%f0, %hf0, H0⟩, ⟨%d2, %f2, -, H2⟩, ⟨%ds0, %fs0, -, HS0⟩, ⟨%ff0_0_0, Hf0_0_0, Hrf0_0_0⟩, ⟨%ff0_0_1, Hf0_0_1, Hrf0_0_1⟩, ⟨Hc0_0_2, ⟨%fs0_0_2, Hs0_0_2, Hw0_0_2⟩⟩, HW, Hk⟩
  ihave Hsp0_0_2 := (src0_0_split c fh0 (Ring.sl 3 (t.val + 2)) (Ring.bk 48 (t.val + 2))).1 $$ Hw0_0_2
  icases Hsp0_0_2 with ⟨Hh0_0_2, Hr0_0_2⟩
  obtain rfl := harg3.eq_unread hf0
  sl_exec (disch := first | sl_exact hc0 | sl_exact hc1 | sl_exact hc2 | sl_exact hc3)
  sl_step
  iapply Hk
  isplitl [H0]
  · iexists _; isplitr; · ipureintro; exact harg3.read_unread _
    iexact H0
  isplitl [H2]
  · iexists _; isplitr; swap; · iexact H2
    ipureintro; sl_unfold_run_names
    rw [View.read_writes_full]
    simp only [Slab.readAt_rows arg3 _ x0 (harg3.read_unread _) 0 (by decide), Slab.readAt_rows arg3 _ x0 (harg3.read_unread _) 512 (by decide),
      Slab.readAt_rows arg3 _ x0 (harg3.read_unread _) 1024 (by decide), Slab.readAt_rows arg3 _ x0 (harg3.read_unread _) 1536 (by decide),
      Slab.readAt_rows arg3 _ x0 (harg3.read_unread _) 2048 (by decide), Slab.readAt_rows arg3 _ x0 (harg3.read_unread _) 2560 (by decide),
      Slab.readAt_rows arg3 _ x0 (harg3.read_unread _) 3072 (by decide), Slab.readAt_rows arg3 _ x0 (harg3.read_unread _) 3584 (by decide)]
    exact outFirst_of _ x0 (readAt_ring _ _ _ 0 _ _ (coff0_0_14 t)) (readAt_ring _ _ _ 512 _ _ (coff0_0_15 t))
      (readAt_ring _ _ _ 1024 _ _ (coff0_0_16 t)) (readAt_ring _ _ _ 1536 _ _ (coff0_0_17 t))
      (readAt_ring _ _ _ 2048 _ _ (coff0_0_18 t)) (readAt_ring _ _ _ 2560 _ _ (coff0_0_19 t))
      (readAt_ring _ _ _ 3072 _ _ (coff0_0_20 t)) (readAt_ring _ _ _ 3584 _ _ (coff0_0_21 t))
  isplitl [HS0]
  · iexists _; isplitr; swap; · iexact HS0
    ipureintro; sl_unfold_run_names
    simp only [Slab.readAt_rows arg3 _ x0 (harg3.read_unread _) 0 (by decide), Slab.readAt_rows arg3 _ x0 (harg3.read_unread _) 512 (by decide),
      Slab.readAt_rows arg3 _ x0 (harg3.read_unread _) 1024 (by decide), Slab.readAt_rows arg3 _ x0 (harg3.read_unread _) 1536 (by decide),
      Slab.readAt_rows arg3 _ x0 (harg3.read_unread _) 2048 (by decide), Slab.readAt_rows arg3 _ x0 (harg3.read_unread _) 2560 (by decide),
      Slab.readAt_rows arg3 _ x0 (harg3.read_unread _) 3072 (by decide), Slab.readAt_rows arg3 _ x0 (harg3.read_unread _) 3584 (by decide)]
    exact read_kept arg5 _ x0 _ _ _ _ _ _ _ _
  isplitl [Hf0_0_1 Hrf0_0_1]
  · iexists ff0_0_1; isplitl [Hf0_0_1]; · iexact Hf0_0_1
    iexact Hrf0_0_1
  isplitl [Hc0_0_2 Hr0_0_2]
  · iexists _; isplitl [Hc0_0_2]; · iexact Hc0_0_2
    iexact Hr0_0_2
  isplitl [Hf0_0_0 Hf0_0_0_dst Hf0_0_0_src Hrf0_0_0]
  · isplitl [Hf0_0_0]; · iexact Hf0_0_0
    iexists _; isplitl [Hf0_0_0_dst]; · iexact Hf0_0_0_dst
    iapply (src0_0_split c fh0 (Ring.sl 3 t.val) (Ring.bk 48 t.val)).2; isplitl [Hf0_0_0_src]; · iexact Hf0_0_0_src
    iexact Hrf0_0_0
  iexists _; iexact HW

set_option maxHeartbeats 1000000 in
/-- The last two steps: no transfer is left to start. -/
theorem runD (c : Dev nD) (t : Fin cfg0.N) (arg3 : Memref sig .tc .vmem S4096x512 .f32) (harg3 : arg3.IsWhole)
    (arg4 : Memref sig .tc .vmem S1024x512 .f32) (harg4 : arg4.IsWhole) (arg5 : Memref sig .tc .vmem S4096x512 .bf16) (harg5 : arg5.IsWhole)
    (hc0 : ¬cond0_0 (grid0.coords t)) (hc1 : ¬cond0_1 (grid0.coords t)) (hc2 : ¬cond0_2 (grid0.coords t)) (hc3 : cond0_3 (grid0.coords t))
    (x0 : Vec F S4096x512 .f32) (wb : Vec F S4096x512 .bf16) (fh0 : HbBuf0 (F := F) c hbM0_0) (W : Waits sig Unit) (K : PUnit → sProp 𝕄) :
    iprop(owns (c : Thread nD τ) arg3 fullShare x0 ∗ (∃ d, owns (c : Thread nD τ) arg4 fullShare d) ∗ owns (c : Thread nD τ) arg5 fullShare wb
        ∗ Ring.inflight (flightW0_0 c fh0) (Ring.sl 3 t.val) (Ring.bk 48 t.val)
        ∗ Ring.slotAt 2 (cellP0_0 c) (slotW0_0 c fh0) (flightW0_0 c fh0) t.val 1
        ∗ Ring.free (cellP0_0 c) (slotW0_0 c fh0) (Ring.sl 3 (t.val + 2)) ∗ owes (c : Thread nD τ) 0 W
        ∗ (iprop(owns (c : Thread nD τ) arg3 fullShare x0
            ∗ owns (c : Thread nD τ) arg4 fullShare (outLater (rowsOf c fh0 (Ring.bk 48 t.val)) wb)
            ∗ owns (c : Thread nD τ) arg5 fullShare wb
            ∗ Ring.slotAt 2 (cellP0_0 c) (slotW0_0 c fh0) (flightW0_0 c fh0) t.val 1
            ∗ Ring.free (cellP0_0 c) (slotW0_0 c fh0) (Ring.sl 3 (t.val + 2))
            ∗ Ring.free (cellP0_0 c) (slotW0_0 c fh0) (Ring.sl 3 t.val) ∗ (∃ W', owes (c : Thread nD τ) 0 W')) -∗ K ⟨⟩))
      ⊢ wp frame (wpE (defs₀ (F := F)) Variants.none c none) Set.univ
          (cc0_out_proj (grid0.coords t) (Memref.whole main_v0) (Memref.isWhole_whole _) arg3 harg3 arg4 harg4 arg5 harg5
            scM0_1 (Memref.isWhole_whole _) cc0_scratch2) K := by
  haveI : Fact (¬cond0_0 (grid0.coords t)) := ⟨hc0⟩
  haveI : Fact (¬cond0_1 (grid0.coords t)) := ⟨hc1⟩
  haveI : Fact (¬cond0_2 (grid0.coords t)) := ⟨hc2⟩
  haveI : Fact (cond0_3 (grid0.coords t)) := ⟨hc3⟩
  simp only [cc0_out_proj_eq_skeleton]; unfold cc0_out_proj_skel
  simp only [k0_part3_eq_skeleton]
  simp only [canon0_0_10 t, canon0_0_11 t]
  unfold owns Ring.free Ring.inflight
  iintro ⟨⟨%f0, %hf0, H0⟩, ⟨%d2, %f2, -, H2⟩, ⟨%fs0, %hfs0, HS0⟩, ⟨%ff0_0_0, Hf0_0_0, Hrf0_0_0⟩, Hro0_0_1, ⟨Hc0_0_2, ⟨%fs0_0_2, Hs0_0_2, Hw0_0_2⟩⟩, HW, Hk⟩
  obtain rfl := harg3.eq_unread hf0
  sl_exec (disch := first | sl_exact hc0 | sl_exact hc1 | sl_exact hc2 | sl_exact hc3)
  sl_step
  iapply Hk
  isplitl [H0]
  · iexists _; isplitr; · ipureintro; exact harg3.read_unread _
    iexact H0
  isplitl [H2]
  · iexists _; isplitr; swap; · iexact H2
    ipureintro; sl_unfold_run_names
    rw [View.read_writes_full]
    exact outLater_of _ wb (readAt_ring _ _ _ 0 _ _ (coff0_0_22 t)) (Slab.readAt_all arg5 _ wb hfs0 _)
  isplitl [HS0]
  · iexists _; isplitr; swap; · iexact HS0
    ipureintro; exact hfs0
  isplitl [Hro0_0_1]; · iexact Hro0_0_1
  isplitl [Hc0_0_2 Hs0_0_2 Hw0_0_2]
  · isplitl [Hc0_0_2]; · iexact Hc0_0_2
    iexists _; isplitl [Hs0_0_2]; · iexact Hs0_0_2
    iexact Hw0_0_2
  isplitl [Hf0_0_0 Hf0_0_0_dst Hf0_0_0_src Hrf0_0_0]
  · isplitl [Hf0_0_0]; · iexact Hf0_0_0
    iexists _; isplitl [Hf0_0_0_dst]; · iexact Hf0_0_0_dst
    iapply (src0_0_split c fh0 (Ring.sl 3 t.val) (Ring.bk 48 t.val)).2; isplitl [Hf0_0_0_src]; · iexact Hf0_0_0_src
    iexact Hrf0_0_0
  iexists _; iexact HW

end Cert.Kernel5Ideal.Out

end
-- ==== Proof.OutFrame.lean ====
module

public import proofs.«01_k».proof.Proof.OutRun

/-! The output projection's kernel over its whole grid: the scratch is tracked from point to point, so that the run ends with the result
array named. -/

@[expose] public section

set_option maxRecDepth 4096

noncomputable section

namespace Cert.Kernel5Ideal.Out

open Cert.Kernel5Ideal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- Columns `512 j …` of the weights: the window of column block `j`. -/
def wwin (c : Dev nD) (j : Fin 8) : Vec F S4096x512 .f32 :=
  fun y => (V m c main_v1 : Vec F S4096x4096 .f32) (ValueIdx.ix2 (y 0) ⟨512 * j.val + (y 1).val, by
    have : (y 1).val < 512 := (y 1).isLt
    omega⟩)

/-- The column block of a grid point. -/
def colOf (t : ℕ) : Fin 8 := ⟨t / 6 % 8, Nat.mod_lt _ (by decide)⟩

theorem index_0 : ∀ t : Fin grid0.N, win0_0.index t = ![0, t.val / 6 % 8] := by decide +kernel

/-- The weight window's block at a point. -/
theorem iblk0_eq (c : Dev nD) (t : Fin cfg0.N) : iblk m c 0 t = wwin m c (colOf t.val) := by
  funext y
  blk_simp [iblk]
  refine congrArg (V m c main_v1 : Vec F S4096x4096 .f32) ?_
  blk_ext [index_0 t]
  show t.val / 6 % 8 * 512 + (y 1).val = 512 * (t.val / 6 % 8) + (y 1).val
  omega

/-- The scratch before point `k`: anything at a column block's start, else that block's kept weights. -/
def keptAt (c : Dev nD) (k : ℕ) : sProp 𝕄 :=
  if k % 6 = 0 then iprop(∃ d, owns (c : Thread nD τ) scM0_0 fullShare d)
  else owns (c : Thread nD τ) scM0_0 fullShare (kept (wwin m c (colOf k)))

theorem keptAt_next (c : Dev nD) (k : ℕ) :
    owns (c : Thread nD τ) scM0_0 fullShare (kept (wwin m c (colOf k))) ⊢ (keptAt m c (k + 1) : sProp 𝕄) := by
  unfold keptAt
  by_cases h : (k + 1) % 6 = 0
  · rw [if_pos h]; iintro H; iexists _; iexact H
  · rw [if_neg h, show colOf (k + 1) = colOf k from Fin.ext (by show (k + 1) / 6 % 8 = k / 6 % 8; omega)]

/-- The same at a column block's first point, where the kept weights come from the window. -/
theorem keptAt_first (c : Dev nD) (t : Fin cfg0.N) :
    owns (c : Thread nD τ) scM0_0 fullShare (kept (iblk m c 0 t)) ⊢ (keptAt m c (t.val + 1) : sProp 𝕄) := by
  rw [iblk0_eq]; exact keptAt_next m c t.val

/-- What the body leaves in the result's window at a point. -/
def outAt (c : Dev nD) (t : Fin cfg0.N) : Vec F S1024x512 .f32 :=
  if t.val % 6 = 0 then outFirst (rowsOf c (V m c main_v0) (Ring.bk 48 t.val)) (iblk m c 0 t)
  else outLater (rowsOf c (V m c main_v0) (Ring.bk 48 t.val)) (kept (wwin m c (colOf t.val)))

/-- The region's invariant before point `k`. -/
def Phi (c : Dev nD) (k : ℕ) : sProp 𝕄 := iprop(keptAt m c k ∗ (∃ r, prngReg c r) ∗ ringAt0_0 c (V m c main_v0) k)

/-- The proof data: the inputs' buffers at their blocks, the result's at `outAt`. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => outAt m c t
  Φ t := Phi m c t.val
  q _ := fullShare
  owed _ := 0

theorem A_eq (c : Dev nD) (w : Fin cfg0.W) : (dats m 0 c).A w = V m c (Pipeline.arrRef spec0 w) := by
  dsimp only [dats]
theorem Phi_castSucc (c : Dev nD) (t : Fin cfg0.N) : (dats m 0 c).Φ t.castSucc = Phi m c t.val := by
  dsimp only [dats]; simp only [Fin.coe_castSucc]
theorem Phi_succ (c : Dev nD) (t : Fin cfg0.N) : (dats m 0 c).Φ t.succ = Phi m c (t.val + 1) := by
  dsimp only [dats]; simp only [Fin.val_succ]
theorem after_0 (c : Dev nD) (t : Fin cfg0.N) : (dats m 0 c).after 0 t = iblk m c 0 t := by dsimp only [dats]
theorem after_1 (c : Dev nD) (t : Fin cfg0.N) : (dats m 0 c).after 1 t = outAt m c t := by dsimp only [dats]
theorem before_0 (c : Dev nD) (t : Fin cfg0.N) (d) : (dats m 0 c).before 0 t d = iblk m c 0 t :=
  before0_0_of m (dats m 0 c) (A_eq m c 0) (after_0 m c) t d
/-- The body writes the result's window at every point. -/
theorem live_1 : ∀ t : Fin cfg0.N, cfg0.idle 1 (grid0.coords t) = false :=
  (by decide +kernel : ∀ t : Fin grid0.N, cfg0.idle 1 (grid0.coords t) = false)

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d)))
/-- and what it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t)

set_option maxHeartbeats 1600000 in
/-- The body at any point, from its four cases. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0]
  rw [Phi_castSucc m c t, Phi_succ m c t]
  unfold Dat.owesAt Pipeline.owesWithin
  rw [show (dats m 0 c).owed t.castSucc = 0 from rfl, show (dats m 0 c).owed t.succ = 0 from rfl]
  rw [show (dats m 0 c).leavesExact 0 t = owns (c : Thread nD τ) (ms0_0 t) fullShare ((dats m 0 c).after 0 t) from by
    unfold Dat.leavesExact; rw [liveAt0_0 t], after_0]
  rw [show (dats m 0 c).leavesExact 1 t = owns (c : Thread nD τ) (ms0_1 t) fullShare ((dats m 0 c).after 1 t) from by
    unfold Dat.leavesExact; rw [live_1 t], after_1]
  unfold Phi ringAt0_0
  have hN : t.val < 48 := lt_of_lt_of_eq t.isLt (show cfg0.N = 48 from N_0)
  by_cases h6 : t.val % 6 = 0
  · have c2 := (hcond0_2 t).mpr h6
    have c3 : ¬cond0_3 (grid0.coords t) := fun h => by have := (hcond0_3 t).mp h; omega
    have c1 := (hcond0_1 t).mpr (by omega)
    rw [show outAt m c t = outFirst (rowsOf c (V m c main_v0) (Ring.bk 48 t.val)) (iblk m c 0 t) from if_pos h6]
    by_cases h0 : t.val % 48 = 0
    · have c0 := (hcond0_0 t).mpr h0
      have hr := rstep0_0_A t c0 c1 c2 c3
      obtain ⟨hK0, hK1⟩ := hr
      rw [if_pos hK0, if_neg (show ¬t.val + 1 = 0 by omega)]
      rw [Ring.At₀_eq3' _ _ _ t.val hK0 (by decide : 3 ≤ 48), Ring.At3_one' _ _ _ _ t.val hK0 (by decide : 3 ≤ 48)]
      rw [keptAt, if_pos h6]
      iintro ⟨⟨HK, Hg, ⟨-, Hra, Hrb, Hrc⟩⟩, ⟨%W, -, HW⟩, ⟨%d0, H0⟩, ⟨%d2, H2⟩⟩
      iapply (runA c t _ _ _ _ _ _ c0 c1 c2 c3 (iblk m c 0 t) (V m c main_v0) W _)
      isplitl [H0]; · iexact H0
      isplitl [H2]; · iexists _; iexact H2
      isplitl [HK]; · iexact HK
      isplitl [Hra]; · iexact Hra
      isplitl [Hrb]; · iexact Hrb
      isplitl [Hrc]; · iexact Hrc
      isplitl [HW]; · iexact HW
      iintro ⟨H0, H2, HK, Hra, Hrb, Hrc, ⟨%W', HW'⟩⟩
      isplitl [HK Hg Hra Hrb Hrc]
      · isplitl [HK]; · iapply keptAt_first m c t; iexact HK
        isplitl [Hg]; · iexact Hg
        iapply (Ring.with_homes (Idealize.SL.BI.Entails.refl _))
        isplitl [Hra]; · iexact Hra
        isplitl [Hrb]; · iexact Hrb
        iexact Hrc
      isplitl [HW']
      · iexists W'; isplitr; · ipureintro; exact fun _ _ => Or.inl trivial
        iexact HW'
      isplitl [H0]; · iexact H0
      iexact H2
    · have c0 : ¬cond0_0 (grid0.coords t) := fun h => h0 ((hcond0_0 t).mp h)
      have hr := rstep0_0_C t c0 c1 c2 c3
      obtain ⟨hK1, hKB, -⟩ := hr
      rw [if_neg (show ¬t.val = 0 by omega), if_neg (show ¬t.val + 1 = 0 by omega)]
      rw [Ring.At3_here _ _ _ _ t.val hKB, Ring.At3_next _ _ _ _ t.val hKB, Ring.slotAt3_next0 _ _ _ t.val (by omega),
        Ring.slotAt3_next1 _ _ _ t.val hKB]
      rw [keptAt, if_pos h6]
      iintro ⟨⟨HK, Hg, ⟨-, Hra, Hrb, Hrc⟩⟩, ⟨%W, -, HW⟩, ⟨%d0, H0⟩, ⟨%d2, H2⟩⟩
      iapply (runC c t _ _ _ _ _ _ c0 c1 c2 c3 (iblk m c 0 t) (V m c main_v0) W _)
      isplitl [H0]; · iexact H0
      isplitl [H2]; · iexists _; iexact H2
      isplitl [HK]; · iexact HK
      isplitl [Hra]; · iexact Hra
      isplitl [Hrb]; · iexact Hrb
      isplitl [Hrc]; · iexact Hrc
      isplitl [HW]; · iexact HW
      iintro ⟨H0, H2, HK, Hra, Hrb, Hrc, ⟨%W', HW'⟩⟩
      isplitl [HK Hg Hra Hrb Hrc]
      · isplitl [HK]; · iapply keptAt_first m c t; iexact HK
        isplitl [Hg]; · iexact Hg
        iapply (Ring.with_homes (Idealize.SL.BI.Entails.refl _))
        isplitl [Hra]; · iexact Hra
        isplitl [Hrb]; · iexact Hrb
        iexact Hrc
      isplitl [HW']
      · iexists W'; isplitr; · ipureintro; exact fun _ _ => Or.inl trivial
        iexact HW'
      isplitl [H0]; · iexact H0
      iexact H2
  · have c2 : ¬cond0_2 (grid0.coords t) := fun h => h6 ((hcond0_2 t).mp h)
    have c3 := (hcond0_3 t).mpr (by omega)
    have c0 : ¬cond0_0 (grid0.coords t) := fun h => by have := (hcond0_0 t).mp h; omega
    rw [show outAt m c t = outLater (rowsOf c (V m c main_v0) (Ring.bk 48 t.val)) (kept (wwin m c (colOf t.val)))
      from if_neg h6]
    by_cases h1 : t.val < 46
    · have c1 := (hcond0_1 t).mpr h1
      have hr := rstep0_0_B t c0 c1 c2 c3
      obtain ⟨hK1, hKB, -⟩ := hr
      rw [if_neg (show ¬t.val = 0 by omega), if_neg (show ¬t.val + 1 = 0 by omega)]
      rw [Ring.At3_here _ _ _ _ t.val hKB, Ring.At3_next _ _ _ _ t.val hKB, Ring.slotAt3_next0 _ _ _ t.val (by omega),
        Ring.slotAt3_next1 _ _ _ t.val hKB]
      rw [keptAt, if_neg h6]
      iintro ⟨⟨HK, Hg, ⟨-, Hra, Hrb, Hrc⟩⟩, ⟨%W, -, HW⟩, ⟨%d0, H0⟩, ⟨%d2, H2⟩⟩
      iapply (runB c t _ _ _ _ _ _ c0 c1 c2 c3 (iblk m c 0 t) (kept (wwin m c (colOf t.val))) (V m c main_v0) W _)
      isplitl [H0]; · iexact H0
      isplitl [H2]; · iexists _; iexact H2
      isplitl [HK]; · iexact HK
      isplitl [Hra]; · iexact Hra
      isplitl [Hrb]; · iexact Hrb
      isplitl [Hrc]; · iexact Hrc
      isplitl [HW]; · iexact HW
      iintro ⟨H0, H2, HK, Hra, Hrb, Hrc, ⟨%W', HW'⟩⟩
      isplitl [HK Hg Hra Hrb Hrc]
      · isplitl [HK]; · iapply keptAt_next m c t.val; iexact HK
        isplitl [Hg]; · iexact Hg
        iapply (Ring.with_homes (Idealize.SL.BI.Entails.refl _))
        isplitl [Hra]; · iexact Hra
        isplitl [Hrb]; · iexact Hrb
        iexact Hrc
      isplitl [HW']
      · iexists W'; isplitr; · ipureintro; exact fun _ _ => Or.inl trivial
        iexact HW'
      isplitl [H0]; · iexact H0
      iexact H2
    · have c1 : ¬cond0_1 (grid0.coords t) := fun h => h1 ((hcond0_1 t).mp h)
      have hr := rstep0_0_D t c0 c1 c2 c3
      obtain ⟨hK1, hKB, hKlt, -⟩ := hr
      rw [if_neg (show ¬t.val = 0 by omega), if_neg (show ¬t.val + 1 = 0 by omega)]
      rw [Ring.At3_here_tail _ _ _ _ t.val hKlt, Ring.At3_next_tail _ _ _ _ t.val hKB hKlt, Ring.slotAt3_tail_role _ _ _ t.val]
      rw [keptAt, if_neg h6]
      iintro ⟨⟨HK, Hg, ⟨-, Hra, Hrb, Hrc⟩⟩, ⟨%W, -, HW⟩, ⟨%d0, H0⟩, ⟨%d2, H2⟩⟩
      iapply (runD c t _ _ _ _ _ _ c0 c1 c2 c3 (iblk m c 0 t) (kept (wwin m c (colOf t.val))) (V m c main_v0) W _)
      isplitl [H0]; · iexact H0
      isplitl [H2]; · iexists _; iexact H2
      isplitl [HK]; · iexact HK
      isplitl [Hra]; · iexact Hra
      isplitl [Hrb]; · iexact Hrb
      isplitl [Hrc]; · iexact Hrc
      isplitl [HW]; · iexact HW
      iintro ⟨H0, H2, HK, Hra, Hrb, Hrc, ⟨%W', HW'⟩⟩
      isplitl [HK Hg Hra Hrb Hrc]
      · isplitl [HK]; · iapply keptAt_next m c t.val; iexact HK
        isplitl [Hg]; · iexact Hg
        iapply (Ring.with_homes (Idealize.SL.BI.Entails.refl _))
        isplitl [Hra]; · iexact Hra
        isplitl [Hrb]; · iexact Hrb
        iexact Hrc
      isplitl [HW']
      · iexists W'; isplitr; · ipureintro; exact fun _ _ => Or.inl trivial
        iexact HW'
      isplitl [H0]; · iexact H0
      iexact H2

theorem defs₀_row (t : Fin cfg0.N) :
    defs₀ (F := F) .tc cfg0.body (cfg0.bodyArgs t (cfg0.slots t)) = bodyAt0 t := by
  unfold defs₀; rw [Defs.onTc_tc]

/-- The pipeline's obligation on the body. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region is the invariant before the first point. -/
theorem hin (c : Dev nD) : Pipeline.ΦD osem0 spec0 H0 (V m) c ⊢ (dats m 0 c).Φ 0 := by
  rw [PhiD0_eq, show (dats m 0 c).Φ 0 = Phi m c 0 from rfl]
  unfold Phi
  rw [show (keptAt m c 0 : sProp 𝕄) = iprop(∃ d, owns (c : Thread nD τ) scM0_0 fullShare d) from if_pos rfl]
  iintro ⟨⟨HS0, HR0_0⟩, Hg, ⟨Hq0, Hq1, Hq2⟩, Hh0⟩
  isplitl [HS0]; · iexact HS0
  isplitl [Hg]; · iexact Hg
  iapply (ring0_0_in (F := F) m c)
  isplitl [HR0_0]; · iexact HR0_0
  isplitl [Hq0 Hq1 Hq2]
  · isplitl [Hq0]; · iexact Hq0
    isplitl [Hq1]; · iexact Hq1
    iexact Hq2
  iexact Hh0

/-- And the invariant after the last point hands it back. -/
theorem hout (c : Dev nD) : (dats m 0 c).Φ (Fin.last cfg0.N) ⊢ Pipeline.ΦD osem0 spec0 H0 (V m) c := by
  rw [PhiD0_eq, show (dats m 0 c).Φ (Fin.last cfg0.N) = Phi m c grid0.N from rfl]
  unfold Phi
  rw [show grid0.N = 48 by rw [N_0]]
  rw [show (keptAt m c 48 : sProp 𝕄) = iprop(∃ d, owns (c : Thread nD τ) scM0_0 fullShare d) from if_pos rfl]
  iintro ⟨HS0, Hg, HR0_0⟩
  ihave HX0_0 := (ring0_0_out (F := F) m c) $$ HR0_0
  icases HX0_0 with ⟨HR0_0, ⟨Hq0, Hq1, Hq2⟩, Hh0⟩
  isplitl [HS0 HR0_0]
  · isplitl [HS0]; · iexact HS0
    iexact HR0_0
  isplitl [Hg]
  · iexact Hg
  isplitl [Hq0 Hq1 Hq2]
  · isplitl [Hq0]; · iexact Hq0
    isplitl [Hq1]; · iexact Hq1
    iexact Hq2
  iexact Hh0

set_option backward.isDefEq.respectTransparency.types false in
/-- The run: the arrays end at what the proof data says, and every semaphore at zero. -/
theorem run_main : θ_run defs (onTc (τ := τ) (main (F := F))) (s₀ m ρ)
    (fun r => Pipeline.FramePost cfgs (dats m) 0 (V m) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmain m Variants.none) (hA := A_eq m) (hin := hin m) (hout := hout m)

end Cert.Kernel5Ideal.Out

end
-- ==== Proof.OutValue.lean ====
module

public import proofs.«01_k».proof.Proof.OutFrame
public import proofs.«01_k».proof.Proof.Dense
public import Idealize.ShloMosaic.Lib.ValueLayout

/-! The output projection as one function of the two arguments, and that the kernel's result array is that function. -/

@[expose] public section

set_option maxRecDepth 4096

noncomputable section

namespace Cert.Kernel5Ideal.Out

open Cert.Kernel5Ideal.Gen
open Idealize.ShloMosaic Idealize.ShloMosaic.TcCoe Idealize.ShloMosaic.Tactic Idealize.ShloMosaic.ValueIdx
open Idealize.SL.Sem
open Idealize.ShloMosaic.Pipeline (Dat)

/-- A later row block stores the product. -/
theorem outLater_apply (X : Vec Ideal S1024x4096 .bf16) (wb : Vec Ideal S4096x512 .bf16) (r : Fin 1024) (c : Fin 512) :
    outLater X wb (ValueIdx.ix2 r c) = ∑ k : Fin 4096, (X (ValueIdx.ix2 r k) : EReal) * wb (ValueIdx.ix2 k c) := by
  refine (Dense.slab_product 0 (by decide) X _ _ r c).trans (Finset.sum_congr rfl fun j _ => ?_)
  exact congrArg (fun i => (X (ValueIdx.ix2 r i) : EReal) * _) (Fin.ext (Nat.zero_add _))

/-- The first row block stores the product. -/
theorem outFirst_apply (X : Vec Ideal S1024x4096 .bf16) (x0 : Vec Ideal S4096x512 .f32) (r : Fin 1024) (c : Fin 512) :
    outFirst X x0 (ValueIdx.ix2 r c) = ∑ k : Fin 4096, (X (ValueIdx.ix2 r k) : EReal) * x0 (ValueIdx.ix2 k c) := by
  rw [Dense.sum_eight]
  have h := fun k hk => Dense.rows_product k hk X shapeCasts_S1x1024x512_S1024x512 x0 shapeCasts_S512x512_S512x512 bitsLt_bf16_f32 r c
  refine congrArg₂ (fun a b : EReal => a + b) ?_ (h 3584 (by decide))
  refine congrArg₂ (fun a b : EReal => a + b) ?_ (h 3072 (by decide))
  refine congrArg₂ (fun a b : EReal => a + b) ?_ (h 2560 (by decide))
  refine congrArg₂ (fun a b : EReal => a + b) ?_ (h 2048 (by decide))
  refine congrArg₂ (fun a b : EReal => a + b) ?_ (h 1536 (by decide))
  refine congrArg₂ (fun a b : EReal => a + b) ?_ (h 1024 (by decide))
  exact congrArg₂ (fun a b : EReal => a + b) (h 0 (by decide)) (h 512 (by decide))

/-- The output projection: at a position, the product of its row and its column of the weights. -/
def proj (x : Vec Ideal S6144x4096 .f32) (w : Vec Ideal S1x4096x4096 .f32) (r : Fin 6144) (j : Fin 4096) : EReal :=
  ∑ k : Fin 4096, x (ValueIdx.ix2 r k) * w (ValueIdx.ix3 0 k j)

variable (m : (ℓ : Loc nD τ sig) → Buf (Elt Ideal) ℓ) (ρ : Dev nD → PrngReg)

/-- The two arguments on a device. -/
abbrev argX (c : Dev nD) : Vec Ideal S6144x4096 .f32 := m ((c : Thread nD τ).loc main_arg0)
abbrev argW (c : Dev nD) : Vec Ideal S1x4096x4096 .f32 := m ((c : Thread nD τ).loc main_arg1)

/-- The weights, as the region finds them. -/
theorem V_main_v1 (c : Dev nD) (k : Fin 4096) (j : Fin 4096) :
    (V m c main_v1 : Vec Ideal S4096x4096 .f32) (ValueIdx.ix2 k j) = argW m c (ValueIdx.ix3 0 k j) := by
  have e : (V m c main_v1 : Vec Ideal S4096x4096 .f32) = shapeCast _ (argW m c) shapeCasts_S1x4096x4096_S4096x4096 := by
    unfold V hostOps0; after_results <;> rfl
  rw [e]
  exact shapeCast_1ab_ab_apply _ _ k j

/-- The rows, as the region finds them: a change of format is no change here. -/
theorem V_main_v0 (c : Dev nD) : (V m c main_v0 : Vec Ideal S6144x4096 .bf16) = argX m c := by
  have e : (V m c main_v0 : Vec Ideal S6144x4096 .bf16)
      = (truncf .bf16 (argX m c : FVec Ideal S6144x4096 .f32) bitsLt_bf16_f32 : FVec Ideal S6144x4096 .bf16) := by
    unfold V hostOps0; after_results <;> rfl
  rw [e]; rfl

/-- The slab of a point, at a position. -/
theorem rowsOf_apply (c : Dev nD) (t : Fin 48) (r : Fin 1024) (k : Fin 4096) :
    rowsOf c (V m c main_v0) t (ValueIdx.ix2 r k) = argX m c (ValueIdx.ix2 ⟨1024 * (t.val % 6) + r.val, by omega⟩ k) := by
  rw [← V_main_v0]
  refine congrArg (V m c main_v0 : Vec Ideal S6144x4096 .bf16) (funext fun a => Fin.ext ?_)
  refine (ValueKit.view_emb_slice_whole_unit_val main_v0 _ _ _ _ a).trans ?_
  match a with
  | ⟨0, _⟩ => rfl
  | ⟨1, _⟩ => exact Nat.zero_add _

theorem index_1 : ∀ t : Fin grid0.N, win0_1.index t = ![t.val % 6, t.val / 6 % 8] := by decide +kernel

/-- What a point leaves in the result's window, at a position. -/
theorem outAt_apply (c : Dev nD) (t : Fin cfg0.N) (r : Fin 1024) (j : Fin 512) :
    outAt m c t (ValueIdx.ix2 r j)
      = proj (argX m c) (argW m c) ⟨1024 * (t.val % 6) + r.val, by omega⟩ ⟨512 * (t.val / 6 % 8) + j.val, by omega⟩ := by
  have hb : (Ring.bk 48 t.val).val = t.val := Ring.bk_val (t.isLt.trans_eq N_0)
  have hX : ∀ k, rowsOf c (V m c main_v0) (Ring.bk 48 t.val) (ValueIdx.ix2 r k)
      = argX m c (ValueIdx.ix2 ⟨1024 * (t.val % 6) + r.val, by omega⟩ k) := fun k => by
    rw [rowsOf_apply]
    refine congrArg (argX m c) (congrArg (fun a => ValueIdx.ix2 a k) (Fin.ext ?_))
    show 1024 * ((Ring.bk 48 t.val).val % 6) + r.val = _
    rw [hb]
  have hW : ∀ k, wwin m c (colOf t.val) (ValueIdx.ix2 k j)
      = argW m c (ValueIdx.ix3 0 k ⟨512 * (t.val / 6 % 8) + j.val, by omega⟩) := fun k => V_main_v1 m c _ _
  unfold outAt proj
  split
  · rw [outFirst_apply, iblk0_eq]
    simp only [hX, hW]
  · rw [outLater_apply]
    have hK : ∀ k, kept (wwin m c (colOf t.val)) (ValueIdx.ix2 k j) = wwin m c (colOf t.val) (ValueIdx.ix2 k j) := fun k => rfl
    simp only [hX, hK, hW]

/-- The result array after the run. -/
theorem result (c : Dev nD) :
    (dats m 0 c).arrAt 1 cfg0.N = (fun i => proj (argX m c) (argW m c) (i 0) (i 1) : Vec Ideal S6144x4096 .f32) := by
  refine (dats m 0 c).arrAt_eq_of_covers 1 _ (by decide +kernel) fun t hf y => ?_
  blk_simp
  rw [after_1]
  refine (congrArg (outAt m c t) (ValueIdx.eq_ix2 y)).trans ((outAt_apply m c t (y 0) (y 1)).trans ?_)
  refine congrArg₂ (proj (argX m c) (argW m c)) (Fin.ext ?_) (Fin.ext ?_)
  · blk_simp [index_1 t]; exact congrArg (· + _) (Nat.mul_comm _ _)
  · blk_simp [index_1 t]; exact congrArg (· + _) (Nat.mul_comm _ _)

end Cert.Kernel5Ideal.Out

end
-- ==== Proof.OutClaims.lean ====
module

public import proofs.«01_k».proof.Defs
public import proofs.«01_k».proof.Proof.Gen.Kernel5
public import proofs.«01_k».proof.Proof.OutValue
public import proofs.«01_k».proof.Proof.Gen.Reference5Ideal.Run
public import Idealize.ShloMosaic.Lib.StackMember
public import Idealize.ShloMosaic.Lib.Quiescent

/-! The reference of the output projection read at a position, and the five claims. -/

@[expose] public section

set_option maxRecDepth 4096

noncomputable section

namespace Cert.Reference5Ideal.Out

open Cert.Reference5Ideal Cert.Reference5Ideal.Gen
open Idealize.ShloMosaic Idealize.ShloMosaic.TcCoe Idealize.ShloMosaic.ValueIdx Idealize.SL.Sem

variable (m : (ℓ : Loc nD τ sig) → Buf (Elt Ideal) ℓ) (ρ : Dev nD → PrngReg)

/-- The reference's run: its result is the output projection of its arguments, which it leaves unchanged. -/
theorem run : θ_run defs (onTc (τ := τ) (main (F := Ideal))) ⟨m, fun _ => 0, ρ⟩ fun r => ∀ c : Dev nD,
    r.2.mem ((c.tc : Thread nD τ).loc main_v1)
      = (fun i => Cert.Kernel5Ideal.Out.proj (m ((c.tc : Thread nD τ).loc main_arg0)) (m ((c.tc : Thread nD τ).loc main_arg1))
          (i 0) (i 1) : FVec Ideal S6144x4096 .f32)
    ∧ r.2.mem ((c.tc : Thread nD τ).loc main_arg0) = m ((c.tc : Thread nD τ).loc main_arg0)
    ∧ r.2.mem ((c.tc : Thread nD τ).loc main_arg1) = m ((c.tc : Thread nD τ).loc main_arg1) := by
  refine (θ_run defs _ _).mono (fun _ h c => ⟨(h c).1.trans (funext fun i => ?_), (h c).2⟩) (Value.run m ρ)
  exact Dense.host_product _ _ _ i

end Cert.Reference5Ideal.Out

namespace Cert.Kernel5Ideal.Out

open Cert.Kernel5Ideal.Gen
open Idealize.ShloMosaic Idealize.ShloMosaic.TcCoe Idealize.SL.Sem

variable {F : FTy → Type} [FloatOps F]

/-- The run leaves the two arguments as launched, and every counter at zero. -/
theorem run_args (m : (ℓ : Loc nD τ sig) → Buf (Elt F) ℓ) (ρ : Dev nD → PrngReg) :
    θ_run defs (onTc (τ := τ) (main (F := F))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0 :=
  (θ_run defs _ _).mono (fun _ h => ⟨fun c =>
      ⟨((h.1 c).2 main_arg0 (Pipeline.mem_restRefs_of main_arg0 (by decide) (by decide))).trans (V_main_arg0 m c),
       ((h.1 c).2 main_arg1 (Pipeline.mem_restRefs_of main_arg1 (by decide) (by decide))).trans (V_main_arg1 m c)⟩, h.2⟩)
    (run_main m ρ)

/-- The kernel as printed has the same table of bodies and the same program text. -/
theorem defs₀_eq : Cert.Kernel5Ideal.defs₀ (F := F) = Cert.Kernel5.defs₀ (F := F) :=
  congrArg Defs.onTc (funext fun l => funext fun a => by
    match l, a with
    | 0, (t, s) => rfl)

theorem frame_ideal : Cert.quiescent_Kernel5Ideal := fun m ρ _ => run_args m ρ

theorem frame_kernel : Cert.quiescent_Kernel5 := fun m ρ _ => by
  have h := run_args (F := Bits) m ρ
  unfold Cert.Kernel5Ideal.defs at h
  rw [defs₀_eq] at h
  exact h

theorem frame_reference : Cert.quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)

/-- At the ideal values the kernel's result is the reference's. -/
theorem algebraic : Cert.algebraic_Kernel5Ideal_Reference5Ideal := fun m ρ m' ρ' _ hag =>
  ⟨fun c => (fun i => proj (argX m c) (argW m c) (i 0) (i 1) : Vec Ideal S6144x4096 .f32),
   (θ_run defs _ _).mono (fun _ h c => ⟨((h.1.1 c).1 1).trans (result m c), h.2.1 c⟩)
     (θ_run_and (run_main m ρ) (run_args m ρ)),
   (θ_run Cert.Reference5Ideal.defs _ _).mono (fun _ h c => ⟨(h c).1.trans (by rw [(hag c).1, (hag c).2]), (h c).2⟩)
     (Cert.Reference5Ideal.Out.run m' ρ')⟩

end Cert.Kernel5Ideal.Out

end
-- ==== Proof.MergeValue.lean ====
module

public import proofs.«01_k».proof.Proof.Gen.Kernel6Ideal.Frame
public import proofs.«01_k».proof.Proof.Dense
public import Idealize.ShloMosaic.Lib.Pipeline.ValueKit
public import Idealize.ShloMosaic.Lib.Pipeline.ReadBack
public import Idealize.ShloMosaic.Lib.ValueLayout
public import Idealize.ShloMosaic.Lib.Pointwise

/-! The merge of the two branches as one function of its arguments, and that the kernel's result array is that function. -/

@[expose] public section

set_option maxRecDepth 16384

noncomputable section

namespace Cert.Kernel6Ideal.Merge

open Cert.Kernel6Ideal.Gen
open Idealize.ShloMosaic Idealize.ShloMosaic.TcCoe Idealize.ShloMosaic.Tactic Idealize.ShloMosaic.ValueIdx
open Idealize.SL.Sem
open Idealize.ShloMosaic.Pipeline (Dat)

/-- Two rows times two columns, each product weighed by its gate, added. -/
def blend (x w y u : Fin 2048 → EReal) (p q : EReal) : EReal := p * ∑ k, x k * w k + q * ∑ k, y k * u k

theorem sum_four {M : Type*} [AddCommMonoid M] (f : Fin 2048 → M) :
    ∑ k, f k = (((∑ k : Fin 512, f ⟨0 + k.val, by omega⟩) + ∑ k : Fin 512, f ⟨512 + k.val, by omega⟩)
      + ∑ k : Fin 512, f ⟨1024 + k.val, by omega⟩) + ∑ k : Fin 512, f ⟨1536 + k.val, by omega⟩ := by
  rw [Fin.sum_univ_tiles 4 512 rfl f, Fin.sum_univ_four]
  rfl

/-- A block's product with the kept weights, at a position. -/
theorem whole_product (X : Vec Ideal S512x2048 .bf16) (W : Vec Ideal S2048x1024 .bf16) (r : Fin 512) (c : Fin 1024) :
    matmul (F := Ideal) (φ₁ := .bf16) (φ₂ := .bf16) dot_S512x2048_S2048x1024_S512x1024_1_0_0_1_n_n none
      (shapeCast S512x2048 X shapeCasts_S512x2048_S512x2048) W (constant S512x1024 .f32 0x00000000#32) (ValueIdx.ix2 r c)
      = ∑ k : Fin 2048, (X (ValueIdx.ix2 r k) : EReal) * W (ValueIdx.ix2 k c) := by
  rw [shapeCast_self]
  refine (Ideal.matmul_plain_apply none _ _ _ r c).trans ?_
  rw [show (constant S512x1024 .f32 0x00000000#32 : FVec Ideal S512x1024 .f32) (ValueIdx.ix2 r c) = 0 from Ideal.ofBits_zero_f32, zero_add]

/-- The product of two smaller pieces, the second a cast one, at a position. -/
theorem piece_product (A : Vec Ideal S512x512 .bf16) (B : Vec Ideal S512x1024 .f32) (r : Fin 512) (c : Fin 1024) :
    matmul (F := Ideal) (φ₁ := .bf16) (φ₂ := .bf16) dot_S512x512_S512x1024_S512x1024_1_0_0_1_n_n none
      (shapeCast S512x512 A shapeCasts_S512x512_S512x512)
      (truncf .bf16 (shapeCast S512x1024 B shapeCasts_S512x1024_S512x1024 : FVec Ideal S512x1024 .f32) bitsLt_bf16_f32)
      (constant S512x1024 .f32 0x00000000#32) (ValueIdx.ix2 r c)
      = ∑ j : Fin 512, (A (ValueIdx.ix2 r j) : EReal) * B (ValueIdx.ix2 j c) := by
  rw [shapeCast_self, shapeCast_self]
  refine (Ideal.matmul_plain_apply none _ _ _ r c).trans ?_
  rw [show (constant S512x1024 .f32 0x00000000#32 : FVec Ideal S512x1024 .f32) (ValueIdx.ix2 r c) = 0 from Ideal.ofBits_zero_f32, zero_add]
  rfl

/-- Rows `k … k + 511` of a window of weights. -/
theorem ld_rows {e : EltTy} (k : ℕ) (hk : k + 512 ≤ 2048) (W : Vec Ideal S2048x1024 e)
    (i : ∀ a, (![k, 0] : Fin 2 → ℕ) a + S512x1024.size a ≤ S2048x1024.size a) (j : Fin 512) (c : Fin 1024) :
    (View.ld W (Rect.unit (s := S2048x1024) ![k, 0] S512x1024.size i) : Vec Ideal S512x1024 e) (ValueIdx.ix2 j c)
      = W (ValueIdx.ix2 ⟨k + j.val, by omega⟩ c) := by
  refine View.ld_unit_apply_of W _ _ i (ValueIdx.ix2 j c) _ fun a => ?_
  match a with
  | ⟨0, _⟩ => rfl
  | ⟨1, _⟩ => exact (Nat.zero_add _).symm

/-- Columns `k … k + 511` of a block times rows `k … k + 511` of a window of weights, at a position. -/
theorem part_product (k : ℕ) (hk : k + 512 ≤ 2048) (X : Vec Ideal S512x2048 .bf16) (W : Vec Ideal S2048x1024 .f32)
    (i : ∀ a, (![0, k] : Fin 2 → ℕ) a + S512x512.size a ≤ S512x2048.size a)
    (i' : ∀ a, (![k, 0] : Fin 2 → ℕ) a + S512x1024.size a ≤ S2048x1024.size a) (r : Fin 512) (c : Fin 1024) :
    matmul (F := Ideal) (φ₁ := .bf16) (φ₂ := .bf16) dot_S512x512_S512x1024_S512x1024_1_0_0_1_n_n none
      (shapeCast S512x512 (View.ld X (Rect.unit (s := S512x2048) ![0, k] S512x512.size i)) shapeCasts_S512x512_S512x512)
      (truncf .bf16 (shapeCast S512x1024 (View.ld W (Rect.unit (s := S2048x1024) ![k, 0] S512x1024.size i')) shapeCasts_S512x1024_S512x1024 :
        FVec Ideal S512x1024 .f32) bitsLt_bf16_f32)
      (constant S512x1024 .f32 0x00000000#32) (ValueIdx.ix2 r c)
      = ∑ j : Fin 512, (X (ValueIdx.ix2 r ⟨k + j.val, by omega⟩) : EReal) * W (ValueIdx.ix2 ⟨k + j.val, by omega⟩ c) := by
  refine (piece_product _ _ r c).trans (Finset.sum_congr rfl fun j _ => congrArg₂ (fun a b : EReal => a * b) ?_ (ld_rows k hk W i' j c))
  refine View.ld_unit_apply_of X _ _ i (ValueIdx.ix2 r j) _ fun a => ?_
  match a with
  | ⟨0, _⟩ => exact (Nat.zero_add _).symm
  | ⟨1, _⟩ => rfl

/-- What a point that finds the weights kept stores, at a position. -/
theorem pay4_apply (X Y : Vec Ideal S512x2048 .bf16) (W U : Vec Ideal S2048x1024 .bf16) (G H : Vec Ideal S512x1024 .bf16)
    (r : Fin 512) (c : Fin 1024) :
    k0_pay4 X W Y U G H (ValueIdx.ix2 r c) = blend (fun k => X (ValueIdx.ix2 r k)) (fun k => W (ValueIdx.ix2 k c))
      (fun k => Y (ValueIdx.ix2 r k)) (fun k => U (ValueIdx.ix2 k c)) (G (ValueIdx.ix2 r c)) (H (ValueIdx.ix2 r c)) := by
  unfold blend
  refine congrArg₂ (fun a b : EReal => a + b) (congrArg₂ (fun a b : EReal => a * b) ?_ (whole_product X W r c))
    (congrArg₂ (fun a b : EReal => a * b) ?_ (whole_product Y U r c))
  · exact congrFun (shapeCast_self G shapeCasts_S512x1024_S512x1024) _
  · exact congrFun (shapeCast_self H shapeCasts_S512x1024_S512x1024) _

theorem pay5_eq : @k0_pay5 Ideal _ = @k0_pay4 Ideal _ := rfl

/-- What the point that takes the weights in pieces stores. -/
def first (X Y : Vec Ideal S512x2048 .bf16) (W U : Vec Ideal S2048x1024 .f32) (G H : Vec Ideal S512x1024 .bf16) : Vec Ideal S512x1024 .bf16 :=
  k0_pay3
    (k0_pay15
      (k0_pay12 (View.ld W (Rect.unit ![0, 0] ![512, 1024] inb_S2048x1024_S512x1024_0_0))
        (View.ld X (Rect.unit ![0, 0] ![512, 512] inb_S512x2048_S512x512_0_0))
        (View.ld W (Rect.unit ![512, 0] ![512, 1024] inb_S2048x1024_S512x1024_512_0))
        (View.ld X (Rect.unit ![0, 512] ![512, 512] inb_S512x2048_S512x512_0_512))
        (View.ld W (Rect.unit ![1024, 0] ![512, 1024] inb_S2048x1024_S512x1024_1024_0))
        (View.ld X (Rect.unit ![0, 1024] ![512, 512] inb_S512x2048_S512x512_0_1024)))
      (k0_pay13 (View.ld W (Rect.unit ![1536, 0] ![512, 1024] inb_S2048x1024_S512x1024_1536_0)))
      (View.ld X (Rect.unit ![0, 1536] ![512, 512] inb_S512x2048_S512x512_0_1536)))
    (k0_pay20 (View.ld U (Rect.unit ![0, 0] ![512, 1024] inb_S2048x1024_S512x1024_0_0))
      (View.ld Y (Rect.unit ![0, 0] ![512, 512] inb_S512x2048_S512x512_0_0))
      (View.ld U (Rect.unit ![512, 0] ![512, 1024] inb_S2048x1024_S512x1024_512_0))
      (View.ld Y (Rect.unit ![0, 512] ![512, 512] inb_S512x2048_S512x512_0_512)))
    (k0_pay21 (View.ld U (Rect.unit ![1024, 0] ![512, 1024] inb_S2048x1024_S512x1024_1024_0)))
    (View.ld Y (Rect.unit ![0, 1024] ![512, 512] inb_S512x2048_S512x512_0_1024))
    (View.ld U (Rect.unit ![1536, 0] ![512, 1024] inb_S2048x1024_S512x1024_1536_0))
    (View.ld Y (Rect.unit ![0, 1536] ![512, 512] inb_S512x2048_S512x512_0_1536)) G H

/-- The same at a position. -/
theorem first_apply (X Y : Vec Ideal S512x2048 .bf16) (W U : Vec Ideal S2048x1024 .f32) (G H : Vec Ideal S512x1024 .bf16)
    (r : Fin 512) (c : Fin 1024) :
    first X Y W U G H (ValueIdx.ix2 r c) = blend (fun k => X (ValueIdx.ix2 r k)) (fun k => W (ValueIdx.ix2 k c))
      (fun k => Y (ValueIdx.ix2 r k)) (fun k => U (ValueIdx.ix2 k c)) (G (ValueIdx.ix2 r c)) (H (ValueIdx.ix2 r c)) := by
  unfold blend
  rw [sum_four, sum_four]
  refine congrArg₂ (fun a b : EReal => a + b) (congrArg₂ (fun a b : EReal => a * b) ?_ ?_) (congrArg₂ (fun a b : EReal => a * b) ?_ ?_)
  · exact congrFun (shapeCast_self G shapeCasts_S512x1024_S512x1024) _
  · have h := fun k hk i i' => part_product k hk X W i i' r c
    refine congrArg₂ (fun a b : EReal => a + b) ?_ (h 1536 (by decide) _ _)
    refine congrArg₂ (fun a b : EReal => a + b) ?_ (h 1024 (by decide) _ _)
    exact congrArg₂ (fun a b : EReal => a + b) (h 0 (by decide) _ _) (h 512 (by decide) _ _)
  · exact congrFun (shapeCast_self H shapeCasts_S512x1024_S512x1024) _
  · have h := fun k hk i i' => part_product k hk Y U i i' r c
    refine congrArg₂ (fun a b : EReal => a + b) ?_ (h 1536 (by decide) _ _)
    refine congrArg₂ (fun a b : EReal => a + b) ?_ (h 1024 (by decide) _ _)
    exact congrArg₂ (fun a b : EReal => a + b) (h 0 (by decide) _ _) (h 512 (by decide) _ _)

/-- Four pieces of 512 rows, each the same rows of `K`, make `K`. -/
theorem canon_four (K : Vec Ideal S2048x1024 .bf16) {p0 p1 p2 p3 : Vec Ideal S512x1024 .bf16} (i3 i2 i1 i0)
    (h0 : ∀ x, p0 x = K ((Rect.unit (s := S2048x1024) ![0, 0] S512x1024.size i0).emb x))
    (h1 : ∀ x, p1 x = K ((Rect.unit (s := S2048x1024) ![512, 0] S512x1024.size i1).emb x))
    (h2 : ∀ x, p2 x = K ((Rect.unit (s := S2048x1024) ![1024, 0] S512x1024.size i2).emb x))
    (h3 : ∀ x, p3 x = K ((Rect.unit (s := S2048x1024) ![1536, 0] S512x1024.size i3).emb x)) :
    View.canon (Val := Elt Ideal)
      [⟨Rect.unit (s := S2048x1024) ![1536, 0] S512x1024.size i3, p3⟩, ⟨Rect.unit (s := S2048x1024) ![1024, 0] S512x1024.size i2, p2⟩,
       ⟨Rect.unit (s := S2048x1024) ![512, 0] S512x1024.size i1, p1⟩, ⟨Rect.unit (s := S2048x1024) ![0, 0] S512x1024.size i0, p0⟩] = K := by
  funext y
  refine View.canon_apply_of_pieces (Val := Elt Ideal) K _ ?_ y ?_
  · intro p hp
    simp only [List.mem_cons, List.not_mem_nil, _root_.or_false] at hp
    rcases hp with rfl | rfl | rfl | rfl
    · exact fun x => h3 x
    · exact fun x => h2 x
    · exact fun x => h1 x
    · exact fun x => h0 x
  · have h0 : (y 0).val < 2048 := (y 0).isLt
    have h1 : (y 1).val < 1024 := (y 1).isLt
    have hq : (y 0).val / 512 < 4 := by omega
    have key : ∀ (k : ℕ) (inb), k = 512 * ((y 0).val / 512) →
        y ∈ (Rect.unit (s := S2048x1024) ![k, 0] S512x1024.size inb).set := fun k inb hk => by
      refine Rect.mem_set_unit.mpr fun a => ?_
      match a with
      | ⟨0, _⟩ => exact ⟨by show k ≤ (y 0).val; omega, by show (y 0).val < k + 512; omega⟩
      | ⟨1, _⟩ => exact ⟨Nat.zero_le _, by show (y 1).val < 0 + 1024; omega⟩
    generalize (y 0).val / 512 = q at hq key
    simp only [List.mem_cons, List.not_mem_nil, _root_.or_false, exists_eq_or_imp, exists_eq_left, false_and, exists_false, _root_.or_false]
    have : q = 0 ∨ q = 1 ∨ q = 2 ∨ q = 3 := by omega
    rcases this with rfl | rfl | rfl | rfl
    · exact .inr (.inr (.inr (key 0 _ (by omega))))
    · exact .inr (.inr (.inl (key 512 _ (by omega))))
    · exact .inr (.inl (key 1024 _ (by omega)))
    · exact .inl (key 1536 _ (by omega))

variable (m : (ℓ : Loc nD τ sig) → Buf (Elt Ideal) ℓ) (ρ : Dev nD → PrngReg)

theorem out_first (c : Dev nD) (t : Fin cfg0.N) (h0 : t.val % 12 = 0) (h1 : ¬(1 ≤ t.val % 12 ∧ t.val % 12 ≤ 7)) (h2 : ¬8 ≤ t.val % 12) :
    (outsAt0 m c t.val t.isLt).1 = first (iblk m c 0 t) (iblk m c 4 t) (iblk m c 1 t) (iblk m c 2 t) (iblk m c 6 t) (iblk m c 7 t) := by
  rw [outsAt0_A m c t h0 h1 h2]
  frame_out
  rfl

/-- What a piece of the weights is kept as: a change of format is no change here. -/
theorem keep_apply (B : Vec Ideal S512x1024 .f32) (x : S512x1024.Idx) :
    (shapeCast S512x1024 (truncf .bf16 (shapeCast S512x1024 B shapeCasts_S512x1024_S512x1024 : FVec Ideal S512x1024 .f32) bitsLt_bf16_f32 :
      FVec Ideal S512x1024 .bf16) shapeCasts_S512x1024_S512x1024) x = B x := by
  rw [shapeCast_self, shapeCast_self]; rfl

theorem kept0_first (c : Dev nD) (t : Fin cfg0.N) (h0 : t.val % 12 = 0) (h1 : ¬(1 ≤ t.val % 12 ∧ t.val % 12 ≤ 7)) (h2 : ¬8 ≤ t.val % 12) :
    (outsAt0 m c t.val t.isLt).2.1 = (truncf .bf16 (iblk m c 1 t : FVec Ideal S2048x1024 .f32) bitsLt_bf16_f32 : FVec Ideal S2048x1024 .bf16) := by
  rw [outsAt0_A m c t h0 h1 h2]
  frame_out
  exact canon_four _ _ _ _ _ (fun x => keep_apply _ x) (fun x => keep_apply _ x) (fun x => keep_apply _ x) (fun x => keep_apply _ x)

theorem kept1_first (c : Dev nD) (t : Fin cfg0.N) (h0 : t.val % 12 = 0) (h1 : ¬(1 ≤ t.val % 12 ∧ t.val % 12 ≤ 7)) (h2 : ¬8 ≤ t.val % 12) :
    (outsAt0 m c t.val t.isLt).2.2 = (truncf .bf16 (iblk m c 2 t : FVec Ideal S2048x1024 .f32) bitsLt_bf16_f32 : FVec Ideal S2048x1024 .bf16) := by
  rw [outsAt0_A m c t h0 h1 h2]
  frame_out
  exact canon_four _ _ _ _ _ (fun x => keep_apply _ x) (fun x => keep_apply _ x) (fun x => keep_apply _ x) (fun x => keep_apply _ x)

theorem out_later (c : Dev nD) (t : Fin cfg0.N) (h0 : ¬t.val % 12 = 0) (h1 : 1 ≤ t.val % 12 ∧ t.val % 12 ≤ 7) (h2 : ¬8 ≤ t.val % 12) :
    (outsAt0 m c t.val t.isLt).1
      = k0_pay4 (iblk m c 0 t) (outsAt0 m c (t.val - 1) (Nat.lt_of_le_of_lt (Nat.sub_le _ _) t.isLt)).2.1 (iblk m c 4 t)
          (outsAt0 m c (t.val - 1) (Nat.lt_of_le_of_lt (Nat.sub_le _ _) t.isLt)).2.2 (iblk m c 6 t) (iblk m c 7 t) := by
  rw [outsAt0_B m c t h0 h1 h2]
  frame_out
  rw [read_unread_whole, read_unread_whole]

theorem out_latent (c : Dev nD) (t : Fin cfg0.N) (h0 : ¬t.val % 12 = 0) (h1 : ¬(1 ≤ t.val % 12 ∧ t.val % 12 ≤ 7)) (h2 : 8 ≤ t.val % 12) :
    (outsAt0 m c t.val t.isLt).1
      = k0_pay4 (iblk m c 3 t) (outsAt0 m c (t.val - 1) (Nat.lt_of_le_of_lt (Nat.sub_le _ _) t.isLt)).2.1 (iblk m c 5 t)
          (outsAt0 m c (t.val - 1) (Nat.lt_of_le_of_lt (Nat.sub_le _ _) t.isLt)).2.2 (iblk m c 6 t) (iblk m c 7 t) := by
  rw [outsAt0_C m c t h0 h1 h2]
  frame_out
  rw [read_unread_whole, read_unread_whole, pay5_eq]

/-- Any later point keeps what it found. -/
theorem kept_later (c : Dev nD) (t : Fin cfg0.N) (h0 : ¬t.val % 12 = 0) :
    (outsAt0 m c t.val t.isLt).2 = (outsAt0 m c (t.val - 1) (Nat.lt_of_le_of_lt (Nat.sub_le _ _) t.isLt)).2 := by
  by_cases h2 : 8 ≤ t.val % 12
  · rw [outsAt0_C m c t h0 (by omega) h2]; rfl
  · rw [outsAt0_B m c t h0 (by omega) h2]; rfl

/-- The arguments on a device. -/
abbrev argLC (c : Dev nD) : Vec Ideal S4096x2048 .f32 := m ((c : Thread nD τ).loc main_arg0)
abbrev argLL (c : Dev nD) : Vec Ideal S2048x2048 .f32 := m ((c : Thread nD τ).loc main_arg1)
abbrev argDC (c : Dev nD) : Vec Ideal S4096x2048 .f32 := m ((c : Thread nD τ).loc main_arg2)
abbrev argDL (c : Dev nD) : Vec Ideal S2048x2048 .f32 := m ((c : Thread nD τ).loc main_arg3)
abbrev argWL (c : Dev nD) : Vec Ideal S1x2048x4096 .f32 := m ((c : Thread nD τ).loc main_arg4)
abbrev argWD (c : Dev nD) : Vec Ideal S1x2048x4096 .f32 := m ((c : Thread nD τ).loc main_arg5)
abbrev argG (c : Dev nD) : Vec Ideal S6144x2x4096 .f32 := m ((c : Thread nD τ).loc main_arg6)

theorem V_main_v0 (c : Dev nD) : (V m c main_v0 : Vec Ideal S4096x2048 .bf16) = argLC m c := by
  have e : (V m c main_v0 : Vec Ideal S4096x2048 .bf16)
      = (truncf .bf16 (argLC m c : FVec Ideal S4096x2048 .f32) bitsLt_bf16_f32 : FVec Ideal S4096x2048 .bf16) := by
    unfold V hostOps0; after_results <;> rfl
  rw [e]; rfl

theorem V_main_v1 (c : Dev nD) : (V m c main_v1 : Vec Ideal S2048x2048 .bf16) = argLL m c := by
  have e : (V m c main_v1 : Vec Ideal S2048x2048 .bf16)
      = (truncf .bf16 (argLL m c : FVec Ideal S2048x2048 .f32) bitsLt_bf16_f32 : FVec Ideal S2048x2048 .bf16) := by
    unfold V hostOps0; after_results <;> rfl
  rw [e]; rfl

theorem V_main_v2 (c : Dev nD) : (V m c main_v2 : Vec Ideal S4096x2048 .bf16) = argDC m c := by
  have e : (V m c main_v2 : Vec Ideal S4096x2048 .bf16)
      = (truncf .bf16 (argDC m c : FVec Ideal S4096x2048 .f32) bitsLt_bf16_f32 : FVec Ideal S4096x2048 .bf16) := by
    unfold V hostOps0; after_results <;> rfl
  rw [e]; rfl

theorem V_main_v3 (c : Dev nD) : (V m c main_v3 : Vec Ideal S2048x2048 .bf16) = argDL m c := by
  have e : (V m c main_v3 : Vec Ideal S2048x2048 .bf16)
      = (truncf .bf16 (argDL m c : FVec Ideal S2048x2048 .f32) bitsLt_bf16_f32 : FVec Ideal S2048x2048 .bf16) := by
    unfold V hostOps0; after_results <;> rfl
  rw [e]; rfl

theorem V_main_v4 (c : Dev nD) (k : Fin 2048) (j : Fin 4096) :
    (V m c main_v4 : Vec Ideal S2048x4096 .f32) (ValueIdx.ix2 k j) = argWL m c (ValueIdx.ix3 0 k j) := by
  have e : (V m c main_v4 : Vec Ideal S2048x4096 .f32) = shapeCast _ (argWL m c) shapeCasts_S1x2048x4096_S2048x4096 := by
    unfold V hostOps0; after_results <;> rfl
  rw [e]
  exact shapeCast_1ab_ab_apply _ _ k j

theorem V_main_v5 (c : Dev nD) (k : Fin 2048) (j : Fin 4096) :
    (V m c main_v5 : Vec Ideal S2048x4096 .f32) (ValueIdx.ix2 k j) = argWD m c (ValueIdx.ix3 0 k j) := by
  have e : (V m c main_v5 : Vec Ideal S2048x4096 .f32) = shapeCast _ (argWD m c) shapeCasts_S1x2048x4096_S2048x4096 := by
    unfold V hostOps0; after_results <;> rfl
  rw [e]
  exact shapeCast_1ab_ab_apply _ _ k j

/-- The gates, as the region finds them: a row's two gates side by side. -/
theorem V_main_v7 (c : Dev nD) (r : Fin 6144) (p : Fin 2) (j : Fin 4096) :
    (V m c main_v7 : Vec Ideal S6144x8192 .bf16) (ValueIdx.ix2 r ⟨4096 * p.val + j.val, by omega⟩) = argG m c (ValueIdx.ix3 r p j) := by
  have e : (V m c main_v7 : Vec Ideal S6144x8192 .bf16)
      = (truncf .bf16 (shapeCast S6144x8192 (argG m c) shapeCasts_S6144x2x4096_S6144x8192 : FVec Ideal S6144x8192 .f32) bitsLt_bf16_f32 :
          FVec Ideal S6144x8192 .bf16) := by
    unfold V hostOps0; after_results <;> rfl
  rw [e]
  refine shapeCast_apply (argG m c) shapeCasts_S6144x2x4096_S6144x8192 (ValueIdx.ix2 r ⟨4096 * p.val + j.val, by omega⟩) (ValueIdx.ix3 r p j) ?_
  rw [Shape.rowMajor_val_two, Shape.rowMajor_val_three]
  show (r.val * 2 + p.val) * 4096 + j.val = r.val * 8192 + (4096 * p.val + j.val)
  omega

theorem index_0 : ∀ t : Fin grid0.N, win0_0.index t = ![min (t.val % 12) 7, 0] := by decide +kernel
theorem index_1 : ∀ t : Fin grid0.N, win0_1.index t = ![0, t.val / 12] := by decide +kernel
theorem index_2 : ∀ t : Fin grid0.N, win0_2.index t = ![0, t.val / 12] := by decide +kernel
theorem index_3 : ∀ t : Fin grid0.N, win0_3.index t = ![t.val % 12 - 8, 0] := by decide +kernel
theorem index_4 : ∀ t : Fin grid0.N, win0_4.index t = ![min (t.val % 12) 7, 0] := by decide +kernel
theorem index_5 : ∀ t : Fin grid0.N, win0_5.index t = ![t.val % 12 - 8, 0] := by decide +kernel
theorem index_6 : ∀ t : Fin grid0.N, win0_6.index t = ![t.val % 12, t.val / 12] := by decide +kernel
theorem index_7 : ∀ t : Fin grid0.N, win0_7.index t = ![t.val % 12, t.val / 12 + 4] := by decide +kernel
theorem index_8 : ∀ t : Fin grid0.N, win0_8.index t = ![t.val % 12, t.val / 12] := by decide +kernel

theorem lt_48 (t : Fin cfg0.N) : t.val < 48 := t.isLt.trans_eq N_0

theorem iblk0_apply (c : Dev nD) (t : Fin cfg0.N) (h : t.val % 12 ≤ 7) (r : Fin 512) (k : Fin 2048) :
    (iblk m c 0 t : Vec Ideal S512x2048 .bf16) (ValueIdx.ix2 r k) = argLC m c (ValueIdx.ix2 ⟨512 * (t.val % 12) + r.val, by omega⟩ k) := by
  rw [← V_main_v0]
  blk_simp [iblk]
  refine congrArg (V m c main_v0 : Vec Ideal S4096x2048 .bf16) ?_
  blk_ext [index_0 t]
  show min (t.val % 12) 7 * 512 + r.val = _
  omega

theorem iblk4_apply (c : Dev nD) (t : Fin cfg0.N) (h : t.val % 12 ≤ 7) (r : Fin 512) (k : Fin 2048) :
    (iblk m c 4 t : Vec Ideal S512x2048 .bf16) (ValueIdx.ix2 r k) = argDC m c (ValueIdx.ix2 ⟨512 * (t.val % 12) + r.val, by omega⟩ k) := by
  rw [← V_main_v2]
  blk_simp [iblk]
  refine congrArg (V m c main_v2 : Vec Ideal S4096x2048 .bf16) ?_
  blk_ext [index_4 t]
  show min (t.val % 12) 7 * 512 + r.val = _
  omega

theorem iblk3_apply (c : Dev nD) (t : Fin cfg0.N) (h : 8 ≤ t.val % 12) (r : Fin 512) (k : Fin 2048) :
    (iblk m c 3 t : Vec Ideal S512x2048 .bf16) (ValueIdx.ix2 r k) = argLL m c (ValueIdx.ix2 ⟨512 * (t.val % 12 - 8) + r.val, by omega⟩ k) := by
  rw [← V_main_v1]
  blk_simp [iblk]
  refine congrArg (V m c main_v1 : Vec Ideal S2048x2048 .bf16) ?_
  blk_ext [index_3 t]
  show (t.val % 12 - 8) * 512 + r.val = _
  omega

theorem iblk5_apply (c : Dev nD) (t : Fin cfg0.N) (h : 8 ≤ t.val % 12) (r : Fin 512) (k : Fin 2048) :
    (iblk m c 5 t : Vec Ideal S512x2048 .bf16) (ValueIdx.ix2 r k) = argDL m c (ValueIdx.ix2 ⟨512 * (t.val % 12 - 8) + r.val, by omega⟩ k) := by
  rw [← V_main_v3]
  blk_simp [iblk]
  refine congrArg (V m c main_v3 : Vec Ideal S2048x2048 .bf16) ?_
  blk_ext [index_5 t]
  show (t.val % 12 - 8) * 512 + r.val = _
  omega

theorem iblk1_apply (c : Dev nD) (t : Fin cfg0.N) (k : Fin 2048) (j : Fin 1024) :
    (iblk m c 1 t : Vec Ideal S2048x1024 .f32) (ValueIdx.ix2 k j)
      = argWL m c (ValueIdx.ix3 0 k ⟨1024 * (t.val / 12) + j.val, by have := lt_48 t; omega⟩) := by
  rw [← V_main_v4]
  blk_simp [iblk]
  refine congrArg (V m c main_v4 : Vec Ideal S2048x4096 .f32) ?_
  blk_ext [index_1 t]
  exact congrArg (· + _) (Nat.mul_comm _ _)

theorem iblk2_apply (c : Dev nD) (t : Fin cfg0.N) (k : Fin 2048) (j : Fin 1024) :
    (iblk m c 2 t : Vec Ideal S2048x1024 .f32) (ValueIdx.ix2 k j)
      = argWD m c (ValueIdx.ix3 0 k ⟨1024 * (t.val / 12) + j.val, by have := lt_48 t; omega⟩) := by
  rw [← V_main_v5]
  blk_simp [iblk]
  refine congrArg (V m c main_v5 : Vec Ideal S2048x4096 .f32) ?_
  blk_ext [index_2 t]
  exact congrArg (· + _) (Nat.mul_comm _ _)

theorem iblk6_apply (c : Dev nD) (t : Fin cfg0.N) (r : Fin 512) (j : Fin 1024) :
    (iblk m c 6 t : Vec Ideal S512x1024 .bf16) (ValueIdx.ix2 r j)
      = argG m c (ValueIdx.ix3 ⟨512 * (t.val % 12) + r.val, by omega⟩ 0 ⟨1024 * (t.val / 12) + j.val, by have := lt_48 t; omega⟩) := by
  rw [← V_main_v7]
  blk_simp [iblk]
  refine congrArg (V m c main_v7 : Vec Ideal S6144x8192 .bf16) ?_
  blk_ext [index_6 t]
  · show t.val % 12 * 512 + r.val = _
    omega
  · show t.val / 12 * 1024 + j.val = 4096 * 0 + (1024 * (t.val / 12) + j.val)
    omega

theorem iblk7_apply (c : Dev nD) (t : Fin cfg0.N) (r : Fin 512) (j : Fin 1024) :
    (iblk m c 7 t : Vec Ideal S512x1024 .bf16) (ValueIdx.ix2 r j)
      = argG m c (ValueIdx.ix3 ⟨512 * (t.val % 12) + r.val, by omega⟩ 1 ⟨1024 * (t.val / 12) + j.val, by have := lt_48 t; omega⟩) := by
  rw [← V_main_v7]
  blk_simp [iblk]
  refine congrArg (V m c main_v7 : Vec Ideal S6144x8192 .bf16) ?_
  blk_ext [index_7 t]
  · show t.val % 12 * 512 + r.val = _
    omega
  · show (t.val / 12 + 4) * 1024 + j.val = 4096 * 1 + (1024 * (t.val / 12) + j.val)
    omega

/-- After any point the scratch holds the weights of that point's columns. -/
theorem kept_apply (c : Dev nD) : ∀ (n : ℕ) (hn : n < cfg0.N) (k : Fin 2048) (j : Fin 1024),
    (outsAt0 m c n hn).2.1 (ValueIdx.ix2 k j)
        = argWL m c (ValueIdx.ix3 0 k ⟨1024 * (n / 12) + j.val, by have := lt_48 ⟨n, hn⟩; dsimp only at this; omega⟩)
    ∧ (outsAt0 m c n hn).2.2 (ValueIdx.ix2 k j)
        = argWD m c (ValueIdx.ix3 0 k ⟨1024 * (n / 12) + j.val, by have := lt_48 ⟨n, hn⟩; dsimp only at this; omega⟩) := by
  intro n
  induction n with
  | zero =>
    intro hn k j
    have h0 : (⟨0, hn⟩ : Fin cfg0.N).val % 12 = 0 := rfl
    exact ⟨(congrFun (kept0_first m c ⟨0, hn⟩ h0 (by omega) (by omega)) _).trans (iblk1_apply m c ⟨0, hn⟩ k j),
      (congrFun (kept1_first m c ⟨0, hn⟩ h0 (by omega) (by omega)) _).trans (iblk2_apply m c ⟨0, hn⟩ k j)⟩
  | succ n ih =>
    intro hn k j
    by_cases h0 : (⟨n + 1, hn⟩ : Fin cfg0.N).val % 12 = 0
    · exact ⟨(congrFun (kept0_first m c ⟨n + 1, hn⟩ h0 (by omega) (by omega)) _).trans (iblk1_apply m c ⟨n + 1, hn⟩ k j),
        (congrFun (kept1_first m c ⟨n + 1, hn⟩ h0 (by omega) (by omega)) _).trans (iblk2_apply m c ⟨n + 1, hn⟩ k j)⟩
    · have e := kept_later m c ⟨n + 1, hn⟩ h0
      have hh := ih (Nat.lt_of_succ_lt hn) k j
      have hd : n / 12 = (n + 1) / 12 := by dsimp only at h0; omega
      refine ⟨(congrFun (congrArg (·.1) e) _).trans (hh.1.trans ?_), (congrFun (congrArg (·.2) e) _).trans (hh.2.trans ?_)⟩
      · exact congrArg (fun q => argWL m c (ValueIdx.ix3 0 k q)) (Fin.ext (congrArg (1024 * · + j.val) hd))
      · exact congrArg (fun q => argWD m c (ValueIdx.ix3 0 k q)) (Fin.ext (congrArg (1024 * · + j.val) hd))

/-- A row of a branch: of its context part, then of its latent part. -/
def rowOf (a : Vec Ideal S4096x2048 .f32) (b : Vec Ideal S2048x2048 .f32) (r : Fin 6144) (k : Fin 2048) : EReal :=
  if h : r.val < 4096 then a (ValueIdx.ix2 ⟨r.val, h⟩ k) else b (ValueIdx.ix2 ⟨r.val - 4096, by omega⟩ k)

/-- The merge: each branch's row times its column of the weights, weighed by its gate, added. -/
def merged (lc : Vec Ideal S4096x2048 .f32) (ll : Vec Ideal S2048x2048 .f32) (dc : Vec Ideal S4096x2048 .f32) (dl : Vec Ideal S2048x2048 .f32)
    (wl wd : Vec Ideal S1x2048x4096 .f32) (g : Vec Ideal S6144x2x4096 .f32) (r : Fin 6144) (j : Fin 4096) : EReal :=
  blend (rowOf lc ll r) (fun k => wl (ValueIdx.ix3 0 k j)) (rowOf dc dl r) (fun k => wd (ValueIdx.ix3 0 k j))
    (g (ValueIdx.ix3 r 0 j)) (g (ValueIdx.ix3 r 1 j))

theorem lt_6144 (t : Fin cfg0.N) (r : Fin 512) : 512 * (t.val % 12) + r.val < 6144 := by omega
theorem lt_4096 (t : Fin cfg0.N) (j : Fin 1024) : 1024 * (t.val / 12) + j.val < 4096 := by have := lt_48 t; omega

theorem rowOf_ctx (a : Vec Ideal S4096x2048 .f32) (b : Vec Ideal S2048x2048 .f32) (r : Fin 6144) (k : Fin 2048) (h : r.val < 4096) :
    rowOf a b r k = a (ValueIdx.ix2 ⟨r.val, h⟩ k) := by
  unfold rowOf; rw [dif_pos h]

theorem rowOf_lat (a : Vec Ideal S4096x2048 .f32) (b : Vec Ideal S2048x2048 .f32) (r : Fin 6144) (k : Fin 2048) (h : ¬r.val < 4096) :
    rowOf a b r k = b (ValueIdx.ix2 ⟨r.val - 4096, by omega⟩ k) := by
  unfold rowOf; rw [dif_neg h]

theorem row_ctx (t : Fin cfg0.N) (h : t.val % 12 ≤ 7) (a : Vec Ideal S4096x2048 .f32) (b : Vec Ideal S2048x2048 .f32) (r : Fin 512) (k : Fin 2048) :
    a (ValueIdx.ix2 ⟨512 * (t.val % 12) + r.val, by omega⟩ k) = rowOf a b ⟨512 * (t.val % 12) + r.val, lt_6144 t r⟩ k := by
  have h' : 512 * (t.val % 12) + r.val < 4096 := by omega
  exact (rowOf_ctx a b ⟨512 * (t.val % 12) + r.val, lt_6144 t r⟩ k h').symm

theorem row_lat (t : Fin cfg0.N) (h : 8 ≤ t.val % 12) (a : Vec Ideal S4096x2048 .f32) (b : Vec Ideal S2048x2048 .f32) (r : Fin 512) (k : Fin 2048) :
    b (ValueIdx.ix2 ⟨512 * (t.val % 12 - 8) + r.val, by omega⟩ k) = rowOf a b ⟨512 * (t.val % 12) + r.val, lt_6144 t r⟩ k := by
  have h' : ¬512 * (t.val % 12) + r.val < 4096 := by omega
  rw [rowOf_lat a b ⟨512 * (t.val % 12) + r.val, lt_6144 t r⟩ k h']
  have e : 512 * (t.val % 12 - 8) + r.val = 512 * (t.val % 12) + r.val - 4096 := by omega
  exact congrArg (fun q : Fin 2048 => b (ValueIdx.ix2 q k)) (Fin.ext e)

theorem blend_congr {x x' w w' y y' u u' : Fin 2048 → EReal} {p p' q q' : EReal} (hx : ∀ k, x k = x' k) (hw : ∀ k, w k = w' k)
    (hy : ∀ k, y k = y' k) (hu : ∀ k, u k = u' k) (hp : p = p') (hq : q = q') : blend x w y u p q = blend x' w' y' u' p' q' := by
  rw [funext hx, funext hw, funext hy, funext hu, hp, hq]

/-- What a point stores, at a position. -/
theorem outAt_apply (c : Dev nD) (t : Fin cfg0.N) (r : Fin 512) (j : Fin 1024) :
    (outsAt0 m c t.val t.isLt).1 (ValueIdx.ix2 r j)
      = merged (argLC m c) (argLL m c) (argDC m c) (argDL m c) (argWL m c) (argWD m c) (argG m c)
          ⟨512 * (t.val % 12) + r.val, lt_6144 t r⟩ ⟨1024 * (t.val / 12) + j.val, lt_4096 t j⟩ := by
  by_cases h0 : t.val % 12 = 0
  · rw [out_first m c t h0 (by omega) (by omega)]
    refine (first_apply _ _ _ _ _ _ r j).trans (blend_congr (fun k => ?_) (fun k => iblk1_apply m c t k j) (fun k => ?_)
      (fun k => iblk2_apply m c t k j) (iblk6_apply m c t r j) (iblk7_apply m c t r j))
    · exact (iblk0_apply m c t (by omega) r k).trans (row_ctx t (by omega) _ _ r k)
    · exact (iblk4_apply m c t (by omega) r k).trans (row_ctx t (by omega) _ _ r k)
  · have hk := kept_apply m c (t.val - 1) (Nat.lt_of_le_of_lt (Nat.sub_le _ _) t.isLt)
    have hd : (t.val - 1) / 12 = t.val / 12 := by omega
    have hw := fun k => (hk k j).1.trans (congrArg (fun q => argWL m c (ValueIdx.ix3 0 k q))
      (Fin.ext (congrArg (1024 * · + j.val) hd) : (_ : Fin 4096) = ⟨1024 * (t.val / 12) + j.val, lt_4096 t j⟩))
    have hu := fun k => (hk k j).2.trans (congrArg (fun q => argWD m c (ValueIdx.ix3 0 k q))
      (Fin.ext (congrArg (1024 * · + j.val) hd) : (_ : Fin 4096) = ⟨1024 * (t.val / 12) + j.val, lt_4096 t j⟩))
    by_cases h2 : 8 ≤ t.val % 12
    · rw [out_latent m c t h0 (by omega) h2]
      refine (pay4_apply _ _ _ _ _ _ r j).trans (blend_congr (fun k => ?_) hw (fun k => ?_) hu (iblk6_apply m c t r j) (iblk7_apply m c t r j))
      · exact (iblk3_apply m c t h2 r k).trans (row_lat t h2 _ _ r k)
      · exact (iblk5_apply m c t h2 r k).trans (row_lat t h2 _ _ r k)
    · rw [out_later m c t h0 (by omega) h2]
      refine (pay4_apply _ _ _ _ _ _ r j).trans (blend_congr (fun k => ?_) hw (fun k => ?_) hu (iblk6_apply m c t r j) (iblk7_apply m c t r j))
      · exact (iblk0_apply m c t (by omega) r k).trans (row_ctx t (by omega) _ _ r k)
      · exact (iblk4_apply m c t (by omega) r k).trans (row_ctx t (by omega) _ _ r k)

/-- The result array after the run. -/
theorem result (c : Dev nD) :
    (dats m 0 c).arrAt 8 cfg0.N
      = (fun i => merged (argLC m c) (argLL m c) (argDC m c) (argDL m c) (argWL m c) (argWD m c) (argG m c) (i 0) (i 1) :
          Vec Ideal S6144x4096 .bf16) := by
  refine (dats m 0 c).arrAt_eq_of_covers 8 _ (by decide +kernel) fun t hf y => ?_
  blk_simp
  rw [after0_8]
  refine (congrArg (outsAt0 m c t.val t.isLt).1 (ValueIdx.eq_ix2 y)).trans ((outAt_apply m c t (y 0) (y 1)).trans ?_)
  generalize argLC m c = lc, argLL m c = ll, argDC m c = dc, argDL m c = dl, argWL m c = wl, argWD m c = wd, argG m c = g
  refine congrArg₂ (merged lc ll dc dl wl wd g) (Fin.ext ?_) (Fin.ext ?_)
  · blk_simp [index_8 t]; exact congrArg (· + _) (Nat.mul_comm _ _)
  · blk_simp [index_8 t]; exact congrArg (· + _) (Nat.mul_comm _ _)

end Cert.Kernel6Ideal.Merge

end
-- ==== Proof.MergeClaims.lean ====
module

public import proofs.«01_k».proof.Defs
public import proofs.«01_k».proof.Proof.Gen.Kernel6.Frame
public import proofs.«01_k».proof.Proof.MergeValue
public import proofs.«01_k».proof.Proof.Gen.Reference6Ideal.Run
public import Idealize.ShloMosaic.Lib.Quiescent

/-! The reference of the merge read at a position, and the five claims. -/

@[expose] public section

set_option maxRecDepth 4096

noncomputable section

namespace Cert.Reference6Ideal.Merge

open Cert.Reference6Ideal Cert.Reference6Ideal.Gen
open Idealize.ShloMosaic Idealize.ShloMosaic.TcCoe Idealize.ShloMosaic.ValueIdx Idealize.SL.Sem
open Cert.Kernel6Ideal.Merge (rowOf merged rowOf_ctx rowOf_lat)

/-- The two parts of a branch, one under the other, -/
def stacked (a : FVec Ideal S4096x2048 .f32) (b : FVec Ideal S2048x2048 .f32) : FVec Ideal S6144x2048 .f32 :=
  concatenate S6144x2048 0 [⟨S4096x2048, a⟩, ⟨S2048x2048, b⟩] concatenates_S4096x2048_S2048x2048_S6144x2048_d0

/-- their product with the branch's weights, -/
def product (a : FVec Ideal S4096x2048 .f32) (b : FVec Ideal S2048x2048 .f32) (w : FVec Ideal S1x2048x4096 .f32) : FVec Ideal S6144x4096 .f32 :=
  Host.dotGeneral dot_S6144x2048_S2048x4096_S6144x4096_1_0_0_1_n_n none (stacked a b) (shapeCast _ w shapeCasts_S1x2048x4096_S2048x4096)

/-- and the two gates. -/
def gate0 (g : FVec Ideal S6144x2x4096 .f32) : FVec Ideal S6144x4096 .f32 :=
  shapeCast _ (extractStridedSlice S6144x1x4096 ![0, 0, 0] g slices_S6144x2x4096_S6144x1x4096_0_0_0) shapeCasts_S6144x1x4096_S6144x4096
def gate1 (g : FVec Ideal S6144x2x4096 .f32) : FVec Ideal S6144x4096 .f32 :=
  shapeCast _ (extractStridedSlice S6144x1x4096 ![0, 1, 0] g slices_S6144x2x4096_S6144x1x4096_0_1_0) shapeCasts_S6144x1x4096_S6144x4096

theorem stacked_apply (a : FVec Ideal S4096x2048 .f32) (b : FVec Ideal S2048x2048 .f32) (r : Fin 6144) (k : Fin 2048) :
    stacked a b (ValueIdx.ix2 r k) = rowOf a b r k := by
  by_cases h : r.val < 4096
  · rw [rowOf_ctx a b r k h]
    refine concatenate_pair_apply_left 0 a b _ (ValueIdx.ix2 r k) rfl (ValueIdx.ix2 ⟨r.val, h⟩ k) fun x => ?_
    match x with
    | ⟨0, _⟩ => rfl
    | ⟨1, _⟩ => rfl
  · rw [rowOf_lat a b r k h]
    refine concatenate_pair_apply_right 0 a b _ (ValueIdx.ix2 r k) rfl rfl (ValueIdx.ix2 ⟨r.val - 4096, by omega⟩ k) (fun x hx => ?_) ?_
    · match x with
      | ⟨0, _⟩ => exact absurd rfl hx
      | ⟨1, _⟩ => rfl
    · show r.val - 4096 + 4096 = r.val
      omega

theorem product_apply (a : FVec Ideal S4096x2048 .f32) (b : FVec Ideal S2048x2048 .f32) (w : FVec Ideal S1x2048x4096 .f32)
    (r : Fin 6144) (j : Fin 4096) :
    product a b w (ValueIdx.ix2 r j) = ∑ k : Fin 2048, rowOf a b r k * w (ValueIdx.ix3 0 k j) :=
  (Cert.Dense.host_product (stacked a b) w shapeCasts_S1x2048x4096_S2048x4096 (ValueIdx.ix2 r j)).trans
    (Finset.sum_congr rfl fun k _ => congrArg (· * _) (stacked_apply a b r k))

theorem gate0_apply (g : FVec Ideal S6144x2x4096 .f32) (r : Fin 6144) (j : Fin 4096) : gate0 g (ValueIdx.ix2 r j) = g (ValueIdx.ix3 r 0 j) := by
  unfold gate0
  refine (shapeCast_apply _ _ _ (ValueIdx.ix3 r (0 : Fin 1) j) ?_).trans (extractStridedSlice_apply _ _ _ _ _ fun a => ?_)
  · rw [Shape.rowMajor_val_two, Shape.rowMajor_val_three]
    show (r.val * 1 + 0) * 4096 + j.val = r.val * 4096 + j.val
    omega
  · match a with
    | ⟨0, _⟩ => exact (Nat.zero_add _).symm
    | ⟨1, _⟩ => rfl
    | ⟨2, _⟩ => exact (Nat.zero_add _).symm

theorem gate1_apply (g : FVec Ideal S6144x2x4096 .f32) (r : Fin 6144) (j : Fin 4096) : gate1 g (ValueIdx.ix2 r j) = g (ValueIdx.ix3 r 1 j) := by
  unfold gate1
  refine (shapeCast_apply _ _ _ (ValueIdx.ix3 r (0 : Fin 1) j) ?_).trans (extractStridedSlice_apply _ _ _ _ _ fun a => ?_)
  · rw [Shape.rowMajor_val_two, Shape.rowMajor_val_three]
    show (r.val * 1 + 0) * 4096 + j.val = r.val * 4096 + j.val
    omega
  · match a with
    | ⟨0, _⟩ => exact (Nat.zero_add _).symm
    | ⟨1, _⟩ => rfl
    | ⟨2, _⟩ => exact (Nat.zero_add _).symm

/-- The reference's result as one term of its arguments. -/
def res (lc : FVec Ideal S4096x2048 .f32) (ll : FVec Ideal S2048x2048 .f32) (dc : FVec Ideal S4096x2048 .f32) (dl : FVec Ideal S2048x2048 .f32)
    (wl wd : FVec Ideal S1x2048x4096 .f32) (g : FVec Ideal S6144x2x4096 .f32) : FVec Ideal S6144x4096 .bf16 :=
  truncf .bf16 (addf (mulf (gate0 g) (product lc ll wl)) (mulf (gate1 g) (product dc dl wd))) bitsLt_bf16_f32

theorem res_apply (lc : FVec Ideal S4096x2048 .f32) (ll : FVec Ideal S2048x2048 .f32) (dc : FVec Ideal S4096x2048 .f32) (dl : FVec Ideal S2048x2048 .f32)
    (wl wd : FVec Ideal S1x2048x4096 .f32) (g : FVec Ideal S6144x2x4096 .f32) (r : Fin 6144) (j : Fin 4096) :
    res lc ll dc dl wl wd g (ValueIdx.ix2 r j) = merged lc ll dc dl wl wd g r j :=
  congrArg₂ (fun a b : EReal => a + b)
    (congrArg₂ (fun a b : EReal => a * b) (gate0_apply g r j) (product_apply lc ll wl r j))
    (congrArg₂ (fun a b : EReal => a * b) (gate1_apply g r j) (product_apply dc dl wd r j))

variable (m : (ℓ : Loc nD τ sig) → Buf (Elt Ideal) ℓ) (ρ : Dev nD → PrngReg)

/-- The reference's run: its result is the merge of its arguments, which it leaves unchanged. -/
theorem run : θ_run defs (onTc (τ := τ) (main (F := Ideal))) ⟨m, fun _ => 0, ρ⟩ fun r => ∀ c : Dev nD,
    r.2.mem ((c.tc : Thread nD τ).loc main_v13)
      = (fun i => merged (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (i 0) (i 1) :
          FVec Ideal S6144x4096 .bf16)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6) :=
  (θ_run defs _ _).mono (fun _ h c => ⟨(h c).1.trans (funext fun i =>
    (congrArg (res (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))) (ValueIdx.eq_ix2 i)).trans (res_apply _ _ _ _ _ _ _ (i 0) (i 1))), (h c).2⟩)
    (Value.run m ρ)

end Cert.Reference6Ideal.Merge

namespace Cert.Kernel6Ideal.Merge

open Cert.Kernel6Ideal.Gen
open Idealize.ShloMosaic Idealize.ShloMosaic.TcCoe Idealize.SL.Sem

theorem frame_ideal : Cert.quiescent_Kernel6Ideal := fun m ρ _ => Cert.Kernel6Ideal.Gen.frame m ρ

theorem frame_kernel : Cert.quiescent_Kernel6 := fun m ρ _ => Cert.Kernel6.Gen.frame m ρ

theorem frame_reference : Cert.quiescent_Reference6Ideal := fun m ρ _ =>
  (θ_run Cert.Reference6Ideal.defs _ _).mono (fun r h => ⟨fun c => (h c).2, sem_eq_zero_of_no_sems (by decide) r.2⟩)
    (Cert.Reference6Ideal.Value.run (F := Ideal) m ρ)

/-- At the ideal values the kernel's result is the reference's. -/
theorem algebraic : Cert.algebraic_Kernel6Ideal_Reference6Ideal := fun m ρ m' ρ' _ hag =>
  ⟨fun c => (fun i => merged (argLC m c) (argLL m c) (argDC m c) (argDL m c) (argWL m c) (argWD m c) (argG m c) (i 0) (i 1) :
      Vec Ideal S6144x4096 .bf16),
   (θ_run defs _ _).mono (fun _ h c => ⟨((h.1 c).1 8).trans (result m c), h.2 c⟩) (θ_run_and (run_main m ρ) (unchanged m ρ)),
   (θ_run Cert.Reference6Ideal.defs _ _).mono (fun _ h c =>
      ⟨(h c).1.trans (by rw [(hag c).1, (hag c).2.1, (hag c).2.2.1, (hag c).2.2.2.1, (hag c).2.2.2.2.1, (hag c).2.2.2.2.2.1,
        (hag c).2.2.2.2.2.2]), (h c).2⟩)
     (Cert.Reference6Ideal.Merge.run m' ρ')⟩

end Cert.Kernel6Ideal.Merge

end
-- ==== Proof.RowNorm.lean ====
module

public import Idealize.ShloMosaic.PureOps.Ideal.Laws
public import Idealize.ShloMosaic.Lib.ValueIdx

/-! The layer's last step at a position: the residual sum of a row, normalized, over extended reals. -/

@[expose] public section

noncomputable section

namespace Cert.RowNorm

open Idealize.ShloMosaic Idealize.ShloMosaic.ValueIdx

/-- The mean of a row, -/
def mean (f : Fin 4096 → EReal) : EReal := Ideal.div (∑ k, f k) (Ideal.ofBits .f32 0x45800000#32)

/-- and the row less its mean, over the root of its variance, scaled and shifted. -/
def normed (f g b : Fin 4096 → EReal) (j : Fin 4096) : EReal :=
  (f j - mean f) * Ideal.rsqrt (mean (fun k => (f k - mean f) * (f k - mean f)) + Ideal.ofBits .f32 0x3727C5AC#32) * g j + b j

/-- The residual sum of a row: the residual, scaled, and the gated branch. -/
def mix (x f g : Fin 4096 → EReal) (k : Fin 4096) : EReal := Ideal.ofBits .f32 0x3F9837F0#32 * x k + g k * f k

/-- The last step at row `r` with the modulation's row `p`, whose last sixth is the gate. -/
def last (x f : (⟨2, ![6144, 4096]⟩ : Shape).Idx → EReal) (mods : (⟨2, ![8, 24576]⟩ : Shape).Idx → EReal)
    (g b : (⟨2, ![1, 4096]⟩ : Shape).Idx → EReal) (r : Fin 6144) (p : Fin 8) (j : Fin 4096) : EReal :=
  normed (mix (fun k => x (ValueIdx.ix2 r k)) (fun k => f (ValueIdx.ix2 r k)) (fun k => mods (ValueIdx.ix2 p ⟨20480 + k.val, by omega⟩)))
    (fun k => g (ValueIdx.ix2 0 k)) (fun k => b (ValueIdx.ix2 0 k)) j

end Cert.RowNorm

end
-- ==== Proof.NormCtxValue.lean ====
module

public import proofs.«01_k».proof.Proof.Gen.Kernel7Ideal.Value
public import proofs.«01_k».proof.Proof.RowNorm
public import Idealize.ShloMosaic.Lib.Pipeline.ValueKit
public import Idealize.ShloMosaic.Lib.Pointwise
public import Idealize.ShloMosaic.Lib.ValueLayout

/-! The context rows' last step: that the kernel's result array is it at every position. -/

@[expose] public section

set_option maxRecDepth 4096

noncomputable section

namespace Cert.Kernel7Ideal.Norm

open Cert.Kernel7Ideal.Gen
open Idealize.ShloMosaic Idealize.ShloMosaic.TcCoe Idealize.ShloMosaic.Tactic Idealize.ShloMosaic.ValueIdx
open Idealize.SL.Sem
open Idealize.ShloMosaic.Pipeline (Dat)
open Cert.RowNorm

/-- What a point stores, at a position. -/
theorem pay_apply (x : Vec Ideal S256x4096 .f32) (w : Vec Ideal S1x1x4096 .f32) (f : Vec Ideal S256x4096 .f32)
    (g b : Vec Ideal S1x4096 .f32) (r : Fin 256) (j : Fin 4096) :
    k0_pay1 x w f g b (ValueIdx.ix2 r j)
      = normed (mix (fun k => x (ValueIdx.ix2 r k)) (fun k => f (ValueIdx.ix2 r k)) (fun k => w (ValueIdx.ix3 0 0 k)))
          (fun k => g (ValueIdx.ix2 0 k)) (fun k => b (ValueIdx.ix2 0 k)) j := by
  unfold normed mean mix
  pointwise [k0_pay1]
  rfl

/-- A point's stored block is what it computes from its blocks. -/
theorem out_eq (x0 x1 : Vec Ideal S256x4096 .f32) (x2 : Vec Ideal S1x1x4096 .f32) (x3 x4 : Vec Ideal S1x4096 .f32) :
    out0_5 x0 x1 x2 x3 x4 = k0_pay1 x0 x2 x1 x3 x4 := by
  unfold out0_5
  refine (View.canon_cons_unit_lit _ _ [] (by decide)).trans ?_
  rw [View.ld_unit_lit _ x0 (by decide), View.ld_unit_lit _ x1 (by decide), View.ld_unit_lit _ x2 (by decide),
    View.ld_unit_lit _ x3 (by decide), View.ld_unit_lit _ x4 (by decide)]

variable (m : (ℓ : Loc nD τ sig) → Buf (Elt Ideal) ℓ) (ρ : Dev nD → PrngReg)

/-- The arguments on a device. -/
abbrev argX (c : Dev nD) : Vec Ideal S6144x4096 .f32 := m ((c : Thread nD τ).loc main_arg0)
abbrev argF (c : Dev nD) : Vec Ideal S6144x4096 .f32 := m ((c : Thread nD τ).loc main_arg1)
abbrev argM (c : Dev nD) : Vec Ideal S8x24576 .f32 := m ((c : Thread nD τ).loc main_arg2)
abbrev argG (c : Dev nD) : Vec Ideal S1x4096 .f32 := m ((c : Thread nD τ).loc main_arg3)
abbrev argB (c : Dev nD) : Vec Ideal S1x4096 .f32 := m ((c : Thread nD τ).loc main_arg4)

/-- The modulation, as the region finds it. -/
theorem V_main_v0 (c : Dev nD) (p : Fin 8) (k : Fin 24576) :
    (V m c main_v0 : Vec Ideal S8x1x24576 .f32) (ValueIdx.ix3 p 0 k) = argM m c (ValueIdx.ix2 p k) := by
  have e : (V m c main_v0 : Vec Ideal S8x1x24576 .f32) = shapeCast _ (argM m c) shapeCasts_S8x24576_S8x1x24576 := by
    unfold V hostOps0; after_results <;> rfl
  rw [e]
  exact shapeCast_apply _ _ _ _ (by rw [Shape.rowMajor_val_two, Shape.rowMajor_val_three]; show p.val * 24576 + k.val = (p.val * 1 + 0) * 24576 + k.val; omega)

theorem index_0 : ∀ t : Fin grid0.N, win0_0.index t = ![t.val, 0] := by decide +kernel
theorem index_1 : ∀ t : Fin grid0.N, win0_1.index t = ![t.val, 0] := by decide +kernel
theorem index_2 : ∀ t : Fin grid0.N, win0_2.index t = ![0, 0, 5] := by decide +kernel
theorem index_3 : ∀ t : Fin grid0.N, win0_3.index t = ![0, 0] := by decide +kernel
theorem index_4 : ∀ t : Fin grid0.N, win0_4.index t = ![0, 0] := by decide +kernel
theorem index_5 : ∀ t : Fin grid0.N, win0_5.index t = ![t.val, 0] := by decide +kernel

theorem lt_rows (t : Fin cfg0.N) (r : Fin 256) : 256 * t.val + r.val < 4096 := by have := t.isLt.trans_eq N_0; omega
/-- The row of the argument that a point's row `r` is. -/
abbrev rowOf (t : Fin cfg0.N) (r : Fin 256) : Fin 6144 := ⟨256 * t.val + r.val, by have := lt_rows t r; omega⟩

theorem iblk0_apply (c : Dev nD) (t : Fin cfg0.N) (r : Fin 256) (k : Fin 4096) :
    (iblk m c 0 t : Vec Ideal S256x4096 .f32) (ValueIdx.ix2 r k) = argX m c (ValueIdx.ix2 (rowOf t r) k) := by
  refine Eq.trans ?_ (congrFun (V_main_arg0 m c) _)
  blk_simp [iblk]
  refine congrArg (V m c main_arg0 : Vec Ideal S6144x4096 .f32) ?_
  blk_ext [index_0 t]
  exact congrArg (· + _) (Nat.mul_comm _ _)

theorem iblk1_apply (c : Dev nD) (t : Fin cfg0.N) (r : Fin 256) (k : Fin 4096) :
    (iblk m c 1 t : Vec Ideal S256x4096 .f32) (ValueIdx.ix2 r k) = argF m c (ValueIdx.ix2 (rowOf t r) k) := by
  refine Eq.trans ?_ (congrFun (V_main_arg1 m c) _)
  blk_simp [iblk]
  refine congrArg (V m c main_arg1 : Vec Ideal S6144x4096 .f32) ?_
  blk_ext [index_1 t]
  exact congrArg (· + _) (Nat.mul_comm _ _)

theorem iblk2_apply (c : Dev nD) (t : Fin cfg0.N) (k : Fin 4096) :
    (iblk m c 2 t : Vec Ideal S1x1x4096 .f32) (ValueIdx.ix3 0 0 k) = argM m c (ValueIdx.ix2 0 ⟨20480 + k.val, by omega⟩) := by
  rw [← V_main_v0]
  blk_simp [iblk]
  refine congrArg (V m c main_v0 : Vec Ideal S8x1x24576 .f32) ?_
  blk_ext [index_2 t]

theorem iblk3_apply (c : Dev nD) (t : Fin cfg0.N) (k : Fin 4096) :
    (iblk m c 3 t : Vec Ideal S1x4096 .f32) (ValueIdx.ix2 0 k) = argG m c (ValueIdx.ix2 0 k) := by
  refine Eq.trans ?_ (congrFun (V_main_arg3 m c) _)
  blk_simp [iblk]
  refine congrArg (V m c main_arg3 : Vec Ideal S1x4096 .f32) ?_
  blk_ext [index_3 t]

theorem iblk4_apply (c : Dev nD) (t : Fin cfg0.N) (k : Fin 4096) :
    (iblk m c 4 t : Vec Ideal S1x4096 .f32) (ValueIdx.ix2 0 k) = argB m c (ValueIdx.ix2 0 k) := by
  refine Eq.trans ?_ (congrFun (V_main_arg4 m c) _)
  blk_simp [iblk]
  refine congrArg (V m c main_arg4 : Vec Ideal S1x4096 .f32) ?_
  blk_ext [index_4 t]

/-- The call's result at a position. -/
def lastAt (x f : Vec Ideal S6144x4096 .f32) (md : Vec Ideal S8x24576 .f32) (g b : Vec Ideal S1x4096 .f32) (r j : Fin 4096) : EReal :=
  last x f md g b ⟨r.val, by omega⟩ 0 j

/-- What a point computes from its blocks, at a position. -/
theorem pay_iblk (c : Dev nD) (t : Fin cfg0.N) (r : Fin 256) (j : Fin 4096) :
    k0_pay1 (iblk m c 0 t) (iblk m c 2 t) (iblk m c 1 t) (iblk m c 3 t) (iblk m c 4 t) (ValueIdx.ix2 r j)
      = lastAt (argX m c) (argF m c) (argM m c) (argG m c) (argB m c) ⟨256 * t.val + r.val, lt_rows t r⟩ j := by
  refine (pay_apply _ _ _ _ _ r j).trans ?_
  simp only [iblk0_apply, iblk1_apply, iblk2_apply, iblk3_apply, iblk4_apply]
  unfold lastAt last
  rfl

/-- The result array after the run. -/
theorem result (c : Dev nD) :
    (dats m 0 c).arrAt 5 cfg0.N
      = (fun i => lastAt (argX m c) (argF m c) (argM m c) (argG m c) (argB m c) (i 0) (i 1) : Vec Ideal S4096x4096 .f32) := by
  refine (dats m 0 c).arrAt_eq_of_covers 5 _ (by decide +kernel) fun t hf y => ?_
  blk_simp
  rw [after0_5, out_eq]
  refine (congrArg (k0_pay1 (iblk m c 0 t) (iblk m c 2 t) (iblk m c 1 t) (iblk m c 3 t) (iblk m c 4 t)) (ValueIdx.eq_ix2 y)).trans
    ((pay_iblk m c t (y 0) (y 1)).trans ?_)
  generalize argX m c = x, argF m c = f, argM m c = md, argG m c = g, argB m c = b
  refine congrArg₂ (lastAt x f md g b) (Fin.ext ?_) (Fin.ext ?_)
  · blk_simp [index_5 t]; exact congrArg (· + _) (Nat.mul_comm _ _)
  · blk_simp [index_5 t]

end Cert.Kernel7Ideal.Norm

end
-- ==== Proof.NormCtxClaims.lean ====
module

public import proofs.«01_k».proof.Defs
public import proofs.«01_k».proof.Proof.Gen.Kernel7.Frame
public import proofs.«01_k».proof.Proof.NormCtxValue
public import proofs.«01_k».proof.Proof.Gen.Reference7Ideal.Run
public import Idealize.ShloMosaic.Lib.Quiescent

/-! The reference of the context rows' last step read at a position, and the five claims. -/

@[expose] public section

set_option maxRecDepth 4096

noncomputable section

namespace Cert.Reference7Ideal.Norm

open Cert.Reference7Ideal Cert.Reference7Ideal.Gen
open Idealize.ShloMosaic Idealize.ShloMosaic.TcCoe Idealize.ShloMosaic.ValueIdx Idealize.SL.Sem
open Cert.RowNorm

/-- The mean of each row as the reference takes it, -/
def means (z : FVec Ideal S4096x4096 .f32) : FVec Ideal S4096x1 .f32 :=
  Host.divf (broadcastInDim S4096x1 ![0] bcast_S4096_S4096x1_0
      (Host.reduceAdd z (constant S_ .f32 0x00000000#32) reducesTo_S4096x4096_S4096_d1 h_S_))
    (broadcastInDim S4096x1 ![] bcast_S_S4096x1 (constant S_ .f32 0x45800000#32))

/-- the rows less their means, -/
def centred (z : FVec Ideal S4096x4096 .f32) : FVec Ideal S4096x4096 .f32 :=
  subf z (broadcastInDim S4096x4096 ![0, 1] bcast_S4096x1_S4096x4096_0_1 (means z))

/-- and the norm of them. -/
def normRows (z : FVec Ideal S4096x4096 .f32) (g b : FVec Ideal S4096 .f32) : FVec Ideal S4096x4096 .f32 :=
  addf (mulf (mulf (centred z) (broadcastInDim S4096x4096 ![0, 1] bcast_S4096x1_S4096x4096_0_1
        (Host.rsqrt (addf (means (mulf (centred z) (centred z)))
          (broadcastInDim S4096x1 ![] bcast_S_S4096x1 (constant S_ .f32 0x3727C5AC#32))))))
      (broadcastInDim S4096x4096 ![0, 1] bcast_S1x4096_S4096x4096_0_1 (broadcastInDim S1x4096 ![1] bcast_S4096_S1x4096_1 g)))
    (broadcastInDim S4096x4096 ![0, 1] bcast_S1x4096_S4096x4096_0_1 (broadcastInDim S1x4096 ![1] bcast_S4096_S1x4096_1 b))

theorem means_apply (z : FVec Ideal S4096x4096 .f32) (r : Fin 4096) (u : Fin 1) :
    means z (ValueIdx.ix2 r u) = mean (fun k => z (ValueIdx.ix2 r k)) := by
  unfold mean
  pointwise [means]
  rfl

theorem centred_apply (z : FVec Ideal S4096x4096 .f32) (r j : Fin 4096) :
    centred z (ValueIdx.ix2 r j) = z (ValueIdx.ix2 r j) - mean (fun k => z (ValueIdx.ix2 r k)) := by
  rw [← means_apply z r 0]
  pointwise [centred]
  rfl

theorem normRows_apply (z : FVec Ideal S4096x4096 .f32) (g b : FVec Ideal S4096 .f32) (r j : Fin 4096) :
    normRows z g b (ValueIdx.ix2 r j) = normed (fun k => z (ValueIdx.ix2 r k)) (fun k => g (ValueIdx.ix1 k)) (fun k => b (ValueIdx.ix1 k)) j := by
  have hm := (means_apply (mulf (centred z) (centred z)) r 0).trans (congrArg mean (funext fun k =>
    show centred z (ValueIdx.ix2 r k) * centred z (ValueIdx.ix2 r k) = _ by rw [centred_apply]))
  unfold normed
  rw [← centred_apply, ← hm]
  pointwise [normRows]
  rfl

variable (m : (ℓ : Loc nD τ sig) → Buf (Elt Ideal) ℓ) (ρ : Dev nD → PrngReg)

/-- The reference's result as the norm of the mixed rows. -/
theorem res_eq (c : Dev nD) :
    (Value.res_main_v33 m c : FVec Ideal S4096x4096 .f32)
      = normRows (addf (mulf (broadcastInDim S4096x4096 ![] bcast_S_S4096x4096 (constant S_ .f32 0x3F9837F0#32))
          (extractStridedSlice S4096x4096 ![0, 0] (m ((c.tc : Thread nD τ).loc main_arg0)) slices_S6144x4096_S4096x4096_0_0))
        (mulf (broadcastInDim S4096x4096 ![0, 1] bcast_S1x4096_S4096x4096_0_1
            (extractStridedSlice S1x4096 ![0, 20480] (m ((c.tc : Thread nD τ).loc main_arg2)) slices_S8x24576_S1x4096_0_20480))
          (extractStridedSlice S4096x4096 ![0, 0] (m ((c.tc : Thread nD τ).loc main_arg1)) slices_S6144x4096_S4096x4096_0_0)))
        (shapeCast S4096 (m ((c.tc : Thread nD τ).loc main_arg3)) shapeCasts_S1x4096_S4096)
        (shapeCast S4096 (m ((c.tc : Thread nD τ).loc main_arg4)) shapeCasts_S1x4096_S4096) := rfl

/-- The reference's result at a position. -/
theorem res_apply (c : Dev nD) (r j : Fin 4096) :
    (Value.res_main_v33 m c : FVec Ideal S4096x4096 .f32) (ValueIdx.ix2 r j)
      = last (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) ⟨r.val, by omega⟩ 0 j := by
  rw [res_eq, normRows_apply]
  unfold last
  have e : ∀ (a a' g g' b b' : Fin 4096 → EReal), a = a' → g = g' → b = b' → normed a g b j = normed a' g' b' j := by
    rintro _ _ _ _ _ _ rfl rfl rfl; rfl
  refine e _ _ _ _ _ _ (funext fun k => ?_) (funext fun k => shapeCast_1a_a_apply _ _ k) (funext fun k => shapeCast_1a_a_apply _ _ k)
  have h1 : ∀ x : FVec Ideal S6144x4096 .f32, extractStridedSlice S4096x4096 ![0, 0] x slices_S6144x4096_S4096x4096_0_0 (ValueIdx.ix2 r k)
      = x (ValueIdx.ix2 ⟨r.val, by omega⟩ k) := fun x => extractStridedSlice_apply _ _ _ _ _ fun a => by
    match a with
    | ⟨0, _⟩ => exact (Nat.zero_add _).symm
    | ⟨1, _⟩ => exact (Nat.zero_add _).symm
  have h2 : ∀ x : FVec Ideal S8x24576 .f32, broadcastInDim S4096x4096 ![0, 1] bcast_S1x4096_S4096x4096_0_1
      (extractStridedSlice S1x4096 ![0, 20480] x slices_S8x24576_S1x4096_0_20480) (ValueIdx.ix2 r k)
      = x (ValueIdx.ix2 0 ⟨20480 + k.val, by omega⟩) := fun x =>
    (broadcastInDim_apply _ _ _ _ (ValueIdx.ix2 (0 : Fin 1) k) fun a => by
      match a with
      | ⟨0, _⟩ => rfl
      | ⟨1, _⟩ => rfl).trans (extractStridedSlice_apply _ _ _ _ _ fun a => by
        match a with
        | ⟨0, _⟩ => rfl
        | ⟨1, _⟩ => rfl)
  exact congrArg₂ (fun a b : EReal => a + b) (congrArg (_ * ·) (h1 _)) (congrArg₂ (fun a b : EReal => a * b) (h2 _) (h1 _))

/-- The reference's run: its result is the last step of its arguments, which it leaves unchanged. -/
theorem run : θ_run defs (onTc (τ := τ) (main (F := Ideal))) ⟨m, fun _ => 0, ρ⟩ fun r => ∀ c : Dev nD,
    r.2.mem ((c.tc : Thread nD τ).loc main_v33)
      = (fun i => Cert.Kernel7Ideal.Norm.lastAt (m ((c.tc : Thread nD τ).loc main_arg0))
          (m ((c.tc : Thread nD τ).loc main_arg1))
          (m ((c.tc : Thread nD τ).loc main_arg2))
          (m ((c.tc : Thread nD τ).loc main_arg3))
          (m ((c.tc : Thread nD τ).loc main_arg4)) (i 0) (i 1) : FVec Ideal S4096x4096 .f32)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4) :=
  (θ_run defs _ _).mono (fun _ h c => ⟨(h c).1.trans (funext fun i =>
    (congrArg (Value.res_main_v33 m c : FVec Ideal S4096x4096 .f32) (ValueIdx.eq_ix2 i)).trans (res_apply m c (i 0) (i 1))), (h c).2⟩)
    (Value.run m ρ)

end Cert.Reference7Ideal.Norm

namespace Cert.Kernel7Ideal.Norm

open Cert.Kernel7Ideal.Gen
open Idealize.ShloMosaic Idealize.ShloMosaic.TcCoe Idealize.SL.Sem

theorem frame_ideal : Cert.quiescent_Kernel7Ideal := fun m ρ _ => Cert.Kernel7Ideal.Gen.frame m ρ

theorem frame_kernel : Cert.quiescent_Kernel7 := fun m ρ _ => Cert.Kernel7.Gen.frame m ρ

theorem frame_reference : Cert.quiescent_Reference7Ideal := fun m ρ _ =>
  (θ_run Cert.Reference7Ideal.defs _ _).mono (fun r h => ⟨fun c => (h c).2, sem_eq_zero_of_no_sems (by decide) r.2⟩)
    (Cert.Reference7Ideal.Value.run (F := Ideal) m ρ)

/-- At the ideal values the kernel's result is the reference's. -/
theorem algebraic : Cert.algebraic_Kernel7Ideal_Reference7Ideal := fun m ρ m' ρ' _ hag =>
  ⟨fun c => (fun i => lastAt (argX m c) (argF m c) (argM m c) (argG m c) (argB m c) (i 0) (i 1) : Vec Ideal S4096x4096 .f32),
   (θ_run defs _ _).mono (fun _ h c => ⟨(h c).1.trans (result m c), (h c).2⟩) (Value.run_blocks m ρ),
   (θ_run Cert.Reference7Ideal.defs _ _).mono (fun _ h c =>
      ⟨(h c).1.trans (by rw [(hag c).1, (hag c).2.1, (hag c).2.2.1, (hag c).2.2.2.1, (hag c).2.2.2.2]), (h c).2⟩)
     (Cert.Reference7Ideal.Norm.run m' ρ')⟩

end Cert.Kernel7Ideal.Norm

end
-- ==== Proof.NormLatValue.lean ====
module

public import proofs.«01_k».proof.Proof.Gen.Kernel8Ideal.Value
public import proofs.«01_k».proof.Proof.RowNorm
public import Idealize.ShloMosaic.Lib.Pipeline.ValueKit
public import Idealize.ShloMosaic.Lib.Pointwise
public import Idealize.ShloMosaic.Lib.ValueLayout

/-! The latent rows' last step: that the kernel's result array is it at every position. -/

@[expose] public section

set_option maxRecDepth 4096

noncomputable section

namespace Cert.Kernel8Ideal.Norm

open Cert.Kernel8Ideal.Gen
open Idealize.ShloMosaic Idealize.ShloMosaic.TcCoe Idealize.ShloMosaic.Tactic Idealize.ShloMosaic.ValueIdx
open Idealize.SL.Sem
open Idealize.ShloMosaic.Pipeline (Dat)
open Cert.RowNorm

/-- What a point stores, at a position. -/
theorem pay_apply (x : Vec Ideal S256x4096 .f32) (w : Vec Ideal S1x1x4096 .f32) (f : Vec Ideal S256x4096 .f32)
    (g b : Vec Ideal S1x4096 .f32) (r : Fin 256) (j : Fin 4096) :
    k0_pay1 x w f g b (ValueIdx.ix2 r j)
      = normed (mix (fun k => x (ValueIdx.ix2 r k)) (fun k => f (ValueIdx.ix2 r k)) (fun k => w (ValueIdx.ix3 0 0 k)))
          (fun k => g (ValueIdx.ix2 0 k)) (fun k => b (ValueIdx.ix2 0 k)) j := by
  unfold normed mean mix
  pointwise [k0_pay1]
  rfl

/-- A point's stored block is what it computes from its blocks. -/
theorem out_eq (x0 x1 : Vec Ideal S256x4096 .f32) (x2 : Vec Ideal S1x1x4096 .f32) (x3 x4 : Vec Ideal S1x4096 .f32) :
    out0_5 x0 x1 x2 x3 x4 = k0_pay1 x0 x2 x1 x3 x4 := by
  unfold out0_5
  refine (View.canon_cons_unit_lit _ _ [] (by decide)).trans ?_
  rw [View.ld_unit_lit _ x0 (by decide), View.ld_unit_lit _ x1 (by decide), View.ld_unit_lit _ x2 (by decide),
    View.ld_unit_lit _ x3 (by decide), View.ld_unit_lit _ x4 (by decide)]

variable (m : (ℓ : Loc nD τ sig) → Buf (Elt Ideal) ℓ) (ρ : Dev nD → PrngReg)

/-- The arguments on a device. -/
abbrev argX (c : Dev nD) : Vec Ideal S6144x4096 .f32 := m ((c : Thread nD τ).loc main_arg0)
abbrev argF (c : Dev nD) : Vec Ideal S6144x4096 .f32 := m ((c : Thread nD τ).loc main_arg1)
abbrev argM (c : Dev nD) : Vec Ideal S8x24576 .f32 := m ((c : Thread nD τ).loc main_arg2)
abbrev argG (c : Dev nD) : Vec Ideal S1x4096 .f32 := m ((c : Thread nD τ).loc main_arg3)
abbrev argB (c : Dev nD) : Vec Ideal S1x4096 .f32 := m ((c : Thread nD τ).loc main_arg4)

/-- The modulation, as the region finds it. -/
theorem V_main_v0 (c : Dev nD) (p : Fin 8) (k : Fin 24576) :
    (V m c main_v0 : Vec Ideal S8x1x24576 .f32) (ValueIdx.ix3 p 0 k) = argM m c (ValueIdx.ix2 p k) := by
  have e : (V m c main_v0 : Vec Ideal S8x1x24576 .f32) = shapeCast _ (argM m c) shapeCasts_S8x24576_S8x1x24576 := by
    unfold V hostOps0; after_results <;> rfl
  rw [e]
  exact shapeCast_apply _ _ _ _ (by rw [Shape.rowMajor_val_two, Shape.rowMajor_val_three]; show p.val * 24576 + k.val = (p.val * 1 + 0) * 24576 + k.val; omega)

theorem index_0 : ∀ t : Fin grid0.N, win0_0.index t = ![16 + t.val, 0] := by decide +kernel
theorem index_1 : ∀ t : Fin grid0.N, win0_1.index t = ![16 + t.val, 0] := by decide +kernel
theorem index_2 : ∀ t : Fin grid0.N, win0_2.index t = ![1 + t.val / 4, 0, 5] := by decide +kernel
theorem index_3 : ∀ t : Fin grid0.N, win0_3.index t = ![0, 0] := by decide +kernel
theorem index_4 : ∀ t : Fin grid0.N, win0_4.index t = ![0, 0] := by decide +kernel
theorem index_5 : ∀ t : Fin grid0.N, win0_5.index t = ![t.val, 0] := by decide +kernel

theorem lt_rows (t : Fin cfg0.N) (r : Fin 256) : 256 * t.val + r.val < 2048 := by have := t.isLt.trans_eq N_0; omega
/-- The row of the argument that a point's row `r` is. -/
abbrev rowOf (t : Fin cfg0.N) (r : Fin 256) : Fin 6144 := ⟨4096 + (256 * t.val + r.val), by have := lt_rows t r; omega⟩

/-- The modulation row of a point. -/
abbrev groupOf (t : Fin cfg0.N) : Fin 8 := ⟨1 + t.val / 4, by have := t.isLt.trans_eq N_0; omega⟩

theorem iblk0_apply (c : Dev nD) (t : Fin cfg0.N) (r : Fin 256) (k : Fin 4096) :
    (iblk m c 0 t : Vec Ideal S256x4096 .f32) (ValueIdx.ix2 r k) = argX m c (ValueIdx.ix2 (rowOf t r) k) := by
  refine Eq.trans ?_ (congrFun (V_main_arg0 m c) _)
  blk_simp [iblk]
  refine congrArg (V m c main_arg0 : Vec Ideal S6144x4096 .f32) ?_
  blk_ext [index_0 t]
  show (16 + t.val) * 256 + r.val = 4096 + (256 * t.val + r.val)
  omega

theorem iblk1_apply (c : Dev nD) (t : Fin cfg0.N) (r : Fin 256) (k : Fin 4096) :
    (iblk m c 1 t : Vec Ideal S256x4096 .f32) (ValueIdx.ix2 r k) = argF m c (ValueIdx.ix2 (rowOf t r) k) := by
  refine Eq.trans ?_ (congrFun (V_main_arg1 m c) _)
  blk_simp [iblk]
  refine congrArg (V m c main_arg1 : Vec Ideal S6144x4096 .f32) ?_
  blk_ext [index_1 t]
  show (16 + t.val) * 256 + r.val = 4096 + (256 * t.val + r.val)
  omega

theorem iblk2_apply (c : Dev nD) (t : Fin cfg0.N) (k : Fin 4096) :
    (iblk m c 2 t : Vec Ideal S1x1x4096 .f32) (ValueIdx.ix3 0 0 k) = argM m c (ValueIdx.ix2 (groupOf t) ⟨20480 + k.val, by omega⟩) := by
  rw [← V_main_v0]
  blk_simp [iblk]
  refine congrArg (V m c main_v0 : Vec Ideal S8x1x24576 .f32) ?_
  blk_ext [index_2 t]

theorem iblk3_apply (c : Dev nD) (t : Fin cfg0.N) (k : Fin 4096) :
    (iblk m c 3 t : Vec Ideal S1x4096 .f32) (ValueIdx.ix2 0 k) = argG m c (ValueIdx.ix2 0 k) := by
  refine Eq.trans ?_ (congrFun (V_main_arg3 m c) _)
  blk_simp [iblk]
  refine congrArg (V m c main_arg3 : Vec Ideal S1x4096 .f32) ?_
  blk_ext [index_3 t]

theorem iblk4_apply (c : Dev nD) (t : Fin cfg0.N) (k : Fin 4096) :
    (iblk m c 4 t : Vec Ideal S1x4096 .f32) (ValueIdx.ix2 0 k) = argB m c (ValueIdx.ix2 0 k) := by
  refine Eq.trans ?_ (congrFun (V_main_arg4 m c) _)
  blk_simp [iblk]
  refine congrArg (V m c main_arg4 : Vec Ideal S1x4096 .f32) ?_
  blk_ext [index_4 t]

/-- The call's result at a position. -/
def lastAt (x f : Vec Ideal S6144x4096 .f32) (md : Vec Ideal S8x24576 .f32) (g b : Vec Ideal S1x4096 .f32) (r : Fin 2048) (j : Fin 4096) : EReal :=
  last x f md g b ⟨4096 + r.val, by omega⟩ ⟨1 + r.val / 1024, by omega⟩ j

/-- What a point computes from its blocks, at a position. -/
theorem pay_iblk (c : Dev nD) (t : Fin cfg0.N) (r : Fin 256) (j : Fin 4096) :
    k0_pay1 (iblk m c 0 t) (iblk m c 2 t) (iblk m c 1 t) (iblk m c 3 t) (iblk m c 4 t) (ValueIdx.ix2 r j)
      = lastAt (argX m c) (argF m c) (argM m c) (argG m c) (argB m c) ⟨256 * t.val + r.val, lt_rows t r⟩ j := by
  refine (pay_apply _ _ _ _ _ r j).trans ?_
  simp only [iblk0_apply, iblk1_apply, iblk2_apply, iblk3_apply, iblk4_apply]
  have e : groupOf t = ⟨1 + (256 * t.val + r.val) / 1024, by have := lt_rows t r; omega⟩ :=
    Fin.ext (show 1 + t.val / 4 = 1 + (256 * t.val + r.val) / 1024 by omega)
  rw [e]
  unfold lastAt last
  rfl

/-- The result array after the run. -/
theorem result (c : Dev nD) :
    (dats m 0 c).arrAt 5 cfg0.N
      = (fun i => lastAt (argX m c) (argF m c) (argM m c) (argG m c) (argB m c) (i 0) (i 1) : Vec Ideal S2048x4096 .f32) := by
  refine (dats m 0 c).arrAt_eq_of_covers 5 _ (by decide +kernel) fun t hf y => ?_
  blk_simp
  rw [after0_5, out_eq]
  refine (congrArg (k0_pay1 (iblk m c 0 t) (iblk m c 2 t) (iblk m c 1 t) (iblk m c 3 t) (iblk m c 4 t)) (ValueIdx.eq_ix2 y)).trans
    ((pay_iblk m c t (y 0) (y 1)).trans ?_)
  generalize argX m c = x, argF m c = f, argM m c = md, argG m c = g, argB m c = b
  refine congrArg₂ (lastAt x f md g b) (Fin.ext ?_) (Fin.ext ?_)
  · blk_simp [index_5 t]; exact congrArg (· + _) (Nat.mul_comm _ _)
  · blk_simp [index_5 t]

end Cert.Kernel8Ideal.Norm

end
-- ==== Proof.NormLatClaims.lean ====
module

public import proofs.«01_k».proof.Defs
public import proofs.«01_k».proof.Proof.Gen.Kernel8.Frame
public import proofs.«01_k».proof.Proof.NormLatValue
public import proofs.«01_k».proof.Proof.Gen.Reference8Ideal.Run
public import Idealize.ShloMosaic.Lib.Quiescent

/-! The reference of the latent rows' last step read at a position, and the five claims. -/

@[expose] public section

set_option maxRecDepth 4096

noncomputable section

namespace Cert.Reference8Ideal.Norm

open Cert.Reference8Ideal Cert.Reference8Ideal.Gen
open Idealize.ShloMosaic Idealize.ShloMosaic.TcCoe Idealize.ShloMosaic.ValueIdx Idealize.SL.Sem
open Cert.RowNorm

/-- The mean of each row as the reference takes it, -/
def means (z : FVec Ideal S2x1024x4096 .f32) : FVec Ideal S2x1024x1 .f32 :=
  Host.divf (broadcastInDim S2x1024x1 ![0, 1] bcast_S2x1024_S2x1024x1_0_1
      (Host.reduceAdd z (constant S_ .f32 0x00000000#32) reducesTo_S2x1024x4096_S2x1024_d2 h_S_))
    (broadcastInDim S2x1024x1 ![] bcast_S_S2x1024x1 (constant S_ .f32 0x45800000#32))

/-- the rows less their means, -/
def centred (z : FVec Ideal S2x1024x4096 .f32) : FVec Ideal S2x1024x4096 .f32 :=
  subf z (broadcastInDim S2x1024x4096 ![0, 1, 2] bcast_S2x1024x1_S2x1024x4096_0_1_2 (means z))

/-- the norm of them, -/
def normRows (z : FVec Ideal S2x1024x4096 .f32) (g b : FVec Ideal S4096 .f32) : FVec Ideal S2x1024x4096 .f32 :=
  addf (mulf (mulf (centred z) (broadcastInDim S2x1024x4096 ![0, 1, 2] bcast_S2x1024x1_S2x1024x4096_0_1_2
        (Host.rsqrt (addf (means (mulf (centred z) (centred z)))
          (broadcastInDim S2x1024x1 ![] bcast_S_S2x1024x1 (constant S_ .f32 0x3727C5AC#32))))))
      (broadcastInDim S2x1024x4096 ![0, 1, 2] bcast_S1x1x4096_S2x1024x4096_0_1_2
        (broadcastInDim S1x1x4096 ![2] bcast_S4096_S1x1x4096_2 g)))
    (broadcastInDim S2x1024x4096 ![0, 1, 2] bcast_S1x1x4096_S2x1024x4096_0_1_2
      (broadcastInDim S1x1x4096 ![2] bcast_S4096_S1x1x4096_2 b))

/-- and the latent rows of an argument, in their two groups. -/
def latent (x : FVec Ideal S6144x4096 .f32) : FVec Ideal S2x1024x4096 .f32 :=
  shapeCast S2x1024x4096 (extractStridedSlice S2048x4096 ![4096, 0] x slices_S6144x4096_S2048x4096_4096_0) shapeCasts_S2048x4096_S2x1024x4096

theorem means_apply (z : FVec Ideal S2x1024x4096 .f32) (p : Fin 2) (r : Fin 1024) (u : Fin 1) :
    means z (ValueIdx.ix3 p r u) = mean (fun k => z (ValueIdx.ix3 p r k)) := by
  unfold mean
  pointwise [means]
  rfl

theorem centred_apply (z : FVec Ideal S2x1024x4096 .f32) (p : Fin 2) (r : Fin 1024) (j : Fin 4096) :
    centred z (ValueIdx.ix3 p r j) = z (ValueIdx.ix3 p r j) - mean (fun k => z (ValueIdx.ix3 p r k)) := by
  rw [← means_apply z p r 0]
  pointwise [centred]
  rfl

theorem normRows_apply (z : FVec Ideal S2x1024x4096 .f32) (g b : FVec Ideal S4096 .f32) (p : Fin 2) (r : Fin 1024) (j : Fin 4096) :
    normRows z g b (ValueIdx.ix3 p r j)
      = normed (fun k => z (ValueIdx.ix3 p r k)) (fun k => g (ValueIdx.ix1 k)) (fun k => b (ValueIdx.ix1 k)) j := by
  have hm := (means_apply (mulf (centred z) (centred z)) p r 0).trans (congrArg mean (funext fun k =>
    show centred z (ValueIdx.ix3 p r k) * centred z (ValueIdx.ix3 p r k) = _ by rw [centred_apply]))
  unfold normed
  rw [← centred_apply, ← hm]
  pointwise [normRows]
  rfl

theorem latent_apply (x : FVec Ideal S6144x4096 .f32) (p : Fin 2) (r : Fin 1024) (k : Fin 4096) :
    latent x (ValueIdx.ix3 p r k) = x (ValueIdx.ix2 ⟨4096 + (p.val * 1024 + r.val), by omega⟩ k) :=
  (shapeCast_apply _ _ _ (ValueIdx.ix2 (⟨p.val * 1024 + r.val, by omega⟩ : Fin 2048) k) (by
    rw [Shape.rowMajor_val_two, Shape.rowMajor_val_three]; rfl)).trans
  (extractStridedSlice_apply _ _ _ _ _ fun a => by
    match a with
    | ⟨0, _⟩ => rfl
    | ⟨1, _⟩ => exact (Nat.zero_add _).symm)

variable (m : (ℓ : Loc nD τ sig) → Buf (Elt Ideal) ℓ) (ρ : Dev nD → PrngReg)

/-- The reference's result as the norm of the mixed rows. -/
theorem res_eq (c : Dev nD) :
    (Value.res_main_v37 m c : FVec Ideal S2048x4096 .f32)
      = shapeCast S2048x4096 (normRows (addf (mulf (broadcastInDim S2x1024x4096 ![] bcast_S_S2x1024x4096 (constant S_ .f32 0x3F9837F0#32))
          (latent (m ((c.tc : Thread nD τ).loc main_arg0))))
        (mulf (broadcastInDim S2x1024x4096 ![0, 1, 2] bcast_S2x1x4096_S2x1024x4096_0_1_2
            (broadcastInDim S2x1x4096 ![0, 2] bcast_S2x4096_S2x1x4096_0_2
              (extractStridedSlice S2x4096 ![1, 20480] (m ((c.tc : Thread nD τ).loc main_arg2)) slices_S8x24576_S2x4096_1_20480)))
          (latent (m ((c.tc : Thread nD τ).loc main_arg1)))))
        (shapeCast S4096 (m ((c.tc : Thread nD τ).loc main_arg3)) shapeCasts_S1x4096_S4096)
        (shapeCast S4096 (m ((c.tc : Thread nD τ).loc main_arg4)) shapeCasts_S1x4096_S4096)) shapeCasts_S2x1024x4096_S2048x4096 := rfl

/-- The modulation of a group's rows. -/
theorem gate_apply (x : FVec Ideal S8x24576 .f32) (p : Fin 2) (r : Fin 1024) (k : Fin 4096) :
    broadcastInDim S2x1024x4096 ![0, 1, 2] bcast_S2x1x4096_S2x1024x4096_0_1_2 (broadcastInDim S2x1x4096 ![0, 2] bcast_S2x4096_S2x1x4096_0_2
        (extractStridedSlice S2x4096 ![1, 20480] x slices_S8x24576_S2x4096_1_20480)) (ValueIdx.ix3 p r k)
      = x (ValueIdx.ix2 ⟨1 + p.val, by omega⟩ ⟨20480 + k.val, by omega⟩) :=
  (broadcastInDim_apply _ _ _ _ (ValueIdx.ix3 p (0 : Fin 1) k) fun a => by
    match a with
    | ⟨0, _⟩ => rfl
    | ⟨1, _⟩ => rfl
    | ⟨2, _⟩ => rfl).trans
  ((broadcastInDim_apply _ _ _ _ (ValueIdx.ix2 p k) fun a => by
    match a with
    | ⟨0, _⟩ => rfl
    | ⟨1, _⟩ => rfl).trans
  (extractStridedSlice_apply _ _ _ _ _ fun a => by
    match a with
    | ⟨0, _⟩ => rfl
    | ⟨1, _⟩ => rfl))

/-- The reference's result at a position of a group. -/
theorem group_apply (c : Dev nD) (p : Fin 2) (r : Fin 1024) (j : Fin 4096) :
    (Value.res_main_v37 m c : FVec Ideal S2048x4096 .f32) (ValueIdx.ix2 ⟨p.val * 1024 + r.val, by omega⟩ j)
      = last (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4))
          ⟨4096 + (p.val * 1024 + r.val), by omega⟩ ⟨1 + p.val, by omega⟩ j := by
  rw [res_eq]
  refine (shapeCast_apply _ _ _ (ValueIdx.ix3 p r j) (by rw [Shape.rowMajor_val_two, Shape.rowMajor_val_three]; rfl)).trans ?_
  rw [normRows_apply]
  unfold last
  have e : ∀ (a a' g g' b b' : Fin 4096 → EReal), a = a' → g = g' → b = b' → normed a g b j = normed a' g' b' j := by
    rintro _ _ _ _ _ _ rfl rfl rfl; rfl
  refine e _ _ _ _ _ _ (funext fun k => ?_) (funext fun k => shapeCast_1a_a_apply _ _ k) (funext fun k => shapeCast_1a_a_apply _ _ k)
  exact congrArg₂ (fun a b : EReal => a + b) (congrArg (_ * ·) (latent_apply _ p r k))
    (congrArg₂ (fun a b : EReal => a * b) (gate_apply _ p r k) (latent_apply _ p r k))

/-- The reference's result at a position. -/
theorem res_apply (c : Dev nD) (r : Fin 2048) (j : Fin 4096) :
    (Value.res_main_v37 m c : FVec Ideal S2048x4096 .f32) (ValueIdx.ix2 r j)
      = last (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4))
          ⟨4096 + r.val, by omega⟩ ⟨1 + r.val / 1024, by omega⟩ j := by
  have h := group_apply m c ⟨r.val / 1024, by omega⟩ ⟨r.val % 1024, by omega⟩ j
  have e : r.val / 1024 * 1024 + r.val % 1024 = r.val := by omega
  have er : (⟨r.val / 1024 * 1024 + r.val % 1024, by omega⟩ : Fin 2048) = r := Fin.ext e
  have ex : (⟨4096 + (r.val / 1024 * 1024 + r.val % 1024), by omega⟩ : Fin 6144) = ⟨4096 + r.val, by omega⟩ := Fin.ext (congrArg (4096 + ·) e)
  simp only [er, ex] at h
  exact h

/-- The reference's run: its result is the last step of its arguments, which it leaves unchanged. -/
theorem run : θ_run defs (onTc (τ := τ) (main (F := Ideal))) ⟨m, fun _ => 0, ρ⟩ fun r => ∀ c : Dev nD,
    r.2.mem ((c.tc : Thread nD τ).loc main_v37)
      = (fun i => Cert.Kernel8Ideal.Norm.lastAt (m ((c.tc : Thread nD τ).loc main_arg0))
          (m ((c.tc : Thread nD τ).loc main_arg1))
          (m ((c.tc : Thread nD τ).loc main_arg2))
          (m ((c.tc : Thread nD τ).loc main_arg3))
          (m ((c.tc : Thread nD τ).loc main_arg4)) (i 0) (i 1) : FVec Ideal S2048x4096 .f32)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4) :=
  (θ_run defs _ _).mono (fun _ h c => ⟨(h c).1.trans (funext fun i =>
    (congrArg (Value.res_main_v37 m c : FVec Ideal S2048x4096 .f32) (ValueIdx.eq_ix2 i)).trans (res_apply m c (i 0) (i 1))), (h c).2⟩)
    (Value.run m ρ)

end Cert.Reference8Ideal.Norm

namespace Cert.Kernel8Ideal.Norm

open Cert.Kernel8Ideal.Gen
open Idealize.ShloMosaic Idealize.ShloMosaic.TcCoe Idealize.SL.Sem

theorem frame_ideal : Cert.quiescent_Kernel8Ideal := fun m ρ _ => Cert.Kernel8Ideal.Gen.frame m ρ

theorem frame_kernel : Cert.quiescent_Kernel8 := fun m ρ _ => Cert.Kernel8.Gen.frame m ρ

theorem frame_reference : Cert.quiescent_Reference8Ideal := fun m ρ _ =>
  (θ_run Cert.Reference8Ideal.defs _ _).mono (fun r h => ⟨fun c => (h c).2, sem_eq_zero_of_no_sems (by decide) r.2⟩)
    (Cert.Reference8Ideal.Value.run (F := Ideal) m ρ)

/-- At the ideal values the kernel's result is the reference's. -/
theorem algebraic : Cert.algebraic_Kernel8Ideal_Reference8Ideal := fun m ρ m' ρ' _ hag =>
  ⟨fun c => (fun i => lastAt (argX m c) (argF m c) (argM m c) (argG m c) (argB m c) (i 0) (i 1) : Vec Ideal S2048x4096 .f32),
   (θ_run defs _ _).mono (fun _ h c => ⟨(h c).1.trans (result m c), (h c).2⟩) (Value.run_blocks m ρ),
   (θ_run Cert.Reference8Ideal.defs _ _).mono (fun _ h c =>
      ⟨(h c).1.trans (by rw [(hag c).1, (hag c).2.1, (hag c).2.2.1, (hag c).2.2.2.1, (hag c).2.2.2.2]), (h c).2⟩)
     (Cert.Reference8Ideal.Norm.run m' ρ')⟩

end Cert.Kernel8Ideal.Norm

end
-- ==== Proof.ModValue.lean ====
module

public import proofs.«01_k».proof.Proof.Gen.Kernel9Ideal.Value
public import proofs.«01_k».proof.Proof.Dense
public import Idealize.ShloMosaic.Lib.Routing.OpsSet
public import Idealize.ShloMosaic.Lib.Pipeline.ValueKit
public import Idealize.ShloMosaic.Lib.Pointwise
public import Idealize.ShloMosaic.Lib.ValueLayout

/-! The modulation: that the kernel's result array is it at every position. -/

@[expose] public section

set_option maxRecDepth 4096

noncomputable section

namespace Cert.Kernel9Ideal.Mod

open Cert.Kernel9Ideal Cert.Kernel9Ideal.Gen
open Idealize.ShloMosaic Idealize.ShloMosaic.TcCoe Idealize.ShloMosaic.Tactic Idealize.ShloMosaic.ValueIdx
open Idealize.SL.Sem
open Idealize.ShloMosaic.Pipeline (Dat)

/-! ## What the call computes -/

/-- The conditioning's eight rows: the context's, the two samples', and five of zeros, -/
def condRow (cs : Vec Ideal S2x4096 .f32) (cx : Vec Ideal S4096 .f32) (r : Fin 8) (k : Fin 4096) : EReal :=
  if r.val = 0 then cx (ValueIdx.ix1 k)
  else if h : r.val ≤ 2 then cs (ValueIdx.ix2 ⟨r.val - 1, by omega⟩ k) else Ideal.ofBits .f32 0x00000000#32

/-- a value times its logistic function, -/
def silu (x : EReal) : EReal := x * Ideal.logistic x

/-- and the biased product of those rows with the weights. -/
def modulation (cs : Vec Ideal S2x4096 .f32) (cx : Vec Ideal S4096 .f32) (w : Vec Ideal S1x4096x24576 .f32) (b : Vec Ideal S1x24576 .f32)
    (r : Fin 8) (j : Fin 24576) : EReal :=
  ∑ k : Fin 4096, silu (condRow cs cx r k) * w (ValueIdx.ix3 0 k j) + b (ValueIdx.ix2 0 j)

/-! ## What a point stores -/

theorem silu_apply (x : EReal) :
    x * (Ideal.ofBits .f32 0x3F000000#32 * (Ideal.ofBits .f32 0x3F800000#32 + Ideal.tanh (Ideal.ofBits .f32 0x3F000000#32 * x))) = silu x := by
  rw [Ideal.ofBits_one_f32, Dense.ofBits_half, Dense.half_tanh]; rfl

/-- The rows a point multiplies. -/
def act (v0 : Vec Ideal S8x4096 .f32) : FVec Ideal S8x4096 .bf16 :=
  have v1 : FVec Ideal S8x4096 .f32 := shapeCast S8x4096 v0 shapeCasts_S8x4096_S8x4096
  truncf .bf16 (mulf v1 (mulf (broadcast S8x4096 (Scalar.ofBits .f32 0x3F000000#32)) (addf (broadcast S8x4096 (Scalar.ofBits .f32 0x3F800000#32))
    (tanh (mulf (broadcast S8x4096 (Scalar.ofBits .f32 0x3F000000#32)) v1))))) bitsLt_bf16_f32

theorem act_apply (v0 : Vec Ideal S8x4096 .f32) (r : Fin 8) (k : Fin 4096) : act v0 (ValueIdx.ix2 r k) = silu (v0 (ValueIdx.ix2 r k)) := by
  refine Eq.trans ?_ (silu_apply _)
  unfold act
  rw [shapeCast_self]
  rfl

theorem pay_apply (v0 : Vec Ideal S8x4096 .f32) (w : Vec Ideal S4096x512 .f32) (b : Vec Ideal S1x512 .f32) (r : Fin 8) (j : Fin 512) :
    k0_pay1 v0 w b (ValueIdx.ix2 r j)
      = ∑ k : Fin 4096, silu (v0 (ValueIdx.ix2 r k)) * w (ValueIdx.ix2 k j) + b (ValueIdx.ix2 0 j) := by
  have e : k0_pay1 v0 w b = addf (matmul (F := Ideal) (φ₁ := .bf16) (φ₂ := .bf16) (DotDims.plain 8 4096 512) none (act v0)
      (truncf .bf16 (shapeCast S4096x512 w shapeCasts_S4096x512_S4096x512 : FVec Ideal S4096x512 .f32) bitsLt_bf16_f32)
      (constant S8x512 .f32 0x00000000#32)) (broadcastTo S8x512 b broadcasts_S1x512_S8x512) := rfl
  rw [e]
  refine congrArg₂ (fun a b : EReal => a + b) ?_ ?_
  · refine (Ideal.matmul_plain_apply none _ _ _ r j).trans ?_
    rw [show (constant S8x512 .f32 0x00000000#32 : FVec Ideal S8x512 .f32) (ValueIdx.ix2 r j) = 0 from Ideal.ofBits_zero_f32, zero_add]
    refine Finset.sum_congr rfl fun k _ => ?_
    rw [shapeCast_self]
    exact congrArg (fun a : EReal => a * w (ValueIdx.ix2 k j)) (act_apply v0 r k)
  · refine congrArg b (funext fun a => Fin.ext ?_)
    match a with
    | ⟨0, _⟩ => rfl
    | ⟨1, _⟩ => rfl

/-- A point's stored block is what it computes from its blocks. -/
theorem out_eq (x0 : Vec Ideal S8x4096 .f32) (x1 : Vec Ideal S4096x512 .f32) (x2 : Vec Ideal S1x512 .f32) : out0_3 x0 x1 x2 = k0_pay1 x0 x1 x2 := by
  unfold out0_3
  refine (View.canon_cons_unit_lit _ _ [] (by decide)).trans ?_
  rw [View.ld_unit_lit _ x0 (by decide), View.ld_unit_lit _ x1 (by decide), View.ld_unit_lit _ x2 (by decide)]

/-! ## The conditioning's rows, as the host sets them -/

/-- The context's row is set over row 0, -/
theorem lands_one (idx : IVec S1 32) (hi : idx (ValueIdx.ix1 0) = 0#32) (k' : Fin 4096) (r : Fin 8) (k : Fin 4096) :
    scatter_S8x4096_S1_S4096_0_0_0_0.resultIdx? (ValueIdx.ix1 k') idx = some (ValueIdx.ix2 r k) ↔ r.val = 0 ∧ k' = k := by
  have w0 : scatter_S8x4096_S1_S4096_0_0_0_0.window (ValueIdx.ix1 k') 0 = 0 := rfl
  have w1 : scatter_S8x4096_S1_S4096_0_0_0_0.window (ValueIdx.ix1 k') 1 = k'.val := rfl
  have s1 : scatter_S8x4096_S1_S4096_0_0_0_0.start (ValueIdx.ix1 k') idx 1 = 0 := rfl
  have s0 : scatter_S8x4096_S1_S4096_0_0_0_0.start (ValueIdx.ix1 k') idx 0 = 0 := by
    refine (show _ = (idx (ValueIdx.ix1 0)).toInt from congrArg (fun i => (idx i).toInt) (funext fun b => ?_)).trans (by rw [hi]; rfl)
    match b with
    | ⟨0, _⟩ => exact Subsingleton.elim (α := Fin 1) _ _
  rw [Routing.resultIdx?_ix2, s0, s1, w0, w1, Fin.ext_iff]
  omega

/-- and the samples' two rows over rows 1 and 2. -/
theorem lands_two (idx : IVec S1 32) (hi : idx (ValueIdx.ix1 0) = 1#32) (p : Fin 2) (k' : Fin 4096) (r : Fin 8) (k : Fin 4096) :
    scatter_S8x4096_S1_S2x4096_01_n_0_0.resultIdx? (ValueIdx.ix2 p k') idx = some (ValueIdx.ix2 r k) ↔ r.val = 1 + p.val ∧ k' = k := by
  have w0 : scatter_S8x4096_S1_S2x4096_01_n_0_0.window (ValueIdx.ix2 p k') 0 = p.val := rfl
  have w1 : scatter_S8x4096_S1_S2x4096_01_n_0_0.window (ValueIdx.ix2 p k') 1 = k'.val := rfl
  have s1 : scatter_S8x4096_S1_S2x4096_01_n_0_0.start (ValueIdx.ix2 p k') idx 1 = 0 := rfl
  have s0 : scatter_S8x4096_S1_S2x4096_01_n_0_0.start (ValueIdx.ix2 p k') idx 0 = 1 := by
    refine (show _ = (idx (ValueIdx.ix1 0)).toInt from congrArg (fun i => (idx i).toInt) (funext fun b => ?_)).trans (by rw [hi]; rfl)
    match b with
    | ⟨0, _⟩ => exact Subsingleton.elim (α := Fin 1) _ _
  rw [Routing.resultIdx?_ix2, s0, s1, w0, w1, Fin.ext_iff]
  omega

/-- The host's eight rows. -/
theorem rows_apply (z : Vec Ideal S8x4096 .f32) (i0 i1 : IVec S1 32) (h0 : i0 (ValueIdx.ix1 0) = 0#32) (h1 : i1 (ValueIdx.ix1 0) = 1#32)
    (hz : ∀ i, z i = Ideal.ofBits .f32 0x00000000#32) (cs : Vec Ideal S2x4096 .f32) (cx : Vec Ideal S4096 .f32) (r : Fin 8) (k : Fin 4096) :
    Host.scatter scatter_S8x4096_S1_S2x4096_01_n_0_0 (fun _ b => b)
        (Host.scatter scatter_S8x4096_S1_S4096_0_0_0_0 (fun _ b => b) z i0 cx) i1 cs (ValueIdx.ix2 r k)
      = condRow cs cx r k := by
  have two : ∀ j : S2x4096.Idx, scatter_S8x4096_S1_S2x4096_01_n_0_0.resultIdx? j i1 = some (ValueIdx.ix2 r k) → r.val = 1 + (j 0).val ∧ j 1 = k :=
    fun j hj => (lands_two i1 h1 (j 0) (j 1) r k).1 ((congrArg (fun t => scatter_S8x4096_S1_S2x4096_01_n_0_0.resultIdx? t i1) (ValueIdx.eq_ix2 j).symm).trans hj)
  have one : ∀ j : S4096.Idx, scatter_S8x4096_S1_S4096_0_0_0_0.resultIdx? j i0 = some (ValueIdx.ix2 r k) → r.val = 0 ∧ j 0 = k :=
    fun j hj => (lands_one i0 h0 (j 0) r k).1 ((congrArg (fun t => scatter_S8x4096_S1_S4096_0_0_0_0.resultIdx? t i0) (ValueIdx.eq_ix1 j).symm).trans hj)
  unfold condRow
  by_cases hr : r.val = 0
  · rw [if_pos hr]
    refine (Routing.scatter_set_miss _ _ _ _ _ fun j hj => by have := (two j hj).1; omega).trans ?_
    exact Routing.scatter_set_hit _ _ _ _ _ _ (fun j hj => (congrArg cx (ValueIdx.eq_ix1 j)).trans (congrArg (fun t => cx (ValueIdx.ix1 t)) (one j hj).2))
      (ValueIdx.ix1 k) ((lands_one i0 h0 k r k).2 ⟨hr, rfl⟩)
  · rw [if_neg hr]
    by_cases h : r.val ≤ 2
    · rw [dif_pos h]
      refine Routing.scatter_set_hit _ _ _ _ _ _ (fun j hj => (congrArg cs (ValueIdx.eq_ix2 j)).trans ?_)
        (ValueIdx.ix2 ⟨r.val - 1, by omega⟩ k) ((lands_two i1 h1 _ k r k).2 ⟨show r.val = 1 + (r.val - 1) by omega, rfl⟩)
      exact congrArg₂ (fun a b => cs (ValueIdx.ix2 a b)) (Fin.ext (show (j 0).val = r.val - 1 by have := (two j hj).1; omega)) (two j hj).2
    · rw [dif_neg h]
      refine (Routing.scatter_set_miss _ _ _ _ _ fun j hj => ?_).trans
        ((Routing.scatter_set_miss _ _ _ _ _ fun j hj => hr (one j hj).1).trans (hz _))
      have h2 : (j 0).val < 2 := (j 0).isLt
      have := (two j hj).1
      omega

variable (m : (ℓ : Loc nD τ sig) → Buf (Elt Ideal) ℓ) (ρ : Dev nD → PrngReg)

/-- The arguments on a device. -/
abbrev argS (c : Dev nD) : Vec Ideal S2x4096 .f32 := m ((c : Thread nD τ).loc main_arg0)
abbrev argX (c : Dev nD) : Vec Ideal S4096 .f32 := m ((c : Thread nD τ).loc main_arg1)
abbrev argW (c : Dev nD) : Vec Ideal S1x4096x24576 .f32 := m ((c : Thread nD τ).loc main_arg2)
abbrev argB (c : Dev nD) : Vec Ideal S1x24576 .f32 := m ((c : Thread nD τ).loc main_arg3)

theorem V_main_v4 (c : Dev nD) (r : Fin 8) (k : Fin 4096) :
    (V m c main_v4 : Vec Ideal S8x4096 .f32) (ValueIdx.ix2 r k) = condRow (argS m c) (argX m c) r k := by
  have e : (V m c main_v4 : Vec Ideal S8x4096 .f32)
      = Host.scatter scatter_S8x4096_S1_S2x4096_01_n_0_0 (fun _ b => b)
          (Host.scatter scatter_S8x4096_S1_S4096_0_0_0_0 (fun _ b => b)
            (broadcastInDim S8x4096 ![] bcast_S_S8x4096 (constant S_ .f32 0x00000000#32 : FVec Ideal S_ .f32))
            (broadcastInDim S1 ![] bcast_S_S1 (constantI S_ 32 0#32)) (argX m c))
          (broadcastInDim S1 ![] bcast_S_S1 (constantI S_ 32 1#32)) (argS m c) := by
    unfold V hostOps0; after_results <;> rfl
  rw [e]
  exact rows_apply _ _ _ rfl rfl (fun _ => rfl) _ _ r k

theorem V_main_v5 (c : Dev nD) (k : Fin 4096) (j : Fin 24576) :
    (V m c main_v5 : Vec Ideal S4096x24576 .f32) (ValueIdx.ix2 k j) = argW m c (ValueIdx.ix3 0 k j) := by
  have e : (V m c main_v5 : Vec Ideal S4096x24576 .f32) = shapeCast _ (argW m c) shapeCasts_S1x4096x24576_S4096x24576 := by
    unfold V hostOps0; after_results <;> rfl
  rw [e]
  exact shapeCast_1ab_ab_apply _ _ k j

theorem index_0 : ∀ t : Fin grid0.N, win0_0.index t = ![0, 0] := by decide +kernel
theorem index_1 : ∀ t : Fin grid0.N, win0_1.index t = ![0, t.val] := by decide +kernel
theorem index_2 : ∀ t : Fin grid0.N, win0_2.index t = ![0, t.val] := by decide +kernel
theorem index_3 : ∀ t : Fin grid0.N, win0_3.index t = ![0, t.val] := by decide +kernel

theorem lt_cols (t : Fin cfg0.N) (j : Fin 512) : 512 * t.val + j.val < 24576 := by have := t.isLt.trans_eq N_0; omega
/-- The column that a point's column `j` is. -/
abbrev colOf (t : Fin cfg0.N) (j : Fin 512) : Fin 24576 := ⟨512 * t.val + j.val, lt_cols t j⟩

theorem iblk0_apply (c : Dev nD) (t : Fin cfg0.N) (r : Fin 8) (k : Fin 4096) :
    (iblk m c 0 t : Vec Ideal S8x4096 .f32) (ValueIdx.ix2 r k) = condRow (argS m c) (argX m c) r k := by
  rw [← V_main_v4]
  blk_simp [iblk]
  refine congrArg (V m c main_v4 : Vec Ideal S8x4096 .f32) ?_
  blk_ext [index_0 t]

theorem iblk1_apply (c : Dev nD) (t : Fin cfg0.N) (k : Fin 4096) (j : Fin 512) :
    (iblk m c 1 t : Vec Ideal S4096x512 .f32) (ValueIdx.ix2 k j) = argW m c (ValueIdx.ix3 0 k (colOf t j)) := by
  rw [← V_main_v5]
  blk_simp [iblk]
  refine congrArg (V m c main_v5 : Vec Ideal S4096x24576 .f32) ?_
  blk_ext [index_1 t]
  exact congrArg (· + _) (Nat.mul_comm _ _)

theorem iblk2_apply (c : Dev nD) (t : Fin cfg0.N) (j : Fin 512) :
    (iblk m c 2 t : Vec Ideal S1x512 .f32) (ValueIdx.ix2 0 j) = argB m c (ValueIdx.ix2 0 (colOf t j)) := by
  refine Eq.trans ?_ (congrFun (V_main_arg3 m c) _)
  blk_simp [iblk]
  refine congrArg (V m c main_arg3 : Vec Ideal S1x24576 .f32) ?_
  blk_ext [index_2 t]
  exact congrArg (· + _) (Nat.mul_comm _ _)

/-- What a point computes from its blocks, at a position. -/
theorem pay_iblk (c : Dev nD) (t : Fin cfg0.N) (r : Fin 8) (j : Fin 512) :
    k0_pay1 (iblk m c 0 t) (iblk m c 1 t) (iblk m c 2 t) (ValueIdx.ix2 r j)
      = modulation (argS m c) (argX m c) (argW m c) (argB m c) r (colOf t j) :=
  (pay_apply _ _ _ r j).trans (congrArg₂ (fun a b : EReal => a + b) (Finset.sum_congr rfl fun k _ =>
    congrArg₂ (fun a b : EReal => silu a * b) (iblk0_apply m c t r k) (iblk1_apply m c t k j)) (iblk2_apply m c t j))

/-- The result array after the run. -/
theorem result (c : Dev nD) :
    (dats m 0 c).arrAt 3 cfg0.N
      = (fun i => modulation (argS m c) (argX m c) (argW m c) (argB m c) (i 0) (i 1) : Vec Ideal S8x24576 .f32) := by
  refine (dats m 0 c).arrAt_eq_of_covers 3 _ (by decide +kernel) fun t hf y => ?_
  blk_simp
  rw [after0_3, out_eq]
  refine (congrArg (k0_pay1 (iblk m c 0 t) (iblk m c 1 t) (iblk m c 2 t)) (ValueIdx.eq_ix2 y)).trans ((pay_iblk m c t (y 0) (y 1)).trans ?_)
  generalize argS m c = s, argX m c = x, argW m c = w, argB m c = b
  refine congrArg₂ (modulation s x w b) (Fin.ext ?_) (Fin.ext ?_)
  · blk_simp [index_3 t]
  · blk_simp [index_3 t]; exact congrArg (· + _) (Nat.mul_comm _ _)

end Cert.Kernel9Ideal.Mod

end
-- ==== Proof.ModClaims.lean ====
module

public import proofs.«01_k».proof.Defs
public import proofs.«01_k».proof.Proof.Gen.Kernel9.Frame
public import proofs.«01_k».proof.Proof.Gen.Reference9Ideal.Run
public import proofs.«01_k».proof.Proof.ModValue
public import Idealize.ShloMosaic.Lib.Quiescent

/-! The modulation's reference, read at a position, and its five claims. -/

@[expose] public section

set_option maxRecDepth 16384

noncomputable section

namespace Cert.Reference9Ideal.Mod

open Cert.Reference9Ideal Cert.Reference9Ideal.Gen
open Idealize.ShloMosaic Idealize.ShloMosaic.TcCoe Idealize.ShloMosaic.ValueIdx Idealize.SL.Sem
open Cert.Kernel9Ideal.Mod (condRow silu modulation)

/-- The reference's eight rows, one after another. -/
def rows (cs : Vec Ideal S2x4096 .f32) (cx : Vec Ideal S4096 .f32) : FVec Ideal S8x4096 .f32 :=
  concatenate S8x4096 0 [⟨S1x4096, (broadcastInDim S1x4096 ![1] bcast_S4096_S1x4096_1 cx : Vec Ideal S1x4096 .f32)⟩, ⟨S2x4096, cs⟩,
    ⟨S5x4096, (broadcastInDim S5x4096 ![] bcast_S_S5x4096 (constant S_ .f32 0x00000000#32 : FVec Ideal S_ .f32) : Vec Ideal S5x4096 .f32)⟩]
    concatenates_S1x4096_S2x4096_S5x4096_S8x4096_d0

theorem rows_apply (cs : Vec Ideal S2x4096 .f32) (cx : Vec Ideal S4096 .f32) (r : Fin 8) (k : Fin 4096) :
    rows cs cx (ValueIdx.ix2 r k) = condRow cs cx r k := by
  have off : ∀ (n : ℕ) (q : Fin n) (b : Fin 2), b ≠ 0 → ((ValueIdx.ix2 q k : (⟨2, ![n, 4096]⟩ : Shape).Idx) b).val
      = ((ValueIdx.ix2 r k : S8x4096.Idx) b).val := fun n q b hb => by
    match b with
    | ⟨0, _⟩ => exact absurd rfl hb
    | ⟨1, _⟩ => rfl
  unfold condRow rows
  by_cases hr : r.val = 0
  · rw [if_pos hr]
    refine (concatenate_apply_piece 0 _ _ (ValueIdx.ix2 r k) 0 (by exact (by decide : 0 < 3)) S1x4096 _ rfl rfl 0 rfl (ValueIdx.ix2 (0 : Fin 1) k)
      (off 1 0) (show 0 + 0 = r.val by omega)).trans ?_
    refine congrArg cx (funext fun a => ?_)
    match a with
    | ⟨0, _⟩ => rfl
  · rw [if_neg hr]
    by_cases h : r.val ≤ 2
    · rw [dif_pos h]
      exact concatenate_apply_piece 0 _ _ (ValueIdx.ix2 r k) 1 (by exact (by decide : 1 < 3)) S2x4096 cs rfl rfl 1 rfl
        (ValueIdx.ix2 (⟨r.val - 1, by omega⟩ : Fin 2) k) (off 2 _) (show 1 + (r.val - 1) = r.val by omega)
    · rw [dif_neg h]
      have hr8 := r.isLt
      exact (concatenate_apply_piece 0 _ _ (ValueIdx.ix2 r k) 2 (by exact (by decide : 2 < 3)) S5x4096 _ rfl rfl 3 rfl
        (ValueIdx.ix2 (⟨r.val - 3, by omega⟩ : Fin 5) k) (off 5 _) (show 3 + (r.val - 3) = r.val by omega)).trans rfl

/-- The rows times their logistic function. -/
def act (z : FVec Ideal S8x4096 .f32) : FVec Ideal S8x4096 .f32 :=
  mulf z (Host.divf (broadcastInDim S8x4096 ![] bcast_S_S8x4096 (constant S_ .f32 0x3F800000#32))
    (addf (broadcastInDim S8x4096 ![] bcast_S_S8x4096 (constant S_ .f32 0x3F800000#32)) (Host.exp (Host.negf z))))

theorem act_apply (z : FVec Ideal S8x4096 .f32) (i : S8x4096.Idx) : act z i = silu (z i) := by
  unfold silu Ideal.logistic
  rw [← Ideal.ofBits_one_f32]
  rfl

/-- The reference's result, from the rows it multiplies. -/
def result (z : FVec Ideal S8x4096 .f32) (w : FVec Ideal S1x4096x24576 .f32) (b : FVec Ideal S1x24576 .f32) : FVec Ideal S8x24576 .f32 :=
  addf (Host.dotGeneral dot_S8x4096_S4096x24576_S8x24576_1_0_0_1_n_n none (act z) (shapeCast _ w shapeCasts_S1x4096x24576_S4096x24576))
    (broadcastInDim S8x24576 ![0, 1] bcast_S1x24576_S8x24576_0_1 (broadcastInDim S1x24576 ![1] bcast_S24576_S1x24576_1
      (shapeCast _ b shapeCasts_S1x24576_S24576)))

theorem bias_apply (b : FVec Ideal S1x24576 .f32) (r : Fin 8) (j : Fin 24576) :
    (broadcastInDim S8x24576 ![0, 1] bcast_S1x24576_S8x24576_0_1 (broadcastInDim S1x24576 ![1] bcast_S24576_S1x24576_1
      (shapeCast _ b shapeCasts_S1x24576_S24576))) (ValueIdx.ix2 r j) = b (ValueIdx.ix2 0 j) := by
  refine shapeCast_apply b shapeCasts_S1x24576_S24576 _ (ValueIdx.ix2 (0 : Fin 1) j) ?_
  rw [Shape.rowMajor_val_two, Shape.rowMajor_val_one]
  exact (congrArg (fun n : ℕ => n + j.val) (Nat.zero_mul 24576)).trans (Nat.zero_add j.val)

theorem result_apply (z : FVec Ideal S8x4096 .f32) (w : FVec Ideal S1x4096x24576 .f32) (b : FVec Ideal S1x24576 .f32) (r : Fin 8)
    (j : Fin 24576) :
    result z w b (ValueIdx.ix2 r j)
      = ∑ k : Fin 4096, silu (z (ValueIdx.ix2 r k)) * w (ValueIdx.ix3 0 k j) + b (ValueIdx.ix2 0 j) := by
  refine (show _ = (Host.dotGeneral (F := Ideal) (DotDims.plain 8 4096 24576) none (act z)
      (shapeCast S4096x24576 w shapeCasts_S1x4096x24576_S4096x24576) : FVec Ideal S8x24576 .f32) (ValueIdx.ix2 r j)
    + (_ : EReal) from rfl).trans (congrArg₂ (fun a b : EReal => a + b) ?_ (bias_apply b r j))
  refine (Dense.host_product (act z) w shapeCasts_S1x4096x24576_S4096x24576 (ValueIdx.ix2 r j)).trans ?_
  exact Finset.sum_congr rfl fun k _ => congrArg (fun a : EReal => a * w (ValueIdx.ix3 0 k j)) (act_apply z (ValueIdx.ix2 r k))

theorem result_eq (cs : Vec Ideal S2x4096 .f32) (cx : Vec Ideal S4096 .f32) (w : FVec Ideal S1x4096x24576 .f32) (b : FVec Ideal S1x24576 .f32)
    (i : S8x24576.Idx) : result (rows cs cx) w b i = modulation cs cx w b (i 0) (i 1) := by
  refine (congrArg _ (ValueIdx.eq_ix2 i)).trans ((result_apply _ w b (i 0) (i 1)).trans ?_)
  exact congrArg (fun a : EReal => a + b (ValueIdx.ix2 0 (i 1))) (Finset.sum_congr rfl fun k _ =>
    congrArg (fun a : EReal => silu a * w (ValueIdx.ix3 0 k (i 1))) (rows_apply cs cx (i 0) k))

variable (m : (ℓ : Loc nD τ sig) → Buf (Elt Ideal) ℓ) (ρ : Dev nD → PrngReg)

/-- The reference's run: its result is the modulation of its arguments, which it leaves unchanged. -/
theorem run : θ_run defs (onTc (τ := τ) (main (F := Ideal))) ⟨m, fun _ => 0, ρ⟩ fun r => ∀ c : Dev nD,
    r.2.mem ((c.tc : Thread nD τ).loc main_v9)
      = (fun i => modulation (m ((c.tc : Thread nD τ).loc main_arg0)) (m ((c.tc : Thread nD τ).loc main_arg1))
          (m ((c.tc : Thread nD τ).loc main_arg2)) (m ((c.tc : Thread nD τ).loc main_arg3)) (i 0) (i 1) : FVec Ideal S8x24576 .f32)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3) := by
  exact (θ_run defs _ _).mono (fun _ h c => ⟨(h c).1.trans (funext fun i => result_eq _ _ _ _ i), (h c).2⟩) (Value.run m ρ)

end Cert.Reference9Ideal.Mod

namespace Cert.Kernel9Ideal.Mod

open Cert.Kernel9Ideal.Gen
open Idealize.ShloMosaic Idealize.ShloMosaic.TcCoe Idealize.SL.Sem

theorem frame_ideal : Cert.quiescent_Kernel9Ideal := fun m ρ _ => Cert.Kernel9Ideal.Gen.frame m ρ

theorem frame_kernel : Cert.quiescent_Kernel9 := fun m ρ _ => Cert.Kernel9.Gen.frame m ρ

theorem frame_reference : Cert.quiescent_Reference9Ideal := fun m ρ _ =>
  (θ_run Cert.Reference9Ideal.defs _ _).mono (fun r h => ⟨fun c => (h c).2, sem_eq_zero_of_no_sems (by decide) r.2⟩)
    (Cert.Reference9Ideal.Value.run (F := Ideal) m ρ)

/-- At the ideal values the kernel's result is the reference's. -/
theorem algebraic : Cert.algebraic_Kernel9Ideal_Reference9Ideal := fun m ρ m' ρ' _ hag =>
  ⟨fun c => (fun i => modulation (argS m c) (argX m c) (argW m c) (argB m c) (i 0) (i 1) : Vec Ideal S8x24576 .f32),
   (θ_run defs _ _).mono (fun _ h c => ⟨(h c).1.trans (result m c), (h c).2⟩) (Value.run_blocks m ρ),
   (θ_run Cert.Reference9Ideal.defs _ _).mono (fun _ h c =>
      ⟨(h c).1.trans (by rw [(hag c).1, (hag c).2.1, (hag c).2.2.1, (hag c).2.2.2]), (h c).2⟩)
     (Cert.Reference9Ideal.Mod.run m' ρ')⟩

end Cert.Kernel9Ideal.Mod

end
-- ==== Proof.Norm1Value.lean ====
module

public import proofs.«01_k».proof.Proof.Gen.Kernel10Ideal.Value
public import proofs.«01_k».proof.Proof.RowNorm
public import Idealize.ShloMosaic.Lib.Pipeline.ValueKit
public import Idealize.ShloMosaic.Lib.Pointwise
public import Idealize.ShloMosaic.Lib.ValueLayout

/-! The layer's middle step: that the kernel's two result arrays are it at every position. -/

@[expose] public section

set_option maxRecDepth 4096

noncomputable section

namespace Cert.Kernel10Ideal.Norm

open Cert.Kernel10Ideal.Gen
open Idealize.ShloMosaic Idealize.ShloMosaic.TcCoe Idealize.ShloMosaic.Tactic Idealize.ShloMosaic.ValueIdx
open Idealize.SL.Sem
open Idealize.ShloMosaic.Pipeline (Dat)
open Cert.RowNorm

/-! ## What the step computes -/

variable (xp : Vec Ideal S16x256x4096 .f32) (xs : Vec Ideal S2x1024x4096 .f32) (pos : Vec Ideal S1024x4096 .f32) (mx : Vec Ideal S6144x4096 .f32) (md : Vec Ideal S8x24576 .f32) (g b : Vec Ideal S1x4096 .f32)

/-- The residual of a row: a prompt's row, or a sample's row and its position's embedding, -/
def resid (R : Fin 6144) (k : Fin 4096) : EReal :=
  if h : R.val < 4096 then xp (ValueIdx.ix3 ⟨R.val / 256, by omega⟩ ⟨R.val % 256, by omega⟩ k)
  else xs (ValueIdx.ix3 ⟨(R.val - 4096) / 1024, by omega⟩ ⟨(R.val - 4096) % 1024, by omega⟩ k)
    + pos (ValueIdx.ix2 ⟨(R.val - 4096) % 1024, by omega⟩ k)

/-- the modulation's row of it, -/
def group (R : Fin 6144) : Fin 8 := if R.val < 4096 then 0 else ⟨1 + (R.val - 4096) / 1024, by omega⟩

/-- the normalized residual sum, -/
def normAt (R : Fin 6144) (j : Fin 4096) : EReal :=
  normed (mix (resid xp xs pos R) (fun k => mx (ValueIdx.ix2 R k)) (fun k => md (ValueIdx.ix2 (group R) ⟨8192 + k.val, by omega⟩)))
    (fun k => g (ValueIdx.ix2 0 k)) (fun k => b (ValueIdx.ix2 0 k)) j

/-- and that, scaled and shifted by the modulation. -/
def modAt (R : Fin 6144) (j : Fin 4096) : EReal :=
  normAt xp xs pos mx md g b R j * (Ideal.ofBits .f32 0x3F800000#32 + md (ValueIdx.ix2 (group R) ⟨16384 + j.val, by omega⟩))
    + md (ValueIdx.ix2 (group R) ⟨12288 + j.val, by omega⟩)

theorem resid_ctx (R : Fin 6144)
    (p : Fin 16) (r : Fin 256) (h : R.val = 256 * p.val + r.val) (k : Fin 4096) : resid xp xs pos R k = xp (ValueIdx.ix3 p r k) := by
  unfold resid
  rw [dif_pos (by omega)]
  exact congrArg₂ (fun a b => xp (ValueIdx.ix3 a b k)) (Fin.ext (show R.val / 256 = p.val by omega)) (Fin.ext (show R.val % 256 = r.val by omega))

theorem resid_lat (R : Fin 6144)
    (p : Fin 2) (r : Fin 1024) (h : R.val = 4096 + (p.val * 1024 + r.val)) (k : Fin 4096) :
    resid xp xs pos R k = xs (ValueIdx.ix3 p r k) + pos (ValueIdx.ix2 r k) := by
  unfold resid
  rw [dif_neg (by omega)]
  exact congrArg₂ (fun a b => xs (ValueIdx.ix3 a b k) + pos (ValueIdx.ix2 b k)) (Fin.ext (show (R.val - 4096) / 1024 = p.val by omega))
    (Fin.ext (show (R.val - 4096) % 1024 = r.val by omega))

theorem group_ctx (R : Fin 6144) (h : R.val < 4096) : group R = 0 := if_pos h

theorem group_lat (R : Fin 6144) (p : Fin 2) (r : Fin 1024) (h : R.val = 4096 + (p.val * 1024 + r.val)) : group R = ⟨1 + p.val, by omega⟩ :=
  (if_neg (by omega)).trans (Fin.ext (show 1 + (R.val - 4096) / 1024 = 1 + p.val by omega))

/-! ## What a point stores -/

theorem pay3_apply (x : Vec Ideal S256x4096 .f32) (w : Vec Ideal S1x1x4096 .f32) (f : Vec Ideal S256x4096 .f32)
    (g b : Vec Ideal S1x4096 .f32) (r : Fin 256) (j : Fin 4096) :
    k0_pay3 x w f g b (ValueIdx.ix2 r j)
      = normed (mix (fun k => x (ValueIdx.ix2 r k)) (fun k => f (ValueIdx.ix2 r k)) (fun k => w (ValueIdx.ix3 0 0 k)))
          (fun k => g (ValueIdx.ix2 0 k)) (fun k => b (ValueIdx.ix2 0 k)) j := by
  unfold normed mean mix
  pointwise [k0_pay3]
  rfl

theorem pay6_apply (x e : Vec Ideal S256x4096 .f32) (w : Vec Ideal S1x1x4096 .f32) (f : Vec Ideal S256x4096 .f32)
    (g b : Vec Ideal S1x4096 .f32) (r : Fin 256) (j : Fin 4096) :
    k0_pay6 x e w f g b (ValueIdx.ix2 r j)
      = normed (mix (fun k => x (ValueIdx.ix2 r k) + e (ValueIdx.ix2 r k)) (fun k => f (ValueIdx.ix2 r k)) (fun k => w (ValueIdx.ix3 0 0 k)))
          (fun k => g (ValueIdx.ix2 0 k)) (fun k => b (ValueIdx.ix2 0 k)) j := by
  unfold normed mean mix
  pointwise [k0_pay6]
  rfl

theorem pay1_apply (y : Vec Ideal S256x4096 .f32) (s h : Vec Ideal S1x1x4096 .f32) (r : Fin 256) (j : Fin 4096) :
    k0_pay1 y (k0_pay4 s) k0_pay5 h (ValueIdx.ix2 r j)
      = y (ValueIdx.ix2 r j) * (Ideal.ofBits .f32 0x3F800000#32 + s (ValueIdx.ix3 0 0 j)) + h (ValueIdx.ix3 0 0 j) := by
  pointwise [k0_pay1, k0_pay4, k0_pay5]
  rfl

theorem pay2_apply (y : Vec Ideal S256x4096 .f32) (s h : Vec Ideal S1x1x4096 .f32) (r : Fin 256) (j : Fin 4096) :
    k0_pay2 y s h (ValueIdx.ix2 r j)
      = y (ValueIdx.ix2 r j) * (Ideal.ofBits .f32 0x3F800000#32 + s (ValueIdx.ix3 0 0 j)) + h (ValueIdx.ix3 0 0 j) := by
  pointwise [k0_pay2]
  rfl

variable (m : (ℓ : Loc nD τ sig) → Buf (Elt Ideal) ℓ) (ρ : Dev nD → PrngReg)

theorem norm_ctx (c : Dev nD) (t : Fin cfg0.N) (h0 : t.val < 16) (h1 : ¬16 ≤ t.val) :
    (outsAt0 m c t.val t.isLt).1 = k0_pay3 (iblk m c 0 t) (iblk m c 4 t) (iblk m c 3 t) (iblk m c 7 t) (iblk m c 8 t) := by
  rw [outsAt0_A m c t h0 h1]
  frame_out

theorem mod_ctx (c : Dev nD) (t : Fin cfg0.N) (h0 : t.val < 16) (h1 : ¬16 ≤ t.val) :
    (outsAt0 m c t.val t.isLt).2
      = k0_pay1 (k0_pay3 (iblk m c 0 t) (iblk m c 4 t) (iblk m c 3 t) (iblk m c 7 t) (iblk m c 8 t)) (k0_pay4 (iblk m c 6 t)) k0_pay5 (iblk m c 5 t) := by
  rw [outsAt0_A m c t h0 h1]
  frame_out

theorem norm_lat (c : Dev nD) (t : Fin cfg0.N) (h0 : ¬t.val < 16) (h1 : 16 ≤ t.val) :
    (outsAt0 m c t.val t.isLt).1 = k0_pay6 (iblk m c 1 t) (iblk m c 2 t) (iblk m c 4 t) (iblk m c 3 t) (iblk m c 7 t) (iblk m c 8 t) := by
  rw [outsAt0_B m c t h0 h1]
  frame_out

theorem mod_lat (c : Dev nD) (t : Fin cfg0.N) (h0 : ¬t.val < 16) (h1 : 16 ≤ t.val) :
    (outsAt0 m c t.val t.isLt).2
      = k0_pay2 (k0_pay6 (iblk m c 1 t) (iblk m c 2 t) (iblk m c 4 t) (iblk m c 3 t) (iblk m c 7 t) (iblk m c 8 t)) (iblk m c 6 t) (iblk m c 5 t) := by
  rw [outsAt0_B m c t h0 h1]
  frame_out

/-! ## What a point reads -/

/-- The arguments on a device. -/
abbrev argP (c : Dev nD) : Vec Ideal S16x256x4096 .f32 := m ((c : Thread nD τ).loc main_arg0)
abbrev argS (c : Dev nD) : Vec Ideal S2x1024x4096 .f32 := m ((c : Thread nD τ).loc main_arg1)
abbrev argE (c : Dev nD) : Vec Ideal S1024x4096 .f32 := m ((c : Thread nD τ).loc main_arg2)
abbrev argX (c : Dev nD) : Vec Ideal S6144x4096 .f32 := m ((c : Thread nD τ).loc main_arg3)
abbrev argM (c : Dev nD) : Vec Ideal S8x24576 .f32 := m ((c : Thread nD τ).loc main_arg4)
abbrev argG (c : Dev nD) : Vec Ideal S1x4096 .f32 := m ((c : Thread nD τ).loc main_arg5)
abbrev argB (c : Dev nD) : Vec Ideal S1x4096 .f32 := m ((c : Thread nD τ).loc main_arg6)

/-- The prompts' rows, the samples' rows and the modulation, as the region finds them. -/
theorem V_main_v0 (c : Dev nD) (p : Fin 16) (r : Fin 256) (k : Fin 4096) :
    (V m c main_v0 : Vec Ideal S4096x4096 .f32) (ValueIdx.ix2 ⟨p.val * 256 + r.val, by omega⟩ k) = argP m c (ValueIdx.ix3 p r k) := by
  have e : (V m c main_v0 : Vec Ideal S4096x4096 .f32) = shapeCast _ (argP m c) shapeCasts_S16x256x4096_S4096x4096 := by
    unfold V hostOps0; after_results <;> rfl
  rw [e]
  exact shapeCast_apply _ _ _ _ (by rw [Shape.rowMajor_val_two, Shape.rowMajor_val_three]; rfl)

theorem V_main_v1 (c : Dev nD) (p : Fin 2) (r : Fin 1024) (k : Fin 4096) :
    (V m c main_v1 : Vec Ideal S2048x4096 .f32) (ValueIdx.ix2 ⟨p.val * 1024 + r.val, by omega⟩ k) = argS m c (ValueIdx.ix3 p r k) := by
  have e : (V m c main_v1 : Vec Ideal S2048x4096 .f32) = shapeCast _ (argS m c) shapeCasts_S2x1024x4096_S2048x4096 := by
    unfold V hostOps0; after_results <;> rfl
  rw [e]
  exact shapeCast_apply _ _ _ _ (by rw [Shape.rowMajor_val_two, Shape.rowMajor_val_three]; rfl)

theorem V_main_v2 (c : Dev nD) (p : Fin 8) (k : Fin 24576) :
    (V m c main_v2 : Vec Ideal S8x1x24576 .f32) (ValueIdx.ix3 p 0 k) = argM m c (ValueIdx.ix2 p k) := by
  have e : (V m c main_v2 : Vec Ideal S8x1x24576 .f32) = shapeCast _ (argM m c) shapeCasts_S8x24576_S8x1x24576 := by
    unfold V hostOps0; after_results <;> rfl
  rw [e]
  exact shapeCast_apply _ _ _ _ (by rw [Shape.rowMajor_val_two, Shape.rowMajor_val_three]; show p.val * 24576 + k.val = (p.val * 1 + 0) * 24576 + k.val; omega)

/-- The modulation's row at a point. -/
def row (t : ℕ) : ℕ := if t < 16 then 0 else 1 + (t - 16) / 4

theorem index_0 : ∀ t : Fin grid0.N, win0_0.index t = ![min t.val 15, 0] := by decide +kernel
theorem index_1 : ∀ t : Fin grid0.N, win0_1.index t = ![t.val - 16, 0] := by decide +kernel
theorem index_2 : ∀ t : Fin grid0.N, win0_2.index t = ![(t.val - 16) % 4, 0] := by decide +kernel
theorem index_3 : ∀ t : Fin grid0.N, win0_3.index t = ![t.val, 0] := by decide +kernel
theorem index_4 : ∀ t : Fin grid0.N, win0_4.index t = ![row t.val, 0, 2] := by decide +kernel
theorem index_5 : ∀ t : Fin grid0.N, win0_5.index t = ![row t.val, 0, 3] := by decide +kernel
theorem index_6 : ∀ t : Fin grid0.N, win0_6.index t = ![row t.val, 0, 4] := by decide +kernel
theorem index_7 : ∀ t : Fin grid0.N, win0_7.index t = ![0, 0] := by decide +kernel
theorem index_8 : ∀ t : Fin grid0.N, win0_8.index t = ![0, 0] := by decide +kernel
theorem index_9 : ∀ t : Fin grid0.N, win0_9.index t = ![t.val, 0] := by decide +kernel
theorem index_10 : ∀ t : Fin grid0.N, win0_10.index t = ![t.val, 0] := by decide +kernel

theorem lt_24 (t : Fin cfg0.N) : t.val < 24 := t.isLt.trans_eq N_0
theorem lt_rows (t : Fin cfg0.N) (r : Fin 256) : 256 * t.val + r.val < 6144 := by have := lt_24 t; omega
/-- The row that a point's row `r` is. -/
abbrev rowOf (t : Fin cfg0.N) (r : Fin 256) : Fin 6144 := ⟨256 * t.val + r.val, lt_rows t r⟩

theorem group_row (t : Fin cfg0.N) (r : Fin 256) : (group (rowOf t r)).val = row t.val := by
  have := lt_24 t
  unfold row
  by_cases h : t.val < 16
  · rw [if_pos h, group_ctx _ (show 256 * t.val + r.val < 4096 by omega)]; rfl
  · rw [if_neg h, group_lat (rowOf t r) ⟨(t.val - 16) / 4, by omega⟩ ⟨(t.val - 16) % 4 * 256 + r.val, by omega⟩
      (show 256 * t.val + r.val = 4096 + ((t.val - 16) / 4 * 1024 + ((t.val - 16) % 4 * 256 + r.val)) by omega)]

theorem iblk0_apply (c : Dev nD) (t : Fin cfg0.N) (h : t.val < 16) (r : Fin 256) (k : Fin 4096) :
    (iblk m c 0 t : Vec Ideal S256x4096 .f32) (ValueIdx.ix2 r k) = argP m c (ValueIdx.ix3 ⟨t.val, h⟩ r k) := by
  rw [← V_main_v0]
  blk_simp [iblk]
  refine congrArg (V m c main_v0 : Vec Ideal S4096x4096 .f32) ?_
  blk_ext [index_0 t]
  show min t.val 15 * 256 + r.val = t.val * 256 + r.val
  omega

theorem iblk1_apply (c : Dev nD) (t : Fin cfg0.N) (h : ¬t.val < 16) (r : Fin 256) (k : Fin 4096) :
    (iblk m c 1 t : Vec Ideal S256x4096 .f32) (ValueIdx.ix2 r k)
      = argS m c (ValueIdx.ix3 ⟨(t.val - 16) / 4, by have := lt_24 t; omega⟩ ⟨(t.val - 16) % 4 * 256 + r.val, by omega⟩ k) := by
  rw [← V_main_v1]
  blk_simp [iblk]
  refine congrArg (V m c main_v1 : Vec Ideal S2048x4096 .f32) ?_
  blk_ext [index_1 t]
  show (t.val - 16) * 256 + r.val = (t.val - 16) / 4 * 1024 + ((t.val - 16) % 4 * 256 + r.val)
  omega

theorem iblk2_apply (c : Dev nD) (t : Fin cfg0.N) (r : Fin 256) (k : Fin 4096) :
    (iblk m c 2 t : Vec Ideal S256x4096 .f32) (ValueIdx.ix2 r k) = argE m c (ValueIdx.ix2 ⟨(t.val - 16) % 4 * 256 + r.val, by omega⟩ k) := by
  refine Eq.trans ?_ (congrFun (V_main_arg2 m c) _)
  blk_simp [iblk]
  refine congrArg (V m c main_arg2 : Vec Ideal S1024x4096 .f32) ?_
  blk_ext [index_2 t]

theorem iblk3_apply (c : Dev nD) (t : Fin cfg0.N) (r : Fin 256) (k : Fin 4096) :
    (iblk m c 3 t : Vec Ideal S256x4096 .f32) (ValueIdx.ix2 r k) = argX m c (ValueIdx.ix2 (rowOf t r) k) := by
  refine Eq.trans ?_ (congrFun (V_main_arg3 m c) _)
  blk_simp [iblk]
  refine congrArg (V m c main_arg3 : Vec Ideal S6144x4096 .f32) ?_
  blk_ext [index_3 t]
  exact congrArg (· + _) (Nat.mul_comm _ _)

theorem iblk4_apply (c : Dev nD) (t : Fin cfg0.N) (r : Fin 256) (k : Fin 4096) :
    (iblk m c 4 t : Vec Ideal S1x1x4096 .f32) (ValueIdx.ix3 0 0 k) = argM m c (ValueIdx.ix2 (group (rowOf t r)) ⟨8192 + k.val, by omega⟩) := by
  rw [← V_main_v2]
  blk_simp [iblk]
  refine congrArg (V m c main_v2 : Vec Ideal S8x1x24576 .f32) ?_
  blk_ext [index_4 t]
  exact (group_row t r).symm

theorem iblk5_apply (c : Dev nD) (t : Fin cfg0.N) (r : Fin 256) (k : Fin 4096) :
    (iblk m c 5 t : Vec Ideal S1x1x4096 .f32) (ValueIdx.ix3 0 0 k) = argM m c (ValueIdx.ix2 (group (rowOf t r)) ⟨12288 + k.val, by omega⟩) := by
  rw [← V_main_v2]
  blk_simp [iblk]
  refine congrArg (V m c main_v2 : Vec Ideal S8x1x24576 .f32) ?_
  blk_ext [index_5 t]
  exact (group_row t r).symm

theorem iblk6_apply (c : Dev nD) (t : Fin cfg0.N) (r : Fin 256) (k : Fin 4096) :
    (iblk m c 6 t : Vec Ideal S1x1x4096 .f32) (ValueIdx.ix3 0 0 k) = argM m c (ValueIdx.ix2 (group (rowOf t r)) ⟨16384 + k.val, by omega⟩) := by
  rw [← V_main_v2]
  blk_simp [iblk]
  refine congrArg (V m c main_v2 : Vec Ideal S8x1x24576 .f32) ?_
  blk_ext [index_6 t]
  exact (group_row t r).symm

theorem iblk7_apply (c : Dev nD) (t : Fin cfg0.N) (k : Fin 4096) :
    (iblk m c 7 t : Vec Ideal S1x4096 .f32) (ValueIdx.ix2 0 k) = argG m c (ValueIdx.ix2 0 k) := by
  refine Eq.trans ?_ (congrFun (V_main_arg5 m c) _)
  blk_simp [iblk]
  refine congrArg (V m c main_arg5 : Vec Ideal S1x4096 .f32) ?_
  blk_ext [index_7 t]

theorem iblk8_apply (c : Dev nD) (t : Fin cfg0.N) (k : Fin 4096) :
    (iblk m c 8 t : Vec Ideal S1x4096 .f32) (ValueIdx.ix2 0 k) = argB m c (ValueIdx.ix2 0 k) := by
  refine Eq.trans ?_ (congrFun (V_main_arg6 m c) _)
  blk_simp [iblk]
  refine congrArg (V m c main_arg6 : Vec Ideal S1x4096 .f32) ?_
  blk_ext [index_8 t]

/-! ## What a point leaves, and the results -/

theorem normed_congr {x x' f f' w w' g g' b b' : Fin 4096 → EReal} (hx : ∀ k, x k = x' k) (hf : ∀ k, f k = f' k) (hw : ∀ k, w k = w' k)
    (hg : ∀ k, g k = g' k) (hb : ∀ k, b k = b' k) (j : Fin 4096) : normed (mix x f w) g b j = normed (mix x' f' w') g' b' j := by
  rw [funext hx, funext hf, funext hw, funext hg, funext hb]

/-- The first result of the call at a position. -/
abbrev norm (c : Dev nD) (R : Fin 6144) (j : Fin 4096) : EReal :=
  normAt (argP m c) (argS m c) (argE m c) (argX m c) (argM m c) (argG m c) (argB m c) R j

/-- The second. -/
abbrev modulated (c : Dev nD) (R : Fin 6144) (j : Fin 4096) : EReal :=
  modAt (argP m c) (argS m c) (argE m c) (argX m c) (argM m c) (argG m c) (argB m c) R j

theorem pay3_iblk (c : Dev nD) (t : Fin cfg0.N) (h : t.val < 16) (r : Fin 256) (j : Fin 4096) :
    k0_pay3 (iblk m c 0 t) (iblk m c 4 t) (iblk m c 3 t) (iblk m c 7 t) (iblk m c 8 t) (ValueIdx.ix2 r j) = norm m c (rowOf t r) j :=
  (pay3_apply _ _ _ _ _ r j).trans (normed_congr
    (fun k => (iblk0_apply m c t h r k).trans (resid_ctx _ _ _ (rowOf t r) ⟨t.val, h⟩ r rfl k).symm)
    (fun k => iblk3_apply m c t r k) (fun k => iblk4_apply m c t r k) (fun k => iblk7_apply m c t k) (fun k => iblk8_apply m c t k) j)

theorem pay6_iblk (c : Dev nD) (t : Fin cfg0.N) (h : ¬t.val < 16) (r : Fin 256) (j : Fin 4096) :
    k0_pay6 (iblk m c 1 t) (iblk m c 2 t) (iblk m c 4 t) (iblk m c 3 t) (iblk m c 7 t) (iblk m c 8 t) (ValueIdx.ix2 r j)
      = norm m c (rowOf t r) j :=
  (pay6_apply _ _ _ _ _ _ r j).trans (normed_congr
    (fun k => (congrArg₂ (fun a b : EReal => a + b) (iblk1_apply m c t h r k) (iblk2_apply m c t r k)).trans
      (resid_lat _ _ _ (rowOf t r) ⟨(t.val - 16) / 4, by have := lt_24 t; omega⟩ ⟨(t.val - 16) % 4 * 256 + r.val, by omega⟩
        (show 256 * t.val + r.val = 4096 + ((t.val - 16) / 4 * 1024 + ((t.val - 16) % 4 * 256 + r.val)) by omega) k).symm)
    (fun k => iblk3_apply m c t r k) (fun k => iblk4_apply m c t r k) (fun k => iblk7_apply m c t k) (fun k => iblk8_apply m c t k) j)

theorem mod_congr {y y' s s' h h' : EReal} (hy : y = y') (hs : s = s') (hh : h = h') :
    y * (Ideal.ofBits .f32 0x3F800000#32 + s) + h = y' * (Ideal.ofBits .f32 0x3F800000#32 + s') + h' := by
  rw [hy, hs, hh]

theorem out1_apply (c : Dev nD) (t : Fin cfg0.N) (r : Fin 256) (j : Fin 4096) :
    (outsAt0 m c t.val t.isLt).1 (ValueIdx.ix2 r j) = norm m c (rowOf t r) j := by
  by_cases h : t.val < 16
  · rw [norm_ctx m c t h (by omega)]; exact pay3_iblk m c t h r j
  · rw [norm_lat m c t h (by omega)]; exact pay6_iblk m c t h r j

theorem out2_apply (c : Dev nD) (t : Fin cfg0.N) (r : Fin 256) (j : Fin 4096) :
    (outsAt0 m c t.val t.isLt).2 (ValueIdx.ix2 r j) = modulated m c (rowOf t r) j := by
  by_cases h : t.val < 16
  · rw [mod_ctx m c t h (by omega)]
    exact (pay1_apply _ _ _ r j).trans (mod_congr (pay3_iblk m c t h r j) (iblk6_apply m c t r j) (iblk5_apply m c t r j))
  · rw [mod_lat m c t h (by omega)]
    exact (pay2_apply _ _ _ r j).trans (mod_congr (pay6_iblk m c t h r j) (iblk6_apply m c t r j) (iblk5_apply m c t r j))

/-- The first result array after the run, -/
theorem result1 (c : Dev nD) :
    (dats m 0 c).arrAt 9 cfg0.N = (fun i => norm m c (i 0) (i 1) : Vec Ideal S6144x4096 .f32) := by
  refine (dats m 0 c).arrAt_eq_of_covers 9 _ (by decide +kernel) fun t hf y => ?_
  blk_simp
  rw [after0_9]
  refine (congrArg (outsAt0 m c t.val t.isLt).1 (ValueIdx.eq_ix2 y)).trans ((out1_apply m c t (y 0) (y 1)).trans ?_)
  refine congrArg₂ (norm m c) (Fin.ext ?_) (Fin.ext ?_)
  · blk_simp [index_9 t]; exact congrArg (· + _) (Nat.mul_comm _ _)
  · blk_simp [index_9 t]

/-- and the second. -/
theorem result2 (c : Dev nD) :
    (dats m 0 c).arrAt 10 cfg0.N = (fun i => modulated m c (i 0) (i 1) : Vec Ideal S6144x4096 .bf16) := by
  refine (dats m 0 c).arrAt_eq_of_covers 10 _ (by decide +kernel) fun t hf y => ?_
  blk_simp
  rw [after0_10]
  refine (congrArg (outsAt0 m c t.val t.isLt).2 (ValueIdx.eq_ix2 y)).trans ((out2_apply m c t (y 0) (y 1)).trans ?_)
  refine congrArg₂ (modulated m c) (Fin.ext ?_) (Fin.ext ?_)
  · blk_simp [index_10 t]; exact congrArg (· + _) (Nat.mul_comm _ _)
  · blk_simp [index_10 t]

end Cert.Kernel10Ideal.Norm

end
-- ==== Proof.Norm1Reference.lean ====
module

public import proofs.«01_k».proof.Proof.Norm1Value
public import proofs.«01_k».proof.Proof.Gen.Reference10Ideal.Run
public import Idealize.ShloMosaic.Lib.Pipeline.Value

/-! The reference of the layer's middle step, read at a position. -/

@[expose] public section

set_option maxRecDepth 8192

noncomputable section

namespace Cert.Reference10Ideal.Norm

open Cert.Reference10Ideal Cert.Reference10Ideal.Gen
open Idealize.ShloMosaic Idealize.ShloMosaic.TcCoe Idealize.ShloMosaic.ValueIdx Idealize.SL.Sem
open Cert.RowNorm
open Cert.Kernel10Ideal.Norm (resid group normAt modAt resid_ctx resid_lat group_ctx group_lat normed_congr)

theorem at_col (md : FVec Ideal S8x24576 .f32) (R : Fin 8) {a b : ℕ} (ha : a < 24576) (hb : b < 24576) (h : a = b) :
    md (ValueIdx.ix2 R ⟨a, ha⟩) = md (ValueIdx.ix2 R ⟨b, hb⟩) := by subst h; rfl

/-- The mean of each prompts' row as the reference takes it, -/
def meansC (z : FVec Ideal S16x256x4096 .f32) : FVec Ideal S16x256x1 .f32 :=
  Host.divf (broadcastInDim S16x256x1 ![0, 1] bcast_S16x256_S16x256x1_0_1
      (Host.reduceAdd z (constant S_ .f32 0x00000000#32) reducesTo_S16x256x4096_S16x256_d2 h_S_))
    (broadcastInDim S16x256x1 ![] bcast_S_S16x256x1 (constant S_ .f32 0x45800000#32))

/-- the rows less their means, -/
def centredC (z : FVec Ideal S16x256x4096 .f32) : FVec Ideal S16x256x4096 .f32 :=
  subf z (broadcastInDim S16x256x4096 ![0, 1, 2] bcast_S16x256x1_S16x256x4096_0_1_2 (meansC z))

/-- the norm of them, -/
def normRowsC (z : FVec Ideal S16x256x4096 .f32) (g b : FVec Ideal S4096 .f32) : FVec Ideal S16x256x4096 .f32 :=
  addf (mulf (mulf (centredC z) (broadcastInDim S16x256x4096 ![0, 1, 2] bcast_S16x256x1_S16x256x4096_0_1_2
        (Host.rsqrt (addf (meansC (mulf (centredC z) (centredC z)))
          (broadcastInDim S16x256x1 ![] bcast_S_S16x256x1 (constant S_ .f32 0x3727C5AC#32))))))
      (broadcastInDim S16x256x4096 ![0, 1, 2] bcast_S1x1x4096_S16x256x4096_0_1_2
        (broadcastInDim S1x1x4096 ![2] bcast_S4096_S1x1x4096_2 g)))
    (broadcastInDim S16x256x4096 ![0, 1, 2] bcast_S1x1x4096_S16x256x4096_0_1_2
      (broadcastInDim S1x1x4096 ![2] bcast_S4096_S1x1x4096_2 b))

theorem meansC_apply (z : FVec Ideal S16x256x4096 .f32) (p : Fin 16) (r : Fin 256) (u : Fin 1) :
    meansC z (ValueIdx.ix3 p r u) = mean (fun k => z (ValueIdx.ix3 p r k)) := by
  unfold mean
  pointwise [meansC]
  rfl

theorem centredC_apply (z : FVec Ideal S16x256x4096 .f32) (p : Fin 16) (r : Fin 256) (j : Fin 4096) :
    centredC z (ValueIdx.ix3 p r j) = z (ValueIdx.ix3 p r j) - mean (fun k => z (ValueIdx.ix3 p r k)) := by
  rw [← meansC_apply z p r 0]
  pointwise [centredC]
  rfl

theorem normRowsC_apply (z : FVec Ideal S16x256x4096 .f32) (g b : FVec Ideal S4096 .f32) (p : Fin 16) (r : Fin 256) (j : Fin 4096) :
    normRowsC z g b (ValueIdx.ix3 p r j)
      = normed (fun k => z (ValueIdx.ix3 p r k)) (fun k => g (ValueIdx.ix1 k)) (fun k => b (ValueIdx.ix1 k)) j := by
  have hm := (meansC_apply (mulf (centredC z) (centredC z)) p r 0).trans (congrArg mean (funext fun k =>
    show centredC z (ValueIdx.ix3 p r k) * centredC z (ValueIdx.ix3 p r k) = _ by rw [centredC_apply]))
  unfold normed
  rw [← centredC_apply, ← hm]
  pointwise [normRowsC]
  rfl

/-- A sixth of the modulation's prompts' rows, -/
def pieceC (o : ℕ) (h : S1x1x12288.Slices ![0, 0, o] S1x1x4096) (x : FVec Ideal S8x24576 .f32) : FVec Ideal S1x1x4096 .f32 :=
  extractStridedSlice S1x1x4096 ![0, 0, o] (broadcastInDim S1x1x12288 ![0, 2] bcast_S1x12288_S1x1x12288_0_2
    (extractStridedSlice S1x12288 ![0, 8192] (extractStridedSlice S1x24576 ![0, 0] x slices_S8x24576_S1x24576_0_0)
      slices_S1x24576_S1x12288_0_8192)) h

/-- their residual sum, -/
def sumC (xp : FVec Ideal S16x256x4096 .f32) (mx : FVec Ideal S6144x4096 .f32) (md : FVec Ideal S8x24576 .f32) : FVec Ideal S16x256x4096 .f32 :=
  addf (mulf (broadcastInDim S16x256x4096 ![] bcast_S_S16x256x4096 (constant S_ .f32 0x3F9837F0#32)) xp)
    (mulf (broadcastInDim S16x256x4096 ![0, 1, 2] bcast_S1x1x4096_S16x256x4096_0_1_2 (pieceC 0 slices_S1x1x12288_S1x1x4096_0_0_0 md))
      (shapeCast S16x256x4096 (extractStridedSlice S4096x4096 ![0, 0] mx slices_S6144x4096_S4096x4096_0_0) shapeCasts_S4096x4096_S16x256x4096))

/-- and a normalized array, scaled and shifted. -/
def modC (y : FVec Ideal S16x256x4096 .f32) (md : FVec Ideal S8x24576 .f32) : FVec Ideal S16x256x4096 .f32 :=
  addf (mulf y (broadcastInDim S16x256x4096 ![0, 1, 2] bcast_S1x1x4096_S16x256x4096_0_1_2
      (addf (broadcastInDim S1x1x4096 ![] bcast_S_S1x1x4096 (constant S_ .f32 0x3F800000#32)) (pieceC 8192 slices_S1x1x12288_S1x1x4096_0_0_8192 md))))
    (broadcastInDim S16x256x4096 ![0, 1, 2] bcast_S1x1x4096_S16x256x4096_0_1_2 (pieceC 4096 slices_S1x1x12288_S1x1x4096_0_0_4096 md))

theorem pieceC_apply (o : ℕ) (h : S1x1x12288.Slices ![0, 0, o] S1x1x4096) (ho : o + 4096 ≤ 12288) (x : FVec Ideal S8x24576 .f32) (p : Fin 1) (k : Fin 4096) :
    pieceC o h x (ValueIdx.ix3 p (0 : Fin 1) k) = x (ValueIdx.ix2 ⟨0 + p.val, by omega⟩ ⟨8192 + (o + k.val), by omega⟩) :=
  (extractStridedSlice_apply _ _ _ _ (ValueIdx.ix3 p (0 : Fin 1) (⟨o + k.val, by omega⟩ : Fin 12288)) fun a => by
    match a with
    | ⟨0, _⟩ => exact (Nat.zero_add _).symm
    | ⟨1, _⟩ => rfl
    | ⟨2, _⟩ => rfl).trans
  ((broadcastInDim_apply _ _ _ _ (ValueIdx.ix2 p (⟨o + k.val, by omega⟩ : Fin 12288)) fun a => by
    match a with
    | ⟨0, _⟩ => exact Nat.lt_one_iff.1 p.isLt
    | ⟨1, _⟩ => rfl).trans
  ((extractStridedSlice_apply _ _ _ _ (ValueIdx.ix2 p (⟨8192 + (o + k.val), by omega⟩ : Fin 24576)) fun a => by
    match a with
    | ⟨0, _⟩ => exact (Nat.zero_add _).symm
    | ⟨1, _⟩ => rfl).trans
  (extractStridedSlice_apply _ _ _ _ _ fun a => by
    match a with
    | ⟨0, _⟩ => rfl
    | ⟨1, _⟩ => exact (Nat.zero_add _).symm)))

theorem wideC (x : FVec Ideal S1x1x4096 .f32) (p : Fin 16) (r : Fin 256) (k : Fin 4096) :
    broadcastInDim S16x256x4096 ![0, 1, 2] bcast_S1x1x4096_S16x256x4096_0_1_2 x (ValueIdx.ix3 p r k) = x (ValueIdx.ix3 (0 : Fin 1) (0 : Fin 1) k) :=
  broadcastInDim_apply _ _ _ _ _ fun a => by
    match a with
    | ⟨0, _⟩ => rfl
    | ⟨1, _⟩ => rfl
    | ⟨2, _⟩ => rfl

theorem rowsC_apply (x : FVec Ideal S6144x4096 .f32) (p : Fin 16) (r : Fin 256) (k : Fin 4096) :
    shapeCast S16x256x4096 (extractStridedSlice S4096x4096 ![0, 0] x slices_S6144x4096_S4096x4096_0_0) shapeCasts_S4096x4096_S16x256x4096 (ValueIdx.ix3 p r k)
      = x (ValueIdx.ix2 ⟨p.val * 256 + r.val, by omega⟩ k) :=
  (shapeCast_apply _ _ _ (ValueIdx.ix2 (⟨p.val * 256 + r.val, by omega⟩ : Fin 4096) k) (by
    rw [Shape.rowMajor_val_two, Shape.rowMajor_val_three]; rfl)).trans
  (extractStridedSlice_apply _ _ _ _ _ fun a => by
    match a with
    | ⟨0, _⟩ => exact (Nat.zero_add _).symm
    | ⟨1, _⟩ => exact (Nat.zero_add _).symm)

theorem modC_apply (y : FVec Ideal S16x256x4096 .f32) (md : FVec Ideal S8x24576 .f32) (p : Fin 16) (r : Fin 256) (j : Fin 4096) :
    modC y md (ValueIdx.ix3 p r j)
      = y (ValueIdx.ix3 p r j) * (Ideal.ofBits .f32 0x3F800000#32 + md (ValueIdx.ix2 0 ⟨16384 + j.val, by omega⟩))
        + md (ValueIdx.ix2 0 ⟨12288 + j.val, by omega⟩) := by
  have hs := (wideC (addf (broadcastInDim S1x1x4096 ![] bcast_S_S1x1x4096 (constant S_ .f32 0x3F800000#32)) (pieceC 8192 slices_S1x1x12288_S1x1x4096_0_0_8192 md)) p r j).trans
    (congrArg (Ideal.ofBits .f32 0x3F800000#32 + ·) ((pieceC_apply 8192 slices_S1x1x12288_S1x1x4096_0_0_8192 (by omega) md (0 : Fin 1) j).trans
      (at_col md 0 _ (by omega) (show 8192 + (8192 + j.val) = 16384 + j.val by omega))))
  have hh := (wideC (pieceC 4096 slices_S1x1x12288_S1x1x4096_0_0_4096 md) p r j).trans
    ((pieceC_apply 4096 slices_S1x1x12288_S1x1x4096_0_0_4096 (by omega) md (0 : Fin 1) j).trans
      (at_col md 0 _ (by omega) (show 8192 + (4096 + j.val) = 12288 + j.val by omega)))
  exact congrArg₂ (fun a b : EReal => a + b) (congrArg (y (ValueIdx.ix3 p r j) * ·) hs) hh

/-- The mean of each samples' row as the reference takes it, -/
def meansL (z : FVec Ideal S2x1024x4096 .f32) : FVec Ideal S2x1024x1 .f32 :=
  Host.divf (broadcastInDim S2x1024x1 ![0, 1] bcast_S2x1024_S2x1024x1_0_1
      (Host.reduceAdd z (constant S_ .f32 0x00000000#32) reducesTo_S2x1024x4096_S2x1024_d2 h_S_))
    (broadcastInDim S2x1024x1 ![] bcast_S_S2x1024x1 (constant S_ .f32 0x45800000#32))

/-- the rows less their means, -/
def centredL (z : FVec Ideal S2x1024x4096 .f32) : FVec Ideal S2x1024x4096 .f32 :=
  subf z (broadcastInDim S2x1024x4096 ![0, 1, 2] bcast_S2x1024x1_S2x1024x4096_0_1_2 (meansL z))

/-- the norm of them, -/
def normRowsL (z : FVec Ideal S2x1024x4096 .f32) (g b : FVec Ideal S4096 .f32) : FVec Ideal S2x1024x4096 .f32 :=
  addf (mulf (mulf (centredL z) (broadcastInDim S2x1024x4096 ![0, 1, 2] bcast_S2x1024x1_S2x1024x4096_0_1_2
        (Host.rsqrt (addf (meansL (mulf (centredL z) (centredL z)))
          (broadcastInDim S2x1024x1 ![] bcast_S_S2x1024x1 (constant S_ .f32 0x3727C5AC#32))))))
      (broadcastInDim S2x1024x4096 ![0, 1, 2] bcast_S1x1x4096_S2x1024x4096_0_1_2
        (broadcastInDim S1x1x4096 ![2] bcast_S4096_S1x1x4096_2 g)))
    (broadcastInDim S2x1024x4096 ![0, 1, 2] bcast_S1x1x4096_S2x1024x4096_0_1_2
      (broadcastInDim S1x1x4096 ![2] bcast_S4096_S1x1x4096_2 b))

theorem meansL_apply (z : FVec Ideal S2x1024x4096 .f32) (p : Fin 2) (r : Fin 1024) (u : Fin 1) :
    meansL z (ValueIdx.ix3 p r u) = mean (fun k => z (ValueIdx.ix3 p r k)) := by
  unfold mean
  pointwise [meansL]
  rfl

theorem centredL_apply (z : FVec Ideal S2x1024x4096 .f32) (p : Fin 2) (r : Fin 1024) (j : Fin 4096) :
    centredL z (ValueIdx.ix3 p r j) = z (ValueIdx.ix3 p r j) - mean (fun k => z (ValueIdx.ix3 p r k)) := by
  rw [← meansL_apply z p r 0]
  pointwise [centredL]
  rfl

theorem normRowsL_apply (z : FVec Ideal S2x1024x4096 .f32) (g b : FVec Ideal S4096 .f32) (p : Fin 2) (r : Fin 1024) (j : Fin 4096) :
    normRowsL z g b (ValueIdx.ix3 p r j)
      = normed (fun k => z (ValueIdx.ix3 p r k)) (fun k => g (ValueIdx.ix1 k)) (fun k => b (ValueIdx.ix1 k)) j := by
  have hm := (meansL_apply (mulf (centredL z) (centredL z)) p r 0).trans (congrArg mean (funext fun k =>
    show centredL z (ValueIdx.ix3 p r k) * centredL z (ValueIdx.ix3 p r k) = _ by rw [centredL_apply]))
  unfold normed
  rw [← centredL_apply, ← hm]
  pointwise [normRowsL]
  rfl

/-- A sixth of the modulation's samples' rows, -/
def pieceL (o : ℕ) (h : S2x1x12288.Slices ![0, 0, o] S2x1x4096) (x : FVec Ideal S8x24576 .f32) : FVec Ideal S2x1x4096 .f32 :=
  extractStridedSlice S2x1x4096 ![0, 0, o] (broadcastInDim S2x1x12288 ![0, 2] bcast_S2x12288_S2x1x12288_0_2
    (extractStridedSlice S2x12288 ![0, 8192] (extractStridedSlice S2x24576 ![1, 0] x slices_S8x24576_S2x24576_1_0)
      slices_S2x24576_S2x12288_0_8192)) h

/-- their residual sum, -/
def sumL (xs : FVec Ideal S2x1024x4096 .f32) (mx : FVec Ideal S6144x4096 .f32) (md : FVec Ideal S8x24576 .f32) : FVec Ideal S2x1024x4096 .f32 :=
  addf (mulf (broadcastInDim S2x1024x4096 ![] bcast_S_S2x1024x4096 (constant S_ .f32 0x3F9837F0#32)) xs)
    (mulf (broadcastInDim S2x1024x4096 ![0, 1, 2] bcast_S2x1x4096_S2x1024x4096_0_1_2 (pieceL 0 slices_S2x1x12288_S2x1x4096_0_0_0 md))
      (shapeCast S2x1024x4096 (extractStridedSlice S2048x4096 ![4096, 0] mx slices_S6144x4096_S2048x4096_4096_0) shapeCasts_S2048x4096_S2x1024x4096))

/-- and a normalized array, scaled and shifted. -/
def modL (y : FVec Ideal S2x1024x4096 .f32) (md : FVec Ideal S8x24576 .f32) : FVec Ideal S2x1024x4096 .f32 :=
  addf (mulf y (broadcastInDim S2x1024x4096 ![0, 1, 2] bcast_S2x1x4096_S2x1024x4096_0_1_2
      (addf (broadcastInDim S2x1x4096 ![] bcast_S_S2x1x4096 (constant S_ .f32 0x3F800000#32)) (pieceL 8192 slices_S2x1x12288_S2x1x4096_0_0_8192 md))))
    (broadcastInDim S2x1024x4096 ![0, 1, 2] bcast_S2x1x4096_S2x1024x4096_0_1_2 (pieceL 4096 slices_S2x1x12288_S2x1x4096_0_0_4096 md))

theorem pieceL_apply (o : ℕ) (h : S2x1x12288.Slices ![0, 0, o] S2x1x4096) (ho : o + 4096 ≤ 12288) (x : FVec Ideal S8x24576 .f32) (p : Fin 2) (k : Fin 4096) :
    pieceL o h x (ValueIdx.ix3 p (0 : Fin 1) k) = x (ValueIdx.ix2 ⟨1 + p.val, by omega⟩ ⟨8192 + (o + k.val), by omega⟩) :=
  (extractStridedSlice_apply _ _ _ _ (ValueIdx.ix3 p (0 : Fin 1) (⟨o + k.val, by omega⟩ : Fin 12288)) fun a => by
    match a with
    | ⟨0, _⟩ => exact (Nat.zero_add _).symm
    | ⟨1, _⟩ => rfl
    | ⟨2, _⟩ => rfl).trans
  ((broadcastInDim_apply _ _ _ _ (ValueIdx.ix2 p (⟨o + k.val, by omega⟩ : Fin 12288)) fun a => by
    match a with
    | ⟨0, _⟩ => rfl
    | ⟨1, _⟩ => rfl).trans
  ((extractStridedSlice_apply _ _ _ _ (ValueIdx.ix2 p (⟨8192 + (o + k.val), by omega⟩ : Fin 24576)) fun a => by
    match a with
    | ⟨0, _⟩ => exact (Nat.zero_add _).symm
    | ⟨1, _⟩ => rfl).trans
  (extractStridedSlice_apply _ _ _ _ _ fun a => by
    match a with
    | ⟨0, _⟩ => rfl
    | ⟨1, _⟩ => exact (Nat.zero_add _).symm)))

theorem wideL (x : FVec Ideal S2x1x4096 .f32) (p : Fin 2) (r : Fin 1024) (k : Fin 4096) :
    broadcastInDim S2x1024x4096 ![0, 1, 2] bcast_S2x1x4096_S2x1024x4096_0_1_2 x (ValueIdx.ix3 p r k) = x (ValueIdx.ix3 p (0 : Fin 1) k) :=
  broadcastInDim_apply _ _ _ _ _ fun a => by
    match a with
    | ⟨0, _⟩ => rfl
    | ⟨1, _⟩ => rfl
    | ⟨2, _⟩ => rfl

theorem rowsL_apply (x : FVec Ideal S6144x4096 .f32) (p : Fin 2) (r : Fin 1024) (k : Fin 4096) :
    shapeCast S2x1024x4096 (extractStridedSlice S2048x4096 ![4096, 0] x slices_S6144x4096_S2048x4096_4096_0) shapeCasts_S2048x4096_S2x1024x4096 (ValueIdx.ix3 p r k)
      = x (ValueIdx.ix2 ⟨4096 + (p.val * 1024 + r.val), by omega⟩ k) :=
  (shapeCast_apply _ _ _ (ValueIdx.ix2 (⟨p.val * 1024 + r.val, by omega⟩ : Fin 2048) k) (by
    rw [Shape.rowMajor_val_two, Shape.rowMajor_val_three]; rfl)).trans
  (extractStridedSlice_apply _ _ _ _ _ fun a => by
    match a with
    | ⟨0, _⟩ => rfl
    | ⟨1, _⟩ => exact (Nat.zero_add _).symm)

theorem modL_apply (y : FVec Ideal S2x1024x4096 .f32) (md : FVec Ideal S8x24576 .f32) (p : Fin 2) (r : Fin 1024) (j : Fin 4096) :
    modL y md (ValueIdx.ix3 p r j)
      = y (ValueIdx.ix3 p r j) * (Ideal.ofBits .f32 0x3F800000#32 + md (ValueIdx.ix2 ⟨1 + p.val, by omega⟩ ⟨16384 + j.val, by omega⟩))
        + md (ValueIdx.ix2 ⟨1 + p.val, by omega⟩ ⟨12288 + j.val, by omega⟩) := by
  have hs := (wideL (addf (broadcastInDim S2x1x4096 ![] bcast_S_S2x1x4096 (constant S_ .f32 0x3F800000#32)) (pieceL 8192 slices_S2x1x12288_S2x1x4096_0_0_8192 md)) p r j).trans
    (congrArg (Ideal.ofBits .f32 0x3F800000#32 + ·) ((pieceL_apply 8192 slices_S2x1x12288_S2x1x4096_0_0_8192 (by omega) md p j).trans
      (at_col md ⟨1 + p.val, by omega⟩ _ (by omega) (show 8192 + (8192 + j.val) = 16384 + j.val by omega))))
  have hh := (wideL (pieceL 4096 slices_S2x1x12288_S2x1x4096_0_0_4096 md) p r j).trans
    ((pieceL_apply 4096 slices_S2x1x12288_S2x1x4096_0_0_4096 (by omega) md p j).trans
      (at_col md ⟨1 + p.val, by omega⟩ _ (by omega) (show 8192 + (4096 + j.val) = 12288 + j.val by omega)))
  exact congrArg₂ (fun a b : EReal => a + b) (congrArg (y (ValueIdx.ix3 p r j) * ·) hs) hh

/-! ## The two results -/

variable (xp : FVec Ideal S16x256x4096 .f32) (xs : FVec Ideal S2x1024x4096 .f32) (pos : FVec Ideal S1024x4096 .f32) (mx : FVec Ideal S6144x4096 .f32) (md : FVec Ideal S8x24576 .f32) (g b : FVec Ideal S1x4096 .f32)

/-- The samples with their positions' embeddings, -/
def samples : FVec Ideal S2x1024x4096 .f32 :=
  addf xs (broadcastInDim S2x1024x4096 ![0, 1, 2] bcast_S1x1024x4096_S2x1024x4096_0_1_2
    (broadcastInDim S1x1024x4096 ![1, 2] bcast_S1024x4096_S1x1024x4096_1_2 pos))

theorem samples_apply (p : Fin 2) (r : Fin 1024) (k : Fin 4096) :
    samples xs pos (ValueIdx.ix3 p r k) = xs (ValueIdx.ix3 p r k) + pos (ValueIdx.ix2 r k) :=
  congrArg (xs (ValueIdx.ix3 p r k) + ·) ((broadcastInDim_apply _ _ _ _ (ValueIdx.ix3 (0 : Fin 1) r k) fun a => by
    match a with
    | ⟨0, _⟩ => rfl
    | ⟨1, _⟩ => rfl
    | ⟨2, _⟩ => rfl).trans
  (broadcastInDim_apply _ _ _ _ _ fun a => by
    match a with
    | ⟨0, _⟩ => rfl
    | ⟨1, _⟩ => rfl))

/-- the norm's rows, the prompts' and the samples', -/
def normC :
    FVec Ideal S16x256x4096 .f32 :=
  normRowsC (sumC xp mx md) (shapeCast S4096 g shapeCasts_S1x4096_S4096) (shapeCast S4096 b shapeCasts_S1x4096_S4096)
def normL : FVec Ideal S2x1024x4096 .f32 :=
  normRowsL (sumL (samples xs pos) mx md) (shapeCast S4096 g shapeCasts_S1x4096_S4096) (shapeCast S4096 b shapeCasts_S1x4096_S4096)

/-- and an array of the prompts' rows over one of the samples'. -/
def stacked (a : FVec Ideal S16x256x4096 .f32) (b : FVec Ideal S2x1024x4096 .f32) : FVec Ideal S6144x4096 .f32 :=
  concatenate S6144x4096 0 [⟨S4096x4096, shapeCast S4096x4096 a shapeCasts_S16x256x4096_S4096x4096⟩,
    ⟨S2048x4096, shapeCast S2048x4096 b shapeCasts_S2x1024x4096_S2048x4096⟩] concatenates_S4096x4096_S2048x4096_S6144x4096_d0

theorem normC_apply (p : Fin 16) (r : Fin 256) (j : Fin 4096) :
    normC xp mx md g b (ValueIdx.ix3 p r j) = normAt xp xs pos mx md g b ⟨p.val * 256 + r.val, by omega⟩ j := by
  unfold normC normAt
  rw [normRowsC_apply, group_ctx _ (show p.val * 256 + r.val < 4096 by omega)]
  refine (congrFun (congrArg₂ (fun u v => normed _ u v) (funext fun k => shapeCast_1a_a_apply _ _ k) (funext fun k => shapeCast_1a_a_apply _ _ k)) j).trans ?_
  refine congrArg (fun f => normed f _ _ j) (funext fun k => ?_)
  exact congrArg₂ (fun a b : EReal => a + b)
    (congrArg (Ideal.ofBits .f32 0x3F9837F0#32 * ·) (resid_ctx xp xs pos _ p r (show p.val * 256 + r.val = 256 * p.val + r.val by omega) k).symm)
    (congrArg₂ (fun a b : EReal => a * b) ((wideC _ p r k).trans ((pieceC_apply 0 slices_S1x1x12288_S1x1x4096_0_0_0 (by omega) md 0 k).trans
      (congrArg (fun i : Fin 24576 => md (ValueIdx.ix2 0 i)) (Fin.ext (show 8192 + (0 + k.val) = 8192 + k.val by omega))))) (rowsC_apply mx p r k))

theorem normL_apply (p : Fin 2) (r : Fin 1024) (j : Fin 4096) :
    normL xs pos mx md g b (ValueIdx.ix3 p r j) = normAt xp xs pos mx md g b ⟨4096 + (p.val * 1024 + r.val), by omega⟩ j := by
  unfold normL normAt
  rw [normRowsL_apply, group_lat _ p r rfl]
  refine (congrFun (congrArg₂ (fun u v => normed _ u v) (funext fun k => shapeCast_1a_a_apply _ _ k) (funext fun k => shapeCast_1a_a_apply _ _ k)) j).trans ?_
  refine congrArg (fun f => normed f _ _ j) (funext fun k => ?_)
  exact congrArg₂ (fun a b : EReal => a + b)
    (congrArg (Ideal.ofBits .f32 0x3F9837F0#32 * ·) ((samples_apply xs pos p r k).trans (resid_lat xp xs pos _ p r rfl k).symm))
    (congrArg₂ (fun a b : EReal => a * b) ((wideL _ p r k).trans ((pieceL_apply 0 slices_S2x1x12288_S2x1x4096_0_0_0 (by omega) md p k).trans
      (congrArg (fun i : Fin 24576 => md (ValueIdx.ix2 ⟨1 + p.val, by omega⟩ i)) (Fin.ext (show 8192 + (0 + k.val) = 8192 + k.val by omega))))) (rowsL_apply mx p r k))

theorem stacked_ctx (a : FVec Ideal S16x256x4096 .f32) (b : FVec Ideal S2x1024x4096 .f32) (p : Fin 16) (r : Fin 256) (j : Fin 4096) :
    stacked a b (ValueIdx.ix2 ⟨p.val * 256 + r.val, by omega⟩ j) = a (ValueIdx.ix3 p r j) := by
  unfold stacked
  refine (concatenate_pair_apply_left 0 (shapeCast S4096x4096 a shapeCasts_S16x256x4096_S4096x4096)
    (shapeCast S2048x4096 b shapeCasts_S2x1024x4096_S2048x4096) _ (ValueIdx.ix2 (⟨p.val * 256 + r.val, by omega⟩ : Fin 6144) j) rfl
    (ValueIdx.ix2 (⟨p.val * 256 + r.val, by omega⟩ : Fin 4096) j) fun x => ?_).trans (shapeCast_apply _ _ _ (ValueIdx.ix3 p r j) ?_)
  · match x with
    | ⟨0, _⟩ => rfl
    | ⟨1, _⟩ => rfl
  · rw [Shape.rowMajor_val_two, Shape.rowMajor_val_three]; rfl

theorem stacked_lat (a : FVec Ideal S16x256x4096 .f32) (b : FVec Ideal S2x1024x4096 .f32) (p : Fin 2) (r : Fin 1024) (j : Fin 4096) :
    stacked a b (ValueIdx.ix2 ⟨4096 + (p.val * 1024 + r.val), by omega⟩ j) = b (ValueIdx.ix3 p r j) := by
  unfold stacked
  refine (concatenate_pair_apply_right 0 (shapeCast S4096x4096 a shapeCasts_S16x256x4096_S4096x4096)
    (shapeCast S2048x4096 b shapeCasts_S2x1024x4096_S2048x4096) _ (ValueIdx.ix2 (⟨4096 + (p.val * 1024 + r.val), by omega⟩ : Fin 6144) j) rfl rfl
    (ValueIdx.ix2 (⟨p.val * 1024 + r.val, by omega⟩ : Fin 2048) j) (fun x hx => ?_) ?_).trans (shapeCast_apply _ _ _ (ValueIdx.ix3 p r j) ?_)
  · match x with
    | ⟨0, _⟩ => exact absurd rfl hx
    | ⟨1, _⟩ => rfl
  · show p.val * 1024 + r.val + 4096 = 4096 + (p.val * 1024 + r.val)
    omega
  · rw [Shape.rowMajor_val_two, Shape.rowMajor_val_three]; rfl

/-- A stack is a function of its positions when its two parts are. -/
theorem stacked_eq (a : FVec Ideal S16x256x4096 .f32) (b : FVec Ideal S2x1024x4096 .f32) (f : Fin 6144 → Fin 4096 → EReal)
    (ha : ∀ (p : Fin 16) (r : Fin 256) (j : Fin 4096), a (ValueIdx.ix3 p r j) = f ⟨p.val * 256 + r.val, by omega⟩ j)
    (hb : ∀ (p : Fin 2) (r : Fin 1024) (j : Fin 4096), b (ValueIdx.ix3 p r j) = f ⟨4096 + (p.val * 1024 + r.val), by omega⟩ j)
    (R : Fin 6144) (j : Fin 4096) : stacked a b (ValueIdx.ix2 R j) = f R j := by
  by_cases h : R.val < 4096
  · have h1 := (stacked_ctx a b ⟨R.val / 256, by omega⟩ ⟨R.val % 256, by omega⟩ j).trans (ha _ _ j)
    have e : (⟨R.val / 256 * 256 + R.val % 256, by omega⟩ : Fin 6144) = R := Fin.ext (by show R.val / 256 * 256 + R.val % 256 = R.val; omega)
    simp only [e] at h1
    exact h1
  · have h1 := (stacked_lat a b ⟨(R.val - 4096) / 1024, by omega⟩ ⟨(R.val - 4096) % 1024, by omega⟩ j).trans (hb _ _ j)
    have e : (⟨4096 + ((R.val - 4096) / 1024 * 1024 + (R.val - 4096) % 1024), by omega⟩ : Fin 6144) = R :=
      Fin.ext (by show 4096 + ((R.val - 4096) / 1024 * 1024 + (R.val - 4096) % 1024) = R.val; omega)
    simp only [e] at h1
    exact h1

/-- The reference's results as terms of its arguments. -/
def res1 : FVec Ideal S6144x4096 .f32 := stacked (normC xp mx md g b) (normL xs pos mx md g b)
def res2 : FVec Ideal S6144x4096 .bf16 :=
  truncf .bf16 (stacked (modC (normC xp mx md g b) md) (modL (normL xs pos mx md g b) md)) bitsLt_bf16_f32

theorem res1_apply (R : Fin 6144) (j : Fin 4096) :
    res1 xp xs pos mx md g b (ValueIdx.ix2 R j) = normAt xp xs pos mx md g b R j :=
  stacked_eq _ _ _ (fun p r j => normC_apply xp xs pos mx md g b p r j) (fun p r j => normL_apply xp xs pos mx md g b p r j) R j

theorem res2_apply (R : Fin 6144) (j : Fin 4096) :
    res2 xp xs pos mx md g b (ValueIdx.ix2 R j) = modAt xp xs pos mx md g b R j := by
  refine stacked_eq _ _ (modAt xp xs pos mx md g b) (fun p r j => ?_) (fun p r j => ?_) R j
  · rw [modC_apply, normC_apply xp xs pos mx md g b p r j]
    unfold modAt
    rw [group_ctx _ (show p.val * 256 + r.val < 4096 by omega)]
  · rw [modL_apply, normL_apply xp xs pos mx md g b p r j]
    unfold modAt
    rw [group_lat _ p r rfl]

variable (m : (ℓ : Loc nD τ sig) → Buf (Elt Ideal) ℓ) (ρ : Dev nD → PrngReg)

theorem res1_eq (c : Dev nD) :
    (Value.res_main_v97 m c : FVec Ideal S6144x4096 .f32) = res1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := rfl

theorem res2_eq (c : Dev nD) :
    (Value.res_main_v99 m c : FVec Ideal S6144x4096 .bf16) = res2 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := rfl

/-- The reference's run: its results are the middle step of its arguments, which it leaves unchanged. -/
theorem run : θ_run defs (onTc (τ := τ) (main (F := Ideal))) ⟨m, fun _ => 0, ρ⟩ fun r => ∀ c : Dev nD,
    r.2.mem ((c.tc : Thread nD τ).loc main_v97) = (fun i => normAt (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (i 0) (i 1) : FVec Ideal S6144x4096 .f32)
    ∧ r.2.mem ((c.tc : Thread nD τ).loc main_v99) = (fun i => modAt (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (i 0) (i 1) : FVec Ideal S6144x4096 .bf16)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6) :=
  (θ_run defs _ _).mono (fun _ h c =>
    ⟨((h c).1.trans (res1_eq m c)).trans (funext fun i => (congrArg (res1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))) (ValueIdx.eq_ix2 i)).trans (res1_apply _ _ _ _ _ _ _ (i 0) (i 1))),
     ((h c).2.1.trans (res2_eq m c)).trans (funext fun i => (congrArg (res2 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))) (ValueIdx.eq_ix2 i)).trans (res2_apply _ _ _ _ _ _ _ (i 0) (i 1))),
     (h c).2.2⟩)
    (Value.run m ρ)

end Cert.Reference10Ideal.Norm

end
-- ==== Proof.Norm1Claims.lean ====
module

public import proofs.«01_k».proof.Defs
public import proofs.«01_k».proof.Proof.Gen.Kernel10.Frame
public import proofs.«01_k».proof.Proof.Norm1Value
public import proofs.«01_k».proof.Proof.Norm1Reference
public import Idealize.ShloMosaic.Lib.Quiescent

/-! The five claims of the layer's middle step. -/

@[expose] public section

set_option maxRecDepth 4096

noncomputable section

namespace Cert.Kernel10Ideal.Norm

open Cert.Kernel10Ideal.Gen
open Idealize.ShloMosaic Idealize.ShloMosaic.TcCoe Idealize.SL.Sem

theorem frame_ideal : Cert.quiescent_Kernel10Ideal := fun m ρ _ => Cert.Kernel10Ideal.Gen.frame m ρ

theorem frame_kernel : Cert.quiescent_Kernel10 := fun m ρ _ => Cert.Kernel10.Gen.frame m ρ

theorem frame_reference : Cert.quiescent_Reference10Ideal := fun m ρ _ =>
  (θ_run Cert.Reference10Ideal.defs _ _).mono (fun r h => ⟨fun c => (h c).2.2, sem_eq_zero_of_no_sems (by decide) r.2⟩)
    (Cert.Reference10Ideal.Value.run (F := Ideal) m ρ)

/-- At the ideal values the kernel's two results are the reference's. -/
theorem algebraic : Cert.algebraic_Kernel10Ideal_Reference10Ideal := fun m ρ m' ρ' _ hag =>
  ⟨fun c => (fun i => norm m c (i 0) (i 1) : Vec Ideal S6144x4096 .f32),
   fun c => (fun i => modulated m c (i 0) (i 1) : Vec Ideal S6144x4096 .bf16),
   (θ_run defs _ _).mono (fun _ h c => ⟨(h c).1.trans (result1 m c), (h c).2.1.trans (result2 m c), (h c).2.2⟩) (Value.run_blocks m ρ),
   (θ_run Cert.Reference10Ideal.defs _ _).mono (fun _ h c =>
      ⟨(h c).1.trans (by rw [(hag c).1, (hag c).2.1, (hag c).2.2.1, (hag c).2.2.2.1, (hag c).2.2.2.2.1, (hag c).2.2.2.2.2.1,
        (hag c).2.2.2.2.2.2]),
       (h c).2.1.trans (by rw [(hag c).1, (hag c).2.1, (hag c).2.2.1, (hag c).2.2.2.1, (hag c).2.2.2.2.1, (hag c).2.2.2.2.2.1,
        (hag c).2.2.2.2.2.2]), (h c).2.2⟩)
     (Cert.Reference10Ideal.Norm.run m' ρ')⟩

end Cert.Kernel10Ideal.Norm

end
-- ==== Proof.PrepValue.lean ====
module

public import proofs.«01_k».proof.Proof.Gen.Kernel11Ideal.Frame
public import proofs.«01_k».proof.Proof.Norm1Value
public import proofs.«01_k».proof.Proof.Dense
public import Idealize.ShloMosaic.Lib.Pipeline.ReadBack

/-! The mixers' input and its columns of step sizes: that the kernel's two result arrays are them at every position. -/

@[expose] public section

set_option maxRecDepth 16384

noncomputable section

namespace Cert.Kernel11Ideal.Prep

open Cert.Kernel11Ideal.Gen
open Idealize.ShloMosaic Idealize.ShloMosaic.TcCoe Idealize.ShloMosaic.Tactic Idealize.ShloMosaic.ValueIdx
open Idealize.SL.Sem
open Idealize.ShloMosaic.Pipeline (Dat)
open Cert.Kernel10Ideal.Norm (resid group resid_ctx resid_lat group_ctx group_lat mod_congr row)

variable (xp : Vec Ideal S16x256x4096 .f32) (xs : Vec Ideal S2x1024x4096 .f32) (pos : Vec Ideal S1024x4096 .f32) (md : Vec Ideal S8x24576 .f32)

/-- A row of the residual stream, scaled and shifted by the modulation, -/
def hid (R : Fin 6144) (k : Fin 4096) : EReal :=
  resid xp xs pos R k * (Ideal.ofBits .f32 0x3F800000#32 + md (ValueIdx.ix2 (group R) ⟨4096 + k.val, by omega⟩))
    + md (ValueIdx.ix2 (group R) ⟨k.val, by omega⟩)

/-- and its product with 128 columns of the weights. -/
def small (w : Vec Ideal S1x4096x20544 .f32) (R : Fin 6144) (j : Fin 128) : EReal :=
  ∑ k : Fin 4096, hid xp xs pos md R k * w (ValueIdx.ix3 0 k ⟨12288 + j.val, by omega⟩)

/-! ## What a point stores -/

theorem pay4_apply (s h : Vec Ideal S1x1x4096 .f32) (x : Vec Ideal S256x4096 .f32) (r : Fin 256) (k : Fin 4096) :
    k0_pay4 s h x (ValueIdx.ix2 r k)
      = x (ValueIdx.ix2 r k) * (Ideal.ofBits .f32 0x3F800000#32 + s (ValueIdx.ix3 0 0 k)) + h (ValueIdx.ix3 0 0 k) := by
  pointwise [k0_pay4, k0_pay1, k0_pay2]
  rfl

theorem pay6_apply (s h : Vec Ideal S1x1x4096 .f32) (x e : Vec Ideal S256x4096 .f32) (r : Fin 256) (k : Fin 4096) :
    k0_pay6 s h x e (ValueIdx.ix2 r k)
      = (x (ValueIdx.ix2 r k) + e (ValueIdx.ix2 r k)) * (Ideal.ofBits .f32 0x3F800000#32 + s (ValueIdx.ix3 0 0 k)) + h (ValueIdx.ix3 0 0 k) := by
  pointwise [k0_pay6, k0_pay1, k0_pay2]
  rfl

theorem pay3_apply (w : Vec Ideal S128x4096 .f32) (k : Fin 4096) (j : Fin 128) :
    k0_pay3 w (ValueIdx.ix2 k j) = w (ValueIdx.ix2 j k) := by
  pointwise [k0_pay3]
  rfl

theorem pay5_apply (s h : Vec Ideal S1x1x4096 .f32) (x : Vec Ideal S256x4096 .f32) (w : Vec Ideal S4096x128 .bf16) (r : Fin 256) (j : Fin 128) :
    k0_pay5 s h x w (ValueIdx.ix2 r j) = ∑ k : Fin 4096, (k0_pay4 s h x (ValueIdx.ix2 r k) : EReal) * w (ValueIdx.ix2 k j) := by
  unfold k0_pay5
  refine (Ideal.matmul_plain_apply none _ _ _ r j).trans ?_
  rw [show (constant S256x128 .f32 0x00000000#32 : FVec Ideal S256x128 .f32) (ValueIdx.ix2 r j) = 0 from Ideal.ofBits_zero_f32, zero_add]

theorem pay7_apply (s h : Vec Ideal S1x1x4096 .f32) (x e : Vec Ideal S256x4096 .f32) (w : Vec Ideal S4096x128 .bf16) (r : Fin 256) (j : Fin 128) :
    k0_pay7 s h x e w (ValueIdx.ix2 r j) = ∑ k : Fin 4096, (k0_pay6 s h x e (ValueIdx.ix2 r k) : EReal) * w (ValueIdx.ix2 k j) := by
  unfold k0_pay7
  refine (Ideal.matmul_plain_apply none _ _ _ r j).trans ?_
  rw [show (constant S256x128 .f32 0x00000000#32 : FVec Ideal S256x128 .f32) (ValueIdx.ix2 r j) = 0 from Ideal.ofBits_zero_f32, zero_add]

variable (m : (ℓ : Loc nD τ sig) → Buf (Elt Ideal) ℓ) (ρ : Dev nD → PrngReg)

/-- The scratch as a point finds it. -/
abbrev before (c : Dev nD) (t : Fin cfg0.N) : Vec Ideal S4096x128 .bf16 :=
  (outsAt0 m c (t.val - 1) (Nat.lt_of_le_of_lt (Nat.sub_le _ _) t.isLt)).2.2

theorem hid_A (c : Dev nD) (t : Fin cfg0.N) (h0 : t.val % 24 = 0) (h1 : t.val < 16) (h2 : ¬16 ≤ t.val) :
    (outsAt0 m c t.val t.isLt).1 = k0_pay4 (iblk m c 4 t) (iblk m c 3 t) (iblk m c 0 t) := by
  rw [outsAt0_A m c t h0 h1 h2]
  frame_out

theorem small_A (c : Dev nD) (t : Fin cfg0.N) (h0 : t.val % 24 = 0) (h1 : t.val < 16) (h2 : ¬16 ≤ t.val) :
    (outsAt0 m c t.val t.isLt).2.1 = k0_pay5 (iblk m c 4 t) (iblk m c 3 t) (iblk m c 0 t) (k0_pay3 (iblk m c 5 t)) := by
  rw [outsAt0_A m c t h0 h1 h2]
  frame_out

theorem kept_A (c : Dev nD) (t : Fin cfg0.N) (h0 : t.val % 24 = 0) (h1 : t.val < 16) (h2 : ¬16 ≤ t.val) :
    (outsAt0 m c t.val t.isLt).2.2 = k0_pay3 (iblk m c 5 t) := by
  rw [outsAt0_A m c t h0 h1 h2]
  frame_out

theorem hid_B (c : Dev nD) (t : Fin cfg0.N) (h0 : ¬t.val % 24 = 0) (h1 : t.val < 16) (h2 : ¬16 ≤ t.val) :
    (outsAt0 m c t.val t.isLt).1 = k0_pay4 (iblk m c 4 t) (iblk m c 3 t) (iblk m c 0 t) := by
  rw [outsAt0_B m c t h0 h1 h2]
  frame_out

theorem small_B (c : Dev nD) (t : Fin cfg0.N) (h0 : ¬t.val % 24 = 0) (h1 : t.val < 16) (h2 : ¬16 ≤ t.val) :
    (outsAt0 m c t.val t.isLt).2.1 = k0_pay5 (iblk m c 4 t) (iblk m c 3 t) (iblk m c 0 t) (before m c t) := by
  rw [outsAt0_B m c t h0 h1 h2]
  frame_out
  rw [read_unread_whole]

theorem hid_C (c : Dev nD) (t : Fin cfg0.N) (h0 : ¬t.val % 24 = 0) (h1 : ¬t.val < 16) (h2 : 16 ≤ t.val) :
    (outsAt0 m c t.val t.isLt).1 = k0_pay6 (iblk m c 4 t) (iblk m c 3 t) (iblk m c 1 t) (iblk m c 2 t) := by
  rw [outsAt0_C m c t h0 h1 h2]
  frame_out

theorem small_C (c : Dev nD) (t : Fin cfg0.N) (h0 : ¬t.val % 24 = 0) (h1 : ¬t.val < 16) (h2 : 16 ≤ t.val) :
    (outsAt0 m c t.val t.isLt).2.1 = k0_pay7 (iblk m c 4 t) (iblk m c 3 t) (iblk m c 1 t) (iblk m c 2 t) (before m c t) := by
  rw [outsAt0_C m c t h0 h1 h2]
  frame_out
  rw [read_unread_whole]

theorem kept_later (c : Dev nD) (t : Fin cfg0.N) (h0 : ¬t.val % 24 = 0) : (outsAt0 m c t.val t.isLt).2.2 = before m c t := by
  by_cases h : t.val < 16
  · rw [outsAt0_B m c t h0 h (by omega)]; rfl
  · rw [outsAt0_C m c t h0 h (by omega)]; rfl

/-! ## What a point reads -/

/-- The arguments on a device. -/
abbrev argP (c : Dev nD) : Vec Ideal S16x256x4096 .f32 := m ((c : Thread nD τ).loc main_arg0)
abbrev argS (c : Dev nD) : Vec Ideal S2x1024x4096 .f32 := m ((c : Thread nD τ).loc main_arg1)
abbrev argE (c : Dev nD) : Vec Ideal S1024x4096 .f32 := m ((c : Thread nD τ).loc main_arg2)
abbrev argM (c : Dev nD) : Vec Ideal S8x24576 .f32 := m ((c : Thread nD τ).loc main_arg3)
abbrev argW (c : Dev nD) : Vec Ideal S1x4096x20544 .f32 := m ((c : Thread nD τ).loc main_arg4)

theorem V_main_v0 (c : Dev nD) (p : Fin 16) (r : Fin 256) (k : Fin 4096) :
    (V m c main_v0 : Vec Ideal S4096x4096 .f32) (ValueIdx.ix2 ⟨p.val * 256 + r.val, by omega⟩ k) = argP m c (ValueIdx.ix3 p r k) := by
  have e : (V m c main_v0 : Vec Ideal S4096x4096 .f32) = shapeCast _ (argP m c) shapeCasts_S16x256x4096_S4096x4096 := by
    unfold V hostOps0; after_results <;> rfl
  rw [e]
  exact shapeCast_apply _ _ _ _ (by rw [Shape.rowMajor_val_two, Shape.rowMajor_val_three]; rfl)

theorem V_main_v1 (c : Dev nD) (p : Fin 2) (r : Fin 1024) (k : Fin 4096) :
    (V m c main_v1 : Vec Ideal S2048x4096 .f32) (ValueIdx.ix2 ⟨p.val * 1024 + r.val, by omega⟩ k) = argS m c (ValueIdx.ix3 p r k) := by
  have e : (V m c main_v1 : Vec Ideal S2048x4096 .f32) = shapeCast _ (argS m c) shapeCasts_S2x1024x4096_S2048x4096 := by
    unfold V hostOps0; after_results <;> rfl
  rw [e]
  exact shapeCast_apply _ _ _ _ (by rw [Shape.rowMajor_val_two, Shape.rowMajor_val_three]; rfl)

theorem V_main_v2 (c : Dev nD) (p : Fin 8) (k : Fin 24576) :
    (V m c main_v2 : Vec Ideal S8x1x24576 .f32) (ValueIdx.ix3 p 0 k) = argM m c (ValueIdx.ix2 p k) := by
  have e : (V m c main_v2 : Vec Ideal S8x1x24576 .f32) = shapeCast _ (argM m c) shapeCasts_S8x24576_S8x1x24576 := by
    unfold V hostOps0; after_results <;> rfl
  rw [e]
  exact shapeCast_apply _ _ _ _ (by rw [Shape.rowMajor_val_two, Shape.rowMajor_val_three]; show p.val * 24576 + k.val = (p.val * 1 + 0) * 24576 + k.val; omega)

theorem V_main_v4 (c : Dev nD) (j : Fin 20544) (k : Fin 4096) :
    (V m c main_v4 : Vec Ideal S20544x4096 .f32) (ValueIdx.ix2 j k) = argW m c (ValueIdx.ix3 0 k j) := by
  have e : (V m c main_v4 : Vec Ideal S20544x4096 .f32)
      = shapeCast _ (transpose S1x20544x4096 [0, 2, 1] (argW m c) transposes_S1x4096x20544_S1x20544x4096_0_2_1)
          shapeCasts_S1x20544x4096_S20544x4096 := by
    unfold V hostOps0; after_results <;> rfl
  rw [e]
  refine (shapeCast_1ab_ab_apply _ _ j k).trans ?_
  exact transpose_apply _ _ _ _ _ fun a => match a with | ⟨0, _⟩ => rfl | ⟨1, _⟩ => rfl | ⟨2, _⟩ => rfl

theorem index_0 : ∀ t : Fin grid0.N, win0_0.index t = ![min t.val 15, 0] := by decide +kernel
theorem index_1 : ∀ t : Fin grid0.N, win0_1.index t = ![t.val - 16, 0] := by decide +kernel
theorem index_2 : ∀ t : Fin grid0.N, win0_2.index t = ![(t.val - 16) % 4, 0] := by decide +kernel
theorem index_3 : ∀ t : Fin grid0.N, win0_3.index t = ![row t.val, 0, 0] := by decide +kernel
theorem index_4 : ∀ t : Fin grid0.N, win0_4.index t = ![row t.val, 0, 1] := by decide +kernel
theorem index_6 : ∀ t : Fin grid0.N, win0_6.index t = ![t.val, 0] := by decide +kernel
theorem index_7 : ∀ t : Fin grid0.N, win0_7.index t = ![t.val, 0] := by decide +kernel

theorem lt_24 (t : Fin cfg0.N) : t.val < 24 := t.isLt.trans_eq N_0
/-- The row that a point's row `r` is. -/
abbrev rowOf (t : Fin cfg0.N) (r : Fin 256) : Fin 6144 := ⟨256 * t.val + r.val, by have := lt_24 t; omega⟩

theorem group_row (t : Fin cfg0.N) (r : Fin 256) : (group (rowOf t r)).val = row t.val :=
  Cert.Kernel10Ideal.Norm.group_row ⟨t.val, lt_24 t⟩ r

theorem iblk0_apply (c : Dev nD) (t : Fin cfg0.N) (h : t.val < 16) (r : Fin 256) (k : Fin 4096) :
    (iblk m c 0 t : Vec Ideal S256x4096 .f32) (ValueIdx.ix2 r k) = argP m c (ValueIdx.ix3 ⟨t.val, h⟩ r k) := by
  rw [← V_main_v0]
  blk_simp [iblk]
  refine congrArg (V m c main_v0 : Vec Ideal S4096x4096 .f32) ?_
  blk_ext [index_0 t]
  show min t.val 15 * 256 + r.val = t.val * 256 + r.val
  omega

theorem iblk1_apply (c : Dev nD) (t : Fin cfg0.N) (h : ¬t.val < 16) (r : Fin 256) (k : Fin 4096) :
    (iblk m c 1 t : Vec Ideal S256x4096 .f32) (ValueIdx.ix2 r k)
      = argS m c (ValueIdx.ix3 ⟨(t.val - 16) / 4, by have := lt_24 t; omega⟩ ⟨(t.val - 16) % 4 * 256 + r.val, by omega⟩ k) := by
  rw [← V_main_v1]
  blk_simp [iblk]
  refine congrArg (V m c main_v1 : Vec Ideal S2048x4096 .f32) ?_
  blk_ext [index_1 t]
  show (t.val - 16) * 256 + r.val = (t.val - 16) / 4 * 1024 + ((t.val - 16) % 4 * 256 + r.val)
  omega

theorem iblk2_apply (c : Dev nD) (t : Fin cfg0.N) (r : Fin 256) (k : Fin 4096) :
    (iblk m c 2 t : Vec Ideal S256x4096 .f32) (ValueIdx.ix2 r k) = argE m c (ValueIdx.ix2 ⟨(t.val - 16) % 4 * 256 + r.val, by omega⟩ k) := by
  refine Eq.trans ?_ (congrFun (V_main_arg2 m c) _)
  blk_simp [iblk]
  refine congrArg (V m c main_arg2 : Vec Ideal S1024x4096 .f32) ?_
  blk_ext [index_2 t]

theorem iblk3_apply (c : Dev nD) (t : Fin cfg0.N) (r : Fin 256) (k : Fin 4096) :
    (iblk m c 3 t : Vec Ideal S1x1x4096 .f32) (ValueIdx.ix3 0 0 k) = argM m c (ValueIdx.ix2 (group (rowOf t r)) ⟨k.val, by omega⟩) := by
  rw [← V_main_v2]
  blk_simp [iblk]
  refine congrArg (V m c main_v2 : Vec Ideal S8x1x24576 .f32) ?_
  blk_ext [index_3 t]
  exact (group_row t r).symm

theorem iblk4_apply (c : Dev nD) (t : Fin cfg0.N) (r : Fin 256) (k : Fin 4096) :
    (iblk m c 4 t : Vec Ideal S1x1x4096 .f32) (ValueIdx.ix3 0 0 k) = argM m c (ValueIdx.ix2 (group (rowOf t r)) ⟨4096 + k.val, by omega⟩) := by
  rw [← V_main_v2]
  blk_simp [iblk]
  refine congrArg (V m c main_v2 : Vec Ideal S8x1x24576 .f32) ?_
  blk_ext [index_4 t]
  exact (group_row t r).symm

theorem iblk5_apply (c : Dev nD) (t : Fin cfg0.N) (j : Fin 128) (k : Fin 4096) :
    (iblk m c 5 t : Vec Ideal S128x4096 .f32) (ValueIdx.ix2 j k) = argW m c (ValueIdx.ix3 0 k ⟨12288 + j.val, by omega⟩) := by
  rw [← V_main_v4]
  blk_simp [iblk]
  refine congrArg (V m c main_v4 : Vec Ideal S20544x4096 .f32) (funext fun a => Fin.ext ?_)
  refine (ValueKit.view_emb_slice_whole_unit_val main_v4 _ _ _ _ a).trans ?_
  match a with
  | ⟨0, _⟩ => rfl
  | ⟨1, _⟩ => exact Nat.zero_add _

/-- After any point the scratch holds the 128 columns. -/
theorem kept_apply (c : Dev nD) : ∀ (n : ℕ) (hn : n < cfg0.N) (k : Fin 4096) (j : Fin 128),
    (outsAt0 m c n hn).2.2 (ValueIdx.ix2 k j) = argW m c (ValueIdx.ix3 0 k ⟨12288 + j.val, by omega⟩) := by
  intro n
  induction n with
  | zero =>
    intro hn k j
    exact (congrFun (kept_A m c ⟨0, hn⟩ rfl (by exact (by decide : 0 < 16)) (by exact (by decide : ¬16 ≤ 0))) _).trans
      ((pay3_apply _ k j).trans (iblk5_apply m c ⟨0, hn⟩ j k))
  | succ n ih =>
    intro hn k j
    have h := lt_24 ⟨n + 1, hn⟩
    exact (congrFun (kept_later m c ⟨n + 1, hn⟩ (by dsimp only at h ⊢; omega)) _).trans (ih (Nat.lt_of_succ_lt hn) k j)

/-! ## What a point leaves, and the results -/

/-- The two results of the call at a position. -/
abbrev hidden (c : Dev nD) (R : Fin 6144) (k : Fin 4096) : EReal := hid (argP m c) (argS m c) (argE m c) (argM m c) R k
abbrev sizes (c : Dev nD) (R : Fin 6144) (j : Fin 128) : EReal := small (argP m c) (argS m c) (argE m c) (argM m c) (argW m c) R j

theorem pay4_iblk (c : Dev nD) (t : Fin cfg0.N) (h : t.val < 16) (r : Fin 256) (k : Fin 4096) :
    k0_pay4 (iblk m c 4 t) (iblk m c 3 t) (iblk m c 0 t) (ValueIdx.ix2 r k) = hidden m c (rowOf t r) k :=
  (pay4_apply _ _ _ r k).trans (mod_congr ((iblk0_apply m c t h r k).trans (resid_ctx _ _ _ (rowOf t r) ⟨t.val, h⟩ r rfl k).symm)
    (iblk4_apply m c t r k) (iblk3_apply m c t r k))

theorem pay6_iblk (c : Dev nD) (t : Fin cfg0.N) (h : ¬t.val < 16) (r : Fin 256) (k : Fin 4096) :
    k0_pay6 (iblk m c 4 t) (iblk m c 3 t) (iblk m c 1 t) (iblk m c 2 t) (ValueIdx.ix2 r k) = hidden m c (rowOf t r) k :=
  (pay6_apply _ _ _ _ r k).trans (mod_congr
    ((congrArg₂ (fun a b : EReal => a + b) (iblk1_apply m c t h r k) (iblk2_apply m c t r k)).trans
      (resid_lat _ _ _ (rowOf t r) ⟨(t.val - 16) / 4, by have := lt_24 t; omega⟩ ⟨(t.val - 16) % 4 * 256 + r.val, by omega⟩
        (show 256 * t.val + r.val = 4096 + ((t.val - 16) / 4 * 1024 + ((t.val - 16) % 4 * 256 + r.val)) by omega) k).symm)
    (iblk4_apply m c t r k) (iblk3_apply m c t r k))

theorem out1_apply (c : Dev nD) (t : Fin cfg0.N) (r : Fin 256) (k : Fin 4096) :
    (outsAt0 m c t.val t.isLt).1 (ValueIdx.ix2 r k) = hidden m c (rowOf t r) k := by
  by_cases h : t.val < 16
  · by_cases h0 : t.val % 24 = 0
    · rw [hid_A m c t h0 h (by omega)]; exact pay4_iblk m c t h r k
    · rw [hid_B m c t h0 h (by omega)]; exact pay4_iblk m c t h r k
  · have := lt_24 t
    rw [hid_C m c t (by omega) h (by omega)]; exact pay6_iblk m c t h r k

theorem out2_apply (c : Dev nD) (t : Fin cfg0.N) (r : Fin 256) (j : Fin 128) :
    (outsAt0 m c t.val t.isLt).2.1 (ValueIdx.ix2 r j) = sizes m c (rowOf t r) j := by
  have hk := fun k => kept_apply m c (t.val - 1) (Nat.lt_of_le_of_lt (Nat.sub_le _ _) t.isLt) k j
  by_cases h : t.val < 16
  · by_cases h0 : t.val % 24 = 0
    · rw [small_A m c t h0 h (by omega)]
      exact (pay5_apply _ _ _ _ r j).trans (Finset.sum_congr rfl fun k _ => congrArg₂ (fun a b : EReal => a * b) (pay4_iblk m c t h r k)
        ((pay3_apply _ k j).trans (iblk5_apply m c t j k)))
    · rw [small_B m c t h0 h (by omega)]
      exact (pay5_apply _ _ _ _ r j).trans (Finset.sum_congr rfl fun k _ => congrArg₂ (fun a b : EReal => a * b) (pay4_iblk m c t h r k) (hk k))
  · have := lt_24 t
    rw [small_C m c t (by omega) h (by omega)]
    exact (pay7_apply _ _ _ _ _ r j).trans (Finset.sum_congr rfl fun k _ => congrArg₂ (fun a b : EReal => a * b) (pay6_iblk m c t h r k) (hk k))

/-- The first result array after the run, -/
theorem result1 (c : Dev nD) :
    (dats m 0 c).arrAt 6 cfg0.N = (fun i => hidden m c (i 0) (i 1) : Vec Ideal S6144x4096 .bf16) := by
  refine (dats m 0 c).arrAt_eq_of_covers 6 _ (by decide +kernel) fun t hf y => ?_
  blk_simp
  rw [after0_6]
  refine (congrArg (outsAt0 m c t.val t.isLt).1 (ValueIdx.eq_ix2 y)).trans ((out1_apply m c t (y 0) (y 1)).trans ?_)
  refine congrArg₂ (hidden m c) (Fin.ext ?_) (Fin.ext ?_)
  · blk_simp [index_6 t]; exact congrArg (· + _) (Nat.mul_comm _ _)
  · blk_simp [index_6 t]

/-- and the second. -/
theorem result2 (c : Dev nD) :
    (dats m 0 c).arrAt 7 cfg0.N = (fun i => sizes m c (i 0) (i 1) : Vec Ideal S6144x128 .f32) := by
  refine (dats m 0 c).arrAt_eq_of_covers 7 _ (by decide +kernel) fun t hf y => ?_
  blk_simp
  rw [after0_7]
  refine (congrArg (outsAt0 m c t.val t.isLt).2.1 (ValueIdx.eq_ix2 y)).trans ((out2_apply m c t (y 0) (y 1)).trans ?_)
  refine congrArg₂ (sizes m c) (Fin.ext ?_) (Fin.ext ?_)
  · blk_simp [index_7 t]; exact congrArg (· + _) (Nat.mul_comm _ _)
  · blk_simp [index_7 t]

end Cert.Kernel11Ideal.Prep

end
-- ==== Proof.PrepClaims.lean ====
module

public import proofs.«01_k».proof.Defs
public import proofs.«01_k».proof.Proof.Gen.Kernel11.Frame
public import proofs.«01_k».proof.Proof.Gen.Reference11Ideal.Run
public import proofs.«01_k».proof.Proof.Norm1Reference
public import proofs.«01_k».proof.Proof.PrepValue
public import Idealize.ShloMosaic.Lib.Quiescent

/-! The reference of the mixers' input and its columns of step sizes, read at a position, and the five claims. -/

@[expose] public section

set_option maxRecDepth 8192

noncomputable section

namespace Cert.Reference11Ideal.Prep

open Cert.Reference11Ideal Cert.Reference11Ideal.Gen
open Idealize.ShloMosaic Idealize.ShloMosaic.TcCoe Idealize.ShloMosaic.ValueIdx Idealize.SL.Sem
open Cert.Kernel10Ideal.Norm (resid group resid_ctx resid_lat group_ctx group_lat mod_congr)
open Cert.Reference10Ideal.Norm (at_col wideC wideL samples samples_apply stacked stacked_eq)
open Cert.Kernel11Ideal.Prep (hid small)

/-- A sixth of the modulation's prompts' rows, -/
def pieceC (o : ℕ) (h : S1x1x8192.Slices ![0, 0, o] S1x1x4096) (x : FVec Ideal S8x24576 .f32) : FVec Ideal S1x1x4096 .f32 :=
  extractStridedSlice S1x1x4096 ![0, 0, o] (broadcastInDim S1x1x8192 ![0, 2] bcast_S1x8192_S1x1x8192_0_2
    (extractStridedSlice S1x8192 ![0, 0] (extractStridedSlice S1x24576 ![0, 0] x slices_S8x24576_S1x24576_0_0)
      slices_S1x24576_S1x8192_0_0)) h

/-- one of its samples' rows, -/
def pieceL (o : ℕ) (h : S2x1x8192.Slices ![0, 0, o] S2x1x4096) (x : FVec Ideal S8x24576 .f32) : FVec Ideal S2x1x4096 .f32 :=
  extractStridedSlice S2x1x4096 ![0, 0, o] (broadcastInDim S2x1x8192 ![0, 2] bcast_S2x8192_S2x1x8192_0_2
    (extractStridedSlice S2x8192 ![0, 0] (extractStridedSlice S2x24576 ![1, 0] x slices_S8x24576_S2x24576_1_0)
      slices_S2x24576_S2x8192_0_0)) h

/-- the prompts' rows, scaled and shifted, -/
def modC (y : FVec Ideal S16x256x4096 .f32) (md : FVec Ideal S8x24576 .f32) : FVec Ideal S16x256x4096 .f32 :=
  addf (mulf y (broadcastInDim S16x256x4096 ![0, 1, 2] bcast_S1x1x4096_S16x256x4096_0_1_2
      (addf (broadcastInDim S1x1x4096 ![] bcast_S_S1x1x4096 (constant S_ .f32 0x3F800000#32)) (pieceC 4096 slices_S1x1x8192_S1x1x4096_0_0_4096 md))))
    (broadcastInDim S16x256x4096 ![0, 1, 2] bcast_S1x1x4096_S16x256x4096_0_1_2 (pieceC 0 slices_S1x1x8192_S1x1x4096_0_0_0 md))

/-- and the samples'. -/
def modL (y : FVec Ideal S2x1024x4096 .f32) (md : FVec Ideal S8x24576 .f32) : FVec Ideal S2x1024x4096 .f32 :=
  addf (mulf y (broadcastInDim S2x1024x4096 ![0, 1, 2] bcast_S2x1x4096_S2x1024x4096_0_1_2
      (addf (broadcastInDim S2x1x4096 ![] bcast_S_S2x1x4096 (constant S_ .f32 0x3F800000#32)) (pieceL 4096 slices_S2x1x8192_S2x1x4096_0_0_4096 md))))
    (broadcastInDim S2x1024x4096 ![0, 1, 2] bcast_S2x1x4096_S2x1024x4096_0_1_2 (pieceL 0 slices_S2x1x8192_S2x1x4096_0_0_0 md))

theorem pieceC_apply (o : ℕ) (h : S1x1x8192.Slices ![0, 0, o] S1x1x4096) (ho : o + 4096 ≤ 8192) (x : FVec Ideal S8x24576 .f32) (k : Fin 4096) :
    pieceC o h x (ValueIdx.ix3 (0 : Fin 1) (0 : Fin 1) k) = x (ValueIdx.ix2 0 ⟨o + k.val, by omega⟩) :=
  (extractStridedSlice_apply _ _ _ _ (ValueIdx.ix3 (0 : Fin 1) (0 : Fin 1) (⟨o + k.val, by omega⟩ : Fin 8192)) fun a => by
    match a with
    | ⟨0, _⟩ => rfl
    | ⟨1, _⟩ => rfl
    | ⟨2, _⟩ => rfl).trans
  ((broadcastInDim_apply _ _ _ _ (ValueIdx.ix2 (0 : Fin 1) (⟨o + k.val, by omega⟩ : Fin 8192)) fun a => by
    match a with
    | ⟨0, _⟩ => rfl
    | ⟨1, _⟩ => rfl).trans
  ((extractStridedSlice_apply _ _ _ _ (ValueIdx.ix2 (0 : Fin 1) (⟨o + k.val, by omega⟩ : Fin 24576)) fun a => by
    match a with
    | ⟨0, _⟩ => rfl
    | ⟨1, _⟩ => exact (Nat.zero_add _).symm).trans
  (extractStridedSlice_apply _ _ _ _ _ fun a => by
    match a with
    | ⟨0, _⟩ => rfl
    | ⟨1, _⟩ => exact (Nat.zero_add _).symm)))

theorem pieceL_apply (o : ℕ) (h : S2x1x8192.Slices ![0, 0, o] S2x1x4096) (ho : o + 4096 ≤ 8192) (x : FVec Ideal S8x24576 .f32) (p : Fin 2) (k : Fin 4096) :
    pieceL o h x (ValueIdx.ix3 p (0 : Fin 1) k) = x (ValueIdx.ix2 ⟨1 + p.val, by omega⟩ ⟨o + k.val, by omega⟩) :=
  (extractStridedSlice_apply _ _ _ _ (ValueIdx.ix3 p (0 : Fin 1) (⟨o + k.val, by omega⟩ : Fin 8192)) fun a => by
    match a with
    | ⟨0, _⟩ => exact (Nat.zero_add _).symm
    | ⟨1, _⟩ => rfl
    | ⟨2, _⟩ => rfl).trans
  ((broadcastInDim_apply _ _ _ _ (ValueIdx.ix2 p (⟨o + k.val, by omega⟩ : Fin 8192)) fun a => by
    match a with
    | ⟨0, _⟩ => rfl
    | ⟨1, _⟩ => rfl).trans
  ((extractStridedSlice_apply _ _ _ _ (ValueIdx.ix2 p (⟨o + k.val, by omega⟩ : Fin 24576)) fun a => by
    match a with
    | ⟨0, _⟩ => exact (Nat.zero_add _).symm
    | ⟨1, _⟩ => exact (Nat.zero_add _).symm).trans
  (extractStridedSlice_apply _ _ _ _ _ fun a => by
    match a with
    | ⟨0, _⟩ => rfl
    | ⟨1, _⟩ => exact (Nat.zero_add _).symm)))

variable (xp : FVec Ideal S16x256x4096 .f32) (xs : FVec Ideal S2x1024x4096 .f32) (pos : FVec Ideal S1024x4096 .f32) (md : FVec Ideal S8x24576 .f32)

/-- The residual stream's rows, modulated. -/
def rows : FVec Ideal S6144x4096 .f32 := stacked (modC xp md) (modL (samples xs pos) md)

theorem rows_apply (R : Fin 6144) (j : Fin 4096) : rows xp xs pos md (ValueIdx.ix2 R j) = hid xp xs pos md R j := by
  refine stacked_eq _ _ (hid xp xs pos md) (fun p r k => ?_) (fun p r k => ?_) R j
  · unfold hid
    rw [resid_ctx xp xs pos _ p r (show p.val * 256 + r.val = 256 * p.val + r.val by omega) k,
      group_ctx _ (show p.val * 256 + r.val < 4096 by omega)]
    have hs := (wideC (addf (broadcastInDim S1x1x4096 ![] bcast_S_S1x1x4096 (constant S_ .f32 0x3F800000#32))
      (pieceC 4096 slices_S1x1x8192_S1x1x4096_0_0_4096 md)) p r k).trans
      (congrArg (Ideal.ofBits .f32 0x3F800000#32 + ·) (pieceC_apply 4096 slices_S1x1x8192_S1x1x4096_0_0_4096 (by omega) md k))
    have hh := (wideC (pieceC 0 slices_S1x1x8192_S1x1x4096_0_0_0 md) p r k).trans
      ((pieceC_apply 0 slices_S1x1x8192_S1x1x4096_0_0_0 (by omega) md k).trans (at_col md 0 _ (by omega) (Nat.zero_add _)))
    exact congrArg₂ (fun a b : EReal => a + b) (congrArg (xp (ValueIdx.ix3 p r k) * ·) hs) hh
  · unfold hid
    rw [resid_lat xp xs pos _ p r rfl k, group_lat _ p r rfl, ← samples_apply]
    have hs := (wideL (addf (broadcastInDim S2x1x4096 ![] bcast_S_S2x1x4096 (constant S_ .f32 0x3F800000#32))
      (pieceL 4096 slices_S2x1x8192_S2x1x4096_0_0_4096 md)) p r k).trans
      (congrArg (Ideal.ofBits .f32 0x3F800000#32 + ·) (pieceL_apply 4096 slices_S2x1x8192_S2x1x4096_0_0_4096 (by omega) md p k))
    have hh := (wideL (pieceL 0 slices_S2x1x8192_S2x1x4096_0_0_0 md) p r k).trans
      ((pieceL_apply 0 slices_S2x1x8192_S2x1x4096_0_0_0 (by omega) md p k).trans (at_col md _ _ (by omega) (Nat.zero_add _)))
    exact congrArg₂ (fun a b : EReal => a + b) (congrArg (samples xs pos (ValueIdx.ix3 p r k) * ·) hs) hh

/-- Their product with the weights, cut to 128 columns. -/
def cut (x : FVec Ideal S6144x4096 .f32) (w : FVec Ideal S1x4096x20544 .f32) : FVec Ideal S6144x128 .f32 :=
  extractStridedSlice S6144x128 ![0, 12288] (Host.dotGeneral dot_S6144x4096_S4096x20544_S6144x20544_1_0_0_1_n_n none x
    (shapeCast _ w shapeCasts_S1x4096x20544_S4096x20544)) slices_S6144x20544_S6144x128_0_12288

theorem cut_apply (x : FVec Ideal S6144x4096 .f32) (w : FVec Ideal S1x4096x20544 .f32) (r : Fin 6144) (j : Fin 128) :
    cut x w (ValueIdx.ix2 r j) = ∑ k : Fin 4096, x (ValueIdx.ix2 r k) * w (ValueIdx.ix3 0 k ⟨12288 + j.val, by omega⟩) := by
  refine Eq.trans (congrArg (Host.dotGeneral (F := Ideal) (DotDims.plain 6144 4096 20544) none x
    (shapeCast S4096x20544 w shapeCasts_S1x4096x20544_S4096x20544)) (?_ : _ = ValueIdx.ix2 r ⟨12288 + j.val, by omega⟩)) ?_
  · funext a
    apply Fin.ext
    match a with
    | ⟨0, _⟩ => exact Nat.zero_add _
    | ⟨1, _⟩ => rfl
  rw [StackMember.dotGeneral_plain_apply]
  exact Finset.sum_congr rfl fun k _ => congrArg (_ * ·) (shapeCast_1ab_ab_apply w _ k _)

theorem res1_eq :
    (truncf .bf16 (rows xp xs pos md) bitsLt_bf16_f32 : FVec Ideal S6144x4096 .bf16) = fun i => hid xp xs pos md (i 0) (i 1) :=
  funext fun i => (congrArg (rows xp xs pos md) (ValueIdx.eq_ix2 i)).trans (rows_apply xp xs pos md (i 0) (i 1))

theorem res2_eq (w : FVec Ideal S1x4096x20544 .f32) :
    cut (rows xp xs pos md) w = fun i => small xp xs pos md w (i 0) (i 1) :=
  funext fun i => (congrArg (cut (rows xp xs pos md) w) (ValueIdx.eq_ix2 i)).trans ((cut_apply _ _ (i 0) (i 1)).trans
    (Finset.sum_congr rfl fun k _ => congrArg (· * _) (rows_apply xp xs pos md (i 0) k)))

variable (m : (ℓ : Loc nD τ sig) → Buf (Elt Ideal) ℓ) (ρ : Dev nD → PrngReg)

/-- The reference's run: its results are the modulated rows of its arguments and their columns. -/
theorem run : θ_run defs (onTc (τ := τ) (main (F := Ideal))) ⟨m, fun _ => 0, ρ⟩ fun r => ∀ c : Dev nD,
    r.2.mem ((c.tc : Thread nD τ).loc main_v28) = (fun i => hid (m ((c.tc : Thread nD τ).loc main_arg0)) (m ((c.tc : Thread nD τ).loc main_arg1)) (m ((c.tc : Thread nD τ).loc main_arg2)) (m ((c.tc : Thread nD τ).loc main_arg3)) (i 0) (i 1) : FVec Ideal S6144x4096 .bf16)
    ∧ r.2.mem ((c.tc : Thread nD τ).loc main_v31) = (fun i => small (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (i 0) (i 1) : FVec Ideal S6144x128 .f32)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4) :=
  (θ_run defs _ _).mono (fun _ h c => ⟨(h c).1.trans (res1_eq _ _ _ _), (h c).2.1.trans (res2_eq _ _ _ _ _), (h c).2.2⟩) (Value.run (F := Ideal) m ρ)

end Cert.Reference11Ideal.Prep

namespace Cert.Kernel11Ideal.Prep

open Cert.Kernel11Ideal.Gen
open Idealize.ShloMosaic Idealize.ShloMosaic.TcCoe Idealize.SL.Sem

theorem frame_ideal : Cert.quiescent_Kernel11Ideal := fun m ρ _ => Cert.Kernel11Ideal.Gen.frame m ρ

theorem frame_kernel : Cert.quiescent_Kernel11 := fun m ρ _ => Cert.Kernel11.Gen.frame m ρ

theorem frame_reference : Cert.quiescent_Reference11Ideal := fun m ρ _ =>
  (θ_run Cert.Reference11Ideal.defs _ _).mono (fun r h => ⟨fun c => (h c).2.2, sem_eq_zero_of_no_sems (by decide) r.2⟩)
    (Cert.Reference11Ideal.Value.run (F := Ideal) m ρ)

/-- At the ideal values the kernel's two results are the reference's. -/
theorem algebraic : Cert.algebraic_Kernel11Ideal_Reference11Ideal := fun m ρ m' ρ' _ hag =>
  ⟨fun c => (fun i => hidden m c (i 0) (i 1) : Vec Ideal S6144x4096 .bf16),
   fun c => (fun i => sizes m c (i 0) (i 1) : Vec Ideal S6144x128 .f32),
   (θ_run defs _ _).mono (fun _ h c => ⟨((h.1 c).1 6).trans (result1 m c), ((h.1 c).1 7).trans (result2 m c), h.2 c⟩)
     (θ_run_and (run_main m ρ) (unchanged m ρ)),
   (θ_run Cert.Reference11Ideal.defs _ _).mono (fun _ h c =>
      ⟨(h c).1.trans (by rw [(hag c).1, (hag c).2.1, (hag c).2.2.1, (hag c).2.2.2.1]),
       (h c).2.1.trans (by rw [(hag c).1, (hag c).2.1, (hag c).2.2.1, (hag c).2.2.2.1, (hag c).2.2.2.2]), (h c).2.2⟩)
     (Cert.Reference11Ideal.Prep.run m' ρ')⟩

end Cert.Kernel11Ideal.Prep

end
-- ==== Proof.lean ====
module

public import proofs.«01_k».proof.Defs
public import proofs.«01_k».proof.Proof.Gen.Kernel
public import proofs.«01_k».proof.Proof.Gen.KernelIdeal
public import proofs.«01_k».proof.Proof.Gen.KernelIdeal.Frame
public import proofs.«01_k».proof.Proof.Gen.KernelIdeal.Skeleton
public import proofs.«01_k».proof.Proof.Gen.ReferenceIdeal
public import proofs.«01_k».proof.Proof.Gen.ReferenceIdeal.Run
public import proofs.«01_k».proof.Proof.Gen.Kernel2
public import proofs.«01_k».proof.Proof.Gen.Kernel2Ideal
public import proofs.«01_k».proof.Proof.Gen.Kernel2Ideal.Frame
public import proofs.«01_k».proof.Proof.Gen.Kernel2Ideal.Skeleton
public import proofs.«01_k».proof.Proof.Gen.Reference2Ideal
public import proofs.«01_k».proof.Proof.Gen.Reference2Ideal.Run
public import proofs.«01_k».proof.Proof.Gen.Kernel3
public import proofs.«01_k».proof.Proof.Gen.Kernel3Ideal
public import proofs.«01_k».proof.Proof.Gen.Kernel3Ideal.Frame
public import proofs.«01_k».proof.Proof.Gen.Kernel3Ideal.Skeleton
public import proofs.«01_k».proof.Proof.Gen.Reference3Ideal
public import proofs.«01_k».proof.Proof.Gen.Reference3Ideal.Run
public import proofs.«01_k».proof.Proof.Gen.Kernel4
public import proofs.«01_k».proof.Proof.Gen.Kernel4Ideal
public import proofs.«01_k».proof.Proof.Gen.Kernel4Ideal.Frame
public import proofs.«01_k».proof.Proof.Gen.Kernel4Ideal.Skeleton
public import proofs.«01_k».proof.Proof.Gen.Reference4Ideal
public import proofs.«01_k».proof.Proof.Gen.Reference4Ideal.Run
public import proofs.«01_k».proof.Proof.Gen.Kernel5
public import proofs.«01_k».proof.Proof.Gen.Kernel5Ideal
public import proofs.«01_k».proof.Proof.Gen.Kernel5Ideal.Frame
public import proofs.«01_k».proof.Proof.Gen.Kernel5Ideal.Skeleton
public import proofs.«01_k».proof.Proof.Gen.Reference5Ideal
public import proofs.«01_k».proof.Proof.Gen.Reference5Ideal.Run
public import proofs.«01_k».proof.Proof.Gen.Kernel6
public import proofs.«01_k».proof.Proof.Gen.Kernel6Ideal
public import proofs.«01_k».proof.Proof.Gen.Kernel6Ideal.Frame
public import proofs.«01_k».proof.Proof.Gen.Kernel6Ideal.Skeleton
public import proofs.«01_k».proof.Proof.Gen.Reference6Ideal
public import proofs.«01_k».proof.Proof.Gen.Reference6Ideal.Run
public import proofs.«01_k».proof.Proof.Gen.Kernel7
public import proofs.«01_k».proof.Proof.Gen.Kernel7Ideal
public import proofs.«01_k».proof.Proof.Gen.Kernel7Ideal.Frame
public import proofs.«01_k».proof.Proof.Gen.Kernel7Ideal.Skeleton
public import proofs.«01_k».proof.Proof.Gen.Reference7Ideal
public import proofs.«01_k».proof.Proof.Gen.Reference7Ideal.Run
public import proofs.«01_k».proof.Proof.Gen.Kernel8
public import proofs.«01_k».proof.Proof.Gen.Kernel8Ideal
public import proofs.«01_k».proof.Proof.Gen.Kernel8Ideal.Frame
public import proofs.«01_k».proof.Proof.Gen.Kernel8Ideal.Skeleton
public import proofs.«01_k».proof.Proof.Gen.Reference8Ideal
public import proofs.«01_k».proof.Proof.Gen.Reference8Ideal.Run
public import proofs.«01_k».proof.Proof.Gen.Kernel9
public import proofs.«01_k».proof.Proof.Gen.Kernel9Ideal
public import proofs.«01_k».proof.Proof.Gen.Kernel9Ideal.Frame
public import proofs.«01_k».proof.Proof.Gen.Kernel9Ideal.Skeleton
public import proofs.«01_k».proof.Proof.Gen.Reference9Ideal
public import proofs.«01_k».proof.Proof.Gen.Reference9Ideal.Run
public import proofs.«01_k».proof.Proof.Gen.Kernel10
public import proofs.«01_k».proof.Proof.Gen.Kernel10Ideal
public import proofs.«01_k».proof.Proof.Gen.Kernel10Ideal.Frame
public import proofs.«01_k».proof.Proof.Gen.Kernel10Ideal.Skeleton
public import proofs.«01_k».proof.Proof.Gen.Reference10Ideal
public import proofs.«01_k».proof.Proof.Gen.Reference10Ideal.Run
public import proofs.«01_k».proof.Proof.Gen.Kernel11
public import proofs.«01_k».proof.Proof.Gen.Kernel11Ideal
public import proofs.«01_k».proof.Proof.Gen.Kernel11Ideal.Frame
public import proofs.«01_k».proof.Proof.Gen.Kernel11Ideal.Skeleton
public import proofs.«01_k».proof.Proof.Gen.Reference11Ideal
public import proofs.«01_k».proof.Proof.Gen.Reference11Ideal.Run
public import proofs.«01_k».proof.Proof.GatesClaims
public import proofs.«01_k».proof.Proof.MainClaims
public import proofs.«01_k».proof.Proof.UpClaims
public import proofs.«01_k».proof.Proof.DownClaims
public import proofs.«01_k».proof.Proof.OutClaims
public import proofs.«01_k».proof.Proof.MergeClaims
public import proofs.«01_k».proof.Proof.NormCtxClaims
public import proofs.«01_k».proof.Proof.NormLatClaims
public import proofs.«01_k».proof.Proof.ModClaims
public import proofs.«01_k».proof.Proof.Norm1Claims
public import proofs.«01_k».proof.Proof.PrepClaims
public import Idealize.ShloMosaic.Adequacy
public import Idealize.ShloMosaic.Init

@[expose] public section

noncomputable section

namespace Cert.Proof

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.KernelIdeal.Gates.frame_kernel, Cert.KernelIdeal.Gates.frame_ideal, Cert.KernelIdeal.Gates.frame_reference,
    Cert.Kernel2Ideal.Main.frame_kernel, Cert.Kernel2Ideal.Main.frame_ideal, Cert.Kernel2Ideal.Main.frame_reference,
    Cert.Kernel3Ideal.Up.frame_kernel, Cert.Kernel3Ideal.Up.frame_ideal, Cert.Kernel3Ideal.Up.frame_reference,
    Cert.Kernel4Ideal.Down.frame_kernel, Cert.Kernel4Ideal.Down.frame_ideal, Cert.Kernel4Ideal.Down.frame_reference,
    Cert.Kernel5Ideal.Out.frame_kernel, Cert.Kernel5Ideal.Out.frame_ideal, Cert.Kernel5Ideal.Out.frame_reference,
    Cert.Kernel6Ideal.Merge.frame_kernel, Cert.Kernel6Ideal.Merge.frame_ideal, Cert.Kernel6Ideal.Merge.frame_reference,
    Cert.Kernel7Ideal.Norm.frame_kernel, Cert.Kernel7Ideal.Norm.frame_ideal, Cert.Kernel7Ideal.Norm.frame_reference,
    Cert.Kernel8Ideal.Norm.frame_kernel, Cert.Kernel8Ideal.Norm.frame_ideal, Cert.Kernel8Ideal.Norm.frame_reference,
    Cert.Kernel9Ideal.Mod.frame_kernel, Cert.Kernel9Ideal.Mod.frame_ideal, Cert.Kernel9Ideal.Mod.frame_reference,
    Cert.Kernel10Ideal.Norm.frame_kernel, Cert.Kernel10Ideal.Norm.frame_ideal, Cert.Kernel10Ideal.Norm.frame_reference,
    Cert.Kernel11Ideal.Prep.frame_kernel, Cert.Kernel11Ideal.Prep.frame_ideal, Cert.Kernel11Ideal.Prep.frame_reference,
    trivial, Cert.KernelIdeal.Gates.algebraic,
    trivial, Cert.Kernel2Ideal.Main.algebraic,
    trivial, Cert.Kernel3Ideal.Up.algebraic,
    trivial, Cert.Kernel4Ideal.Down.algebraic,
    trivial, Cert.Kernel5Ideal.Out.algebraic,
    trivial, Cert.Kernel6Ideal.Merge.algebraic,
    trivial, Cert.Kernel7Ideal.Norm.algebraic,
    trivial, Cert.Kernel8Ideal.Norm.algebraic,
    trivial, Cert.Kernel9Ideal.Mod.algebraic,
    trivial, Cert.Kernel10Ideal.Norm.algebraic,
    trivial, Cert.Kernel11Ideal.Prep.algebraic⟩

end Cert.Proof

end
